-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_RefDwoutIdeal (m : (ℓ : Loc Cert.RefDwoutIdeal.nD Cert.RefDwoutIdeal.τ Cert.RefDwoutIdeal.sig) → Buf (Elt Ideal) ℓ) : Prop :=
  True

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_RefDwinIdeal (m : (ℓ : Loc Cert.RefDwinIdeal.nD Cert.RefDwinIdeal.τ Cert.RefDwinIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactIdeal_finite_dact [hPre_finite_dact : Cert.Pre_finite_dact.Facts] (m : (ℓ : Loc Cert.DactIdeal.nD Cert.DactIdeal.τ Cert.DactIdeal.sig) → Buf (Elt Ideal) ℓ) : Prop :=
  ∀ c : Dev Cert.DactIdeal.nD,
    (Cert.Pre_finite_dact.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).1 = (fun _ => 1#1)
    ∧ (Cert.Pre_finite_dact.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).2.1 = (fun _ => 1#1)
    ∧ (Cert.Pre_finite_dact.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).2.2 = (fun _ => 1#1)

def Pre_RefDactIdeal (m : (ℓ : Loc Cert.RefDactIdeal.nD Cert.RefDactIdeal.τ Cert.RefDactIdeal.sig) → Buf (Elt Ideal) ℓ) : Prop :=
  True

def Pre_RefDactIdeal_finite_dact [hPre_finite_dact : Cert.Pre_finite_dact.Facts] (m : (ℓ : Loc Cert.RefDactIdeal.nD Cert.RefDactIdeal.τ Cert.RefDactIdeal.sig) → Buf (Elt Ideal) ℓ) : Prop :=
  ∀ c : Dev Cert.RefDactIdeal.nD,
    (Cert.Pre_finite_dact.fn (F := Ideal) (m ((c.tc : Thread Cert.RefDactIdeal.nD Cert.RefDactIdeal.τ).loc Cert.RefDactIdeal.main_arg0)) (m ((c.tc : Thread Cert.RefDactIdeal.nD Cert.RefDactIdeal.τ).loc Cert.RefDactIdeal.main_arg1)) (m ((c.tc : Thread Cert.RefDactIdeal.nD Cert.RefDactIdeal.τ).loc Cert.RefDactIdeal.main_arg2)) (m ((c.tc : Thread Cert.RefDactIdeal.nD Cert.RefDactIdeal.τ).loc Cert.RefDactIdeal.main_arg3))).1 = (fun _ => 1#1)
    ∧ (Cert.Pre_finite_dact.fn (F := Ideal) (m ((c.tc : Thread Cert.RefDactIdeal.nD Cert.RefDactIdeal.τ).loc Cert.RefDactIdeal.main_arg0)) (m ((c.tc : Thread Cert.RefDactIdeal.nD Cert.RefDactIdeal.τ).loc Cert.RefDactIdeal.main_arg1)) (m ((c.tc : Thread Cert.RefDactIdeal.nD Cert.RefDactIdeal.τ).loc Cert.RefDactIdeal.main_arg2)) (m ((c.tc : Thread Cert.RefDactIdeal.nD Cert.RefDactIdeal.τ).loc Cert.RefDactIdeal.main_arg3))).2.1 = (fun _ => 1#1)
    ∧ (Cert.Pre_finite_dact.fn (F := Ideal) (m ((c.tc : Thread Cert.RefDactIdeal.nD Cert.RefDactIdeal.τ).loc Cert.RefDactIdeal.main_arg0)) (m ((c.tc : Thread Cert.RefDactIdeal.nD Cert.RefDactIdeal.τ).loc Cert.RefDactIdeal.main_arg1)) (m ((c.tc : Thread Cert.RefDactIdeal.nD Cert.RefDactIdeal.τ).loc Cert.RefDactIdeal.main_arg2)) (m ((c.tc : Thread Cert.RefDactIdeal.nD Cert.RefDactIdeal.τ).loc Cert.RefDactIdeal.main_arg3))).2.2 = (fun _ => 1#1)

def Pre_Dxn (m : (ℓ : Loc Cert.Dxn.nD Cert.Dxn.τ Cert.Dxn.sig) → Buf (Elt Bits) ℓ) : Prop :=
  True

def Pre_DxnIdeal (m : (ℓ : Loc Cert.DxnIdeal.nD Cert.DxnIdeal.τ Cert.DxnIdeal.sig) → Buf (Elt Ideal) ℓ) : Prop :=
  True

def Pre_RefDxnIdeal (m : (ℓ : Loc Cert.RefDxnIdeal.nD Cert.RefDxnIdeal.τ Cert.RefDxnIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_RefUpIdeal (m : (ℓ : Loc Cert.RefUpIdeal.nD Cert.RefUpIdeal.τ Cert.RefUpIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_RefDownIdeal (m : (ℓ : Loc Cert.RefDownIdeal.nD Cert.RefDownIdeal.τ Cert.RefDownIdeal.sig) → Buf (Elt Ideal) ℓ) : Prop :=
  True

def Pre_HybIn (m : (ℓ : Loc Cert.HybIn.nD Cert.HybIn.τ Cert.HybIn.sig) → Buf (Elt Bits) ℓ) : Prop :=
  True

def Pre_HybInIdeal (m : (ℓ : Loc Cert.HybInIdeal.nD Cert.HybInIdeal.τ Cert.HybInIdeal.sig) → Buf (Elt Ideal) ℓ) : Prop :=
  True

def Pre_RefHybInIdeal (m : (ℓ : Loc Cert.RefHybInIdeal.nD Cert.RefHybInIdeal.τ Cert.RefHybInIdeal.sig) → Buf (Elt Ideal) ℓ) : Prop :=
  True

def Pre_HybDwin (m : (ℓ : Loc Cert.HybDwin.nD Cert.HybDwin.τ Cert.HybDwin.sig) → Buf (Elt Bits) ℓ) : Prop :=
  True

def Pre_HybDwinIdeal (m : (ℓ : Loc Cert.HybDwinIdeal.nD Cert.HybDwinIdeal.τ Cert.HybDwinIdeal.sig) → Buf (Elt Ideal) ℓ) : Prop :=
  True

def Pre_RefHybDwinIdeal (m : (ℓ : Loc Cert.RefHybDwinIdeal.nD Cert.RefHybDwinIdeal.τ Cert.RefHybDwinIdeal.sig) → Buf (Elt Ideal) ℓ) : Prop :=
  True

def Pre_HybDhn (m : (ℓ : Loc Cert.HybDhn.nD Cert.HybDhn.τ Cert.HybDhn.sig) → Buf (Elt Bits) ℓ) : Prop :=
  True

def Pre_HybDhnIdeal (m : (ℓ : Loc Cert.HybDhnIdeal.nD Cert.HybDhnIdeal.τ Cert.HybDhnIdeal.sig) → Buf (Elt Ideal) ℓ) : Prop :=
  True

def Pre_RefHybDhnIdeal (m : (ℓ : Loc Cert.RefHybDhnIdeal.nD Cert.RefHybDhnIdeal.τ Cert.RefHybDhnIdeal.sig) → Buf (Elt Ideal) ℓ) : Prop :=
  True

def Pre_GdnIn (m : (ℓ : Loc Cert.GdnIn.nD Cert.GdnIn.τ Cert.GdnIn.sig) → Buf (Elt Bits) ℓ) : Prop :=
  True

def Pre_GdnInIdeal (m : (ℓ : Loc Cert.GdnInIdeal.nD Cert.GdnInIdeal.τ Cert.GdnInIdeal.sig) → Buf (Elt Ideal) ℓ) : Prop :=
  True

def Pre_RefGdnInIdeal (m : (ℓ : Loc Cert.RefGdnInIdeal.nD Cert.RefGdnInIdeal.τ Cert.RefGdnInIdeal.sig) → Buf (Elt Ideal) ℓ) : Prop :=
  True

def Pre_GdnDwin (m : (ℓ : Loc Cert.GdnDwin.nD Cert.GdnDwin.τ Cert.GdnDwin.sig) → Buf (Elt Bits) ℓ) : Prop :=
  True

def Pre_GdnDwinIdeal (m : (ℓ : Loc Cert.GdnDwinIdeal.nD Cert.GdnDwinIdeal.τ Cert.GdnDwinIdeal.sig) → Buf (Elt Ideal) ℓ) : Prop :=
  True

def Pre_RefGdnDwinIdeal (m : (ℓ : Loc Cert.RefGdnDwinIdeal.nD Cert.RefGdnDwinIdeal.τ Cert.RefGdnDwinIdeal.sig) → Buf (Elt Ideal) ℓ) : Prop :=
  True

def Pre_GdnDhn (m : (ℓ : Loc Cert.GdnDhn.nD Cert.GdnDhn.τ Cert.GdnDhn.sig) → Buf (Elt Bits) ℓ) : Prop :=
  True

def Pre_GdnDhnIdeal (m : (ℓ : Loc Cert.GdnDhnIdeal.nD Cert.GdnDhnIdeal.τ Cert.GdnDhnIdeal.sig) → Buf (Elt Ideal) ℓ) : Prop :=
  True

def Pre_RefGdnDhnIdeal (m : (ℓ : Loc Cert.RefGdnDhnIdeal.nD Cert.RefGdnDhnIdeal.τ Cert.RefGdnDhnIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_RefMixOutIdeal (m : (ℓ : Loc Cert.RefMixOutIdeal.nD Cert.RefMixOutIdeal.τ Cert.RefMixOutIdeal.sig) → Buf (Elt Ideal) ℓ) : Prop :=
  True

def Pre_MixDy (m : (ℓ : Loc Cert.MixDy.nD Cert.MixDy.τ Cert.MixDy.sig) → Buf (Elt Bits) ℓ) : Prop :=
  True

def Pre_MixDyIdeal (m : (ℓ : Loc Cert.MixDyIdeal.nD Cert.MixDyIdeal.τ Cert.MixDyIdeal.sig) → Buf (Elt Ideal) ℓ) : Prop :=
  True

def Pre_RefMixDyIdeal (m : (ℓ : Loc Cert.RefMixDyIdeal.nD Cert.RefMixDyIdeal.τ Cert.RefMixDyIdeal.sig) → Buf (Elt Ideal) ℓ) : Prop :=
  True

def Pre_MixDwout (m : (ℓ : Loc Cert.MixDwout.nD Cert.MixDwout.τ Cert.MixDwout.sig) → Buf (Elt Bits) ℓ) : Prop :=
  True

def Pre_MixDwoutIdeal (m : (ℓ : Loc Cert.MixDwoutIdeal.nD Cert.MixDwoutIdeal.τ Cert.MixDwoutIdeal.sig) → Buf (Elt Ideal) ℓ) : Prop :=
  True

def Pre_RefMixDwoutIdeal (m : (ℓ : Loc Cert.RefMixDwoutIdeal.nD Cert.RefMixDwoutIdeal.τ Cert.RefMixDwoutIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_RefAdamInIdeal (m : (ℓ : Loc Cert.RefAdamInIdeal.nD Cert.RefAdamInIdeal.τ Cert.RefAdamInIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_RefAdamOutIdeal (m : (ℓ : Loc Cert.RefAdamOutIdeal.nD Cert.RefAdamOutIdeal.τ Cert.RefAdamOutIdeal.sig) → Buf (Elt Ideal) ℓ) : Prop :=
  True

def Pre_AdamPack (m : (ℓ : Loc Cert.AdamPack.nD Cert.AdamPack.τ Cert.AdamPack.sig) → Buf (Elt Bits) ℓ) : Prop :=
  True

def Pre_AdamPackIdeal (m : (ℓ : Loc Cert.AdamPackIdeal.nD Cert.AdamPackIdeal.τ Cert.AdamPackIdeal.sig) → Buf (Elt Ideal) ℓ) : Prop :=
  True

def Pre_RefAdamPackIdeal (m : (ℓ : Loc Cert.RefAdamPackIdeal.nD Cert.RefAdamPackIdeal.τ Cert.RefAdamPackIdeal.sig) → Buf (Elt Ideal) ℓ) : Prop :=
  True

def Pre_AdamFfnIn (m : (ℓ : Loc Cert.AdamFfnIn.nD Cert.AdamFfnIn.τ Cert.AdamFfnIn.sig) → Buf (Elt Bits) ℓ) : Prop :=
  True

def Pre_AdamFfnInIdeal (m : (ℓ : Loc Cert.AdamFfnInIdeal.nD Cert.AdamFfnInIdeal.τ Cert.AdamFfnInIdeal.sig) → Buf (Elt Ideal) ℓ) : Prop :=
  True

def Pre_RefAdamFfnInIdeal (m : (ℓ : Loc Cert.RefAdamFfnInIdeal.nD Cert.RefAdamFfnInIdeal.τ Cert.RefAdamFfnInIdeal.sig) → Buf (Elt Ideal) ℓ) : Prop :=
  True

def Pre_AdamFfnOut (m : (ℓ : Loc Cert.AdamFfnOut.nD Cert.AdamFfnOut.τ Cert.AdamFfnOut.sig) → Buf (Elt Bits) ℓ) : Prop :=
  True

def Pre_AdamFfnOutIdeal (m : (ℓ : Loc Cert.AdamFfnOutIdeal.nD Cert.AdamFfnOutIdeal.τ Cert.AdamFfnOutIdeal.sig) → Buf (Elt Ideal) ℓ) : Prop :=
  True

def Pre_RefAdamFfnOutIdeal (m : (ℓ : Loc Cert.RefAdamFfnOutIdeal.nD Cert.RefAdamFfnOutIdeal.τ Cert.RefAdamFfnOutIdeal.sig) → Buf (Elt Ideal) ℓ) : Prop :=
  True

def Pre_AdamHybIn (m : (ℓ : Loc Cert.AdamHybIn.nD Cert.AdamHybIn.τ Cert.AdamHybIn.sig) → Buf (Elt Bits) ℓ) : Prop :=
  True

def Pre_AdamHybInIdeal (m : (ℓ : Loc Cert.AdamHybInIdeal.nD Cert.AdamHybInIdeal.τ Cert.AdamHybInIdeal.sig) → Buf (Elt Ideal) ℓ) : Prop :=
  True

def Pre_RefAdamHybInIdeal (m : (ℓ : Loc Cert.RefAdamHybInIdeal.nD Cert.RefAdamHybInIdeal.τ Cert.RefAdamHybInIdeal.sig) → Buf (Elt Ideal) ℓ) : Prop :=
  True

def Pre_AdamHybOut (m : (ℓ : Loc Cert.AdamHybOut.nD Cert.AdamHybOut.τ Cert.AdamHybOut.sig) → Buf (Elt Bits) ℓ) : Prop :=
  True

def Pre_AdamHybOutIdeal (m : (ℓ : Loc Cert.AdamHybOutIdeal.nD Cert.AdamHybOutIdeal.τ Cert.AdamHybOutIdeal.sig) → Buf (Elt Ideal) ℓ) : Prop :=
  True

def Pre_RefAdamHybOutIdeal (m : (ℓ : Loc Cert.RefAdamHybOutIdeal.nD Cert.RefAdamHybOutIdeal.τ Cert.RefAdamHybOutIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1)
      ∧ r.2.mem ((c.tc : Thread Cert.Dwout.nD Cert.Dwout.τ).loc Cert.Dwout.main_arg2) = m ((c.tc : Thread Cert.Dwout.nD Cert.Dwout.τ).loc Cert.Dwout.main_arg2))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1)
      ∧ r.2.mem ((c.tc : Thread Cert.DwoutIdeal.nD Cert.DwoutIdeal.τ).loc Cert.DwoutIdeal.main_arg2) = m ((c.tc : Thread Cert.DwoutIdeal.nD Cert.DwoutIdeal.τ).loc Cert.DwoutIdeal.main_arg2))
      ∧ r.2.sem = fun _ => 0)

def quiescent_RefDwoutIdeal [hRefDwoutIdeal : Cert.RefDwoutIdeal.Facts] : Prop :=
  ∀ (m : (ℓ : Loc Cert.RefDwoutIdeal.nD Cert.RefDwoutIdeal.τ Cert.RefDwoutIdeal.sig) → Buf (Elt Ideal) ℓ) (g : Dev Cert.RefDwoutIdeal.nD → PrngReg), Pre_RefDwoutIdeal m →
    θ_run (Cert.RefDwoutIdeal.defs (F := Ideal)) (onTc (τ := Cert.RefDwoutIdeal.τ) (Cert.RefDwoutIdeal.main (F := Ideal))) ⟨m, fun _ => 0, g⟩ (fun r => (∀ c : Dev Cert.RefDwoutIdeal.nD,
      r.2.mem ((c.tc : Thread Cert.RefDwoutIdeal.nD Cert.RefDwoutIdeal.τ).loc Cert.RefDwoutIdeal.main_arg0) = m ((c.tc : Thread Cert.RefDwoutIdeal.nD Cert.RefDwoutIdeal.τ).loc Cert.RefDwoutIdeal.main_arg0)
      ∧ r.2.mem ((c.tc : Thread Cert.RefDwoutIdeal.nD Cert.RefDwoutIdeal.τ).loc Cert.RefDwoutIdeal.main_arg1) = m ((c.tc : Thread Cert.RefDwoutIdeal.nD Cert.RefDwoutIdeal.τ).loc Cert.RefDwoutIdeal.main_arg1)
      ∧ r.2.mem ((c.tc : Thread Cert.RefDwoutIdeal.nD Cert.RefDwoutIdeal.τ).loc Cert.RefDwoutIdeal.main_arg2) = m ((c.tc : Thread Cert.RefDwoutIdeal.nD Cert.RefDwoutIdeal.τ).loc Cert.RefDwoutIdeal.main_arg2))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ r.2.sem = fun _ => 0)

def quiescent_RefDwinIdeal [hRefDwinIdeal : Cert.RefDwinIdeal.Facts] : Prop :=
  ∀ (m : (ℓ : Loc Cert.RefDwinIdeal.nD Cert.RefDwinIdeal.τ Cert.RefDwinIdeal.sig) → Buf (Elt Ideal) ℓ) (g : Dev Cert.RefDwinIdeal.nD → PrngReg), Pre_RefDwinIdeal m →
    θ_run (Cert.RefDwinIdeal.defs (F := Ideal)) (onTc (τ := Cert.RefDwinIdeal.τ) (Cert.RefDwinIdeal.main (F := Ideal))) ⟨m, fun _ => 0, g⟩ (fun r => (∀ c : Dev Cert.RefDwinIdeal.nD,
      r.2.mem ((c.tc : Thread Cert.RefDwinIdeal.nD Cert.RefDwinIdeal.τ).loc Cert.RefDwinIdeal.main_arg0) = m ((c.tc : Thread Cert.RefDwinIdeal.nD Cert.RefDwinIdeal.τ).loc Cert.RefDwinIdeal.main_arg0)
      ∧ r.2.mem ((c.tc : Thread Cert.RefDwinIdeal.nD Cert.RefDwinIdeal.τ).loc Cert.RefDwinIdeal.main_arg1) = m ((c.tc : Thread Cert.RefDwinIdeal.nD Cert.RefDwinIdeal.τ).loc Cert.RefDwinIdeal.main_arg1))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2)
      ∧ r.2.mem ((c.tc : Thread Cert.Dact.nD Cert.Dact.τ).loc Cert.Dact.main_arg3) = m ((c.tc : Thread Cert.Dact.nD Cert.Dact.τ).loc Cert.Dact.main_arg3))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactIdeal_pre_finite_dact [hDactIdeal : Cert.DactIdeal.Facts] [hPre_finite_dact : Cert.Pre_finite_dact.Facts] : Prop :=
  ∀ (m : (ℓ : Loc Cert.DactIdeal.nD Cert.DactIdeal.τ Cert.DactIdeal.sig) → Buf (Elt Ideal) ℓ) (g : Dev Cert.DactIdeal.nD → PrngReg), Pre_DactIdeal_finite_dact m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_RefDactIdeal [hRefDactIdeal : Cert.RefDactIdeal.Facts] : Prop :=
  ∀ (m : (ℓ : Loc Cert.RefDactIdeal.nD Cert.RefDactIdeal.τ Cert.RefDactIdeal.sig) → Buf (Elt Ideal) ℓ) (g : Dev Cert.RefDactIdeal.nD → PrngReg), Pre_RefDactIdeal m →
    θ_run (Cert.RefDactIdeal.defs (F := Ideal)) (onTc (τ := Cert.RefDactIdeal.τ) (Cert.RefDactIdeal.main (F := Ideal))) ⟨m, fun _ => 0, g⟩ (fun r => (∀ c : Dev Cert.RefDactIdeal.nD,
      r.2.mem ((c.tc : Thread Cert.RefDactIdeal.nD Cert.RefDactIdeal.τ).loc Cert.RefDactIdeal.main_arg0) = m ((c.tc : Thread Cert.RefDactIdeal.nD Cert.RefDactIdeal.τ).loc Cert.RefDactIdeal.main_arg0)
      ∧ r.2.mem ((c.tc : Thread Cert.RefDactIdeal.nD Cert.RefDactIdeal.τ).loc Cert.RefDactIdeal.main_arg1) = m ((c.tc : Thread Cert.RefDactIdeal.nD Cert.RefDactIdeal.τ).loc Cert.RefDactIdeal.main_arg1)
      ∧ r.2.mem ((c.tc : Thread Cert.RefDactIdeal.nD Cert.RefDactIdeal.τ).loc Cert.RefDactIdeal.main_arg2) = m ((c.tc : Thread Cert.RefDactIdeal.nD Cert.RefDactIdeal.τ).loc Cert.RefDactIdeal.main_arg2)
      ∧ r.2.mem ((c.tc : Thread Cert.RefDactIdeal.nD Cert.RefDactIdeal.τ).loc Cert.RefDactIdeal.main_arg3) = m ((c.tc : Thread Cert.RefDactIdeal.nD Cert.RefDactIdeal.τ).loc Cert.RefDactIdeal.main_arg3))
      ∧ r.2.sem = fun _ => 0)

def quiescent_RefDactIdeal_pre_finite_dact [hRefDactIdeal : Cert.RefDactIdeal.Facts] [hPre_finite_dact : Cert.Pre_finite_dact.Facts] : Prop :=
  ∀ (m : (ℓ : Loc Cert.RefDactIdeal.nD Cert.RefDactIdeal.τ Cert.RefDactIdeal.sig) → Buf (Elt Ideal) ℓ) (g : Dev Cert.RefDactIdeal.nD → PrngReg), Pre_RefDactIdeal_finite_dact m →
    θ_run (Cert.RefDactIdeal.defs (F := Ideal)) (onTc (τ := Cert.RefDactIdeal.τ) (Cert.RefDactIdeal.main (F := Ideal))) ⟨m, fun _ => 0, g⟩ (fun r => (∀ c : Dev Cert.RefDactIdeal.nD,
      r.2.mem ((c.tc : Thread Cert.RefDactIdeal.nD Cert.RefDactIdeal.τ).loc Cert.RefDactIdeal.main_arg0) = m ((c.tc : Thread Cert.RefDactIdeal.nD Cert.RefDactIdeal.τ).loc Cert.RefDactIdeal.main_arg0)
      ∧ r.2.mem ((c.tc : Thread Cert.RefDactIdeal.nD Cert.RefDactIdeal.τ).loc Cert.RefDactIdeal.main_arg1) = m ((c.tc : Thread Cert.RefDactIdeal.nD Cert.RefDactIdeal.τ).loc Cert.RefDactIdeal.main_arg1)
      ∧ r.2.mem ((c.tc : Thread Cert.RefDactIdeal.nD Cert.RefDactIdeal.τ).loc Cert.RefDactIdeal.main_arg2) = m ((c.tc : Thread Cert.RefDactIdeal.nD Cert.RefDactIdeal.τ).loc Cert.RefDactIdeal.main_arg2)
      ∧ r.2.mem ((c.tc : Thread Cert.RefDactIdeal.nD Cert.RefDactIdeal.τ).loc Cert.RefDactIdeal.main_arg3) = m ((c.tc : Thread Cert.RefDactIdeal.nD Cert.RefDactIdeal.τ).loc Cert.RefDactIdeal.main_arg3))
      ∧ r.2.sem = fun _ => 0)

def quiescent_Dxn [hDxn : Cert.Dxn.Facts] : Prop :=
  ∀ (m : (ℓ : Loc Cert.Dxn.nD Cert.Dxn.τ Cert.Dxn.sig) → Buf (Elt Bits) ℓ) (g : Dev Cert.Dxn.nD → PrngReg), Pre_Dxn m →
    θ_run (Cert.Dxn.defs (F := Bits)) (onTc (τ := Cert.Dxn.τ) (Cert.Dxn.main (F := Bits))) ⟨m, fun _ => 0, g⟩ (fun r => (∀ c : Dev Cert.Dxn.nD,
      r.2.mem ((c.tc : Thread Cert.Dxn.nD Cert.Dxn.τ).loc Cert.Dxn.main_arg0) = m ((c.tc : Thread Cert.Dxn.nD Cert.Dxn.τ).loc Cert.Dxn.main_arg0)
      ∧ r.2.mem ((c.tc : Thread Cert.Dxn.nD Cert.Dxn.τ).loc Cert.Dxn.main_arg1) = m ((c.tc : Thread Cert.Dxn.nD Cert.Dxn.τ).loc Cert.Dxn.main_arg1)
      ∧ r.2.mem ((c.tc : Thread Cert.Dxn.nD Cert.Dxn.τ).loc Cert.Dxn.main_arg2) = m ((c.tc : Thread Cert.Dxn.nD Cert.Dxn.τ).loc Cert.Dxn.main_arg2)
      ∧ r.2.mem ((c.tc : Thread Cert.Dxn.nD Cert.Dxn.τ).loc Cert.Dxn.main_arg3) = m ((c.tc : Thread Cert.Dxn.nD Cert.Dxn.τ).loc Cert.Dxn.main_arg3)
      ∧ r.2.mem ((c.tc : Thread Cert.Dxn.nD Cert.Dxn.τ).loc Cert.Dxn.main_arg4) = m ((c.tc : Thread Cert.Dxn.nD Cert.Dxn.τ).loc Cert.Dxn.main_arg4))
      ∧ r.2.sem = fun _ => 0)

def quiescent_DxnIdeal [hDxnIdeal : Cert.DxnIdeal.Facts] : Prop :=
  ∀ (m : (ℓ : Loc Cert.DxnIdeal.nD Cert.DxnIdeal.τ Cert.DxnIdeal.sig) → Buf (Elt Ideal) ℓ) (g : Dev Cert.DxnIdeal.nD → PrngReg), Pre_DxnIdeal m →
    θ_run (Cert.DxnIdeal.defs (F := Ideal)) (onTc (τ := Cert.DxnIdeal.τ) (Cert.DxnIdeal.main (F := Ideal))) ⟨m, fun _ => 0, g⟩ (fun r => (∀ c : Dev Cert.DxnIdeal.nD,
      r.2.mem ((c.tc : Thread Cert.DxnIdeal.nD Cert.DxnIdeal.τ).loc Cert.DxnIdeal.main_arg0) = m ((c.tc : Thread Cert.DxnIdeal.nD Cert.DxnIdeal.τ).loc Cert.DxnIdeal.main_arg0)
      ∧ r.2.mem ((c.tc : Thread Cert.DxnIdeal.nD Cert.DxnIdeal.τ).loc Cert.DxnIdeal.main_arg1) = m ((c.tc : Thread Cert.DxnIdeal.nD Cert.DxnIdeal.τ).loc Cert.DxnIdeal.main_arg1)
      ∧ r.2.mem ((c.tc : Thread Cert.DxnIdeal.nD Cert.DxnIdeal.τ).loc Cert.DxnIdeal.main_arg2) = m ((c.tc : Thread Cert.DxnIdeal.nD Cert.DxnIdeal.τ).loc Cert.DxnIdeal.main_arg2)
      ∧ r.2.mem ((c.tc : Thread Cert.DxnIdeal.nD Cert.DxnIdeal.τ).loc Cert.DxnIdeal.main_arg3) = m ((c.tc : Thread Cert.DxnIdeal.nD Cert.DxnIdeal.τ).loc Cert.DxnIdeal.main_arg3)
      ∧ r.2.mem ((c.tc : Thread Cert.DxnIdeal.nD Cert.DxnIdeal.τ).loc Cert.DxnIdeal.main_arg4) = m ((c.tc : Thread Cert.DxnIdeal.nD Cert.DxnIdeal.τ).loc Cert.DxnIdeal.main_arg4))
      ∧ r.2.sem = fun _ => 0)

def quiescent_RefDxnIdeal [hRefDxnIdeal : Cert.RefDxnIdeal.Facts] : Prop :=
  ∀ (m : (ℓ : Loc Cert.RefDxnIdeal.nD Cert.RefDxnIdeal.τ Cert.RefDxnIdeal.sig) → Buf (Elt Ideal) ℓ) (g : Dev Cert.RefDxnIdeal.nD → PrngReg), Pre_RefDxnIdeal m →
    θ_run (Cert.RefDxnIdeal.defs (F := Ideal)) (onTc (τ := Cert.RefDxnIdeal.τ) (Cert.RefDxnIdeal.main (F := Ideal))) ⟨m, fun _ => 0, g⟩ (fun r => (∀ c : Dev Cert.RefDxnIdeal.nD,
      r.2.mem ((c.tc : Thread Cert.RefDxnIdeal.nD Cert.RefDxnIdeal.τ).loc Cert.RefDxnIdeal.main_arg0) = m ((c.tc : Thread Cert.RefDxnIdeal.nD Cert.RefDxnIdeal.τ).loc Cert.RefDxnIdeal.main_arg0)
      ∧ r.2.mem ((c.tc : Thread Cert.RefDxnIdeal.nD Cert.RefDxnIdeal.τ).loc Cert.RefDxnIdeal.main_arg1) = m ((c.tc : Thread Cert.RefDxnIdeal.nD Cert.RefDxnIdeal.τ).loc Cert.RefDxnIdeal.main_arg1)
      ∧ r.2.mem ((c.tc : Thread Cert.RefDxnIdeal.nD Cert.RefDxnIdeal.τ).loc Cert.RefDxnIdeal.main_arg2) = m ((c.tc : Thread Cert.RefDxnIdeal.nD Cert.RefDxnIdeal.τ).loc Cert.RefDxnIdeal.main_arg2)
      ∧ r.2.mem ((c.tc : Thread Cert.RefDxnIdeal.nD Cert.RefDxnIdeal.τ).loc Cert.RefDxnIdeal.main_arg3) = m ((c.tc : Thread Cert.RefDxnIdeal.nD Cert.RefDxnIdeal.τ).loc Cert.RefDxnIdeal.main_arg3)
      ∧ r.2.mem ((c.tc : Thread Cert.RefDxnIdeal.nD Cert.RefDxnIdeal.τ).loc Cert.RefDxnIdeal.main_arg4) = m ((c.tc : Thread Cert.RefDxnIdeal.nD Cert.RefDxnIdeal.τ).loc Cert.RefDxnIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_RefUpIdeal [hRefUpIdeal : Cert.RefUpIdeal.Facts] : Prop :=
  ∀ (m : (ℓ : Loc Cert.RefUpIdeal.nD Cert.RefUpIdeal.τ Cert.RefUpIdeal.sig) → Buf (Elt Ideal) ℓ) (g : Dev Cert.RefUpIdeal.nD → PrngReg), Pre_RefUpIdeal m →
    θ_run (Cert.RefUpIdeal.defs (F := Ideal)) (onTc (τ := Cert.RefUpIdeal.τ) (Cert.RefUpIdeal.main (F := Ideal))) ⟨m, fun _ => 0, g⟩ (fun r => (∀ c : Dev Cert.RefUpIdeal.nD,
      r.2.mem ((c.tc : Thread Cert.RefUpIdeal.nD Cert.RefUpIdeal.τ).loc Cert.RefUpIdeal.main_arg0) = m ((c.tc : Thread Cert.RefUpIdeal.nD Cert.RefUpIdeal.τ).loc Cert.RefUpIdeal.main_arg0)
      ∧ r.2.mem ((c.tc : Thread Cert.RefUpIdeal.nD Cert.RefUpIdeal.τ).loc Cert.RefUpIdeal.main_arg1) = m ((c.tc : Thread Cert.RefUpIdeal.nD Cert.RefUpIdeal.τ).loc Cert.RefUpIdeal.main_arg1)
      ∧ r.2.mem ((c.tc : Thread Cert.RefUpIdeal.nD Cert.RefUpIdeal.τ).loc Cert.RefUpIdeal.main_arg2) = m ((c.tc : Thread Cert.RefUpIdeal.nD Cert.RefUpIdeal.τ).loc Cert.RefUpIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1)
      ∧ r.2.mem ((c.tc : Thread Cert.RefDownIdeal.nD Cert.RefDownIdeal.τ).loc Cert.RefDownIdeal.main_arg2) = m ((c.tc : Thread Cert.RefDownIdeal.nD Cert.RefDownIdeal.τ).loc Cert.RefDownIdeal.main_arg2))
      ∧ r.2.sem = fun _ => 0)

def quiescent_HybIn [hHybIn : Cert.HybIn.Facts] : Prop :=
  ∀ (m : (ℓ : Loc Cert.HybIn.nD Cert.HybIn.τ Cert.HybIn.sig) → Buf (Elt Bits) ℓ) (g : Dev Cert.HybIn.nD → PrngReg), Pre_HybIn m →
    θ_run (Cert.HybIn.defs (F := Bits)) (onTc (τ := Cert.HybIn.τ) (Cert.HybIn.main (F := Bits))) ⟨m, fun _ => 0, g⟩ (fun r => (∀ c : Dev Cert.HybIn.nD,
      r.2.mem ((c.tc : Thread Cert.HybIn.nD Cert.HybIn.τ).loc Cert.HybIn.main_arg0) = m ((c.tc : Thread Cert.HybIn.nD Cert.HybIn.τ).loc Cert.HybIn.main_arg0)
      ∧ r.2.mem ((c.tc : Thread Cert.HybIn.nD Cert.HybIn.τ).loc Cert.HybIn.main_arg1) = m ((c.tc : Thread Cert.HybIn.nD Cert.HybIn.τ).loc Cert.HybIn.main_arg1))
      ∧ r.2.sem = fun _ => 0)

def quiescent_HybInIdeal [hHybInIdeal : Cert.HybInIdeal.Facts] : Prop :=
  ∀ (m : (ℓ : Loc Cert.HybInIdeal.nD Cert.HybInIdeal.τ Cert.HybInIdeal.sig) → Buf (Elt Ideal) ℓ) (g : Dev Cert.HybInIdeal.nD → PrngReg), Pre_HybInIdeal m →
    θ_run (Cert.HybInIdeal.defs (F := Ideal)) (onTc (τ := Cert.HybInIdeal.τ) (Cert.HybInIdeal.main (F := Ideal))) ⟨m, fun _ => 0, g⟩ (fun r => (∀ c : Dev Cert.HybInIdeal.nD,
      r.2.mem ((c.tc : Thread Cert.HybInIdeal.nD Cert.HybInIdeal.τ).loc Cert.HybInIdeal.main_arg0) = m ((c.tc : Thread Cert.HybInIdeal.nD Cert.HybInIdeal.τ).loc Cert.HybInIdeal.main_arg0)
      ∧ r.2.mem ((c.tc : Thread Cert.HybInIdeal.nD Cert.HybInIdeal.τ).loc Cert.HybInIdeal.main_arg1) = m ((c.tc : Thread Cert.HybInIdeal.nD Cert.HybInIdeal.τ).loc Cert.HybInIdeal.main_arg1))
      ∧ r.2.sem = fun _ => 0)

def quiescent_RefHybInIdeal [hRefHybInIdeal : Cert.RefHybInIdeal.Facts] : Prop :=
  ∀ (m : (ℓ : Loc Cert.RefHybInIdeal.nD Cert.RefHybInIdeal.τ Cert.RefHybInIdeal.sig) → Buf (Elt Ideal) ℓ) (g : Dev Cert.RefHybInIdeal.nD → PrngReg), Pre_RefHybInIdeal m →
    θ_run (Cert.RefHybInIdeal.defs (F := Ideal)) (onTc (τ := Cert.RefHybInIdeal.τ) (Cert.RefHybInIdeal.main (F := Ideal))) ⟨m, fun _ => 0, g⟩ (fun r => (∀ c : Dev Cert.RefHybInIdeal.nD,
      r.2.mem ((c.tc : Thread Cert.RefHybInIdeal.nD Cert.RefHybInIdeal.τ).loc Cert.RefHybInIdeal.main_arg0) = m ((c.tc : Thread Cert.RefHybInIdeal.nD Cert.RefHybInIdeal.τ).loc Cert.RefHybInIdeal.main_arg0)
      ∧ r.2.mem ((c.tc : Thread Cert.RefHybInIdeal.nD Cert.RefHybInIdeal.τ).loc Cert.RefHybInIdeal.main_arg1) = m ((c.tc : Thread Cert.RefHybInIdeal.nD Cert.RefHybInIdeal.τ).loc Cert.RefHybInIdeal.main_arg1))
      ∧ r.2.sem = fun _ => 0)

def quiescent_HybDwin [hHybDwin : Cert.HybDwin.Facts] : Prop :=
  ∀ (m : (ℓ : Loc Cert.HybDwin.nD Cert.HybDwin.τ Cert.HybDwin.sig) → Buf (Elt Bits) ℓ) (g : Dev Cert.HybDwin.nD → PrngReg), Pre_HybDwin m →
    θ_run (Cert.HybDwin.defs (F := Bits)) (onTc (τ := Cert.HybDwin.τ) (Cert.HybDwin.main (F := Bits))) ⟨m, fun _ => 0, g⟩ (fun r => (∀ c : Dev Cert.HybDwin.nD,
      r.2.mem ((c.tc : Thread Cert.HybDwin.nD Cert.HybDwin.τ).loc Cert.HybDwin.main_arg0) = m ((c.tc : Thread Cert.HybDwin.nD Cert.HybDwin.τ).loc Cert.HybDwin.main_arg0)
      ∧ r.2.mem ((c.tc : Thread Cert.HybDwin.nD Cert.HybDwin.τ).loc Cert.HybDwin.main_arg1) = m ((c.tc : Thread Cert.HybDwin.nD Cert.HybDwin.τ).loc Cert.HybDwin.main_arg1))
      ∧ r.2.sem = fun _ => 0)

def quiescent_HybDwinIdeal [hHybDwinIdeal : Cert.HybDwinIdeal.Facts] : Prop :=
  ∀ (m : (ℓ : Loc Cert.HybDwinIdeal.nD Cert.HybDwinIdeal.τ Cert.HybDwinIdeal.sig) → Buf (Elt Ideal) ℓ) (g : Dev Cert.HybDwinIdeal.nD → PrngReg), Pre_HybDwinIdeal m →
    θ_run (Cert.HybDwinIdeal.defs (F := Ideal)) (onTc (τ := Cert.HybDwinIdeal.τ) (Cert.HybDwinIdeal.main (F := Ideal))) ⟨m, fun _ => 0, g⟩ (fun r => (∀ c : Dev Cert.HybDwinIdeal.nD,
      r.2.mem ((c.tc : Thread Cert.HybDwinIdeal.nD Cert.HybDwinIdeal.τ).loc Cert.HybDwinIdeal.main_arg0) = m ((c.tc : Thread Cert.HybDwinIdeal.nD Cert.HybDwinIdeal.τ).loc Cert.HybDwinIdeal.main_arg0)
      ∧ r.2.mem ((c.tc : Thread Cert.HybDwinIdeal.nD Cert.HybDwinIdeal.τ).loc Cert.HybDwinIdeal.main_arg1) = m ((c.tc : Thread Cert.HybDwinIdeal.nD Cert.HybDwinIdeal.τ).loc Cert.HybDwinIdeal.main_arg1))
      ∧ r.2.sem = fun _ => 0)

def quiescent_RefHybDwinIdeal [hRefHybDwinIdeal : Cert.RefHybDwinIdeal.Facts] : Prop :=
  ∀ (m : (ℓ : Loc Cert.RefHybDwinIdeal.nD Cert.RefHybDwinIdeal.τ Cert.RefHybDwinIdeal.sig) → Buf (Elt Ideal) ℓ) (g : Dev Cert.RefHybDwinIdeal.nD → PrngReg), Pre_RefHybDwinIdeal m →
    θ_run (Cert.RefHybDwinIdeal.defs (F := Ideal)) (onTc (τ := Cert.RefHybDwinIdeal.τ) (Cert.RefHybDwinIdeal.main (F := Ideal))) ⟨m, fun _ => 0, g⟩ (fun r => (∀ c : Dev Cert.RefHybDwinIdeal.nD,
      r.2.mem ((c.tc : Thread Cert.RefHybDwinIdeal.nD Cert.RefHybDwinIdeal.τ).loc Cert.RefHybDwinIdeal.main_arg0) = m ((c.tc : Thread Cert.RefHybDwinIdeal.nD Cert.RefHybDwinIdeal.τ).loc Cert.RefHybDwinIdeal.main_arg0)
      ∧ r.2.mem ((c.tc : Thread Cert.RefHybDwinIdeal.nD Cert.RefHybDwinIdeal.τ).loc Cert.RefHybDwinIdeal.main_arg1) = m ((c.tc : Thread Cert.RefHybDwinIdeal.nD Cert.RefHybDwinIdeal.τ).loc Cert.RefHybDwinIdeal.main_arg1))
      ∧ r.2.sem = fun _ => 0)

def quiescent_HybDhn [hHybDhn : Cert.HybDhn.Facts] : Prop :=
  ∀ (m : (ℓ : Loc Cert.HybDhn.nD Cert.HybDhn.τ Cert.HybDhn.sig) → Buf (Elt Bits) ℓ) (g : Dev Cert.HybDhn.nD → PrngReg), Pre_HybDhn m →
    θ_run (Cert.HybDhn.defs (F := Bits)) (onTc (τ := Cert.HybDhn.τ) (Cert.HybDhn.main (F := Bits))) ⟨m, fun _ => 0, g⟩ (fun r => (∀ c : Dev Cert.HybDhn.nD,
      r.2.mem ((c.tc : Thread Cert.HybDhn.nD Cert.HybDhn.τ).loc Cert.HybDhn.main_arg0) = m ((c.tc : Thread Cert.HybDhn.nD Cert.HybDhn.τ).loc Cert.HybDhn.main_arg0)
      ∧ r.2.mem ((c.tc : Thread Cert.HybDhn.nD Cert.HybDhn.τ).loc Cert.HybDhn.main_arg1) = m ((c.tc : Thread Cert.HybDhn.nD Cert.HybDhn.τ).loc Cert.HybDhn.main_arg1)
      ∧ r.2.mem ((c.tc : Thread Cert.HybDhn.nD Cert.HybDhn.τ).loc Cert.HybDhn.main_arg2) = m ((c.tc : Thread Cert.HybDhn.nD Cert.HybDhn.τ).loc Cert.HybDhn.main_arg2)
      ∧ r.2.mem ((c.tc : Thread Cert.HybDhn.nD Cert.HybDhn.τ).loc Cert.HybDhn.main_arg3) = m ((c.tc : Thread Cert.HybDhn.nD Cert.HybDhn.τ).loc Cert.HybDhn.main_arg3)
      ∧ r.2.mem ((c.tc : Thread Cert.HybDhn.nD Cert.HybDhn.τ).loc Cert.HybDhn.main_arg4) = m ((c.tc : Thread Cert.HybDhn.nD Cert.HybDhn.τ).loc Cert.HybDhn.main_arg4))
      ∧ r.2.sem = fun _ => 0)

def quiescent_HybDhnIdeal [hHybDhnIdeal : Cert.HybDhnIdeal.Facts] : Prop :=
  ∀ (m : (ℓ : Loc Cert.HybDhnIdeal.nD Cert.HybDhnIdeal.τ Cert.HybDhnIdeal.sig) → Buf (Elt Ideal) ℓ) (g : Dev Cert.HybDhnIdeal.nD → PrngReg), Pre_HybDhnIdeal m →
    θ_run (Cert.HybDhnIdeal.defs (F := Ideal)) (onTc (τ := Cert.HybDhnIdeal.τ) (Cert.HybDhnIdeal.main (F := Ideal))) ⟨m, fun _ => 0, g⟩ (fun r => (∀ c : Dev Cert.HybDhnIdeal.nD,
      r.2.mem ((c.tc : Thread Cert.HybDhnIdeal.nD Cert.HybDhnIdeal.τ).loc Cert.HybDhnIdeal.main_arg0) = m ((c.tc : Thread Cert.HybDhnIdeal.nD Cert.HybDhnIdeal.τ).loc Cert.HybDhnIdeal.main_arg0)
      ∧ r.2.mem ((c.tc : Thread Cert.HybDhnIdeal.nD Cert.HybDhnIdeal.τ).loc Cert.HybDhnIdeal.main_arg1) = m ((c.tc : Thread Cert.HybDhnIdeal.nD Cert.HybDhnIdeal.τ).loc Cert.HybDhnIdeal.main_arg1)
      ∧ r.2.mem ((c.tc : Thread Cert.HybDhnIdeal.nD Cert.HybDhnIdeal.τ).loc Cert.HybDhnIdeal.main_arg2) = m ((c.tc : Thread Cert.HybDhnIdeal.nD Cert.HybDhnIdeal.τ).loc Cert.HybDhnIdeal.main_arg2)
      ∧ r.2.mem ((c.tc : Thread Cert.HybDhnIdeal.nD Cert.HybDhnIdeal.τ).loc Cert.HybDhnIdeal.main_arg3) = m ((c.tc : Thread Cert.HybDhnIdeal.nD Cert.HybDhnIdeal.τ).loc Cert.HybDhnIdeal.main_arg3)
      ∧ r.2.mem ((c.tc : Thread Cert.HybDhnIdeal.nD Cert.HybDhnIdeal.τ).loc Cert.HybDhnIdeal.main_arg4) = m ((c.tc : Thread Cert.HybDhnIdeal.nD Cert.HybDhnIdeal.τ).loc Cert.HybDhnIdeal.main_arg4))
      ∧ r.2.sem = fun _ => 0)

def quiescent_RefHybDhnIdeal [hRefHybDhnIdeal : Cert.RefHybDhnIdeal.Facts] : Prop :=
  ∀ (m : (ℓ : Loc Cert.RefHybDhnIdeal.nD Cert.RefHybDhnIdeal.τ Cert.RefHybDhnIdeal.sig) → Buf (Elt Ideal) ℓ) (g : Dev Cert.RefHybDhnIdeal.nD → PrngReg), Pre_RefHybDhnIdeal m →
    θ_run (Cert.RefHybDhnIdeal.defs (F := Ideal)) (onTc (τ := Cert.RefHybDhnIdeal.τ) (Cert.RefHybDhnIdeal.main (F := Ideal))) ⟨m, fun _ => 0, g⟩ (fun r => (∀ c : Dev Cert.RefHybDhnIdeal.nD,
      r.2.mem ((c.tc : Thread Cert.RefHybDhnIdeal.nD Cert.RefHybDhnIdeal.τ).loc Cert.RefHybDhnIdeal.main_arg0) = m ((c.tc : Thread Cert.RefHybDhnIdeal.nD Cert.RefHybDhnIdeal.τ).loc Cert.RefHybDhnIdeal.main_arg0)
      ∧ r.2.mem ((c.tc : Thread Cert.RefHybDhnIdeal.nD Cert.RefHybDhnIdeal.τ).loc Cert.RefHybDhnIdeal.main_arg1) = m ((c.tc : Thread Cert.RefHybDhnIdeal.nD Cert.RefHybDhnIdeal.τ).loc Cert.RefHybDhnIdeal.main_arg1)
      ∧ r.2.mem ((c.tc : Thread Cert.RefHybDhnIdeal.nD Cert.RefHybDhnIdeal.τ).loc Cert.RefHybDhnIdeal.main_arg2) = m ((c.tc : Thread Cert.RefHybDhnIdeal.nD Cert.RefHybDhnIdeal.τ).loc Cert.RefHybDhnIdeal.main_arg2)
      ∧ r.2.mem ((c.tc : Thread Cert.RefHybDhnIdeal.nD Cert.RefHybDhnIdeal.τ).loc Cert.RefHybDhnIdeal.main_arg3) = m ((c.tc : Thread Cert.RefHybDhnIdeal.nD Cert.RefHybDhnIdeal.τ).loc Cert.RefHybDhnIdeal.main_arg3)
      ∧ r.2.mem ((c.tc : Thread Cert.RefHybDhnIdeal.nD Cert.RefHybDhnIdeal.τ).loc Cert.RefHybDhnIdeal.main_arg4) = m ((c.tc : Thread Cert.RefHybDhnIdeal.nD Cert.RefHybDhnIdeal.τ).loc Cert.RefHybDhnIdeal.main_arg4))
      ∧ r.2.sem = fun _ => 0)

def quiescent_GdnIn [hGdnIn : Cert.GdnIn.Facts] : Prop :=
  ∀ (m : (ℓ : Loc Cert.GdnIn.nD Cert.GdnIn.τ Cert.GdnIn.sig) → Buf (Elt Bits) ℓ) (g : Dev Cert.GdnIn.nD → PrngReg), Pre_GdnIn m →
    θ_run (Cert.GdnIn.defs (F := Bits)) (onTc (τ := Cert.GdnIn.τ) (Cert.GdnIn.main (F := Bits))) ⟨m, fun _ => 0, g⟩ (fun r => (∀ c : Dev Cert.GdnIn.nD,
      r.2.mem ((c.tc : Thread Cert.GdnIn.nD Cert.GdnIn.τ).loc Cert.GdnIn.main_arg0) = m ((c.tc : Thread Cert.GdnIn.nD Cert.GdnIn.τ).loc Cert.GdnIn.main_arg0)
      ∧ r.2.mem ((c.tc : Thread Cert.GdnIn.nD Cert.GdnIn.τ).loc Cert.GdnIn.main_arg1) = m ((c.tc : Thread Cert.GdnIn.nD Cert.GdnIn.τ).loc Cert.GdnIn.main_arg1))
      ∧ r.2.sem = fun _ => 0)

def quiescent_GdnInIdeal [hGdnInIdeal : Cert.GdnInIdeal.Facts] : Prop :=
  ∀ (m : (ℓ : Loc Cert.GdnInIdeal.nD Cert.GdnInIdeal.τ Cert.GdnInIdeal.sig) → Buf (Elt Ideal) ℓ) (g : Dev Cert.GdnInIdeal.nD → PrngReg), Pre_GdnInIdeal m →
    θ_run (Cert.GdnInIdeal.defs (F := Ideal)) (onTc (τ := Cert.GdnInIdeal.τ) (Cert.GdnInIdeal.main (F := Ideal))) ⟨m, fun _ => 0, g⟩ (fun r => (∀ c : Dev Cert.GdnInIdeal.nD,
      r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
      ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1))
      ∧ r.2.sem = fun _ => 0)

def quiescent_RefGdnInIdeal [hRefGdnInIdeal : Cert.RefGdnInIdeal.Facts] : Prop :=
  ∀ (m : (ℓ : Loc Cert.RefGdnInIdeal.nD Cert.RefGdnInIdeal.τ Cert.RefGdnInIdeal.sig) → Buf (Elt Ideal) ℓ) (g : Dev Cert.RefGdnInIdeal.nD → PrngReg), Pre_RefGdnInIdeal m →
    θ_run (Cert.RefGdnInIdeal.defs (F := Ideal)) (onTc (τ := Cert.RefGdnInIdeal.τ) (Cert.RefGdnInIdeal.main (F := Ideal))) ⟨m, fun _ => 0, g⟩ (fun r => (∀ c : Dev Cert.RefGdnInIdeal.nD,
      r.2.mem ((c.tc : Thread Cert.RefGdnInIdeal.nD Cert.RefGdnInIdeal.τ).loc Cert.RefGdnInIdeal.main_arg0) = m ((c.tc : Thread Cert.RefGdnInIdeal.nD Cert.RefGdnInIdeal.τ).loc Cert.RefGdnInIdeal.main_arg0)
      ∧ r.2.mem ((c.tc : Thread Cert.RefGdnInIdeal.nD Cert.RefGdnInIdeal.τ).loc Cert.RefGdnInIdeal.main_arg1) = m ((c.tc : Thread Cert.RefGdnInIdeal.nD Cert.RefGdnInIdeal.τ).loc Cert.RefGdnInIdeal.main_arg1))
      ∧ r.2.sem = fun _ => 0)

def quiescent_GdnDwin [hGdnDwin : Cert.GdnDwin.Facts] : Prop :=
  ∀ (m : (ℓ : Loc Cert.GdnDwin.nD Cert.GdnDwin.τ Cert.GdnDwin.sig) → Buf (Elt Bits) ℓ) (g : Dev Cert.GdnDwin.nD → PrngReg), Pre_GdnDwin m →
    θ_run (Cert.GdnDwin.defs (F := Bits)) (onTc (τ := Cert.GdnDwin.τ) (Cert.GdnDwin.main (F := Bits))) ⟨m, fun _ => 0, g⟩ (fun r => (∀ c : Dev Cert.GdnDwin.nD,
      r.2.mem ((c.tc : Thread Cert.GdnDwin.nD Cert.GdnDwin.τ).loc Cert.GdnDwin.main_arg0) = m ((c.tc : Thread Cert.GdnDwin.nD Cert.GdnDwin.τ).loc Cert.GdnDwin.main_arg0)
      ∧ r.2.mem ((c.tc : Thread Cert.GdnDwin.nD Cert.GdnDwin.τ).loc Cert.GdnDwin.main_arg1) = m ((c.tc : Thread Cert.GdnDwin.nD Cert.GdnDwin.τ).loc Cert.GdnDwin.main_arg1))
      ∧ r.2.sem = fun _ => 0)

def quiescent_GdnDwinIdeal [hGdnDwinIdeal : Cert.GdnDwinIdeal.Facts] : Prop :=
  ∀ (m : (ℓ : Loc Cert.GdnDwinIdeal.nD Cert.GdnDwinIdeal.τ Cert.GdnDwinIdeal.sig) → Buf (Elt Ideal) ℓ) (g : Dev Cert.GdnDwinIdeal.nD → PrngReg), Pre_GdnDwinIdeal m →
    θ_run (Cert.GdnDwinIdeal.defs (F := Ideal)) (onTc (τ := Cert.GdnDwinIdeal.τ) (Cert.GdnDwinIdeal.main (F := Ideal))) ⟨m, fun _ => 0, g⟩ (fun r => (∀ c : Dev Cert.GdnDwinIdeal.nD,
      r.2.mem ((c.tc : Thread Cert.GdnDwinIdeal.nD Cert.GdnDwinIdeal.τ).loc Cert.GdnDwinIdeal.main_arg0) = m ((c.tc : Thread Cert.GdnDwinIdeal.nD Cert.GdnDwinIdeal.τ).loc Cert.GdnDwinIdeal.main_arg0)
      ∧ r.2.mem ((c.tc : Thread Cert.GdnDwinIdeal.nD Cert.GdnDwinIdeal.τ).loc Cert.GdnDwinIdeal.main_arg1) = m ((c.tc : Thread Cert.GdnDwinIdeal.nD Cert.GdnDwinIdeal.τ).loc Cert.GdnDwinIdeal.main_arg1))
      ∧ r.2.sem = fun _ => 0)

def quiescent_RefGdnDwinIdeal [hRefGdnDwinIdeal : Cert.RefGdnDwinIdeal.Facts] : Prop :=
  ∀ (m : (ℓ : Loc Cert.RefGdnDwinIdeal.nD Cert.RefGdnDwinIdeal.τ Cert.RefGdnDwinIdeal.sig) → Buf (Elt Ideal) ℓ) (g : Dev Cert.RefGdnDwinIdeal.nD → PrngReg), Pre_RefGdnDwinIdeal m →
    θ_run (Cert.RefGdnDwinIdeal.defs (F := Ideal)) (onTc (τ := Cert.RefGdnDwinIdeal.τ) (Cert.RefGdnDwinIdeal.main (F := Ideal))) ⟨m, fun _ => 0, g⟩ (fun r => (∀ c : Dev Cert.RefGdnDwinIdeal.nD,
      r.2.mem ((c.tc : Thread Cert.RefGdnDwinIdeal.nD Cert.RefGdnDwinIdeal.τ).loc Cert.RefGdnDwinIdeal.main_arg0) = m ((c.tc : Thread Cert.RefGdnDwinIdeal.nD Cert.RefGdnDwinIdeal.τ).loc Cert.RefGdnDwinIdeal.main_arg0)
      ∧ r.2.mem ((c.tc : Thread Cert.RefGdnDwinIdeal.nD Cert.RefGdnDwinIdeal.τ).loc Cert.RefGdnDwinIdeal.main_arg1) = m ((c.tc : Thread Cert.RefGdnDwinIdeal.nD Cert.RefGdnDwinIdeal.τ).loc Cert.RefGdnDwinIdeal.main_arg1))
      ∧ r.2.sem = fun _ => 0)

def quiescent_GdnDhn [hGdnDhn : Cert.GdnDhn.Facts] : Prop :=
  ∀ (m : (ℓ : Loc Cert.GdnDhn.nD Cert.GdnDhn.τ Cert.GdnDhn.sig) → Buf (Elt Bits) ℓ) (g : Dev Cert.GdnDhn.nD → PrngReg), Pre_GdnDhn m →
    θ_run (Cert.GdnDhn.defs (F := Bits)) (onTc (τ := Cert.GdnDhn.τ) (Cert.GdnDhn.main (F := Bits))) ⟨m, fun _ => 0, g⟩ (fun r => (∀ c : Dev Cert.GdnDhn.nD,
      r.2.mem ((c.tc : Thread Cert.GdnDhn.nD Cert.GdnDhn.τ).loc Cert.GdnDhn.main_arg0) = m ((c.tc : Thread Cert.GdnDhn.nD Cert.GdnDhn.τ).loc Cert.GdnDhn.main_arg0)
      ∧ r.2.mem ((c.tc : Thread Cert.GdnDhn.nD Cert.GdnDhn.τ).loc Cert.GdnDhn.main_arg1) = m ((c.tc : Thread Cert.GdnDhn.nD Cert.GdnDhn.τ).loc Cert.GdnDhn.main_arg1)
      ∧ r.2.mem ((c.tc : Thread Cert.GdnDhn.nD Cert.GdnDhn.τ).loc Cert.GdnDhn.main_arg2) = m ((c.tc : Thread Cert.GdnDhn.nD Cert.GdnDhn.τ).loc Cert.GdnDhn.main_arg2)
      ∧ r.2.mem ((c.tc : Thread Cert.GdnDhn.nD Cert.GdnDhn.τ).loc Cert.GdnDhn.main_arg3) = m ((c.tc : Thread Cert.GdnDhn.nD Cert.GdnDhn.τ).loc Cert.GdnDhn.main_arg3)
      ∧ r.2.mem ((c.tc : Thread Cert.GdnDhn.nD Cert.GdnDhn.τ).loc Cert.GdnDhn.main_arg4) = m ((c.tc : Thread Cert.GdnDhn.nD Cert.GdnDhn.τ).loc Cert.GdnDhn.main_arg4)
      ∧ r.2.mem ((c.tc : Thread Cert.GdnDhn.nD Cert.GdnDhn.τ).loc Cert.GdnDhn.main_arg5) = m ((c.tc : Thread Cert.GdnDhn.nD Cert.GdnDhn.τ).loc Cert.GdnDhn.main_arg5))
      ∧ r.2.sem = fun _ => 0)

def quiescent_GdnDhnIdeal [hGdnDhnIdeal : Cert.GdnDhnIdeal.Facts] : Prop :=
  ∀ (m : (ℓ : Loc Cert.GdnDhnIdeal.nD Cert.GdnDhnIdeal.τ Cert.GdnDhnIdeal.sig) → Buf (Elt Ideal) ℓ) (g : Dev Cert.GdnDhnIdeal.nD → PrngReg), Pre_GdnDhnIdeal m →
    θ_run (Cert.GdnDhnIdeal.defs (F := Ideal)) (onTc (τ := Cert.GdnDhnIdeal.τ) (Cert.GdnDhnIdeal.main (F := Ideal))) ⟨m, fun _ => 0, g⟩ (fun r => (∀ c : Dev Cert.GdnDhnIdeal.nD,
      r.2.mem ((c.tc : Thread Cert.GdnDhnIdeal.nD Cert.GdnDhnIdeal.τ).loc Cert.GdnDhnIdeal.main_arg0) = m ((c.tc : Thread Cert.GdnDhnIdeal.nD Cert.GdnDhnIdeal.τ).loc Cert.GdnDhnIdeal.main_arg0)
      ∧ r.2.mem ((c.tc : Thread Cert.GdnDhnIdeal.nD Cert.GdnDhnIdeal.τ).loc Cert.GdnDhnIdeal.main_arg1) = m ((c.tc : Thread Cert.GdnDhnIdeal.nD Cert.GdnDhnIdeal.τ).loc Cert.GdnDhnIdeal.main_arg1)
      ∧ r.2.mem ((c.tc : Thread Cert.GdnDhnIdeal.nD Cert.GdnDhnIdeal.τ).loc Cert.GdnDhnIdeal.main_arg2) = m ((c.tc : Thread Cert.GdnDhnIdeal.nD Cert.GdnDhnIdeal.τ).loc Cert.GdnDhnIdeal.main_arg2)
      ∧ r.2.mem ((c.tc : Thread Cert.GdnDhnIdeal.nD Cert.GdnDhnIdeal.τ).loc Cert.GdnDhnIdeal.main_arg3) = m ((c.tc : Thread Cert.GdnDhnIdeal.nD Cert.GdnDhnIdeal.τ).loc Cert.GdnDhnIdeal.main_arg3)
      ∧ r.2.mem ((c.tc : Thread Cert.GdnDhnIdeal.nD Cert.GdnDhnIdeal.τ).loc Cert.GdnDhnIdeal.main_arg4) = m ((c.tc : Thread Cert.GdnDhnIdeal.nD Cert.GdnDhnIdeal.τ).loc Cert.GdnDhnIdeal.main_arg4)
      ∧ r.2.mem ((c.tc : Thread Cert.GdnDhnIdeal.nD Cert.GdnDhnIdeal.τ).loc Cert.GdnDhnIdeal.main_arg5) = m ((c.tc : Thread Cert.GdnDhnIdeal.nD Cert.GdnDhnIdeal.τ).loc Cert.GdnDhnIdeal.main_arg5))
      ∧ r.2.sem = fun _ => 0)

def quiescent_RefGdnDhnIdeal [hRefGdnDhnIdeal : Cert.RefGdnDhnIdeal.Facts] : Prop :=
  ∀ (m : (ℓ : Loc Cert.RefGdnDhnIdeal.nD Cert.RefGdnDhnIdeal.τ Cert.RefGdnDhnIdeal.sig) → Buf (Elt Ideal) ℓ) (g : Dev Cert.RefGdnDhnIdeal.nD → PrngReg), Pre_RefGdnDhnIdeal m →
    θ_run (Cert.RefGdnDhnIdeal.defs (F := Ideal)) (onTc (τ := Cert.RefGdnDhnIdeal.τ) (Cert.RefGdnDhnIdeal.main (F := Ideal))) ⟨m, fun _ => 0, g⟩ (fun r => (∀ c : Dev Cert.RefGdnDhnIdeal.nD,
      r.2.mem ((c.tc : Thread Cert.RefGdnDhnIdeal.nD Cert.RefGdnDhnIdeal.τ).loc Cert.RefGdnDhnIdeal.main_arg0) = m ((c.tc : Thread Cert.RefGdnDhnIdeal.nD Cert.RefGdnDhnIdeal.τ).loc Cert.RefGdnDhnIdeal.main_arg0)
      ∧ r.2.mem ((c.tc : Thread Cert.RefGdnDhnIdeal.nD Cert.RefGdnDhnIdeal.τ).loc Cert.RefGdnDhnIdeal.main_arg1) = m ((c.tc : Thread Cert.RefGdnDhnIdeal.nD Cert.RefGdnDhnIdeal.τ).loc Cert.RefGdnDhnIdeal.main_arg1)
      ∧ r.2.mem ((c.tc : Thread Cert.RefGdnDhnIdeal.nD Cert.RefGdnDhnIdeal.τ).loc Cert.RefGdnDhnIdeal.main_arg2) = m ((c.tc : Thread Cert.RefGdnDhnIdeal.nD Cert.RefGdnDhnIdeal.τ).loc Cert.RefGdnDhnIdeal.main_arg2)
      ∧ r.2.mem ((c.tc : Thread Cert.RefGdnDhnIdeal.nD Cert.RefGdnDhnIdeal.τ).loc Cert.RefGdnDhnIdeal.main_arg3) = m ((c.tc : Thread Cert.RefGdnDhnIdeal.nD Cert.RefGdnDhnIdeal.τ).loc Cert.RefGdnDhnIdeal.main_arg3)
      ∧ r.2.mem ((c.tc : Thread Cert.RefGdnDhnIdeal.nD Cert.RefGdnDhnIdeal.τ).loc Cert.RefGdnDhnIdeal.main_arg4) = m ((c.tc : Thread Cert.RefGdnDhnIdeal.nD Cert.RefGdnDhnIdeal.τ).loc Cert.RefGdnDhnIdeal.main_arg4)
      ∧ r.2.mem ((c.tc : Thread Cert.RefGdnDhnIdeal.nD Cert.RefGdnDhnIdeal.τ).loc Cert.RefGdnDhnIdeal.main_arg5) = m ((c.tc : Thread Cert.RefGdnDhnIdeal.nD Cert.RefGdnDhnIdeal.τ).loc Cert.RefGdnDhnIdeal.main_arg5))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_RefMixOutIdeal [hRefMixOutIdeal : Cert.RefMixOutIdeal.Facts] : Prop :=
  ∀ (m : (ℓ : Loc Cert.RefMixOutIdeal.nD Cert.RefMixOutIdeal.τ Cert.RefMixOutIdeal.sig) → Buf (Elt Ideal) ℓ) (g : Dev Cert.RefMixOutIdeal.nD → PrngReg), Pre_RefMixOutIdeal m →
    θ_run (Cert.RefMixOutIdeal.defs (F := Ideal)) (onTc (τ := Cert.RefMixOutIdeal.τ) (Cert.RefMixOutIdeal.main (F := Ideal))) ⟨m, fun _ => 0, g⟩ (fun r => (∀ c : Dev Cert.RefMixOutIdeal.nD,
      r.2.mem ((c.tc : Thread Cert.RefMixOutIdeal.nD Cert.RefMixOutIdeal.τ).loc Cert.RefMixOutIdeal.main_arg0) = m ((c.tc : Thread Cert.RefMixOutIdeal.nD Cert.RefMixOutIdeal.τ).loc Cert.RefMixOutIdeal.main_arg0)
      ∧ r.2.mem ((c.tc : Thread Cert.RefMixOutIdeal.nD Cert.RefMixOutIdeal.τ).loc Cert.RefMixOutIdeal.main_arg1) = m ((c.tc : Thread Cert.RefMixOutIdeal.nD Cert.RefMixOutIdeal.τ).loc Cert.RefMixOutIdeal.main_arg1)
      ∧ r.2.mem ((c.tc : Thread Cert.RefMixOutIdeal.nD Cert.RefMixOutIdeal.τ).loc Cert.RefMixOutIdeal.main_arg2) = m ((c.tc : Thread Cert.RefMixOutIdeal.nD Cert.RefMixOutIdeal.τ).loc Cert.RefMixOutIdeal.main_arg2))
      ∧ r.2.sem = fun _ => 0)

def quiescent_MixDy [hMixDy : Cert.MixDy.Facts] : Prop :=
  ∀ (m : (ℓ : Loc Cert.MixDy.nD Cert.MixDy.τ Cert.MixDy.sig) → Buf (Elt Bits) ℓ) (g : Dev Cert.MixDy.nD → PrngReg), Pre_MixDy m →
    θ_run (Cert.MixDy.defs (F := Bits)) (onTc (τ := Cert.MixDy.τ) (Cert.MixDy.main (F := Bits))) ⟨m, fun _ => 0, g⟩ (fun r => (∀ c : Dev Cert.MixDy.nD,
      r.2.mem ((c.tc : Thread Cert.MixDy.nD Cert.MixDy.τ).loc Cert.MixDy.main_arg0) = m ((c.tc : Thread Cert.MixDy.nD Cert.MixDy.τ).loc Cert.MixDy.main_arg0)
      ∧ r.2.mem ((c.tc : Thread Cert.MixDy.nD Cert.MixDy.τ).loc Cert.MixDy.main_arg1) = m ((c.tc : Thread Cert.MixDy.nD Cert.MixDy.τ).loc Cert.MixDy.main_arg1))
      ∧ r.2.sem = fun _ => 0)

def quiescent_MixDyIdeal [hMixDyIdeal : Cert.MixDyIdeal.Facts] : Prop :=
  ∀ (m : (ℓ : Loc Cert.MixDyIdeal.nD Cert.MixDyIdeal.τ Cert.MixDyIdeal.sig) → Buf (Elt Ideal) ℓ) (g : Dev Cert.MixDyIdeal.nD → PrngReg), Pre_MixDyIdeal m →
    θ_run (Cert.MixDyIdeal.defs (F := Ideal)) (onTc (τ := Cert.MixDyIdeal.τ) (Cert.MixDyIdeal.main (F := Ideal))) ⟨m, fun _ => 0, g⟩ (fun r => (∀ c : Dev Cert.MixDyIdeal.nD,
      r.2.mem ((c.tc : Thread Cert.MixDyIdeal.nD Cert.MixDyIdeal.τ).loc Cert.MixDyIdeal.main_arg0) = m ((c.tc : Thread Cert.MixDyIdeal.nD Cert.MixDyIdeal.τ).loc Cert.MixDyIdeal.main_arg0)
      ∧ r.2.mem ((c.tc : Thread Cert.MixDyIdeal.nD Cert.MixDyIdeal.τ).loc Cert.MixDyIdeal.main_arg1) = m ((c.tc : Thread Cert.MixDyIdeal.nD Cert.MixDyIdeal.τ).loc Cert.MixDyIdeal.main_arg1))
      ∧ r.2.sem = fun _ => 0)

def quiescent_RefMixDyIdeal [hRefMixDyIdeal : Cert.RefMixDyIdeal.Facts] : Prop :=
  ∀ (m : (ℓ : Loc Cert.RefMixDyIdeal.nD Cert.RefMixDyIdeal.τ Cert.RefMixDyIdeal.sig) → Buf (Elt Ideal) ℓ) (g : Dev Cert.RefMixDyIdeal.nD → PrngReg), Pre_RefMixDyIdeal m →
    θ_run (Cert.RefMixDyIdeal.defs (F := Ideal)) (onTc (τ := Cert.RefMixDyIdeal.τ) (Cert.RefMixDyIdeal.main (F := Ideal))) ⟨m, fun _ => 0, g⟩ (fun r => (∀ c : Dev Cert.RefMixDyIdeal.nD,
      r.2.mem ((c.tc : Thread Cert.RefMixDyIdeal.nD Cert.RefMixDyIdeal.τ).loc Cert.RefMixDyIdeal.main_arg0) = m ((c.tc : Thread Cert.RefMixDyIdeal.nD Cert.RefMixDyIdeal.τ).loc Cert.RefMixDyIdeal.main_arg0)
      ∧ r.2.mem ((c.tc : Thread Cert.RefMixDyIdeal.nD Cert.RefMixDyIdeal.τ).loc Cert.RefMixDyIdeal.main_arg1) = m ((c.tc : Thread Cert.RefMixDyIdeal.nD Cert.RefMixDyIdeal.τ).loc Cert.RefMixDyIdeal.main_arg1))
      ∧ r.2.sem = fun _ => 0)

def quiescent_MixDwout [hMixDwout : Cert.MixDwout.Facts] : Prop :=
  ∀ (m : (ℓ : Loc Cert.MixDwout.nD Cert.MixDwout.τ Cert.MixDwout.sig) → Buf (Elt Bits) ℓ) (g : Dev Cert.MixDwout.nD → PrngReg), Pre_MixDwout m →
    θ_run (Cert.MixDwout.defs (F := Bits)) (onTc (τ := Cert.MixDwout.τ) (Cert.MixDwout.main (F := Bits))) ⟨m, fun _ => 0, g⟩ (fun r => (∀ c : Dev Cert.MixDwout.nD,
      r.2.mem ((c.tc : Thread Cert.MixDwout.nD Cert.MixDwout.τ).loc Cert.MixDwout.main_arg0) = m ((c.tc : Thread Cert.MixDwout.nD Cert.MixDwout.τ).loc Cert.MixDwout.main_arg0)
      ∧ r.2.mem ((c.tc : Thread Cert.MixDwout.nD Cert.MixDwout.τ).loc Cert.MixDwout.main_arg1) = m ((c.tc : Thread Cert.MixDwout.nD Cert.MixDwout.τ).loc Cert.MixDwout.main_arg1))
      ∧ r.2.sem = fun _ => 0)

def quiescent_MixDwoutIdeal [hMixDwoutIdeal : Cert.MixDwoutIdeal.Facts] : Prop :=
  ∀ (m : (ℓ : Loc Cert.MixDwoutIdeal.nD Cert.MixDwoutIdeal.τ Cert.MixDwoutIdeal.sig) → Buf (Elt Ideal) ℓ) (g : Dev Cert.MixDwoutIdeal.nD → PrngReg), Pre_MixDwoutIdeal m →
    θ_run (Cert.MixDwoutIdeal.defs (F := Ideal)) (onTc (τ := Cert.MixDwoutIdeal.τ) (Cert.MixDwoutIdeal.main (F := Ideal))) ⟨m, fun _ => 0, g⟩ (fun r => (∀ c : Dev Cert.MixDwoutIdeal.nD,
      r.2.mem ((c.tc : Thread Cert.MixDwoutIdeal.nD Cert.MixDwoutIdeal.τ).loc Cert.MixDwoutIdeal.main_arg0) = m ((c.tc : Thread Cert.MixDwoutIdeal.nD Cert.MixDwoutIdeal.τ).loc Cert.MixDwoutIdeal.main_arg0)
      ∧ r.2.mem ((c.tc : Thread Cert.MixDwoutIdeal.nD Cert.MixDwoutIdeal.τ).loc Cert.MixDwoutIdeal.main_arg1) = m ((c.tc : Thread Cert.MixDwoutIdeal.nD Cert.MixDwoutIdeal.τ).loc Cert.MixDwoutIdeal.main_arg1))
      ∧ r.2.sem = fun _ => 0)

def quiescent_RefMixDwoutIdeal [hRefMixDwoutIdeal : Cert.RefMixDwoutIdeal.Facts] : Prop :=
  ∀ (m : (ℓ : Loc Cert.RefMixDwoutIdeal.nD Cert.RefMixDwoutIdeal.τ Cert.RefMixDwoutIdeal.sig) → Buf (Elt Ideal) ℓ) (g : Dev Cert.RefMixDwoutIdeal.nD → PrngReg), Pre_RefMixDwoutIdeal m →
    θ_run (Cert.RefMixDwoutIdeal.defs (F := Ideal)) (onTc (τ := Cert.RefMixDwoutIdeal.τ) (Cert.RefMixDwoutIdeal.main (F := Ideal))) ⟨m, fun _ => 0, g⟩ (fun r => (∀ c : Dev Cert.RefMixDwoutIdeal.nD,
      r.2.mem ((c.tc : Thread Cert.RefMixDwoutIdeal.nD Cert.RefMixDwoutIdeal.τ).loc Cert.RefMixDwoutIdeal.main_arg0) = m ((c.tc : Thread Cert.RefMixDwoutIdeal.nD Cert.RefMixDwoutIdeal.τ).loc Cert.RefMixDwoutIdeal.main_arg0)
      ∧ r.2.mem ((c.tc : Thread Cert.RefMixDwoutIdeal.nD Cert.RefMixDwoutIdeal.τ).loc Cert.RefMixDwoutIdeal.main_arg1) = m ((c.tc : Thread Cert.RefMixDwoutIdeal.nD Cert.RefMixDwoutIdeal.τ).loc Cert.RefMixDwoutIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_RefAdamInIdeal [hRefAdamInIdeal : Cert.RefAdamInIdeal.Facts] : Prop :=
  ∀ (m : (ℓ : Loc Cert.RefAdamInIdeal.nD Cert.RefAdamInIdeal.τ Cert.RefAdamInIdeal.sig) → Buf (Elt Ideal) ℓ) (g : Dev Cert.RefAdamInIdeal.nD → PrngReg), Pre_RefAdamInIdeal m →
    θ_run (Cert.RefAdamInIdeal.defs (F := Ideal)) (onTc (τ := Cert.RefAdamInIdeal.τ) (Cert.RefAdamInIdeal.main (F := Ideal))) ⟨m, fun _ => 0, g⟩ (fun r => (∀ c : Dev Cert.RefAdamInIdeal.nD,
      r.2.mem ((c.tc : Thread Cert.RefAdamInIdeal.nD Cert.RefAdamInIdeal.τ).loc Cert.RefAdamInIdeal.main_arg0) = m ((c.tc : Thread Cert.RefAdamInIdeal.nD Cert.RefAdamInIdeal.τ).loc Cert.RefAdamInIdeal.main_arg0)
      ∧ r.2.mem ((c.tc : Thread Cert.RefAdamInIdeal.nD Cert.RefAdamInIdeal.τ).loc Cert.RefAdamInIdeal.main_arg1) = m ((c.tc : Thread Cert.RefAdamInIdeal.nD Cert.RefAdamInIdeal.τ).loc Cert.RefAdamInIdeal.main_arg1)
      ∧ r.2.mem ((c.tc : Thread Cert.RefAdamInIdeal.nD Cert.RefAdamInIdeal.τ).loc Cert.RefAdamInIdeal.main_arg2) = m ((c.tc : Thread Cert.RefAdamInIdeal.nD Cert.RefAdamInIdeal.τ).loc Cert.RefAdamInIdeal.main_arg2)
      ∧ r.2.mem ((c.tc : Thread Cert.RefAdamInIdeal.nD Cert.RefAdamInIdeal.τ).loc Cert.RefAdamInIdeal.main_arg3) = m ((c.tc : Thread Cert.RefAdamInIdeal.nD Cert.RefAdamInIdeal.τ).loc Cert.RefAdamInIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_RefAdamOutIdeal [hRefAdamOutIdeal : Cert.RefAdamOutIdeal.Facts] : Prop :=
  ∀ (m : (ℓ : Loc Cert.RefAdamOutIdeal.nD Cert.RefAdamOutIdeal.τ Cert.RefAdamOutIdeal.sig) → Buf (Elt Ideal) ℓ) (g : Dev Cert.RefAdamOutIdeal.nD → PrngReg), Pre_RefAdamOutIdeal m →
    θ_run (Cert.RefAdamOutIdeal.defs (F := Ideal)) (onTc (τ := Cert.RefAdamOutIdeal.τ) (Cert.RefAdamOutIdeal.main (F := Ideal))) ⟨m, fun _ => 0, g⟩ (fun r => (∀ c : Dev Cert.RefAdamOutIdeal.nD,
      r.2.mem ((c.tc : Thread Cert.RefAdamOutIdeal.nD Cert.RefAdamOutIdeal.τ).loc Cert.RefAdamOutIdeal.main_arg0) = m ((c.tc : Thread Cert.RefAdamOutIdeal.nD Cert.RefAdamOutIdeal.τ).loc Cert.RefAdamOutIdeal.main_arg0)
      ∧ r.2.mem ((c.tc : Thread Cert.RefAdamOutIdeal.nD Cert.RefAdamOutIdeal.τ).loc Cert.RefAdamOutIdeal.main_arg1) = m ((c.tc : Thread Cert.RefAdamOutIdeal.nD Cert.RefAdamOutIdeal.τ).loc Cert.RefAdamOutIdeal.main_arg1)
      ∧ r.2.mem ((c.tc : Thread Cert.RefAdamOutIdeal.nD Cert.RefAdamOutIdeal.τ).loc Cert.RefAdamOutIdeal.main_arg2) = m ((c.tc : Thread Cert.RefAdamOutIdeal.nD Cert.RefAdamOutIdeal.τ).loc Cert.RefAdamOutIdeal.main_arg2)
      ∧ r.2.mem ((c.tc : Thread Cert.RefAdamOutIdeal.nD Cert.RefAdamOutIdeal.τ).loc Cert.RefAdamOutIdeal.main_arg3) = m ((c.tc : Thread Cert.RefAdamOutIdeal.nD Cert.RefAdamOutIdeal.τ).loc Cert.RefAdamOutIdeal.main_arg3))
      ∧ r.2.sem = fun _ => 0)

def quiescent_AdamPack [hAdamPack : Cert.AdamPack.Facts] : Prop :=
  ∀ (m : (ℓ : Loc Cert.AdamPack.nD Cert.AdamPack.τ Cert.AdamPack.sig) → Buf (Elt Bits) ℓ) (g : Dev Cert.AdamPack.nD → PrngReg), Pre_AdamPack m →
    θ_run (Cert.AdamPack.defs (F := Bits)) (onTc (τ := Cert.AdamPack.τ) (Cert.AdamPack.main (F := Bits))) ⟨m, fun _ => 0, g⟩ (fun r => (∀ c : Dev Cert.AdamPack.nD,
      r.2.mem ((c.tc : Thread Cert.AdamPack.nD Cert.AdamPack.τ).loc Cert.AdamPack.main_arg0) = m ((c.tc : Thread Cert.AdamPack.nD Cert.AdamPack.τ).loc Cert.AdamPack.main_arg0)
      ∧ r.2.mem ((c.tc : Thread Cert.AdamPack.nD Cert.AdamPack.τ).loc Cert.AdamPack.main_arg1) = m ((c.tc : Thread Cert.AdamPack.nD Cert.AdamPack.τ).loc Cert.AdamPack.main_arg1)
      ∧ r.2.mem ((c.tc : Thread Cert.AdamPack.nD Cert.AdamPack.τ).loc Cert.AdamPack.main_arg2) = m ((c.tc : Thread Cert.AdamPack.nD Cert.AdamPack.τ).loc Cert.AdamPack.main_arg2)
      ∧ r.2.mem ((c.tc : Thread Cert.AdamPack.nD Cert.AdamPack.τ).loc Cert.AdamPack.main_arg3) = m ((c.tc : Thread Cert.AdamPack.nD Cert.AdamPack.τ).loc Cert.AdamPack.main_arg3))
      ∧ r.2.sem = fun _ => 0)

def quiescent_AdamPackIdeal [hAdamPackIdeal : Cert.AdamPackIdeal.Facts] : Prop :=
  ∀ (m : (ℓ : Loc Cert.AdamPackIdeal.nD Cert.AdamPackIdeal.τ Cert.AdamPackIdeal.sig) → Buf (Elt Ideal) ℓ) (g : Dev Cert.AdamPackIdeal.nD → PrngReg), Pre_AdamPackIdeal m →
    θ_run (Cert.AdamPackIdeal.defs (F := Ideal)) (onTc (τ := Cert.AdamPackIdeal.τ) (Cert.AdamPackIdeal.main (F := Ideal))) ⟨m, fun _ => 0, g⟩ (fun r => (∀ c : Dev Cert.AdamPackIdeal.nD,
      r.2.mem ((c.tc : Thread Cert.AdamPackIdeal.nD Cert.AdamPackIdeal.τ).loc Cert.AdamPackIdeal.main_arg0) = m ((c.tc : Thread Cert.AdamPackIdeal.nD Cert.AdamPackIdeal.τ).loc Cert.AdamPackIdeal.main_arg0)
      ∧ r.2.mem ((c.tc : Thread Cert.AdamPackIdeal.nD Cert.AdamPackIdeal.τ).loc Cert.AdamPackIdeal.main_arg1) = m ((c.tc : Thread Cert.AdamPackIdeal.nD Cert.AdamPackIdeal.τ).loc Cert.AdamPackIdeal.main_arg1)
      ∧ r.2.mem ((c.tc : Thread Cert.AdamPackIdeal.nD Cert.AdamPackIdeal.τ).loc Cert.AdamPackIdeal.main_arg2) = m ((c.tc : Thread Cert.AdamPackIdeal.nD Cert.AdamPackIdeal.τ).loc Cert.AdamPackIdeal.main_arg2)
      ∧ r.2.mem ((c.tc : Thread Cert.AdamPackIdeal.nD Cert.AdamPackIdeal.τ).loc Cert.AdamPackIdeal.main_arg3) = m ((c.tc : Thread Cert.AdamPackIdeal.nD Cert.AdamPackIdeal.τ).loc Cert.AdamPackIdeal.main_arg3))
      ∧ r.2.sem = fun _ => 0)

def quiescent_RefAdamPackIdeal [hRefAdamPackIdeal : Cert.RefAdamPackIdeal.Facts] : Prop :=
  ∀ (m : (ℓ : Loc Cert.RefAdamPackIdeal.nD Cert.RefAdamPackIdeal.τ Cert.RefAdamPackIdeal.sig) → Buf (Elt Ideal) ℓ) (g : Dev Cert.RefAdamPackIdeal.nD → PrngReg), Pre_RefAdamPackIdeal m →
    θ_run (Cert.RefAdamPackIdeal.defs (F := Ideal)) (onTc (τ := Cert.RefAdamPackIdeal.τ) (Cert.RefAdamPackIdeal.main (F := Ideal))) ⟨m, fun _ => 0, g⟩ (fun r => (∀ c : Dev Cert.RefAdamPackIdeal.nD,
      r.2.mem ((c.tc : Thread Cert.RefAdamPackIdeal.nD Cert.RefAdamPackIdeal.τ).loc Cert.RefAdamPackIdeal.main_arg0) = m ((c.tc : Thread Cert.RefAdamPackIdeal.nD Cert.RefAdamPackIdeal.τ).loc Cert.RefAdamPackIdeal.main_arg0)
      ∧ r.2.mem ((c.tc : Thread Cert.RefAdamPackIdeal.nD Cert.RefAdamPackIdeal.τ).loc Cert.RefAdamPackIdeal.main_arg1) = m ((c.tc : Thread Cert.RefAdamPackIdeal.nD Cert.RefAdamPackIdeal.τ).loc Cert.RefAdamPackIdeal.main_arg1)
      ∧ r.2.mem ((c.tc : Thread Cert.RefAdamPackIdeal.nD Cert.RefAdamPackIdeal.τ).loc Cert.RefAdamPackIdeal.main_arg2) = m ((c.tc : Thread Cert.RefAdamPackIdeal.nD Cert.RefAdamPackIdeal.τ).loc Cert.RefAdamPackIdeal.main_arg2)
      ∧ r.2.mem ((c.tc : Thread Cert.RefAdamPackIdeal.nD Cert.RefAdamPackIdeal.τ).loc Cert.RefAdamPackIdeal.main_arg3) = m ((c.tc : Thread Cert.RefAdamPackIdeal.nD Cert.RefAdamPackIdeal.τ).loc Cert.RefAdamPackIdeal.main_arg3))
      ∧ r.2.sem = fun _ => 0)

def quiescent_AdamFfnIn [hAdamFfnIn : Cert.AdamFfnIn.Facts] : Prop :=
  ∀ (m : (ℓ : Loc Cert.AdamFfnIn.nD Cert.AdamFfnIn.τ Cert.AdamFfnIn.sig) → Buf (Elt Bits) ℓ) (g : Dev Cert.AdamFfnIn.nD → PrngReg), Pre_AdamFfnIn m →
    θ_run (Cert.AdamFfnIn.defs (F := Bits)) (onTc (τ := Cert.AdamFfnIn.τ) (Cert.AdamFfnIn.main (F := Bits))) ⟨m, fun _ => 0, g⟩ (fun r => (∀ c : Dev Cert.AdamFfnIn.nD,
      r.2.mem ((c.tc : Thread Cert.AdamFfnIn.nD Cert.AdamFfnIn.τ).loc Cert.AdamFfnIn.main_arg0) = m ((c.tc : Thread Cert.AdamFfnIn.nD Cert.AdamFfnIn.τ).loc Cert.AdamFfnIn.main_arg0)
      ∧ r.2.mem ((c.tc : Thread Cert.AdamFfnIn.nD Cert.AdamFfnIn.τ).loc Cert.AdamFfnIn.main_arg1) = m ((c.tc : Thread Cert.AdamFfnIn.nD Cert.AdamFfnIn.τ).loc Cert.AdamFfnIn.main_arg1)
      ∧ r.2.mem ((c.tc : Thread Cert.AdamFfnIn.nD Cert.AdamFfnIn.τ).loc Cert.AdamFfnIn.main_arg2) = m ((c.tc : Thread Cert.AdamFfnIn.nD Cert.AdamFfnIn.τ).loc Cert.AdamFfnIn.main_arg2)
      ∧ r.2.mem ((c.tc : Thread Cert.AdamFfnIn.nD Cert.AdamFfnIn.τ).loc Cert.AdamFfnIn.main_arg3) = m ((c.tc : Thread Cert.AdamFfnIn.nD Cert.AdamFfnIn.τ).loc Cert.AdamFfnIn.main_arg3)
      ∧ r.2.mem ((c.tc : Thread Cert.AdamFfnIn.nD Cert.AdamFfnIn.τ).loc Cert.AdamFfnIn.main_arg4) = m ((c.tc : Thread Cert.AdamFfnIn.nD Cert.AdamFfnIn.τ).loc Cert.AdamFfnIn.main_arg4))
      ∧ r.2.sem = fun _ => 0)

def quiescent_AdamFfnInIdeal [hAdamFfnInIdeal : Cert.AdamFfnInIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg), Pre_AdamFfnInIdeal m →
    θ_run (Cert.AdamFfnInIdeal.defs (F := Ideal)) (onTc (τ := Cert.AdamFfnInIdeal.τ) (Cert.AdamFfnInIdeal.main (F := Ideal))) ⟨m, fun _ => 0, g⟩ (fun r => (∀ c : Dev Cert.AdamFfnInIdeal.nD,
      r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
      ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
      ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
      ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3)
      ∧ r.2.mem ((c.tc : Thread Cert.AdamFfnInIdeal.nD Cert.AdamFfnInIdeal.τ).loc Cert.AdamFfnInIdeal.main_arg4) = m ((c.tc : Thread Cert.AdamFfnInIdeal.nD Cert.AdamFfnInIdeal.τ).loc Cert.AdamFfnInIdeal.main_arg4))
      ∧ r.2.sem = fun _ => 0)

def quiescent_RefAdamFfnInIdeal [hRefAdamFfnInIdeal : Cert.RefAdamFfnInIdeal.Facts] : Prop :=
  ∀ (m : (ℓ : Loc Cert.RefAdamFfnInIdeal.nD Cert.RefAdamFfnInIdeal.τ Cert.RefAdamFfnInIdeal.sig) → Buf (Elt Ideal) ℓ) (g : Dev Cert.RefAdamFfnInIdeal.nD → PrngReg), Pre_RefAdamFfnInIdeal m →
    θ_run (Cert.RefAdamFfnInIdeal.defs (F := Ideal)) (onTc (τ := Cert.RefAdamFfnInIdeal.τ) (Cert.RefAdamFfnInIdeal.main (F := Ideal))) ⟨m, fun _ => 0, g⟩ (fun r => (∀ c : Dev Cert.RefAdamFfnInIdeal.nD,
      r.2.mem ((c.tc : Thread Cert.RefAdamFfnInIdeal.nD Cert.RefAdamFfnInIdeal.τ).loc Cert.RefAdamFfnInIdeal.main_arg0) = m ((c.tc : Thread Cert.RefAdamFfnInIdeal.nD Cert.RefAdamFfnInIdeal.τ).loc Cert.RefAdamFfnInIdeal.main_arg0)
      ∧ r.2.mem ((c.tc : Thread Cert.RefAdamFfnInIdeal.nD Cert.RefAdamFfnInIdeal.τ).loc Cert.RefAdamFfnInIdeal.main_arg1) = m ((c.tc : Thread Cert.RefAdamFfnInIdeal.nD Cert.RefAdamFfnInIdeal.τ).loc Cert.RefAdamFfnInIdeal.main_arg1)
      ∧ r.2.mem ((c.tc : Thread Cert.RefAdamFfnInIdeal.nD Cert.RefAdamFfnInIdeal.τ).loc Cert.RefAdamFfnInIdeal.main_arg2) = m ((c.tc : Thread Cert.RefAdamFfnInIdeal.nD Cert.RefAdamFfnInIdeal.τ).loc Cert.RefAdamFfnInIdeal.main_arg2)
      ∧ r.2.mem ((c.tc : Thread Cert.RefAdamFfnInIdeal.nD Cert.RefAdamFfnInIdeal.τ).loc Cert.RefAdamFfnInIdeal.main_arg3) = m ((c.tc : Thread Cert.RefAdamFfnInIdeal.nD Cert.RefAdamFfnInIdeal.τ).loc Cert.RefAdamFfnInIdeal.main_arg3)
      ∧ r.2.mem ((c.tc : Thread Cert.RefAdamFfnInIdeal.nD Cert.RefAdamFfnInIdeal.τ).loc Cert.RefAdamFfnInIdeal.main_arg4) = m ((c.tc : Thread Cert.RefAdamFfnInIdeal.nD Cert.RefAdamFfnInIdeal.τ).loc Cert.RefAdamFfnInIdeal.main_arg4))
      ∧ r.2.sem = fun _ => 0)

def quiescent_AdamFfnOut [hAdamFfnOut : Cert.AdamFfnOut.Facts] : Prop :=
  ∀ (m : (ℓ : Loc Cert.AdamFfnOut.nD Cert.AdamFfnOut.τ Cert.AdamFfnOut.sig) → Buf (Elt Bits) ℓ) (g : Dev Cert.AdamFfnOut.nD → PrngReg), Pre_AdamFfnOut m →
    θ_run (Cert.AdamFfnOut.defs (F := Bits)) (onTc (τ := Cert.AdamFfnOut.τ) (Cert.AdamFfnOut.main (F := Bits))) ⟨m, fun _ => 0, g⟩ (fun r => (∀ c : Dev Cert.AdamFfnOut.nD,
      r.2.mem ((c.tc : Thread Cert.AdamFfnOut.nD Cert.AdamFfnOut.τ).loc Cert.AdamFfnOut.main_arg0) = m ((c.tc : Thread Cert.AdamFfnOut.nD Cert.AdamFfnOut.τ).loc Cert.AdamFfnOut.main_arg0)
      ∧ r.2.mem ((c.tc : Thread Cert.AdamFfnOut.nD Cert.AdamFfnOut.τ).loc Cert.AdamFfnOut.main_arg1) = m ((c.tc : Thread Cert.AdamFfnOut.nD Cert.AdamFfnOut.τ).loc Cert.AdamFfnOut.main_arg1)
      ∧ r.2.mem ((c.tc : Thread Cert.AdamFfnOut.nD Cert.AdamFfnOut.τ).loc Cert.AdamFfnOut.main_arg2) = m ((c.tc : Thread Cert.AdamFfnOut.nD Cert.AdamFfnOut.τ).loc Cert.AdamFfnOut.main_arg2)
      ∧ r.2.mem ((c.tc : Thread Cert.AdamFfnOut.nD Cert.AdamFfnOut.τ).loc Cert.AdamFfnOut.main_arg3) = m ((c.tc : Thread Cert.AdamFfnOut.nD Cert.AdamFfnOut.τ).loc Cert.AdamFfnOut.main_arg3)
      ∧ r.2.mem ((c.tc : Thread Cert.AdamFfnOut.nD Cert.AdamFfnOut.τ).loc Cert.AdamFfnOut.main_arg4) = m ((c.tc : Thread Cert.AdamFfnOut.nD Cert.AdamFfnOut.τ).loc Cert.AdamFfnOut.main_arg4))
      ∧ r.2.sem = fun _ => 0)

def quiescent_AdamFfnOutIdeal [hAdamFfnOutIdeal : Cert.AdamFfnOutIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg), Pre_AdamFfnOutIdeal m →
    θ_run (Cert.AdamFfnOutIdeal.defs (F := Ideal)) (onTc (τ := Cert.AdamFfnOutIdeal.τ) (Cert.AdamFfnOutIdeal.main (F := Ideal))) ⟨m, fun _ => 0, g⟩ (fun r => (∀ c : Dev Cert.AdamFfnOutIdeal.nD,
      r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
      ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
      ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
      ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3)
      ∧ r.2.mem ((c.tc : Thread Cert.AdamFfnOutIdeal.nD Cert.AdamFfnOutIdeal.τ).loc Cert.AdamFfnOutIdeal.main_arg4) = m ((c.tc : Thread Cert.AdamFfnOutIdeal.nD Cert.AdamFfnOutIdeal.τ).loc Cert.AdamFfnOutIdeal.main_arg4))
      ∧ r.2.sem = fun _ => 0)

def quiescent_RefAdamFfnOutIdeal [hRefAdamFfnOutIdeal : Cert.RefAdamFfnOutIdeal.Facts] : Prop :=
  ∀ (m : (ℓ : Loc Cert.RefAdamFfnOutIdeal.nD Cert.RefAdamFfnOutIdeal.τ Cert.RefAdamFfnOutIdeal.sig) → Buf (Elt Ideal) ℓ) (g : Dev Cert.RefAdamFfnOutIdeal.nD → PrngReg), Pre_RefAdamFfnOutIdeal m →
    θ_run (Cert.RefAdamFfnOutIdeal.defs (F := Ideal)) (onTc (τ := Cert.RefAdamFfnOutIdeal.τ) (Cert.RefAdamFfnOutIdeal.main (F := Ideal))) ⟨m, fun _ => 0, g⟩ (fun r => (∀ c : Dev Cert.RefAdamFfnOutIdeal.nD,
      r.2.mem ((c.tc : Thread Cert.RefAdamFfnOutIdeal.nD Cert.RefAdamFfnOutIdeal.τ).loc Cert.RefAdamFfnOutIdeal.main_arg0) = m ((c.tc : Thread Cert.RefAdamFfnOutIdeal.nD Cert.RefAdamFfnOutIdeal.τ).loc Cert.RefAdamFfnOutIdeal.main_arg0)
      ∧ r.2.mem ((c.tc : Thread Cert.RefAdamFfnOutIdeal.nD Cert.RefAdamFfnOutIdeal.τ).loc Cert.RefAdamFfnOutIdeal.main_arg1) = m ((c.tc : Thread Cert.RefAdamFfnOutIdeal.nD Cert.RefAdamFfnOutIdeal.τ).loc Cert.RefAdamFfnOutIdeal.main_arg1)
      ∧ r.2.mem ((c.tc : Thread Cert.RefAdamFfnOutIdeal.nD Cert.RefAdamFfnOutIdeal.τ).loc Cert.RefAdamFfnOutIdeal.main_arg2) = m ((c.tc : Thread Cert.RefAdamFfnOutIdeal.nD Cert.RefAdamFfnOutIdeal.τ).loc Cert.RefAdamFfnOutIdeal.main_arg2)
      ∧ r.2.mem ((c.tc : Thread Cert.RefAdamFfnOutIdeal.nD Cert.RefAdamFfnOutIdeal.τ).loc Cert.RefAdamFfnOutIdeal.main_arg3) = m ((c.tc : Thread Cert.RefAdamFfnOutIdeal.nD Cert.RefAdamFfnOutIdeal.τ).loc Cert.RefAdamFfnOutIdeal.main_arg3)
      ∧ r.2.mem ((c.tc : Thread Cert.RefAdamFfnOutIdeal.nD Cert.RefAdamFfnOutIdeal.τ).loc Cert.RefAdamFfnOutIdeal.main_arg4) = m ((c.tc : Thread Cert.RefAdamFfnOutIdeal.nD Cert.RefAdamFfnOutIdeal.τ).loc Cert.RefAdamFfnOutIdeal.main_arg4))
      ∧ r.2.sem = fun _ => 0)

def quiescent_AdamHybIn [hAdamHybIn : Cert.AdamHybIn.Facts] : Prop :=
  ∀ (m : (ℓ : Loc Cert.AdamHybIn.nD Cert.AdamHybIn.τ Cert.AdamHybIn.sig) → Buf (Elt Bits) ℓ) (g : Dev Cert.AdamHybIn.nD → PrngReg), Pre_AdamHybIn m →
    θ_run (Cert.AdamHybIn.defs (F := Bits)) (onTc (τ := Cert.AdamHybIn.τ) (Cert.AdamHybIn.main (F := Bits))) ⟨m, fun _ => 0, g⟩ (fun r => (∀ c : Dev Cert.AdamHybIn.nD,
      r.2.mem ((c.tc : Thread Cert.AdamHybIn.nD Cert.AdamHybIn.τ).loc Cert.AdamHybIn.main_arg0) = m ((c.tc : Thread Cert.AdamHybIn.nD Cert.AdamHybIn.τ).loc Cert.AdamHybIn.main_arg0)
      ∧ r.2.mem ((c.tc : Thread Cert.AdamHybIn.nD Cert.AdamHybIn.τ).loc Cert.AdamHybIn.main_arg1) = m ((c.tc : Thread Cert.AdamHybIn.nD Cert.AdamHybIn.τ).loc Cert.AdamHybIn.main_arg1)
      ∧ r.2.mem ((c.tc : Thread Cert.AdamHybIn.nD Cert.AdamHybIn.τ).loc Cert.AdamHybIn.main_arg2) = m ((c.tc : Thread Cert.AdamHybIn.nD Cert.AdamHybIn.τ).loc Cert.AdamHybIn.main_arg2)
      ∧ r.2.mem ((c.tc : Thread Cert.AdamHybIn.nD Cert.AdamHybIn.τ).loc Cert.AdamHybIn.main_arg3) = m ((c.tc : Thread Cert.AdamHybIn.nD Cert.AdamHybIn.τ).loc Cert.AdamHybIn.main_arg3)
      ∧ r.2.mem ((c.tc : Thread Cert.AdamHybIn.nD Cert.AdamHybIn.τ).loc Cert.AdamHybIn.main_arg4) = m ((c.tc : Thread Cert.AdamHybIn.nD Cert.AdamHybIn.τ).loc Cert.AdamHybIn.main_arg4))
      ∧ r.2.sem = fun _ => 0)

def quiescent_AdamHybInIdeal [hAdamHybInIdeal : Cert.AdamHybInIdeal.Facts] : Prop :=
  ∀ (m : (ℓ : Loc Cert.AdamHybInIdeal.nD Cert.AdamHybInIdeal.τ Cert.AdamHybInIdeal.sig) → Buf (Elt Ideal) ℓ) (g : Dev Cert.AdamHybInIdeal.nD → PrngReg), Pre_AdamHybInIdeal m →
    θ_run (Cert.AdamHybInIdeal.defs (F := Ideal)) (onTc (τ := Cert.AdamHybInIdeal.τ) (Cert.AdamHybInIdeal.main (F := Ideal))) ⟨m, fun _ => 0, g⟩ (fun r => (∀ c : Dev Cert.AdamHybInIdeal.nD,
      r.2.mem ((c.tc : Thread Cert.AdamHybInIdeal.nD Cert.AdamHybInIdeal.τ).loc Cert.AdamHybInIdeal.main_arg0) = m ((c.tc : Thread Cert.AdamHybInIdeal.nD Cert.AdamHybInIdeal.τ).loc Cert.AdamHybInIdeal.main_arg0)
      ∧ r.2.mem ((c.tc : Thread Cert.AdamHybInIdeal.nD Cert.AdamHybInIdeal.τ).loc Cert.AdamHybInIdeal.main_arg1) = m ((c.tc : Thread Cert.AdamHybInIdeal.nD Cert.AdamHybInIdeal.τ).loc Cert.AdamHybInIdeal.main_arg1)
      ∧ r.2.mem ((c.tc : Thread Cert.AdamHybInIdeal.nD Cert.AdamHybInIdeal.τ).loc Cert.AdamHybInIdeal.main_arg2) = m ((c.tc : Thread Cert.AdamHybInIdeal.nD Cert.AdamHybInIdeal.τ).loc Cert.AdamHybInIdeal.main_arg2)
      ∧ r.2.mem ((c.tc : Thread Cert.AdamHybInIdeal.nD Cert.AdamHybInIdeal.τ).loc Cert.AdamHybInIdeal.main_arg3) = m ((c.tc : Thread Cert.AdamHybInIdeal.nD Cert.AdamHybInIdeal.τ).loc Cert.AdamHybInIdeal.main_arg3)
      ∧ r.2.mem ((c.tc : Thread Cert.AdamHybInIdeal.nD Cert.AdamHybInIdeal.τ).loc Cert.AdamHybInIdeal.main_arg4) = m ((c.tc : Thread Cert.AdamHybInIdeal.nD Cert.AdamHybInIdeal.τ).loc Cert.AdamHybInIdeal.main_arg4))
      ∧ r.2.sem = fun _ => 0)

def quiescent_RefAdamHybInIdeal [hRefAdamHybInIdeal : Cert.RefAdamHybInIdeal.Facts] : Prop :=
  ∀ (m : (ℓ : Loc Cert.RefAdamHybInIdeal.nD Cert.RefAdamHybInIdeal.τ Cert.RefAdamHybInIdeal.sig) → Buf (Elt Ideal) ℓ) (g : Dev Cert.RefAdamHybInIdeal.nD → PrngReg), Pre_RefAdamHybInIdeal m →
    θ_run (Cert.RefAdamHybInIdeal.defs (F := Ideal)) (onTc (τ := Cert.RefAdamHybInIdeal.τ) (Cert.RefAdamHybInIdeal.main (F := Ideal))) ⟨m, fun _ => 0, g⟩ (fun r => (∀ c : Dev Cert.RefAdamHybInIdeal.nD,
      r.2.mem ((c.tc : Thread Cert.RefAdamHybInIdeal.nD Cert.RefAdamHybInIdeal.τ).loc Cert.RefAdamHybInIdeal.main_arg0) = m ((c.tc : Thread Cert.RefAdamHybInIdeal.nD Cert.RefAdamHybInIdeal.τ).loc Cert.RefAdamHybInIdeal.main_arg0)
      ∧ r.2.mem ((c.tc : Thread Cert.RefAdamHybInIdeal.nD Cert.RefAdamHybInIdeal.τ).loc Cert.RefAdamHybInIdeal.main_arg1) = m ((c.tc : Thread Cert.RefAdamHybInIdeal.nD Cert.RefAdamHybInIdeal.τ).loc Cert.RefAdamHybInIdeal.main_arg1)
      ∧ r.2.mem ((c.tc : Thread Cert.RefAdamHybInIdeal.nD Cert.RefAdamHybInIdeal.τ).loc Cert.RefAdamHybInIdeal.main_arg2) = m ((c.tc : Thread Cert.RefAdamHybInIdeal.nD Cert.RefAdamHybInIdeal.τ).loc Cert.RefAdamHybInIdeal.main_arg2)
      ∧ r.2.mem ((c.tc : Thread Cert.RefAdamHybInIdeal.nD Cert.RefAdamHybInIdeal.τ).loc Cert.RefAdamHybInIdeal.main_arg3) = m ((c.tc : Thread Cert.RefAdamHybInIdeal.nD Cert.RefAdamHybInIdeal.τ).loc Cert.RefAdamHybInIdeal.main_arg3)
      ∧ r.2.mem ((c.tc : Thread Cert.RefAdamHybInIdeal.nD Cert.RefAdamHybInIdeal.τ).loc Cert.RefAdamHybInIdeal.main_arg4) = m ((c.tc : Thread Cert.RefAdamHybInIdeal.nD Cert.RefAdamHybInIdeal.τ).loc Cert.RefAdamHybInIdeal.main_arg4))
      ∧ r.2.sem = fun _ => 0)

def quiescent_AdamHybOut [hAdamHybOut : Cert.AdamHybOut.Facts] : Prop :=
  ∀ (m : (ℓ : Loc Cert.AdamHybOut.nD Cert.AdamHybOut.τ Cert.AdamHybOut.sig) → Buf (Elt Bits) ℓ) (g : Dev Cert.AdamHybOut.nD → PrngReg), Pre_AdamHybOut m →
    θ_run (Cert.AdamHybOut.defs (F := Bits)) (onTc (τ := Cert.AdamHybOut.τ) (Cert.AdamHybOut.main (F := Bits))) ⟨m, fun _ => 0, g⟩ (fun r => (∀ c : Dev Cert.AdamHybOut.nD,
      r.2.mem ((c.tc : Thread Cert.AdamHybOut.nD Cert.AdamHybOut.τ).loc Cert.AdamHybOut.main_arg0) = m ((c.tc : Thread Cert.AdamHybOut.nD Cert.AdamHybOut.τ).loc Cert.AdamHybOut.main_arg0)
      ∧ r.2.mem ((c.tc : Thread Cert.AdamHybOut.nD Cert.AdamHybOut.τ).loc Cert.AdamHybOut.main_arg1) = m ((c.tc : Thread Cert.AdamHybOut.nD Cert.AdamHybOut.τ).loc Cert.AdamHybOut.main_arg1)
      ∧ r.2.mem ((c.tc : Thread Cert.AdamHybOut.nD Cert.AdamHybOut.τ).loc Cert.AdamHybOut.main_arg2) = m ((c.tc : Thread Cert.AdamHybOut.nD Cert.AdamHybOut.τ).loc Cert.AdamHybOut.main_arg2)
      ∧ r.2.mem ((c.tc : Thread Cert.AdamHybOut.nD Cert.AdamHybOut.τ).loc Cert.AdamHybOut.main_arg3) = m ((c.tc : Thread Cert.AdamHybOut.nD Cert.AdamHybOut.τ).loc Cert.AdamHybOut.main_arg3)
      ∧ r.2.mem ((c.tc : Thread Cert.AdamHybOut.nD Cert.AdamHybOut.τ).loc Cert.AdamHybOut.main_arg4) = m ((c.tc : Thread Cert.AdamHybOut.nD Cert.AdamHybOut.τ).loc Cert.AdamHybOut.main_arg4))
      ∧ r.2.sem = fun _ => 0)

def quiescent_AdamHybOutIdeal [hAdamHybOutIdeal : Cert.AdamHybOutIdeal.Facts] : Prop :=
  ∀ (m : (ℓ : Loc Cert.AdamHybOutIdeal.nD Cert.AdamHybOutIdeal.τ Cert.AdamHybOutIdeal.sig) → Buf (Elt Ideal) ℓ) (g : Dev Cert.AdamHybOutIdeal.nD → PrngReg), Pre_AdamHybOutIdeal m →
    θ_run (Cert.AdamHybOutIdeal.defs (F := Ideal)) (onTc (τ := Cert.AdamHybOutIdeal.τ) (Cert.AdamHybOutIdeal.main (F := Ideal))) ⟨m, fun _ => 0, g⟩ (fun r => (∀ c : Dev Cert.AdamHybOutIdeal.nD,
      r.2.mem ((c.tc : Thread Cert.AdamHybOutIdeal.nD Cert.AdamHybOutIdeal.τ).loc Cert.AdamHybOutIdeal.main_arg0) = m ((c.tc : Thread Cert.AdamHybOutIdeal.nD Cert.AdamHybOutIdeal.τ).loc Cert.AdamHybOutIdeal.main_arg0)
      ∧ r.2.mem ((c.tc : Thread Cert.AdamHybOutIdeal.nD Cert.AdamHybOutIdeal.τ).loc Cert.AdamHybOutIdeal.main_arg1) = m ((c.tc : Thread Cert.AdamHybOutIdeal.nD Cert.AdamHybOutIdeal.τ).loc Cert.AdamHybOutIdeal.main_arg1)
      ∧ r.2.mem ((c.tc : Thread Cert.AdamHybOutIdeal.nD Cert.AdamHybOutIdeal.τ).loc Cert.AdamHybOutIdeal.main_arg2) = m ((c.tc : Thread Cert.AdamHybOutIdeal.nD Cert.AdamHybOutIdeal.τ).loc Cert.AdamHybOutIdeal.main_arg2)
      ∧ r.2.mem ((c.tc : Thread Cert.AdamHybOutIdeal.nD Cert.AdamHybOutIdeal.τ).loc Cert.AdamHybOutIdeal.main_arg3) = m ((c.tc : Thread Cert.AdamHybOutIdeal.nD Cert.AdamHybOutIdeal.τ).loc Cert.AdamHybOutIdeal.main_arg3)
      ∧ r.2.mem ((c.tc : Thread Cert.AdamHybOutIdeal.nD Cert.AdamHybOutIdeal.τ).loc Cert.AdamHybOutIdeal.main_arg4) = m ((c.tc : Thread Cert.AdamHybOutIdeal.nD Cert.AdamHybOutIdeal.τ).loc Cert.AdamHybOutIdeal.main_arg4))
      ∧ r.2.sem = fun _ => 0)

def quiescent_RefAdamHybOutIdeal [hRefAdamHybOutIdeal : Cert.RefAdamHybOutIdeal.Facts] : Prop :=
  ∀ (m : (ℓ : Loc Cert.RefAdamHybOutIdeal.nD Cert.RefAdamHybOutIdeal.τ Cert.RefAdamHybOutIdeal.sig) → Buf (Elt Ideal) ℓ) (g : Dev Cert.RefAdamHybOutIdeal.nD → PrngReg), Pre_RefAdamHybOutIdeal m →
    θ_run (Cert.RefAdamHybOutIdeal.defs (F := Ideal)) (onTc (τ := Cert.RefAdamHybOutIdeal.τ) (Cert.RefAdamHybOutIdeal.main (F := Ideal))) ⟨m, fun _ => 0, g⟩ (fun r => (∀ c : Dev Cert.RefAdamHybOutIdeal.nD,
      r.2.mem ((c.tc : Thread Cert.RefAdamHybOutIdeal.nD Cert.RefAdamHybOutIdeal.τ).loc Cert.RefAdamHybOutIdeal.main_arg0) = m ((c.tc : Thread Cert.RefAdamHybOutIdeal.nD Cert.RefAdamHybOutIdeal.τ).loc Cert.RefAdamHybOutIdeal.main_arg0)
      ∧ r.2.mem ((c.tc : Thread Cert.RefAdamHybOutIdeal.nD Cert.RefAdamHybOutIdeal.τ).loc Cert.RefAdamHybOutIdeal.main_arg1) = m ((c.tc : Thread Cert.RefAdamHybOutIdeal.nD Cert.RefAdamHybOutIdeal.τ).loc Cert.RefAdamHybOutIdeal.main_arg1)
      ∧ r.2.mem ((c.tc : Thread Cert.RefAdamHybOutIdeal.nD Cert.RefAdamHybOutIdeal.τ).loc Cert.RefAdamHybOutIdeal.main_arg2) = m ((c.tc : Thread Cert.RefAdamHybOutIdeal.nD Cert.RefAdamHybOutIdeal.τ).loc Cert.RefAdamHybOutIdeal.main_arg2)
      ∧ r.2.mem ((c.tc : Thread Cert.RefAdamHybOutIdeal.nD Cert.RefAdamHybOutIdeal.τ).loc Cert.RefAdamHybOutIdeal.main_arg3) = m ((c.tc : Thread Cert.RefAdamHybOutIdeal.nD Cert.RefAdamHybOutIdeal.τ).loc Cert.RefAdamHybOutIdeal.main_arg3)
      ∧ r.2.mem ((c.tc : Thread Cert.RefAdamHybOutIdeal.nD Cert.RefAdamHybOutIdeal.τ).loc Cert.RefAdamHybOutIdeal.main_arg4) = m ((c.tc : Thread Cert.RefAdamHybOutIdeal.nD Cert.RefAdamHybOutIdeal.τ).loc Cert.RefAdamHybOutIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Dwout_DwoutIdeal : Prop :=
  True

def algebraic_DwoutIdeal_RefDwoutIdeal [hDwoutIdeal : Cert.DwoutIdeal.Facts] [hRefDwoutIdeal : Cert.RefDwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.RefDwoutIdeal.nD Cert.RefDwoutIdeal.τ Cert.RefDwoutIdeal.sig) → Buf (Elt Ideal) ℓ) (g' : Dev Cert.RefDwoutIdeal.nD → PrngReg), Pre_DwoutIdeal m →
    (∀ c : Dev Cert.DwoutIdeal.nD,
      m' ((c.tc : Thread Cert.RefDwoutIdeal.nD Cert.RefDwoutIdeal.τ).loc Cert.RefDwoutIdeal.main_arg0) = m ((c.tc : Thread Cert.DwoutIdeal.nD Cert.DwoutIdeal.τ).loc Cert.DwoutIdeal.main_arg0)
      ∧ m' ((c.tc : Thread Cert.RefDwoutIdeal.nD Cert.RefDwoutIdeal.τ).loc Cert.RefDwoutIdeal.main_arg1) = m ((c.tc : Thread Cert.DwoutIdeal.nD Cert.DwoutIdeal.τ).loc Cert.DwoutIdeal.main_arg1)
      ∧ m' ((c.tc : Thread Cert.RefDwoutIdeal.nD Cert.RefDwoutIdeal.τ).loc Cert.RefDwoutIdeal.main_arg2) = m ((c.tc : Thread Cert.DwoutIdeal.nD Cert.DwoutIdeal.τ).loc Cert.DwoutIdeal.main_arg2)) →
    ∃ (v0 : (c : Dev Cert.DwoutIdeal.nD) → Buf (Elt Ideal) ((c.tc : Thread Cert.DwoutIdeal.nD Cert.DwoutIdeal.τ).loc Cert.DwoutIdeal.main_v11)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v11) = v0 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1)
          ∧ r.2.mem ((c.tc : Thread Cert.DwoutIdeal.nD Cert.DwoutIdeal.τ).loc Cert.DwoutIdeal.main_arg2) = m ((c.tc : Thread Cert.DwoutIdeal.nD Cert.DwoutIdeal.τ).loc Cert.DwoutIdeal.main_arg2))
      ∧ θ_run (Cert.RefDwoutIdeal.defs (F := Ideal)) (onTc (τ := Cert.RefDwoutIdeal.τ) (Cert.RefDwoutIdeal.main (F := Ideal))) ⟨m', fun _ => 0, g'⟩ (fun r => ∀ c : Dev Cert.RefDwoutIdeal.nD,
          r.2.mem ((c.tc : Thread Cert.RefDwoutIdeal.nD Cert.RefDwoutIdeal.τ).loc Cert.RefDwoutIdeal.main_v12) = v0 c
          ∧ r.2.mem ((c.tc : Thread Cert.RefDwoutIdeal.nD Cert.RefDwoutIdeal.τ).loc Cert.RefDwoutIdeal.main_arg0) = m' ((c.tc : Thread Cert.RefDwoutIdeal.nD Cert.RefDwoutIdeal.τ).loc Cert.RefDwoutIdeal.main_arg0)
          ∧ r.2.mem ((c.tc : Thread Cert.RefDwoutIdeal.nD Cert.RefDwoutIdeal.τ).loc Cert.RefDwoutIdeal.main_arg1) = m' ((c.tc : Thread Cert.RefDwoutIdeal.nD Cert.RefDwoutIdeal.τ).loc Cert.RefDwoutIdeal.main_arg1)
          ∧ r.2.mem ((c.tc : Thread Cert.RefDwoutIdeal.nD Cert.RefDwoutIdeal.τ).loc Cert.RefDwoutIdeal.main_arg2) = m' ((c.tc : Thread Cert.RefDwoutIdeal.nD Cert.RefDwoutIdeal.τ).loc Cert.RefDwoutIdeal.main_arg2))

def preserves_Dwin_DwinIdeal : Prop :=
  True

def algebraic_DwinIdeal_RefDwinIdeal [hDwinIdeal : Cert.DwinIdeal.Facts] [hRefDwinIdeal : Cert.RefDwinIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.RefDwinIdeal.nD Cert.RefDwinIdeal.τ Cert.RefDwinIdeal.sig) → Buf (Elt Ideal) ℓ) (g' : Dev Cert.RefDwinIdeal.nD → PrngReg), Pre_DwinIdeal m →
    (∀ c : Dev Cert.DwinIdeal.nD,
      m' ((c.tc : Thread Cert.RefDwinIdeal.nD Cert.RefDwinIdeal.τ).loc Cert.RefDwinIdeal.main_arg0) = m ((c.tc : Thread Cert.DwinIdeal.nD Cert.DwinIdeal.τ).loc Cert.DwinIdeal.main_arg0)
      ∧ m' ((c.tc : Thread Cert.RefDwinIdeal.nD Cert.RefDwinIdeal.τ).loc Cert.RefDwinIdeal.main_arg1) = m ((c.tc : Thread Cert.DwinIdeal.nD Cert.DwinIdeal.τ).loc Cert.DwinIdeal.main_arg1)) →
    ∃ (v0 : (c : Dev Cert.DwinIdeal.nD) → Buf (Elt Ideal) ((c.tc : Thread Cert.DwinIdeal.nD Cert.DwinIdeal.τ).loc Cert.DwinIdeal.main_v0)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v0) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ θ_run (Cert.RefDwinIdeal.defs (F := Ideal)) (onTc (τ := Cert.RefDwinIdeal.τ) (Cert.RefDwinIdeal.main (F := Ideal))) ⟨m', fun _ => 0, g'⟩ (fun r => ∀ c : Dev Cert.RefDwinIdeal.nD,
          r.2.mem ((c.tc : Thread Cert.RefDwinIdeal.nD Cert.RefDwinIdeal.τ).loc Cert.RefDwinIdeal.main_v16) = v0 c
          ∧ r.2.mem ((c.tc : Thread Cert.RefDwinIdeal.nD Cert.RefDwinIdeal.τ).loc Cert.RefDwinIdeal.main_arg0) = m' ((c.tc : Thread Cert.RefDwinIdeal.nD Cert.RefDwinIdeal.τ).loc Cert.RefDwinIdeal.main_arg0)
          ∧ r.2.mem ((c.tc : Thread Cert.RefDwinIdeal.nD Cert.RefDwinIdeal.τ).loc Cert.RefDwinIdeal.main_arg1) = m' ((c.tc : Thread Cert.RefDwinIdeal.nD Cert.RefDwinIdeal.τ).loc Cert.RefDwinIdeal.main_arg1))

def preserves_Dact_DactIdeal : Prop :=
  True

def algebraic_DactIdeal_RefDactIdeal_pre_finite_dact [hDactIdeal : Cert.DactIdeal.Facts] [hRefDactIdeal : Cert.RefDactIdeal.Facts] [hPre_finite_dact : Cert.Pre_finite_dact.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.RefDactIdeal.nD Cert.RefDactIdeal.τ Cert.RefDactIdeal.sig) → Buf (Elt Ideal) ℓ) (g' : Dev Cert.RefDactIdeal.nD → PrngReg), Pre_DactIdeal_finite_dact m →
    (∀ c : Dev Cert.DactIdeal.nD,
      m' ((c.tc : Thread Cert.RefDactIdeal.nD Cert.RefDactIdeal.τ).loc Cert.RefDactIdeal.main_arg0) = m ((c.tc : Thread Cert.DactIdeal.nD Cert.DactIdeal.τ).loc Cert.DactIdeal.main_arg0)
      ∧ m' ((c.tc : Thread Cert.RefDactIdeal.nD Cert.RefDactIdeal.τ).loc Cert.RefDactIdeal.main_arg1) = m ((c.tc : Thread Cert.DactIdeal.nD Cert.DactIdeal.τ).loc Cert.DactIdeal.main_arg1)
      ∧ m' ((c.tc : Thread Cert.RefDactIdeal.nD Cert.RefDactIdeal.τ).loc Cert.RefDactIdeal.main_arg2) = m ((c.tc : Thread Cert.DactIdeal.nD Cert.DactIdeal.τ).loc Cert.DactIdeal.main_arg2)
      ∧ m' ((c.tc : Thread Cert.RefDactIdeal.nD Cert.RefDactIdeal.τ).loc Cert.RefDactIdeal.main_arg3) = m ((c.tc : Thread Cert.DactIdeal.nD Cert.DactIdeal.τ).loc Cert.DactIdeal.main_arg3)) →
    ∃ (v0 : (c : Dev Cert.DactIdeal.nD) → Buf (Elt Ideal) ((c.tc : Thread Cert.DactIdeal.nD Cert.DactIdeal.τ).loc Cert.DactIdeal.main_v0)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
          ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ θ_run (Cert.RefDactIdeal.defs (F := Ideal)) (onTc (τ := Cert.RefDactIdeal.τ) (Cert.RefDactIdeal.main (F := Ideal))) ⟨m', fun _ => 0, g'⟩ (fun r => ∀ c : Dev Cert.RefDactIdeal.nD,
          r.2.mem ((c.tc : Thread Cert.RefDactIdeal.nD Cert.RefDactIdeal.τ).loc Cert.RefDactIdeal.main_v19) = v0 c
          ∧ r.2.mem ((c.tc : Thread Cert.RefDactIdeal.nD Cert.RefDactIdeal.τ).loc Cert.RefDactIdeal.main_arg0) = m' ((c.tc : Thread Cert.RefDactIdeal.nD Cert.RefDactIdeal.τ).loc Cert.RefDactIdeal.main_arg0)
          ∧ r.2.mem ((c.tc : Thread Cert.RefDactIdeal.nD Cert.RefDactIdeal.τ).loc Cert.RefDactIdeal.main_arg1) = m' ((c.tc : Thread Cert.RefDactIdeal.nD Cert.RefDactIdeal.τ).loc Cert.RefDactIdeal.main_arg1)
          ∧ r.2.mem ((c.tc : Thread Cert.RefDactIdeal.nD Cert.RefDactIdeal.τ).loc Cert.RefDactIdeal.main_arg2) = m' ((c.tc : Thread Cert.RefDactIdeal.nD Cert.RefDactIdeal.τ).loc Cert.RefDactIdeal.main_arg2)
          ∧ r.2.mem ((c.tc : Thread Cert.RefDactIdeal.nD Cert.RefDactIdeal.τ).loc Cert.RefDactIdeal.main_arg3) = m' ((c.tc : Thread Cert.RefDactIdeal.nD Cert.RefDactIdeal.τ).loc Cert.RefDactIdeal.main_arg3))

def preserves_Dxn_DxnIdeal : Prop :=
  True

def algebraic_DxnIdeal_RefDxnIdeal [hDxnIdeal : Cert.DxnIdeal.Facts] [hRefDxnIdeal : Cert.RefDxnIdeal.Facts] : Prop :=
  ∀ (m : (ℓ : Loc Cert.DxnIdeal.nD Cert.DxnIdeal.τ Cert.DxnIdeal.sig) → Buf (Elt Ideal) ℓ) (g : Dev Cert.DxnIdeal.nD → PrngReg)
    (m' : (ℓ : Loc Cert.RefDxnIdeal.nD Cert.RefDxnIdeal.τ Cert.RefDxnIdeal.sig) → Buf (Elt Ideal) ℓ) (g' : Dev Cert.RefDxnIdeal.nD → PrngReg), Pre_DxnIdeal m →
    (∀ c : Dev Cert.DxnIdeal.nD,
      m' ((c.tc : Thread Cert.RefDxnIdeal.nD Cert.RefDxnIdeal.τ).loc Cert.RefDxnIdeal.main_arg0) = m ((c.tc : Thread Cert.DxnIdeal.nD Cert.DxnIdeal.τ).loc Cert.DxnIdeal.main_arg0)
      ∧ m' ((c.tc : Thread Cert.RefDxnIdeal.nD Cert.RefDxnIdeal.τ).loc Cert.RefDxnIdeal.main_arg1) = m ((c.tc : Thread Cert.DxnIdeal.nD Cert.DxnIdeal.τ).loc Cert.DxnIdeal.main_arg1)
      ∧ m' ((c.tc : Thread Cert.RefDxnIdeal.nD Cert.RefDxnIdeal.τ).loc Cert.RefDxnIdeal.main_arg2) = m ((c.tc : Thread Cert.DxnIdeal.nD Cert.DxnIdeal.τ).loc Cert.DxnIdeal.main_arg2)
      ∧ m' ((c.tc : Thread Cert.RefDxnIdeal.nD Cert.RefDxnIdeal.τ).loc Cert.RefDxnIdeal.main_arg3) = m ((c.tc : Thread Cert.DxnIdeal.nD Cert.DxnIdeal.τ).loc Cert.DxnIdeal.main_arg3)
      ∧ m' ((c.tc : Thread Cert.RefDxnIdeal.nD Cert.RefDxnIdeal.τ).loc Cert.RefDxnIdeal.main_arg4) = m ((c.tc : Thread Cert.DxnIdeal.nD Cert.DxnIdeal.τ).loc Cert.DxnIdeal.main_arg4)) →
    ∃ (v0 : (c : Dev Cert.DxnIdeal.nD) → Buf (Elt Ideal) ((c.tc : Thread Cert.DxnIdeal.nD Cert.DxnIdeal.τ).loc Cert.DxnIdeal.main_v0_0)) (v1 : (c : Dev Cert.DxnIdeal.nD) → Buf (Elt Ideal) ((c.tc : Thread Cert.DxnIdeal.nD Cert.DxnIdeal.τ).loc Cert.DxnIdeal.main_v0_1)),
      θ_run (Cert.DxnIdeal.defs (F := Ideal)) (onTc (τ := Cert.DxnIdeal.τ) (Cert.DxnIdeal.main (F := Ideal))) ⟨m, fun _ => 0, g⟩ (fun r => ∀ c : Dev Cert.DxnIdeal.nD,
          r.2.mem ((c.tc : Thread Cert.DxnIdeal.nD Cert.DxnIdeal.τ).loc Cert.DxnIdeal.main_v0_0) = v0 c
          ∧ r.2.mem ((c.tc : Thread Cert.DxnIdeal.nD Cert.DxnIdeal.τ).loc Cert.DxnIdeal.main_v0_1) = v1 c
          ∧ r.2.mem ((c.tc : Thread Cert.DxnIdeal.nD Cert.DxnIdeal.τ).loc Cert.DxnIdeal.main_arg0) = m ((c.tc : Thread Cert.DxnIdeal.nD Cert.DxnIdeal.τ).loc Cert.DxnIdeal.main_arg0)
          ∧ r.2.mem ((c.tc : Thread Cert.DxnIdeal.nD Cert.DxnIdeal.τ).loc Cert.DxnIdeal.main_arg1) = m ((c.tc : Thread Cert.DxnIdeal.nD Cert.DxnIdeal.τ).loc Cert.DxnIdeal.main_arg1)
          ∧ r.2.mem ((c.tc : Thread Cert.DxnIdeal.nD Cert.DxnIdeal.τ).loc Cert.DxnIdeal.main_arg2) = m ((c.tc : Thread Cert.DxnIdeal.nD Cert.DxnIdeal.τ).loc Cert.DxnIdeal.main_arg2)
          ∧ r.2.mem ((c.tc : Thread Cert.DxnIdeal.nD Cert.DxnIdeal.τ).loc Cert.DxnIdeal.main_arg3) = m ((c.tc : Thread Cert.DxnIdeal.nD Cert.DxnIdeal.τ).loc Cert.DxnIdeal.main_arg3)
          ∧ r.2.mem ((c.tc : Thread Cert.DxnIdeal.nD Cert.DxnIdeal.τ).loc Cert.DxnIdeal.main_arg4) = m ((c.tc : Thread Cert.DxnIdeal.nD Cert.DxnIdeal.τ).loc Cert.DxnIdeal.main_arg4))
      ∧ θ_run (Cert.RefDxnIdeal.defs (F := Ideal)) (onTc (τ := Cert.RefDxnIdeal.τ) (Cert.RefDxnIdeal.main (F := Ideal))) ⟨m', fun _ => 0, g'⟩ (fun r => ∀ c : Dev Cert.RefDxnIdeal.nD,
          r.2.mem ((c.tc : Thread Cert.RefDxnIdeal.nD Cert.RefDxnIdeal.τ).loc Cert.RefDxnIdeal.main_v50) = v0 c
          ∧ r.2.mem ((c.tc : Thread Cert.RefDxnIdeal.nD Cert.RefDxnIdeal.τ).loc Cert.RefDxnIdeal.main_v33) = v1 c
          ∧ r.2.mem ((c.tc : Thread Cert.RefDxnIdeal.nD Cert.RefDxnIdeal.τ).loc Cert.RefDxnIdeal.main_arg0) = m' ((c.tc : Thread Cert.RefDxnIdeal.nD Cert.RefDxnIdeal.τ).loc Cert.RefDxnIdeal.main_arg0)
          ∧ r.2.mem ((c.tc : Thread Cert.RefDxnIdeal.nD Cert.RefDxnIdeal.τ).loc Cert.RefDxnIdeal.main_arg1) = m' ((c.tc : Thread Cert.RefDxnIdeal.nD Cert.RefDxnIdeal.τ).loc Cert.RefDxnIdeal.main_arg1)
          ∧ r.2.mem ((c.tc : Thread Cert.RefDxnIdeal.nD Cert.RefDxnIdeal.τ).loc Cert.RefDxnIdeal.main_arg2) = m' ((c.tc : Thread Cert.RefDxnIdeal.nD Cert.RefDxnIdeal.τ).loc Cert.RefDxnIdeal.main_arg2)
          ∧ r.2.mem ((c.tc : Thread Cert.RefDxnIdeal.nD Cert.RefDxnIdeal.τ).loc Cert.RefDxnIdeal.main_arg3) = m' ((c.tc : Thread Cert.RefDxnIdeal.nD Cert.RefDxnIdeal.τ).loc Cert.RefDxnIdeal.main_arg3)
          ∧ r.2.mem ((c.tc : Thread Cert.RefDxnIdeal.nD Cert.RefDxnIdeal.τ).loc Cert.RefDxnIdeal.main_arg4) = m' ((c.tc : Thread Cert.RefDxnIdeal.nD Cert.RefDxnIdeal.τ).loc Cert.RefDxnIdeal.main_arg4))

def preserves_Up_UpIdeal : Prop :=
  True

def algebraic_UpIdeal_RefUpIdeal [hUpIdeal : Cert.UpIdeal.Facts] [hRefUpIdeal : Cert.RefUpIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.RefUpIdeal.nD Cert.RefUpIdeal.τ Cert.RefUpIdeal.sig) → Buf (Elt Ideal) ℓ) (g' : Dev Cert.RefUpIdeal.nD → PrngReg), Pre_UpIdeal m →
    (∀ c : Dev Cert.UpIdeal.nD,
      m' ((c.tc : Thread Cert.RefUpIdeal.nD Cert.RefUpIdeal.τ).loc Cert.RefUpIdeal.main_arg0) = m ((c.tc : Thread Cert.UpIdeal.nD Cert.UpIdeal.τ).loc Cert.UpIdeal.main_arg0)
      ∧ m' ((c.tc : Thread Cert.RefUpIdeal.nD Cert.RefUpIdeal.τ).loc Cert.RefUpIdeal.main_arg1) = m ((c.tc : Thread Cert.UpIdeal.nD Cert.UpIdeal.τ).loc Cert.UpIdeal.main_arg1)
      ∧ m' ((c.tc : Thread Cert.RefUpIdeal.nD Cert.RefUpIdeal.τ).loc Cert.RefUpIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)) (v3 : (c : Dev Cert.UpIdeal.nD) → Buf (Elt Ideal) ((c.tc : Thread Cert.UpIdeal.nD Cert.UpIdeal.τ).loc Cert.UpIdeal.main_v0_3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_v0_3) = v3 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.RefUpIdeal.defs (F := Ideal)) (onTc (τ := Cert.RefUpIdeal.τ) (Cert.RefUpIdeal.main (F := Ideal))) ⟨m', fun _ => 0, g'⟩ (fun r => ∀ c : Dev Cert.RefUpIdeal.nD,
          r.2.mem ((c.tc : Thread Cert.RefUpIdeal.nD Cert.RefUpIdeal.τ).loc Cert.RefUpIdeal.main_v22) = v0 c
          ∧ r.2.mem ((c.tc : Thread Cert.RefUpIdeal.nD Cert.RefUpIdeal.τ).loc Cert.RefUpIdeal.main_v23) = v1 c
          ∧ r.2.mem ((c.tc : Thread Cert.RefUpIdeal.nD Cert.RefUpIdeal.τ).loc Cert.RefUpIdeal.main_v24) = v2 c
          ∧ r.2.mem ((c.tc : Thread Cert.RefUpIdeal.nD Cert.RefUpIdeal.τ).loc Cert.RefUpIdeal.main_v25) = v3 c
          ∧ r.2.mem ((c.tc : Thread Cert.RefUpIdeal.nD Cert.RefUpIdeal.τ).loc Cert.RefUpIdeal.main_arg0) = m' ((c.tc : Thread Cert.RefUpIdeal.nD Cert.RefUpIdeal.τ).loc Cert.RefUpIdeal.main_arg0)
          ∧ r.2.mem ((c.tc : Thread Cert.RefUpIdeal.nD Cert.RefUpIdeal.τ).loc Cert.RefUpIdeal.main_arg1) = m' ((c.tc : Thread Cert.RefUpIdeal.nD Cert.RefUpIdeal.τ).loc Cert.RefUpIdeal.main_arg1)
          ∧ r.2.mem ((c.tc : Thread Cert.RefUpIdeal.nD Cert.RefUpIdeal.τ).loc Cert.RefUpIdeal.main_arg2) = m' ((c.tc : Thread Cert.RefUpIdeal.nD Cert.RefUpIdeal.τ).loc Cert.RefUpIdeal.main_arg2))

def preserves_Down_DownIdeal : Prop :=
  True

def algebraic_DownIdeal_RefDownIdeal [hDownIdeal : Cert.DownIdeal.Facts] [hRefDownIdeal : Cert.RefDownIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_DownIdeal m →
    (∀ c : Dev Cert.DownIdeal.nD,
      m' ((c.tc : Thread Cert.RefDownIdeal.nD Cert.RefDownIdeal.τ).loc Cert.RefDownIdeal.main_arg0) = m ((c.tc : Thread Cert.DownIdeal.nD Cert.DownIdeal.τ).loc Cert.DownIdeal.main_arg0)
      ∧ m' ((c.tc : Thread Cert.RefDownIdeal.nD Cert.RefDownIdeal.τ).loc Cert.RefDownIdeal.main_arg1) = m ((c.tc : Thread Cert.DownIdeal.nD Cert.DownIdeal.τ).loc Cert.DownIdeal.main_arg1)
      ∧ m' ((c.tc : Thread Cert.RefDownIdeal.nD Cert.RefDownIdeal.τ).loc Cert.RefDownIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v7) = v0 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1)
          ∧ r.2.mem ((c.tc : Thread Cert.RefDownIdeal.nD Cert.RefDownIdeal.τ).loc Cert.RefDownIdeal.main_arg2) = m' ((c.tc : Thread Cert.RefDownIdeal.nD Cert.RefDownIdeal.τ).loc Cert.RefDownIdeal.main_arg2))

def preserves_HybIn_HybInIdeal : Prop :=
  True

def algebraic_HybInIdeal_RefHybInIdeal [hHybInIdeal : Cert.HybInIdeal.Facts] [hRefHybInIdeal : Cert.RefHybInIdeal.Facts] : Prop :=
  ∀ (m : (ℓ : Loc Cert.HybInIdeal.nD Cert.HybInIdeal.τ Cert.HybInIdeal.sig) → Buf (Elt Ideal) ℓ) (g : Dev Cert.HybInIdeal.nD → PrngReg)
    (m' : (ℓ : Loc Cert.RefHybInIdeal.nD Cert.RefHybInIdeal.τ Cert.RefHybInIdeal.sig) → Buf (Elt Ideal) ℓ) (g' : Dev Cert.RefHybInIdeal.nD → PrngReg), Pre_HybInIdeal m →
    (∀ c : Dev Cert.HybInIdeal.nD,
      m' ((c.tc : Thread Cert.RefHybInIdeal.nD Cert.RefHybInIdeal.τ).loc Cert.RefHybInIdeal.main_arg0) = m ((c.tc : Thread Cert.HybInIdeal.nD Cert.HybInIdeal.τ).loc Cert.HybInIdeal.main_arg0)
      ∧ m' ((c.tc : Thread Cert.RefHybInIdeal.nD Cert.RefHybInIdeal.τ).loc Cert.RefHybInIdeal.main_arg1) = m ((c.tc : Thread Cert.HybInIdeal.nD Cert.HybInIdeal.τ).loc Cert.HybInIdeal.main_arg1)) →
    ∃ (v0 : (c : Dev Cert.HybInIdeal.nD) → Buf (Elt Ideal) ((c.tc : Thread Cert.HybInIdeal.nD Cert.HybInIdeal.τ).loc Cert.HybInIdeal.main_v0)),
      θ_run (Cert.HybInIdeal.defs (F := Ideal)) (onTc (τ := Cert.HybInIdeal.τ) (Cert.HybInIdeal.main (F := Ideal))) ⟨m, fun _ => 0, g⟩ (fun r => ∀ c : Dev Cert.HybInIdeal.nD,
          r.2.mem ((c.tc : Thread Cert.HybInIdeal.nD Cert.HybInIdeal.τ).loc Cert.HybInIdeal.main_v0) = v0 c
          ∧ r.2.mem ((c.tc : Thread Cert.HybInIdeal.nD Cert.HybInIdeal.τ).loc Cert.HybInIdeal.main_arg0) = m ((c.tc : Thread Cert.HybInIdeal.nD Cert.HybInIdeal.τ).loc Cert.HybInIdeal.main_arg0)
          ∧ r.2.mem ((c.tc : Thread Cert.HybInIdeal.nD Cert.HybInIdeal.τ).loc Cert.HybInIdeal.main_arg1) = m ((c.tc : Thread Cert.HybInIdeal.nD Cert.HybInIdeal.τ).loc Cert.HybInIdeal.main_arg1))
      ∧ θ_run (Cert.RefHybInIdeal.defs (F := Ideal)) (onTc (τ := Cert.RefHybInIdeal.τ) (Cert.RefHybInIdeal.main (F := Ideal))) ⟨m', fun _ => 0, g'⟩ (fun r => ∀ c : Dev Cert.RefHybInIdeal.nD,
          r.2.mem ((c.tc : Thread Cert.RefHybInIdeal.nD Cert.RefHybInIdeal.τ).loc Cert.RefHybInIdeal.main_v6) = v0 c
          ∧ r.2.mem ((c.tc : Thread Cert.RefHybInIdeal.nD Cert.RefHybInIdeal.τ).loc Cert.RefHybInIdeal.main_arg0) = m' ((c.tc : Thread Cert.RefHybInIdeal.nD Cert.RefHybInIdeal.τ).loc Cert.RefHybInIdeal.main_arg0)
          ∧ r.2.mem ((c.tc : Thread Cert.RefHybInIdeal.nD Cert.RefHybInIdeal.τ).loc Cert.RefHybInIdeal.main_arg1) = m' ((c.tc : Thread Cert.RefHybInIdeal.nD Cert.RefHybInIdeal.τ).loc Cert.RefHybInIdeal.main_arg1))

def preserves_HybDwin_HybDwinIdeal : Prop :=
  True

def algebraic_HybDwinIdeal_RefHybDwinIdeal [hHybDwinIdeal : Cert.HybDwinIdeal.Facts] [hRefHybDwinIdeal : Cert.RefHybDwinIdeal.Facts] : Prop :=
  ∀ (m : (ℓ : Loc Cert.HybDwinIdeal.nD Cert.HybDwinIdeal.τ Cert.HybDwinIdeal.sig) → Buf (Elt Ideal) ℓ) (g : Dev Cert.HybDwinIdeal.nD → PrngReg)
    (m' : (ℓ : Loc Cert.RefHybDwinIdeal.nD Cert.RefHybDwinIdeal.τ Cert.RefHybDwinIdeal.sig) → Buf (Elt Ideal) ℓ) (g' : Dev Cert.RefHybDwinIdeal.nD → PrngReg), Pre_HybDwinIdeal m →
    (∀ c : Dev Cert.HybDwinIdeal.nD,
      m' ((c.tc : Thread Cert.RefHybDwinIdeal.nD Cert.RefHybDwinIdeal.τ).loc Cert.RefHybDwinIdeal.main_arg0) = m ((c.tc : Thread Cert.HybDwinIdeal.nD Cert.HybDwinIdeal.τ).loc Cert.HybDwinIdeal.main_arg0)
      ∧ m' ((c.tc : Thread Cert.RefHybDwinIdeal.nD Cert.RefHybDwinIdeal.τ).loc Cert.RefHybDwinIdeal.main_arg1) = m ((c.tc : Thread Cert.HybDwinIdeal.nD Cert.HybDwinIdeal.τ).loc Cert.HybDwinIdeal.main_arg1)) →
    ∃ (v0 : (c : Dev Cert.HybDwinIdeal.nD) → Buf (Elt Ideal) ((c.tc : Thread Cert.HybDwinIdeal.nD Cert.HybDwinIdeal.τ).loc Cert.HybDwinIdeal.main_v0)),
      θ_run (Cert.HybDwinIdeal.defs (F := Ideal)) (onTc (τ := Cert.HybDwinIdeal.τ) (Cert.HybDwinIdeal.main (F := Ideal))) ⟨m, fun _ => 0, g⟩ (fun r => ∀ c : Dev Cert.HybDwinIdeal.nD,
          r.2.mem ((c.tc : Thread Cert.HybDwinIdeal.nD Cert.HybDwinIdeal.τ).loc Cert.HybDwinIdeal.main_v0) = v0 c
          ∧ r.2.mem ((c.tc : Thread Cert.HybDwinIdeal.nD Cert.HybDwinIdeal.τ).loc Cert.HybDwinIdeal.main_arg0) = m ((c.tc : Thread Cert.HybDwinIdeal.nD Cert.HybDwinIdeal.τ).loc Cert.HybDwinIdeal.main_arg0)
          ∧ r.2.mem ((c.tc : Thread Cert.HybDwinIdeal.nD Cert.HybDwinIdeal.τ).loc Cert.HybDwinIdeal.main_arg1) = m ((c.tc : Thread Cert.HybDwinIdeal.nD Cert.HybDwinIdeal.τ).loc Cert.HybDwinIdeal.main_arg1))
      ∧ θ_run (Cert.RefHybDwinIdeal.defs (F := Ideal)) (onTc (τ := Cert.RefHybDwinIdeal.τ) (Cert.RefHybDwinIdeal.main (F := Ideal))) ⟨m', fun _ => 0, g'⟩ (fun r => ∀ c : Dev Cert.RefHybDwinIdeal.nD,
          r.2.mem ((c.tc : Thread Cert.RefHybDwinIdeal.nD Cert.RefHybDwinIdeal.τ).loc Cert.RefHybDwinIdeal.main_v8) = v0 c
          ∧ r.2.mem ((c.tc : Thread Cert.RefHybDwinIdeal.nD Cert.RefHybDwinIdeal.τ).loc Cert.RefHybDwinIdeal.main_arg0) = m' ((c.tc : Thread Cert.RefHybDwinIdeal.nD Cert.RefHybDwinIdeal.τ).loc Cert.RefHybDwinIdeal.main_arg0)
          ∧ r.2.mem ((c.tc : Thread Cert.RefHybDwinIdeal.nD Cert.RefHybDwinIdeal.τ).loc Cert.RefHybDwinIdeal.main_arg1) = m' ((c.tc : Thread Cert.RefHybDwinIdeal.nD Cert.RefHybDwinIdeal.τ).loc Cert.RefHybDwinIdeal.main_arg1))

def preserves_HybDhn_HybDhnIdeal : Prop :=
  True

def algebraic_HybDhnIdeal_RefHybDhnIdeal [hHybDhnIdeal : Cert.HybDhnIdeal.Facts] [hRefHybDhnIdeal : Cert.RefHybDhnIdeal.Facts] : Prop :=
  ∀ (m : (ℓ : Loc Cert.HybDhnIdeal.nD Cert.HybDhnIdeal.τ Cert.HybDhnIdeal.sig) → Buf (Elt Ideal) ℓ) (g : Dev Cert.HybDhnIdeal.nD → PrngReg)
    (m' : (ℓ : Loc Cert.RefHybDhnIdeal.nD Cert.RefHybDhnIdeal.τ Cert.RefHybDhnIdeal.sig) → Buf (Elt Ideal) ℓ) (g' : Dev Cert.RefHybDhnIdeal.nD → PrngReg), Pre_HybDhnIdeal m →
    (∀ c : Dev Cert.HybDhnIdeal.nD,
      m' ((c.tc : Thread Cert.RefHybDhnIdeal.nD Cert.RefHybDhnIdeal.τ).loc Cert.RefHybDhnIdeal.main_arg0) = m ((c.tc : Thread Cert.HybDhnIdeal.nD Cert.HybDhnIdeal.τ).loc Cert.HybDhnIdeal.main_arg0)
      ∧ m' ((c.tc : Thread Cert.RefHybDhnIdeal.nD Cert.RefHybDhnIdeal.τ).loc Cert.RefHybDhnIdeal.main_arg1) = m ((c.tc : Thread Cert.HybDhnIdeal.nD Cert.HybDhnIdeal.τ).loc Cert.HybDhnIdeal.main_arg1)
      ∧ m' ((c.tc : Thread Cert.RefHybDhnIdeal.nD Cert.RefHybDhnIdeal.τ).loc Cert.RefHybDhnIdeal.main_arg2) = m ((c.tc : Thread Cert.HybDhnIdeal.nD Cert.HybDhnIdeal.τ).loc Cert.HybDhnIdeal.main_arg2)
      ∧ m' ((c.tc : Thread Cert.RefHybDhnIdeal.nD Cert.RefHybDhnIdeal.τ).loc Cert.RefHybDhnIdeal.main_arg3) = m ((c.tc : Thread Cert.HybDhnIdeal.nD Cert.HybDhnIdeal.τ).loc Cert.HybDhnIdeal.main_arg3)
      ∧ m' ((c.tc : Thread Cert.RefHybDhnIdeal.nD Cert.RefHybDhnIdeal.τ).loc Cert.RefHybDhnIdeal.main_arg4) = m ((c.tc : Thread Cert.HybDhnIdeal.nD Cert.HybDhnIdeal.τ).loc Cert.HybDhnIdeal.main_arg4)) →
    ∃ (v0 : (c : Dev Cert.HybDhnIdeal.nD) → Buf (Elt Ideal) ((c.tc : Thread Cert.HybDhnIdeal.nD Cert.HybDhnIdeal.τ).loc Cert.HybDhnIdeal.main_v0_0)) (v1 : (c : Dev Cert.HybDhnIdeal.nD) → Buf (Elt Ideal) ((c.tc : Thread Cert.HybDhnIdeal.nD Cert.HybDhnIdeal.τ).loc Cert.HybDhnIdeal.main_v0_1)),
      θ_run (Cert.HybDhnIdeal.defs (F := Ideal)) (onTc (τ := Cert.HybDhnIdeal.τ) (Cert.HybDhnIdeal.main (F := Ideal))) ⟨m, fun _ => 0, g⟩ (fun r => ∀ c : Dev Cert.HybDhnIdeal.nD,
          r.2.mem ((c.tc : Thread Cert.HybDhnIdeal.nD Cert.HybDhnIdeal.τ).loc Cert.HybDhnIdeal.main_v0_0) = v0 c
          ∧ r.2.mem ((c.tc : Thread Cert.HybDhnIdeal.nD Cert.HybDhnIdeal.τ).loc Cert.HybDhnIdeal.main_v0_1) = v1 c
          ∧ r.2.mem ((c.tc : Thread Cert.HybDhnIdeal.nD Cert.HybDhnIdeal.τ).loc Cert.HybDhnIdeal.main_arg0) = m ((c.tc : Thread Cert.HybDhnIdeal.nD Cert.HybDhnIdeal.τ).loc Cert.HybDhnIdeal.main_arg0)
          ∧ r.2.mem ((c.tc : Thread Cert.HybDhnIdeal.nD Cert.HybDhnIdeal.τ).loc Cert.HybDhnIdeal.main_arg1) = m ((c.tc : Thread Cert.HybDhnIdeal.nD Cert.HybDhnIdeal.τ).loc Cert.HybDhnIdeal.main_arg1)
          ∧ r.2.mem ((c.tc : Thread Cert.HybDhnIdeal.nD Cert.HybDhnIdeal.τ).loc Cert.HybDhnIdeal.main_arg2) = m ((c.tc : Thread Cert.HybDhnIdeal.nD Cert.HybDhnIdeal.τ).loc Cert.HybDhnIdeal.main_arg2)
          ∧ r.2.mem ((c.tc : Thread Cert.HybDhnIdeal.nD Cert.HybDhnIdeal.τ).loc Cert.HybDhnIdeal.main_arg3) = m ((c.tc : Thread Cert.HybDhnIdeal.nD Cert.HybDhnIdeal.τ).loc Cert.HybDhnIdeal.main_arg3)
          ∧ r.2.mem ((c.tc : Thread Cert.HybDhnIdeal.nD Cert.HybDhnIdeal.τ).loc Cert.HybDhnIdeal.main_arg4) = m ((c.tc : Thread Cert.HybDhnIdeal.nD Cert.HybDhnIdeal.τ).loc Cert.HybDhnIdeal.main_arg4))
      ∧ θ_run (Cert.RefHybDhnIdeal.defs (F := Ideal)) (onTc (τ := Cert.RefHybDhnIdeal.τ) (Cert.RefHybDhnIdeal.main (F := Ideal))) ⟨m', fun _ => 0, g'⟩ (fun r => ∀ c : Dev Cert.RefHybDhnIdeal.nD,
          r.2.mem ((c.tc : Thread Cert.RefHybDhnIdeal.nD Cert.RefHybDhnIdeal.τ).loc Cert.RefHybDhnIdeal.main_v42) = v0 c
          ∧ r.2.mem ((c.tc : Thread Cert.RefHybDhnIdeal.nD Cert.RefHybDhnIdeal.τ).loc Cert.RefHybDhnIdeal.main_v25) = v1 c
          ∧ r.2.mem ((c.tc : Thread Cert.RefHybDhnIdeal.nD Cert.RefHybDhnIdeal.τ).loc Cert.RefHybDhnIdeal.main_arg0) = m' ((c.tc : Thread Cert.RefHybDhnIdeal.nD Cert.RefHybDhnIdeal.τ).loc Cert.RefHybDhnIdeal.main_arg0)
          ∧ r.2.mem ((c.tc : Thread Cert.RefHybDhnIdeal.nD Cert.RefHybDhnIdeal.τ).loc Cert.RefHybDhnIdeal.main_arg1) = m' ((c.tc : Thread Cert.RefHybDhnIdeal.nD Cert.RefHybDhnIdeal.τ).loc Cert.RefHybDhnIdeal.main_arg1)
          ∧ r.2.mem ((c.tc : Thread Cert.RefHybDhnIdeal.nD Cert.RefHybDhnIdeal.τ).loc Cert.RefHybDhnIdeal.main_arg2) = m' ((c.tc : Thread Cert.RefHybDhnIdeal.nD Cert.RefHybDhnIdeal.τ).loc Cert.RefHybDhnIdeal.main_arg2)
          ∧ r.2.mem ((c.tc : Thread Cert.RefHybDhnIdeal.nD Cert.RefHybDhnIdeal.τ).loc Cert.RefHybDhnIdeal.main_arg3) = m' ((c.tc : Thread Cert.RefHybDhnIdeal.nD Cert.RefHybDhnIdeal.τ).loc Cert.RefHybDhnIdeal.main_arg3)
          ∧ r.2.mem ((c.tc : Thread Cert.RefHybDhnIdeal.nD Cert.RefHybDhnIdeal.τ).loc Cert.RefHybDhnIdeal.main_arg4) = m' ((c.tc : Thread Cert.RefHybDhnIdeal.nD Cert.RefHybDhnIdeal.τ).loc Cert.RefHybDhnIdeal.main_arg4))

def preserves_GdnIn_GdnInIdeal : Prop :=
  True

def algebraic_GdnInIdeal_RefGdnInIdeal [hGdnInIdeal : Cert.GdnInIdeal.Facts] [hRefGdnInIdeal : Cert.RefGdnInIdeal.Facts] : Prop :=
  ∀ (m : (ℓ : Loc Cert.GdnInIdeal.nD Cert.GdnInIdeal.τ Cert.GdnInIdeal.sig) → Buf (Elt Ideal) ℓ) (g : Dev Cert.GdnInIdeal.nD → PrngReg)
    (m' : (ℓ : Loc Cert.RefGdnInIdeal.nD Cert.RefGdnInIdeal.τ Cert.RefGdnInIdeal.sig) → Buf (Elt Ideal) ℓ) (g' : Dev Cert.RefGdnInIdeal.nD → PrngReg), Pre_GdnInIdeal m →
    (∀ c : Dev Cert.GdnInIdeal.nD,
      m' ((c.tc : Thread Cert.RefGdnInIdeal.nD Cert.RefGdnInIdeal.τ).loc Cert.RefGdnInIdeal.main_arg0) = m ((c.tc : Thread Cert.GdnInIdeal.nD Cert.GdnInIdeal.τ).loc Cert.GdnInIdeal.main_arg0)
      ∧ m' ((c.tc : Thread Cert.RefGdnInIdeal.nD Cert.RefGdnInIdeal.τ).loc Cert.RefGdnInIdeal.main_arg1) = m ((c.tc : Thread Cert.GdnInIdeal.nD Cert.GdnInIdeal.τ).loc Cert.GdnInIdeal.main_arg1)) →
    ∃ (v0 : (c : Dev Cert.GdnInIdeal.nD) → Buf (Elt Ideal) ((c.tc : Thread Cert.GdnInIdeal.nD Cert.GdnInIdeal.τ).loc Cert.GdnInIdeal.main_v0)),
      θ_run (Cert.GdnInIdeal.defs (F := Ideal)) (onTc (τ := Cert.GdnInIdeal.τ) (Cert.GdnInIdeal.main (F := Ideal))) ⟨m, fun _ => 0, g⟩ (fun r => ∀ c : Dev Cert.GdnInIdeal.nD,
          r.2.mem ((c.tc : Thread Cert.GdnInIdeal.nD Cert.GdnInIdeal.τ).loc Cert.GdnInIdeal.main_v0) = v0 c
          ∧ r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
          ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1))
      ∧ θ_run (Cert.RefGdnInIdeal.defs (F := Ideal)) (onTc (τ := Cert.RefGdnInIdeal.τ) (Cert.RefGdnInIdeal.main (F := Ideal))) ⟨m', fun _ => 0, g'⟩ (fun r => ∀ c : Dev Cert.RefGdnInIdeal.nD,
          r.2.mem ((c.tc : Thread Cert.RefGdnInIdeal.nD Cert.RefGdnInIdeal.τ).loc Cert.RefGdnInIdeal.main_v4) = v0 c
          ∧ r.2.mem ((c.tc : Thread Cert.RefGdnInIdeal.nD Cert.RefGdnInIdeal.τ).loc Cert.RefGdnInIdeal.main_arg0) = m' ((c.tc : Thread Cert.RefGdnInIdeal.nD Cert.RefGdnInIdeal.τ).loc Cert.RefGdnInIdeal.main_arg0)
          ∧ r.2.mem ((c.tc : Thread Cert.RefGdnInIdeal.nD Cert.RefGdnInIdeal.τ).loc Cert.RefGdnInIdeal.main_arg1) = m' ((c.tc : Thread Cert.RefGdnInIdeal.nD Cert.RefGdnInIdeal.τ).loc Cert.RefGdnInIdeal.main_arg1))

def preserves_GdnDwin_GdnDwinIdeal : Prop :=
  True

def algebraic_GdnDwinIdeal_RefGdnDwinIdeal [hGdnDwinIdeal : Cert.GdnDwinIdeal.Facts] [hRefGdnDwinIdeal : Cert.RefGdnDwinIdeal.Facts] : Prop :=
  ∀ (m : (ℓ : Loc Cert.GdnDwinIdeal.nD Cert.GdnDwinIdeal.τ Cert.GdnDwinIdeal.sig) → Buf (Elt Ideal) ℓ) (g : Dev Cert.GdnDwinIdeal.nD → PrngReg)
    (m' : (ℓ : Loc Cert.RefGdnDwinIdeal.nD Cert.RefGdnDwinIdeal.τ Cert.RefGdnDwinIdeal.sig) → Buf (Elt Ideal) ℓ) (g' : Dev Cert.RefGdnDwinIdeal.nD → PrngReg), Pre_GdnDwinIdeal m →
    (∀ c : Dev Cert.GdnDwinIdeal.nD,
      m' ((c.tc : Thread Cert.RefGdnDwinIdeal.nD Cert.RefGdnDwinIdeal.τ).loc Cert.RefGdnDwinIdeal.main_arg0) = m ((c.tc : Thread Cert.GdnDwinIdeal.nD Cert.GdnDwinIdeal.τ).loc Cert.GdnDwinIdeal.main_arg0)
      ∧ m' ((c.tc : Thread Cert.RefGdnDwinIdeal.nD Cert.RefGdnDwinIdeal.τ).loc Cert.RefGdnDwinIdeal.main_arg1) = m ((c.tc : Thread Cert.GdnDwinIdeal.nD Cert.GdnDwinIdeal.τ).loc Cert.GdnDwinIdeal.main_arg1)) →
    ∃ (v0 : (c : Dev Cert.GdnDwinIdeal.nD) → Buf (Elt Ideal) ((c.tc : Thread Cert.GdnDwinIdeal.nD Cert.GdnDwinIdeal.τ).loc Cert.GdnDwinIdeal.main_v0)),
      θ_run (Cert.GdnDwinIdeal.defs (F := Ideal)) (onTc (τ := Cert.GdnDwinIdeal.τ) (Cert.GdnDwinIdeal.main (F := Ideal))) ⟨m, fun _ => 0, g⟩ (fun r => ∀ c : Dev Cert.GdnDwinIdeal.nD,
          r.2.mem ((c.tc : Thread Cert.GdnDwinIdeal.nD Cert.GdnDwinIdeal.τ).loc Cert.GdnDwinIdeal.main_v0) = v0 c
          ∧ r.2.mem ((c.tc : Thread Cert.GdnDwinIdeal.nD Cert.GdnDwinIdeal.τ).loc Cert.GdnDwinIdeal.main_arg0) = m ((c.tc : Thread Cert.GdnDwinIdeal.nD Cert.GdnDwinIdeal.τ).loc Cert.GdnDwinIdeal.main_arg0)
          ∧ r.2.mem ((c.tc : Thread Cert.GdnDwinIdeal.nD Cert.GdnDwinIdeal.τ).loc Cert.GdnDwinIdeal.main_arg1) = m ((c.tc : Thread Cert.GdnDwinIdeal.nD Cert.GdnDwinIdeal.τ).loc Cert.GdnDwinIdeal.main_arg1))
      ∧ θ_run (Cert.RefGdnDwinIdeal.defs (F := Ideal)) (onTc (τ := Cert.RefGdnDwinIdeal.τ) (Cert.RefGdnDwinIdeal.main (F := Ideal))) ⟨m', fun _ => 0, g'⟩ (fun r => ∀ c : Dev Cert.RefGdnDwinIdeal.nD,
          r.2.mem ((c.tc : Thread Cert.RefGdnDwinIdeal.nD Cert.RefGdnDwinIdeal.τ).loc Cert.RefGdnDwinIdeal.main_v6) = v0 c
          ∧ r.2.mem ((c.tc : Thread Cert.RefGdnDwinIdeal.nD Cert.RefGdnDwinIdeal.τ).loc Cert.RefGdnDwinIdeal.main_arg0) = m' ((c.tc : Thread Cert.RefGdnDwinIdeal.nD Cert.RefGdnDwinIdeal.τ).loc Cert.RefGdnDwinIdeal.main_arg0)
          ∧ r.2.mem ((c.tc : Thread Cert.RefGdnDwinIdeal.nD Cert.RefGdnDwinIdeal.τ).loc Cert.RefGdnDwinIdeal.main_arg1) = m' ((c.tc : Thread Cert.RefGdnDwinIdeal.nD Cert.RefGdnDwinIdeal.τ).loc Cert.RefGdnDwinIdeal.main_arg1))

def preserves_GdnDhn_GdnDhnIdeal : Prop :=
  True

def algebraic_GdnDhnIdeal_RefGdnDhnIdeal [hGdnDhnIdeal : Cert.GdnDhnIdeal.Facts] [hRefGdnDhnIdeal : Cert.RefGdnDhnIdeal.Facts] : Prop :=
  ∀ (m : (ℓ : Loc Cert.GdnDhnIdeal.nD Cert.GdnDhnIdeal.τ Cert.GdnDhnIdeal.sig) → Buf (Elt Ideal) ℓ) (g : Dev Cert.GdnDhnIdeal.nD → PrngReg)
    (m' : (ℓ : Loc Cert.RefGdnDhnIdeal.nD Cert.RefGdnDhnIdeal.τ Cert.RefGdnDhnIdeal.sig) → Buf (Elt Ideal) ℓ) (g' : Dev Cert.RefGdnDhnIdeal.nD → PrngReg), Pre_GdnDhnIdeal m →
    (∀ c : Dev Cert.GdnDhnIdeal.nD,
      m' ((c.tc : Thread Cert.RefGdnDhnIdeal.nD Cert.RefGdnDhnIdeal.τ).loc Cert.RefGdnDhnIdeal.main_arg0) = m ((c.tc : Thread Cert.GdnDhnIdeal.nD Cert.GdnDhnIdeal.τ).loc Cert.GdnDhnIdeal.main_arg0)
      ∧ m' ((c.tc : Thread Cert.RefGdnDhnIdeal.nD Cert.RefGdnDhnIdeal.τ).loc Cert.RefGdnDhnIdeal.main_arg1) = m ((c.tc : Thread Cert.GdnDhnIdeal.nD Cert.GdnDhnIdeal.τ).loc Cert.GdnDhnIdeal.main_arg1)
      ∧ m' ((c.tc : Thread Cert.RefGdnDhnIdeal.nD Cert.RefGdnDhnIdeal.τ).loc Cert.RefGdnDhnIdeal.main_arg2) = m ((c.tc : Thread Cert.GdnDhnIdeal.nD Cert.GdnDhnIdeal.τ).loc Cert.GdnDhnIdeal.main_arg2)
      ∧ m' ((c.tc : Thread Cert.RefGdnDhnIdeal.nD Cert.RefGdnDhnIdeal.τ).loc Cert.RefGdnDhnIdeal.main_arg3) = m ((c.tc : Thread Cert.GdnDhnIdeal.nD Cert.GdnDhnIdeal.τ).loc Cert.GdnDhnIdeal.main_arg3)
      ∧ m' ((c.tc : Thread Cert.RefGdnDhnIdeal.nD Cert.RefGdnDhnIdeal.τ).loc Cert.RefGdnDhnIdeal.main_arg4) = m ((c.tc : Thread Cert.GdnDhnIdeal.nD Cert.GdnDhnIdeal.τ).loc Cert.GdnDhnIdeal.main_arg4)
      ∧ m' ((c.tc : Thread Cert.RefGdnDhnIdeal.nD Cert.RefGdnDhnIdeal.τ).loc Cert.RefGdnDhnIdeal.main_arg5) = m ((c.tc : Thread Cert.GdnDhnIdeal.nD Cert.GdnDhnIdeal.τ).loc Cert.GdnDhnIdeal.main_arg5)) →
    ∃ (v0 : (c : Dev Cert.GdnDhnIdeal.nD) → Buf (Elt Ideal) ((c.tc : Thread Cert.GdnDhnIdeal.nD Cert.GdnDhnIdeal.τ).loc Cert.GdnDhnIdeal.main_v0_0)) (v1 : (c : Dev Cert.GdnDhnIdeal.nD) → Buf (Elt Ideal) ((c.tc : Thread Cert.GdnDhnIdeal.nD Cert.GdnDhnIdeal.τ).loc Cert.GdnDhnIdeal.main_v0_1)),
      θ_run (Cert.GdnDhnIdeal.defs (F := Ideal)) (onTc (τ := Cert.GdnDhnIdeal.τ) (Cert.GdnDhnIdeal.main (F := Ideal))) ⟨m, fun _ => 0, g⟩ (fun r => ∀ c : Dev Cert.GdnDhnIdeal.nD,
          r.2.mem ((c.tc : Thread Cert.GdnDhnIdeal.nD Cert.GdnDhnIdeal.τ).loc Cert.GdnDhnIdeal.main_v0_0) = v0 c
          ∧ r.2.mem ((c.tc : Thread Cert.GdnDhnIdeal.nD Cert.GdnDhnIdeal.τ).loc Cert.GdnDhnIdeal.main_v0_1) = v1 c
          ∧ r.2.mem ((c.tc : Thread Cert.GdnDhnIdeal.nD Cert.GdnDhnIdeal.τ).loc Cert.GdnDhnIdeal.main_arg0) = m ((c.tc : Thread Cert.GdnDhnIdeal.nD Cert.GdnDhnIdeal.τ).loc Cert.GdnDhnIdeal.main_arg0)
          ∧ r.2.mem ((c.tc : Thread Cert.GdnDhnIdeal.nD Cert.GdnDhnIdeal.τ).loc Cert.GdnDhnIdeal.main_arg1) = m ((c.tc : Thread Cert.GdnDhnIdeal.nD Cert.GdnDhnIdeal.τ).loc Cert.GdnDhnIdeal.main_arg1)
          ∧ r.2.mem ((c.tc : Thread Cert.GdnDhnIdeal.nD Cert.GdnDhnIdeal.τ).loc Cert.GdnDhnIdeal.main_arg2) = m ((c.tc : Thread Cert.GdnDhnIdeal.nD Cert.GdnDhnIdeal.τ).loc Cert.GdnDhnIdeal.main_arg2)
          ∧ r.2.mem ((c.tc : Thread Cert.GdnDhnIdeal.nD Cert.GdnDhnIdeal.τ).loc Cert.GdnDhnIdeal.main_arg3) = m ((c.tc : Thread Cert.GdnDhnIdeal.nD Cert.GdnDhnIdeal.τ).loc Cert.GdnDhnIdeal.main_arg3)
          ∧ r.2.mem ((c.tc : Thread Cert.GdnDhnIdeal.nD Cert.GdnDhnIdeal.τ).loc Cert.GdnDhnIdeal.main_arg4) = m ((c.tc : Thread Cert.GdnDhnIdeal.nD Cert.GdnDhnIdeal.τ).loc Cert.GdnDhnIdeal.main_arg4)
          ∧ r.2.mem ((c.tc : Thread Cert.GdnDhnIdeal.nD Cert.GdnDhnIdeal.τ).loc Cert.GdnDhnIdeal.main_arg5) = m ((c.tc : Thread Cert.GdnDhnIdeal.nD Cert.GdnDhnIdeal.τ).loc Cert.GdnDhnIdeal.main_arg5))
      ∧ θ_run (Cert.RefGdnDhnIdeal.defs (F := Ideal)) (onTc (τ := Cert.RefGdnDhnIdeal.τ) (Cert.RefGdnDhnIdeal.main (F := Ideal))) ⟨m', fun _ => 0, g'⟩ (fun r => ∀ c : Dev Cert.RefGdnDhnIdeal.nD,
          r.2.mem ((c.tc : Thread Cert.RefGdnDhnIdeal.nD Cert.RefGdnDhnIdeal.τ).loc Cert.RefGdnDhnIdeal.main_v41) = v0 c
          ∧ r.2.mem ((c.tc : Thread Cert.RefGdnDhnIdeal.nD Cert.RefGdnDhnIdeal.τ).loc Cert.RefGdnDhnIdeal.main_v24) = v1 c
          ∧ r.2.mem ((c.tc : Thread Cert.RefGdnDhnIdeal.nD Cert.RefGdnDhnIdeal.τ).loc Cert.RefGdnDhnIdeal.main_arg0) = m' ((c.tc : Thread Cert.RefGdnDhnIdeal.nD Cert.RefGdnDhnIdeal.τ).loc Cert.RefGdnDhnIdeal.main_arg0)
          ∧ r.2.mem ((c.tc : Thread Cert.RefGdnDhnIdeal.nD Cert.RefGdnDhnIdeal.τ).loc Cert.RefGdnDhnIdeal.main_arg1) = m' ((c.tc : Thread Cert.RefGdnDhnIdeal.nD Cert.RefGdnDhnIdeal.τ).loc Cert.RefGdnDhnIdeal.main_arg1)
          ∧ r.2.mem ((c.tc : Thread Cert.RefGdnDhnIdeal.nD Cert.RefGdnDhnIdeal.τ).loc Cert.RefGdnDhnIdeal.main_arg2) = m' ((c.tc : Thread Cert.RefGdnDhnIdeal.nD Cert.RefGdnDhnIdeal.τ).loc Cert.RefGdnDhnIdeal.main_arg2)
          ∧ r.2.mem ((c.tc : Thread Cert.RefGdnDhnIdeal.nD Cert.RefGdnDhnIdeal.τ).loc Cert.RefGdnDhnIdeal.main_arg3) = m' ((c.tc : Thread Cert.RefGdnDhnIdeal.nD Cert.RefGdnDhnIdeal.τ).loc Cert.RefGdnDhnIdeal.main_arg3)
          ∧ r.2.mem ((c.tc : Thread Cert.RefGdnDhnIdeal.nD Cert.RefGdnDhnIdeal.τ).loc Cert.RefGdnDhnIdeal.main_arg4) = m' ((c.tc : Thread Cert.RefGdnDhnIdeal.nD Cert.RefGdnDhnIdeal.τ).loc Cert.RefGdnDhnIdeal.main_arg4)
          ∧ r.2.mem ((c.tc : Thread Cert.RefGdnDhnIdeal.nD Cert.RefGdnDhnIdeal.τ).loc Cert.RefGdnDhnIdeal.main_arg5) = m' ((c.tc : Thread Cert.RefGdnDhnIdeal.nD Cert.RefGdnDhnIdeal.τ).loc Cert.RefGdnDhnIdeal.main_arg5))

def preserves_MixOut_MixOutIdeal : Prop :=
  True

def algebraic_MixOutIdeal_RefMixOutIdeal [hMixOutIdeal : Cert.MixOutIdeal.Facts] [hRefMixOutIdeal : Cert.RefMixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.RefMixOutIdeal.nD Cert.RefMixOutIdeal.τ Cert.RefMixOutIdeal.sig) → Buf (Elt Ideal) ℓ) (g' : Dev Cert.RefMixOutIdeal.nD → PrngReg), Pre_MixOutIdeal m →
    (∀ c : Dev Cert.MixOutIdeal.nD,
      m' ((c.tc : Thread Cert.RefMixOutIdeal.nD Cert.RefMixOutIdeal.τ).loc Cert.RefMixOutIdeal.main_arg0) = m ((c.tc : Thread Cert.MixOutIdeal.nD Cert.MixOutIdeal.τ).loc Cert.MixOutIdeal.main_arg0)
      ∧ m' ((c.tc : Thread Cert.RefMixOutIdeal.nD Cert.RefMixOutIdeal.τ).loc Cert.RefMixOutIdeal.main_arg1) = m ((c.tc : Thread Cert.MixOutIdeal.nD Cert.MixOutIdeal.τ).loc Cert.MixOutIdeal.main_arg1)
      ∧ m' ((c.tc : Thread Cert.RefMixOutIdeal.nD Cert.RefMixOutIdeal.τ).loc Cert.RefMixOutIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.RefMixOutIdeal.defs (F := Ideal)) (onTc (τ := Cert.RefMixOutIdeal.τ) (Cert.RefMixOutIdeal.main (F := Ideal))) ⟨m', fun _ => 0, g'⟩ (fun r => ∀ c : Dev Cert.RefMixOutIdeal.nD,
          r.2.mem ((c.tc : Thread Cert.RefMixOutIdeal.nD Cert.RefMixOutIdeal.τ).loc Cert.RefMixOutIdeal.main_v5) = v0 c
          ∧ r.2.mem ((c.tc : Thread Cert.RefMixOutIdeal.nD Cert.RefMixOutIdeal.τ).loc Cert.RefMixOutIdeal.main_arg0) = m' ((c.tc : Thread Cert.RefMixOutIdeal.nD Cert.RefMixOutIdeal.τ).loc Cert.RefMixOutIdeal.main_arg0)
          ∧ r.2.mem ((c.tc : Thread Cert.RefMixOutIdeal.nD Cert.RefMixOutIdeal.τ).loc Cert.RefMixOutIdeal.main_arg1) = m' ((c.tc : Thread Cert.RefMixOutIdeal.nD Cert.RefMixOutIdeal.τ).loc Cert.RefMixOutIdeal.main_arg1)
          ∧ r.2.mem ((c.tc : Thread Cert.RefMixOutIdeal.nD Cert.RefMixOutIdeal.τ).loc Cert.RefMixOutIdeal.main_arg2) = m' ((c.tc : Thread Cert.RefMixOutIdeal.nD Cert.RefMixOutIdeal.τ).loc Cert.RefMixOutIdeal.main_arg2))

def preserves_MixDy_MixDyIdeal : Prop :=
  True

def algebraic_MixDyIdeal_RefMixDyIdeal [hMixDyIdeal : Cert.MixDyIdeal.Facts] [hRefMixDyIdeal : Cert.RefMixDyIdeal.Facts] : Prop :=
  ∀ (m : (ℓ : Loc Cert.MixDyIdeal.nD Cert.MixDyIdeal.τ Cert.MixDyIdeal.sig) → Buf (Elt Ideal) ℓ) (g : Dev Cert.MixDyIdeal.nD → PrngReg)
    (m' : (ℓ : Loc Cert.RefMixDyIdeal.nD Cert.RefMixDyIdeal.τ Cert.RefMixDyIdeal.sig) → Buf (Elt Ideal) ℓ) (g' : Dev Cert.RefMixDyIdeal.nD → PrngReg), Pre_MixDyIdeal m →
    (∀ c : Dev Cert.MixDyIdeal.nD,
      m' ((c.tc : Thread Cert.RefMixDyIdeal.nD Cert.RefMixDyIdeal.τ).loc Cert.RefMixDyIdeal.main_arg0) = m ((c.tc : Thread Cert.MixDyIdeal.nD Cert.MixDyIdeal.τ).loc Cert.MixDyIdeal.main_arg0)
      ∧ m' ((c.tc : Thread Cert.RefMixDyIdeal.nD Cert.RefMixDyIdeal.τ).loc Cert.RefMixDyIdeal.main_arg1) = m ((c.tc : Thread Cert.MixDyIdeal.nD Cert.MixDyIdeal.τ).loc Cert.MixDyIdeal.main_arg1)) →
    ∃ (v0 : (c : Dev Cert.MixDyIdeal.nD) → Buf (Elt Ideal) ((c.tc : Thread Cert.MixDyIdeal.nD Cert.MixDyIdeal.τ).loc Cert.MixDyIdeal.main_v0)),
      θ_run (Cert.MixDyIdeal.defs (F := Ideal)) (onTc (τ := Cert.MixDyIdeal.τ) (Cert.MixDyIdeal.main (F := Ideal))) ⟨m, fun _ => 0, g⟩ (fun r => ∀ c : Dev Cert.MixDyIdeal.nD,
          r.2.mem ((c.tc : Thread Cert.MixDyIdeal.nD Cert.MixDyIdeal.τ).loc Cert.MixDyIdeal.main_v0) = v0 c
          ∧ r.2.mem ((c.tc : Thread Cert.MixDyIdeal.nD Cert.MixDyIdeal.τ).loc Cert.MixDyIdeal.main_arg0) = m ((c.tc : Thread Cert.MixDyIdeal.nD Cert.MixDyIdeal.τ).loc Cert.MixDyIdeal.main_arg0)
          ∧ r.2.mem ((c.tc : Thread Cert.MixDyIdeal.nD Cert.MixDyIdeal.τ).loc Cert.MixDyIdeal.main_arg1) = m ((c.tc : Thread Cert.MixDyIdeal.nD Cert.MixDyIdeal.τ).loc Cert.MixDyIdeal.main_arg1))
      ∧ θ_run (Cert.RefMixDyIdeal.defs (F := Ideal)) (onTc (τ := Cert.RefMixDyIdeal.τ) (Cert.RefMixDyIdeal.main (F := Ideal))) ⟨m', fun _ => 0, g'⟩ (fun r => ∀ c : Dev Cert.RefMixDyIdeal.nD,
          r.2.mem ((c.tc : Thread Cert.RefMixDyIdeal.nD Cert.RefMixDyIdeal.τ).loc Cert.RefMixDyIdeal.main_v5) = v0 c
          ∧ r.2.mem ((c.tc : Thread Cert.RefMixDyIdeal.nD Cert.RefMixDyIdeal.τ).loc Cert.RefMixDyIdeal.main_arg0) = m' ((c.tc : Thread Cert.RefMixDyIdeal.nD Cert.RefMixDyIdeal.τ).loc Cert.RefMixDyIdeal.main_arg0)
          ∧ r.2.mem ((c.tc : Thread Cert.RefMixDyIdeal.nD Cert.RefMixDyIdeal.τ).loc Cert.RefMixDyIdeal.main_arg1) = m' ((c.tc : Thread Cert.RefMixDyIdeal.nD Cert.RefMixDyIdeal.τ).loc Cert.RefMixDyIdeal.main_arg1))

def preserves_MixDwout_MixDwoutIdeal : Prop :=
  True

def algebraic_MixDwoutIdeal_RefMixDwoutIdeal [hMixDwoutIdeal : Cert.MixDwoutIdeal.Facts] [hRefMixDwoutIdeal : Cert.RefMixDwoutIdeal.Facts] : Prop :=
  ∀ (m : (ℓ : Loc Cert.MixDwoutIdeal.nD Cert.MixDwoutIdeal.τ Cert.MixDwoutIdeal.sig) → Buf (Elt Ideal) ℓ) (g : Dev Cert.MixDwoutIdeal.nD → PrngReg)
    (m' : (ℓ : Loc Cert.RefMixDwoutIdeal.nD Cert.RefMixDwoutIdeal.τ Cert.RefMixDwoutIdeal.sig) → Buf (Elt Ideal) ℓ) (g' : Dev Cert.RefMixDwoutIdeal.nD → PrngReg), Pre_MixDwoutIdeal m →
    (∀ c : Dev Cert.MixDwoutIdeal.nD,
      m' ((c.tc : Thread Cert.RefMixDwoutIdeal.nD Cert.RefMixDwoutIdeal.τ).loc Cert.RefMixDwoutIdeal.main_arg0) = m ((c.tc : Thread Cert.MixDwoutIdeal.nD Cert.MixDwoutIdeal.τ).loc Cert.MixDwoutIdeal.main_arg0)
      ∧ m' ((c.tc : Thread Cert.RefMixDwoutIdeal.nD Cert.RefMixDwoutIdeal.τ).loc Cert.RefMixDwoutIdeal.main_arg1) = m ((c.tc : Thread Cert.MixDwoutIdeal.nD Cert.MixDwoutIdeal.τ).loc Cert.MixDwoutIdeal.main_arg1)) →
    ∃ (v0 : (c : Dev Cert.MixDwoutIdeal.nD) → Buf (Elt Ideal) ((c.tc : Thread Cert.MixDwoutIdeal.nD Cert.MixDwoutIdeal.τ).loc Cert.MixDwoutIdeal.main_v0)),
      θ_run (Cert.MixDwoutIdeal.defs (F := Ideal)) (onTc (τ := Cert.MixDwoutIdeal.τ) (Cert.MixDwoutIdeal.main (F := Ideal))) ⟨m, fun _ => 0, g⟩ (fun r => ∀ c : Dev Cert.MixDwoutIdeal.nD,
          r.2.mem ((c.tc : Thread Cert.MixDwoutIdeal.nD Cert.MixDwoutIdeal.τ).loc Cert.MixDwoutIdeal.main_v0) = v0 c
          ∧ r.2.mem ((c.tc : Thread Cert.MixDwoutIdeal.nD Cert.MixDwoutIdeal.τ).loc Cert.MixDwoutIdeal.main_arg0) = m ((c.tc : Thread Cert.MixDwoutIdeal.nD Cert.MixDwoutIdeal.τ).loc Cert.MixDwoutIdeal.main_arg0)
          ∧ r.2.mem ((c.tc : Thread Cert.MixDwoutIdeal.nD Cert.MixDwoutIdeal.τ).loc Cert.MixDwoutIdeal.main_arg1) = m ((c.tc : Thread Cert.MixDwoutIdeal.nD Cert.MixDwoutIdeal.τ).loc Cert.MixDwoutIdeal.main_arg1))
      ∧ θ_run (Cert.RefMixDwoutIdeal.defs (F := Ideal)) (onTc (τ := Cert.RefMixDwoutIdeal.τ) (Cert.RefMixDwoutIdeal.main (F := Ideal))) ⟨m', fun _ => 0, g'⟩ (fun r => ∀ c : Dev Cert.RefMixDwoutIdeal.nD,
          r.2.mem ((c.tc : Thread Cert.RefMixDwoutIdeal.nD Cert.RefMixDwoutIdeal.τ).loc Cert.RefMixDwoutIdeal.main_v5) = v0 c
          ∧ r.2.mem ((c.tc : Thread Cert.RefMixDwoutIdeal.nD Cert.RefMixDwoutIdeal.τ).loc Cert.RefMixDwoutIdeal.main_arg0) = m' ((c.tc : Thread Cert.RefMixDwoutIdeal.nD Cert.RefMixDwoutIdeal.τ).loc Cert.RefMixDwoutIdeal.main_arg0)
          ∧ r.2.mem ((c.tc : Thread Cert.RefMixDwoutIdeal.nD Cert.RefMixDwoutIdeal.τ).loc Cert.RefMixDwoutIdeal.main_arg1) = m' ((c.tc : Thread Cert.RefMixDwoutIdeal.nD Cert.RefMixDwoutIdeal.τ).loc Cert.RefMixDwoutIdeal.main_arg1))

def preserves_AdamIn_AdamInIdeal : Prop :=
  True

def algebraic_AdamInIdeal_RefAdamInIdeal [hAdamInIdeal : Cert.AdamInIdeal.Facts] [hRefAdamInIdeal : Cert.RefAdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.RefAdamInIdeal.nD Cert.RefAdamInIdeal.τ Cert.RefAdamInIdeal.sig) → Buf (Elt Ideal) ℓ) (g' : Dev Cert.RefAdamInIdeal.nD → PrngReg), Pre_AdamInIdeal m →
    (∀ c : Dev Cert.AdamInIdeal.nD,
      m' ((c.tc : Thread Cert.RefAdamInIdeal.nD Cert.RefAdamInIdeal.τ).loc Cert.RefAdamInIdeal.main_arg0) = m ((c.tc : Thread Cert.AdamInIdeal.nD Cert.AdamInIdeal.τ).loc Cert.AdamInIdeal.main_arg0)
      ∧ m' ((c.tc : Thread Cert.RefAdamInIdeal.nD Cert.RefAdamInIdeal.τ).loc Cert.RefAdamInIdeal.main_arg1) = m ((c.tc : Thread Cert.AdamInIdeal.nD Cert.AdamInIdeal.τ).loc Cert.AdamInIdeal.main_arg1)
      ∧ m' ((c.tc : Thread Cert.RefAdamInIdeal.nD Cert.RefAdamInIdeal.τ).loc Cert.RefAdamInIdeal.main_arg2) = m ((c.tc : Thread Cert.AdamInIdeal.nD Cert.AdamInIdeal.τ).loc Cert.AdamInIdeal.main_arg2)
      ∧ m' ((c.tc : Thread Cert.RefAdamInIdeal.nD Cert.RefAdamInIdeal.τ).loc Cert.RefAdamInIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v4_0)) (v1 : (c : Dev Cert.AdamInIdeal.nD) → Buf (Elt Ideal) ((c.tc : Thread Cert.AdamInIdeal.nD Cert.AdamInIdeal.τ).loc Cert.AdamInIdeal.main_v4_1)) (v2 : (c : Dev Cert.AdamInIdeal.nD) → Buf (Elt Ideal) ((c.tc : Thread Cert.AdamInIdeal.nD Cert.AdamInIdeal.τ).loc Cert.AdamInIdeal.main_v4_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v4_0) = v0 c
          ∧ r.2.mem ((c.tc : Thread Cert.AdamInIdeal.nD Cert.AdamInIdeal.τ).loc Cert.AdamInIdeal.main_v4_1) = v1 c
          ∧ r.2.mem ((c.tc : Thread Cert.AdamInIdeal.nD Cert.AdamInIdeal.τ).loc Cert.AdamInIdeal.main_v4_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.RefAdamInIdeal.defs (F := Ideal)) (onTc (τ := Cert.RefAdamInIdeal.τ) (Cert.RefAdamInIdeal.main (F := Ideal))) ⟨m', fun _ => 0, g'⟩ (fun r => ∀ c : Dev Cert.RefAdamInIdeal.nD,
          r.2.mem ((c.tc : Thread Cert.RefAdamInIdeal.nD Cert.RefAdamInIdeal.τ).loc Cert.RefAdamInIdeal.main_v24) = v0 c
          ∧ r.2.mem ((c.tc : Thread Cert.RefAdamInIdeal.nD Cert.RefAdamInIdeal.τ).loc Cert.RefAdamInIdeal.main_v25) = v1 c
          ∧ r.2.mem ((c.tc : Thread Cert.RefAdamInIdeal.nD Cert.RefAdamInIdeal.τ).loc Cert.RefAdamInIdeal.main_v26) = v2 c
          ∧ r.2.mem ((c.tc : Thread Cert.RefAdamInIdeal.nD Cert.RefAdamInIdeal.τ).loc Cert.RefAdamInIdeal.main_arg0) = m' ((c.tc : Thread Cert.RefAdamInIdeal.nD Cert.RefAdamInIdeal.τ).loc Cert.RefAdamInIdeal.main_arg0)
          ∧ r.2.mem ((c.tc : Thread Cert.RefAdamInIdeal.nD Cert.RefAdamInIdeal.τ).loc Cert.RefAdamInIdeal.main_arg1) = m' ((c.tc : Thread Cert.RefAdamInIdeal.nD Cert.RefAdamInIdeal.τ).loc Cert.RefAdamInIdeal.main_arg1)
          ∧ r.2.mem ((c.tc : Thread Cert.RefAdamInIdeal.nD Cert.RefAdamInIdeal.τ).loc Cert.RefAdamInIdeal.main_arg2) = m' ((c.tc : Thread Cert.RefAdamInIdeal.nD Cert.RefAdamInIdeal.τ).loc Cert.RefAdamInIdeal.main_arg2)
          ∧ r.2.mem ((c.tc : Thread Cert.RefAdamInIdeal.nD Cert.RefAdamInIdeal.τ).loc Cert.RefAdamInIdeal.main_arg3) = m' ((c.tc : Thread Cert.RefAdamInIdeal.nD Cert.RefAdamInIdeal.τ).loc Cert.RefAdamInIdeal.main_arg3))

def preserves_AdamOut_AdamOutIdeal : Prop :=
  True

def algebraic_AdamOutIdeal_RefAdamOutIdeal [hAdamOutIdeal : Cert.AdamOutIdeal.Facts] [hRefAdamOutIdeal : Cert.RefAdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.RefAdamOutIdeal.nD Cert.RefAdamOutIdeal.τ Cert.RefAdamOutIdeal.sig) → Buf (Elt Ideal) ℓ) (g' : Dev Cert.RefAdamOutIdeal.nD → PrngReg), Pre_AdamOutIdeal m →
    (∀ c : Dev Cert.AdamOutIdeal.nD,
      m' ((c.tc : Thread Cert.RefAdamOutIdeal.nD Cert.RefAdamOutIdeal.τ).loc Cert.RefAdamOutIdeal.main_arg0) = m ((c.tc : Thread Cert.AdamOutIdeal.nD Cert.AdamOutIdeal.τ).loc Cert.AdamOutIdeal.main_arg0)
      ∧ m' ((c.tc : Thread Cert.RefAdamOutIdeal.nD Cert.RefAdamOutIdeal.τ).loc Cert.RefAdamOutIdeal.main_arg1) = m ((c.tc : Thread Cert.AdamOutIdeal.nD Cert.AdamOutIdeal.τ).loc Cert.AdamOutIdeal.main_arg1)
      ∧ m' ((c.tc : Thread Cert.RefAdamOutIdeal.nD Cert.RefAdamOutIdeal.τ).loc Cert.RefAdamOutIdeal.main_arg2) = m ((c.tc : Thread Cert.AdamOutIdeal.nD Cert.AdamOutIdeal.τ).loc Cert.AdamOutIdeal.main_arg2)
      ∧ m' ((c.tc : Thread Cert.RefAdamOutIdeal.nD Cert.RefAdamOutIdeal.τ).loc Cert.RefAdamOutIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v4_0)) (v1 : (c : Dev Cert.AdamOutIdeal.nD) → Buf (Elt Ideal) ((c.tc : Thread Cert.AdamOutIdeal.nD Cert.AdamOutIdeal.τ).loc Cert.AdamOutIdeal.main_v4_1)) (v2 : (c : Dev Cert.AdamOutIdeal.nD) → Buf (Elt Ideal) ((c.tc : Thread Cert.AdamOutIdeal.nD Cert.AdamOutIdeal.τ).loc Cert.AdamOutIdeal.main_v4_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v4_0) = v0 c
          ∧ r.2.mem ((c.tc : Thread Cert.AdamOutIdeal.nD Cert.AdamOutIdeal.τ).loc Cert.AdamOutIdeal.main_v4_1) = v1 c
          ∧ r.2.mem ((c.tc : Thread Cert.AdamOutIdeal.nD Cert.AdamOutIdeal.τ).loc Cert.AdamOutIdeal.main_v4_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.RefAdamOutIdeal.defs (F := Ideal)) (onTc (τ := Cert.RefAdamOutIdeal.τ) (Cert.RefAdamOutIdeal.main (F := Ideal))) ⟨m', fun _ => 0, g'⟩ (fun r => ∀ c : Dev Cert.RefAdamOutIdeal.nD,
          r.2.mem ((c.tc : Thread Cert.RefAdamOutIdeal.nD Cert.RefAdamOutIdeal.τ).loc Cert.RefAdamOutIdeal.main_v24) = v0 c
          ∧ r.2.mem ((c.tc : Thread Cert.RefAdamOutIdeal.nD Cert.RefAdamOutIdeal.τ).loc Cert.RefAdamOutIdeal.main_v25) = v1 c
          ∧ r.2.mem ((c.tc : Thread Cert.RefAdamOutIdeal.nD Cert.RefAdamOutIdeal.τ).loc Cert.RefAdamOutIdeal.main_v26) = v2 c
          ∧ r.2.mem ((c.tc : Thread Cert.RefAdamOutIdeal.nD Cert.RefAdamOutIdeal.τ).loc Cert.RefAdamOutIdeal.main_arg0) = m' ((c.tc : Thread Cert.RefAdamOutIdeal.nD Cert.RefAdamOutIdeal.τ).loc Cert.RefAdamOutIdeal.main_arg0)
          ∧ r.2.mem ((c.tc : Thread Cert.RefAdamOutIdeal.nD Cert.RefAdamOutIdeal.τ).loc Cert.RefAdamOutIdeal.main_arg1) = m' ((c.tc : Thread Cert.RefAdamOutIdeal.nD Cert.RefAdamOutIdeal.τ).loc Cert.RefAdamOutIdeal.main_arg1)
          ∧ r.2.mem ((c.tc : Thread Cert.RefAdamOutIdeal.nD Cert.RefAdamOutIdeal.τ).loc Cert.RefAdamOutIdeal.main_arg2) = m' ((c.tc : Thread Cert.RefAdamOutIdeal.nD Cert.RefAdamOutIdeal.τ).loc Cert.RefAdamOutIdeal.main_arg2)
          ∧ r.2.mem ((c.tc : Thread Cert.RefAdamOutIdeal.nD Cert.RefAdamOutIdeal.τ).loc Cert.RefAdamOutIdeal.main_arg3) = m' ((c.tc : Thread Cert.RefAdamOutIdeal.nD Cert.RefAdamOutIdeal.τ).loc Cert.RefAdamOutIdeal.main_arg3))

def preserves_AdamPack_AdamPackIdeal : Prop :=
  True

def algebraic_AdamPackIdeal_RefAdamPackIdeal [hAdamPackIdeal : Cert.AdamPackIdeal.Facts] [hRefAdamPackIdeal : Cert.RefAdamPackIdeal.Facts] : Prop :=
  ∀ (m : (ℓ : Loc Cert.AdamPackIdeal.nD Cert.AdamPackIdeal.τ Cert.AdamPackIdeal.sig) → Buf (Elt Ideal) ℓ) (g : Dev Cert.AdamPackIdeal.nD → PrngReg)
    (m' : (ℓ : Loc Cert.RefAdamPackIdeal.nD Cert.RefAdamPackIdeal.τ Cert.RefAdamPackIdeal.sig) → Buf (Elt Ideal) ℓ) (g' : Dev Cert.RefAdamPackIdeal.nD → PrngReg), Pre_AdamPackIdeal m →
    (∀ c : Dev Cert.AdamPackIdeal.nD,
      m' ((c.tc : Thread Cert.RefAdamPackIdeal.nD Cert.RefAdamPackIdeal.τ).loc Cert.RefAdamPackIdeal.main_arg0) = m ((c.tc : Thread Cert.AdamPackIdeal.nD Cert.AdamPackIdeal.τ).loc Cert.AdamPackIdeal.main_arg0)
      ∧ m' ((c.tc : Thread Cert.RefAdamPackIdeal.nD Cert.RefAdamPackIdeal.τ).loc Cert.RefAdamPackIdeal.main_arg1) = m ((c.tc : Thread Cert.AdamPackIdeal.nD Cert.AdamPackIdeal.τ).loc Cert.AdamPackIdeal.main_arg1)
      ∧ m' ((c.tc : Thread Cert.RefAdamPackIdeal.nD Cert.RefAdamPackIdeal.τ).loc Cert.RefAdamPackIdeal.main_arg2) = m ((c.tc : Thread Cert.AdamPackIdeal.nD Cert.AdamPackIdeal.τ).loc Cert.AdamPackIdeal.main_arg2)
      ∧ m' ((c.tc : Thread Cert.RefAdamPackIdeal.nD Cert.RefAdamPackIdeal.τ).loc Cert.RefAdamPackIdeal.main_arg3) = m ((c.tc : Thread Cert.AdamPackIdeal.nD Cert.AdamPackIdeal.τ).loc Cert.AdamPackIdeal.main_arg3)) →
    ∃ (v0 : (c : Dev Cert.AdamPackIdeal.nD) → Buf (Elt Ideal) ((c.tc : Thread Cert.AdamPackIdeal.nD Cert.AdamPackIdeal.τ).loc Cert.AdamPackIdeal.main_v0_0)) (v1 : (c : Dev Cert.AdamPackIdeal.nD) → Buf (Elt Ideal) ((c.tc : Thread Cert.AdamPackIdeal.nD Cert.AdamPackIdeal.τ).loc Cert.AdamPackIdeal.main_v0_1)) (v2 : (c : Dev Cert.AdamPackIdeal.nD) → Buf (Elt Ideal) ((c.tc : Thread Cert.AdamPackIdeal.nD Cert.AdamPackIdeal.τ).loc Cert.AdamPackIdeal.main_v0_2)),
      θ_run (Cert.AdamPackIdeal.defs (F := Ideal)) (onTc (τ := Cert.AdamPackIdeal.τ) (Cert.AdamPackIdeal.main (F := Ideal))) ⟨m, fun _ => 0, g⟩ (fun r => ∀ c : Dev Cert.AdamPackIdeal.nD,
          r.2.mem ((c.tc : Thread Cert.AdamPackIdeal.nD Cert.AdamPackIdeal.τ).loc Cert.AdamPackIdeal.main_v0_0) = v0 c
          ∧ r.2.mem ((c.tc : Thread Cert.AdamPackIdeal.nD Cert.AdamPackIdeal.τ).loc Cert.AdamPackIdeal.main_v0_1) = v1 c
          ∧ r.2.mem ((c.tc : Thread Cert.AdamPackIdeal.nD Cert.AdamPackIdeal.τ).loc Cert.AdamPackIdeal.main_v0_2) = v2 c
          ∧ r.2.mem ((c.tc : Thread Cert.AdamPackIdeal.nD Cert.AdamPackIdeal.τ).loc Cert.AdamPackIdeal.main_arg0) = m ((c.tc : Thread Cert.AdamPackIdeal.nD Cert.AdamPackIdeal.τ).loc Cert.AdamPackIdeal.main_arg0)
          ∧ r.2.mem ((c.tc : Thread Cert.AdamPackIdeal.nD Cert.AdamPackIdeal.τ).loc Cert.AdamPackIdeal.main_arg1) = m ((c.tc : Thread Cert.AdamPackIdeal.nD Cert.AdamPackIdeal.τ).loc Cert.AdamPackIdeal.main_arg1)
          ∧ r.2.mem ((c.tc : Thread Cert.AdamPackIdeal.nD Cert.AdamPackIdeal.τ).loc Cert.AdamPackIdeal.main_arg2) = m ((c.tc : Thread Cert.AdamPackIdeal.nD Cert.AdamPackIdeal.τ).loc Cert.AdamPackIdeal.main_arg2)
          ∧ r.2.mem ((c.tc : Thread Cert.AdamPackIdeal.nD Cert.AdamPackIdeal.τ).loc Cert.AdamPackIdeal.main_arg3) = m ((c.tc : Thread Cert.AdamPackIdeal.nD Cert.AdamPackIdeal.τ).loc Cert.AdamPackIdeal.main_arg3))
      ∧ θ_run (Cert.RefAdamPackIdeal.defs (F := Ideal)) (onTc (τ := Cert.RefAdamPackIdeal.τ) (Cert.RefAdamPackIdeal.main (F := Ideal))) ⟨m', fun _ => 0, g'⟩ (fun r => ∀ c : Dev Cert.RefAdamPackIdeal.nD,
          r.2.mem ((c.tc : Thread Cert.RefAdamPackIdeal.nD Cert.RefAdamPackIdeal.τ).loc Cert.RefAdamPackIdeal.main_v23) = v0 c
          ∧ r.2.mem ((c.tc : Thread Cert.RefAdamPackIdeal.nD Cert.RefAdamPackIdeal.τ).loc Cert.RefAdamPackIdeal.main_v4) = v1 c
          ∧ r.2.mem ((c.tc : Thread Cert.RefAdamPackIdeal.nD Cert.RefAdamPackIdeal.τ).loc Cert.RefAdamPackIdeal.main_v10) = v2 c
          ∧ r.2.mem ((c.tc : Thread Cert.RefAdamPackIdeal.nD Cert.RefAdamPackIdeal.τ).loc Cert.RefAdamPackIdeal.main_arg0) = m' ((c.tc : Thread Cert.RefAdamPackIdeal.nD Cert.RefAdamPackIdeal.τ).loc Cert.RefAdamPackIdeal.main_arg0)
          ∧ r.2.mem ((c.tc : Thread Cert.RefAdamPackIdeal.nD Cert.RefAdamPackIdeal.τ).loc Cert.RefAdamPackIdeal.main_arg1) = m' ((c.tc : Thread Cert.RefAdamPackIdeal.nD Cert.RefAdamPackIdeal.τ).loc Cert.RefAdamPackIdeal.main_arg1)
          ∧ r.2.mem ((c.tc : Thread Cert.RefAdamPackIdeal.nD Cert.RefAdamPackIdeal.τ).loc Cert.RefAdamPackIdeal.main_arg2) = m' ((c.tc : Thread Cert.RefAdamPackIdeal.nD Cert.RefAdamPackIdeal.τ).loc Cert.RefAdamPackIdeal.main_arg2)
          ∧ r.2.mem ((c.tc : Thread Cert.RefAdamPackIdeal.nD Cert.RefAdamPackIdeal.τ).loc Cert.RefAdamPackIdeal.main_arg3) = m' ((c.tc : Thread Cert.RefAdamPackIdeal.nD Cert.RefAdamPackIdeal.τ).loc Cert.RefAdamPackIdeal.main_arg3))

def preserves_AdamFfnIn_AdamFfnInIdeal : Prop :=
  True

def algebraic_AdamFfnInIdeal_RefAdamFfnInIdeal [hAdamFfnInIdeal : Cert.AdamFfnInIdeal.Facts] [hRefAdamFfnInIdeal : Cert.RefAdamFfnInIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg)
    (m' : (ℓ : Loc Cert.RefAdamFfnInIdeal.nD Cert.RefAdamFfnInIdeal.τ Cert.RefAdamFfnInIdeal.sig) → Buf (Elt Ideal) ℓ) (g' : Dev Cert.RefAdamFfnInIdeal.nD → PrngReg), Pre_AdamFfnInIdeal m →
    (∀ c : Dev Cert.AdamFfnInIdeal.nD,
      m' ((c.tc : Thread Cert.RefAdamFfnInIdeal.nD Cert.RefAdamFfnInIdeal.τ).loc Cert.RefAdamFfnInIdeal.main_arg0) = m ((c.tc : Thread Cert.AdamFfnInIdeal.nD Cert.AdamFfnInIdeal.τ).loc Cert.AdamFfnInIdeal.main_arg0)
      ∧ m' ((c.tc : Thread Cert.RefAdamFfnInIdeal.nD Cert.RefAdamFfnInIdeal.τ).loc Cert.RefAdamFfnInIdeal.main_arg1) = m ((c.tc : Thread Cert.AdamFfnInIdeal.nD Cert.AdamFfnInIdeal.τ).loc Cert.AdamFfnInIdeal.main_arg1)
      ∧ m' ((c.tc : Thread Cert.RefAdamFfnInIdeal.nD Cert.RefAdamFfnInIdeal.τ).loc Cert.RefAdamFfnInIdeal.main_arg2) = m ((c.tc : Thread Cert.AdamFfnInIdeal.nD Cert.AdamFfnInIdeal.τ).loc Cert.AdamFfnInIdeal.main_arg2)
      ∧ m' ((c.tc : Thread Cert.RefAdamFfnInIdeal.nD Cert.RefAdamFfnInIdeal.τ).loc Cert.RefAdamFfnInIdeal.main_arg3) = m ((c.tc : Thread Cert.AdamFfnInIdeal.nD Cert.AdamFfnInIdeal.τ).loc Cert.AdamFfnInIdeal.main_arg3)
      ∧ m' ((c.tc : Thread Cert.RefAdamFfnInIdeal.nD Cert.RefAdamFfnInIdeal.τ).loc Cert.RefAdamFfnInIdeal.main_arg4) = m ((c.tc : Thread Cert.AdamFfnInIdeal.nD Cert.AdamFfnInIdeal.τ).loc Cert.AdamFfnInIdeal.main_arg4)) →
    ∃ (v0 : (c : Dev Cert.AdamFfnInIdeal.nD) → Buf (Elt Ideal) ((c.tc : Thread Cert.AdamFfnInIdeal.nD Cert.AdamFfnInIdeal.τ).loc Cert.AdamFfnInIdeal.main_v9_0)) (v1 : (c : Dev Cert.AdamFfnInIdeal.nD) → Buf (Elt Ideal) ((c.tc : Thread Cert.AdamFfnInIdeal.nD Cert.AdamFfnInIdeal.τ).loc Cert.AdamFfnInIdeal.main_v9_1)) (v2 : (c : Dev Cert.AdamFfnInIdeal.nD) → Buf (Elt Ideal) ((c.tc : Thread Cert.AdamFfnInIdeal.nD Cert.AdamFfnInIdeal.τ).loc Cert.AdamFfnInIdeal.main_v9_2)),
      θ_run (Cert.AdamFfnInIdeal.defs (F := Ideal)) (onTc (τ := Cert.AdamFfnInIdeal.τ) (Cert.AdamFfnInIdeal.main (F := Ideal))) ⟨m, fun _ => 0, g⟩ (fun r => ∀ c : Dev Cert.AdamFfnInIdeal.nD,
          r.2.mem ((c.tc : Thread Cert.AdamFfnInIdeal.nD Cert.AdamFfnInIdeal.τ).loc Cert.AdamFfnInIdeal.main_v9_0) = v0 c
          ∧ r.2.mem ((c.tc : Thread Cert.AdamFfnInIdeal.nD Cert.AdamFfnInIdeal.τ).loc Cert.AdamFfnInIdeal.main_v9_1) = v1 c
          ∧ r.2.mem ((c.tc : Thread Cert.AdamFfnInIdeal.nD Cert.AdamFfnInIdeal.τ).loc Cert.AdamFfnInIdeal.main_v9_2) = v2 c
          ∧ r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
          ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
          ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
          ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3)
          ∧ r.2.mem ((c.tc : Thread Cert.AdamFfnInIdeal.nD Cert.AdamFfnInIdeal.τ).loc Cert.AdamFfnInIdeal.main_arg4) = m ((c.tc : Thread Cert.AdamFfnInIdeal.nD Cert.AdamFfnInIdeal.τ).loc Cert.AdamFfnInIdeal.main_arg4))
      ∧ θ_run (Cert.RefAdamFfnInIdeal.defs (F := Ideal)) (onTc (τ := Cert.RefAdamFfnInIdeal.τ) (Cert.RefAdamFfnInIdeal.main (F := Ideal))) ⟨m', fun _ => 0, g'⟩ (fun r => ∀ c : Dev Cert.RefAdamFfnInIdeal.nD,
          r.2.mem ((c.tc : Thread Cert.RefAdamFfnInIdeal.nD Cert.RefAdamFfnInIdeal.τ).loc Cert.RefAdamFfnInIdeal.main_v27) = v0 c
          ∧ r.2.mem ((c.tc : Thread Cert.RefAdamFfnInIdeal.nD Cert.RefAdamFfnInIdeal.τ).loc Cert.RefAdamFfnInIdeal.main_v28) = v1 c
          ∧ r.2.mem ((c.tc : Thread Cert.RefAdamFfnInIdeal.nD Cert.RefAdamFfnInIdeal.τ).loc Cert.RefAdamFfnInIdeal.main_v29) = v2 c
          ∧ r.2.mem ((c.tc : Thread Cert.RefAdamFfnInIdeal.nD Cert.RefAdamFfnInIdeal.τ).loc Cert.RefAdamFfnInIdeal.main_arg0) = m' ((c.tc : Thread Cert.RefAdamFfnInIdeal.nD Cert.RefAdamFfnInIdeal.τ).loc Cert.RefAdamFfnInIdeal.main_arg0)
          ∧ r.2.mem ((c.tc : Thread Cert.RefAdamFfnInIdeal.nD Cert.RefAdamFfnInIdeal.τ).loc Cert.RefAdamFfnInIdeal.main_arg1) = m' ((c.tc : Thread Cert.RefAdamFfnInIdeal.nD Cert.RefAdamFfnInIdeal.τ).loc Cert.RefAdamFfnInIdeal.main_arg1)
          ∧ r.2.mem ((c.tc : Thread Cert.RefAdamFfnInIdeal.nD Cert.RefAdamFfnInIdeal.τ).loc Cert.RefAdamFfnInIdeal.main_arg2) = m' ((c.tc : Thread Cert.RefAdamFfnInIdeal.nD Cert.RefAdamFfnInIdeal.τ).loc Cert.RefAdamFfnInIdeal.main_arg2)
          ∧ r.2.mem ((c.tc : Thread Cert.RefAdamFfnInIdeal.nD Cert.RefAdamFfnInIdeal.τ).loc Cert.RefAdamFfnInIdeal.main_arg3) = m' ((c.tc : Thread Cert.RefAdamFfnInIdeal.nD Cert.RefAdamFfnInIdeal.τ).loc Cert.RefAdamFfnInIdeal.main_arg3)
          ∧ r.2.mem ((c.tc : Thread Cert.RefAdamFfnInIdeal.nD Cert.RefAdamFfnInIdeal.τ).loc Cert.RefAdamFfnInIdeal.main_arg4) = m' ((c.tc : Thread Cert.RefAdamFfnInIdeal.nD Cert.RefAdamFfnInIdeal.τ).loc Cert.RefAdamFfnInIdeal.main_arg4))

def preserves_AdamFfnOut_AdamFfnOutIdeal : Prop :=
  True

def algebraic_AdamFfnOutIdeal_RefAdamFfnOutIdeal [hAdamFfnOutIdeal : Cert.AdamFfnOutIdeal.Facts] [hRefAdamFfnOutIdeal : Cert.RefAdamFfnOutIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg)
    (m' : (ℓ : Loc Cert.RefAdamFfnOutIdeal.nD Cert.RefAdamFfnOutIdeal.τ Cert.RefAdamFfnOutIdeal.sig) → Buf (Elt Ideal) ℓ) (g' : Dev Cert.RefAdamFfnOutIdeal.nD → PrngReg), Pre_AdamFfnOutIdeal m →
    (∀ c : Dev Cert.AdamFfnOutIdeal.nD,
      m' ((c.tc : Thread Cert.RefAdamFfnOutIdeal.nD Cert.RefAdamFfnOutIdeal.τ).loc Cert.RefAdamFfnOutIdeal.main_arg0) = m ((c.tc : Thread Cert.AdamFfnOutIdeal.nD Cert.AdamFfnOutIdeal.τ).loc Cert.AdamFfnOutIdeal.main_arg0)
      ∧ m' ((c.tc : Thread Cert.RefAdamFfnOutIdeal.nD Cert.RefAdamFfnOutIdeal.τ).loc Cert.RefAdamFfnOutIdeal.main_arg1) = m ((c.tc : Thread Cert.AdamFfnOutIdeal.nD Cert.AdamFfnOutIdeal.τ).loc Cert.AdamFfnOutIdeal.main_arg1)
      ∧ m' ((c.tc : Thread Cert.RefAdamFfnOutIdeal.nD Cert.RefAdamFfnOutIdeal.τ).loc Cert.RefAdamFfnOutIdeal.main_arg2) = m ((c.tc : Thread Cert.AdamFfnOutIdeal.nD Cert.AdamFfnOutIdeal.τ).loc Cert.AdamFfnOutIdeal.main_arg2)
      ∧ m' ((c.tc : Thread Cert.RefAdamFfnOutIdeal.nD Cert.RefAdamFfnOutIdeal.τ).loc Cert.RefAdamFfnOutIdeal.main_arg3) = m ((c.tc : Thread Cert.AdamFfnOutIdeal.nD Cert.AdamFfnOutIdeal.τ).loc Cert.AdamFfnOutIdeal.main_arg3)
      ∧ m' ((c.tc : Thread Cert.RefAdamFfnOutIdeal.nD Cert.RefAdamFfnOutIdeal.τ).loc Cert.RefAdamFfnOutIdeal.main_arg4) = m ((c.tc : Thread Cert.AdamFfnOutIdeal.nD Cert.AdamFfnOutIdeal.τ).loc Cert.AdamFfnOutIdeal.main_arg4)) →
    ∃ (v0 : (c : Dev Cert.AdamFfnOutIdeal.nD) → Buf (Elt Ideal) ((c.tc : Thread Cert.AdamFfnOutIdeal.nD Cert.AdamFfnOutIdeal.τ).loc Cert.AdamFfnOutIdeal.main_v9_0)) (v1 : (c : Dev Cert.AdamFfnOutIdeal.nD) → Buf (Elt Ideal) ((c.tc : Thread Cert.AdamFfnOutIdeal.nD Cert.AdamFfnOutIdeal.τ).loc Cert.AdamFfnOutIdeal.main_v9_1)) (v2 : (c : Dev Cert.AdamFfnOutIdeal.nD) → Buf (Elt Ideal) ((c.tc : Thread Cert.AdamFfnOutIdeal.nD Cert.AdamFfnOutIdeal.τ).loc Cert.AdamFfnOutIdeal.main_v9_2)),
      θ_run (Cert.AdamFfnOutIdeal.defs (F := Ideal)) (onTc (τ := Cert.AdamFfnOutIdeal.τ) (Cert.AdamFfnOutIdeal.main (F := Ideal))) ⟨m, fun _ => 0, g⟩ (fun r => ∀ c : Dev Cert.AdamFfnOutIdeal.nD,
          r.2.mem ((c.tc : Thread Cert.AdamFfnOutIdeal.nD Cert.AdamFfnOutIdeal.τ).loc Cert.AdamFfnOutIdeal.main_v9_0) = v0 c
          ∧ r.2.mem ((c.tc : Thread Cert.AdamFfnOutIdeal.nD Cert.AdamFfnOutIdeal.τ).loc Cert.AdamFfnOutIdeal.main_v9_1) = v1 c
          ∧ r.2.mem ((c.tc : Thread Cert.AdamFfnOutIdeal.nD Cert.AdamFfnOutIdeal.τ).loc Cert.AdamFfnOutIdeal.main_v9_2) = v2 c
          ∧ r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
          ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
          ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
          ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3)
          ∧ r.2.mem ((c.tc : Thread Cert.AdamFfnOutIdeal.nD Cert.AdamFfnOutIdeal.τ).loc Cert.AdamFfnOutIdeal.main_arg4) = m ((c.tc : Thread Cert.AdamFfnOutIdeal.nD Cert.AdamFfnOutIdeal.τ).loc Cert.AdamFfnOutIdeal.main_arg4))
      ∧ θ_run (Cert.RefAdamFfnOutIdeal.defs (F := Ideal)) (onTc (τ := Cert.RefAdamFfnOutIdeal.τ) (Cert.RefAdamFfnOutIdeal.main (F := Ideal))) ⟨m', fun _ => 0, g'⟩ (fun r => ∀ c : Dev Cert.RefAdamFfnOutIdeal.nD,
          r.2.mem ((c.tc : Thread Cert.RefAdamFfnOutIdeal.nD Cert.RefAdamFfnOutIdeal.τ).loc Cert.RefAdamFfnOutIdeal.main_v27) = v0 c
          ∧ r.2.mem ((c.tc : Thread Cert.RefAdamFfnOutIdeal.nD Cert.RefAdamFfnOutIdeal.τ).loc Cert.RefAdamFfnOutIdeal.main_v28) = v1 c
          ∧ r.2.mem ((c.tc : Thread Cert.RefAdamFfnOutIdeal.nD Cert.RefAdamFfnOutIdeal.τ).loc Cert.RefAdamFfnOutIdeal.main_v29) = v2 c
          ∧ r.2.mem ((c.tc : Thread Cert.RefAdamFfnOutIdeal.nD Cert.RefAdamFfnOutIdeal.τ).loc Cert.RefAdamFfnOutIdeal.main_arg0) = m' ((c.tc : Thread Cert.RefAdamFfnOutIdeal.nD Cert.RefAdamFfnOutIdeal.τ).loc Cert.RefAdamFfnOutIdeal.main_arg0)
          ∧ r.2.mem ((c.tc : Thread Cert.RefAdamFfnOutIdeal.nD Cert.RefAdamFfnOutIdeal.τ).loc Cert.RefAdamFfnOutIdeal.main_arg1) = m' ((c.tc : Thread Cert.RefAdamFfnOutIdeal.nD Cert.RefAdamFfnOutIdeal.τ).loc Cert.RefAdamFfnOutIdeal.main_arg1)
          ∧ r.2.mem ((c.tc : Thread Cert.RefAdamFfnOutIdeal.nD Cert.RefAdamFfnOutIdeal.τ).loc Cert.RefAdamFfnOutIdeal.main_arg2) = m' ((c.tc : Thread Cert.RefAdamFfnOutIdeal.nD Cert.RefAdamFfnOutIdeal.τ).loc Cert.RefAdamFfnOutIdeal.main_arg2)
          ∧ r.2.mem ((c.tc : Thread Cert.RefAdamFfnOutIdeal.nD Cert.RefAdamFfnOutIdeal.τ).loc Cert.RefAdamFfnOutIdeal.main_arg3) = m' ((c.tc : Thread Cert.RefAdamFfnOutIdeal.nD Cert.RefAdamFfnOutIdeal.τ).loc Cert.RefAdamFfnOutIdeal.main_arg3)
          ∧ r.2.mem ((c.tc : Thread Cert.RefAdamFfnOutIdeal.nD Cert.RefAdamFfnOutIdeal.τ).loc Cert.RefAdamFfnOutIdeal.main_arg4) = m' ((c.tc : Thread Cert.RefAdamFfnOutIdeal.nD Cert.RefAdamFfnOutIdeal.τ).loc Cert.RefAdamFfnOutIdeal.main_arg4))

def preserves_AdamHybIn_AdamHybInIdeal : Prop :=
  True

def algebraic_AdamHybInIdeal_RefAdamHybInIdeal [hAdamHybInIdeal : Cert.AdamHybInIdeal.Facts] [hRefAdamHybInIdeal : Cert.RefAdamHybInIdeal.Facts] : Prop :=
  ∀ (m : (ℓ : Loc Cert.AdamHybInIdeal.nD Cert.AdamHybInIdeal.τ Cert.AdamHybInIdeal.sig) → Buf (Elt Ideal) ℓ) (g : Dev Cert.AdamHybInIdeal.nD → PrngReg)
    (m' : (ℓ : Loc Cert.RefAdamHybInIdeal.nD Cert.RefAdamHybInIdeal.τ Cert.RefAdamHybInIdeal.sig) → Buf (Elt Ideal) ℓ) (g' : Dev Cert.RefAdamHybInIdeal.nD → PrngReg), Pre_AdamHybInIdeal m →
    (∀ c : Dev Cert.AdamHybInIdeal.nD,
      m' ((c.tc : Thread Cert.RefAdamHybInIdeal.nD Cert.RefAdamHybInIdeal.τ).loc Cert.RefAdamHybInIdeal.main_arg0) = m ((c.tc : Thread Cert.AdamHybInIdeal.nD Cert.AdamHybInIdeal.τ).loc Cert.AdamHybInIdeal.main_arg0)
      ∧ m' ((c.tc : Thread Cert.RefAdamHybInIdeal.nD Cert.RefAdamHybInIdeal.τ).loc Cert.RefAdamHybInIdeal.main_arg1) = m ((c.tc : Thread Cert.AdamHybInIdeal.nD Cert.AdamHybInIdeal.τ).loc Cert.AdamHybInIdeal.main_arg1)
      ∧ m' ((c.tc : Thread Cert.RefAdamHybInIdeal.nD Cert.RefAdamHybInIdeal.τ).loc Cert.RefAdamHybInIdeal.main_arg2) = m ((c.tc : Thread Cert.AdamHybInIdeal.nD Cert.AdamHybInIdeal.τ).loc Cert.AdamHybInIdeal.main_arg2)
      ∧ m' ((c.tc : Thread Cert.RefAdamHybInIdeal.nD Cert.RefAdamHybInIdeal.τ).loc Cert.RefAdamHybInIdeal.main_arg3) = m ((c.tc : Thread Cert.AdamHybInIdeal.nD Cert.AdamHybInIdeal.τ).loc Cert.AdamHybInIdeal.main_arg3)
      ∧ m' ((c.tc : Thread Cert.RefAdamHybInIdeal.nD Cert.RefAdamHybInIdeal.τ).loc Cert.RefAdamHybInIdeal.main_arg4) = m ((c.tc : Thread Cert.AdamHybInIdeal.nD Cert.AdamHybInIdeal.τ).loc Cert.AdamHybInIdeal.main_arg4)) →
    ∃ (v0 : (c : Dev Cert.AdamHybInIdeal.nD) → Buf (Elt Ideal) ((c.tc : Thread Cert.AdamHybInIdeal.nD Cert.AdamHybInIdeal.τ).loc Cert.AdamHybInIdeal.main_v9_0)) (v1 : (c : Dev Cert.AdamHybInIdeal.nD) → Buf (Elt Ideal) ((c.tc : Thread Cert.AdamHybInIdeal.nD Cert.AdamHybInIdeal.τ).loc Cert.AdamHybInIdeal.main_v9_1)) (v2 : (c : Dev Cert.AdamHybInIdeal.nD) → Buf (Elt Ideal) ((c.tc : Thread Cert.AdamHybInIdeal.nD Cert.AdamHybInIdeal.τ).loc Cert.AdamHybInIdeal.main_v9_2)),
      θ_run (Cert.AdamHybInIdeal.defs (F := Ideal)) (onTc (τ := Cert.AdamHybInIdeal.τ) (Cert.AdamHybInIdeal.main (F := Ideal))) ⟨m, fun _ => 0, g⟩ (fun r => ∀ c : Dev Cert.AdamHybInIdeal.nD,
          r.2.mem ((c.tc : Thread Cert.AdamHybInIdeal.nD Cert.AdamHybInIdeal.τ).loc Cert.AdamHybInIdeal.main_v9_0) = v0 c
          ∧ r.2.mem ((c.tc : Thread Cert.AdamHybInIdeal.nD Cert.AdamHybInIdeal.τ).loc Cert.AdamHybInIdeal.main_v9_1) = v1 c
          ∧ r.2.mem ((c.tc : Thread Cert.AdamHybInIdeal.nD Cert.AdamHybInIdeal.τ).loc Cert.AdamHybInIdeal.main_v9_2) = v2 c
          ∧ r.2.mem ((c.tc : Thread Cert.AdamHybInIdeal.nD Cert.AdamHybInIdeal.τ).loc Cert.AdamHybInIdeal.main_arg0) = m ((c.tc : Thread Cert.AdamHybInIdeal.nD Cert.AdamHybInIdeal.τ).loc Cert.AdamHybInIdeal.main_arg0)
          ∧ r.2.mem ((c.tc : Thread Cert.AdamHybInIdeal.nD Cert.AdamHybInIdeal.τ).loc Cert.AdamHybInIdeal.main_arg1) = m ((c.tc : Thread Cert.AdamHybInIdeal.nD Cert.AdamHybInIdeal.τ).loc Cert.AdamHybInIdeal.main_arg1)
          ∧ r.2.mem ((c.tc : Thread Cert.AdamHybInIdeal.nD Cert.AdamHybInIdeal.τ).loc Cert.AdamHybInIdeal.main_arg2) = m ((c.tc : Thread Cert.AdamHybInIdeal.nD Cert.AdamHybInIdeal.τ).loc Cert.AdamHybInIdeal.main_arg2)
          ∧ r.2.mem ((c.tc : Thread Cert.AdamHybInIdeal.nD Cert.AdamHybInIdeal.τ).loc Cert.AdamHybInIdeal.main_arg3) = m ((c.tc : Thread Cert.AdamHybInIdeal.nD Cert.AdamHybInIdeal.τ).loc Cert.AdamHybInIdeal.main_arg3)
          ∧ r.2.mem ((c.tc : Thread Cert.AdamHybInIdeal.nD Cert.AdamHybInIdeal.τ).loc Cert.AdamHybInIdeal.main_arg4) = m ((c.tc : Thread Cert.AdamHybInIdeal.nD Cert.AdamHybInIdeal.τ).loc Cert.AdamHybInIdeal.main_arg4))
      ∧ θ_run (Cert.RefAdamHybInIdeal.defs (F := Ideal)) (onTc (τ := Cert.RefAdamHybInIdeal.τ) (Cert.RefAdamHybInIdeal.main (F := Ideal))) ⟨m', fun _ => 0, g'⟩ (fun r => ∀ c : Dev Cert.RefAdamHybInIdeal.nD,
          r.2.mem ((c.tc : Thread Cert.RefAdamHybInIdeal.nD Cert.RefAdamHybInIdeal.τ).loc Cert.RefAdamHybInIdeal.main_v27) = v0 c
          ∧ r.2.mem ((c.tc : Thread Cert.RefAdamHybInIdeal.nD Cert.RefAdamHybInIdeal.τ).loc Cert.RefAdamHybInIdeal.main_v28) = v1 c
          ∧ r.2.mem ((c.tc : Thread Cert.RefAdamHybInIdeal.nD Cert.RefAdamHybInIdeal.τ).loc Cert.RefAdamHybInIdeal.main_v29) = v2 c
          ∧ r.2.mem ((c.tc : Thread Cert.RefAdamHybInIdeal.nD Cert.RefAdamHybInIdeal.τ).loc Cert.RefAdamHybInIdeal.main_arg0) = m' ((c.tc : Thread Cert.RefAdamHybInIdeal.nD Cert.RefAdamHybInIdeal.τ).loc Cert.RefAdamHybInIdeal.main_arg0)
          ∧ r.2.mem ((c.tc : Thread Cert.RefAdamHybInIdeal.nD Cert.RefAdamHybInIdeal.τ).loc Cert.RefAdamHybInIdeal.main_arg1) = m' ((c.tc : Thread Cert.RefAdamHybInIdeal.nD Cert.RefAdamHybInIdeal.τ).loc Cert.RefAdamHybInIdeal.main_arg1)
          ∧ r.2.mem ((c.tc : Thread Cert.RefAdamHybInIdeal.nD Cert.RefAdamHybInIdeal.τ).loc Cert.RefAdamHybInIdeal.main_arg2) = m' ((c.tc : Thread Cert.RefAdamHybInIdeal.nD Cert.RefAdamHybInIdeal.τ).loc Cert.RefAdamHybInIdeal.main_arg2)
          ∧ r.2.mem ((c.tc : Thread Cert.RefAdamHybInIdeal.nD Cert.RefAdamHybInIdeal.τ).loc Cert.RefAdamHybInIdeal.main_arg3) = m' ((c.tc : Thread Cert.RefAdamHybInIdeal.nD Cert.RefAdamHybInIdeal.τ).loc Cert.RefAdamHybInIdeal.main_arg3)
          ∧ r.2.mem ((c.tc : Thread Cert.RefAdamHybInIdeal.nD Cert.RefAdamHybInIdeal.τ).loc Cert.RefAdamHybInIdeal.main_arg4) = m' ((c.tc : Thread Cert.RefAdamHybInIdeal.nD Cert.RefAdamHybInIdeal.τ).loc Cert.RefAdamHybInIdeal.main_arg4))

def preserves_AdamHybOut_AdamHybOutIdeal : Prop :=
  True

def algebraic_AdamHybOutIdeal_RefAdamHybOutIdeal [hAdamHybOutIdeal : Cert.AdamHybOutIdeal.Facts] [hRefAdamHybOutIdeal : Cert.RefAdamHybOutIdeal.Facts] : Prop :=
  ∀ (m : (ℓ : Loc Cert.AdamHybOutIdeal.nD Cert.AdamHybOutIdeal.τ Cert.AdamHybOutIdeal.sig) → Buf (Elt Ideal) ℓ) (g : Dev Cert.AdamHybOutIdeal.nD → PrngReg)
    (m' : (ℓ : Loc Cert.RefAdamHybOutIdeal.nD Cert.RefAdamHybOutIdeal.τ Cert.RefAdamHybOutIdeal.sig) → Buf (Elt Ideal) ℓ) (g' : Dev Cert.RefAdamHybOutIdeal.nD → PrngReg), Pre_AdamHybOutIdeal m →
    (∀ c : Dev Cert.AdamHybOutIdeal.nD,
      m' ((c.tc : Thread Cert.RefAdamHybOutIdeal.nD Cert.RefAdamHybOutIdeal.τ).loc Cert.RefAdamHybOutIdeal.main_arg0) = m ((c.tc : Thread Cert.AdamHybOutIdeal.nD Cert.AdamHybOutIdeal.τ).loc Cert.AdamHybOutIdeal.main_arg0)
      ∧ m' ((c.tc : Thread Cert.RefAdamHybOutIdeal.nD Cert.RefAdamHybOutIdeal.τ).loc Cert.RefAdamHybOutIdeal.main_arg1) = m ((c.tc : Thread Cert.AdamHybOutIdeal.nD Cert.AdamHybOutIdeal.τ).loc Cert.AdamHybOutIdeal.main_arg1)
      ∧ m' ((c.tc : Thread Cert.RefAdamHybOutIdeal.nD Cert.RefAdamHybOutIdeal.τ).loc Cert.RefAdamHybOutIdeal.main_arg2) = m ((c.tc : Thread Cert.AdamHybOutIdeal.nD Cert.AdamHybOutIdeal.τ).loc Cert.AdamHybOutIdeal.main_arg2)
      ∧ m' ((c.tc : Thread Cert.RefAdamHybOutIdeal.nD Cert.RefAdamHybOutIdeal.τ).loc Cert.RefAdamHybOutIdeal.main_arg3) = m ((c.tc : Thread Cert.AdamHybOutIdeal.nD Cert.AdamHybOutIdeal.τ).loc Cert.AdamHybOutIdeal.main_arg3)
      ∧ m' ((c.tc : Thread Cert.RefAdamHybOutIdeal.nD Cert.RefAdamHybOutIdeal.τ).loc Cert.RefAdamHybOutIdeal.main_arg4) = m ((c.tc : Thread Cert.AdamHybOutIdeal.nD Cert.AdamHybOutIdeal.τ).loc Cert.AdamHybOutIdeal.main_arg4)) →
    ∃ (v0 : (c : Dev Cert.AdamHybOutIdeal.nD) → Buf (Elt Ideal) ((c.tc : Thread Cert.AdamHybOutIdeal.nD Cert.AdamHybOutIdeal.τ).loc Cert.AdamHybOutIdeal.main_v9_0)) (v1 : (c : Dev Cert.AdamHybOutIdeal.nD) → Buf (Elt Ideal) ((c.tc : Thread Cert.AdamHybOutIdeal.nD Cert.AdamHybOutIdeal.τ).loc Cert.AdamHybOutIdeal.main_v9_1)) (v2 : (c : Dev Cert.AdamHybOutIdeal.nD) → Buf (Elt Ideal) ((c.tc : Thread Cert.AdamHybOutIdeal.nD Cert.AdamHybOutIdeal.τ).loc Cert.AdamHybOutIdeal.main_v9_2)),
      θ_run (Cert.AdamHybOutIdeal.defs (F := Ideal)) (onTc (τ := Cert.AdamHybOutIdeal.τ) (Cert.AdamHybOutIdeal.main (F := Ideal))) ⟨m, fun _ => 0, g⟩ (fun r => ∀ c : Dev Cert.AdamHybOutIdeal.nD,
          r.2.mem ((c.tc : Thread Cert.AdamHybOutIdeal.nD Cert.AdamHybOutIdeal.τ).loc Cert.AdamHybOutIdeal.main_v9_0) = v0 c
          ∧ r.2.mem ((c.tc : Thread Cert.AdamHybOutIdeal.nD Cert.AdamHybOutIdeal.τ).loc Cert.AdamHybOutIdeal.main_v9_1) = v1 c
          ∧ r.2.mem ((c.tc : Thread Cert.AdamHybOutIdeal.nD Cert.AdamHybOutIdeal.τ).loc Cert.AdamHybOutIdeal.main_v9_2) = v2 c
          ∧ r.2.mem ((c.tc : Thread Cert.AdamHybOutIdeal.nD Cert.AdamHybOutIdeal.τ).loc Cert.AdamHybOutIdeal.main_arg0) = m ((c.tc : Thread Cert.AdamHybOutIdeal.nD Cert.AdamHybOutIdeal.τ).loc Cert.AdamHybOutIdeal.main_arg0)
          ∧ r.2.mem ((c.tc : Thread Cert.AdamHybOutIdeal.nD Cert.AdamHybOutIdeal.τ).loc Cert.AdamHybOutIdeal.main_arg1) = m ((c.tc : Thread Cert.AdamHybOutIdeal.nD Cert.AdamHybOutIdeal.τ).loc Cert.AdamHybOutIdeal.main_arg1)
          ∧ r.2.mem ((c.tc : Thread Cert.AdamHybOutIdeal.nD Cert.AdamHybOutIdeal.τ).loc Cert.AdamHybOutIdeal.main_arg2) = m ((c.tc : Thread Cert.AdamHybOutIdeal.nD Cert.AdamHybOutIdeal.τ).loc Cert.AdamHybOutIdeal.main_arg2)
          ∧ r.2.mem ((c.tc : Thread Cert.AdamHybOutIdeal.nD Cert.AdamHybOutIdeal.τ).loc Cert.AdamHybOutIdeal.main_arg3) = m ((c.tc : Thread Cert.AdamHybOutIdeal.nD Cert.AdamHybOutIdeal.τ).loc Cert.AdamHybOutIdeal.main_arg3)
          ∧ r.2.mem ((c.tc : Thread Cert.AdamHybOutIdeal.nD Cert.AdamHybOutIdeal.τ).loc Cert.AdamHybOutIdeal.main_arg4) = m ((c.tc : Thread Cert.AdamHybOutIdeal.nD Cert.AdamHybOutIdeal.τ).loc Cert.AdamHybOutIdeal.main_arg4))
      ∧ θ_run (Cert.RefAdamHybOutIdeal.defs (F := Ideal)) (onTc (τ := Cert.RefAdamHybOutIdeal.τ) (Cert.RefAdamHybOutIdeal.main (F := Ideal))) ⟨m', fun _ => 0, g'⟩ (fun r => ∀ c : Dev Cert.RefAdamHybOutIdeal.nD,
          r.2.mem ((c.tc : Thread Cert.RefAdamHybOutIdeal.nD Cert.RefAdamHybOutIdeal.τ).loc Cert.RefAdamHybOutIdeal.main_v27) = v0 c
          ∧ r.2.mem ((c.tc : Thread Cert.RefAdamHybOutIdeal.nD Cert.RefAdamHybOutIdeal.τ).loc Cert.RefAdamHybOutIdeal.main_v28) = v1 c
          ∧ r.2.mem ((c.tc : Thread Cert.RefAdamHybOutIdeal.nD Cert.RefAdamHybOutIdeal.τ).loc Cert.RefAdamHybOutIdeal.main_v29) = v2 c
          ∧ r.2.mem ((c.tc : Thread Cert.RefAdamHybOutIdeal.nD Cert.RefAdamHybOutIdeal.τ).loc Cert.RefAdamHybOutIdeal.main_arg0) = m' ((c.tc : Thread Cert.RefAdamHybOutIdeal.nD Cert.RefAdamHybOutIdeal.τ).loc Cert.RefAdamHybOutIdeal.main_arg0)
          ∧ r.2.mem ((c.tc : Thread Cert.RefAdamHybOutIdeal.nD Cert.RefAdamHybOutIdeal.τ).loc Cert.RefAdamHybOutIdeal.main_arg1) = m' ((c.tc : Thread Cert.RefAdamHybOutIdeal.nD Cert.RefAdamHybOutIdeal.τ).loc Cert.RefAdamHybOutIdeal.main_arg1)
          ∧ r.2.mem ((c.tc : Thread Cert.RefAdamHybOutIdeal.nD Cert.RefAdamHybOutIdeal.τ).loc Cert.RefAdamHybOutIdeal.main_arg2) = m' ((c.tc : Thread Cert.RefAdamHybOutIdeal.nD Cert.RefAdamHybOutIdeal.τ).loc Cert.RefAdamHybOutIdeal.main_arg2)
          ∧ r.2.mem ((c.tc : Thread Cert.RefAdamHybOutIdeal.nD Cert.RefAdamHybOutIdeal.τ).loc Cert.RefAdamHybOutIdeal.main_arg3) = m' ((c.tc : Thread Cert.RefAdamHybOutIdeal.nD Cert.RefAdamHybOutIdeal.τ).loc Cert.RefAdamHybOutIdeal.main_arg3)
          ∧ r.2.mem ((c.tc : Thread Cert.RefAdamHybOutIdeal.nD Cert.RefAdamHybOutIdeal.τ).loc Cert.RefAdamHybOutIdeal.main_arg4) = m' ((c.tc : Thread Cert.RefAdamHybOutIdeal.nD Cert.RefAdamHybOutIdeal.τ).loc Cert.RefAdamHybOutIdeal.main_arg4))

def Claim : Prop :=
  ∃ (hKernel : Cert.Kernel.Facts) (hKernelIdeal : Cert.KernelIdeal.Facts) (hReferenceIdeal : Cert.ReferenceIdeal.Facts) (hDwout : Cert.Dwout.Facts) (hDwoutIdeal : Cert.DwoutIdeal.Facts) (hRefDwoutIdeal : Cert.RefDwoutIdeal.Facts) (hDwin : Cert.Dwin.Facts) (hDwinIdeal : Cert.DwinIdeal.Facts) (hRefDwinIdeal : Cert.RefDwinIdeal.Facts) (hDact : Cert.Dact.Facts) (hDactIdeal : Cert.DactIdeal.Facts) (hRefDactIdeal : Cert.RefDactIdeal.Facts) (hDxn : Cert.Dxn.Facts) (hDxnIdeal : Cert.DxnIdeal.Facts) (hRefDxnIdeal : Cert.RefDxnIdeal.Facts) (hUp : Cert.Up.Facts) (hUpIdeal : Cert.UpIdeal.Facts) (hRefUpIdeal : Cert.RefUpIdeal.Facts) (hDown : Cert.Down.Facts) (hDownIdeal : Cert.DownIdeal.Facts) (hRefDownIdeal : Cert.RefDownIdeal.Facts) (hHybIn : Cert.HybIn.Facts) (hHybInIdeal : Cert.HybInIdeal.Facts) (hRefHybInIdeal : Cert.RefHybInIdeal.Facts) (hHybDwin : Cert.HybDwin.Facts) (hHybDwinIdeal : Cert.HybDwinIdeal.Facts) (hRefHybDwinIdeal : Cert.RefHybDwinIdeal.Facts) (hHybDhn : Cert.HybDhn.Facts) (hHybDhnIdeal : Cert.HybDhnIdeal.Facts) (hRefHybDhnIdeal : Cert.RefHybDhnIdeal.Facts) (hGdnIn : Cert.GdnIn.Facts) (hGdnInIdeal : Cert.GdnInIdeal.Facts) (hRefGdnInIdeal : Cert.RefGdnInIdeal.Facts) (hGdnDwin : Cert.GdnDwin.Facts) (hGdnDwinIdeal : Cert.GdnDwinIdeal.Facts) (hRefGdnDwinIdeal : Cert.RefGdnDwinIdeal.Facts) (hGdnDhn : Cert.GdnDhn.Facts) (hGdnDhnIdeal : Cert.GdnDhnIdeal.Facts) (hRefGdnDhnIdeal : Cert.RefGdnDhnIdeal.Facts) (hMixOut : Cert.MixOut.Facts) (hMixOutIdeal : Cert.MixOutIdeal.Facts) (hRefMixOutIdeal : Cert.RefMixOutIdeal.Facts) (hMixDy : Cert.MixDy.Facts) (hMixDyIdeal : Cert.MixDyIdeal.Facts) (hRefMixDyIdeal : Cert.RefMixDyIdeal.Facts) (hMixDwout : Cert.MixDwout.Facts) (hMixDwoutIdeal : Cert.MixDwoutIdeal.Facts) (hRefMixDwoutIdeal : Cert.RefMixDwoutIdeal.Facts) (hAdamIn : Cert.AdamIn.Facts) (hAdamInIdeal : Cert.AdamInIdeal.Facts) (hRefAdamInIdeal : Cert.RefAdamInIdeal.Facts) (hAdamOut : Cert.AdamOut.Facts) (hAdamOutIdeal : Cert.AdamOutIdeal.Facts) (hRefAdamOutIdeal : Cert.RefAdamOutIdeal.Facts) (hAdamPack : Cert.AdamPack.Facts) (hAdamPackIdeal : Cert.AdamPackIdeal.Facts) (hRefAdamPackIdeal : Cert.RefAdamPackIdeal.Facts) (hAdamFfnIn : Cert.AdamFfnIn.Facts) (hAdamFfnInIdeal : Cert.AdamFfnInIdeal.Facts) (hRefAdamFfnInIdeal : Cert.RefAdamFfnInIdeal.Facts) (hAdamFfnOut : Cert.AdamFfnOut.Facts) (hAdamFfnOutIdeal : Cert.AdamFfnOutIdeal.Facts) (hRefAdamFfnOutIdeal : Cert.RefAdamFfnOutIdeal.Facts) (hAdamHybIn : Cert.AdamHybIn.Facts) (hAdamHybInIdeal : Cert.AdamHybInIdeal.Facts) (hRefAdamHybInIdeal : Cert.RefAdamHybInIdeal.Facts) (hAdamHybOut : Cert.AdamHybOut.Facts) (hAdamHybOutIdeal : Cert.AdamHybOutIdeal.Facts) (hRefAdamHybOutIdeal : Cert.RefAdamHybOutIdeal.Facts) (hPre_finite : Cert.Pre_finite.Facts) (hPre_finite_dact : Cert.Pre_finite_dact.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dwout (hDwout := hDwout)
    ∧ quiescent_DwoutIdeal (hDwoutIdeal := hDwoutIdeal)
    ∧ quiescent_RefDwoutIdeal (hRefDwoutIdeal := hRefDwoutIdeal)
    ∧ quiescent_Dwin (hDwin := hDwin)
    ∧ quiescent_DwinIdeal (hDwinIdeal := hDwinIdeal)
    ∧ quiescent_RefDwinIdeal (hRefDwinIdeal := hRefDwinIdeal)
    ∧ quiescent_Dact (hDact := hDact)
    ∧ quiescent_DactIdeal (hDactIdeal := hDactIdeal)
    ∧ quiescent_DactIdeal_pre_finite_dact (hDactIdeal := hDactIdeal) (hPre_finite_dact := hPre_finite_dact)
    ∧ quiescent_RefDactIdeal (hRefDactIdeal := hRefDactIdeal)
    ∧ quiescent_RefDactIdeal_pre_finite_dact (hRefDactIdeal := hRefDactIdeal) (hPre_finite_dact := hPre_finite_dact)
    ∧ quiescent_Dxn (hDxn := hDxn)
    ∧ quiescent_DxnIdeal (hDxnIdeal := hDxnIdeal)
    ∧ quiescent_RefDxnIdeal (hRefDxnIdeal := hRefDxnIdeal)
    ∧ quiescent_Up (hUp := hUp)
    ∧ quiescent_UpIdeal (hUpIdeal := hUpIdeal)
    ∧ quiescent_RefUpIdeal (hRefUpIdeal := hRefUpIdeal)
    ∧ quiescent_Down (hDown := hDown)
    ∧ quiescent_DownIdeal (hDownIdeal := hDownIdeal)
    ∧ quiescent_RefDownIdeal (hRefDownIdeal := hRefDownIdeal)
    ∧ quiescent_HybIn (hHybIn := hHybIn)
    ∧ quiescent_HybInIdeal (hHybInIdeal := hHybInIdeal)
    ∧ quiescent_RefHybInIdeal (hRefHybInIdeal := hRefHybInIdeal)
    ∧ quiescent_HybDwin (hHybDwin := hHybDwin)
    ∧ quiescent_HybDwinIdeal (hHybDwinIdeal := hHybDwinIdeal)
    ∧ quiescent_RefHybDwinIdeal (hRefHybDwinIdeal := hRefHybDwinIdeal)
    ∧ quiescent_HybDhn (hHybDhn := hHybDhn)
    ∧ quiescent_HybDhnIdeal (hHybDhnIdeal := hHybDhnIdeal)
    ∧ quiescent_RefHybDhnIdeal (hRefHybDhnIdeal := hRefHybDhnIdeal)
    ∧ quiescent_GdnIn (hGdnIn := hGdnIn)
    ∧ quiescent_GdnInIdeal (hGdnInIdeal := hGdnInIdeal)
    ∧ quiescent_RefGdnInIdeal (hRefGdnInIdeal := hRefGdnInIdeal)
    ∧ quiescent_GdnDwin (hGdnDwin := hGdnDwin)
    ∧ quiescent_GdnDwinIdeal (hGdnDwinIdeal := hGdnDwinIdeal)
    ∧ quiescent_RefGdnDwinIdeal (hRefGdnDwinIdeal := hRefGdnDwinIdeal)
    ∧ quiescent_GdnDhn (hGdnDhn := hGdnDhn)
    ∧ quiescent_GdnDhnIdeal (hGdnDhnIdeal := hGdnDhnIdeal)
    ∧ quiescent_RefGdnDhnIdeal (hRefGdnDhnIdeal := hRefGdnDhnIdeal)
    ∧ quiescent_MixOut (hMixOut := hMixOut)
    ∧ quiescent_MixOutIdeal (hMixOutIdeal := hMixOutIdeal)
    ∧ quiescent_RefMixOutIdeal (hRefMixOutIdeal := hRefMixOutIdeal)
    ∧ quiescent_MixDy (hMixDy := hMixDy)
    ∧ quiescent_MixDyIdeal (hMixDyIdeal := hMixDyIdeal)
    ∧ quiescent_RefMixDyIdeal (hRefMixDyIdeal := hRefMixDyIdeal)
    ∧ quiescent_MixDwout (hMixDwout := hMixDwout)
    ∧ quiescent_MixDwoutIdeal (hMixDwoutIdeal := hMixDwoutIdeal)
    ∧ quiescent_RefMixDwoutIdeal (hRefMixDwoutIdeal := hRefMixDwoutIdeal)
    ∧ quiescent_AdamIn (hAdamIn := hAdamIn)
    ∧ quiescent_AdamInIdeal (hAdamInIdeal := hAdamInIdeal)
    ∧ quiescent_RefAdamInIdeal (hRefAdamInIdeal := hRefAdamInIdeal)
    ∧ quiescent_AdamOut (hAdamOut := hAdamOut)
    ∧ quiescent_AdamOutIdeal (hAdamOutIdeal := hAdamOutIdeal)
    ∧ quiescent_RefAdamOutIdeal (hRefAdamOutIdeal := hRefAdamOutIdeal)
    ∧ quiescent_AdamPack (hAdamPack := hAdamPack)
    ∧ quiescent_AdamPackIdeal (hAdamPackIdeal := hAdamPackIdeal)
    ∧ quiescent_RefAdamPackIdeal (hRefAdamPackIdeal := hRefAdamPackIdeal)
    ∧ quiescent_AdamFfnIn (hAdamFfnIn := hAdamFfnIn)
    ∧ quiescent_AdamFfnInIdeal (hAdamFfnInIdeal := hAdamFfnInIdeal)
    ∧ quiescent_RefAdamFfnInIdeal (hRefAdamFfnInIdeal := hRefAdamFfnInIdeal)
    ∧ quiescent_AdamFfnOut (hAdamFfnOut := hAdamFfnOut)
    ∧ quiescent_AdamFfnOutIdeal (hAdamFfnOutIdeal := hAdamFfnOutIdeal)
    ∧ quiescent_RefAdamFfnOutIdeal (hRefAdamFfnOutIdeal := hRefAdamFfnOutIdeal)
    ∧ quiescent_AdamHybIn (hAdamHybIn := hAdamHybIn)
    ∧ quiescent_AdamHybInIdeal (hAdamHybInIdeal := hAdamHybInIdeal)
    ∧ quiescent_RefAdamHybInIdeal (hRefAdamHybInIdeal := hRefAdamHybInIdeal)
    ∧ quiescent_AdamHybOut (hAdamHybOut := hAdamHybOut)
    ∧ quiescent_AdamHybOutIdeal (hAdamHybOutIdeal := hAdamHybOutIdeal)
    ∧ quiescent_RefAdamHybOutIdeal (hRefAdamHybOutIdeal := hRefAdamHybOutIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Dwout_DwoutIdeal
    ∧ algebraic_DwoutIdeal_RefDwoutIdeal (hDwoutIdeal := hDwoutIdeal) (hRefDwoutIdeal := hRefDwoutIdeal)
    ∧ preserves_Dwin_DwinIdeal
    ∧ algebraic_DwinIdeal_RefDwinIdeal (hDwinIdeal := hDwinIdeal) (hRefDwinIdeal := hRefDwinIdeal)
    ∧ preserves_Dact_DactIdeal
    ∧ algebraic_DactIdeal_RefDactIdeal_pre_finite_dact (hDactIdeal := hDactIdeal) (hRefDactIdeal := hRefDactIdeal) (hPre_finite_dact := hPre_finite_dact)
    ∧ preserves_Dxn_DxnIdeal
    ∧ algebraic_DxnIdeal_RefDxnIdeal (hDxnIdeal := hDxnIdeal) (hRefDxnIdeal := hRefDxnIdeal)
    ∧ preserves_Up_UpIdeal
    ∧ algebraic_UpIdeal_RefUpIdeal (hUpIdeal := hUpIdeal) (hRefUpIdeal := hRefUpIdeal)
    ∧ preserves_Down_DownIdeal
    ∧ algebraic_DownIdeal_RefDownIdeal (hDownIdeal := hDownIdeal) (hRefDownIdeal := hRefDownIdeal)
    ∧ preserves_HybIn_HybInIdeal
    ∧ algebraic_HybInIdeal_RefHybInIdeal (hHybInIdeal := hHybInIdeal) (hRefHybInIdeal := hRefHybInIdeal)
    ∧ preserves_HybDwin_HybDwinIdeal
    ∧ algebraic_HybDwinIdeal_RefHybDwinIdeal (hHybDwinIdeal := hHybDwinIdeal) (hRefHybDwinIdeal := hRefHybDwinIdeal)
    ∧ preserves_HybDhn_HybDhnIdeal
    ∧ algebraic_HybDhnIdeal_RefHybDhnIdeal (hHybDhnIdeal := hHybDhnIdeal) (hRefHybDhnIdeal := hRefHybDhnIdeal)
    ∧ preserves_GdnIn_GdnInIdeal
    ∧ algebraic_GdnInIdeal_RefGdnInIdeal (hGdnInIdeal := hGdnInIdeal) (hRefGdnInIdeal := hRefGdnInIdeal)
    ∧ preserves_GdnDwin_GdnDwinIdeal
    ∧ algebraic_GdnDwinIdeal_RefGdnDwinIdeal (hGdnDwinIdeal := hGdnDwinIdeal) (hRefGdnDwinIdeal := hRefGdnDwinIdeal)
    ∧ preserves_GdnDhn_GdnDhnIdeal
    ∧ algebraic_GdnDhnIdeal_RefGdnDhnIdeal (hGdnDhnIdeal := hGdnDhnIdeal) (hRefGdnDhnIdeal := hRefGdnDhnIdeal)
    ∧ preserves_MixOut_MixOutIdeal
    ∧ algebraic_MixOutIdeal_RefMixOutIdeal (hMixOutIdeal := hMixOutIdeal) (hRefMixOutIdeal := hRefMixOutIdeal)
    ∧ preserves_MixDy_MixDyIdeal
    ∧ algebraic_MixDyIdeal_RefMixDyIdeal (hMixDyIdeal := hMixDyIdeal) (hRefMixDyIdeal := hRefMixDyIdeal)
    ∧ preserves_MixDwout_MixDwoutIdeal
    ∧ algebraic_MixDwoutIdeal_RefMixDwoutIdeal (hMixDwoutIdeal := hMixDwoutIdeal) (hRefMixDwoutIdeal := hRefMixDwoutIdeal)
    ∧ preserves_AdamIn_AdamInIdeal
    ∧ algebraic_AdamInIdeal_RefAdamInIdeal (hAdamInIdeal := hAdamInIdeal) (hRefAdamInIdeal := hRefAdamInIdeal)
    ∧ preserves_AdamOut_AdamOutIdeal
    ∧ algebraic_AdamOutIdeal_RefAdamOutIdeal (hAdamOutIdeal := hAdamOutIdeal) (hRefAdamOutIdeal := hRefAdamOutIdeal)
    ∧ preserves_AdamPack_AdamPackIdeal
    ∧ algebraic_AdamPackIdeal_RefAdamPackIdeal (hAdamPackIdeal := hAdamPackIdeal) (hRefAdamPackIdeal := hRefAdamPackIdeal)
    ∧ preserves_AdamFfnIn_AdamFfnInIdeal
    ∧ algebraic_AdamFfnInIdeal_RefAdamFfnInIdeal (hAdamFfnInIdeal := hAdamFfnInIdeal) (hRefAdamFfnInIdeal := hRefAdamFfnInIdeal)
    ∧ preserves_AdamFfnOut_AdamFfnOutIdeal
    ∧ algebraic_AdamFfnOutIdeal_RefAdamFfnOutIdeal (hAdamFfnOutIdeal := hAdamFfnOutIdeal) (hRefAdamFfnOutIdeal := hRefAdamFfnOutIdeal)
    ∧ preserves_AdamHybIn_AdamHybInIdeal
    ∧ algebraic_AdamHybInIdeal_RefAdamHybInIdeal (hAdamHybInIdeal := hAdamHybInIdeal) (hRefAdamHybInIdeal := hRefAdamHybInIdeal)
    ∧ preserves_AdamHybOut_AdamHybOutIdeal
    ∧ algebraic_AdamHybOutIdeal_RefAdamHybOutIdeal (hAdamHybOutIdeal := hAdamHybOutIdeal) (hRefAdamHybOutIdeal := hRefAdamHybOutIdeal)
-- ==== Pre_finite.lean ====
abbrev S4096x1536 : Shape := ⟨2, ![4096, 1536]⟩
abbrev S4096x512 : Shape := ⟨2, ![4096, 512]⟩
abbrev S_ : Shape := ⟨0, ![]⟩

class Facts : Prop where
  bcast_S_S4096x1536 : S_.BroadcastsInDim S4096x1536 (![] : Fin 0 → Fin S4096x1536.rank)
  bcast_S_S4096x512 : S_.BroadcastsInDim S4096x512 (![] : Fin 0 → Fin S4096x512.rank)

variable [Facts]

def fn {F : FTy → Type} [FloatOps F] (main_arg0 : FVec F S4096x1536 .bf16) (main_arg1 : FVec F S4096x512 .bf16) (main_arg2 : FVec F S4096x512 .f32) : IVec S4096x1536 1 × IVec S4096x512 1 × IVec S4096x512 1 :=
  let main_cst : FVec F S_ .bf16 := constant S_ .bf16 0xFF80#16
  let main_v0 : FVec F S4096x1536 .bf16 := broadcastInDim S4096x1536 ![] bcast_S_S4096x1536 main_cst
  let main_v1 : IVec S4096x1536 1 := cmpf .ogt main_arg0 main_v0
  let main_cst_0 : FVec F S_ .bf16 := constant S_ .bf16 0x7F80#16
  let main_v2 : FVec F S4096x1536 .bf16 := broadcastInDim S4096x1536 ![] bcast_S_S4096x1536 main_cst_0
  let main_v3 : IVec S4096x1536 1 := cmpf .olt main_arg0 main_v2
  let main_v4 : IVec S4096x1536 1 := andi main_v1 main_v3
  let main_cst_1 : FVec F S_ .bf16 := constant S_ .bf16 0xFF80#16
  let main_v5 : FVec F S4096x512 .bf16 := broadcastInDim S4096x512 ![] bcast_S_S4096x512 main_cst_1
  let main_v6 : IVec S4096x512 1 := cmpf .ogt main_arg1 main_v5
  let main_cst_2 : FVec F S_ .bf16 := constant S_ .bf16 0x7F80#16
  let main_v7 : FVec F S4096x512 .bf16 := broadcastInDim S4096x512 ![] bcast_S_S4096x512 main_cst_2
  let main_v8 : IVec S4096x512 1 := cmpf .olt main_arg1 main_v7
  let main_v9 : IVec S4096x512 1 := andi main_v6 main_v8
  let main_cst_3 : FVec F S_ .f32 := constant S_ .f32 0xFF800000#32
  let main_v10 : FVec F S4096x512 .f32 := broadcastInDim S4096x512 ![] bcast_S_S4096x512 main_cst_3
  let main_v11 : IVec S4096x512 1 := cmpf .ogt main_arg2 main_v10
  let main_cst_4 : FVec F S_ .f32 := constant S_ .f32 0x7F800000#32
  let main_v12 : FVec F S4096x512 .f32 := broadcastInDim S4096x512 ![] bcast_S_S4096x512 main_cst_4
  let main_v13 : IVec S4096x512 1 := cmpf .olt main_arg2 main_v12
  let main_v14 : IVec S4096x512 1 := andi main_v11 main_v13
  (main_v4, main_v9, main_v14)
-- ==== Pre_finite_dact.lean ====
abbrev S4096x1024 : Shape := ⟨2, ![4096, 1024]⟩
abbrev S4x2816x1024 : Shape := ⟨3, ![4, 2816, 1024]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  bcast_S_S4x2816x1024 : S_.BroadcastsInDim S4x2816x1024 (![] : Fin 0 → Fin S4x2816x1024.rank)
  bcast_S_S4096x2816 : S_.BroadcastsInDim S4096x2816 (![] : Fin 0 → Fin S4096x2816.rank)

variable [Facts]

def fn {F : FTy → Type} [FloatOps F] (main_arg0 : FVec F S4096x1024 .f32) (main_arg1 : FVec F S4x2816x1024 .bf16) (main_arg2 : FVec F S4096x2816 .bf16) (main_arg3 : FVec F S4096x2816 .bf16) : IVec S4096x1024 1 × IVec S4x2816x1024 1 × IVec S4096x2816 1 :=
  let main_cst : FVec F S_ .f32 := constant S_ .f32 0xFF800000#32
  let main_v0 : FVec F S4096x1024 .f32 := broadcastInDim S4096x1024 ![] bcast_S_S4096x1024 main_cst
  let main_v1 : IVec S4096x1024 1 := cmpf .ogt main_arg0 main_v0
  let main_cst_0 : FVec F S_ .f32 := constant S_ .f32 0x7F800000#32
  let main_v2 : FVec F S4096x1024 .f32 := broadcastInDim S4096x1024 ![] bcast_S_S4096x1024 main_cst_0
  let main_v3 : IVec S4096x1024 1 := cmpf .olt main_arg0 main_v2
  let main_v4 : IVec S4096x1024 1 := andi main_v1 main_v3
  let main_cst_1 : FVec F S_ .bf16 := constant S_ .bf16 0xFF80#16
  let main_v5 : FVec F S4x2816x1024 .bf16 := broadcastInDim S4x2816x1024 ![] bcast_S_S4x2816x1024 main_cst_1
  let main_v6 : IVec S4x2816x1024 1 := cmpf .ogt main_arg1 main_v5
  let main_cst_2 : FVec F S_ .bf16 := constant S_ .bf16 0x7F80#16
  let main_v7 : FVec F S4x2816x1024 .bf16 := broadcastInDim S4x2816x1024 ![] bcast_S_S4x2816x1024 main_cst_2
  let main_v8 : IVec S4x2816x1024 1 := cmpf .olt main_arg1 main_v7
  let main_v9 : IVec S4x2816x1024 1 := andi main_v6 main_v8
  let main_cst_3 : FVec F S_ .bf16 := constant S_ .bf16 0xFF80#16
  let main_v10 : FVec F S4096x2816 .bf16 := broadcastInDim S4096x2816 ![] bcast_S_S4096x2816 main_cst_3
  let main_v11 : IVec S4096x2816 1 := cmpf .ogt main_arg3 main_v10
  let main_cst_4 : FVec F S_ .bf16 := constant S_ .bf16 0x7F80#16
  let main_v12 : FVec F S4096x2816 .bf16 := broadcastInDim S4096x2816 ![] bcast_S_S4096x2816 main_cst_4
  let main_v13 : IVec S4096x2816 1 := cmpf .olt main_arg3 main_v12
  let main_v14 : IVec S4096x2816 1 := andi main_v11 main_v13
  (main_v4, main_v9, main_v14)
-- ==== Kernel.lean ====
abbrev S4096x1536 : Shape := ⟨2, ![4096, 1536]⟩
abbrev S4096x512 : Shape := ⟨2, ![4096, 512]⟩
abbrev S1024x4x8x64 : Shape := ⟨4, ![1024, 4, 8, 64]⟩
abbrev S4x1024x8x64 : Shape := ⟨4, ![4, 1024, 8, 64]⟩
abbrev S4x8x128x8x64 : Shape := ⟨5, ![4, 8, 128, 8, 64]⟩
abbrev S4x1x128x8x64 : Shape := ⟨5, ![4, 1, 128, 8, 64]⟩
abbrev S_ : Shape := ⟨0, ![]⟩
abbrev S4x7x128x8x64 : Shape := ⟨5, ![4, 7, 128, 8, 64]⟩
abbrev S4x8x256x8x64 : Shape := ⟨5, ![4, 8, 256, 8, 64]⟩
abbrev S4x8x8x128x256 : Shape := ⟨5, ![4, 8, 8, 128, 256]⟩
abbrev S8 : Shape := ⟨1, ![8]⟩
abbrev S8x1x1 : Shape := ⟨3, ![8, 1, 1]⟩
abbrev S128 : Shape := ⟨1, ![128]⟩
abbrev S1x128x1 : Shape := ⟨3, ![1, 128, 1]⟩
abbrev S8x128x1 : Shape := ⟨3, ![8, 128, 1]⟩
abbrev S256 : Shape := ⟨1, ![256]⟩
abbrev S1x1x256 : Shape := ⟨3, ![1, 1, 256]⟩
abbrev S8x1x256 : Shape := ⟨3, ![8, 1, 256]⟩
abbrev S8x128x256 : Shape := ⟨3, ![8, 128, 256]⟩
abbrev S8x1x128x256 : Shape := ⟨4, ![8, 1, 128, 256]⟩
abbrev S4x8x8x128 : Shape := ⟨4, ![4, 8, 8, 128]⟩
abbrev S4x8x8x128x1 : Shape := ⟨5, ![4, 8, 8, 128, 1]⟩
abbrev S4x8x8x64x128 : Shape := ⟨5, ![4, 8, 8, 64, 128]⟩
abbrev S4x8x128x8 : Shape := ⟨4, ![4, 8, 128, 8]⟩
abbrev S4096x8x64 : Shape := ⟨3, ![4096, 8, 64]⟩
abbrev S4x1024x8 : Shape := ⟨3, ![4, 1024, 8]⟩
abbrev S1024x4x8 : Shape := ⟨3, ![1024, 4, 8]⟩
abbrev S4096x8 : Shape := ⟨2, ![4096, 8]⟩
abbrev S4096x8x1 : Shape := ⟨3, ![4096, 8, 1]⟩
abbrev S1024x6144 : Shape := ⟨2, ![1024, 6144]⟩
abbrev S1024x2048 : Shape := ⟨2, ![1024, 2048]⟩
abbrev S128x512 : Shape := ⟨2, ![128, 512]⟩
abbrev S128x1536 : Shape := ⟨2, ![128, 1536]⟩
abbrev S128x128 : Shape := ⟨2, ![128, 128]⟩
abbrev S128x1 : Shape := ⟨2, ![128, 1]⟩

abbrev nBuf : Space → Nat
  | .hbm => 102
  | .vmem => 28
  | .smem => 0
  | _ => 0

abbrev bufTy : (tb : Table) → Fin (tcTables nBuf tb) → BufTy
  | .hbm, ⟨0, _⟩ => ⟨S4096x1536, .bf16⟩
  | .hbm, ⟨1, _⟩ => ⟨S4096x512, .bf16⟩
  | .hbm, ⟨2, _⟩ => ⟨S4096x512, .f32⟩
  | .hbm, ⟨3, _⟩ => ⟨S4096x1536, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S1024x4x8x64, .f32⟩
  | .hbm, ⟨8, _⟩ => ⟨S4x1024x8x64, .f32⟩
  | .hbm, ⟨9, _⟩ => ⟨S4x8x128x8x64, .f32⟩
  | .hbm, ⟨10, _⟩ => ⟨S1024x4x8x64, .f32⟩
  | .hbm, ⟨11, _⟩ => ⟨S4x1024x8x64, .f32⟩
  | .hbm, ⟨12, _⟩ => ⟨S4x8x128x8x64, .f32⟩
  | .hbm, ⟨13, _⟩ => ⟨S4x1x128x8x64, .f32⟩
  | .hbm, ⟨14, _⟩ => ⟨S_, .f32⟩
  | .hbm, ⟨15, _⟩ => ⟨S4x1x128x8x64, .f32⟩
  | .hbm, ⟨16, _⟩ => ⟨S4x7x128x8x64, .f32⟩
  | .hbm, ⟨17, _⟩ => ⟨S4x8x128x8x64, .f32⟩
  | .hbm, ⟨18, _⟩ => ⟨S4x8x256x8x64, .f32⟩
  | .hbm, ⟨19, _⟩ => ⟨S1024x4x8x64, .f32⟩
  | .hbm, ⟨20, _⟩ => ⟨S4x1024x8x64, .f32⟩
  | .hbm, ⟨21, _⟩ => ⟨S4x8x128x8x64, .f32⟩
  | .hbm, ⟨22, _⟩ => ⟨S4x1x128x8x64, .f32⟩
  | .hbm, ⟨23, _⟩ => ⟨S_, .f32⟩
  | .hbm, ⟨24, _⟩ => ⟨S4x1x128x8x64, .f32⟩
  | .hbm, ⟨25, _⟩ => ⟨S4x7x128x8x64, .f32⟩
  | .hbm, ⟨26, _⟩ => ⟨S4x8x128x8x64, .f32⟩
  | .hbm, ⟨27, _⟩ => ⟨S4x8x256x8x64, .f32⟩
  | .hbm, ⟨28, _⟩ => ⟨S4x8x8x128x256, .f32⟩
  | .hbm, ⟨29, _⟩ => ⟨S8, .i32⟩
  | .hbm, ⟨30, _⟩ => ⟨S8x1x1, .i32⟩
  | .hbm, ⟨31, _⟩ => ⟨S_, .i32⟩
  | .hbm, ⟨32, _⟩ => ⟨S8x1x1, .i32⟩
  | .hbm, ⟨33, _⟩ => ⟨S8x1x1, .i32⟩
  | .hbm, ⟨34, _⟩ => ⟨S128, .i32⟩
  | .hbm, ⟨35, _⟩ => ⟨S1x128x1, .i32⟩
  | .hbm, ⟨36, _⟩ => ⟨S8x128x1, .i32⟩
  | .hbm, ⟨37, _⟩ => ⟨S8x128x1, .i32⟩
  | .hbm, ⟨38, _⟩ => ⟨S8x128x1, .i32⟩
  | .hbm, ⟨39, _⟩ => ⟨S_, .i32⟩
  | .hbm, ⟨40, _⟩ => ⟨S8x1x1, .i32⟩
  | .hbm, ⟨41, _⟩ => ⟨S8x1x1, .i32⟩
  | .hbm, ⟨42, _⟩ => ⟨S256, .i32⟩
  | .hbm, ⟨43, _⟩ => ⟨S1x1x256, .i32⟩
  | .hbm, ⟨44, _⟩ => ⟨S8x1x256, .i32⟩
  | .hbm, ⟨45, _⟩ => ⟨S8x1x256, .i32⟩
  | .hbm, ⟨46, _⟩ => ⟨S8x1x256, .i32⟩
  | .hbm, ⟨47, _⟩ => ⟨S8x128x256, .i32⟩
  | .hbm, ⟨48, _⟩ => ⟨S8x128x256, .i32⟩
  | .hbm, ⟨49, _⟩ => ⟨S8x128x256, .i32⟩
  | .hbm, ⟨50, _⟩ => ⟨S_, .i32⟩
  | .hbm, ⟨51, _⟩ => ⟨S8x128x256, .i32⟩
  | .hbm, ⟨52, _⟩ => ⟨S8x128x256, .i1⟩
  | .hbm, ⟨53, _⟩ => ⟨S_, .i32⟩
  | .hbm, ⟨54, _⟩ => ⟨S8x128x256, .i32⟩
  | .hbm, ⟨55, _⟩ => ⟨S8x128x256, .i1⟩
  | .hbm, ⟨56, _⟩ => ⟨S8x128x256, .i1⟩
  | .hbm, ⟨57, _⟩ => ⟨S_, .i32⟩
  | .hbm, ⟨58, _⟩ => ⟨S8x1x256, .i32⟩
  | .hbm, ⟨59, _⟩ => ⟨S8x1x256, .i1⟩
  | .hbm, ⟨60, _⟩ => ⟨S8x128x256, .i1⟩
  | .hbm, ⟨61, _⟩ => ⟨S8x128x256, .i1⟩
  | .hbm, ⟨62, _⟩ => ⟨S8x1x128x256, .i1⟩
  | .hbm, ⟨63, _⟩ => ⟨S_, .f32⟩
  | .hbm, ⟨64, _⟩ => ⟨S_, .f32⟩
  | .hbm, ⟨65, _⟩ => ⟨S4x8x8x128x256, .i1⟩
  | .hbm, ⟨66, _⟩ => ⟨S4x8x8x128x256, .f32⟩
  | .hbm, ⟨67, _⟩ => ⟨S4x8x8x128x256, .f32⟩
  | .hbm, ⟨68, _⟩ => ⟨S_, .f32⟩
  | .hbm, ⟨69, _⟩ => ⟨S4x8x8x128, .f32⟩
  | .hbm, ⟨70, _⟩ => ⟨S4x8x8x128x1, .f32⟩
  | .hbm, ⟨71, _⟩ => ⟨S4x8x8x128x256, .f32⟩
  | .hbm, ⟨72, _⟩ => ⟨S4x8x8x128x256, .f32⟩
  | .hbm, ⟨73, _⟩ => ⟨S4x8x8x128x256, .f32⟩
  | .hbm, ⟨74, _⟩ => ⟨S_, .f32⟩
  | .hbm, ⟨75, _⟩ => ⟨S4x8x8x128, .f32⟩
  | .hbm, ⟨76, _⟩ => ⟨S4x8x8x128x1, .f32⟩
  | .hbm, ⟨77, _⟩ => ⟨S4x8x8x128x256, .f32⟩
  | .hbm, ⟨78, _⟩ => ⟨S4x8x8x128x256, .f32⟩
  | .hbm, ⟨79, _⟩ => ⟨S4x8x8x64x128, .f32⟩
  | .hbm, ⟨80, _⟩ => ⟨S4x8x128x8x64, .f32⟩
  | .hbm, ⟨81, _⟩ => ⟨S4x8x8x128x1, .f32⟩
  | .hbm, ⟨82, _⟩ => ⟨S4x8x8x128x1, .f32⟩
  | .hbm, ⟨83, _⟩ => ⟨S4x8x8x128, .f32⟩
  | .hbm, ⟨84, _⟩ => ⟨S4x8x128x8, .f32⟩
  | .hbm, ⟨85, _⟩ => ⟨S4x1024x8x64, .f32⟩
  | .hbm, ⟨86, _⟩ => ⟨S1024x4x8x64, .f32⟩
  | .hbm, ⟨87, _⟩ => ⟨S4096x8x64, .f32⟩
  | .hbm, ⟨88, _⟩ => ⟨S4x1024x8, .f32⟩
  | .hbm, ⟨89, _⟩ => ⟨S1024x4x8, .f32⟩
  | .hbm, ⟨90, _⟩ => ⟨S4096x8, .f32⟩
  | .hbm, ⟨91, _⟩ => ⟨S4096x8x1, .f32⟩
  | .hbm, ⟨92, _⟩ => ⟨S4096x8x64, .f32⟩
  | .hbm, ⟨93, _⟩ => ⟨S4096x512, .f32⟩
  | .hbm, ⟨94, _⟩ => ⟨S4096x512, .bf16⟩
  | .hbm, ⟨95, _⟩ => ⟨S4096x512, .f32⟩
  | .hbm, ⟨96, _⟩ => ⟨S1024x6144, .bf16⟩
  | .hbm, ⟨97, _⟩ => ⟨S1024x2048, .bf16⟩
  | .hbm, ⟨98, _⟩ => ⟨S1024x2048, .f32⟩
  | .hbm, ⟨99, _⟩ => ⟨S1024x2048, .bf16⟩
  | .hbm, ⟨100, _⟩ => ⟨S1024x2048, .f32⟩
  | .hbm, ⟨101, _⟩ => ⟨S1024x6144, .bf16⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x512, .bf16⟩
  | .local _ .vmem, ⟨11, _⟩ => ⟨S128x512, .bf16⟩
  | .local _ .vmem, ⟨12, _⟩ => ⟨S128x512, .f32⟩
  | .local _ .vmem, ⟨13, _⟩ => ⟨S128x512, .f32⟩
  | .local _ .vmem, ⟨14, _⟩ => ⟨S128x512, .bf16⟩
  | .local _ .vmem, ⟨15, _⟩ => ⟨S128x512, .bf16⟩
  | .local _ .vmem, ⟨16, _⟩ => ⟨S128x512, .f32⟩
  | .local _ .vmem, ⟨17, _⟩ => ⟨S128x512, .f32⟩
  | .local _ .vmem, ⟨18, _⟩ => ⟨S128x1536, .bf16⟩
  | .local _ .vmem, ⟨19, _⟩ => ⟨S128x1536, .bf16⟩
  | .local _ .vmem, ⟨20, _⟩ => ⟨S128x512, .f32⟩
  | .local _ .vmem, ⟨21, _⟩ => ⟨S128x512, .f32⟩
  | .local _ .vmem, ⟨22, _⟩ => ⟨S128x512, .f32⟩
  | .local _ .vmem, ⟨23, _⟩ => ⟨S128x512, .f32⟩
  | .local _ .vmem, ⟨24, _⟩ => ⟨S128x512, .f32⟩
  | .local _ .vmem, ⟨25, _⟩ => ⟨S128x512, .f32⟩
  | .local _ .vmem, ⟨26, _⟩ => ⟨S128x512, .f32⟩
  | .local _ .vmem, ⟨27, _⟩ => ⟨S128x512, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_c : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_c_1 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_c_2 : Ref sig .tc := ⟨.hbm, 50, rfl⟩
abbrev main_v43 : Ref sig .tc := ⟨.hbm, 51, rfl⟩
abbrev main_v44 : Ref sig .tc := ⟨.hbm, 52, rfl⟩
abbrev main_c_3 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_c_4 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_5 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v53 : Ref sig .tc := ⟨.hbm, 67, rfl⟩
abbrev main_cst_6 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_7 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.divsi v0 c8_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi v0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c31_i32_10 : BitVec 32 := 31#32
  let v28 : BitVec 32 := Scalar.minsi arg0 c31_i32_10
  let c8_i32_11 : BitVec 32 := 8#32
  let c0_i32_12 : BitVec 32 := 0#32
  let v29 : BitVec 1 := Scalar.cmpi .eq c8_i32_11 c0_i32_12
  let c1_i32_13 : BitVec 32 := 1#32
  let v30 : BitVec 32 := Scalar.select v29 c1_i32_13 c8_i32_11
  let v31 : BitVec 32 := Scalar.remsi v28 v30
  let c0_i32_14 : BitVec 32 := 0#32
  let v32 : BitVec 1 := Scalar.cmpi .ne v31 c0_i32_14
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let v36 : BitVec 1 := Scalar.andi v35 v32
  let v37 : BitVec 32 := Scalar.addi v31 v30
  let v38 : BitVec 32 := Scalar.select v36 v37 v31
  let c8_i32_17 : BitVec 32 := 8#32
  let v39 : BitVec 32 := Scalar.divsi v28 c8_i32_17
  let c0_i32_18 : BitVec 32 := 0#32
  let v40 : BitVec 1 := Scalar.cmpi .sgt v28 c0_i32_18
  let v41 : BitVec 32 := Scalar.extui v40
  let c0_i32_19 : BitVec 32 := 0#32
  let v42 : BitVec 1 := Scalar.cmpi .slt v28 c0_i32_19
  let v43 : BitVec 32 := Scalar.extui v42
  let v44 : BitVec 32 := Scalar.subi v41 v43
  let c0_i32_20 : BitVec 32 := 0#32
  let v45 : BitVec 1 := Scalar.cmpi .sgt c8_i32_17 c0_i32_20
  let v46 : BitVec 32 := Scalar.extui v45
  let c0_i32_21 : BitVec 32 := 0#32
  let v47 : BitVec 1 := Scalar.cmpi .slt c8_i32_17 c0_i32_21
  let v48 : BitVec 32 := Scalar.extui v47
  let v49 : BitVec 32 := Scalar.subi v46 v48
  let v50 : BitVec 1 := Scalar.cmpi .ne v44 v49
  let v51 : BitVec 32 := Scalar.remsi v28 c8_i32_17
  let c0_i32_22 : BitVec 32 := 0#32
  let v52 : BitVec 1 := Scalar.cmpi .ne v51 c0_i32_22
  let v53 : BitVec 1 := Scalar.andi v50 v52
  let c1_i32_23 : BitVec 32 := 1#32
  let v54 : BitVec 32 := Scalar.subi v39 c1_i32_23
  let v55 : BitVec 32 := Scalar.select v53 v54 v39
  let c3_i32 : BitVec 32 := 3#32
  let v56 : BitVec 32 := Scalar.muli c3_i32 v55
  let c0_i32_24 : BitVec 32 := 0#32
  let v57 : BitVec 32 := Scalar.addi v56 c0_i32_24
  let c0_i32_25 : BitVec 32 := 0#32
  ![v10.toNat, v57.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.divsi v0 c8_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi v0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c1_i32_10 : BitVec 32 := 1#32
  let v28 : BitVec 32 := Scalar.subi v10 c1_i32_10
  let c0_i32_11 : BitVec 32 := 0#32
  let v29 : BitVec 32 := Scalar.maxsi v28 c0_i32_11
  let c31_i32_12 : BitVec 32 := 31#32
  let v30 : BitVec 32 := Scalar.minsi arg0 c31_i32_12
  let c8_i32_13 : BitVec 32 := 8#32
  let c0_i32_14 : BitVec 32 := 0#32
  let v31 : BitVec 1 := Scalar.cmpi .eq c8_i32_13 c0_i32_14
  let c1_i32_15 : BitVec 32 := 1#32
  let v32 : BitVec 32 := Scalar.select v31 c1_i32_15 c8_i32_13
  let v33 : BitVec 32 := Scalar.remsi v30 v32
  let c0_i32_16 : BitVec 32 := 0#32
  let v34 : BitVec 1 := Scalar.cmpi .ne v33 c0_i32_16
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let v38 : BitVec 1 := Scalar.andi v37 v34
  let v39 : BitVec 32 := Scalar.addi v33 v32
  let v40 : BitVec 32 := Scalar.select v38 v39 v33
  let c8_i32_19 : BitVec 32 := 8#32
  let v41 : BitVec 32 := Scalar.divsi v30 c8_i32_19
  let c0_i32_20 : BitVec 32 := 0#32
  let v42 : BitVec 1 := Scalar.cmpi .sgt v30 c0_i32_20
  let v43 : BitVec 32 := Scalar.extui v42
  let c0_i32_21 : BitVec 32 := 0#32
  let v44 : BitVec 1 := Scalar.cmpi .slt v30 c0_i32_21
  let v45 : BitVec 32 := Scalar.extui v44
  let v46 : BitVec 32 := Scalar.subi v43 v45
  let c0_i32_22 : BitVec 32 := 0#32
  let v47 : BitVec 1 := Scalar.cmpi .sgt c8_i32_19 c0_i32_22
  let v48 : BitVec 32 := Scalar.extui v47
  let c0_i32_23 : BitVec 32 := 0#32
  let v49 : BitVec 1 := Scalar.cmpi .slt c8_i32_19 c0_i32_23
  let v50 : BitVec 32 := Scalar.extui v49
  let v51 : BitVec 32 := Scalar.subi v48 v50
  let v52 : BitVec 1 := Scalar.cmpi .ne v46 v51
  let v53 : BitVec 32 := Scalar.remsi v30 c8_i32_19
  let c0_i32_24 : BitVec 32 := 0#32
  let v54 : BitVec 1 := Scalar.cmpi .ne v53 c0_i32_24
  let v55 : BitVec 1 := Scalar.andi v52 v54
  let c1_i32_25 : BitVec 32 := 1#32
  let v56 : BitVec 32 := Scalar.subi v41 c1_i32_25
  let v57 : BitVec 32 := Scalar.select v55 v56 v41
  let c3_i32 : BitVec 32 := 3#32
  let v58 : BitVec 32 := Scalar.muli c3_i32 v57
  let c1_i32_26 : BitVec 32 := 1#32
  let v59 : BitVec 32 := Scalar.addi v58 c1_i32_26
  let c0_i32_27 : BitVec 32 := 0#32
  ![v29.toNat, v59.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.divsi v0 c8_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi v0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c31_i32_10 : BitVec 32 := 31#32
  let v28 : BitVec 32 := Scalar.minsi arg0 c31_i32_10
  let c8_i32_11 : BitVec 32 := 8#32
  let c0_i32_12 : BitVec 32 := 0#32
  let v29 : BitVec 1 := Scalar.cmpi .eq c8_i32_11 c0_i32_12
  let c1_i32_13 : BitVec 32 := 1#32
  let v30 : BitVec 32 := Scalar.select v29 c1_i32_13 c8_i32_11
  let v31 : BitVec 32 := Scalar.remsi v28 v30
  let c0_i32_14 : BitVec 32 := 0#32
  let v32 : BitVec 1 := Scalar.cmpi .ne v31 c0_i32_14
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let v36 : BitVec 1 := Scalar.andi v35 v32
  let v37 : BitVec 32 := Scalar.addi v31 v30
  let v38 : BitVec 32 := Scalar.select v36 v37 v31
  let c8_i32_17 : BitVec 32 := 8#32
  let v39 : BitVec 32 := Scalar.divsi v28 c8_i32_17
  let c0_i32_18 : BitVec 32 := 0#32
  let v40 : BitVec 1 := Scalar.cmpi .sgt v28 c0_i32_18
  let v41 : BitVec 32 := Scalar.extui v40
  let c0_i32_19 : BitVec 32 := 0#32
  let v42 : BitVec 1 := Scalar.cmpi .slt v28 c0_i32_19
  let v43 : BitVec 32 := Scalar.extui v42
  let v44 : BitVec 32 := Scalar.subi v41 v43
  let c0_i32_20 : BitVec 32 := 0#32
  let v45 : BitVec 1 := Scalar.cmpi .sgt c8_i32_17 c0_i32_20
  let v46 : BitVec 32 := Scalar.extui v45
  let c0_i32_21 : BitVec 32 := 0#32
  let v47 : BitVec 1 := Scalar.cmpi .slt c8_i32_17 c0_i32_21
  let v48 : BitVec 32 := Scalar.extui v47
  let v49 : BitVec 32 := Scalar.subi v46 v48
  let v50 : BitVec 1 := Scalar.cmpi .ne v44 v49
  let v51 : BitVec 32 := Scalar.remsi v28 c8_i32_17
  let c0_i32_22 : BitVec 32 := 0#32
  let v52 : BitVec 1 := Scalar.cmpi .ne v51 c0_i32_22
  let v53 : BitVec 1 := Scalar.andi v50 v52
  let c1_i32_23 : BitVec 32 := 1#32
  let v54 : BitVec 32 := Scalar.subi v39 c1_i32_23
  let v55 : BitVec 32 := Scalar.select v53 v54 v39
  let c3_i32 : BitVec 32 := 3#32
  let v56 : BitVec 32 := Scalar.muli c3_i32 v55
  let c1_i32_24 : BitVec 32 := 1#32
  let v57 : BitVec 32 := Scalar.addi v56 c1_i32_24
  let c0_i32_25 : BitVec 32 := 0#32
  ![v10.toNat, v57.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.divsi v0 c8_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi v0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c1_i32_10 : BitVec 32 := 1#32
  let v28 : BitVec 32 := Scalar.subi v10 c1_i32_10
  let c0_i32_11 : BitVec 32 := 0#32
  let v29 : BitVec 32 := Scalar.maxsi v28 c0_i32_11
  let c31_i32_12 : BitVec 32 := 31#32
  let v30 : BitVec 32 := Scalar.minsi arg0 c31_i32_12
  let c8_i32_13 : BitVec 32 := 8#32
  let c0_i32_14 : BitVec 32 := 0#32
  let v31 : BitVec 1 := Scalar.cmpi .eq c8_i32_13 c0_i32_14
  let c1_i32_15 : BitVec 32 := 1#32
  let v32 : BitVec 32 := Scalar.select v31 c1_i32_15 c8_i32_13
  let v33 : BitVec 32 := Scalar.remsi v30 v32
  let c0_i32_16 : BitVec 32 := 0#32
  let v34 : BitVec 1 := Scalar.cmpi .ne v33 c0_i32_16
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let v38 : BitVec 1 := Scalar.andi v37 v34
  let v39 : BitVec 32 := Scalar.addi v33 v32
  let v40 : BitVec 32 := Scalar.select v38 v39 v33
  let c8_i32_19 : BitVec 32 := 8#32
  let v41 : BitVec 32 := Scalar.divsi v30 c8_i32_19
  let c0_i32_20 : BitVec 32 := 0#32
  let v42 : BitVec 1 := Scalar.cmpi .sgt v30 c0_i32_20
  let v43 : BitVec 32 := Scalar.extui v42
  let c0_i32_21 : BitVec 32 := 0#32
  let v44 : BitVec 1 := Scalar.cmpi .slt v30 c0_i32_21
  let v45 : BitVec 32 := Scalar.extui v44
  let v46 : BitVec 32 := Scalar.subi v43 v45
  let c0_i32_22 : BitVec 32 := 0#32
  let v47 : BitVec 1 := Scalar.cmpi .sgt c8_i32_19 c0_i32_22
  let v48 : BitVec 32 := Scalar.extui v47
  let c0_i32_23 : BitVec 32 := 0#32
  let v49 : BitVec 1 := Scalar.cmpi .slt c8_i32_19 c0_i32_23
  let v50 : BitVec 32 := Scalar.extui v49
  let v51 : BitVec 32 := Scalar.subi v48 v50
  let v52 : BitVec 1 := Scalar.cmpi .ne v46 v51
  let v53 : BitVec 32 := Scalar.remsi v30 c8_i32_19
  let c0_i32_24 : BitVec 32 := 0#32
  let v54 : BitVec 1 := Scalar.cmpi .ne v53 c0_i32_24
  let v55 : BitVec 1 := Scalar.andi v52 v54
  let c1_i32_25 : BitVec 32 := 1#32
  let v56 : BitVec 32 := Scalar.subi v41 c1_i32_25
  let v57 : BitVec 32 := Scalar.select v55 v56 v41
  let c3_i32 : BitVec 32 := 3#32
  let v58 : BitVec 32 := Scalar.muli c3_i32 v57
  let c2_i32 : BitVec 32 := 2#32
  let v59 : BitVec 32 := Scalar.addi v58 c2_i32
  let c0_i32_26 : BitVec 32 := 0#32
  ![v29.toNat, v59.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.divsi v0 c8_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi v0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c31_i32_10 : BitVec 32 := 31#32
  let v28 : BitVec 32 := Scalar.minsi arg0 c31_i32_10
  let c8_i32_11 : BitVec 32 := 8#32
  let c0_i32_12 : BitVec 32 := 0#32
  let v29 : BitVec 1 := Scalar.cmpi .eq c8_i32_11 c0_i32_12
  let c1_i32_13 : BitVec 32 := 1#32
  let v30 : BitVec 32 := Scalar.select v29 c1_i32_13 c8_i32_11
  let v31 : BitVec 32 := Scalar.remsi v28 v30
  let c0_i32_14 : BitVec 32 := 0#32
  let v32 : BitVec 1 := Scalar.cmpi .ne v31 c0_i32_14
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let v36 : BitVec 1 := Scalar.andi v35 v32
  let v37 : BitVec 32 := Scalar.addi v31 v30
  let v38 : BitVec 32 := Scalar.select v36 v37 v31
  let c8_i32_17 : BitVec 32 := 8#32
  let v39 : BitVec 32 := Scalar.divsi v28 c8_i32_17
  let c0_i32_18 : BitVec 32 := 0#32
  let v40 : BitVec 1 := Scalar.cmpi .sgt v28 c0_i32_18
  let v41 : BitVec 32 := Scalar.extui v40
  let c0_i32_19 : BitVec 32 := 0#32
  let v42 : BitVec 1 := Scalar.cmpi .slt v28 c0_i32_19
  let v43 : BitVec 32 := Scalar.extui v42
  let v44 : BitVec 32 := Scalar.subi v41 v43
  let c0_i32_20 : BitVec 32 := 0#32
  let v45 : BitVec 1 := Scalar.cmpi .sgt c8_i32_17 c0_i32_20
  let v46 : BitVec 32 := Scalar.extui v45
  let c0_i32_21 : BitVec 32 := 0#32
  let v47 : BitVec 1 := Scalar.cmpi .slt c8_i32_17 c0_i32_21
  let v48 : BitVec 32 := Scalar.extui v47
  let v49 : BitVec 32 := Scalar.subi v46 v48
  let v50 : BitVec 1 := Scalar.cmpi .ne v44 v49
  let v51 : BitVec 32 := Scalar.remsi v28 c8_i32_17
  let c0_i32_22 : BitVec 32 := 0#32
  let v52 : BitVec 1 := Scalar.cmpi .ne v51 c0_i32_22
  let v53 : BitVec 1 := Scalar.andi v50 v52
  let c1_i32_23 : BitVec 32 := 1#32
  let v54 : BitVec 32 := Scalar.subi v39 c1_i32_23
  let v55 : BitVec 32 := Scalar.select v53 v54 v39
  let c3_i32 : BitVec 32 := 3#32
  let v56 : BitVec 32 := Scalar.muli c3_i32 v55
  let c2_i32 : BitVec 32 := 2#32
  let v57 : BitVec 32 := Scalar.addi v56 c2_i32
  let c0_i32_24 : BitVec 32 := 0#32
  ![v10.toNat, v57.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.divsi v0 c8_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi v0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c0_i32_10 : BitVec 32 := 0#32
  ![v10.toNat, v27.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.divsi v0 c8_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi v0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c0_i32_10 : BitVec 32 := 0#32
  ![v10.toNat, v27.toNat]

def cc0_transform_7 (i : grid0.Coords) : Fin 2 → Nat :=
  let arg0 : BitVec 32 := BitVec.ofNat 32 (i 0).val
  let c31_i32 : BitVec 32 := 31#32
  let v0 : BitVec 32 := Scalar.minsi arg0 c31_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.divsi v0 c8_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi v0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c0_i32_10 : BitVec 32 := 0#32
  ![v10.toNat, v27.toNat]

def cc0_transform_8 (i : grid0.Coords) : Fin 2 → Nat :=
  let arg0 : BitVec 32 := BitVec.ofNat 32 (i 0).val
  let c31_i32 : BitVec 32 := 31#32
  let v0 : BitVec 32 := Scalar.minsi arg0 c31_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.divsi v0 c8_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi v0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c0_i32_10 : BitVec 32 := 0#32
  ![v10.toNat, v27.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c31_i32 : BitVec 32 := 31#32
  let v2 : BitVec 32 := Scalar.minsi v1 c31_i32
  let c8_i32 : BitVec 32 := 8#32
  let c0_i32_0 : BitVec 32 := 0#32
  let v3 : BitVec 1 := Scalar.cmpi .eq c8_i32 c0_i32_0
  let c1_i32_1 : BitVec 32 := 1#32
  let v4 : BitVec 32 := Scalar.select v3 c1_i32_1 c8_i32
  let v5 : BitVec 32 := Scalar.remsi v2 v4
  let c0_i32_2 : BitVec 32 := 0#32
  let v6 : BitVec 1 := Scalar.cmpi .ne v5 c0_i32_2
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let v10 : BitVec 1 := Scalar.andi v9 v6
  let v11 : BitVec 32 := Scalar.addi v5 v4
  let v12 : BitVec 32 := Scalar.select v10 v11 v5
  let c8_i32_5 : BitVec 32 := 8#32
  let v13 : BitVec 32 := Scalar.divsi v2 c8_i32_5
  let c0_i32_6 : BitVec 32 := 0#32
  let v14 : BitVec 1 := Scalar.cmpi .sgt v2 c0_i32_6
  let v15 : BitVec 32 := Scalar.extui v14
  let c0_i32_7 : BitVec 32 := 0#32
  let v16 : BitVec 1 := Scalar.cmpi .slt v2 c0_i32_7
  let v17 : BitVec 32 := Scalar.extui v16
  let v18 : BitVec 32 := Scalar.subi v15 v17
  let c0_i32_8 : BitVec 32 := 0#32
  let v19 : BitVec 1 := Scalar.cmpi .sgt c8_i32_5 c0_i32_8
  let v20 : BitVec 32 := Scalar.extui v19
  let c0_i32_9 : BitVec 32 := 0#32
  let v21 : BitVec 1 := Scalar.cmpi .slt c8_i32_5 c0_i32_9
  let v22 : BitVec 32 := Scalar.extui v21
  let v23 : BitVec 32 := Scalar.subi v20 v22
  let v24 : BitVec 1 := Scalar.cmpi .ne v18 v23
  let v25 : BitVec 32 := Scalar.remsi v2 c8_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c0_i32_12 : BitVec 32 := 0#32
  ![v12.toNat, v29.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4096x1536 : Shape := ⟨2, ![4096, 1536]⟩
abbrev S4096x512 : Shape := ⟨2, ![4096, 512]⟩
abbrev S1024x4x8x64 : Shape := ⟨4, ![1024, 4, 8, 64]⟩
abbrev S4x1024x8x64 : Shape := ⟨4, ![4, 1024, 8, 64]⟩
abbrev S4x8x128x8x64 : Shape := ⟨5, ![4, 8, 128, 8, 64]⟩
abbrev S4x1x128x8x64 : Shape := ⟨5, ![4, 1, 128, 8, 64]⟩
abbrev S_ : Shape := ⟨0, ![]⟩
abbrev S4x7x128x8x64 : Shape := ⟨5, ![4, 7, 128, 8, 64]⟩
abbrev S4x8x256x8x64 : Shape := ⟨5, ![4, 8, 256, 8, 64]⟩
abbrev S4x8x8x128x256 : Shape := ⟨5, ![4, 8, 8, 128, 256]⟩
abbrev S8 : Shape := ⟨1, ![8]⟩
abbrev S8x1x1 : Shape := ⟨3, ![8, 1, 1]⟩
abbrev S128 : Shape := ⟨1, ![128]⟩
abbrev S1x128x1 : Shape := ⟨3, ![1, 128, 1]⟩
abbrev S8x128x1 : Shape := ⟨3, ![8, 128, 1]⟩
abbrev S256 : Shape := ⟨1, ![256]⟩
abbrev S1x1x256 : Shape := ⟨3, ![1, 1, 256]⟩
abbrev S8x1x256 : Shape := ⟨3, ![8, 1, 256]⟩
abbrev S8x128x256 : Shape := ⟨3, ![8, 128, 256]⟩
abbrev S8x1x128x256 : Shape := ⟨4, ![8, 1, 128, 256]⟩
abbrev S4x8x8x128 : Shape := ⟨4, ![4, 8, 8, 128]⟩
abbrev S4x8x8x128x1 : Shape := ⟨5, ![4, 8, 8, 128, 1]⟩
abbrev S4x8x8x64x128 : Shape := ⟨5, ![4, 8, 8, 64, 128]⟩
abbrev S4x8x128x8 : Shape := ⟨4, ![4, 8, 128, 8]⟩
abbrev S4096x8x64 : Shape := ⟨3, ![4096, 8, 64]⟩
abbrev S4x1024x8 : Shape := ⟨3, ![4, 1024, 8]⟩
abbrev S1024x4x8 : Shape := ⟨3, ![1024, 4, 8]⟩
abbrev S4096x8 : Shape := ⟨2, ![4096, 8]⟩
abbrev S4096x8x1 : Shape := ⟨3, ![4096, 8, 1]⟩
abbrev S4x8x8x64x256 : Shape := ⟨5, ![4, 8, 8, 64, 256]⟩
abbrev S4x8x8x256x64 : Shape := ⟨5, ![4, 8, 8, 256, 64]⟩
abbrev S4x8x8x128x64 : Shape := ⟨5, ![4, 8, 8, 128, 64]⟩
abbrev S1024x6144 : Shape := ⟨2, ![1024, 6144]⟩

abbrev nBuf : Space → Nat
  | .hbm => 191
  | .vmem => 0
  | .smem => 0
  | _ => 0

abbrev hbmTy0_0 (i : Nat) : BufTy := match i % 128 with
  | 0 => ⟨S4096x1536, .bf16⟩
  | 1 => ⟨S4096x512, .bf16⟩
  | 2 => ⟨S4096x512, .f32⟩
  | 3 => ⟨S4096x1536, .f32⟩
  | 4 => ⟨S4096x512, .f32⟩
  | 5 => ⟨S4096x512, .f32⟩
  | 6 => ⟨S4096x512, .f32⟩
  | 7 => ⟨S1024x4x8x64, .f32⟩
  | 8 => ⟨S4x1024x8x64, .f32⟩
  | 9 => ⟨S4x8x128x8x64, .f32⟩
  | 10 => ⟨S1024x4x8x64, .f32⟩
  | 11 => ⟨S4x1024x8x64, .f32⟩
  | 12 => ⟨S4x8x128x8x64, .f32⟩
  | 13 => ⟨S4x1x128x8x64, .f32⟩
  | 14 => ⟨S_, .f32⟩
  | 15 => ⟨S4x1x128x8x64, .f32⟩
  | 16 => ⟨S4x7x128x8x64, .f32⟩
  | 17 => ⟨S4x8x128x8x64, .f32⟩
  | 18 => ⟨S_, .f32⟩
  | 19 => ⟨S4x1x128x8x64, .f32⟩
  | 20 => ⟨S4x8x256x8x64, .f32⟩
  | 21 => ⟨S1024x4x8x64, .f32⟩
  | 22 => ⟨S4x1024x8x64, .f32⟩
  | 23 => ⟨S4x8x128x8x64, .f32⟩
  | 24 => ⟨S4x1x128x8x64, .f32⟩
  | 25 => ⟨S_, .f32⟩
  | 26 => ⟨S4x1x128x8x64, .f32⟩
  | 27 => ⟨S4x7x128x8x64, .f32⟩
  | 28 => ⟨S4x8x128x8x64, .f32⟩
  | 29 => ⟨S_, .f32⟩
  | 30 => ⟨S4x1x128x8x64, .f32⟩
  | 31 => ⟨S4x8x256x8x64, .f32⟩
  | 32 => ⟨S4x8x8x128x256, .f32⟩
  | 33 => ⟨S8, .i32⟩
  | 34 => ⟨S8x1x1, .i32⟩
  | 35 => ⟨S_, .i32⟩
  | 36 => ⟨S8x1x1, .i32⟩
  | 37 => ⟨S8x1x1, .i32⟩
  | 38 => ⟨S128, .i32⟩
  | 39 => ⟨S1x128x1, .i32⟩
  | 40 => ⟨S8x128x1, .i32⟩
  | 41 => ⟨S8x128x1, .i32⟩
  | 42 => ⟨S8x128x1, .i32⟩
  | 43 => ⟨S_, .i32⟩
  | 44 => ⟨S8x1x1, .i32⟩
  | 45 => ⟨S8x1x1, .i32⟩
  | 46 => ⟨S256, .i32⟩
  | 47 => ⟨S1x1x256, .i32⟩
  | 48 => ⟨S8x1x256, .i32⟩
  | 49 => ⟨S8x1x256, .i32⟩
  | 50 => ⟨S8x1x256, .i32⟩
  | 51 => ⟨S8x128x256, .i32⟩
  | 52 => ⟨S8x128x256, .i32⟩
  | 53 => ⟨S8x128x256, .i32⟩
  | 54 => ⟨S_, .i32⟩
  | 55 => ⟨S8x128x256, .i32⟩
  | 56 => ⟨S8x128x256, .i1⟩
  | 57 => ⟨S_, .i32⟩
  | 58 => ⟨S8x128x256, .i32⟩
  | 59 => ⟨S8x128x256, .i1⟩
  | 60 => ⟨S8x128x256, .i1⟩
  | 61 => ⟨S_, .i32⟩
  | 62 => ⟨S8x1x256, .i32⟩
  | 63 => ⟨S8x1x256, .i1⟩
  | 64 => ⟨S8x128x256, .i1⟩
  | 65 => ⟨S8x128x256, .i1⟩
  | 66 => ⟨S8x1x128x256, .i1⟩
  | 67 => ⟨S_, .f32⟩
  | 68 => ⟨S_, .f32⟩
  | 69 => ⟨S4x8x8x128x256, .i1⟩
  | 70 => ⟨S4x8x8x128x256, .f32⟩
  | 71 => ⟨S4x8x8x128x256, .f32⟩
  | 72 => ⟨S_, .f32⟩
  | 73 => ⟨S4x8x8x128x256, .f32⟩
  | 74 => ⟨S_, .f32⟩
  | 75 => ⟨S4x8x8x128, .f32⟩
  | 76 => ⟨S4x8x8x128x1, .f32⟩
  | 77 => ⟨S4x8x8x128x256, .f32⟩
  | 78 => ⟨S4x8x8x128x256, .i1⟩
  | 79 => ⟨S4x8x8x128x256, .f32⟩
  | 80 => ⟨S_, .f32⟩
  | 81 => ⟨S4x8x8x128, .f32⟩
  | 82 => ⟨S4x8x8x128x1, .f32⟩
  | 83 => ⟨S4x8x8x128x256, .f32⟩
  | 84 => ⟨S4x8x8x128x256, .f32⟩
  | 85 => ⟨S4x8x8x128x256, .f32⟩
  | 86 => ⟨S_, .f32⟩
  | 87 => ⟨S4x8x8x128, .f32⟩
  | 88 => ⟨S4x8x8x128x1, .f32⟩
  | 89 => ⟨S4x8x8x128x256, .f32⟩
  | 90 => ⟨S4x8x8x128x256, .f32⟩
  | 91 => ⟨S4x8x8x128x1, .f32⟩
  | 92 => ⟨S_, .f32⟩
  | 93 => ⟨S4x8x8x128x1, .f32⟩
  | 94 => ⟨S4x8x8x128x1, .f32⟩
  | 95 => ⟨S4x8x8x64x128, .f32⟩
  | 96 => ⟨S4x8x128x8x64, .f32⟩
  | 97 => ⟨S4x8x8x128x1, .f32⟩
  | 98 => ⟨S4x8x8x128x1, .f32⟩
  | 99 => ⟨S4x8x8x128, .f32⟩
  | 100 => ⟨S4x8x128x8, .f32⟩
  | 101 => ⟨S4x1024x8x64, .f32⟩
  | 102 => ⟨S1024x4x8x64, .f32⟩
  | 103 => ⟨S4096x8x64, .f32⟩
  | 104 => ⟨S4x1024x8, .f32⟩
  | 105 => ⟨S1024x4x8, .f32⟩
  | 106 => ⟨S4096x8, .f32⟩
  | 107 => ⟨S4096x512, .f32⟩
  | 108 => ⟨S4096x8x1, .f32⟩
  | 109 => ⟨S4096x8x64, .f32⟩
  | 110 => ⟨S4096x512, .f32⟩
  | 111 => ⟨S4096x512, .f32⟩
  | 112 => ⟨S4096x8x64, .f32⟩
  | 113 => ⟨S_, .f32⟩
  | 114 => ⟨S4096x8, .f32⟩
  | 115 => ⟨S4096x8x1, .f32⟩
  | 116 => ⟨S_, .f32⟩
  | 117 => ⟨S4096x8, .f32⟩
  | 118 => ⟨S4096x8x64, .f32⟩
  | 119 => ⟨S1024x4x8, .f32⟩
  | 120 => ⟨S4x1024x8, .f32⟩
  | 121 => ⟨S4x8x128x8, .f32⟩
  | 122 => ⟨S1024x4x8x64, .f32⟩
  | 123 => ⟨S4x1024x8x64, .f32⟩
  | 124 => ⟨S4x8x128x8x64, .f32⟩
  | 125 => ⟨S4x8x8x128, .f32⟩
  | 126 => ⟨S4x8x8x128x1, .f32⟩
  | 127 => ⟨S4x8x8x128x1, .f32⟩
  | _ => ⟨S4096x1536, .bf16⟩

abbrev hbmTy0_1 (i : Nat) : BufTy := match i % 128 with
  | 0 => ⟨S4x8x8x64x128, .f32⟩
  | 1 => ⟨S4x8x8x128x256, .f32⟩
  | 2 => ⟨S4x8x8x64x256, .f32⟩
  | 3 => ⟨S4x8x256x8x64, .f32⟩
  | 4 => ⟨S4x8x8x128x256, .f32⟩
  | 5 => ⟨S4x8x8x128x256, .f32⟩
  | 6 => ⟨S4x8x8x128x256, .f32⟩
  | 7 => ⟨S_, .f32⟩
  | 8 => ⟨S4x8x8x128, .f32⟩
  | 9 => ⟨S4x8x8x128x1, .f32⟩
  | 10 => ⟨S4x8x8x128x1, .f32⟩
  | 11 => ⟨S4x8x8x128x1, .f32⟩
  | 12 => ⟨S4x8x8x128x256, .f32⟩
  | 13 => ⟨S4x8x8x128x256, .f32⟩
  | 14 => ⟨S_, .f32⟩
  | 15 => ⟨S4x8x8x128, .f32⟩
  | 16 => ⟨S4x8x8x128x256, .f32⟩
  | 17 => ⟨S4x8x8x128x256, .f32⟩
  | 18 => ⟨S4x8x8x128x256, .f32⟩
  | 19 => ⟨S4x8x8x128x256, .f32⟩
  | 20 => ⟨S_, .f32⟩
  | 21 => ⟨S4x8x8x128, .f32⟩
  | 22 => ⟨S4x8x8x128x1, .f32⟩
  | 23 => ⟨S4x8x8x128x1, .f32⟩
  | 24 => ⟨S_, .f32⟩
  | 25 => ⟨S4x8x8x128, .f32⟩
  | 26 => ⟨S4x8x8x128, .f32⟩
  | 27 => ⟨S4x8x8x128x256, .f32⟩
  | 28 => ⟨S4x8x8x128x256, .f32⟩
  | 29 => ⟨S4x8x8x128x256, .f32⟩
  | 30 => ⟨S_, .f32⟩
  | 31 => ⟨S4x8x8x128x256, .f32⟩
  | 32 => ⟨S4x8x8x128x256, .f32⟩
  | 33 => ⟨S4x8x8x256x64, .f32⟩
  | 34 => ⟨S4x8x256x8x64, .f32⟩
  | 35 => ⟨S4x8x8x128x64, .f32⟩
  | 36 => ⟨S4x8x128x8x64, .f32⟩
  | 37 => ⟨S4x8x128x8x64, .f32⟩
  | 38 => ⟨S4x8x128x8x64, .f32⟩
  | 39 => ⟨S4x1x128x8x64, .f32⟩
  | 40 => ⟨S4x7x128x8x64, .f32⟩
  | 41 => ⟨S_, .f32⟩
  | 42 => ⟨S4x8x128x8x64, .f32⟩
  | 43 => ⟨S4x8x128x8x64, .f32⟩
  | 44 => ⟨S4x1024x8x64, .f32⟩
  | 45 => ⟨S1024x4x8x64, .f32⟩
  | 46 => ⟨S4096x512, .f32⟩
  | 47 => ⟨S4x8x128x8x64, .f32⟩
  | 48 => ⟨S4x8x128x8x64, .f32⟩
  | 49 => ⟨S4x1x128x8x64, .f32⟩
  | 50 => ⟨S4x7x128x8x64, .f32⟩
  | 51 => ⟨S_, .f32⟩
  | 52 => ⟨S4x8x128x8x64, .f32⟩
  | 53 => ⟨S4x8x128x8x64, .f32⟩
  | 54 => ⟨S4x1024x8x64, .f32⟩
  | 55 => ⟨S1024x4x8x64, .f32⟩
  | 56 => ⟨S4096x512, .f32⟩
  | 57 => ⟨S4x1024x8x64, .f32⟩
  | 58 => ⟨S1024x4x8x64, .f32⟩
  | 59 => ⟨S4096x512, .f32⟩
  | 60 => ⟨S4096x1536, .f32⟩
  | 61 => ⟨S1024x6144, .f32⟩
  | 62 => ⟨S1024x6144, .bf16⟩
  | _ => ⟨S4096x1536, .bf16⟩

abbrev hbmTy (i : Nat) : BufTy := match i / 128 with
  | 0 => hbmTy0_0 i
  | 1 => hbmTy0_1 i
  | _ => ⟨S4096x1536, .bf16⟩

abbrev bufTy : (tb : Table) → Fin (tcTables nBuf tb) → BufTy
  | .hbm, ⟨i, _⟩ => hbmTy i
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_c_4 : Ref sig .tc := ⟨.hbm, 54, rfl⟩
abbrev main_v45 : Ref sig .tc := ⟨.hbm, 55, rfl⟩
abbrev main_v46 : Ref sig .tc := ⟨.hbm, 56, rfl⟩
abbrev main_c_5 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_c_6 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_7 : Ref sig .tc := ⟨.hbm, 67, rfl⟩
abbrev main_call0_v0 : Ref sig .tc := ⟨.hbm, 68, rfl⟩
abbrev main_v55_1 : Ref sig .tc := ⟨.hbm, 69, rfl⟩
abbrev main_call0_v2 : Ref sig .tc := ⟨.hbm, 70, rfl⟩
abbrev main_v55_0 : Ref sig .tc := ⟨.hbm, 71, rfl⟩
abbrev main_call0_cst : Ref sig .tc := ⟨.hbm, 72, rfl⟩
abbrev main_v55_2 : Ref sig .tc := ⟨.hbm, 73, rfl⟩
abbrev main_cst_8 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_9 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_10 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_11 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_12 : Ref sig .tc := ⟨.hbm, 113, rfl⟩
abbrev main_v91 : Ref sig .tc := ⟨.hbm, 114, rfl⟩
abbrev main_v92 : Ref sig .tc := ⟨.hbm, 115, rfl⟩
abbrev main_cst_13 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_cst_14 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_cst_15 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_cst_16 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_cst_17 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_call1_cst : Ref sig .tc := ⟨.hbm, 158, rfl⟩
abbrev main_call1_v0 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_cst_18 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_cst_19 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩

abbrev nD : Nat := 1
abbrev τ : Topo := Topo.v7x

variable {F : FTy → Type} [FloatOps F]
-- ==== Dwout.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S512x2816 : Shape := ⟨2, ![512, 2816]⟩
abbrev S512x1024 : Shape := ⟨2, ![512, 1024]⟩

abbrev nBuf : Space → Nat
  | .hbm => 17
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x1024, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .bf16⟩
  | .hbm, ⟨16, _⟩ => ⟨S2816x1024, .bf16⟩
  | .local _ .vmem, ⟨0, _⟩ => ⟨S512x2816, .bf16⟩
  | .local _ .vmem, ⟨1, _⟩ => ⟨S512x2816, .bf16⟩
  | .local _ .vmem, ⟨2, _⟩ => ⟨S512x1024, .f32⟩
  | .local _ .vmem, ⟨3, _⟩ => ⟨S512x1024, .f32⟩
  | .local _ .vmem, ⟨4, _⟩ => ⟨S2816x1024, .bf16⟩
  | .local _ .vmem, ⟨5, _⟩ => ⟨S2816x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v13 : BitVec 1 := Scalar.cmpi .eq arg0 c7_i32
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== RefDwoutIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 27
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x1024, .f32⟩
  | .hbm, ⟨3, _⟩ => ⟨S_, .f32⟩
  | .hbm, ⟨4, _⟩ => ⟨S2816x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S1024x2816, .f32⟩
  | .hbm, ⟨25, _⟩ => ⟨S2816x1024, .f32⟩
  | .hbm, ⟨26, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩

abbrev nD : Nat := 1
abbrev τ : Topo := Topo.v7x

variable {F : FTy → Type} [FloatOps F]
-- ==== Dwin.lean ====
abbrev S4096x1024 : Shape := ⟨2, ![4096, 1024]⟩
abbrev S2x4096x2816 : Shape := ⟨3, ![2, 4096, 2816]⟩
abbrev S4x1024x1408 : Shape := ⟨3, ![4, 1024, 1408]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RefDwinIdeal.lean ====
abbrev S4096x1024 : Shape := ⟨2, ![4096, 1024]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S_ : Shape := ⟨0, ![]⟩
abbrev S1024x5632 : Shape := ⟨2, ![1024, 5632]⟩
abbrev S4096x5632 : Shape := ⟨2, ![4096, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S1x4096x2816, .bf16⟩
  | .hbm, ⟨3, _⟩ => ⟨S4096x2816, .bf16⟩
  | .hbm, ⟨4, _⟩ => ⟨S4096x2816, .f32⟩
  | .hbm, ⟨5, _⟩ => ⟨S1x4096x2816, .bf16⟩
  | .hbm, ⟨6, _⟩ => ⟨S4096x2816, .bf16⟩
  | .hbm, ⟨7, _⟩ => ⟨S4096x2816, .f32⟩
  | .hbm, ⟨8, _⟩ => ⟨S_, .f32⟩
  | .hbm, ⟨9, _⟩ => ⟨S1024x5632, .f32⟩
  | .hbm, ⟨10, _⟩ => ⟨S4096x1024, .f32⟩
  | .hbm, ⟨11, _⟩ => ⟨S4096x5632, .f32⟩
  | .hbm, ⟨12, _⟩ => ⟨S4096x2816, .f32⟩
  | .hbm, ⟨13, _⟩ => ⟨S4096x2816, .f32⟩
  | .hbm, ⟨14, _⟩ => ⟨S4096x5632, .f32⟩
  | .hbm, ⟨15, _⟩ => ⟨S5632x1024, .f32⟩
  | .hbm, ⟨16, _⟩ => ⟨S1024x5632, .f32⟩
  | .hbm, ⟨17, _⟩ => ⟨S1024x4x1408, .f32⟩
  | .hbm, ⟨18, _⟩ => ⟨S4x1024x1408, .f32⟩
  | .hbm, ⟨19, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== Dact.lean ====
abbrev S4096x1024 : Shape := ⟨2, ![4096, 1024]⟩
abbrev S4x2816x1024 : Shape := ⟨3, ![4, 2816, 1024]⟩
abbrev S4096x2816 : Shape := ⟨2, ![4096, 2816]⟩
abbrev S2x4096x2816 : Shape := ⟨3, ![2, 4096, 2816]⟩
abbrev S256x1024 : Shape := ⟨2, ![256, 1024]⟩
abbrev S1x2816x1024 : Shape := ⟨3, ![1, 2816, 1024]⟩
abbrev S256x2816 : Shape := ⟨2, ![256, 2816]⟩
abbrev S2x256x2816 : Shape := ⟨3, ![2, 256, 2816]⟩
abbrev S2816x1024 : Shape := ⟨2, ![2816, 1024]⟩
abbrev S1x256x2816 : Shape := ⟨3, ![1, 256, 2816]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4x2816x1024, .bf16⟩
  | .hbm, ⟨2, _⟩ => ⟨S4096x2816, .bf16⟩
  | .hbm, ⟨3, _⟩ => ⟨S4096x2816, .bf16⟩
  | .hbm, ⟨4, _⟩ => ⟨S2x4096x2816, .bf16⟩
  | .local _ .vmem, ⟨0, _⟩ => ⟨S256x1024, .f32⟩
  | .local _ .vmem, ⟨1, _⟩ => ⟨S256x1024, .f32⟩
  | .local _ .vmem, ⟨2, _⟩ => ⟨S1x2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S2x256x2816, .bf16⟩
  | .local _ .vmem, ⟨8, _⟩ => ⟨S2x256x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefDactIdeal.lean ====
abbrev S4096x1024 : Shape := ⟨2, ![4096, 1024]⟩
abbrev S4x2816x1024 : Shape := ⟨3, ![4, 2816, 1024]⟩
abbrev S4096x2816 : Shape := ⟨2, ![4096, 2816]⟩
abbrev S_ : Shape := ⟨0, ![]⟩
abbrev S1x2816x1024 : Shape := ⟨3, ![1, 2816, 1024]⟩
abbrev S2816x1024 : Shape := ⟨2, ![2816, 1024]⟩
abbrev S1x4096x2816 : Shape := ⟨3, ![1, 4096, 2816]⟩
abbrev S2x4096x2816 : Shape := ⟨3, ![2, 4096, 2816]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x2816x1024, .bf16⟩
  | .hbm, ⟨2, _⟩ => ⟨S4096x2816, .bf16⟩
  | .hbm, ⟨3, _⟩ => ⟨S4096x2816, .bf16⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S1x2816x1024, .bf16⟩
  | .hbm, ⟨21, _⟩ => ⟨S2816x1024, .bf16⟩
  | .hbm, ⟨22, _⟩ => ⟨S2816x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S1x4096x2816, .f32⟩
  | .hbm, ⟨38, _⟩ => ⟨S1x4096x2816, .f32⟩
  | .hbm, ⟨39, _⟩ => ⟨S2x4096x2816, .f32⟩
  | .hbm, ⟨40, _⟩ => ⟨S2x4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩

abbrev nD : Nat := 1
abbrev τ : Topo := Topo.v7x

variable {F : FTy → Type} [FloatOps F]
-- ==== Dxn.lean ====
abbrev S2x4096x2816 : Shape := ⟨3, ![2, 4096, 2816]⟩
abbrev S4x4x1024x1408 : Shape := ⟨4, ![4, 4, 1024, 1408]⟩
abbrev S4096x1024 : Shape := ⟨2, ![4096, 1024]⟩
abbrev S1x1024 : Shape := ⟨2, ![1, 1024]⟩
abbrev S1x1024x1408 : Shape := ⟨3, ![1, 1024, 1408]⟩
abbrev S1x1x1024x1408 : Shape := ⟨4, ![1, 1, 1024, 1408]⟩
abbrev S1024x1024 : Shape := ⟨2, ![1024, 1024]⟩
abbrev S1024x1408 : Shape := ⟨2, ![1024, 1408]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S2x4096x2816, .bf16⟩
  | .hbm, ⟨1, _⟩ => ⟨S4x4x1024x1408, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_9 : BitVec 32 := 0#32
  let v13 : BitVec 1 := Scalar.cmpi .ne v12 c0_i32_9
  v13

def k0_cond4 (i : grid0.Coords) : BitVec 1 :=
  let arg0 : BitVec 32 := BitVec.ofNat 32 (i 0).val
  let c0_i32_26 : BitVec 32 := 0#32
  let v52 : BitVec 1 := Scalar.cmpi .eq arg0 c0_i32_26
  let v53 : BitVec 32 := Scalar.extui v52
  let c0_i32_27 : BitVec 32 := 0#32
  let v54 : BitVec 1 := Scalar.cmpi .ne v53 c0_i32_27
  v54

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== RefDxnIdeal.lean ====
abbrev S2x4096x2816 : Shape := ⟨3, ![2, 4096, 2816]⟩
abbrev S4x4x1024x1408 : Shape := ⟨4, ![4, 4, 1024, 1408]⟩
abbrev S4096x1024 : Shape := ⟨2, ![4096, 1024]⟩
abbrev S1x1024 : Shape := ⟨2, ![1, 1024]⟩
abbrev S1x4x1024x1408 : Shape := ⟨4, ![1, 4, 1024, 1408]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S1x4096x2816 : Shape := ⟨3, ![1, 4096, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S1024 : Shape := ⟨1, ![1024]⟩

abbrev nBuf : Space → Nat
  | .hbm => 64
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4x4x1024x1408, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x4x1024x1408, .bf16⟩
  | .hbm, ⟨6, _⟩ => ⟨S4x1024x1408, .bf16⟩
  | .hbm, ⟨7, _⟩ => ⟨S4x1024x1408, .f32⟩
  | .hbm, ⟨8, _⟩ => ⟨S1024x4x1408, .f32⟩
  | .hbm, ⟨9, _⟩ => ⟨S1024x5632, .f32⟩
  | .hbm, ⟨10, _⟩ => ⟨S1x4096x2816, .bf16⟩
  | .hbm, ⟨11, _⟩ => ⟨S4096x2816, .bf16⟩
  | .hbm, ⟨12, _⟩ => ⟨S4096x2816, .f32⟩
  | .hbm, ⟨13, _⟩ => ⟨S1x4096x2816, .bf16⟩
  | .hbm, ⟨14, _⟩ => ⟨S4096x2816, .bf16⟩
  | .hbm, ⟨15, _⟩ => ⟨S4096x2816, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x5632, .f32⟩
  | .hbm, ⟨36, _⟩ => ⟨S4096x2816, .f32⟩
  | .hbm, ⟨37, _⟩ => ⟨S4096x2816, .f32⟩
  | .hbm, ⟨38, _⟩ => ⟨S4096x5632, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩

abbrev nD : Nat := 1
abbrev τ : Topo := Topo.v7x

variable {F : FTy → Type} [FloatOps F]
-- ==== Up.lean ====
abbrev S4096x1024 : Shape := ⟨2, ![4096, 1024]⟩
abbrev S1x1024 : Shape := ⟨2, ![1, 1024]⟩
abbrev S4x4x1024x1408 : Shape := ⟨4, ![4, 4, 1024, 1408]⟩
abbrev S4096x2816 : Shape := ⟨2, ![4096, 2816]⟩
abbrev S512x1024 : Shape := ⟨2, ![512, 1024]⟩
abbrev S1x4x1024x1408 : Shape := ⟨4, ![1, 4, 1024, 1408]⟩
abbrev S512x2816 : Shape := ⟨2, ![512, 2816]⟩
abbrev S512 : Shape := ⟨1, ![512]⟩
abbrev S512x1 : Shape := ⟨2, ![512, 1]⟩
abbrev S1x1x1024x1408 : Shape := ⟨4, ![1, 1, 1024, 1408]⟩
abbrev S1024x1408 : Shape := ⟨2, ![1024, 1408]⟩
abbrev S512x1408 : Shape := ⟨2, ![512, 1408]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x4x1024x1408, .bf16⟩
  | .hbm, ⟨3, _⟩ => ⟨S4096x1024, .bf16⟩
  | .hbm, ⟨4, _⟩ => ⟨S4096x2816, .bf16⟩
  | .hbm, ⟨5, _⟩ => ⟨S4096x2816, .bf16⟩
  | .hbm, ⟨6, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x4x1024x1408, .bf16⟩
  | .local _ .vmem, ⟨4, _⟩ => ⟨S512x1024, .bf16⟩
  | .local _ .vmem, ⟨5, _⟩ => ⟨S512x1024, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefUpIdeal.lean ====
abbrev S4096x1024 : Shape := ⟨2, ![4096, 1024]⟩
abbrev S1x1024 : Shape := ⟨2, ![1, 1024]⟩
abbrev S4x4x1024x1408 : Shape := ⟨4, ![4, 4, 1024, 1408]⟩
abbrev S1x4x1024x1408 : Shape := ⟨4, ![1, 4, 1024, 1408]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x4x1024x1408, .bf16⟩
  | .hbm, ⟨3, _⟩ => ⟨S1x4x1024x1408, .bf16⟩
  | .hbm, ⟨4, _⟩ => ⟨S4x1024x1408, .bf16⟩
  | .hbm, ⟨5, _⟩ => ⟨S4x1024x1408, .f32⟩
  | .hbm, ⟨6, _⟩ => ⟨S1024x4x1408, .f32⟩
  | .hbm, ⟨7, _⟩ => ⟨S1024x5632, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x5632, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x1024, .bf16⟩
  | .hbm, ⟨37, _⟩ => ⟨S4096x2816, .bf16⟩
  | .hbm, ⟨38, _⟩ => ⟨S4096x2816, .bf16⟩
  | .hbm, ⟨39, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Down.lean ====
abbrev S4096x2816 : Shape := ⟨2, ![4096, 2816]⟩
abbrev S4x2816x1024 : Shape := ⟨3, ![4, 2816, 1024]⟩
abbrev S4096x1024 : Shape := ⟨2, ![4096, 1024]⟩
abbrev S512x2816 : Shape := ⟨2, ![512, 2816]⟩
abbrev S1x2816x1024 : Shape := ⟨3, ![1, 2816, 1024]⟩
abbrev S512x1024 : Shape := ⟨2, ![512, 1024]⟩
abbrev S2816x1024 : Shape := ⟨2, ![2816, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4x2816x1024, .bf16⟩
  | .hbm, ⟨2, _⟩ => ⟨S4096x1024, .f32⟩
  | .hbm, ⟨3, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefDownIdeal.lean ====
abbrev S4096x2816 : Shape := ⟨2, ![4096, 2816]⟩
abbrev S4x2816x1024 : Shape := ⟨3, ![4, 2816, 1024]⟩
abbrev S4096x1024 : Shape := ⟨2, ![4096, 1024]⟩
abbrev S1x2816x1024 : Shape := ⟨3, ![1, 2816, 1024]⟩
abbrev S2816x1024 : Shape := ⟨2, ![2816, 1024]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4x2816x1024, .bf16⟩
  | .hbm, ⟨2, _⟩ => ⟨S4096x1024, .f32⟩
  | .hbm, ⟨3, _⟩ => ⟨S4096x2816, .f32⟩
  | .hbm, ⟨4, _⟩ => ⟨S1x2816x1024, .bf16⟩
  | .hbm, ⟨5, _⟩ => ⟨S2816x1024, .bf16⟩
  | .hbm, ⟨6, _⟩ => ⟨S2816x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== HybIn.lean ====
abbrev S4096x1024 : Shape := ⟨2, ![4096, 1024]⟩
abbrev S2x4x1024x640 : Shape := ⟨4, ![2, 4, 1024, 640]⟩
abbrev S4096x2560 : Shape := ⟨2, ![4096, 2560]⟩
abbrev S512x1024 : Shape := ⟨2, ![512, 1024]⟩
abbrev S1x1x1024x640 : Shape := ⟨4, ![1, 1, 1024, 640]⟩
abbrev S512x640 : Shape := ⟨2, ![512, 640]⟩
abbrev S1024x640 : Shape := ⟨2, ![1024, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2x4x1024x640, .bf16⟩
  | .hbm, ⟨2, _⟩ => ⟨S4096x2560, .f32⟩
  | .local _ .vmem, ⟨0, _⟩ => ⟨S512x1024, .bf16⟩
  | .local _ .vmem, ⟨1, _⟩ => ⟨S512x1024, .bf16⟩
  | .local _ .vmem, ⟨2, _⟩ => ⟨S1x1x1024x640, .bf16⟩
  | .local _ .vmem, ⟨3, _⟩ => ⟨S1x1x1024x640, .bf16⟩
  | .local _ .vmem, ⟨4, _⟩ => ⟨S512x640, .f32⟩
  | .local _ .vmem, ⟨5, _⟩ => ⟨S512x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefHybInIdeal.lean ====
abbrev S4096x1024 : Shape := ⟨2, ![4096, 1024]⟩
abbrev S2x4x1024x640 : Shape := ⟨4, ![2, 4, 1024, 640]⟩
abbrev S1x4x1024x640 : Shape := ⟨4, ![1, 4, 1024, 640]⟩
abbrev S4x1024x640 : Shape := ⟨3, ![4, 1024, 640]⟩
abbrev S1024x4x640 : Shape := ⟨3, ![1024, 4, 640]⟩
abbrev S1024x2560 : Shape := ⟨2, ![1024, 2560]⟩
abbrev S4096x2560 : Shape := ⟨2, ![4096, 2560]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4x1024x640, .bf16⟩
  | .hbm, ⟨2, _⟩ => ⟨S4096x1024, .f32⟩
  | .hbm, ⟨3, _⟩ => ⟨S1x4x1024x640, .bf16⟩
  | .hbm, ⟨4, _⟩ => ⟨S4x1024x640, .bf16⟩
  | .hbm, ⟨5, _⟩ => ⟨S4x1024x640, .f32⟩
  | .hbm, ⟨6, _⟩ => ⟨S1024x4x640, .f32⟩
  | .hbm, ⟨7, _⟩ => ⟨S1024x2560, .f32⟩
  | .hbm, ⟨8, _⟩ => ⟨S4096x2560, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== HybDwin.lean ====
abbrev S4096x1024 : Shape := ⟨2, ![4096, 1024]⟩
abbrev S4096x2560 : Shape := ⟨2, ![4096, 2560]⟩
abbrev S4x1024x640 : Shape := ⟨3, ![4, 1024, 640]⟩
abbrev S512x1024 : Shape := ⟨2, ![512, 1024]⟩
abbrev S512x640 : Shape := ⟨2, ![512, 640]⟩
abbrev S1x1024x640 : Shape := ⟨3, ![1, 1024, 640]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2560, .bf16⟩
  | .hbm, ⟨2, _⟩ => ⟨S4x1024x640, .bf16⟩
  | .local _ .vmem, ⟨0, _⟩ => ⟨S512x1024, .bf16⟩
  | .local _ .vmem, ⟨1, _⟩ => ⟨S512x1024, .bf16⟩
  | .local _ .vmem, ⟨2, _⟩ => ⟨S512x640, .bf16⟩
  | .local _ .vmem, ⟨3, _⟩ => ⟨S512x640, .bf16⟩
  | .local _ .vmem, ⟨4, _⟩ => ⟨S1x1024x640, .bf16⟩
  | .local _ .vmem, ⟨5, _⟩ => ⟨S1x1024x640, .bf16⟩
  | .local _ .vmem, ⟨6, _⟩ => ⟨S1024x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RefHybDwinIdeal.lean ====
abbrev S4096x1024 : Shape := ⟨2, ![4096, 1024]⟩
abbrev S4096x2560 : Shape := ⟨2, ![4096, 2560]⟩
abbrev S_ : Shape := ⟨0, ![]⟩
abbrev S1024x2560 : Shape := ⟨2, ![1024, 2560]⟩
abbrev S2560x1024 : Shape := ⟨2, ![2560, 1024]⟩
abbrev S1024x4x640 : Shape := ⟨3, ![1024, 4, 640]⟩
abbrev S4x1024x640 : Shape := ⟨3, ![4, 1024, 640]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2560, .bf16⟩
  | .hbm, ⟨2, _⟩ => ⟨S_, .f32⟩
  | .hbm, ⟨3, _⟩ => ⟨S1024x2560, .f32⟩
  | .hbm, ⟨4, _⟩ => ⟨S4096x1024, .f32⟩
  | .hbm, ⟨5, _⟩ => ⟨S4096x2560, .f32⟩
  | .hbm, ⟨6, _⟩ => ⟨S4096x2560, .f32⟩
  | .hbm, ⟨7, _⟩ => ⟨S2560x1024, .f32⟩
  | .hbm, ⟨8, _⟩ => ⟨S1024x2560, .f32⟩
  | .hbm, ⟨9, _⟩ => ⟨S1024x4x640, .f32⟩
  | .hbm, ⟨10, _⟩ => ⟨S4x1024x640, .f32⟩
  | .hbm, ⟨11, _⟩ => ⟨S4x1024x640, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== HybDhn.lean ====
abbrev S4096x2560 : Shape := ⟨2, ![4096, 2560]⟩
abbrev S2x4x1024x640 : Shape := ⟨4, ![2, 4, 1024, 640]⟩
abbrev S4096x1024 : Shape := ⟨2, ![4096, 1024]⟩
abbrev S1x1024 : Shape := ⟨2, ![1, 1024]⟩
abbrev S512x640 : Shape := ⟨2, ![512, 640]⟩
abbrev S1x1x1024x640 : Shape := ⟨4, ![1, 1, 1024, 640]⟩
abbrev S512x1024 : Shape := ⟨2, ![512, 1024]⟩
abbrev S1024x640 : Shape := ⟨2, ![1024, 640]⟩
abbrev S512 : Shape := ⟨1, ![512]⟩
abbrev S512x1 : Shape := ⟨2, ![512, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S4096x2560, .bf16⟩
  | .hbm, ⟨1, _⟩ => ⟨S2x4x1024x640, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x640, .bf16⟩
  | .local _ .vmem, ⟨1, _⟩ => ⟨S512x640, .bf16⟩
  | .local _ .vmem, ⟨2, _⟩ => ⟨S1x1x1024x640, .bf16⟩
  | .local _ .vmem, ⟨3, _⟩ => ⟨S1x1x1024x640, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_8 : BitVec 32 := 0#32
  let v12 : BitVec 1 := Scalar.cmpi .ne v11 c0_i32_8
  v12

def k0_cond4 (i : grid0.Coords) : BitVec 1 :=
  let arg0 : BitVec 32 := BitVec.ofNat 32 (i 0).val
  let c0_i32_25 : BitVec 32 := 0#32
  let v51 : BitVec 1 := Scalar.cmpi .eq arg0 c0_i32_25
  let v52 : BitVec 32 := Scalar.extui v51
  let c0_i32_26 : BitVec 32 := 0#32
  let v53 : BitVec 1 := Scalar.cmpi .ne v52 c0_i32_26
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== RefHybDhnIdeal.lean ====
abbrev S4096x2560 : Shape := ⟨2, ![4096, 2560]⟩
abbrev S2x4x1024x640 : Shape := ⟨4, ![2, 4, 1024, 640]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1x4x1024x640 : Shape := ⟨4, ![1, 4, 1024, 640]⟩
abbrev S4x1024x640 : Shape := ⟨3, ![4, 1024, 640]⟩
abbrev S1024x4x640 : Shape := ⟨3, ![1024, 4, 640]⟩
abbrev S1024x2560 : Shape := ⟨2, ![1024, 2560]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S2x4x1024x640, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1x4x1024x640, .bf16⟩
  | .hbm, ⟨25, _⟩ => ⟨S4x1024x640, .bf16⟩
  | .hbm, ⟨26, _⟩ => ⟨S4x1024x640, .f32⟩
  | .hbm, ⟨27, _⟩ => ⟨S1024x4x640, .f32⟩
  | .hbm, ⟨28, _⟩ => ⟨S1024x2560, .f32⟩
  | .hbm, ⟨29, _⟩ => ⟨S4096x2560, .f32⟩
  | .hbm, ⟨30, _⟩ => ⟨S4096x2560, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== GdnIn.lean ====
abbrev S4096x1024 : Shape := ⟨2, ![4096, 1024]⟩
abbrev S2x1024x4096 : Shape := ⟨3, ![2, 1024, 4096]⟩
abbrev S4096x4096 : Shape := ⟨2, ![4096, 4096]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2x1024x4096, .bf16⟩
  | .hbm, ⟨2, _⟩ => ⟨S4096x4096, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S512x1024, .f32⟩
  | .local _ .vmem, ⟨5, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefGdnInIdeal.lean ====
abbrev S4096x1024 : Shape := ⟨2, ![4096, 1024]⟩
abbrev S2x1024x4096 : Shape := ⟨3, ![2, 1024, 4096]⟩
abbrev S1x1024x4096 : Shape := ⟨3, ![1, 1024, 4096]⟩
abbrev S1024x4096 : Shape := ⟨2, ![1024, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x1024x4096, .bf16⟩
  | .hbm, ⟨2, _⟩ => ⟨S4096x1024, .f32⟩
  | .hbm, ⟨3, _⟩ => ⟨S1x1024x4096, .bf16⟩
  | .hbm, ⟨4, _⟩ => ⟨S1024x4096, .bf16⟩
  | .hbm, ⟨5, _⟩ => ⟨S1024x4096, .f32⟩
  | .hbm, ⟨6, _⟩ => ⟨S4096x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GdnDwin.lean ====
abbrev S4096x1024 : Shape := ⟨2, ![4096, 1024]⟩
abbrev S4096x4096 : Shape := ⟨2, ![4096, 4096]⟩
abbrev S1024x4096 : Shape := ⟨2, ![1024, 4096]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RefGdnDwinIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GdnDhn.lean ====
abbrev S4096x4096 : Shape := ⟨2, ![4096, 4096]⟩
abbrev S2x1024x4096 : Shape := ⟨3, ![2, 1024, 4096]⟩
abbrev S4096x1024 : Shape := ⟨2, ![4096, 1024]⟩
abbrev S1x1024 : Shape := ⟨2, ![1, 1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 15
  | .smem => 0
  | _ => 0

abbrev bufTy : (tb : Table) → Fin (tcTables nBuf tb) → BufTy
  | .hbm, ⟨0, _⟩ => ⟨S4096x4096, .bf16⟩
  | .hbm, ⟨1, _⟩ => ⟨S2x1024x4096, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def k0_cond4 (i : grid0.Coords) : BitVec 1 :=
  let arg0 : BitVec 32 := BitVec.ofNat 32 (i 0).val
  let c0_i32_26 : BitVec 32 := 0#32
  let v53 : BitVec 1 := Scalar.cmpi .eq arg0 c0_i32_26
  let v54 : BitVec 32 := Scalar.extui v53
  let c0_i32_27 : BitVec 32 := 0#32
  let v55 : BitVec 1 := Scalar.cmpi .ne v54 c0_i32_27
  v55

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== RefGdnDhnIdeal.lean ====
abbrev S4096x4096 : Shape := ⟨2, ![4096, 4096]⟩
abbrev S2x1024x4096 : Shape := ⟨3, ![2, 1024, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1x1024x4096 : Shape := ⟨3, ![1, 1024, 4096]⟩
abbrev S1024x4096 : Shape := ⟨2, ![1024, 4096]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2x1024x4096, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1x1024x4096, .bf16⟩
  | .hbm, ⟨26, _⟩ => ⟨S1024x4096, .bf16⟩
  | .hbm, ⟨27, _⟩ => ⟨S1024x4096, .f32⟩
  | .hbm, ⟨28, _⟩ => ⟨S4096x4096, .f32⟩
  | .hbm, ⟨29, _⟩ => ⟨S4096x4096, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== MixOut.lean ====
abbrev S4096x1024 : Shape := ⟨2, ![4096, 1024]⟩
abbrev S2x1024x1024 : Shape := ⟨3, ![2, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2x1024x1024, .bf16⟩
  | .hbm, ⟨2, _⟩ => ⟨S4096x1024, .f32⟩
  | .hbm, ⟨3, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefMixOutIdeal.lean ====
abbrev S4096x1024 : Shape := ⟨2, ![4096, 1024]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x1024x1024, .bf16⟩
  | .hbm, ⟨2, _⟩ => ⟨S4096x1024, .f32⟩
  | .hbm, ⟨3, _⟩ => ⟨S4096x1024, .f32⟩
  | .hbm, ⟨4, _⟩ => ⟨S1x1024x1024, .bf16⟩
  | .hbm, ⟨5, _⟩ => ⟨S1024x1024, .bf16⟩
  | .hbm, ⟨6, _⟩ => ⟨S1024x1024, .f32⟩
  | .hbm, ⟨7, _⟩ => ⟨S4096x1024, .f32⟩
  | .hbm, ⟨8, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixDy.lean ====
abbrev S4096x1024 : Shape := ⟨2, ![4096, 1024]⟩
abbrev S2x1024x1024 : Shape := ⟨3, ![2, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S2x1024x1024, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefMixDyIdeal.lean ====
abbrev S4096x1024 : Shape := ⟨2, ![4096, 1024]⟩
abbrev S2x1024x1024 : Shape := ⟨3, ![2, 1024, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024x1024, .bf16⟩
  | .hbm, ⟨2, _⟩ => ⟨S_, .f32⟩
  | .hbm, ⟨3, _⟩ => ⟨S4096x1024, .f32⟩
  | .hbm, ⟨4, _⟩ => ⟨S1x1024x1024, .bf16⟩
  | .hbm, ⟨5, _⟩ => ⟨S1024x1024, .bf16⟩
  | .hbm, ⟨6, _⟩ => ⟨S1024x1024, .f32⟩
  | .hbm, ⟨7, _⟩ => ⟨S4096x1024, .f32⟩
  | .hbm, ⟨8, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixDwout.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v10 : BitVec 1 := Scalar.cmpi .eq arg0 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== RefMixDwoutIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AdamIn.lean ====
abbrev S2x1024x1028 : Shape := ⟨3, ![2, 1024, 1028]⟩
abbrev S2048x1028 : Shape := ⟨2, ![2048, 1028]⟩
abbrev S256x1028 : Shape := ⟨2, ![256, 1028]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1028, .f32⟩
  | .hbm, ⟨1, _⟩ => ⟨S2x1024x1028, .f32⟩
  | .hbm, ⟨2, _⟩ => ⟨S2x1024x1028, .f32⟩
  | .hbm, ⟨3, _⟩ => ⟨S2x1024x1028, .f32⟩
  | .hbm, ⟨4, _⟩ => ⟨S2048x1028, .f32⟩
  | .hbm, ⟨5, _⟩ => ⟨S2048x1028, .f32⟩
  | .hbm, ⟨6, _⟩ => ⟨S2048x1028, .f32⟩
  | .hbm, ⟨7, _⟩ => ⟨S2048x1028, .f32⟩
  | .hbm, ⟨8, _⟩ => ⟨S2048x1028, .f32⟩
  | .hbm, ⟨9, _⟩ => ⟨S2048x1028, .f32⟩
  | .hbm, ⟨10, _⟩ => ⟨S2048x1028, .f32⟩
  | .local _ .vmem, ⟨0, _⟩ => ⟨S256x1028, .f32⟩
  | .local _ .vmem, ⟨1, _⟩ => ⟨S256x1028, .f32⟩
  | .local _ .vmem, ⟨2, _⟩ => ⟨S256x1028, .f32⟩
  | .local _ .vmem, ⟨3, _⟩ => ⟨S256x1028, .f32⟩
  | .local _ .vmem, ⟨4, _⟩ => ⟨S256x1028, .f32⟩
  | .local _ .vmem, ⟨5, _⟩ => ⟨S256x1028, .f32⟩
  | .local _ .vmem, ⟨6, _⟩ => ⟨S256x1028, .f32⟩
  | .local _ .vmem, ⟨7, _⟩ => ⟨S256x1028, .f32⟩
  | .local _ .vmem, ⟨8, _⟩ => ⟨S256x1028, .f32⟩
  | .local _ .vmem, ⟨9, _⟩ => ⟨S256x1028, .f32⟩
  | .local _ .vmem, ⟨10, _⟩ => ⟨S256x1028, .f32⟩
  | .local _ .vmem, ⟨11, _⟩ => ⟨S256x1028, .f32⟩
  | .local _ .vmem, ⟨12, _⟩ => ⟨S256x1028, .f32⟩
  | .local _ .vmem, ⟨13, _⟩ => ⟨S256x1028, .f32⟩
  | _, _ => ⟨S2x1024x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S256x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1028 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S2x1024x1028 : Shape := ⟨3, ![2, 1024, 1028]⟩
abbrev S2048x1028 : Shape := ⟨2, ![2048, 1028]⟩
abbrev S256x1028 : Shape := ⟨2, ![256, 1028]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1028, .f32⟩
  | .hbm, ⟨1, _⟩ => ⟨S2x1024x1028, .f32⟩
  | .hbm, ⟨2, _⟩ => ⟨S2x1024x1028, .f32⟩
  | .hbm, ⟨3, _⟩ => ⟨S2x1024x1028, .f32⟩
  | .hbm, ⟨4, _⟩ => ⟨S2048x1028, .f32⟩
  | .hbm, ⟨5, _⟩ => ⟨S2048x1028, .f32⟩
  | .hbm, ⟨6, _⟩ => ⟨S2048x1028, .f32⟩
  | .hbm, ⟨7, _⟩ => ⟨S2048x1028, .f32⟩
  | .hbm, ⟨8, _⟩ => ⟨S2048x1028, .f32⟩
  | .hbm, ⟨9, _⟩ => ⟨S2048x1028, .f32⟩
  | .hbm, ⟨10, _⟩ => ⟨S2048x1028, .f32⟩
  | .local _ .vmem, ⟨0, _⟩ => ⟨S256x1028, .f32⟩
  | .local _ .vmem, ⟨1, _⟩ => ⟨S256x1028, .f32⟩
  | .local _ .vmem, ⟨2, _⟩ => ⟨S256x1028, .f32⟩
  | .local _ .vmem, ⟨3, _⟩ => ⟨S256x1028, .f32⟩
  | .local _ .vmem, ⟨4, _⟩ => ⟨S256x1028, .f32⟩
  | .local _ .vmem, ⟨5, _⟩ => ⟨S256x1028, .f32⟩
  | .local _ .vmem, ⟨6, _⟩ => ⟨S256x1028, .f32⟩
  | .local _ .vmem, ⟨7, _⟩ => ⟨S256x1028, .f32⟩
  | .local _ .vmem, ⟨8, _⟩ => ⟨S256x1028, .f32⟩
  | .local _ .vmem, ⟨9, _⟩ => ⟨S256x1028, .f32⟩
  | .local _ .vmem, ⟨10, _⟩ => ⟨S256x1028, .f32⟩
  | .local _ .vmem, ⟨11, _⟩ => ⟨S256x1028, .f32⟩
  | .local _ .vmem, ⟨12, _⟩ => ⟨S256x1028, .f32⟩
  | .local _ .vmem, ⟨13, _⟩ => ⟨S256x1028, .f32⟩
  | _, _ => ⟨S2x1024x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S256x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1028 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefAdamInIdeal.lean ====
abbrev S2x1024x1028 : Shape := ⟨3, ![2, 1024, 1028]⟩
abbrev S_ : Shape := ⟨0, ![]⟩
abbrev S2048x1028 : Shape := ⟨2, ![2048, 1028]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1028, .f32⟩
  | .hbm, ⟨1, _⟩ => ⟨S2x1024x1028, .f32⟩
  | .hbm, ⟨2, _⟩ => ⟨S2x1024x1028, .f32⟩
  | .hbm, ⟨3, _⟩ => ⟨S2x1024x1028, .f32⟩
  | .hbm, ⟨4, _⟩ => ⟨S_, .f32⟩
  | .hbm, ⟨5, _⟩ => ⟨S2x1024x1028, .f32⟩
  | .hbm, ⟨6, _⟩ => ⟨S2x1024x1028, .f32⟩
  | .hbm, ⟨7, _⟩ => ⟨S_, .f32⟩
  | .hbm, ⟨8, _⟩ => ⟨S2x1024x1028, .f32⟩
  | .hbm, ⟨9, _⟩ => ⟨S2x1024x1028, .f32⟩
  | .hbm, ⟨10, _⟩ => ⟨S2x1024x1028, .f32⟩
  | .hbm, ⟨11, _⟩ => ⟨S_, .f32⟩
  | .hbm, ⟨12, _⟩ => ⟨S2x1024x1028, .f32⟩
  | .hbm, ⟨13, _⟩ => ⟨S2x1024x1028, .f32⟩
  | .hbm, ⟨14, _⟩ => ⟨S2x1024x1028, .f32⟩
  | .hbm, ⟨15, _⟩ => ⟨S_, .f32⟩
  | .hbm, ⟨16, _⟩ => ⟨S2x1024x1028, .f32⟩
  | .hbm, ⟨17, _⟩ => ⟨S2x1024x1028, .f32⟩
  | .hbm, ⟨18, _⟩ => ⟨S2x1024x1028, .f32⟩
  | .hbm, ⟨19, _⟩ => ⟨S_, .f32⟩
  | .hbm, ⟨20, _⟩ => ⟨S2x1024x1028, .f32⟩
  | .hbm, ⟨21, _⟩ => ⟨S2x1024x1028, .f32⟩
  | .hbm, ⟨22, _⟩ => ⟨S_, .f32⟩
  | .hbm, ⟨23, _⟩ => ⟨S2x1024x1028, .f32⟩
  | .hbm, ⟨24, _⟩ => ⟨S2x1024x1028, .f32⟩
  | .hbm, ⟨25, _⟩ => ⟨S2x1024x1028, .f32⟩
  | .hbm, ⟨26, _⟩ => ⟨S_, .f32⟩
  | .hbm, ⟨27, _⟩ => ⟨S2x1024x1028, .f32⟩
  | .hbm, ⟨28, _⟩ => ⟨S2x1024x1028, .f32⟩
  | .hbm, ⟨29, _⟩ => ⟨S2x1024x1028, .f32⟩
  | .hbm, ⟨30, _⟩ => ⟨S_, .f32⟩
  | .hbm, ⟨31, _⟩ => ⟨S2x1024x1028, .f32⟩
  | .hbm, ⟨32, _⟩ => ⟨S2x1024x1028, .f32⟩
  | .hbm, ⟨33, _⟩ => ⟨S2x1024x1028, .f32⟩
  | .hbm, ⟨34, _⟩ => ⟨S_, .f32⟩
  | .hbm, ⟨35, _⟩ => ⟨S2x1024x1028, .f32⟩
  | .hbm, ⟨36, _⟩ => ⟨S2x1024x1028, .f32⟩
  | .hbm, ⟨37, _⟩ => ⟨S2048x1028, .f32⟩
  | .hbm, ⟨38, _⟩ => ⟨S2048x1028, .f32⟩
  | .hbm, ⟨39, _⟩ => ⟨S2048x1028, .f32⟩
  | _, _ => ⟨S2x1024x1028, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamOut.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutIdeal.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefAdamOutIdeal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamPack.lean ====
abbrev S96x1024 : Shape := ⟨2, ![96, 1024]⟩

abbrev nBuf : Space → Nat
  | .hbm => 7
  | .vmem => 7
  | .smem => 0
  | _ => 0

abbrev bufTy : (tb : Table) → Fin (tcTables nBuf tb) → BufTy
  | .hbm, ⟨0, _⟩ => ⟨S96x1024, .f32⟩
  | .hbm, ⟨1, _⟩ => ⟨S96x1024, .f32⟩
  | .hbm, ⟨2, _⟩ => ⟨S96x1024, .f32⟩
  | .hbm, ⟨3, _⟩ => ⟨S96x1024, .f32⟩
  | .hbm, ⟨4, _⟩ => ⟨S96x1024, .f32⟩
  | .hbm, ⟨5, _⟩ => ⟨S96x1024, .f32⟩
  | .hbm, ⟨6, _⟩ => ⟨S96x1024, .f32⟩
  | .local _ .vmem, ⟨0, _⟩ => ⟨S96x1024, .f32⟩
  | .local _ .vmem, ⟨1, _⟩ => ⟨S96x1024, .f32⟩
  | .local _ .vmem, ⟨2, _⟩ => ⟨S96x1024, .f32⟩
  | .local _ .vmem, ⟨3, _⟩ => ⟨S96x1024, .f32⟩
  | .local _ .vmem, ⟨4, _⟩ => ⟨S96x1024, .f32⟩
  | .local _ .vmem, ⟨5, _⟩ => ⟨S96x1024, .f32⟩
  | .local _ .vmem, ⟨6, _⟩ => ⟨S96x1024, .f32⟩
  | _, _ => ⟨S96x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S96x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S96x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S96x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S96x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S96x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S96x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S96x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamPackIdeal.lean ====
abbrev S96x1024 : Shape := ⟨2, ![96, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S96x1024, .f32⟩
  | .hbm, ⟨1, _⟩ => ⟨S96x1024, .f32⟩
  | .hbm, ⟨2, _⟩ => ⟨S96x1024, .f32⟩
  | .hbm, ⟨3, _⟩ => ⟨S96x1024, .f32⟩
  | .hbm, ⟨4, _⟩ => ⟨S_, .f32⟩
  | .hbm, ⟨5, _⟩ => ⟨S96x1024, .f32⟩
  | .hbm, ⟨6, _⟩ => ⟨S96x1024, .f32⟩
  | .hbm, ⟨7, _⟩ => ⟨S_, .f32⟩
  | .hbm, ⟨8, _⟩ => ⟨S96x1024, .f32⟩
  | .hbm, ⟨9, _⟩ => ⟨S96x1024, .f32⟩
  | .hbm, ⟨10, _⟩ => ⟨S96x1024, .f32⟩
  | .hbm, ⟨11, _⟩ => ⟨S_, .f32⟩
  | .hbm, ⟨12, _⟩ => ⟨S96x1024, .f32⟩
  | .hbm, ⟨13, _⟩ => ⟨S96x1024, .f32⟩
  | .hbm, ⟨14, _⟩ => ⟨S96x1024, .f32⟩
  | .hbm, ⟨15, _⟩ => ⟨S_, .f32⟩
  | .hbm, ⟨16, _⟩ => ⟨S96x1024, .f32⟩
  | .hbm, ⟨17, _⟩ => ⟨S96x1024, .f32⟩
  | .hbm, ⟨18, _⟩ => ⟨S96x1024, .f32⟩
  | .hbm, ⟨19, _⟩ => ⟨S_, .f32⟩
  | .hbm, ⟨20, _⟩ => ⟨S96x1024, .f32⟩
  | .hbm, ⟨21, _⟩ => ⟨S96x1024, .f32⟩
  | .hbm, ⟨22, _⟩ => ⟨S_, .f32⟩
  | .hbm, ⟨23, _⟩ => ⟨S96x1024, .f32⟩
  | .hbm, ⟨24, _⟩ => ⟨S96x1024, .f32⟩
  | .hbm, ⟨25, _⟩ => ⟨S96x1024, .f32⟩
  | .hbm, ⟨26, _⟩ => ⟨S_, .f32⟩
  | .hbm, ⟨27, _⟩ => ⟨S96x1024, .f32⟩
  | .hbm, ⟨28, _⟩ => ⟨S96x1024, .f32⟩
  | .hbm, ⟨29, _⟩ => ⟨S96x1024, .f32⟩
  | .hbm, ⟨30, _⟩ => ⟨S_, .f32⟩
  | .hbm, ⟨31, _⟩ => ⟨S96x1024, .f32⟩
  | .hbm, ⟨32, _⟩ => ⟨S96x1024, .f32⟩
  | .hbm, ⟨33, _⟩ => ⟨S96x1024, .f32⟩
  | .hbm, ⟨34, _⟩ => ⟨S_, .f32⟩
  | .hbm, ⟨35, _⟩ => ⟨S96x1024, .f32⟩
  | .hbm, ⟨36, _⟩ => ⟨S96x1024, .f32⟩
  | _, _ => ⟨S96x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnIn.lean ====
abbrev S4x1024x1408 : Shape := ⟨3, ![4, 1024, 1408]⟩
abbrev S4096x1408 : Shape := ⟨2, ![4096, 1408]⟩
abbrev S256x1408 : Shape := ⟨2, ![256, 1408]⟩

abbrev nBuf : Space → Nat
  | .hbm => 19
  | .vmem => 28
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4x1024x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S4096x1408, .f32⟩
  | .hbm, ⟨12, _⟩ => ⟨S4096x1408, .f32⟩
  | .hbm, ⟨13, _⟩ => ⟨S4096x1408, .f32⟩
  | .hbm, ⟨14, _⟩ => ⟨S4096x1408, .f32⟩
  | .hbm, ⟨15, _⟩ => ⟨S4096x1408, .f32⟩
  | .hbm, ⟨16, _⟩ => ⟨S4096x1408, .f32⟩
  | .hbm, ⟨17, _⟩ => ⟨S4096x1408, .f32⟩
  | .hbm, ⟨18, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | .local _ .vmem, ⟨18, _⟩ => ⟨S256x1408, .f32⟩
  | .local _ .vmem, ⟨19, _⟩ => ⟨S256x1408, .f32⟩
  | .local _ .vmem, ⟨20, _⟩ => ⟨S256x1408, .f32⟩
  | .local _ .vmem, ⟨21, _⟩ => ⟨S256x1408, .f32⟩
  | .local _ .vmem, ⟨22, _⟩ => ⟨S256x1408, .f32⟩
  | .local _ .vmem, ⟨23, _⟩ => ⟨S256x1408, .f32⟩
  | .local _ .vmem, ⟨24, _⟩ => ⟨S256x1408, .f32⟩
  | .local _ .vmem, ⟨25, _⟩ => ⟨S256x1408, .f32⟩
  | .local _ .vmem, ⟨26, _⟩ => ⟨S256x1408, .f32⟩
  | .local _ .vmem, ⟨27, _⟩ => ⟨S256x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_2 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_3 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_7 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_8 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_9 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage1_0 : Fin 2 → Memref sig .tc .vmem S256x1408 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1408 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1408 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1408 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1408 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1408 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== AdamFfnInIdeal.lean ====
abbrev S4x1024x1408 : Shape := ⟨3, ![4, 1024, 1408]⟩
abbrev S4096x1408 : Shape := ⟨2, ![4096, 1408]⟩
abbrev S256x1408 : Shape := ⟨2, ![256, 1408]⟩

abbrev nBuf : Space → Nat
  | .hbm => 19
  | .vmem => 28
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4x1024x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S4096x1408, .f32⟩
  | .hbm, ⟨12, _⟩ => ⟨S4096x1408, .f32⟩
  | .hbm, ⟨13, _⟩ => ⟨S4096x1408, .f32⟩
  | .hbm, ⟨14, _⟩ => ⟨S4096x1408, .f32⟩
  | .hbm, ⟨15, _⟩ => ⟨S4096x1408, .f32⟩
  | .hbm, ⟨16, _⟩ => ⟨S4096x1408, .f32⟩
  | .hbm, ⟨17, _⟩ => ⟨S4096x1408, .f32⟩
  | .hbm, ⟨18, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | .local _ .vmem, ⟨18, _⟩ => ⟨S256x1408, .f32⟩
  | .local _ .vmem, ⟨19, _⟩ => ⟨S256x1408, .f32⟩
  | .local _ .vmem, ⟨20, _⟩ => ⟨S256x1408, .f32⟩
  | .local _ .vmem, ⟨21, _⟩ => ⟨S256x1408, .f32⟩
  | .local _ .vmem, ⟨22, _⟩ => ⟨S256x1408, .f32⟩
  | .local _ .vmem, ⟨23, _⟩ => ⟨S256x1408, .f32⟩
  | .local _ .vmem, ⟨24, _⟩ => ⟨S256x1408, .f32⟩
  | .local _ .vmem, ⟨25, _⟩ => ⟨S256x1408, .f32⟩
  | .local _ .vmem, ⟨26, _⟩ => ⟨S256x1408, .f32⟩
  | .local _ .vmem, ⟨27, _⟩ => ⟨S256x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_2 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_3 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_7 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_8 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_9 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage1_0 : Fin 2 → Memref sig .tc .vmem S256x1408 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1408 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1408 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1408 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1408 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1408 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== RefAdamFfnInIdeal.lean ====
abbrev S4x1024x1408 : Shape := ⟨3, ![4, 1024, 1408]⟩
abbrev S1x1024x1408 : Shape := ⟨3, ![1, 1024, 1408]⟩
abbrev S3x1024x1408 : Shape := ⟨3, ![3, 1024, 1408]⟩
abbrev S_ : Shape := ⟨0, ![]⟩
abbrev S4096x1408 : Shape := ⟨2, ![4096, 1408]⟩

abbrev nBuf : Space → Nat
  | .hbm => 44
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4x1024x1408, .f32⟩
  | .hbm, ⟨5, _⟩ => ⟨S1x1024x1408, .f32⟩
  | .hbm, ⟨6, _⟩ => ⟨S3x1024x1408, .f32⟩
  | .hbm, ⟨7, _⟩ => ⟨S4x1024x1408, .f32⟩
  | .hbm, ⟨8, _⟩ => ⟨S_, .f32⟩
  | .hbm, ⟨9, _⟩ => ⟨S4x1024x1408, .f32⟩
  | .hbm, ⟨10, _⟩ => ⟨S4x1024x1408, .f32⟩
  | .hbm, ⟨11, _⟩ => ⟨S_, .f32⟩
  | .hbm, ⟨12, _⟩ => ⟨S4x1024x1408, .f32⟩
  | .hbm, ⟨13, _⟩ => ⟨S4x1024x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S4x1024x1408, .f32⟩
  | .hbm, ⟨19, _⟩ => ⟨S_, .f32⟩
  | .hbm, ⟨20, _⟩ => ⟨S4x1024x1408, .f32⟩
  | .hbm, ⟨21, _⟩ => ⟨S4x1024x1408, .f32⟩
  | .hbm, ⟨22, _⟩ => ⟨S4x1024x1408, .f32⟩
  | .hbm, ⟨23, _⟩ => ⟨S_, .f32⟩
  | .hbm, ⟨24, _⟩ => ⟨S4x1024x1408, .f32⟩
  | .hbm, ⟨25, _⟩ => ⟨S4x1024x1408, .f32⟩
  | .hbm, ⟨26, _⟩ => ⟨S_, .f32⟩
  | .hbm, ⟨27, _⟩ => ⟨S4x1024x1408, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S4x1024x1408, .f32⟩
  | .hbm, ⟨34, _⟩ => ⟨S_, .f32⟩
  | .hbm, ⟨35, _⟩ => ⟨S4x1024x1408, .f32⟩
  | .hbm, ⟨36, _⟩ => ⟨S4x1024x1408, .f32⟩
  | .hbm, ⟨37, _⟩ => ⟨S4x1024x1408, .f32⟩
  | .hbm, ⟨38, _⟩ => ⟨S_, .f32⟩
  | .hbm, ⟨39, _⟩ => ⟨S4x1024x1408, .f32⟩
  | .hbm, ⟨40, _⟩ => ⟨S4x1024x1408, .f32⟩
  | .hbm, ⟨41, _⟩ => ⟨S4096x1408, .f32⟩
  | .hbm, ⟨42, _⟩ => ⟨S4096x1408, .f32⟩
  | .hbm, ⟨43, _⟩ => ⟨S4096x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== AdamFfnOut.lean ====
abbrev S4x704x1024 : Shape := ⟨3, ![4, 704, 1024]⟩
abbrev S2816x1024 : Shape := ⟨2, ![2816, 1024]⟩
abbrev S352x1024 : Shape := ⟨2, ![352, 1024]⟩

abbrev nBuf : Space → Nat
  | .hbm => 19
  | .vmem => 28
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S2816x1024, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S2816x1024, .f32⟩
  | .hbm, ⟨16, _⟩ => ⟨S2816x1024, .f32⟩
  | .hbm, ⟨17, _⟩ => ⟨S2816x1024, .f32⟩
  | .hbm, ⟨18, _⟩ => ⟨S2816x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | .local _ .vmem, ⟨18, _⟩ => ⟨S352x1024, .f32⟩
  | .local _ .vmem, ⟨19, _⟩ => ⟨S352x1024, .f32⟩
  | .local _ .vmem, ⟨20, _⟩ => ⟨S352x1024, .f32⟩
  | .local _ .vmem, ⟨21, _⟩ => ⟨S352x1024, .f32⟩
  | .local _ .vmem, ⟨22, _⟩ => ⟨S352x1024, .f32⟩
  | .local _ .vmem, ⟨23, _⟩ => ⟨S352x1024, .f32⟩
  | .local _ .vmem, ⟨24, _⟩ => ⟨S352x1024, .f32⟩
  | .local _ .vmem, ⟨25, _⟩ => ⟨S352x1024, .f32⟩
  | .local _ .vmem, ⟨26, _⟩ => ⟨S352x1024, .f32⟩
  | .local _ .vmem, ⟨27, _⟩ => ⟨S352x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_2 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_3 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_7 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_8 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_9 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage1_0 : Fin 2 → Memref sig .tc .vmem S352x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S352x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S352x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S352x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S352x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S352x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S352x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== AdamFfnOutIdeal.lean ====
abbrev S4x704x1024 : Shape := ⟨3, ![4, 704, 1024]⟩
abbrev S2816x1024 : Shape := ⟨2, ![2816, 1024]⟩
abbrev S352x1024 : Shape := ⟨2, ![352, 1024]⟩

abbrev nBuf : Space → Nat
  | .hbm => 19
  | .vmem => 28
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S2816x1024, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S2816x1024, .f32⟩
  | .hbm, ⟨16, _⟩ => ⟨S2816x1024, .f32⟩
  | .hbm, ⟨17, _⟩ => ⟨S2816x1024, .f32⟩
  | .hbm, ⟨18, _⟩ => ⟨S2816x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | .local _ .vmem, ⟨18, _⟩ => ⟨S352x1024, .f32⟩
  | .local _ .vmem, ⟨19, _⟩ => ⟨S352x1024, .f32⟩
  | .local _ .vmem, ⟨20, _⟩ => ⟨S352x1024, .f32⟩
  | .local _ .vmem, ⟨21, _⟩ => ⟨S352x1024, .f32⟩
  | .local _ .vmem, ⟨22, _⟩ => ⟨S352x1024, .f32⟩
  | .local _ .vmem, ⟨23, _⟩ => ⟨S352x1024, .f32⟩
  | .local _ .vmem, ⟨24, _⟩ => ⟨S352x1024, .f32⟩
  | .local _ .vmem, ⟨25, _⟩ => ⟨S352x1024, .f32⟩
  | .local _ .vmem, ⟨26, _⟩ => ⟨S352x1024, .f32⟩
  | .local _ .vmem, ⟨27, _⟩ => ⟨S352x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_2 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_3 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_7 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_8 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_9 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage1_0 : Fin 2 → Memref sig .tc .vmem S352x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S352x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S352x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S352x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S352x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S352x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S352x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== RefAdamFfnOutIdeal.lean ====
abbrev S4x704x1024 : Shape := ⟨3, ![4, 704, 1024]⟩
abbrev S1x704x1024 : Shape := ⟨3, ![1, 704, 1024]⟩
abbrev S3x704x1024 : Shape := ⟨3, ![3, 704, 1024]⟩
abbrev S_ : Shape := ⟨0, ![]⟩
abbrev S2816x1024 : Shape := ⟨2, ![2816, 1024]⟩

abbrev nBuf : Space → Nat
  | .hbm => 44
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S1x704x1024, .f32⟩
  | .hbm, ⟨6, _⟩ => ⟨S3x704x1024, .f32⟩
  | .hbm, ⟨7, _⟩ => ⟨S4x704x1024, .f32⟩
  | .hbm, ⟨8, _⟩ => ⟨S_, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S4x704x1024, .f32⟩
  | .hbm, ⟨23, _⟩ => ⟨S_, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | .hbm, ⟨37, _⟩ => ⟨S4x704x1024, .f32⟩
  | .hbm, ⟨38, _⟩ => ⟨S_, .f32⟩
  | .hbm, ⟨39, _⟩ => ⟨S4x704x1024, .f32⟩
  | .hbm, ⟨40, _⟩ => ⟨S4x704x1024, .f32⟩
  | .hbm, ⟨41, _⟩ => ⟨S2816x1024, .f32⟩
  | .hbm, ⟨42, _⟩ => ⟨S2816x1024, .f32⟩
  | .hbm, ⟨43, _⟩ => ⟨S2816x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== AdamHybIn.lean ====
abbrev S2x1024x640 : Shape := ⟨3, ![2, 1024, 640]⟩
abbrev S2048x640 : Shape := ⟨2, ![2048, 640]⟩
abbrev S256x640 : Shape := ⟨2, ![256, 640]⟩

abbrev nBuf : Space → Nat
  | .hbm => 19
  | .vmem => 28
  | .smem => 0
  | _ => 0

abbrev bufTy : (tb : Table) → Fin (tcTables nBuf tb) → BufTy
  | .hbm, ⟨0, _⟩ => ⟨S2x1024x640, .f32⟩
  | .hbm, ⟨1, _⟩ => ⟨S2x1024x640, .f32⟩
  | .hbm, ⟨2, _⟩ => ⟨S2x1024x640, .f32⟩
  | .hbm, ⟨3, _⟩ => ⟨S2x1024x640, .f32⟩
  | .hbm, ⟨4, _⟩ => ⟨S2x1024x640, .f32⟩
  | .hbm, ⟨5, _⟩ => ⟨S2048x640, .f32⟩
  | .hbm, ⟨6, _⟩ => ⟨S2048x640, .f32⟩
  | .hbm, ⟨7, _⟩ => ⟨S2048x640, .f32⟩
  | .hbm, ⟨8, _⟩ => ⟨S2048x640, .f32⟩
  | .hbm, ⟨9, _⟩ => ⟨S2048x640, .f32⟩
  | .hbm, ⟨10, _⟩ => ⟨S2048x640, .f32⟩
  | .hbm, ⟨11, _⟩ => ⟨S2048x640, .f32⟩
  | .hbm, ⟨12, _⟩ => ⟨S2048x640, .f32⟩
  | .hbm, ⟨13, _⟩ => ⟨S2048x640, .f32⟩
  | .hbm, ⟨14, _⟩ => ⟨S2048x640, .f32⟩
  | .hbm, ⟨15, _⟩ => ⟨S2048x640, .f32⟩
  | .hbm, ⟨16, _⟩ => ⟨S2048x640, .f32⟩
  | .hbm, ⟨17, _⟩ => ⟨S2048x640, .f32⟩
  | .hbm, ⟨18, _⟩ => ⟨S2048x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | .local _ .vmem, ⟨14, _⟩ => ⟨S256x640, .f32⟩
  | .local _ .vmem, ⟨15, _⟩ => ⟨S256x640, .f32⟩
  | .local _ .vmem, ⟨16, _⟩ => ⟨S256x640, .f32⟩
  | .local _ .vmem, ⟨17, _⟩ => ⟨S256x640, .f32⟩
  | .local _ .vmem, ⟨18, _⟩ => ⟨S256x640, .f32⟩
  | .local _ .vmem, ⟨19, _⟩ => ⟨S256x640, .f32⟩
  | .local _ .vmem, ⟨20, _⟩ => ⟨S256x640, .f32⟩
  | .local _ .vmem, ⟨21, _⟩ => ⟨S256x640, .f32⟩
  | .local _ .vmem, ⟨22, _⟩ => ⟨S256x640, .f32⟩
  | .local _ .vmem, ⟨23, _⟩ => ⟨S256x640, .f32⟩
  | .local _ .vmem, ⟨24, _⟩ => ⟨S256x640, .f32⟩
  | .local _ .vmem, ⟨25, _⟩ => ⟨S256x640, .f32⟩
  | .local _ .vmem, ⟨26, _⟩ => ⟨S256x640, .f32⟩
  | .local _ .vmem, ⟨27, _⟩ => ⟨S256x640, .f32⟩
  | _, _ => ⟨S2x1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_2 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_3 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_7 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_8 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_9 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage1_0 : Fin 2 → Memref sig .tc .vmem S256x640 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x640 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x640 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x640 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x640 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x640 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x640 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== AdamHybInIdeal.lean ====
abbrev S2x1024x640 : Shape := ⟨3, ![2, 1024, 640]⟩
abbrev S2048x640 : Shape := ⟨2, ![2048, 640]⟩
abbrev S256x640 : Shape := ⟨2, ![256, 640]⟩

abbrev nBuf : Space → Nat
  | .hbm => 19
  | .vmem => 28
  | .smem => 0
  | _ => 0

abbrev bufTy : (tb : Table) → Fin (tcTables nBuf tb) → BufTy
  | .hbm, ⟨0, _⟩ => ⟨S2x1024x640, .f32⟩
  | .hbm, ⟨1, _⟩ => ⟨S2x1024x640, .f32⟩
  | .hbm, ⟨2, _⟩ => ⟨S2x1024x640, .f32⟩
  | .hbm, ⟨3, _⟩ => ⟨S2x1024x640, .f32⟩
  | .hbm, ⟨4, _⟩ => ⟨S2x1024x640, .f32⟩
  | .hbm, ⟨5, _⟩ => ⟨S2048x640, .f32⟩
  | .hbm, ⟨6, _⟩ => ⟨S2048x640, .f32⟩
  | .hbm, ⟨7, _⟩ => ⟨S2048x640, .f32⟩
  | .hbm, ⟨8, _⟩ => ⟨S2048x640, .f32⟩
  | .hbm, ⟨9, _⟩ => ⟨S2048x640, .f32⟩
  | .hbm, ⟨10, _⟩ => ⟨S2048x640, .f32⟩
  | .hbm, ⟨11, _⟩ => ⟨S2048x640, .f32⟩
  | .hbm, ⟨12, _⟩ => ⟨S2048x640, .f32⟩
  | .hbm, ⟨13, _⟩ => ⟨S2048x640, .f32⟩
  | .hbm, ⟨14, _⟩ => ⟨S2048x640, .f32⟩
  | .hbm, ⟨15, _⟩ => ⟨S2048x640, .f32⟩
  | .hbm, ⟨16, _⟩ => ⟨S2048x640, .f32⟩
  | .hbm, ⟨17, _⟩ => ⟨S2048x640, .f32⟩
  | .hbm, ⟨18, _⟩ => ⟨S2048x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | .local _ .vmem, ⟨14, _⟩ => ⟨S256x640, .f32⟩
  | .local _ .vmem, ⟨15, _⟩ => ⟨S256x640, .f32⟩
  | .local _ .vmem, ⟨16, _⟩ => ⟨S256x640, .f32⟩
  | .local _ .vmem, ⟨17, _⟩ => ⟨S256x640, .f32⟩
  | .local _ .vmem, ⟨18, _⟩ => ⟨S256x640, .f32⟩
  | .local _ .vmem, ⟨19, _⟩ => ⟨S256x640, .f32⟩
  | .local _ .vmem, ⟨20, _⟩ => ⟨S256x640, .f32⟩
  | .local _ .vmem, ⟨21, _⟩ => ⟨S256x640, .f32⟩
  | .local _ .vmem, ⟨22, _⟩ => ⟨S256x640, .f32⟩
  | .local _ .vmem, ⟨23, _⟩ => ⟨S256x640, .f32⟩
  | .local _ .vmem, ⟨24, _⟩ => ⟨S256x640, .f32⟩
  | .local _ .vmem, ⟨25, _⟩ => ⟨S256x640, .f32⟩
  | .local _ .vmem, ⟨26, _⟩ => ⟨S256x640, .f32⟩
  | .local _ .vmem, ⟨27, _⟩ => ⟨S256x640, .f32⟩
  | _, _ => ⟨S2x1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_2 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_3 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_7 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_8 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_9 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage1_0 : Fin 2 → Memref sig .tc .vmem S256x640 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x640 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x640 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x640 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x640 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x640 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x640 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== RefAdamHybInIdeal.lean ====
abbrev S2x1024x640 : Shape := ⟨3, ![2, 1024, 640]⟩
abbrev S1x1024x640 : Shape := ⟨3, ![1, 1024, 640]⟩
abbrev S_ : Shape := ⟨0, ![]⟩
abbrev S2048x640 : Shape := ⟨2, ![2048, 640]⟩

abbrev nBuf : Space → Nat
  | .hbm => 44
  | .vmem => 0
  | .smem => 0
  | _ => 0

abbrev bufTy : (tb : Table) → Fin (tcTables nBuf tb) → BufTy
  | .hbm, ⟨0, _⟩ => ⟨S2x1024x640, .f32⟩
  | .hbm, ⟨1, _⟩ => ⟨S2x1024x640, .f32⟩
  | .hbm, ⟨2, _⟩ => ⟨S2x1024x640, .f32⟩
  | .hbm, ⟨3, _⟩ => ⟨S2x1024x640, .f32⟩
  | .hbm, ⟨4, _⟩ => ⟨S2x1024x640, .f32⟩
  | .hbm, ⟨5, _⟩ => ⟨S1x1024x640, .f32⟩
  | .hbm, ⟨6, _⟩ => ⟨S1x1024x640, .f32⟩
  | .hbm, ⟨7, _⟩ => ⟨S2x1024x640, .f32⟩
  | .hbm, ⟨8, _⟩ => ⟨S_, .f32⟩
  | .hbm, ⟨9, _⟩ => ⟨S2x1024x640, .f32⟩
  | .hbm, ⟨10, _⟩ => ⟨S2x1024x640, .f32⟩
  | .hbm, ⟨11, _⟩ => ⟨S_, .f32⟩
  | .hbm, ⟨12, _⟩ => ⟨S2x1024x640, .f32⟩
  | .hbm, ⟨13, _⟩ => ⟨S2x1024x640, .f32⟩
  | .hbm, ⟨14, _⟩ => ⟨S2x1024x640, .f32⟩
  | .hbm, ⟨15, _⟩ => ⟨S_, .f32⟩
  | .hbm, ⟨16, _⟩ => ⟨S2x1024x640, .f32⟩
  | .hbm, ⟨17, _⟩ => ⟨S2x1024x640, .f32⟩
  | .hbm, ⟨18, _⟩ => ⟨S2x1024x640, .f32⟩
  | .hbm, ⟨19, _⟩ => ⟨S_, .f32⟩
  | .hbm, ⟨20, _⟩ => ⟨S2x1024x640, .f32⟩
  | .hbm, ⟨21, _⟩ => ⟨S2x1024x640, .f32⟩
  | .hbm, ⟨22, _⟩ => ⟨S2x1024x640, .f32⟩
  | .hbm, ⟨23, _⟩ => ⟨S_, .f32⟩
  | .hbm, ⟨24, _⟩ => ⟨S2x1024x640, .f32⟩
  | .hbm, ⟨25, _⟩ => ⟨S2x1024x640, .f32⟩
  | .hbm, ⟨26, _⟩ => ⟨S_, .f32⟩
  | .hbm, ⟨27, _⟩ => ⟨S2x1024x640, .f32⟩
  | .hbm, ⟨28, _⟩ => ⟨S2x1024x640, .f32⟩
  | .hbm, ⟨29, _⟩ => ⟨S2x1024x640, .f32⟩
  | .hbm, ⟨30, _⟩ => ⟨S_, .f32⟩
  | .hbm, ⟨31, _⟩ => ⟨S2x1024x640, .f32⟩
  | .hbm, ⟨32, _⟩ => ⟨S2x1024x640, .f32⟩
  | .hbm, ⟨33, _⟩ => ⟨S2x1024x640, .f32⟩
  | .hbm, ⟨34, _⟩ => ⟨S_, .f32⟩
  | .hbm, ⟨35, _⟩ => ⟨S2x1024x640, .f32⟩
  | .hbm, ⟨36, _⟩ => ⟨S2x1024x640, .f32⟩
  | .hbm, ⟨37, _⟩ => ⟨S2x1024x640, .f32⟩
  | .hbm, ⟨38, _⟩ => ⟨S_, .f32⟩
  | .hbm, ⟨39, _⟩ => ⟨S2x1024x640, .f32⟩
  | .hbm, ⟨40, _⟩ => ⟨S2x1024x640, .f32⟩
  | .hbm, ⟨41, _⟩ => ⟨S2048x640, .f32⟩
  | .hbm, ⟨42, _⟩ => ⟨S2048x640, .f32⟩
  | .hbm, ⟨43, _⟩ => ⟨S2048x640, .f32⟩
  | _, _ => ⟨S2x1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== AdamHybOut.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 19
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_2 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_3 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_7 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_8 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_9 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S256x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S256x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S256x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]
-- ==== RefAdamHybOutIdeal.lean ====
abbrev S2x256x1024 : Shape := ⟨3, ![2, 256, 1024]⟩
abbrev S1x256x1024 : Shape := ⟨3, ![1, 256, 1024]⟩
abbrev S_ : Shape := ⟨0, ![]⟩
abbrev S512x1024 : Shape := ⟨2, ![512, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S1x256x1024, .f32⟩
  | .hbm, ⟨6, _⟩ => ⟨S1x256x1024, .f32⟩
  | .hbm, ⟨7, _⟩ => ⟨S2x256x1024, .f32⟩
  | .hbm, ⟨8, _⟩ => ⟨S_, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S2x256x1024, .f32⟩
  | .hbm, ⟨23, _⟩ => ⟨S_, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S2x256x1024, .f32⟩
  | .hbm, ⟨38, _⟩ => ⟨S_, .f32⟩
  | .hbm, ⟨39, _⟩ => ⟨S2x256x1024, .f32⟩
  | .hbm, ⟨40, _⟩ => ⟨S2x256x1024, .f32⟩
  | .hbm, ⟨41, _⟩ => ⟨S512x1024, .f32⟩
  | .hbm, ⟨42, _⟩ => ⟨S512x1024, .f32⟩
  | .hbm, ⟨43, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Proof.Slice.lean ====
/- One grid point of the kernel as plain functions of the blocks it reads. The body handles 128 of the 512 lanes (two heads of 64) at a time; every
   such stretch computes the same five arrays, which the functions of this module name. -/
module

public import proofs.«01_k».proof.Proof.Gen.KernelIdeal.Value
public import Idealize.ShloMosaic.Lib.ValueIdx
public import Idealize.ShloMosaic.Lib.Pipeline.ValueKit
public import Idealize.ShloMosaic.Lib.Pipeline.ReadBack

@[expose] public section

set_option maxRecDepth 16384

noncomputable section

namespace Cert.KernelIdeal.Slice

open Cert.KernelIdeal Cert.KernelIdeal.Gen Idealize.ShloMosaic Idealize.ShloMosaic.TcCoe Idealize.SL.Sem

variable {F : FTy → Type} [FloatOps F] [Named F]

/-- The lanes of the first head of a stretch. -/
def lanes0 : IVec S128x128 1 := k0_pay21 k0_pay19 k0_pay20
/-- The lanes of the second head of a stretch. -/
def lanes1 : IVec S128x128 1 := k0_pay22 (iota .tc S128x128 32 [1] iota_S128x128_d1_w32)
/-- Which keys of the block before a query sees, at grid coordinate `a`. -/
def seesPrev (a : BitVec 32) : IVec S128x128 1 := k0_pay17 a
/-- Which keys of its own block a query sees. -/
def seesCur : IVec S128x128 1 := k0_pay18

def zb : FVec F S128x128 .bf16 := broadcast S128x128 (Scalar.ofBits .bf16 0x0000#16)
def zf : FVec F S128x128 .f32 := broadcast S128x128 (Scalar.ofBits .f32 0x00000000#32)
def same {e : EltTy} (x : (⟨S128x128, e⟩ : BufTy).Contents (Elt F)) : (⟨S128x128, e⟩ : BufTy).Contents (Elt F) :=
  shapeCast S128x128 x shapeCasts_S128x128_S128x128

/-- The queries, zero off one head's lanes. -/
def headQ (h : IVec S128x128 1) (q : FVec F S128x128 .bf16) : FVec F S128x128 .bf16 := select h (same (F := F) (e := .bf16) q) zb
/-- The output's cotangent, zero off one head's lanes. -/
def headDo (h : IVec S128x128 1) (g : FVec F S128x128 .bf16) : FVec F S128x128 .bf16 :=
  truncf .bf16 (select h (extf .f32 (same (F := F) (e := .bf16) g) bitsLt_bf16_f32) zf) bitsLt_bf16_f32
/-- Each row's sum over one head's lanes. -/
def headSum (h : IVec S128x128 1) (x : FVec F S128x128 .f32) : FVec F S128x1 .f32 :=
  shapeCast S128x1 (multiReduction .add [1] S128 (select h x zf) 0x00000000#32 reduces_S128x128_S128 (.inl rfl) rfl) shapeCasts_S128_S128x1
def headLse (h : IVec S128x128 1) (l : FVec F S128x128 .f32) : FVec F S128x1 .f32 :=
  mulf (headSum h (same (F := F) (e := .f32) l)) (broadcast S128x1 (Scalar.ofBits .f32 0x3C800000#32))
def headDelta (h : IVec S128x128 1) (o g : FVec F S128x128 .bf16) : FVec F S128x1 .f32 :=
  headSum h (mulf (extf .f32 (same (F := F) (e := .bf16) g) bitsLt_bf16_f32) (extf .f32 (same (F := F) (e := .bf16) o) bitsLt_bf16_f32))
def headDl (h : IVec S128x128 1) (gl : FVec F S128x128 .f32) : FVec F S128x1 .f32 := headSum h (same (F := F) (e := .f32) gl)

/-- The attention's weights of one head against 128 keys. -/
def prob (h ok : IVec S128x128 1) (q k : FVec F S128x128 .bf16) (l : FVec F S128x128 .f32) : FVec F S128x128 .f32 :=
  exp (subf (select ok (matmul dot_S128x128_S128x128_S128x128_1_1_0_0_n_n none (headQ h q) (same (F := F) (e := .bf16) k) (constant S128x128 .f32 0x00000000#32))
    (broadcast S128x128 (Named.named κ "mask" 0xF149F2CA#32))) (broadcastTo S128x128 (headLse h l) broadcasts_S128x1_S128x128))
/-- The gradient of the scores of one head against 128 keys. -/
def dscore (h ok : IVec S128x128 1) (q k v o g : FVec F S128x128 .bf16) (l gl : FVec F S128x128 .f32) : FVec F S128x128 .bf16 :=
  truncf .bf16 (mulf (prob h ok q k l) (addf (subf
    (matmul dot_S128x128_S128x128_S128x128_1_1_0_0_n_n none (headDo h g) (same (F := F) (e := .bf16) v) (constant S128x128 .f32 0x00000000#32))
    (broadcastTo S128x128 (headDelta h o g) broadcasts_S128x1_S128x128)) (broadcastTo S128x128 (headDl h gl) broadcasts_S128x1_S128x128))) bitsLt_bf16_f32

def headDq (h okp okc : IVec S128x128 1) (q kp kc vp vc o g : FVec F S128x128 .bf16) (l gl : FVec F S128x128 .f32) : FVec F S128x128 .f32 :=
  select h (addf
    (matmul dot_S128x128_S128x128_S128x128_1_0_0_1_n_n none (dscore h okp q kp vp o g l gl) (same (F := F) (e := .bf16) kp) (constant S128x128 .f32 0x00000000#32))
    (matmul dot_S128x128_S128x128_S128x128_1_0_0_1_n_n none (dscore h okc q kc vc o g l gl) (same (F := F) (e := .bf16) kc) (constant S128x128 .f32 0x00000000#32))) zf
def headDk (h ok : IVec S128x128 1) (q k v o g : FVec F S128x128 .bf16) (l gl : FVec F S128x128 .f32) : FVec F S128x128 .f32 :=
  matmul dot_S128x128_S128x128_S128x128_0_0_1_1_n_n none (dscore h ok q k v o g l gl) (headQ h q) (constant S128x128 .f32 0x00000000#32)
def headDv (h ok : IVec S128x128 1) (q k g : FVec F S128x128 .bf16) (l : FVec F S128x128 .f32) : FVec F S128x128 .f32 :=
  matmul dot_S128x128_S128x128_S128x128_0_0_1_1_n_n none (truncf .bf16 (prob h ok q k l) bitsLt_bf16_f32) (headDo h g) (constant S128x128 .f32 0x00000000#32)

/-- A stretch's gradient of the queries. -/
def sdq (okp okc : IVec S128x128 1) (q kp kc vp vc o g : FVec F S128x128 .bf16) (l gl : FVec F S128x128 .f32) : FVec F S128x128 .f32 :=
  same (F := F) (e := .f32) (addf (addf zf (headDq lanes0 okp okc q kp kc vp vc o g l gl)) (headDq lanes1 okp okc q kp kc vp vc o g l gl))
/-- A stretch's part of the gradient of 128 keys. -/
def sdk (ok : IVec S128x128 1) (q k v o g : FVec F S128x128 .bf16) (l gl : FVec F S128x128 .f32) : FVec F S128x128 .f32 :=
  same (F := F) (e := .f32) (addf (addf zf (headDk lanes0 ok q k v o g l gl)) (headDk lanes1 ok q k v o g l gl))
/-- A stretch's part of the gradient of 128 values. -/
def sdv (ok : IVec S128x128 1) (q k g : FVec F S128x128 .bf16) (l : FVec F S128x128 .f32) : FVec F S128x128 .f32 :=
  same (F := F) (e := .f32) (addf (addf zf (headDv lanes0 ok q k g l)) (headDv lanes1 ok q k g l))

/-- Stretch `k` of 128 lanes of a block. -/
def stretch {e : EltTy} (k : Fin 4) (x : (⟨S128x512, e⟩ : BufTy).Contents (Elt F)) : (⟨S128x128, e⟩ : BufTy).Contents (Elt F) :=
  match k with
  | 0 => View.ld x (Rect.unit ![0, 0] ![128, 128] inb_S128x512_S128x128_0_0)
  | 1 => View.ld x (Rect.unit ![0, 128] ![128, 128] inb_S128x512_S128x128_0_128)
  | 2 => View.ld x (Rect.unit ![0, 256] ![128, 128] inb_S128x512_S128x128_0_256)
  | 3 => View.ld x (Rect.unit ![0, 384] ![128, 128] inb_S128x512_S128x128_0_384)

/-- Four stretches side by side. -/
def beside (p : Fin 4 → FVec F S128x128 .f32) : FVec F S128x512 .f32 := fun y =>
  p ⟨(y 1).val / 128, by have h : (y 1).val < 512 := (y 1).isLt; omega⟩
    (ix2 (⟨(y 0).val, (y 0).isLt⟩ : Fin 128) (⟨(y 1).val % 128, by omega⟩ : Fin 128))

theorem stretch_apply {e : EltTy} (k : Fin 4) (x : (⟨S128x512, e⟩ : BufTy).Contents (Elt F)) (i j : Fin 128) :
    stretch k x (ix2 i j) = x (ix2 (⟨i.val, i.isLt⟩ : Fin 128) (⟨128 * k.val + j.val, by omega⟩ : Fin 512)) := by
  fin_cases k <;>
  · show x _ = x _
    congr 1
    funext a
    fin_cases a <;> apply Fin.ext
    · show 0 + 1 * i.val = i.val
      omega
    · simp [Rect.unit, ix2, LoadRect.idx]

theorem fin_full {S : Shape} (y : S.Idx) (a : Fin S.rank) (n : ℕ) (h : S.size a = n) : (y a).val < n := h ▸ (y a).isLt

/-- A block read back from four stores of 128 lanes each. -/
theorem readCov_beside {sig : RefSig} {κ : Kind} {sp : Space} (v : View sig κ sp S128x512 .f32) (p0 p1 p2 p3 : FVec F S128x128 .f32) (i0 i1 i2 i3 i) :
    View.readCov (Val := Elt F) v [⟨Rect.unit (s := S128x512) ![0, 384] ![128, 128] i3, p3⟩, ⟨Rect.unit ![0, 256] ![128, 128] i2, p2⟩,
      ⟨Rect.unit ![0, 128] ![128, 128] i1, p1⟩, ⟨Rect.unit ![0, 0] ![128, 128] i0, p0⟩] (Rect.unit ![0, 0] ![128, 512] i).toLoadRect
      = beside ![p0, p1, p2, p3] := by
  rw [View.readCov_eq_canon']
  refine funext fun (y : S128x512.Idx) => ?_
  have hy : (Rect.unit (s := S128x512) ![0, 0] ![128, 512] i).toLoadRect.idx y = y := by
    funext a
    fin_cases a <;> apply Fin.ext
    · show 0 + 1 * (y 0).val = (y 0).val
      omega
    · show 0 + 1 * (y 1).val = (y 1).val
      omega
  rw [hy]
  have hb : ∀ (k : Fin 4) (x : S128x128.Idx), (y 0).val = (x 0).val → (y 1).val = 128 * k.val + (x 1).val →
      (![p0, p1, p2, p3] : Fin 4 → FVec F S128x128 .f32) k x = beside ![p0, p1, p2, p3] y := by
    intro k x h0 h1
    have hx1 : (x 1).val < 128 := (x 1).isLt
    unfold beside
    have e1 : (⟨(y 1).val / 128, by have h : (y 1).val < 512 := (y 1).isLt; omega⟩ : Fin 4) = k := Fin.ext (by show (y 1).val / 128 = k.val; omega)
    have e2 : (ix2 (⟨(y 0).val, (y 0).isLt⟩ : Fin 128) (⟨(y 1).val % 128, by omega⟩ : Fin 128)) = x := by
      funext a
      fin_cases a <;> apply Fin.ext
      · exact h0
      · show (y 1).val % 128 = (x 1).val
        omega
    rw [e1, e2]
  have hcover : ∃ p ∈ ([⟨Rect.unit (s := S128x512) ![0, 384] ![128, 128] i3, p3⟩, ⟨Rect.unit ![0, 256] ![128, 128] i2, p2⟩,
      ⟨Rect.unit ![0, 128] ![128, 128] i1, p1⟩, ⟨Rect.unit ![0, 0] ![128, 128] i0, p0⟩] : List (View.Piece (Elt F) S128x512 .f32)), y ∈ p.1.set := by
    have h0 : (y 0).val < 128 := (y 0).isLt
    have h1 : (y 1).val < 512 := (y 1).isLt
    simp only [List.mem_cons, List.not_mem_nil, or_false, exists_eq_or_imp, exists_eq_left, Rect.mem_set_unit, Fin.forall_fin_two]
    simp
    omega
  canon_tiles x h using hcover
  · exact hb 3 x (by omega) (by simp; omega)
  · exact hb 2 x (by omega) (by simp; omega)
  · exact hb 1 x (by omega) (by simp; omega)
  · exact hb 0 x (by omega) (by simp; omega)

end Cert.KernelIdeal.Slice
end
-- ==== Proof.Point.lean ====
/- What a grid point leaves in the three carried arrays and in the result's block, as functions of the blocks it reads and of what the point before
   left. -/
module

public import proofs.«01_k».proof.Proof.Slice

@[expose] public section

set_option maxRecDepth 16384

noncomputable section

namespace Cert.KernelIdeal.Slice

open Cert.KernelIdeal Cert.KernelIdeal.Gen Idealize.ShloMosaic Idealize.ShloMosaic.TcCoe Idealize.SL.Sem

variable {F : FTy → Type} [FloatOps F] [Named F]

/-- Three blocks of 512 lanes side by side. -/
def three (p : Fin 3 → FVec F S128x512 .bf16) : FVec F S128x1536 .bf16 := fun y =>
  p ⟨(y 1).val / 512, by have h : (y 1).val < 1536 := (y 1).isLt; omega⟩
    (ix2 (⟨(y 0).val, (y 0).isLt⟩ : Fin 128) (⟨(y 1).val % 512, by omega⟩ : Fin 512))

/-- A block written by three stores of 512 lanes each. -/
theorem canon_three (p0 p1 p2 : FVec F S128x512 .bf16) (i0 i1 i2) :
    View.canon (Val := Elt F) (e := .bf16) [⟨Rect.unit (s := S128x1536) ![0, 1024] ![128, 512] i2, p2⟩, ⟨Rect.unit ![0, 512] ![128, 512] i1, p1⟩,
      ⟨Rect.unit ![0, 0] ![128, 512] i0, p0⟩] = three ![p0, p1, p2] := by
  refine funext fun (y : S128x1536.Idx) => ?_
  have hb : ∀ (k : Fin 3) (x : S128x512.Idx), (y 0).val = (x 0).val → (y 1).val = 512 * k.val + (x 1).val →
      (![p0, p1, p2] : Fin 3 → FVec F S128x512 .bf16) k x = three ![p0, p1, p2] y := by
    intro k x h0 h1
    have hx1 : (x 1).val < 512 := (x 1).isLt
    unfold three
    have e1 : (⟨(y 1).val / 512, by have h : (y 1).val < 1536 := (y 1).isLt; omega⟩ : Fin 3) = k := Fin.ext (by show (y 1).val / 512 = k.val; omega)
    have e2 : (ix2 (⟨(y 0).val, (y 0).isLt⟩ : Fin 128) (⟨(y 1).val % 512, by omega⟩ : Fin 512)) = x := by
      funext a
      fin_cases a <;> apply Fin.ext
      · exact h0
      · show (y 1).val % 512 = (x 1).val
        omega
    rw [e1, e2]
  have hcover : ∃ p ∈ ([⟨Rect.unit (s := S128x1536) ![0, 1024] ![128, 512] i2, p2⟩, ⟨Rect.unit ![0, 512] ![128, 512] i1, p1⟩,
      ⟨Rect.unit ![0, 0] ![128, 512] i0, p0⟩] : List (View.Piece (Elt F) S128x1536 .bf16)), y ∈ p.1.set := by
    have h0 : (y 0).val < 128 := (y 0).isLt
    have h1 : (y 1).val < 1536 := (y 1).isLt
    simp only [List.mem_cons, List.not_mem_nil, or_false, exists_eq_or_imp, exists_eq_left, Rect.mem_set_unit, Fin.forall_fin_two]
    simp
    omega
  canon_tiles x h using hcover
  · exact hb 2 x (by omega) (by simp; omega)
  · exact hb 1 x (by omega) (by simp; omega)
  · exact hb 0 x (by omega) (by simp; omega)

variable (m : (ℓ : Loc nD τ sig) → Buf (Elt F) ℓ)

/-- The coordinate of a grid point, as the body reads it. -/
abbrev gc (t : Fin cfg0.N) : BitVec 32 := BitVec.ofNat 32 ↑(grid0.coords t 0)

/-- A point's gradient of its queries. -/
def curQ (c : Dev nD) (t : Fin cfg0.N) : FVec F S128x512 .f32 := beside fun k =>
  sdq (seesPrev (gc t)) seesCur (stretch k (iblk m c 0 t)) (stretch k (iblk m c 1 t)) (stretch k (iblk m c 2 t)) (stretch k (iblk m c 3 t))
    (stretch k (iblk m c 4 t)) (stretch k (iblk m c 5 t)) (stretch k (iblk m c 7 t)) (stretch k (iblk m c 6 t)) (stretch k (iblk m c 8 t))
/-- A point's part of the gradient of the keys of the block before. -/
def curKp (c : Dev nD) (t : Fin cfg0.N) : FVec F S128x512 .f32 := beside fun k =>
  sdk (seesPrev (gc t)) (stretch k (iblk m c 0 t)) (stretch k (iblk m c 1 t)) (stretch k (iblk m c 3 t))
    (stretch k (iblk m c 5 t)) (stretch k (iblk m c 7 t)) (stretch k (iblk m c 6 t)) (stretch k (iblk m c 8 t))
/-- A point's part of the gradient of the keys of its own block. -/
def curKc (c : Dev nD) (t : Fin cfg0.N) : FVec F S128x512 .f32 := beside fun k =>
  sdk seesCur (stretch k (iblk m c 0 t)) (stretch k (iblk m c 2 t)) (stretch k (iblk m c 4 t))
    (stretch k (iblk m c 5 t)) (stretch k (iblk m c 7 t)) (stretch k (iblk m c 6 t)) (stretch k (iblk m c 8 t))
/-- A point's part of the gradient of the values of the block before. -/
def curVp (c : Dev nD) (t : Fin cfg0.N) : FVec F S128x512 .f32 := beside fun k =>
  sdv (seesPrev (gc t)) (stretch k (iblk m c 0 t)) (stretch k (iblk m c 1 t)) (stretch k (iblk m c 7 t)) (stretch k (iblk m c 6 t))
/-- A point's part of the gradient of the values of its own block. -/
def curVc (c : Dev nD) (t : Fin cfg0.N) : FVec F S128x512 .f32 := beside fun k =>
  sdv seesCur (stretch k (iblk m c 0 t)) (stretch k (iblk m c 2 t)) (stretch k (iblk m c 7 t)) (stretch k (iblk m c 6 t))

def whole (x : FVec F S128x512 .f32) : FVec F S128x512 .f32 := shapeCast S128x512 x shapeCasts_S128x512_S128x512
def zeros : FVec F S128x512 .f32 := broadcast S128x512 (Scalar.ofBits .f32 0x00000000#32)
/-- The result's block of a point: what the point before carried, completed by this point's parts for the keys and values of the block before. -/
def outBlock (q k v kp vp : FVec F S128x512 .f32) : FVec F S128x1536 .bf16 :=
  three ![truncf .bf16 q bitsLt_bf16_f32, truncf .bf16 (addf k kp) bitsLt_bf16_f32, truncf .bf16 (addf v vp) bitsLt_bf16_f32]

set_option maxHeartbeats 1000000 in
theorem carq_A (c : Dev nD) (t : Fin cfg0.N) (h0 : t.val % 33 = 0) (h1 : ¬t.val % 33 = 32) (h2 : t.val < 32) (h3 : t.val < 32) :
    (outsAt0 m c t.val t.isLt).2.1 = whole (curQ m c t) := by
  rw [outsAt0_A m c t h0 h1 h2 h3]
  dsimp only
  frame_open
  simp (disch := decide) only [↓ View.readCov_skip, ↓ View.readCov_cons_toLoadRect, ↓ View.readCov_fill]
  frame_out
  rw [readCov_beside]
  show whole _ = whole _
  refine congrArg whole (congrArg beside (funext fun k => ?_))
  fin_cases k <;> rfl

set_option maxHeartbeats 1000000 in
theorem cark_A (c : Dev nD) (t : Fin cfg0.N) (h0 : t.val % 33 = 0) (h1 : ¬t.val % 33 = 32) (h2 : t.val < 32) (h3 : t.val < 32) :
    (outsAt0 m c t.val t.isLt).2.2.1 = whole (curKc m c t) := by
  rw [outsAt0_A m c t h0 h1 h2 h3]
  dsimp only
  frame_open
  simp (disch := decide) only [↓ View.readCov_skip, ↓ View.readCov_cons_toLoadRect, ↓ View.readCov_fill]
  frame_out
  rw [readCov_beside]
  show whole _ = whole _
  refine congrArg whole (congrArg beside (funext fun k => ?_))
  fin_cases k <;> rfl

set_option maxHeartbeats 1000000 in
theorem carv_A (c : Dev nD) (t : Fin cfg0.N) (h0 : t.val % 33 = 0) (h1 : ¬t.val % 33 = 32) (h2 : t.val < 32) (h3 : t.val < 32) :
    (outsAt0 m c t.val t.isLt).2.2.2 = whole (curVc m c t) := by
  rw [outsAt0_A m c t h0 h1 h2 h3]
  dsimp only
  frame_open
  simp (disch := decide) only [↓ View.readCov_skip, ↓ View.readCov_cons_toLoadRect, ↓ View.readCov_fill]
  frame_out
  rw [readCov_beside]
  show whole _ = whole _
  refine congrArg whole (congrArg beside (funext fun k => ?_))
  fin_cases k <;> rfl

set_option maxHeartbeats 1000000 in
theorem carq_B (c : Dev nD) (t : Fin cfg0.N) (h0 : ¬t.val % 33 = 0) (h1 : ¬t.val % 33 = 32) (h2 : t.val < 32) (h3 : t.val < 32) :
    (outsAt0 m c t.val t.isLt).2.1 = whole (curQ m c t) := by
  rw [outsAt0_B m c t h0 h1 h2 h3]
  dsimp only
  frame_open
  simp (disch := decide) only [↓ View.readCov_skip, ↓ View.readCov_cons_toLoadRect, ↓ View.readCov_fill]
  frame_out
  rw [readCov_beside]
  show whole _ = whole _
  refine congrArg whole (congrArg beside (funext fun k => ?_))
  fin_cases k <;> rfl

set_option maxHeartbeats 1000000 in
theorem cark_B (c : Dev nD) (t : Fin cfg0.N) (h0 : ¬t.val % 33 = 0) (h1 : ¬t.val % 33 = 32) (h2 : t.val < 32) (h3 : t.val < 32) :
    (outsAt0 m c t.val t.isLt).2.2.1 = whole (curKc m c t) := by
  rw [outsAt0_B m c t h0 h1 h2 h3]
  dsimp only
  frame_open
  simp (disch := decide) only [↓ View.readCov_skip, ↓ View.readCov_cons_toLoadRect, ↓ View.readCov_fill]
  frame_out
  rw [readCov_beside]
  show whole _ = whole _
  refine congrArg whole (congrArg beside (funext fun k => ?_))
  fin_cases k <;> rfl

set_option maxHeartbeats 1000000 in
theorem carv_B (c : Dev nD) (t : Fin cfg0.N) (h0 : ¬t.val % 33 = 0) (h1 : ¬t.val % 33 = 32) (h2 : t.val < 32) (h3 : t.val < 32) :
    (outsAt0 m c t.val t.isLt).2.2.2 = whole (curVc m c t) := by
  rw [outsAt0_B m c t h0 h1 h2 h3]
  dsimp only
  frame_open
  simp (disch := decide) only [↓ View.readCov_skip, ↓ View.readCov_cons_toLoadRect, ↓ View.readCov_fill]
  frame_out
  rw [readCov_beside]
  show whole _ = whole _
  refine congrArg whole (congrArg beside (funext fun k => ?_))
  fin_cases k <;> rfl

set_option maxHeartbeats 2000000 in
theorem out_B (c : Dev nD) (t : Fin cfg0.N) (h0 : ¬t.val % 33 = 0) (h1 : ¬t.val % 33 = 32) (h2 : t.val < 32) (h3 : t.val < 32) :
    (outsAt0 m c t.val t.isLt).1 = outBlock (outsAt0 m c (t.val - 1) (by omega)).2.1 (outsAt0 m c (t.val - 1) (by omega)).2.2.1
      (outsAt0 m c (t.val - 1) (by omega)).2.2.2 (curKp m c t) (curVp m c t) := by
  rw [outsAt0_B m c t h0 h1 h2 h3]
  dsimp only
  frame_open
  simp (disch := decide) only [↓ View.readCov_skip, ↓ View.readCov_cons_toLoadRect, ↓ View.readCov_fill]
  frame_out
  simp only [read_unread_whole]
  rw [readCov_beside, readCov_beside, canon_three]
  unfold outBlock
  refine congrArg three ?_
  have eb : ∀ (a b : Fin 4 → FVec F S128x128 .f32), a = b → beside a = beside b := fun _ _ h => congrArg beside h
  refine congr (congrArg _ ?_) (congr (congrArg _ ?_) (congr (congrArg _ ?_) rfl))
  · rfl
  · show truncf .bf16 (addf _ _) bitsLt_bf16_f32 = truncf .bf16 (addf _ _) bitsLt_bf16_f32
    refine congrArg (fun z => truncf .bf16 (addf _ z) bitsLt_bf16_f32) (eb _ _ (funext fun k => ?_))
    fin_cases k <;> rfl
  · show truncf .bf16 (addf _ _) bitsLt_bf16_f32 = truncf .bf16 (addf _ _) bitsLt_bf16_f32
    refine congrArg (fun z => truncf .bf16 (addf _ z) bitsLt_bf16_f32) (eb _ _ (funext fun k => ?_))
    fin_cases k <;> rfl

theorem out_C (c : Dev nD) (t : Fin cfg0.N) (h0 : ¬t.val % 33 = 0) (h1 : t.val % 33 = 32) (h2 : ¬t.val < 32) (h3 : ¬t.val < 32) :
    (outsAt0 m c t.val t.isLt).1 = outBlock (outsAt0 m c (t.val - 1) (by omega)).2.1 (outsAt0 m c (t.val - 1) (by omega)).2.2.1
      (outsAt0 m c (t.val - 1) (by omega)).2.2.2 zeros zeros := by
  rw [outsAt0_C m c t h0 h1 h2 h3]
  dsimp only
  frame_open
  simp (disch := decide) only [↓ View.readCov_skip, ↓ View.readCov_cons_toLoadRect, ↓ View.readCov_fill]
  frame_out
  simp only [read_unread_whole]
  rw [canon_three]
  rfl

end Cert.KernelIdeal.Slice
end
-- ==== Proof.Host.lean ====
/- What the kernel's host lines leave in the arrays its region reads: the packed projections, the two cotangents, and the forward output and
   log-sum-exp, the last two being the ones the reference computes from the same projections. -/
module

public import proofs.«01_k».proof.Proof.Gen.KernelIdeal.Value
public import proofs.«01_k».proof.Proof.Gen.ReferenceIdeal.Read
public import Idealize.ShloMosaic.Lib.Pipeline.ValueKit
public import Idealize.ShloMosaic.Lib.Claim

@[expose] public section

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo

variable {F : FTy → Type} [FloatOps F] [Named F]

/-- After the first stretch of host lines the scores are the reference's. -/
theorem first_scores (U : Valuation τ sig (Elt F)) :
    after hostOps0 U (Proc.devRef .tc main_v23) = Cert.ReferenceIdeal.Read.val_main_v25 (F := F) (U (Proc.devRef .tc main_arg0)) := by
  simp only [hostOps0]
  after_results_simp
  rfl

/-- After the first stretch of host lines the mask is the reference's. -/
theorem first_mask (U : Valuation τ sig (Elt F)) :
    after hostOps0 U (Proc.devRef .tc main_v52) = Cert.ReferenceIdeal.Read.val_main_v54 (F := F) := by
  simp only [hostOps0]
  after_results_simp
  rfl

/-- After the first stretch of host lines the values are the reference's. -/
theorem first_values (U : Valuation τ sig (Elt F)) :
    after hostOps0 U (Proc.devRef .tc main_v22) = Cert.ReferenceIdeal.Read.val_main_v24 (F := F) (U (Proc.devRef .tc main_arg0)) := by
  simp only [hostOps0]
  after_results_simp
  rfl

/-- The constant under the mask. -/
theorem first_cst (U : Valuation τ sig (Elt F)) :
    after hostOps0 U (Proc.devRef .tc main_cst_5) = constant S_ .f32 0xFF800000#32 := by
  simp only [hostOps0]
  after_results_simp

theorem first_arg0 (U : Valuation τ sig (Elt F)) : after hostOps0 U (Proc.devRef .tc main_arg0) = U (Proc.devRef .tc main_arg0) := by
  simp only [hostOps0]
  after_results_simp
theorem first_arg1 (U : Valuation τ sig (Elt F)) : after hostOps0 U (Proc.devRef .tc main_arg1) = U (Proc.devRef .tc main_arg1) := by
  simp only [hostOps0]
  after_results_simp
theorem first_arg2 (U : Valuation τ sig (Elt F)) : after hostOps0 U (Proc.devRef .tc main_arg2) = U (Proc.devRef .tc main_arg2) := by
  simp only [hostOps0]
  after_results_simp

/-- The call in the host lines puts minus infinity where the mask is off. -/
theorem second_scores (U : Valuation τ sig (Elt F)) :
    after hostOps0_1 U (Proc.devRef .tc main_v53) = select
      (broadcastInDim S4x8x8x128x256 ![1, 2, 3, 4] bcast_S8x1x128x256_S4x8x8x128x256_1_2_3_4 (U (Proc.devRef .tc main_v52)))
      (U (Proc.devRef .tc main_v23)) (broadcastInDim S4x8x8x128x256 ![] bcast_S_S4x8x8x128x256 (U (Proc.devRef .tc main_cst_5))) := by
  simp only [hostOps0_1]
  after_results_simp
  rfl
theorem second_values (U : Valuation τ sig (Elt F)) : after hostOps0_1 U (Proc.devRef .tc main_v22) = U (Proc.devRef .tc main_v22) := by
  simp only [hostOps0_1]
  after_results_simp
theorem second_arg0 (U : Valuation τ sig (Elt F)) : after hostOps0_1 U (Proc.devRef .tc main_arg0) = U (Proc.devRef .tc main_arg0) := by
  simp only [hostOps0_1]
  after_results_simp
theorem second_arg1 (U : Valuation τ sig (Elt F)) : after hostOps0_1 U (Proc.devRef .tc main_arg1) = U (Proc.devRef .tc main_arg1) := by
  simp only [hostOps0_1]
  after_results_simp
theorem second_arg2 (U : Valuation τ sig (Elt F)) : after hostOps0_1 U (Proc.devRef .tc main_arg2) = U (Proc.devRef .tc main_arg2) := by
  simp only [hostOps0_1]
  after_results_simp

/-- The last stretch of host lines, given the masked scores and the values: the forward output, rounded to bf16. -/
theorem third_o (U : Valuation τ sig (Elt F)) (x : (⟨S4096x1536, .bf16⟩ : BufTy).Contents (Elt F))
    (hs : U (Proc.devRef .tc main_v53) = Cert.ReferenceIdeal.Read.val_main_v55_0 x)
    (hv : U (Proc.devRef .tc main_v22) = Cert.ReferenceIdeal.Read.val_main_v24 x) :
    after hostOps0_2 U (Proc.devRef .tc main_v81) = shapeCast S1024x2048
      (truncf .bf16 (Cert.ReferenceIdeal.Read.val_main_v85 x) bitsLt_bf16_f32) shapeCasts_S4096x512_S1024x2048 := by
  simp only [hostOps0_2]
  after_results_simp
  rw [hs, hv]
  rfl

/-- The last stretch of host lines, given the masked scores: the log-sum-exp, once for every lane of its head. -/
theorem third_lse (U : Valuation τ sig (Elt F)) (x : (⟨S4096x1536, .bf16⟩ : BufTy).Contents (Elt F))
    (hs : U (Proc.devRef .tc main_v53) = Cert.ReferenceIdeal.Read.val_main_v55_0 x) :
    after hostOps0_2 U (Proc.devRef .tc main_v82) = shapeCast S1024x2048
      (Cert.ReferenceIdeal.Read.val_main_v88 x) shapeCasts_S4096x512_S1024x2048 := by
  simp only [hostOps0_2]
  after_results_simp
  rw [hs]
  rfl
theorem third_arg0 (U : Valuation τ sig (Elt F)) : after hostOps0_2 U (Proc.devRef .tc main_v80) =
    shapeCast S1024x6144 (U (Proc.devRef .tc main_arg0)) shapeCasts_S4096x1536_S1024x6144 := by
  simp only [hostOps0_2]
  after_results_simp
  rfl
theorem third_arg1 (U : Valuation τ sig (Elt F)) : after hostOps0_2 U (Proc.devRef .tc main_v83) =
    shapeCast S1024x2048 (U (Proc.devRef .tc main_arg1)) shapeCasts_S4096x512_S1024x2048 := by
  simp only [hostOps0_2]
  after_results_simp
  rfl
theorem third_arg2 (U : Valuation τ sig (Elt F)) : after hostOps0_2 U (Proc.devRef .tc main_v84) =
    shapeCast S1024x2048 (U (Proc.devRef .tc main_arg2)) shapeCasts_S4096x512_S1024x2048 := by
  simp only [hostOps0_2]
  after_results_simp
  rfl

variable (m : (ℓ : Loc nD τ sig) → Buf (Elt F) ℓ) (c : Dev nD)

/-- The three arguments a device starts with, at their own shapes. -/
abbrev X0 : (⟨S4096x1536, .bf16⟩ : BufTy).Contents (Elt F) := m (c, Proc.devRef .tc main_arg0)
abbrev X1 : (⟨S4096x512, .bf16⟩ : BufTy).Contents (Elt F) := m (c, Proc.devRef .tc main_arg1)
abbrev X2 : (⟨S4096x512, .f32⟩ : BufTy).Contents (Elt F) := m (c, Proc.devRef .tc main_arg2)

theorem V_split (b : Ref sig .tc) : V m c b =
    after hostOps0_2 (after hostOps0_1 (after hostOps0 (fun b => m (c, b)))) (Proc.devRef .tc b) := by
  show after ([hostOps0, hostOps0_1, hostOps0_2] : List (List (HloOp τ sig (Elt F)))).flatten _ (Proc.devRef .tc b) = _
  rw [show ([hostOps0, hostOps0_1, hostOps0_2] : List (List (HloOp τ sig (Elt F)))).flatten
    = hostOps0 ++ (hostOps0_1 ++ hostOps0_2) from by simp only [List.flatten_cons, List.flatten_nil, List.append_nil], after_append, after_append]

theorem scores_eq : after hostOps0_1 (after hostOps0 (fun b => m (c, b))) (Proc.devRef .tc main_v53) =
    Cert.ReferenceIdeal.Read.val_main_v55_0 (X0 m c) := by
  rw [second_scores, first_mask, first_scores, first_cst]
  rfl

theorem values_eq : after hostOps0_1 (after hostOps0 (fun b => m (c, b))) (Proc.devRef .tc main_v22) =
    Cert.ReferenceIdeal.Read.val_main_v24 (X0 m c) := by
  rw [second_values, first_values]

/-- The array of window 0 to 4: the packed projections. -/
theorem V80 : V m c main_v80 = shapeCast S1024x6144 (X0 m c) shapeCasts_S4096x1536_S1024x6144 := by
  rw [V_split, third_arg0, second_arg0, first_arg0]
/-- The array of window 5: the forward output. -/
theorem V81 : V m c main_v81 = shapeCast S1024x2048
    (truncf .bf16 (Cert.ReferenceIdeal.Read.val_main_v85 (X0 m c)) bitsLt_bf16_f32) shapeCasts_S4096x512_S1024x2048 := by
  rw [V_split, third_o _ (X0 m c) (scores_eq m c) (values_eq m c)]
/-- The array of window 6: the log-sum-exp. -/
theorem V82 : V m c main_v82 = shapeCast S1024x2048
    (Cert.ReferenceIdeal.Read.val_main_v88 (X0 m c)) shapeCasts_S4096x512_S1024x2048 := by
  rw [V_split, third_lse _ (X0 m c) (scores_eq m c)]
/-- The array of window 7: the cotangent of the output. -/
theorem V83 : V m c main_v83 = shapeCast S1024x2048 (X1 m c) shapeCasts_S4096x512_S1024x2048 := by
  rw [V_split, third_arg1, second_arg1, first_arg1]
/-- The array of window 8: the cotangent of the log-sum-exp. -/
theorem V84 : V m c main_v84 = shapeCast S1024x2048 (X2 m c) shapeCasts_S4096x512_S1024x2048 := by
  rw [V_split, third_arg2, second_arg2, first_arg2]

end Cert.KernelIdeal.Host
end
-- ==== Proof.Masks.lean ====
/- The masks of a grid point: which lanes a head owns, and which keys a query sees. -/
module

public import proofs.«01_k».proof.Proof.Slice
public import Idealize.ShloMosaic.Lib.Pointwise

@[expose] public section

set_option maxRecDepth 16384

noncomputable section

namespace Cert.KernelIdeal.Slice

open Cert.KernelIdeal Cert.KernelIdeal.Gen Idealize.ShloMosaic Idealize.ShloMosaic.TcCoe Idealize.SL.Sem

theorem lanes0_apply (i l : Fin 128) : lanes0 (ix2 i l) = if l.val / 64 = 0 then 1#1 else 0#1 := by
  rw [show lanes0 (ix2 i l) = lanes0 (ix2 0 l) from rfl]
  revert l
  decide +kernel

theorem lanes1_apply (i l : Fin 128) : lanes1 (ix2 i l) = if l.val / 64 = 1 then 1#1 else 0#1 := by
  rw [show lanes1 (ix2 i l) = lanes1 (ix2 0 l) from rfl]
  revert l
  decide +kernel

theorem seesCur_apply (i j : Fin 128) : seesCur (ix2 i j) = if j.val ≤ i.val then 1#1 else 0#1 := by
  revert i j
  decide +kernel

theorem keyLe_apply (i j : Fin 128) : Scalar.cmpi .sge (BitVec.ofNat 32 j.val) (BitVec.ofNat 32 i.val) = if i.val ≤ j.val then 1#1 else 0#1 := by
  revert i j
  decide +kernel

theorem notFirst (t : Fin cfg0.N) : seesPrev (BitVec.ofNat 32 ↑(grid0.coords t 0)) (ix2 0 0) = if t.val % 8 = 0 then 0#1 else 1#1 := by
  revert t
  decide +kernel

theorem seesPrev_apply (t : Fin cfg0.N) (i j : Fin 128) : seesPrev (BitVec.ofNat 32 ↑(grid0.coords t 0)) (ix2 i j) =
    if i.val ≤ j.val ∧ t.val % 8 ≠ 0 then 1#1 else 0#1 := by
  have h0 := notFirst t
  have key : ∀ (b : BitVec 1) (i j : Fin 128), andi (cmpi .sge (iota .tc S128x128 32 [1] iota_S128x128_d1_w32) (iota .tc S128x128 32 [0] iota_S128x128_d0_w32))
      (broadcast S128x128 b) (ix2 i j) = IntOp.andi (Scalar.cmpi .sge (BitVec.ofNat 32 j.val) (BitVec.ofNat 32 i.val)) b := by
    intro b i j
    pointwise
    rfl
  dsimp only [seesPrev, k0_pay17] at h0 ⊢
  rw [key, keyLe_apply] at h0
  rw [key, keyLe_apply]
  generalize Scalar.xori _ 1#1 = b at h0 ⊢
  rw [if_pos (le_refl _)] at h0
  by_cases h8 : t.val % 8 = 0 <;> by_cases hij : i.val ≤ j.val <;> simp [h8, hij] at h0 ⊢ <;> revert h0 <;> revert b <;> decide

end Cert.KernelIdeal.Slice
end
-- ==== Proof.SliceReal.lean ====
/- The functions of one stretch of lanes, at blocks of real numbers: each array's entry as a formula over the reals. -/
module

public import proofs.«01_k».proof.Proof.Masks

@[expose] public section

set_option maxRecDepth 16384

noncomputable section

namespace Cert.KernelIdeal.Slice

open Cert.KernelIdeal Cert.KernelIdeal.Gen Idealize.ShloMosaic Idealize.ShloMosaic.TcCoe Idealize.SL.Sem

/-- A sum of real numbers is the same sum of them as extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem select_ite {α : Type} (p : Prop) [Decidable p] (a b : α) : Scalar.select (if p then 1#1 else 0#1) a b = if p then a else b := by
  by_cases h : p <;> simp [h, Scalar.select]

theorem coe_ite (p : Prop) [Decidable p] (a b : ℝ) : (if p then (a : EReal) else (b : EReal)) = ((if p then a else b : ℝ) : EReal) := by
  by_cases h : p <;> simp [h]

theorem mask_eq : Named.named (F := Ideal) (φ := .f32) κ "mask" 0xF149F2CA#32 = (⊥ : EReal) :=
  IdealRules.named_const.ideal_named_scalar _ _ _ _ rfl

theorem sixtyfourth : Ideal.ofBits .f32 0x3C800000#32 = ((1 / 64 : ℝ) : EReal) := by
  simp [Ideal.ofBits, Ideal.ieee, -EReal.coe_mul]
  norm_num

/-- A block of 128 by 128 real numbers. -/
abbrev Holds {φ : FTy} (x : FVec Ideal S128x128 φ) (X : ℕ → ℕ → ℝ) : Prop := ∀ i l : Fin 128, x (ix2 i l) = ((X i.val l.val : ℝ) : EReal)
/-- The mask of head `h` of a stretch. -/
abbrev IsHead (H : IVec S128x128 1) (h : ℕ) : Prop := ∀ i l : Fin 128, H (ix2 i l) = if l.val / 64 = h then 1#1 else 0#1
abbrev IsMask (M : IVec S128x128 1) (ok : ℕ → ℕ → Prop) [∀ i j, Decidable (ok i j)] : Prop := ∀ i j : Fin 128, M (ix2 i j) = if ok i.val j.val then 1#1 else 0#1

/-- The sum over the lanes of head `h`. -/
def hs (h : ℕ) (f : ℕ → ℝ) : ℝ := ∑ l : Fin 128, if l.val / 64 = h then f l.val else 0
/-- Weights, score gradients. -/
def rP (h : ℕ) (ok : ℕ → ℕ → Prop) [∀ i j, Decidable (ok i j)] (Q K L : ℕ → ℕ → ℝ) (i j : ℕ) : ℝ :=
  if ok i j then Real.exp (hs h (fun l => Q i l * K j l) - hs h (L i) * (1 / 64)) else 0
def rDS (h : ℕ) (ok : ℕ → ℕ → Prop) [∀ i j, Decidable (ok i j)] (Q K V O G L Z : ℕ → ℕ → ℝ) (i j : ℕ) : ℝ :=
  rP h ok Q K L i j * (hs h (fun l => G i l * V j l) - hs h (fun l => G i l * O i l) + hs h (Z i))

section
variable {H : IVec S128x128 1} {h : ℕ} (hH : IsHead H h)
include hH

theorem headQ_real {q : FVec Ideal S128x128 .bf16} {Q : ℕ → ℕ → ℝ} (hq : Holds q Q) :
    Holds (headQ H q) (fun i l => if l / 64 = h then Q i l else 0) := by
  intro i l
  unfold headQ zb same
  pointwise
  rw [hH, select_ite, hq, ← EReal.coe_zero, coe_ite]

theorem headDo_real {q : FVec Ideal S128x128 .bf16} {Q : ℕ → ℕ → ℝ} (hq : Holds q Q) :
    Holds (headDo H q) (fun i l => if l / 64 = h then Q i l else 0) := by
  intro i l
  unfold headDo zf same
  pointwise
  rw [hH, select_ite, hq, ← EReal.coe_zero, coe_ite]

theorem headSum_real {x : FVec Ideal S128x128 .f32} {X : ℕ → ℕ → ℝ} (hx : Holds x X) (i : Fin 128) (z : Fin 1) :
    headSum H x (ix2 i z) = ((hs h (X i.val) : ℝ) : EReal) := by
  unfold headSum zf hs
  pointwise
  rw [coe_sum]
  refine Finset.sum_congr rfl fun l _ => ?_
  rw [hH, select_ite, hx, ← EReal.coe_zero, coe_ite]

theorem headLse_real {x : FVec Ideal S128x128 .f32} {X : ℕ → ℕ → ℝ} (hx : Holds x X) (i : Fin 128) (z : Fin 1) :
    headLse H x (ix2 i z) = ((hs h (X i.val) * (1 / 64) : ℝ) : EReal) := by
  unfold headLse same
  rw [shapeCast_id]
  pointwise
  rw [headSum_real hH hx, sixtyfourth, EReal.coe_mul]

theorem headDelta_real {o g : FVec Ideal S128x128 .bf16} {O G : ℕ → ℕ → ℝ} (ho : Holds o O) (hg : Holds g G) (i : Fin 128) (z : Fin 1) :
    headDelta H o g (ix2 i z) = ((hs h (fun l => G i.val l * O i.val l) : ℝ) : EReal) := by
  unfold headDelta same
  rw [shapeCast_id, shapeCast_id]
  refine headSum_real hH (X := fun i l => G i l * O i l) (fun i l => ?_) i z
  pointwise
  rw [hg, ho, EReal.coe_mul]

theorem headDl_real {x : FVec Ideal S128x128 .f32} {X : ℕ → ℕ → ℝ} (hx : Holds x X) (i : Fin 128) (z : Fin 1) :
    headDl H x (ix2 i z) = ((hs h (X i.val) : ℝ) : EReal) := by
  unfold headDl same
  rw [shapeCast_id]
  exact headSum_real hH hx i z

theorem dot_real {a b : FVec Ideal S128x128 .bf16} {A B : ℕ → ℕ → ℝ} (ha : Holds a (fun i l => if l / 64 = h then A i l else 0)) (hb : Holds b B) (i j : Fin 128) :
    ∑ l : Fin 128, a (ix2 i l) * b (ix2 j l) = ((hs h (fun l => A i.val l * B j.val l) : ℝ) : EReal) := by
  unfold hs
  rw [coe_sum]
  refine Finset.sum_congr rfl fun l _ => ?_
  rw [ha, hb, ← EReal.coe_mul]
  congr 1
  by_cases hl : l.val / 64 = h <;> simp [hl]

variable {M : IVec S128x128 1} {ok : ℕ → ℕ → Prop} [∀ i j, Decidable (ok i j)] (hM : IsMask M ok)
include hM

theorem prob_real {q k : FVec Ideal S128x128 .bf16} {l : FVec Ideal S128x128 .f32} {Q K L : ℕ → ℕ → ℝ} (hq : Holds q Q) (hk : Holds k K) (hl : Holds l L) :
    Holds (prob H M q k l) (rP h ok Q K L) := by
  intro i j
  unfold prob same rP
  pointwise
  rw [hM, select_ite, dot_real hH (headQ_real hH hq) hk, headLse_real hH hl, mask_eq]
  split
  · rw [← EReal.coe_sub, Ideal.exp_coe]
  · rw [EReal.bot_sub]
    rfl

theorem dscore_real {q k v o g : FVec Ideal S128x128 .bf16} {l z : FVec Ideal S128x128 .f32} {Q K V O G L Z : ℕ → ℕ → ℝ} (hq : Holds q Q) (hk : Holds k K)
    (hv : Holds v V) (ho : Holds o O) (hg : Holds g G) (hl : Holds l L) (hz : Holds z Z) :
    Holds (dscore H M q k v o g l z) (rDS h ok Q K V O G L Z) := by
  intro i j
  unfold dscore same rDS
  pointwise
  rw [prob_real hH hM hq hk hl, dot_real hH (headDo_real hH hg) hv, headDelta_real hH ho hg, headDl_real hH hz, EReal.coe_mul, EReal.coe_add, EReal.coe_sub]

theorem headDk_real {q k v o g : FVec Ideal S128x128 .bf16} {l z : FVec Ideal S128x128 .f32} {Q K V O G L Z : ℕ → ℕ → ℝ} (hq : Holds q Q) (hk : Holds k K)
    (hv : Holds v V) (ho : Holds o O) (hg : Holds g G) (hl : Holds l L) (hz : Holds z Z) :
    Holds (headDk H M q k v o g l z) (fun j l => if l / 64 = h then ∑ i : Fin 128, rDS h ok Q K V O G L Z i.val j * Q i.val l else 0) := by
  intro j l
  unfold headDk
  pointwise
  rw [show (if l.val / 64 = h then ∑ i : Fin 128, rDS h ok Q K V O G L Z i.val j.val * Q i.val l.val else 0)
    = ∑ i : Fin 128, rDS h ok Q K V O G L Z i.val j.val * (if l.val / 64 = h then Q i.val l.val else 0) from by split <;> simp, coe_sum]
  refine Finset.sum_congr rfl fun i _ => ?_
  rw [dscore_real hH hM hq hk hv ho hg hl hz, headQ_real hH hq, EReal.coe_mul]

theorem headDv_real {q k g : FVec Ideal S128x128 .bf16} {l : FVec Ideal S128x128 .f32} {Q K G L : ℕ → ℕ → ℝ} (hq : Holds q Q) (hk : Holds k K)
    (hg : Holds g G) (hl : Holds l L) :
    Holds (headDv H M q k g l) (fun j l => if l / 64 = h then ∑ i : Fin 128, rP h ok Q K L i.val j * G i.val l else 0) := by
  intro j l
  unfold headDv
  pointwise
  rw [show (if l.val / 64 = h then ∑ i : Fin 128, rP h ok Q K L i.val j.val * G i.val l.val else 0)
    = ∑ i : Fin 128, rP h ok Q K L i.val j.val * (if l.val / 64 = h then G i.val l.val else 0) from by split <;> simp, coe_sum]
  refine Finset.sum_congr rfl fun i _ => ?_
  rw [prob_real hH hM hq hk hl, headDo_real hH hg, EReal.coe_mul]

variable {M' : IVec S128x128 1} {ok' : ℕ → ℕ → Prop} [∀ i j, Decidable (ok' i j)] (hM' : IsMask M' ok')
include hM'

theorem headDq_real {q k k' v v' o g : FVec Ideal S128x128 .bf16} {l z : FVec Ideal S128x128 .f32} {Q K K' V V' O G L Z : ℕ → ℕ → ℝ} (hq : Holds q Q)
    (hk : Holds k K) (hk' : Holds k' K') (hv : Holds v V) (hv' : Holds v' V') (ho : Holds o O) (hg : Holds g G) (hl : Holds l L) (hz : Holds z Z) :
    Holds (headDq H M M' q k k' v v' o g l z) (fun i l => if l / 64 = h then (∑ j : Fin 128, rDS h ok Q K V O G L Z i j.val * K j.val l)
      + ∑ j : Fin 128, rDS h ok' Q K' V' O G L Z i j.val * K' j.val l else 0) := by
  intro i l
  unfold headDq same zf
  pointwise
  rw [hH, select_ite, ← coe_ite, EReal.coe_add, coe_sum, coe_sum]
  congr 2
  · refine Finset.sum_congr rfl fun j _ => ?_
    rw [dscore_real hH hM hq hk hv ho hg hl hz, hk, EReal.coe_mul]
  · refine Finset.sum_congr rfl fun j _ => ?_
    rw [dscore_real hH hM' hq hk' hv' ho hg hl hz, hk', EReal.coe_mul]
end

theorem isHead0 : IsHead lanes0 0 := lanes0_apply
theorem isHead1 : IsHead lanes1 1 := lanes1_apply
theorem isMaskCur : IsMask seesCur (fun i j => j ≤ i) := seesCur_apply
theorem isMaskPrev (t : Fin cfg0.N) : IsMask (seesPrev (BitVec.ofNat 32 ↑(grid0.coords t 0))) (fun i j => i ≤ j ∧ t.val % 8 ≠ 0) := seesPrev_apply t

theorem two_heads {l : ℕ} (hl : l < 128) (f : ℕ → ℝ) : 0 + (if l / 64 = 0 then f 0 else 0) + (if l / 64 = 1 then f 1 else 0) = f (l / 64) := by
  rcases (by omega : l / 64 = 0 ∨ l / 64 = 1) with h | h <;> simp [h]

theorem both_real {a b : FVec Ideal S128x128 .f32} {A : ℕ → ℕ → ℕ → ℝ} (ha : Holds a (fun i l => if l / 64 = 0 then A 0 i l else 0))
    (hb : Holds b (fun i l => if l / 64 = 1 then A 1 i l else 0)) : Holds (φ := .f32) (same (F := Ideal) (e := .f32) (addf (addf zf a) b)) (fun i l => A (l / 64) i l) := by
  intro i l
  unfold same zf
  pointwise
  rw [ha, hb, ← EReal.coe_add, ← two_heads l.isLt (fun h => A h i.val l.val), zero_add]

section
variable {M : IVec S128x128 1} {ok : ℕ → ℕ → Prop} [∀ i j, Decidable (ok i j)] (hM : IsMask M ok)
  {M' : IVec S128x128 1} {ok' : ℕ → ℕ → Prop} [∀ i j, Decidable (ok' i j)] (hM' : IsMask M' ok')

theorem sdq_real (hM : IsMask M ok) (hM' : IsMask M' ok') {q k k' v v' o g : FVec Ideal S128x128 .bf16} {l z : FVec Ideal S128x128 .f32} {Q K K' V V' O G L Z : ℕ → ℕ → ℝ} (hq : Holds q Q)
    (hk : Holds k K) (hk' : Holds k' K') (hv : Holds v V) (hv' : Holds v' V') (ho : Holds o O) (hg : Holds g G) (hl : Holds l L) (hz : Holds z Z) :
    Holds (sdq M M' q k k' v v' o g l z) (fun i l => (∑ j : Fin 128, rDS (l / 64) ok Q K V O G L Z i j.val * K j.val l)
      + ∑ j : Fin 128, rDS (l / 64) ok' Q K' V' O G L Z i j.val * K' j.val l) :=
  both_real (A := fun h i l => (∑ j : Fin 128, rDS h ok Q K V O G L Z i j.val * K j.val l)
      + ∑ j : Fin 128, rDS h ok' Q K' V' O G L Z i j.val * K' j.val l)
    (headDq_real isHead0 hM hM' hq hk hk' hv hv' ho hg hl hz) (headDq_real isHead1 hM hM' hq hk hk' hv hv' ho hg hl hz)

theorem sdk_real (hM : IsMask M ok) {q k v o g : FVec Ideal S128x128 .bf16} {l z : FVec Ideal S128x128 .f32} {Q K V O G L Z : ℕ → ℕ → ℝ} (hq : Holds q Q) (hk : Holds k K)
    (hv : Holds v V) (ho : Holds o O) (hg : Holds g G) (hl : Holds l L) (hz : Holds z Z) :
    Holds (sdk M q k v o g l z) (fun j l => ∑ i : Fin 128, rDS (l / 64) ok Q K V O G L Z i.val j * Q i.val l) :=
  both_real (A := fun h j l => ∑ i : Fin 128, rDS h ok Q K V O G L Z i.val j * Q i.val l)
    (headDk_real isHead0 hM hq hk hv ho hg hl hz) (headDk_real isHead1 hM hq hk hv ho hg hl hz)

theorem sdv_real (hM : IsMask M ok) {q k g : FVec Ideal S128x128 .bf16} {l : FVec Ideal S128x128 .f32} {Q K G L : ℕ → ℕ → ℝ} (hq : Holds q Q) (hk : Holds k K)
    (hg : Holds g G) (hl : Holds l L) :
    Holds (sdv M q k g l) (fun j l => ∑ i : Fin 128, rP (l / 64) ok Q K L i.val j * G i.val l) :=
  both_real (A := fun h j l => ∑ i : Fin 128, rP h ok Q K L i.val j * G i.val l)
    (headDv_real isHead0 hM hq hk hg hl) (headDv_real isHead1 hM hq hk hg hl)
end

end Cert.KernelIdeal.Slice
end
-- ==== Proof.Math.lean ====
/- The mathematics of one head of one block of queries, over the reals: the masked softmax of the scores and the gradient of its output and of its
   log-sum-exp. -/
module

public import Mathlib.Analysis.SpecialFunctions.Log.Basic
public import Mathlib.Algebra.BigOperators.Field

@[expose] public section

noncomputable section

namespace Cert.Math

/-- Query `i` of the block may see key `j` of the 256 before and in the block: no later key, none more than 128 back, none before the first. -/
def ok (n i j : ℕ) : Prop := (i ≤ j ∧ j ≤ i + 128) ∧ 128 ≤ n * 128 + j

instance (n i j : ℕ) : Decidable (ok n i j) := inferInstanceAs (Decidable (_ ∧ _))

/-- The queries of block `n` at residue `r` and head `h`, or whatever lies as they do. -/
def qv (X : ℕ → ℕ → ℝ) (r n h i d : ℕ) : ℝ := X ((n * 128 + i) * 4 + r) (h * 64 + d)

/-- The 256 keys of block `n`: those of the block before it (zeros for the first) and its own. -/
def kv (X : ℕ → ℕ → ℝ) (o r n h j d : ℕ) : ℝ :=
  if j < 128 then (if n < 1 then 0 else X (((n - 1) * 128 + j) * 4 + r) (o + (h * 64 + d))) else X ((n * 128 + (j - 128)) * 4 + r) (o + (h * 64 + d))

variable (n : ℕ) (Q K V Y Z : ℕ → ℕ → ℝ)

/-- The score of a query and a key. -/
def sc (i j : ℕ) : ℝ := ∑ d : Fin 64, Q i d.val * K j d.val
/-- The exponential of the score, zero where the mask is off. -/
def we (i j : ℕ) : ℝ := if ok n i j then Real.exp (sc Q K i j) else 0
/-- The softmax's denominator. -/
def den (i : ℕ) : ℝ := ∑ j : Fin 256, we n Q K i j.val
/-- The softmax's weight. -/
def pr (i j : ℕ) : ℝ := we n Q K i j / den n Q K i
/-- The output. -/
def ou (i d : ℕ) : ℝ := ∑ j : Fin 256, pr n Q K i j.val * V j.val d
/-- The output cotangent against a value. -/
def dp (i j : ℕ) : ℝ := ∑ d : Fin 64, Y i d.val * V j d.val
/-- The cotangents' mean under the weights. -/
def del (i : ℕ) : ℝ := ∑ j : Fin 256, pr n Q K i j.val * dp V Y i j.val
/-- The log-sum-exp's cotangent. -/
def dl (i : ℕ) : ℝ := ∑ d : Fin 64, Z i d.val
/-- The gradient of the scores. -/
def ds (i j : ℕ) : ℝ := pr n Q K i j * (dp V Y i j - del n Q K V Y i + dl Z i)

/-- The gradient of the queries. -/
def dq (i d : ℕ) : ℝ := ∑ j : Fin 256, ds n Q K V Y Z i j.val * K j.val d
/-- The gradient of the keys. -/
def dk (j d : ℕ) : ℝ := ∑ i : Fin 128, ds n Q K V Y Z i.val j * Q i.val d
/-- The gradient of the values. -/
def dv (j d : ℕ) : ℝ := ∑ i : Fin 128, pr n Q K i.val j * Y i.val d

/-- The gradient of the queries at residue `r`, block `n` and head `h`. -/
def gq (X Y Z : ℕ → ℕ → ℝ) (r n h i d : ℕ) : ℝ := dq n (qv X r n h) (kv X 512 r n h) (kv X 1024 r n h) (qv Y r n h) (qv Z r n h) i d
/-- What block `n` gives the keys it reads. -/
def hk (X Y Z : ℕ → ℕ → ℝ) (r n h j d : ℕ) : ℝ := dk n (qv X r n h) (kv X 512 r n h) (kv X 1024 r n h) (qv Y r n h) (qv Z r n h) j d
/-- What block `n` gives the values it reads. -/
def hv (X Y : ℕ → ℕ → ℝ) (r n h j d : ℕ) : ℝ := dv n (qv X r n h) (kv X 512 r n h) (qv Y r n h) j d
/-- The gradient of the keys: what their own block and the next one give. -/
def gk (X Y Z : ℕ → ℕ → ℝ) (r n h i d : ℕ) : ℝ := hk X Y Z r n h (128 + i) d + if n < 7 then hk X Y Z r (n + 1) h i d else 0
/-- The gradient of the values. -/
def gv (X Y : ℕ → ℕ → ℝ) (r n h i d : ℕ) : ℝ := hv X Y r n h (128 + i) d + if n < 7 then hv X Y r (n + 1) h i d else 0

/-- The result at row `p` and column `c`: the three gradients side by side, the residues side by side. -/
def out (X Y Z : ℕ → ℕ → ℝ) (p c : ℕ) : ℝ :=
  if c % 1536 < 512 then gq X Y Z (c / 1536) (p / 128) (c % 1536 / 64) (p % 128) (c % 1536 % 64)
  else if c % 1536 - 512 < 512 then gk X Y Z (c / 1536) (p / 128) ((c % 1536 - 512) / 64) (p % 128) ((c % 1536 - 512) % 64)
  else gv X Y (c / 1536) (p / 128) ((c % 1536 - 512 - 512) / 64) (p % 128) ((c % 1536 - 512 - 512) % 64)

theorem we_nonneg (i j : ℕ) : 0 ≤ we n Q K i j := by
  unfold we; split <;> positivity

theorem ok_diag {n i : ℕ} : ok n i (i + 128) := ⟨⟨by omega, by omega⟩, by omega⟩

theorem den_pos {i : ℕ} (hi : i < 128) : 0 < den n Q K i := by
  refine Finset.sum_pos' (fun j _ => we_nonneg n Q K i j.val) ⟨⟨i + 128, by omega⟩, Finset.mem_univ _, ?_⟩
  simp only [we, if_pos ok_diag]
  exact Real.exp_pos _

theorem pr_off {i j : ℕ} (h : ¬ok n i j) : pr n Q K i j = 0 := by simp [pr, we, h]

theorem ds_off {i j : ℕ} (h : ¬ok n i j) : ds n Q K V Y Z i j = 0 := by simp [ds, pr_off n Q K h]

theorem sum_pr {i : ℕ} (hi : i < 128) : ∑ j : Fin 256, pr n Q K i j.val = 1 := by
  simp only [pr, ← Finset.sum_div]
  exact div_self (den_pos n Q K hi).ne'

/-- The gradient of the scores sums to the log-sum-exp's cotangent, so nothing is left for the row maximum. -/
theorem sum_ds {i : ℕ} (hi : i < 128) : ∑ j : Fin 256, ds n Q K V Y Z i j.val = dl Z i := by
  have h : ∀ j : Fin 256, ds n Q K V Y Z i j.val = pr n Q K i j.val * dp V Y i j.val + pr n Q K i j.val * (dl Z i - del n Q K V Y i) := fun j => by
    simp only [ds]; ring
  simp only [h, Finset.sum_add_distrib, ← Finset.sum_mul, sum_pr n Q K hi]
  simp only [del]; ring

/-- The mean of the cotangents is the output's product with its cotangent. -/
theorem del_eq (i : ℕ) : del n Q K V Y i = ∑ d : Fin 64, Y i d.val * ou n Q K V i d.val := by
  simp only [del, dp, ou, Finset.mul_sum]
  rw [Finset.sum_comm]
  exact Finset.sum_congr rfl fun d _ => Finset.sum_congr rfl fun j _ => by ring

/-- The weight from the log-sum-exp. -/
theorem exp_sub_log {i j : ℕ} (hi : i < 128) (h : ok n i j) : Real.exp (sc Q K i j - Real.log (den n Q K i)) = pr n Q K i j := by
  rw [Real.exp_sub, Real.exp_log (den_pos n Q K hi)]
  simp [pr, we, h]

end Cert.Math

end
-- ==== Proof.Heads.lean ====
/- One stretch of 128 lanes is two heads of 64: the kernel's formulas of a stretch are the mathematics of the two heads. -/
module

public import proofs.«01_k».proof.Proof.SliceReal
public import proofs.«01_k».proof.Proof.Math

@[expose] public section

set_option maxRecDepth 16384

noncomputable section

namespace Cert.KernelIdeal.Heads

open Cert.Math Cert.KernelIdeal.Slice Idealize.ShloMosaic

/-- A stretch of a block: lanes `128 k` on of columns `o` on, at residue `r`. -/
def blk (X : ℕ → ℕ → ℝ) (o r n k i l : ℕ) : ℝ := X ((n * 128 + i) * 4 + r) (o + (128 * k + l))
/-- A stretch of the forward output. -/
def ob (X : ℕ → ℕ → ℝ) (r n k i l : ℕ) : ℝ :=
  ou n (qv X r n (2 * k + l / 64)) (kv X 512 r n (2 * k + l / 64)) (kv X 1024 r n (2 * k + l / 64)) i (l % 64)
/-- A stretch of the log-sum-exp, the same in a head's 64 lanes. -/
def lb (X : ℕ → ℕ → ℝ) (r n k i l : ℕ) : ℝ := Real.log (den n (qv X r n (2 * k + l / 64)) (kv X 512 r n (2 * k + l / 64)) i)

theorem hs_eq {h : ℕ} (hh : h < 2) (f : ℕ → ℝ) : hs h f = ∑ d : Fin 64, f (h * 64 + d.val) := by
  rw [hs, Fin.sum_univ_two_halves 64 64 rfl (fun l : Fin 128 => if l.val / 64 = h then f l.val else 0)]
  rcases (by omega : h = 0 ∨ h = 1) with rfl | rfl
  · have e1 : ∀ d : Fin 64, d.val / 64 = 0 := fun d => by omega
    have e2 : ∀ d : Fin 64, ¬(64 + d.val) / 64 = 0 := fun d => by omega
    simp [e1, e2]
  · have e1 : ∀ d : Fin 64, ¬d.val / 64 = 1 := fun d => by omega
    have e2 : ∀ d : Fin 64, (64 + d.val) / 64 = 1 := fun d => by omega
    simp [e1, e2]

variable (X Y Z : ℕ → ℕ → ℝ) (r n k : ℕ) {h : ℕ}

theorem q_lane (i d : ℕ) : blk X 0 r n k i (h * 64 + d) = qv X r n (2 * k + h) i d := by
  unfold blk qv
  congr 1; ring

theorem cur_lane (o j d : ℕ) : blk X o r n k j (h * 64 + d) = kv X o r n (2 * k + h) (128 + j) d := by
  unfold blk kv
  rw [if_neg (by omega), Nat.add_sub_cancel_left]
  congr 1; ring

theorem prev_lane (o : ℕ) {j : ℕ} (hj : j < 128) (d : ℕ) (hn : n ≠ 0) : blk X o r (n - 1) k j (h * 64 + d) = kv X o r n (2 * k + h) j d := by
  unfold blk kv
  rw [if_pos hj, if_neg (by omega)]
  congr 1; ring

theorem ob_lane (i : ℕ) (d : Fin 64) : ob X r n k i (h * 64 + d.val) =
    ou n (qv X r n (2 * k + h)) (kv X 512 r n (2 * k + h)) (kv X 1024 r n (2 * k + h)) i d := by
  unfold ob
  rw [show (h * 64 + d.val) / 64 = h by omega, show (h * 64 + d.val) % 64 = d.val by omega]

theorem lb_sum (hh : h < 2) (i : ℕ) : hs h (lb X r n k i) * (1 / 64) = Real.log (den n (qv X r n (2 * k + h)) (kv X 512 r n (2 * k + h)) i) := by
  have e : ∀ d : Fin 64, lb X r n k i (h * 64 + d.val) = Real.log (den n (qv X r n (2 * k + h)) (kv X 512 r n (2 * k + h)) i) := fun d => by
    unfold lb
    rw [show (h * 64 + d.val) / 64 = h by omega]
  rw [hs_eq hh]
  simp only [e, Finset.sum_const, Finset.card_univ, Fintype.card_fin, nsmul_eq_mul]
  push_cast; ring

/-- The weights and the score gradients of a head, from keys and values that are the ones at `jj` lane by lane. -/
theorem weight (hh : h < 2) {ok' : ℕ → ℕ → Prop} [∀ i j, Decidable (ok' i j)] {K : ℕ → ℕ → ℝ} {i j jj : ℕ} (hi : i < 128)
    (hok : ok' i j ↔ ok n i jj) (hK : ok n i jj → ∀ d, K j (h * 64 + d) = kv X 512 r n (2 * k + h) jj d) :
    rP h ok' (blk X 0 r n k) K (lb X r n k) i j = pr n (qv X r n (2 * k + h)) (kv X 512 r n (2 * k + h)) i jj := by
  unfold rP
  by_cases hm : ok n i jj
  · rw [if_pos (hok.mpr hm), lb_sum X r n k hh, ← exp_sub_log n _ _ hi hm, hs_eq hh]
    simp only [q_lane, hK hm]
    rfl
  · rw [if_neg (fun h => hm (hok.mp h)), pr_off _ _ _ hm]

theorem grad (hh : h < 2) {ok' : ℕ → ℕ → Prop} [∀ i j, Decidable (ok' i j)] {K V : ℕ → ℕ → ℝ} {i j jj : ℕ} (hi : i < 128)
    (hok : ok' i j ↔ ok n i jj) (hK : ok n i jj → ∀ d, K j (h * 64 + d) = kv X 512 r n (2 * k + h) jj d)
    (hV : ok n i jj → ∀ d, V j (h * 64 + d) = kv X 1024 r n (2 * k + h) jj d) :
    rDS h ok' (blk X 0 r n k) K V (ob X r n k) (blk Y 0 r n k) (lb X r n k) (blk Z 0 r n k) i j =
      ds n (qv X r n (2 * k + h)) (kv X 512 r n (2 * k + h)) (kv X 1024 r n (2 * k + h)) (qv Y r n (2 * k + h)) (qv Z r n (2 * k + h)) i jj := by
  rw [rDS, weight X r n k hh hi hok hK]
  by_cases hm : ok n i jj
  · rw [ds, del_eq, hs_eq hh, hs_eq hh, hs_eq hh]
    simp only [q_lane, hV hm, ob_lane]
    rfl
  · rw [pr_off _ _ _ hm, zero_mul, ds_off _ _ _ _ _ _ hm]

theorem cur_ok {i j : ℕ} (hi : i < 128) (hj : j < 128) : j ≤ i ↔ ok n i (128 + j) := by unfold ok; omega
theorem prev_ok {i j : ℕ} (hi : i < 128) (hj : j < 128) : (i ≤ j ∧ n ≠ 0) ↔ ok n i j := by unfold ok; omega

/-- A sum over the 256 keys: the block's own, then the block before. -/
theorem sum_keys (f : ℕ → ℝ) : (∑ j : Fin 256, f j.val) = (∑ j : Fin 128, f (128 + j.val)) + ∑ j : Fin 128, f j.val := by
  rw [Fin.sum_univ_two_halves 128 128 rfl (fun j : Fin 256 => f j.val), add_comm]

/-- The kernel's queries' gradient, either order of its two halves. -/
theorem dq_eq (hh : h < 2) (okp okc : ℕ → ℕ → Prop) [∀ i j, Decidable (okp i j)] [∀ i j, Decidable (okc i j)]
    (hp : ∀ i j, okp i j ↔ i ≤ j ∧ n ≠ 0) (hc : ∀ i j, okc i j ↔ j ≤ i) (b : ℕ) (hb : n ≠ 0 → b = n - 1) {i : ℕ} (hi : i < 128) (d : ℕ) :
    (∑ j : Fin 128, rDS h okp (blk X 0 r n k) (blk X 512 r b k) (blk X 1024 r b k) (ob X r n k) (blk Y 0 r n k) (lb X r n k) (blk Z 0 r n k) i j.val * blk X 512 r b k j.val (h * 64 + d))
      + (∑ j : Fin 128, rDS h okc (blk X 0 r n k) (blk X 512 r n k) (blk X 1024 r n k) (ob X r n k) (blk Y 0 r n k) (lb X r n k) (blk Z 0 r n k) i j.val * blk X 512 r n k j.val (h * 64 + d))
      = gq X Y Z r n (2 * k + h) i d := by
  rw [gq, dq, sum_keys (fun j => ds n (qv X r n (2 * k + h)) (kv X 512 r n (2 * k + h)) (kv X 1024 r n (2 * k + h)) (qv Y r n (2 * k + h)) (qv Z r n (2 * k + h)) i j * kv X 512 r n (2 * k + h) j d), add_comm]
  have hz : ∀ {j : ℕ}, ok n i j → j < 128 → n ≠ 0 := fun hm hj => by unfold ok at hm; omega
  congr 1
  · refine Finset.sum_congr rfl fun j _ => ?_
    rw [grad X Y Z r n k hh hi ((hc i j).trans (cur_ok n hi j.isLt)) (fun _ d => cur_lane ..) (fun _ d => cur_lane ..), cur_lane]
  · refine Finset.sum_congr rfl fun j _ => ?_
    rw [grad X Y Z r n k hh hi ((hp i j).trans (prev_ok n hi j.isLt)) (fun hm d => by rw [hb (hz hm j.isLt)]; exact prev_lane X r n k 512 j.isLt d (hz hm j.isLt))
      (fun hm d => by rw [hb (hz hm j.isLt)]; exact prev_lane X r n k 1024 j.isLt d (hz hm j.isLt))]
    by_cases hm : ok n i j
    · rw [hb (hz hm j.isLt), prev_lane X r n k 512 j.isLt d (hz hm j.isLt)]
    · rw [ds_off _ _ _ _ _ _ hm, zero_mul, zero_mul]

/-- What a block gives its own keys and values, and those of the block before. -/
theorem dkc_eq (hh : h < 2) (okc : ℕ → ℕ → Prop) [∀ i j, Decidable (okc i j)] (hc : ∀ i j, okc i j ↔ j ≤ i) {j : ℕ} (hj : j < 128) (d : ℕ) :
    (∑ i : Fin 128, rDS h okc (blk X 0 r n k) (blk X 512 r n k) (blk X 1024 r n k) (ob X r n k) (blk Y 0 r n k) (lb X r n k) (blk Z 0 r n k) i.val j * blk X 0 r n k i.val (h * 64 + d))
      = hk X Y Z r n (2 * k + h) (128 + j) d := by
  unfold hk dk
  refine Finset.sum_congr rfl fun i _ => ?_
  rw [grad X Y Z r n k hh i.isLt ((hc i j).trans (cur_ok n i.isLt hj)) (fun _ d => cur_lane ..) (fun _ d => cur_lane ..), q_lane]

theorem dkp_eq (hh : h < 2) (okp : ℕ → ℕ → Prop) [∀ i j, Decidable (okp i j)] (hp : ∀ i j, okp i j ↔ i ≤ j ∧ n ≠ 0) (b : ℕ) (hb : n ≠ 0 → b = n - 1)
    {j : ℕ} (hj : j < 128) (d : ℕ) :
    (∑ i : Fin 128, rDS h okp (blk X 0 r n k) (blk X 512 r b k) (blk X 1024 r b k) (ob X r n k) (blk Y 0 r n k) (lb X r n k) (blk Z 0 r n k) i.val j * blk X 0 r n k i.val (h * 64 + d))
      = hk X Y Z r n (2 * k + h) j d := by
  unfold hk dk
  refine Finset.sum_congr rfl fun i _ => ?_
  have hz : ok n i j → n ≠ 0 := fun hm => by unfold ok at hm; omega
  rw [grad X Y Z r n k hh i.isLt ((hp i j).trans (prev_ok n i.isLt hj)) (fun hm d => by rw [hb (hz hm)]; exact prev_lane X r n k 512 hj d (hz hm))
    (fun hm d => by rw [hb (hz hm)]; exact prev_lane X r n k 1024 hj d (hz hm)), q_lane]

theorem dvc_eq (hh : h < 2) (okc : ℕ → ℕ → Prop) [∀ i j, Decidable (okc i j)] (hc : ∀ i j, okc i j ↔ j ≤ i) {j : ℕ} (hj : j < 128) (d : ℕ) :
    (∑ i : Fin 128, rP h okc (blk X 0 r n k) (blk X 512 r n k) (lb X r n k) i.val j * blk Y 0 r n k i.val (h * 64 + d))
      = hv X Y r n (2 * k + h) (128 + j) d := by
  unfold hv dv
  refine Finset.sum_congr rfl fun i _ => ?_
  rw [weight X r n k hh i.isLt ((hc i j).trans (cur_ok n i.isLt hj)) (fun _ d => cur_lane ..), q_lane]

theorem dvp_eq (hh : h < 2) (okp : ℕ → ℕ → Prop) [∀ i j, Decidable (okp i j)] (hp : ∀ i j, okp i j ↔ i ≤ j ∧ n ≠ 0) (b : ℕ) (hb : n ≠ 0 → b = n - 1)
    {j : ℕ} (hj : j < 128) (d : ℕ) :
    (∑ i : Fin 128, rP h okp (blk X 0 r n k) (blk X 512 r b k) (lb X r n k) i.val j * blk Y 0 r n k i.val (h * 64 + d))
      = hv X Y r n (2 * k + h) j d := by
  unfold hv dv
  refine Finset.sum_congr rfl fun i _ => ?_
  have hz : ok n i j → n ≠ 0 := fun hm => by unfold ok at hm; omega
  rw [weight X r n k hh i.isLt ((hp i j).trans (prev_ok n i.isLt hj)) (fun hm d => by rw [hb (hz hm)]; exact prev_lane X r n k 512 hj d (hz hm)), q_lane]

/-- For a first block nothing is given to a block before it. -/
theorem hk_first (h : ℕ) {j : ℕ} (hj : j < 128) (d : ℕ) : hk X Y Z r 0 h j d = 0 := by
  unfold hk dk
  exact Finset.sum_eq_zero fun i _ => by rw [ds_off _ _ _ _ _ _ (by unfold ok; omega), zero_mul]
theorem hv_first (h : ℕ) {j : ℕ} (hj : j < 128) (d : ℕ) : hv X Y r 0 h j d = 0 := by
  unfold hv dv
  exact Finset.sum_eq_zero fun i _ => by rw [pr_off _ _ _ (by unfold ok; omega), zero_mul]

end Cert.KernelIdeal.Heads

end
-- ==== Proof.RefFwd.lean ====
/- The reference's forward half at real entries: scores, mask, softmax, output and log-sum-exp, each entry as a formula over the reals. -/
module

public import proofs.«01_k».proof.Proof.Gen.ReferenceIdeal.Read
public import proofs.«01_k».proof.Proof.Math
public import proofs.«01_k».proof.Proof.SliceReal
public import Idealize.ShloMosaic.Lib.Pointwise

@[expose] public section

set_option maxRecDepth 16384

noncomputable section

namespace Cert.ReferenceIdeal.Grad

open Cert.ReferenceIdeal.Read Cert.Math Idealize.ShloMosaic Idealize.ShloMosaic.TcCoe
open Cert.KernelIdeal.Slice (coe_sum)

variable {x0 : FVec Ideal S4096x1536 .bf16} {X : ℕ → ℕ → ℝ} (hX : ∀ (i : Fin 4096) (j : Fin 1536), x0 (ix2 i j) = ((X i.val j.val : ℝ) : EReal))

/-- The constant `-inf`. -/
theorem neg_inf (j : S_.Idx) : constant (F := Ideal) S_ .f32 0xFF800000#32 j = (⊥ : EReal) := by
  simp [constant, FloatOps.ofBits, Ideal.ofBits, Ideal.ieee]

/-- A maximum from `⊥` of terms not all `⊥` is one of the terms. -/
theorem fold_max_attained {ι : Type} [Fintype ι] (f : ι → EReal) {j : ι} (hj : f j ≠ ⊥) :
    ∃ i, f i ≠ ⊥ ∧ Finset.univ.fold max ⊥ f = f i := by
  obtain ⟨i, -, hi⟩ := Finset.exists_mem_eq_sup (Finset.univ : Finset ι) ⟨j, Finset.mem_univ j⟩ f
  refine ⟨i, fun h => hj ?_, hi⟩
  exact le_bot_iff.mp (h ▸ hi ▸ Finset.le_sup (Finset.mem_univ j))

include hX

theorem v6 (r : Fin 4) (n : Fin 8) (i : Fin 128) (h : Fin 8) (d : Fin 64) :
    val_main_v6 (F := Ideal) x0 (ix5 r n i h d) = ((qv X r n h i d : ℝ) : EReal) := by
  unfold val_main_v6 val_main_v5 val_main_v4 val_main_v1 val_main_v0
  pointwise
  rw [hX]
  rfl

theorem v15 (r : Fin 4) (n : Fin 8) (j : Fin 256) (h : Fin 8) (d : Fin 64) :
    val_main_v15 (F := Ideal) x0 (ix5 r n j h d) = ((kv X 512 r n h j d : ℝ) : EReal) := by
  unfold val_main_v15 val_main_v13 val_main_v12 val_main_v11 val_main_v9 val_main_v8 val_main_v7 val_main_v2 val_main_v0 val_main_cst
  pointwise
  simp only [hX, kv]
  split <;> [split <;> [simp [Ideal.ofBits, Ideal.ieee]; rfl]; rfl]

theorem v24 (r : Fin 4) (n : Fin 8) (j : Fin 256) (h : Fin 8) (d : Fin 64) :
    val_main_v24 (F := Ideal) x0 (ix5 r n j h d) = ((kv X 1024 r n h j d : ℝ) : EReal) := by
  unfold val_main_v24 val_main_v22 val_main_v21 val_main_v20 val_main_v18 val_main_v17 val_main_v16 val_main_v3 val_main_v0 val_main_cst_1
  pointwise
  simp only [hX, kv]
  split <;> [split <;> [simp [Ideal.ofBits, Ideal.ieee]; rfl]; rfl]

theorem v25 (r : Fin 4) (n : Fin 8) (h : Fin 8) (i : Fin 128) (j : Fin 256) :
    val_main_v25 (F := Ideal) x0 (ix5 r n h i j) = ((sc (qv X r n h) (kv X 512 r n h) i j : ℝ) : EReal) := by
  unfold val_main_v25
  pointwise
  simp only [v6 hX, v15 hX, sc, coe_sum, EReal.coe_mul]

omit hX in
theorem v54 (n : Fin 8) (z : Fin 1) (i : Fin 128) (j : Fin 256) :
    val_main_v54 (F := Ideal) (ix4 n z i j) = if ok n i j then 1#1 else 0#1 := by
  unfold val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_c val_main_c_3 val_main_c_4 val_main_c_5 val_main_c_6
  pointwise
  have tn : ∀ a : ℕ, a < 2 ^ 31 → (BitVec.ofNat 32 a).toInt = (a : Int) := fun a ha => by
    rw [BitVec.toInt_eq_toNat_of_lt (by simp; omega)]
    simp; omega
  have l : (128#32 : BitVec 32).toInt = 128 := by decide
  have e0 : (IntOp.muli (BitVec.ofNat 32 ↑n) 128#32).toInt = (n.val : Int) * 128 := by
    rw [WordCmp.muli_ofNat, tn _ (by omega)]
    rfl
  have e2 : (IntOp.addi (IntOp.subi (IntOp.muli (BitVec.ofNat 32 ↑n) 128#32) 128#32) (BitVec.ofNat 32 ↑j)).toInt = (n.val : Int) * 128 - 128 + j.val := by
    rw [IntOp.addi, IntOp.subi, BitVec.toInt_add, BitVec.toInt_sub, e0, l, tn _ (by omega)]
    simp only [Int.bmod_def]
    omega
  have e1 : (IntOp.subi (IntOp.addi (IntOp.muli (BitVec.ofNat 32 ↑n) 128#32) (BitVec.ofNat 32 ↑i))
      (IntOp.addi (IntOp.subi (IntOp.muli (BitVec.ofNat 32 ↑n) 128#32) 128#32) (BitVec.ofNat 32 ↑j))).toInt = (i.val : Int) + 128 - j.val := by
    rw [IntOp.subi, BitVec.toInt_sub, e2, IntOp.addi, BitVec.toInt_add, e0, tn _ (by omega)]
    simp only [Int.bmod_def]
    omega
  simp only [WordCmp.cmpi_sge_eq, WordCmp.cmpi_sle_eq, e1, e2]
  have z0 : (0#32 : BitVec 32).toInt = 0 := by decide
  simp only [IntOp.andi, ok, WordCmp.ofBool_decide_eq_ite, z0, l]
  have h1 : (0 : Int) ≤ i.val + 128 - j.val ↔ j.val ≤ i.val + 128 := by omega
  have h2 : (i.val : Int) + 128 - j.val ≤ 128 ↔ i.val ≤ j.val := by omega
  have h3 : (0 : Int) ≤ n.val * 128 - 128 + j.val ↔ 128 ≤ n.val * 128 + j.val := by omega
  simp only [h1, h2, h3]
  by_cases g1 : i.val ≤ j.val <;> by_cases g2 : j.val ≤ i.val + 128 <;> by_cases g3 : 128 ≤ n.val * 128 + j.val <;> simp [g1, g2, g3]

theorem v55 (r : Fin 4) (n : Fin 8) (h : Fin 8) (i : Fin 128) (j : Fin 256) :
    val_main_v55_0 (F := Ideal) x0 (ix5 r n h i j) = if ok n i j then ((sc (qv X r n h) (kv X 512 r n h) i j : ℝ) : EReal) else ⊥ := by
  unfold val_main_v55_0 val_main_v55_1 val_main_call0_v2 val_main_call0_v0 val_main_cst_7
  pointwise
  rw [v54, v25 hX, KernelIdeal.Slice.select_ite]
  exact if_congr Iff.rfl rfl (neg_inf _)

theorem v56 (r : Fin 4) (n : Fin 8) (h : Fin 8) (i : Fin 128) :
    ∃ j : Fin 256, ok n i j ∧ val_main_v56 (F := Ideal) x0 (ix4 r n h i) = ((sc (qv X r n h) (kv X 512 r n h) i j : ℝ) : EReal) := by
  unfold val_main_v56 val_main_cst_8
  pointwise
  have hb : Ideal.ofBits .f32 0xFF800000#32 = (⊥ : EReal) := by simp [Ideal.ofBits, Ideal.ieee]
  rw [hb]
  obtain ⟨j, hj, e⟩ := fold_max_attained (fun j : Fin 256 => val_main_v55_0 (F := Ideal) x0 (ix5 r n h i j)) (j := ⟨i.val + 128, by omega⟩)
    (by rw [v55 hX, if_pos ok_diag]; exact EReal.coe_ne_bot _)
  rw [v55 hX] at hj
  have hok : ok n i j := by by_contra hn; simp [hn] at hj
  exact ⟨j, hok, by rw [e, v55 hX, if_pos hok]⟩

/-- The row maximum as a real number. -/
def mx (x0 : FVec Ideal S4096x1536 .bf16) (r : Fin 4) (n h : Fin 8) (i : Fin 128) : ℝ := (val_main_v56 (F := Ideal) x0 (ix4 r n h i)).toReal

theorem v56_eq (r : Fin 4) (n : Fin 8) (h : Fin 8) (i : Fin 128) :
    val_main_v56 (F := Ideal) x0 (ix4 r n h i) = ((mx x0 r n h i : ℝ) : EReal) := by
  obtain ⟨j, -, e⟩ := v56 hX r n h i
  rw [mx, e, EReal.toReal_coe]

/-- Whether an entry is its row's maximum, as a number. -/
def cn (x0 : FVec Ideal S4096x1536 .bf16) (r : Fin 4) (n h : Fin 8) (i : Fin 128) (j : Fin 256) : ℝ :=
  if val_main_v55_0 (F := Ideal) x0 (ix5 r n h i j) = val_main_v56 (F := Ideal) x0 (ix4 r n h i) then 1 else 0

omit hX in
theorem v60 (r : Fin 4) (n : Fin 8) (h : Fin 8) (i : Fin 128) (j : Fin 256) :
    val_main_v60 (F := Ideal) x0 (ix5 r n h i j) = ((cn x0 r n h i j : ℝ) : EReal) := by
  unfold val_main_v60 val_main_v59 val_main_v58 val_main_v57
  pointwise
  rw [cn]
  by_cases e : val_main_v55_0 (F := Ideal) x0 (ix5 r n h i j) = val_main_v56 (F := Ideal) x0 (ix4 r n h i) <;>
    simp [e] <;> simp [FloatOps.uitofp]

/-- At least one entry is its row's maximum. -/
theorem count_pos (r : Fin 4) (n : Fin 8) (h : Fin 8) (i : Fin 128) : 0 < ∑ j : Fin 256, cn x0 r n h i j := by
  obtain ⟨j, hj, e⟩ := v56 hX r n h i
  refine Finset.sum_pos' (fun j _ => by unfold cn; split <;> norm_num) ⟨j, Finset.mem_univ _, ?_⟩
  rw [cn, if_pos (by rw [v55 hX, if_pos hj, e])]
  exact one_pos

omit hX in
theorem v61 (r : Fin 4) (n : Fin 8) (h : Fin 8) (i : Fin 128) :
    val_main_v61 (F := Ideal) x0 (ix4 r n h i) = ((∑ j : Fin 256, cn x0 r n h i j : ℝ) : EReal) := by
  unfold val_main_v61 val_main_cst_9
  pointwise
  simp only [v60, coe_sum]

theorem v65 (r : Fin 4) (n : Fin 8) (h : Fin 8) (i : Fin 128) (j : Fin 256) :
    val_main_v65 (F := Ideal) x0 (ix5 r n h i j) = ((we n (qv X r n h) (kv X 512 r n h) i j * Real.exp (-mx x0 r n h i) : ℝ) : EReal) := by
  unfold val_main_v65 val_main_v64 val_main_v63 val_main_v62
  pointwise
  rw [v55 hX, v56_eq hX, we]
  split
  · rw [← EReal.coe_sub, Ideal.exp_coe, ← Real.exp_add, sub_eq_add_neg]
  · rw [EReal.bot_sub, Ideal.exp_bot, zero_mul]; rfl

/-- The softmax's denominator, as the reference scales it by the row maximum. -/
def rd (x0 : FVec Ideal S4096x1536 .bf16) (X : ℕ → ℕ → ℝ) (r : Fin 4) (n h : Fin 8) (i : Fin 128) : ℝ :=
  den n (qv X r n h) (kv X 512 r n h) i * Real.exp (-mx x0 r n h i)

omit hX in
theorem rd_pos (r : Fin 4) (n h : Fin 8) (i : Fin 128) : 0 < rd x0 X r n h i :=
  mul_pos (den_pos _ _ _ i.isLt) (Real.exp_pos _)

omit hX in
theorem rd_ne (r : Fin 4) (n h : Fin 8) (i : Fin 128) : rd x0 X r n h i ≠ 0 := (rd_pos r n h i).ne'

theorem v67 (r : Fin 4) (n : Fin 8) (h : Fin 8) (i : Fin 128) (z : Fin 1) :
    val_main_v67 (F := Ideal) x0 (ix5 r n h i z) = ((rd x0 X r n h i : ℝ) : EReal) := by
  unfold val_main_v67 val_main_v66 val_main_cst_10
  pointwise
  simp only [v65 hX, ← coe_sum, ← Finset.sum_mul]
  rfl

omit hX in
theorem we_div_rd (r : Fin 4) (n h : Fin 8) (i : Fin 128) (j : ℕ) :
    we n (qv X r n h) (kv X 512 r n h) i j * Real.exp (-mx x0 r n h i) * (1 / rd x0 X r n h i) = pr n (qv X r n h) (kv X 512 r n h) i j := by
  have h1 := (den_pos n (qv X r n h) (kv X 512 r n h) i.isLt).ne'
  have h2 := (Real.exp_pos (-mx x0 r n h i)).ne'
  rw [rd, pr]
  field_simp

theorem v69 (r : Fin 4) (n : Fin 8) (h : Fin 8) (i : Fin 128) (j : Fin 256) :
    val_main_v69 (F := Ideal) x0 (ix5 r n h i j) = ((pr n (qv X r n h) (kv X 512 r n h) i j : ℝ) : EReal) := by
  unfold val_main_v69 val_main_v68
  pointwise
  rw [v65 hX, v67 hX, Ideal.div_coe (rd_ne r n h i), ← EReal.coe_mul, we_div_rd]

theorem v72 (r : Fin 4) (n : Fin 8) (h : Fin 8) (i : Fin 128) (z : Fin 1) :
    val_main_v72 (F := Ideal) x0 (ix5 r n h i z) = ((1 / (rd x0 X r n h i * rd x0 X r n h i) : ℝ) : EReal) := by
  unfold val_main_v72 val_main_v71 val_main_v70 val_main_cst_11
  pointwise
  rw [v67 hX, ← EReal.coe_mul, Ideal.div_coe (mul_ne_zero (rd_ne r n h i) (rd_ne r n h i)), one_mul]

theorem v74 (r : Fin 4) (n : Fin 8) (i : Fin 128) (h : Fin 8) (d : Fin 64) :
    val_main_v74 (F := Ideal) x0 (ix5 r n i h d) = ((ou n (qv X r n h) (kv X 512 r n h) (kv X 1024 r n h) i d : ℝ) : EReal) := by
  unfold val_main_v74 val_main_v73
  pointwise
  simp only [v24 hX, v69 hX, ou, coe_sum, EReal.coe_mul, mul_comm]

omit hX in
theorem v62_at (r : Fin 4) (n : Fin 8) (h : Fin 8) (i : Fin 128) (z : Fin 1) :
    val_main_v62 (F := Ideal) x0 (ix5 r n h i z) = val_main_v56 (F := Ideal) x0 (ix4 r n h i) := by
  unfold val_main_v62
  generalize val_main_v56 (F := Ideal) x0 = w
  pointwise

omit hX in
theorem v76_log (r : Fin 4) (n : Fin 8) (h : Fin 8) (i : Fin 128) (z : Fin 1) :
    val_main_v76 (F := Ideal) x0 (ix5 r n h i z) = val_main_v56 (F := Ideal) x0 (ix4 r n h i) + Ideal.log (val_main_v67 (F := Ideal) x0 (ix5 r n h i z)) := by
  rw [val_main_v76_apply, val_main_v75_apply, v62_at]
  generalize val_main_v67 (F := Ideal) x0 (ix5 r n h i z) = y
  generalize val_main_v56 (F := Ideal) x0 (ix4 r n h i) = w
  rfl

omit hX in
theorem mx_add_log (r : Fin 4) (n : Fin 8) (h : Fin 8) (i : Fin 128) :
    mx x0 r n h i + Real.log (rd x0 X r n h i) = Real.log (den n (qv X r n h) (kv X 512 r n h) i) := by
  rw [rd, Real.log_mul (den_pos _ _ _ i.isLt).ne' (Real.exp_pos _).ne', Real.log_exp]
  ring

theorem v76 (r : Fin 4) (n : Fin 8) (h : Fin 8) (i : Fin 128) (z : Fin 1) :
    val_main_v76 (F := Ideal) x0 (ix5 r n h i z) = ((Real.log (den n (qv X r n h) (kv X 512 r n h) i) : ℝ) : EReal) := by
  rw [v76_log, v56_eq hX, v67 hX, Ideal.log_coe, if_neg (rd_pos r n h i).not_ge, ← EReal.coe_add, mx_add_log]

theorem v85 (a : Fin 4096) (b : Fin 512) :
    val_main_v85 (F := Ideal) x0 (ix2 a b) = ((ou (a / 4 / 128) (qv X (a % 4) (a / 4 / 128) (b / 64)) (kv X 512 (a % 4) (a / 4 / 128) (b / 64)) (kv X 1024 (a % 4) (a / 4 / 128) (b / 64)) (a / 4 % 128) (b % 64) : ℝ) : EReal) := by
  unfold val_main_v85 val_main_v81 val_main_v80 val_main_v79
  pointwise
  rw [v74 hX]

theorem v88 (a : Fin 4096) (b : Fin 512) :
    val_main_v88 (F := Ideal) x0 (ix2 a b) = ((Real.log (den (a / 4 / 128) (qv X (a % 4) (a / 4 / 128) (b / 64)) (kv X 512 (a % 4) (a / 4 / 128) (b / 64)) (a / 4 % 128)) : ℝ) : EReal) := by
  unfold val_main_v88 val_main_v87 val_main_v86 val_main_v84 val_main_v83 val_main_v82 val_main_v78 val_main_v77
  pointwise
  rw [v76 hX]

end Cert.ReferenceIdeal.Grad

end
-- ==== Proof.Blocks.lean ====
/- The blocks a grid point reads, as blocks of real numbers: of the projections, of the forward output and log-sum-exp, and of the cotangents. -/
module

public import proofs.«01_k».proof.Proof.Point
public import proofs.«01_k».proof.Proof.Host
public import proofs.«01_k».proof.Proof.Heads
public import proofs.«01_k».proof.Proof.RefFwd

@[expose] public section

set_option maxRecDepth 16384

noncomputable section

namespace Cert.KernelIdeal.Blocks

open Cert.KernelIdeal Cert.KernelIdeal.Gen Cert.KernelIdeal.Host Cert.KernelIdeal.Slice Cert.KernelIdeal.Heads Cert.Math
open Idealize.ShloMosaic Idealize.ShloMosaic.TcCoe Idealize.SL.Sem

/-! ## Which block a point reads -/

theorem index0 : ∀ t : Fin cfg0.N, t.val < 32 → (cfg0.win 0).index t (0 : Fin 2) = t.val % 8 ∧ (cfg0.win 0).index t (1 : Fin 2) = 3 * (t.val / 8) := by
  decide +kernel
theorem index1 : ∀ t : Fin cfg0.N, t.val < 32 → (cfg0.win 1).index t (0 : Fin 2) = t.val % 8 - 1 ∧ (cfg0.win 1).index t (1 : Fin 2) = 3 * (t.val / 8) + 1 := by
  decide +kernel
theorem index2 : ∀ t : Fin cfg0.N, t.val < 32 → (cfg0.win 2).index t (0 : Fin 2) = t.val % 8 ∧ (cfg0.win 2).index t (1 : Fin 2) = 3 * (t.val / 8) + 1 := by
  decide +kernel
theorem index3 : ∀ t : Fin cfg0.N, t.val < 32 → (cfg0.win 3).index t (0 : Fin 2) = t.val % 8 - 1 ∧ (cfg0.win 3).index t (1 : Fin 2) = 3 * (t.val / 8) + 2 := by
  decide +kernel
theorem index4 : ∀ t : Fin cfg0.N, t.val < 32 → (cfg0.win 4).index t (0 : Fin 2) = t.val % 8 ∧ (cfg0.win 4).index t (1 : Fin 2) = 3 * (t.val / 8) + 2 := by
  decide +kernel
theorem index5 : ∀ t : Fin cfg0.N, t.val < 32 → (cfg0.win 5).index t (0 : Fin 2) = t.val % 8 ∧ (cfg0.win 5).index t (1 : Fin 2) = t.val / 8 := by
  decide +kernel
theorem index6 : ∀ t : Fin cfg0.N, t.val < 32 → (cfg0.win 6).index t (0 : Fin 2) = t.val % 8 ∧ (cfg0.win 6).index t (1 : Fin 2) = t.val / 8 := by
  decide +kernel
theorem index7 : ∀ t : Fin cfg0.N, t.val < 32 → (cfg0.win 7).index t (0 : Fin 2) = t.val % 8 ∧ (cfg0.win 7).index t (1 : Fin 2) = t.val / 8 := by
  decide +kernel
theorem index8 : ∀ t : Fin cfg0.N, t.val < 32 → (cfg0.win 8).index t (0 : Fin 2) = t.val % 8 ∧ (cfg0.win 8).index t (1 : Fin 2) = t.val / 8 := by
  decide +kernel

variable (m : (ℓ : Loc nD τ sig) → Buf (Elt Ideal) ℓ) (c : Dev nD) {X Y Z : ℕ → ℕ → ℝ}
  (hX : ∀ (i : Fin 4096) (j : Fin 1536), (X0 m c : FVec Ideal S4096x1536 .bf16) (ix2 i j) = ((X i.val j.val : ℝ) : EReal))
  (hY : ∀ (i : Fin 4096) (j : Fin 512), (X1 m c : FVec Ideal S4096x512 .bf16) (ix2 i j) = ((Y i.val j.val : ℝ) : EReal))
  (hZ : ∀ (i : Fin 4096) (j : Fin 512), (X2 m c : FVec Ideal S4096x512 .f32) (ix2 i j) = ((Z i.val j.val : ℝ) : EReal))

/-! ## The arrays, entry by entry -/

include hX in
theorem entry80 (p : Fin 1024) (q : Fin 6144) :
    (V m c main_v80 : FVec Ideal S1024x6144 .bf16) (ix2 p q) = ((X (p.val * 4 + q.val / 1536) (q.val % 1536) : ℝ) : EReal) := by
  rw [V80]
  generalize X0 m c = x at hX
  pointwise
  rw [hX]

include hY in
theorem entry83 (p : Fin 1024) (q : Fin 2048) :
    (V m c main_v83 : FVec Ideal S1024x2048 .bf16) (ix2 p q) = ((Y (p.val * 4 + q.val / 512) (q.val % 512) : ℝ) : EReal) := by
  rw [V83]
  generalize X1 m c = x at hY
  pointwise
  rw [hY]

include hZ in
theorem entry84 (p : Fin 1024) (q : Fin 2048) :
    (V m c main_v84 : FVec Ideal S1024x2048 .f32) (ix2 p q) = ((Z (p.val * 4 + q.val / 512) (q.val % 512) : ℝ) : EReal) := by
  rw [V84]
  generalize X2 m c = x at hZ
  pointwise
  rw [hZ]

/-- The forward output's entry at row `a` and lane `b`. -/
abbrev outAt (X : ℕ → ℕ → ℝ) (a b : ℕ) : ℝ :=
  ou (a / 4 / 128) (qv X (a % 4) (a / 4 / 128) (b / 64)) (kv X 512 (a % 4) (a / 4 / 128) (b / 64)) (kv X 1024 (a % 4) (a / 4 / 128) (b / 64)) (a / 4 % 128) (b % 64)
/-- The log-sum-exp's entry at row `a` and lane `b`. -/
abbrev lseAt (X : ℕ → ℕ → ℝ) (a b : ℕ) : ℝ :=
  Real.log (den (a / 4 / 128) (qv X (a % 4) (a / 4 / 128) (b / 64)) (kv X 512 (a % 4) (a / 4 / 128) (b / 64)) (a / 4 % 128))

include hX in
theorem entry81 (p : Fin 1024) (q : Fin 2048) :
    (V m c main_v81 : FVec Ideal S1024x2048 .bf16) (ix2 p q) = ((outAt X (p.val * 4 + q.val / 512) (q.val % 512) : ℝ) : EReal) := by
  rw [V81]
  have h := ReferenceIdeal.Grad.v85 hX
  generalize ReferenceIdeal.Read.val_main_v85 (F := Ideal) (X0 m c) = x at h
  pointwise
  exact h ..

include hX in
theorem entry82 (p : Fin 1024) (q : Fin 2048) :
    (V m c main_v82 : FVec Ideal S1024x2048 .f32) (ix2 p q) = ((lseAt X (p.val * 4 + q.val / 512) (q.val % 512) : ℝ) : EReal) := by
  rw [V82]
  have h := ReferenceIdeal.Grad.v88 hX
  generalize ReferenceIdeal.Read.val_main_v88 (F := Ideal) (X0 m c) = x at h
  pointwise
  exact h ..

/-! ## A block's entry is the array's at the block's place, whatever the arrays hold -/

section
variable (W : (b : Ref sig Kind.tc) → Buf (Elt Ideal) ((c : Thread nD τ).loc b)) {t : Fin cfg0.N} (ht : t.val < 32) (i : Fin 128) (l : Fin 512)
include ht

theorem at0 : View.read (Elt Ideal) ((cfg0.win 0).blk t).view (W (Pipeline.arrRef spec0 0)) (ix2 i l) =
    W main_v80 (ix2 (⟨t.val % 8 * 128 + i.val, by omega⟩ : Fin 1024) (⟨3 * (t.val / 8) * 512 + l.val, by omega⟩ : Fin 6144)) := by
  blk_ext [(index0 t ht).1, (index0 t ht).2]

theorem at1 : View.read (Elt Ideal) ((cfg0.win 1).blk t).view (W (Pipeline.arrRef spec0 1)) (ix2 i l) =
    W main_v80 (ix2 (⟨(t.val % 8 - 1) * 128 + i.val, by omega⟩ : Fin 1024) (⟨(3 * (t.val / 8) + 1) * 512 + l.val, by omega⟩ : Fin 6144)) := by
  blk_ext [(index1 t ht).1, (index1 t ht).2]

theorem at2 : View.read (Elt Ideal) ((cfg0.win 2).blk t).view (W (Pipeline.arrRef spec0 2)) (ix2 i l) =
    W main_v80 (ix2 (⟨(t.val % 8) * 128 + i.val, by omega⟩ : Fin 1024) (⟨(3 * (t.val / 8) + 1) * 512 + l.val, by omega⟩ : Fin 6144)) := by
  blk_ext [(index2 t ht).1, (index2 t ht).2]

theorem at3 : View.read (Elt Ideal) ((cfg0.win 3).blk t).view (W (Pipeline.arrRef spec0 3)) (ix2 i l) =
    W main_v80 (ix2 (⟨(t.val % 8 - 1) * 128 + i.val, by omega⟩ : Fin 1024) (⟨(3 * (t.val / 8) + 2) * 512 + l.val, by omega⟩ : Fin 6144)) := by
  blk_ext [(index3 t ht).1, (index3 t ht).2]

theorem at4 : View.read (Elt Ideal) ((cfg0.win 4).blk t).view (W (Pipeline.arrRef spec0 4)) (ix2 i l) =
    W main_v80 (ix2 (⟨(t.val % 8) * 128 + i.val, by omega⟩ : Fin 1024) (⟨(3 * (t.val / 8) + 2) * 512 + l.val, by omega⟩ : Fin 6144)) := by
  blk_ext [(index4 t ht).1, (index4 t ht).2]

theorem at5 : View.read (Elt Ideal) ((cfg0.win 5).blk t).view (W (Pipeline.arrRef spec0 5)) (ix2 i l) =
    W main_v81 (ix2 (⟨(t.val % 8) * 128 + i.val, by omega⟩ : Fin 1024) (⟨(t.val / 8) * 512 + l.val, by omega⟩ : Fin 2048)) := by
  blk_ext [(index5 t ht).1, (index5 t ht).2]

theorem at6 : View.read (Elt Ideal) ((cfg0.win 6).blk t).view (W (Pipeline.arrRef spec0 6)) (ix2 i l) =
    W main_v82 (ix2 (⟨(t.val % 8) * 128 + i.val, by omega⟩ : Fin 1024) (⟨(t.val / 8) * 512 + l.val, by omega⟩ : Fin 2048)) := by
  blk_ext [(index6 t ht).1, (index6 t ht).2]

theorem at7 : View.read (Elt Ideal) ((cfg0.win 7).blk t).view (W (Pipeline.arrRef spec0 7)) (ix2 i l) =
    W main_v83 (ix2 (⟨(t.val % 8) * 128 + i.val, by omega⟩ : Fin 1024) (⟨(t.val / 8) * 512 + l.val, by omega⟩ : Fin 2048)) := by
  blk_ext [(index7 t ht).1, (index7 t ht).2]

theorem at8 : View.read (Elt Ideal) ((cfg0.win 8).blk t).view (W (Pipeline.arrRef spec0 8)) (ix2 i l) =
    W main_v84 (ix2 (⟨(t.val % 8) * 128 + i.val, by omega⟩ : Fin 1024) (⟨(t.val / 8) * 512 + l.val, by omega⟩ : Fin 2048)) := by
  blk_ext [(index8 t ht).1, (index8 t ht).2]

end

/-! ## The blocks, stretch by stretch -/

/-- The stretch of a lane of the block, and the lane in its stretch. -/
def kof (l : Fin 512) : Fin 4 := ⟨l.val / 128, by omega⟩
def lof (l : Fin 512) : Fin 128 := ⟨l.val % 128, by omega⟩

/-- The head of a lane of the block, and its lane in the head. -/
theorem lane_head (l : ℕ) : 2 * (l / 128) + l % 128 / 64 = l / 64 := by omega
theorem lane_in (l : ℕ) : l % 128 / 64 * 64 + l % 64 = l % 128 := by omega

variable {t : Fin cfg0.N} (ht : t.val < 32) (k : Fin 4)
include ht

include hX in
theorem blk0 : Holds (φ := .bf16) (stretch k (iblk m c 0 t)) (blk X 0 (t.val / 8) (t.val % 8) k.val) := by
  intro i l
  rw [stretch_apply]
  have e : iblk m c 0 t (ix2 ⟨i.val, i.isLt⟩ ⟨128 * k.val + l.val, by omega⟩) =
      V m c main_v80 (ix2 ⟨t.val % 8 * 128 + i.val, by omega⟩ ⟨3 * (t.val / 8) * 512 + (128 * k.val + l.val), by omega⟩) := by
    exact at0 c (V m c) ht _ _
  rw [e, entry80 m c hX]
  unfold blk
  congr 2 <;> dsimp only <;> omega

include hX in
theorem blk1 : Holds (φ := .bf16) (stretch k (iblk m c 1 t)) (blk X 512 (t.val / 8) (t.val % 8 - 1) k.val) := by
  intro i l
  rw [stretch_apply]
  have e : iblk m c 1 t (ix2 ⟨i.val, i.isLt⟩ ⟨128 * k.val + l.val, by omega⟩) =
      V m c main_v80 (ix2 ⟨(t.val % 8 - 1) * 128 + i.val, by omega⟩ ⟨(3 * (t.val / 8) + 1) * 512 + (128 * k.val + l.val), by omega⟩) := by
    exact at1 c (V m c) ht _ _
  rw [e, entry80 m c hX]
  unfold blk
  congr 2 <;> dsimp only <;> omega

include hX in
theorem blk2 : Holds (φ := .bf16) (stretch k (iblk m c 2 t)) (blk X 512 (t.val / 8) (t.val % 8) k.val) := by
  intro i l
  rw [stretch_apply]
  have e : iblk m c 2 t (ix2 ⟨i.val, i.isLt⟩ ⟨128 * k.val + l.val, by omega⟩) =
      V m c main_v80 (ix2 ⟨(t.val % 8) * 128 + i.val, by omega⟩ ⟨(3 * (t.val / 8) + 1) * 512 + (128 * k.val + l.val), by omega⟩) := by
    exact at2 c (V m c) ht _ _
  rw [e, entry80 m c hX]
  unfold blk
  congr 2 <;> dsimp only <;> omega

include hX in
theorem blk3 : Holds (φ := .bf16) (stretch k (iblk m c 3 t)) (blk X 1024 (t.val / 8) (t.val % 8 - 1) k.val) := by
  intro i l
  rw [stretch_apply]
  have e : iblk m c 3 t (ix2 ⟨i.val, i.isLt⟩ ⟨128 * k.val + l.val, by omega⟩) =
      V m c main_v80 (ix2 ⟨(t.val % 8 - 1) * 128 + i.val, by omega⟩ ⟨(3 * (t.val / 8) + 2) * 512 + (128 * k.val + l.val), by omega⟩) := by
    exact at3 c (V m c) ht _ _
  rw [e, entry80 m c hX]
  unfold blk
  congr 2 <;> dsimp only <;> omega

include hX in
theorem blk4 : Holds (φ := .bf16) (stretch k (iblk m c 4 t)) (blk X 1024 (t.val / 8) (t.val % 8) k.val) := by
  intro i l
  rw [stretch_apply]
  have e : iblk m c 4 t (ix2 ⟨i.val, i.isLt⟩ ⟨128 * k.val + l.val, by omega⟩) =
      V m c main_v80 (ix2 ⟨(t.val % 8) * 128 + i.val, by omega⟩ ⟨(3 * (t.val / 8) + 2) * 512 + (128 * k.val + l.val), by omega⟩) := by
    exact at4 c (V m c) ht _ _
  rw [e, entry80 m c hX]
  unfold blk
  congr 2 <;> dsimp only <;> omega

include hX in
theorem blk5 : Holds (φ := .bf16) (stretch k (iblk m c 5 t)) (ob X (t.val / 8) (t.val % 8) k.val) := by
  intro i l
  rw [stretch_apply]
  have e : iblk m c 5 t (ix2 ⟨i.val, i.isLt⟩ ⟨128 * k.val + l.val, by omega⟩) =
      V m c main_v81 (ix2 ⟨(t.val % 8) * 128 + i.val, by omega⟩ ⟨(t.val / 8) * 512 + (128 * k.val + l.val), by omega⟩) := by
    exact at5 c (V m c) ht _ _
  rw [e, entry81 m c hX]
  have ea : ((t.val % 8 * 128 + i.val) * 4 + (t.val / 8 * 512 + (128 * k.val + l.val)) / 512) = ((t.val % 8) * 128 + i.val) * 4 + t.val / 8 := by omega
  have eb : (t.val / 8 * 512 + (128 * k.val + l.val)) % 512 = 128 * k.val + l.val := by omega
  have e4 : (((t.val % 8) * 128 + i.val) * 4 + t.val / 8) % 4 = t.val / 8 := by omega
  have en : (((t.val % 8) * 128 + i.val) * 4 + t.val / 8) / 4 / 128 = t.val % 8 := by omega
  have ei : (((t.val % 8) * 128 + i.val) * 4 + t.val / 8) / 4 % 128 = i.val := by omega
  have eh : (128 * k.val + l.val) / 64 = 2 * k.val + l.val / 64 := by omega
  have ed : (128 * k.val + l.val) % 64 = l.val % 64 := by omega
  simp only [ea, eb, outAt, lseAt, e4, en, ei, eh, ed]
  rfl

include hX in
theorem blk6 : Holds (φ := .f32) (stretch k (iblk m c 6 t)) (lb X (t.val / 8) (t.val % 8) k.val) := by
  intro i l
  rw [stretch_apply]
  have e : iblk m c 6 t (ix2 ⟨i.val, i.isLt⟩ ⟨128 * k.val + l.val, by omega⟩) =
      V m c main_v82 (ix2 ⟨(t.val % 8) * 128 + i.val, by omega⟩ ⟨(t.val / 8) * 512 + (128 * k.val + l.val), by omega⟩) := by
    exact at6 c (V m c) ht _ _
  rw [e, entry82 m c hX]
  have ea : ((t.val % 8 * 128 + i.val) * 4 + (t.val / 8 * 512 + (128 * k.val + l.val)) / 512) = ((t.val % 8) * 128 + i.val) * 4 + t.val / 8 := by omega
  have eb : (t.val / 8 * 512 + (128 * k.val + l.val)) % 512 = 128 * k.val + l.val := by omega
  have e4 : (((t.val % 8) * 128 + i.val) * 4 + t.val / 8) % 4 = t.val / 8 := by omega
  have en : (((t.val % 8) * 128 + i.val) * 4 + t.val / 8) / 4 / 128 = t.val % 8 := by omega
  have ei : (((t.val % 8) * 128 + i.val) * 4 + t.val / 8) / 4 % 128 = i.val := by omega
  have eh : (128 * k.val + l.val) / 64 = 2 * k.val + l.val / 64 := by omega
  simp only [ea, eb, outAt, lseAt, e4, en, ei, eh]
  rfl

include hY in
theorem blk7 : Holds (φ := .bf16) (stretch k (iblk m c 7 t)) (blk Y 0 (t.val / 8) (t.val % 8) k.val) := by
  intro i l
  rw [stretch_apply]
  have e : iblk m c 7 t (ix2 ⟨i.val, i.isLt⟩ ⟨128 * k.val + l.val, by omega⟩) =
      V m c main_v83 (ix2 ⟨(t.val % 8) * 128 + i.val, by omega⟩ ⟨(t.val / 8) * 512 + (128 * k.val + l.val), by omega⟩) := by
    exact at7 c (V m c) ht _ _
  rw [e, entry83 m c hY]
  unfold blk
  congr 2 <;> dsimp only <;> omega

include hZ in
theorem blk8 : Holds (φ := .f32) (stretch k (iblk m c 8 t)) (blk Z 0 (t.val / 8) (t.val % 8) k.val) := by
  intro i l
  rw [stretch_apply]
  have e : iblk m c 8 t (ix2 ⟨i.val, i.isLt⟩ ⟨128 * k.val + l.val, by omega⟩) =
      V m c main_v84 (ix2 ⟨(t.val % 8) * 128 + i.val, by omega⟩ ⟨(t.val / 8) * 512 + (128 * k.val + l.val), by omega⟩) := by
    exact at8 c (V m c) ht _ _
  rw [e, entry84 m c hZ]
  unfold blk
  congr 2 <;> dsimp only <;> omega

/-! ## What a point computes -/

include hX hY hZ in
theorem curQ_real (i : Fin 128) (l : Fin 512) :
    curQ m c t (ix2 i l) = ((gq X Y Z (t.val / 8) (t.val % 8) (l.val / 64) i.val (l.val % 64) : ℝ) : EReal) := by
  have h := sdq_real (q := stretch (kof l) (iblk m c 0 t)) (k := stretch (kof l) (iblk m c 1 t)) (k' := stretch (kof l) (iblk m c 2 t)) (v := stretch (kof l) (iblk m c 3 t)) (v' := stretch (kof l) (iblk m c 4 t))
    (o := stretch (kof l) (iblk m c 5 t)) (g := stretch (kof l) (iblk m c 7 t)) (l := stretch (kof l) (iblk m c 6 t)) (z := stretch (kof l) (iblk m c 8 t))
    (Q := blk X 0 (t.val / 8) (t.val % 8) (kof l).val) (K := blk X 512 (t.val / 8) (t.val % 8 - 1) (kof l).val) (K' := blk X 512 (t.val / 8) (t.val % 8) (kof l).val) (V := blk X 1024 (t.val / 8) (t.val % 8 - 1) (kof l).val) (V' := blk X 1024 (t.val / 8) (t.val % 8) (kof l).val)
    (O := ob X (t.val / 8) (t.val % 8) (kof l).val) (G := blk Y 0 (t.val / 8) (t.val % 8) (kof l).val) (L := lb X (t.val / 8) (t.val % 8) (kof l).val) (Z := blk Z 0 (t.val / 8) (t.val % 8) (kof l).val)
    (isMaskPrev t) isMaskCur (blk0 m c hX ht (kof l)) (blk1 m c hX ht (kof l)) (blk2 m c hX ht (kof l)) (blk3 m c hX ht (kof l))
    (blk4 m c hX ht (kof l)) (blk5 m c hX ht (kof l)) (blk7 m c hY ht (kof l)) (blk6 m c hX ht (kof l)) (blk8 m c hZ ht (kof l)) i (lof l)
  refine h.trans (congrArg _ ?_)
  have e := dq_eq X Y Z (t.val / 8) (t.val % 8) (l.val / 128) (h := l.val % 128 / 64) (by omega) (fun i j => i ≤ j ∧ t.val % 8 ≠ 0) (fun i j => j ≤ i)
    (fun _ _ => Iff.rfl) (fun _ _ => Iff.rfl) (t.val % 8 - 1) (fun _ => rfl) i.isLt (l.val % 64)
  rw [lane_in, lane_head] at e
  exact e

include hX hY hZ in
theorem curKc_real (j : Fin 128) (l : Fin 512) :
    curKc m c t (ix2 j l) = ((hk X Y Z (t.val / 8) (t.val % 8) (l.val / 64) (128 + j.val) (l.val % 64) : ℝ) : EReal) := by
  have h := sdk_real (q := stretch (kof l) (iblk m c 0 t)) (k := stretch (kof l) (iblk m c 2 t)) (v := stretch (kof l) (iblk m c 4 t))
    (o := stretch (kof l) (iblk m c 5 t)) (g := stretch (kof l) (iblk m c 7 t)) (l := stretch (kof l) (iblk m c 6 t)) (z := stretch (kof l) (iblk m c 8 t))
    (Q := blk X 0 (t.val / 8) (t.val % 8) (kof l).val) (K := blk X 512 (t.val / 8) (t.val % 8) (kof l).val) (V := blk X 1024 (t.val / 8) (t.val % 8) (kof l).val)
    (O := ob X (t.val / 8) (t.val % 8) (kof l).val) (G := blk Y 0 (t.val / 8) (t.val % 8) (kof l).val) (L := lb X (t.val / 8) (t.val % 8) (kof l).val) (Z := blk Z 0 (t.val / 8) (t.val % 8) (kof l).val)
    isMaskCur (blk0 m c hX ht (kof l)) (blk2 m c hX ht (kof l))
    (blk4 m c hX ht (kof l)) (blk5 m c hX ht (kof l)) (blk7 m c hY ht (kof l)) (blk6 m c hX ht (kof l)) (blk8 m c hZ ht (kof l)) j (lof l)
  refine h.trans (congrArg _ ?_)
  have e := dkc_eq X Y Z (t.val / 8) (t.val % 8) (l.val / 128) (h := l.val % 128 / 64) (by omega) (fun i j => j ≤ i)
    (fun _ _ => Iff.rfl) j.isLt (l.val % 64)
  rw [lane_in, lane_head] at e
  exact e

include hX hY hZ in
theorem curKp_real (j : Fin 128) (l : Fin 512) :
    curKp m c t (ix2 j l) = ((hk X Y Z (t.val / 8) (t.val % 8) (l.val / 64) j.val (l.val % 64) : ℝ) : EReal) := by
  have h := sdk_real (q := stretch (kof l) (iblk m c 0 t)) (k := stretch (kof l) (iblk m c 1 t)) (v := stretch (kof l) (iblk m c 3 t))
    (o := stretch (kof l) (iblk m c 5 t)) (g := stretch (kof l) (iblk m c 7 t)) (l := stretch (kof l) (iblk m c 6 t)) (z := stretch (kof l) (iblk m c 8 t))
    (Q := blk X 0 (t.val / 8) (t.val % 8) (kof l).val) (K := blk X 512 (t.val / 8) (t.val % 8 - 1) (kof l).val) (V := blk X 1024 (t.val / 8) (t.val % 8 - 1) (kof l).val)
    (O := ob X (t.val / 8) (t.val % 8) (kof l).val) (G := blk Y 0 (t.val / 8) (t.val % 8) (kof l).val) (L := lb X (t.val / 8) (t.val % 8) (kof l).val) (Z := blk Z 0 (t.val / 8) (t.val % 8) (kof l).val)
    (isMaskPrev t) (blk0 m c hX ht (kof l)) (blk1 m c hX ht (kof l))
    (blk3 m c hX ht (kof l)) (blk5 m c hX ht (kof l)) (blk7 m c hY ht (kof l)) (blk6 m c hX ht (kof l)) (blk8 m c hZ ht (kof l)) j (lof l)
  refine h.trans (congrArg _ ?_)
  have e := dkp_eq X Y Z (t.val / 8) (t.val % 8) (l.val / 128) (h := l.val % 128 / 64) (by omega) (fun i j => i ≤ j ∧ t.val % 8 ≠ 0)
    (fun _ _ => Iff.rfl) (t.val % 8 - 1) (fun _ => rfl) j.isLt (l.val % 64)
  rw [lane_in, lane_head] at e
  exact e

include hX hY in
theorem curVc_real (j : Fin 128) (l : Fin 512) :
    curVc m c t (ix2 j l) = ((hv X Y (t.val / 8) (t.val % 8) (l.val / 64) (128 + j.val) (l.val % 64) : ℝ) : EReal) := by
  have h := sdv_real (q := stretch (kof l) (iblk m c 0 t)) (k := stretch (kof l) (iblk m c 2 t)) (g := stretch (kof l) (iblk m c 7 t)) (l := stretch (kof l) (iblk m c 6 t))
    (Q := blk X 0 (t.val / 8) (t.val % 8) (kof l).val) (K := blk X 512 (t.val / 8) (t.val % 8) (kof l).val) (G := blk Y 0 (t.val / 8) (t.val % 8) (kof l).val) (L := lb X (t.val / 8) (t.val % 8) (kof l).val)
    isMaskCur (blk0 m c hX ht (kof l)) (blk2 m c hX ht (kof l)) (blk7 m c hY ht (kof l)) (blk6 m c hX ht (kof l))
    j (lof l)
  refine h.trans (congrArg _ ?_)
  have e := dvc_eq X Y (t.val / 8) (t.val % 8) (l.val / 128) (h := l.val % 128 / 64) (by omega) (fun i j => j ≤ i)
    (fun _ _ => Iff.rfl) j.isLt (l.val % 64)
  rw [lane_in, lane_head] at e
  exact e

include hX hY in
theorem curVp_real (j : Fin 128) (l : Fin 512) :
    curVp m c t (ix2 j l) = ((hv X Y (t.val / 8) (t.val % 8) (l.val / 64) j.val (l.val % 64) : ℝ) : EReal) := by
  have h := sdv_real (q := stretch (kof l) (iblk m c 0 t)) (k := stretch (kof l) (iblk m c 1 t)) (g := stretch (kof l) (iblk m c 7 t)) (l := stretch (kof l) (iblk m c 6 t))
    (Q := blk X 0 (t.val / 8) (t.val % 8) (kof l).val) (K := blk X 512 (t.val / 8) (t.val % 8 - 1) (kof l).val) (G := blk Y 0 (t.val / 8) (t.val % 8) (kof l).val) (L := lb X (t.val / 8) (t.val % 8) (kof l).val)
    (isMaskPrev t) (blk0 m c hX ht (kof l)) (blk1 m c hX ht (kof l)) (blk7 m c hY ht (kof l)) (blk6 m c hX ht (kof l))
    j (lof l)
  refine h.trans (congrArg _ ?_)
  have e := dvp_eq X Y (t.val / 8) (t.val % 8) (l.val / 128) (h := l.val % 128 / 64) (by omega) (fun i j => i ≤ j ∧ t.val % 8 ≠ 0)
    (fun _ _ => Iff.rfl) (t.val % 8 - 1) (fun _ => rfl) j.isLt (l.val % 64)
  rw [lane_in, lane_head] at e
  exact e

end Cert.KernelIdeal.Blocks

end
-- ==== Proof.Array.lean ====
/- The array the kernel leaves, entry by entry: the three gradients over the reals. -/
module

public import proofs.«01_k».proof.Proof.Blocks
public import proofs.«01_k».proof.Proof.Gen.KernelIdeal.Value

@[expose] public section

set_option maxRecDepth 16384

noncomputable section

namespace Cert.KernelIdeal.Array

open Cert.KernelIdeal Cert.KernelIdeal.Gen Cert.KernelIdeal.Host Cert.KernelIdeal.Slice Cert.KernelIdeal.Heads Cert.KernelIdeal.Blocks Cert.Math
open Idealize.ShloMosaic Idealize.ShloMosaic.TcCoe Idealize.SL.Sem

/-- The result's block of a point is the one of the point before; the first point writes nothing back. -/
theorem index9 : ∀ t : Fin cfg0.N, (cfg0.win 9).index t (0 : Fin 2) = (t.val - 1) % 8 ∧ (cfg0.win 9).index t (1 : Fin 2) = (t.val - 1) / 8 := by
  decide +kernel
theorem flush9 : ∀ t : Fin cfg0.N, (cfg0.win 9).flush t = decide (0 < t.val) := by decide +kernel
theorem points : ∀ t : Fin cfg0.N, t.val ≤ 32 := by decide +kernel

theorem three_apply (p : Fin 3 → FVec Ideal S128x512 .bf16) (i : Fin 128) (y : Fin 1536) (j : Fin 3) (l : Fin 512) (h : y.val = 512 * j.val + l.val) :
    three p (ix2 i y) = p j (ix2 i l) := by
  have e1 : (⟨y.val / 512, by omega⟩ : Fin 3) = j := Fin.ext (by show y.val / 512 = j.val; omega)
  have e2 : (⟨y.val % 512, by omega⟩ : Fin 512) = l := Fin.ext (by show y.val % 512 = l.val; omega)
  show p ⟨y.val / 512, _⟩ (ix2 i (⟨y.val % 512, _⟩ : Fin 512)) = _
  rw [e1, e2]

theorem outBlock_q (q k v kp vp : FVec Ideal S128x512 .f32) (i : Fin 128) (y : Fin 1536) (l : Fin 512) (h : y.val = l.val) :
    outBlock q k v kp vp (ix2 i y) = q (ix2 i l) := by
  unfold outBlock
  rw [three_apply _ i y 0 l (by simpa using h)]
  rfl

theorem outBlock_k (q k v kp vp : FVec Ideal S128x512 .f32) (i : Fin 128) (y : Fin 1536) (l : Fin 512) (h : y.val = 512 + l.val) :
    outBlock q k v kp vp (ix2 i y) = k (ix2 i l) + kp (ix2 i l) := by
  unfold outBlock
  rw [three_apply _ i y 1 l (by simpa using h)]
  rfl

theorem outBlock_v (q k v kp vp : FVec Ideal S128x512 .f32) (i : Fin 128) (y : Fin 1536) (l : Fin 512) (h : y.val = 1024 + l.val) :
    outBlock q k v kp vp (ix2 i y) = v (ix2 i l) + vp (ix2 i l) := by
  unfold outBlock
  rw [three_apply _ i y 2 l (by simpa using h)]
  rfl

variable (m : (ℓ : Loc nD τ sig) → Buf (Elt Ideal) ℓ) (c : Dev nD) {X Y Z : ℕ → ℕ → ℝ}
  (hX : ∀ (i : Fin 4096) (j : Fin 1536), (X0 m c : FVec Ideal S4096x1536 .bf16) (ix2 i j) = ((X i.val j.val : ℝ) : EReal))
  (hY : ∀ (i : Fin 4096) (j : Fin 512), (X1 m c : FVec Ideal S4096x512 .bf16) (ix2 i j) = ((Y i.val j.val : ℝ) : EReal))
  (hZ : ∀ (i : Fin 4096) (j : Fin 512), (X2 m c : FVec Ideal S4096x512 .f32) (ix2 i j) = ((Z i.val j.val : ℝ) : EReal))

/-! ## What a point leaves for the next one -/

theorem carq (s : Fin cfg0.N) (hs : s.val < 32) : (outsAt0 m c s.val s.isLt).2.1 = curQ m c s := by
  have e : (outsAt0 m c s.val s.isLt).2.1 = whole (curQ m c s) := by
    by_cases h : s.val % 33 = 0
    · exact carq_A m c s h (by omega) hs hs
    · exact carq_B m c s h (by omega) hs hs
  rw [e, whole, shapeCast_id]

theorem cark (s : Fin cfg0.N) (hs : s.val < 32) : (outsAt0 m c s.val s.isLt).2.2.1 = curKc m c s := by
  have e : (outsAt0 m c s.val s.isLt).2.2.1 = whole (curKc m c s) := by
    by_cases h : s.val % 33 = 0
    · exact cark_A m c s h (by omega) hs hs
    · exact cark_B m c s h (by omega) hs hs
  rw [e, whole, shapeCast_id]

theorem carv (s : Fin cfg0.N) (hs : s.val < 32) : (outsAt0 m c s.val s.isLt).2.2.2 = curVc m c s := by
  have e : (outsAt0 m c s.val s.isLt).2.2.2 = whole (curVc m c s) := by
    by_cases h : s.val % 33 = 0
    · exact carv_A m c s h (by omega) hs hs
    · exact carv_B m c s h (by omega) hs hs
  rw [e, whole, shapeCast_id]

/-- The block a point writes: the point before's, with its own parts for the keys and values of the block before it; the last point adds nothing. -/
theorem block (s t : Fin cfg0.N) (hst : t.val = s.val + 1) :
    (outsAt0 m c t.val t.isLt).1 = outBlock (curQ m c s) (curKc m c s) (curVc m c s) (if t.val < 32 then curKp m c t else zeros) (if t.val < 32 then curVp m c t else zeros) := by
  have hs : s.val < 32 := by have := points t; omega
  have e : (⟨t.val - 1, by have := t.isLt; omega⟩ : Fin cfg0.N) = s := Fin.ext (by show t.val - 1 = s.val; omega)
  have eq := carq m c ⟨t.val - 1, by have := t.isLt; omega⟩ (by show t.val - 1 < 32; omega)
  have ek := cark m c ⟨t.val - 1, by have := t.isLt; omega⟩ (by show t.val - 1 < 32; omega)
  have ev := carv m c ⟨t.val - 1, by have := t.isLt; omega⟩ (by show t.val - 1 < 32; omega)
  by_cases h : t.val < 32
  · rw [out_B m c t (by omega) (by omega) h h, if_pos h, if_pos h, eq, ek, ev, e]
  · rw [out_C m c t (by omega) (by have := points t; omega) h h, if_neg h, if_neg h, eq, ek, ev, e]

/-- The next block's part for a key, where there is a next block of the residue. -/
theorem next_k (hX : ∀ (i : Fin 4096) (j : Fin 1536), (X0 m c : FVec Ideal S4096x1536 .bf16) (ix2 i j) = ((X i.val j.val : ℝ) : EReal))
    (hY : ∀ (i : Fin 4096) (j : Fin 512), (X1 m c : FVec Ideal S4096x512 .bf16) (ix2 i j) = ((Y i.val j.val : ℝ) : EReal))
    (hZ : ∀ (i : Fin 4096) (j : Fin 512), (X2 m c : FVec Ideal S4096x512 .f32) (ix2 i j) = ((Z i.val j.val : ℝ) : EReal))
    (s t : Fin cfg0.N) (hst : t.val = s.val + 1) (i : Fin 128) (l : Fin 512) :
    (if t.val < 32 then curKp m c t else zeros : FVec Ideal S128x512 .f32) (ix2 i l) =
      ((if s.val % 8 < 7 then hk X Y Z (s.val / 8) (s.val % 8 + 1) (l.val / 64) i.val (l.val % 64) else 0 : ℝ) : EReal) := by
  have hz : (zeros : FVec Ideal S128x512 .f32) (ix2 i l) = ((0 : ℝ) : EReal) := by unfold zeros; pointwise; rfl
  by_cases h : t.val < 32
  · rw [if_pos h, curKp_real m c hX hY hZ h]
    by_cases h7 : s.val % 8 < 7
    · rw [if_pos h7, show t.val / 8 = s.val / 8 by omega, show t.val % 8 = s.val % 8 + 1 by omega]
    · rw [if_neg h7, show t.val % 8 = 0 by omega, hk_first _ _ _ _ _ i.isLt]
  · rw [if_neg h, if_neg (by have := points t; omega), hz]

theorem next_v (hX : ∀ (i : Fin 4096) (j : Fin 1536), (X0 m c : FVec Ideal S4096x1536 .bf16) (ix2 i j) = ((X i.val j.val : ℝ) : EReal))
    (hY : ∀ (i : Fin 4096) (j : Fin 512), (X1 m c : FVec Ideal S4096x512 .bf16) (ix2 i j) = ((Y i.val j.val : ℝ) : EReal))
    (s t : Fin cfg0.N) (hst : t.val = s.val + 1) (i : Fin 128) (l : Fin 512) :
    (if t.val < 32 then curVp m c t else zeros : FVec Ideal S128x512 .f32) (ix2 i l) =
      ((if s.val % 8 < 7 then hv X Y (s.val / 8) (s.val % 8 + 1) (l.val / 64) i.val (l.val % 64) else 0 : ℝ) : EReal) := by
  have hz : (zeros : FVec Ideal S128x512 .f32) (ix2 i l) = ((0 : ℝ) : EReal) := by unfold zeros; pointwise; rfl
  by_cases h : t.val < 32
  · rw [if_pos h, curVp_real m c hX hY h]
    by_cases h7 : s.val % 8 < 7
    · rw [if_pos h7, show t.val / 8 = s.val / 8 by omega, show t.val % 8 = s.val % 8 + 1 by omega]
    · rw [if_neg h7, show t.val % 8 = 0 by omega, hv_first _ _ _ _ i.isLt]
  · rw [if_neg h, if_neg (by have := points t; omega), hz]

include hX hY hZ

/-- An entry of the block a point writes. -/
theorem block_real (s t : Fin cfg0.N) (hst : t.val = s.val + 1) (i : Fin 128) (y : Fin 1536) :
    ((outsAt0 m c t.val t.isLt).1 : FVec Ideal S128x1536 .bf16) (ix2 i y) = ((out X Y Z (s.val % 8 * 128 + i.val) (s.val / 8 * 1536 + y.val) : ℝ) : EReal) := by
  have hs : s.val < 32 := by have := points t; omega
  have ep : (s.val % 8 * 128 + i.val) / 128 = s.val % 8 := by omega
  have eq : (s.val % 8 * 128 + i.val) % 128 = i.val := by omega
  have ec : (s.val / 8 * 1536 + y.val) / 1536 = s.val / 8 := by omega
  have ed : (s.val / 8 * 1536 + y.val) % 1536 = y.val := by omega
  rw [block m c s t hst, out, ec, ed, ep, eq]
  by_cases h1 : y.val < 512
  · rw [if_pos h1, outBlock_q _ _ _ _ _ i y ⟨y.val, h1⟩ rfl, curQ_real m c hX hY hZ hs]
  · rw [if_neg h1]
    by_cases h2 : y.val - 512 < 512
    · rw [if_pos h2, outBlock_k _ _ _ _ _ i y ⟨y.val - 512, h2⟩ (by show y.val = 512 + (y.val - 512); omega), curKc_real m c hX hY hZ hs,
        next_k m c hX hY hZ s t hst, gk, EReal.coe_add]
    · rw [if_neg h2, outBlock_v _ _ _ _ _ i y ⟨y.val - 512 - 512, by omega⟩ (by show y.val = 1024 + (y.val - 512 - 512); omega), curVc_real m c hX hY hs,
        next_v m c hX hY s t hst, gv, EReal.coe_add]

/-- The array after the run. -/
theorem array : (dats m 0 c).arrAt 9 cfg0.N = fun idx : S1024x6144.Idx => ((out X Y Z (idx 0).val (idx 1).val : ℝ) : EReal) := by
  refine (dats m 0 c).arrAt_eq_of_covers 9 _ (by decide +kernel) fun t hf y => ?_
  rw [flush9] at hf
  have ht : 0 < t.val := by simpa using hf
  have hn := points t
  have e := block_real m c hX hY hZ ⟨t.val - 1, Nat.lt_of_le_of_lt (Nat.sub_le _ _) t.isLt⟩ t (by show t.val = t.val - 1 + 1; omega)
  blk_simp [after0_9, (index9 t).1, (index9 t).2]
  have hy0 : (y 0).val < 128 := (y 0).isLt
  have hy1 : (y 1).val < 1536 := (y 1).isLt
  have ey : y = (ix2 (⟨(y 0).val, hy0⟩ : Fin 128) (⟨(y 1).val, hy1⟩ : Fin 1536) : S128x1536.Idx) := by funext a; fin_cases a <;> rfl
  refine (congrArg (outsAt0 m c t.val t.isLt).1 ey).trans ?_
  exact e ⟨(y 0).val, hy0⟩ ⟨(y 1).val, hy1⟩

end Cert.KernelIdeal.Array

end
-- ==== Proof.RefBwd.lean ====
/- The reference's backward half at real entries: the gradients of the scores, of the queries, of the keys and of the values, each entry as a
   formula over the reals. -/
module

public import proofs.«01_k».proof.Proof.RefFwd

@[expose] public section

set_option maxRecDepth 16384

noncomputable section

namespace Cert.ReferenceIdeal.Grad

open Cert.ReferenceIdeal.Read Cert.Math Idealize.ShloMosaic Idealize.ShloMosaic.TcCoe
open Cert.KernelIdeal.Slice (coe_sum)

variable {x0 : FVec Ideal S4096x1536 .bf16} {x1 : FVec Ideal S4096x512 .bf16} {x2 : FVec Ideal S4096x512 .f32} {X Y Z : ℕ → ℕ → ℝ}
  (hX : ∀ (i : Fin 4096) (j : Fin 1536), x0 (ix2 i j) = ((X i.val j.val : ℝ) : EReal))
  (hY : ∀ (i : Fin 4096) (j : Fin 512), x1 (ix2 i j) = ((Y i.val j.val : ℝ) : EReal))
  (hZ : ∀ (i : Fin 4096) (j : Fin 512), x2 (ix2 i j) = ((Z i.val j.val : ℝ) : EReal))

/-- The log-sum-exp's cotangent, summed over its head's lanes. -/
theorem v102 (hZ : ∀ (i : Fin 4096) (j : Fin 512), x2 (ix2 i j) = ((Z i.val j.val : ℝ) : EReal))
    (r : Fin 4) (n h : Fin 8) (i : Fin 128) (z : Fin 1) :
    val_main_v102 (F := Ideal) x2 (ix5 r n h i z) = ((dl (qv Z r n h) i : ℝ) : EReal) := by
  unfold val_main_v102 val_main_v101 val_main_v97 val_main_v96 val_main_v95 val_main_v93 val_main_v92 val_main_v91 val_main_v90 val_main_cst_12 val_main_cst_13
  pointwise
  simp only [hZ, dl, qv, coe_sum]
  exact Fin.sum_univ_one _

theorem v104 (hY : ∀ (i : Fin 4096) (j : Fin 512), x1 (ix2 i j) = ((Y i.val j.val : ℝ) : EReal))
    (r : Fin 4) (n h : Fin 8) (d : Fin 64) (i : Fin 128) :
    val_main_v104 (F := Ideal) x1 (ix5 r n h d i) = ((qv Y r n h i d : ℝ) : EReal) := by
  unfold val_main_v104 val_main_v100 val_main_v99 val_main_v98 val_main_v94 val_main_v89
  pointwise
  simp only [hY, qv]

include hX hZ in
theorem v103 (r : Fin 4) (n h : Fin 8) (i : Fin 128) (z : Fin 1) :
    val_main_v103 (F := Ideal) x0 x2 (ix5 r n h i z) = ((dl (qv Z r n h) i * (1 / rd x0 X r n h i) : ℝ) : EReal) := by
  rw [val_main_v103_apply, v102 hZ, v67 hX]
  show Ideal.div _ _ = _
  rw [Ideal.div_coe (rd_ne r n h i), ← EReal.coe_mul]

include hX hY in
theorem v105 (r : Fin 4) (n h : Fin 8) (i : Fin 128) (j : Fin 256) :
    val_main_v105 (F := Ideal) x0 x1 (ix5 r n h i j) = ((dp (kv X 1024 r n h) (qv Y r n h) i j : ℝ) : EReal) := by
  unfold val_main_v105
  pointwise
  simp only [v104 hY, v24 hX, dp, coe_sum, EReal.coe_mul]

include hX hY in
theorem v107 (r : Fin 4) (n h : Fin 8) (j : Fin 256) (d : Fin 64) :
    val_main_v107 (F := Ideal) x0 x1 (ix5 r n j h d) =
      ((hv X Y r n h j d : ℝ) : EReal) := by
  unfold val_main_v107 val_main_v106
  pointwise
  simp only [v104 hY, v69 hX, hv, dv, coe_sum, EReal.coe_mul, mul_comm]

include hX hY in
/-- The product of the weights' cotangent and the softmax's numerator over the squared denominator. -/
theorem v110 (r : Fin 4) (n h : Fin 8) (i : Fin 128) (j : Fin 256) :
    val_main_v110 (F := Ideal) x0 x1 (ix5 r n h i j) =
      ((dp (kv X 1024 r n h) (qv Y r n h) i j * (1 / (rd x0 X r n h i * rd x0 X r n h i)) * (we n (qv X r n h) (kv X 512 r n h) i j * Real.exp (-mx x0 r n h i)) : ℝ) : EReal) := by
  have e : val_main_v108 (F := Ideal) x0 (ix5 r n h i j) = val_main_v72 (F := Ideal) x0 (ix5 r n h i 0) := by
    unfold val_main_v108
    generalize val_main_v72 (F := Ideal) x0 = w
    pointwise
  rw [val_main_v110_apply, val_main_v109_apply, v105 hX hY, v65 hX, e, v72 hX]
  show (_ : EReal) * _ * _ = _
  rw [← EReal.coe_mul, ← EReal.coe_mul]

include hX hY hZ in
theorem v114 (r : Fin 4) (n h : Fin 8) (i : Fin 128) (z : Fin 1) :
    val_main_v114 (F := Ideal) x0 x1 x2 (ix5 r n h i z) =
      (((dl (qv Z r n h) i - del n (qv X r n h) (kv X 512 r n h) (kv X 1024 r n h) (qv Y r n h) i) * (1 / rd x0 X r n h i) : ℝ) : EReal) := by
  have e : val_main_v112 (F := Ideal) x0 x1 (ix5 r n h i z) = ∑ j : Fin 256, val_main_v110 (F := Ideal) x0 x1 (ix5 r n h i j) := by
    unfold val_main_v112 val_main_v111 val_main_cst_14
    generalize val_main_v110 (F := Ideal) x0 x1 = w
    pointwise
  rw [val_main_v114_apply, v103 hX hZ, val_main_v113_apply, e]
  show (_ : EReal) + -_ = _
  simp only [v110 hX hY, ← coe_sum]
  rw [← EReal.coe_neg, ← EReal.coe_add, EReal.coe_eq_coe_iff, sub_mul, sub_eq_add_neg, del, Finset.sum_mul]
  congr 2
  refine Finset.sum_congr rfl fun j _ => ?_
  rw [← we_div_rd (x0 := x0)]
  have := rd_ne (x0 := x0) (X := X) r n h i
  field_simp

include hX hY hZ in
theorem v120 (r : Fin 4) (n h : Fin 8) (i : Fin 128) (j : Fin 256) :
    val_main_v120 (F := Ideal) x0 x1 x2 (ix5 r n h i j) =
      ((ds n (qv X r n h) (kv X 512 r n h) (kv X 1024 r n h) (qv Y r n h) (qv Z r n h) i j : ℝ) : EReal) := by
  have e1 : val_main_v118 (F := Ideal) x0 x1 x2 (ix5 r n h i j) = val_main_v114 (F := Ideal) x0 x1 x2 (ix5 r n h i 0) := by
    unfold val_main_v118 val_main_v117 val_main_cst_15
    generalize val_main_v114 (F := Ideal) x0 x1 x2 = w
    pointwise
    exact Fin.sum_univ_one _
  have e2 : val_main_v115 (F := Ideal) x0 (ix5 r n h i j) = val_main_v67 (F := Ideal) x0 (ix5 r n h i 0) := by
    unfold val_main_v115
    generalize val_main_v67 (F := Ideal) x0 = w
    pointwise
  rw [val_main_v120_apply, val_main_v119_apply, val_main_v116_apply, e1, e2, v105 hX hY, v67 hX, v65 hX, v114 hX hY hZ]
  show (Ideal.div _ _ + _ : EReal) * _ = _
  rw [Ideal.div_coe (rd_ne r n h i), ← EReal.coe_mul, ← EReal.coe_add, ← EReal.coe_mul, EReal.coe_eq_coe_iff, ds, ← we_div_rd (x0 := x0)]
  ring

include hX hY hZ in
/-- Nothing of the gradient goes to the row maximum. -/
theorem v128 (r : Fin 4) (n h : Fin 8) (i : Fin 128) (j : Fin 256) :
    val_main_v128 (F := Ideal) x0 x1 x2 (ix5 r n h i j) = 0 := by
  have e1 : val_main_v123 (F := Ideal) x0 x1 x2 (ix5 r n h i 0) = ∑ j : Fin 256, -val_main_v120 (F := Ideal) x0 x1 x2 (ix5 r n h i j) := by
    unfold val_main_v123 val_main_v122 val_main_v121 val_main_cst_16
    generalize val_main_v120 (F := Ideal) x0 x1 x2 = w
    pointwise
  have e2 : val_main_v125 (F := Ideal) x0 x1 x2 (ix4 r n h i) = val_main_v124 (F := Ideal) x0 x1 x2 (ix5 r n h i 0) := by
    unfold val_main_v125 val_main_cst_17
    generalize val_main_v124 (F := Ideal) x0 x1 x2 = w
    pointwise
    exact Fin.sum_univ_one _
  have e3 : val_main_v127 (F := Ideal) x0 x1 x2 (ix5 r n h i j) = val_main_v126 (F := Ideal) x0 x1 x2 (ix4 r n h i) := by
    unfold val_main_v127
    generalize val_main_v126 (F := Ideal) x0 x1 x2 = w
    pointwise
  have e4 : val_main_v124 (F := Ideal) x0 x1 x2 (ix5 r n h i 0) = ((0 : ℝ) : EReal) := by
    rw [val_main_v124_apply, v102 hZ, e1]
    show (_ : EReal) + _ = _
    simp only [v120 hX hY hZ, ← EReal.coe_neg, ← coe_sum]
    rw [← EReal.coe_add, Finset.sum_neg_distrib, sum_ds _ _ _ _ _ _ i.isLt, add_neg_cancel]
  rw [val_main_v128_apply, e3, val_main_v126_apply, e2, e4, v61, v60]
  show Ideal.div _ _ * _ = _
  rw [Ideal.div_coe (count_pos hX r n h i).ne', ← EReal.coe_mul, ← EReal.coe_mul, zero_mul, zero_mul]
  rfl

include hX hY hZ in
theorem v130 (r : Fin 4) (n h : Fin 8) (i : Fin 128) (j : Fin 256) :
    val_main_v130 (F := Ideal) x0 x1 x2 (ix5 r n h i j) =
      ((ds n (qv X r n h) (kv X 512 r n h) (kv X 1024 r n h) (qv Y r n h) (qv Z r n h) i j : ℝ) : EReal) := by
  have e : val_main_v130 (F := Ideal) x0 x1 x2 (ix5 r n h i j) =
      if ok n i j then val_main_v129 (F := Ideal) x0 x1 x2 (ix5 r n h i j) else 0 := by
    unfold val_main_v130 val_main_v55_1 val_main_call1_v0 val_main_call1_cst
    generalize val_main_v129 (F := Ideal) x0 x1 x2 = w
    pointwise
    rw [v54, KernelIdeal.Slice.select_ite]
  rw [e, val_main_v129_apply, v120 hX hY hZ, v128 hX hY hZ]
  show (if _ then (_ : EReal) + 0 else 0) = _
  rw [add_zero]
  split
  · rfl
  · rw [ds_off]; rfl; assumption

include hX hY hZ in
theorem v134 (r : Fin 4) (n : Fin 8) (i : Fin 128) (h : Fin 8) (d : Fin 64) :
    val_main_v134 (F := Ideal) x0 x1 x2 (ix5 r n i h d) = ((gq X Y Z r n h i d : ℝ) : EReal) := by
  unfold val_main_v134 val_main_v133
  pointwise
  simp only [v130 hX hY hZ, v15 hX, gq, dq, coe_sum, EReal.coe_mul]

include hX hY hZ in
theorem v132 (r : Fin 4) (n : Fin 8) (j : Fin 256) (h : Fin 8) (d : Fin 64) :
    val_main_v132 (F := Ideal) x0 x1 x2 (ix5 r n j h d) = ((hk X Y Z r n h j d : ℝ) : EReal) := by
  unfold val_main_v132 val_main_v131
  pointwise
  simp only [v130 hX hY hZ, v6 hX, hk, dk, coe_sum, EReal.coe_mul]

include hX hY hZ in
theorem v149 (r : Fin 4) (n : Fin 8) (i : Fin 128) (h : Fin 8) (d : Fin 64) :
    val_main_v149 (F := Ideal) x0 x1 x2 (ix5 r n i h d) = ((gk X Y Z r n h i d : ℝ) : EReal) := by
  unfold val_main_v149 val_main_v148 val_main_v147 val_main_v145 val_main_v144 val_main_cst_19
  pointwise
  simp only [v132 hX hY hZ, gk, Nat.add_comm 1]
  split <;> rw [EReal.coe_add] <;> rfl

include hX hY in
theorem v140 (r : Fin 4) (n : Fin 8) (i : Fin 128) (h : Fin 8) (d : Fin 64) :
    val_main_v140 (F := Ideal) x0 x1 (ix5 r n i h d) = ((gv X Y r n h i d : ℝ) : EReal) := by
  unfold val_main_v140 val_main_v139 val_main_v138 val_main_v136 val_main_v135 val_main_cst_18
  pointwise
  simp only [v107 hX hY, gv, Nat.add_comm 1]
  split <;> rw [EReal.coe_add] <;> rfl

include hX hY hZ in
/-- The reference's result, entry by entry. -/
theorem v158 (p : Fin 1024) (c : Fin 6144) :
    val_main_v158 (F := Ideal) x0 x1 x2 (ix2 p c) = ((out X Y Z p c : ℝ) : EReal) := by
  unfold val_main_v158 val_main_v157 val_main_v156 val_main_v155 val_main_v154 val_main_v153 val_main_v152 val_main_v151 val_main_v150 val_main_v143 val_main_v142 val_main_v141
  pointwise
  simp only [v134 hX hY hZ, v149 hX hY hZ, v140 hX hY]
  have e : (p.val * 4 + c.val / 1536) % 4 = c.val / 1536 := by omega
  rw [e, out]
  split
  · rfl
  · split <;> rfl

end Cert.ReferenceIdeal.Grad

end
-- ==== Proof.Finite.lean ====
/- The precondition, read as mathematics: every entry of the three arrays is a real number. -/
module

public import proofs.«01_k».proof.Defs
public import proofs.«01_k».proof.Proof.Host

@[expose] public section

noncomputable section

namespace Cert.Pre_finite

open Idealize.ShloMosaic

/-- The side conditions the precondition's own operations state. -/
theorem facts : Facts where
  bcast_S_S4096x1536 := by decide
  bcast_S_S4096x512 := by decide

/-- An array's entry at row `i` and column `j`, as a real number; zero outside the array. -/
def entry {a b : ℕ} {φ : FTy} (x : FVec Ideal ⟨2, ![a, b]⟩ φ) (i j : ℕ) : ℝ :=
  if h : i < a ∧ j < b then EReal.toReal (x (ix2 ⟨i, h.1⟩ ⟨j, h.2⟩)) else 0

theorem entry_eq {a b : ℕ} {φ : FTy} (x : FVec Ideal ⟨2, ![a, b]⟩ φ) (h : ∀ (i : Fin a) (j : Fin b), (⊥ : EReal) < x (ix2 i j) ∧ x (ix2 i j) < (⊤ : EReal))
    (i : Fin a) (j : Fin b) : x (ix2 i j) = ((entry x i.val j.val : ℝ) : EReal) := by
  rw [entry, dif_pos ⟨i.isLt, j.isLt⟩]
  exact (EReal.coe_toReal (h i j).2.ne (h i j).1.ne').symm

/-- The two infinities the precondition compares with. -/
theorem bot_bf16 : Ideal.ofBits .bf16 0xFF80#16 = (⊥ : EReal) := by simp [Ideal.ofBits, Ideal.ieee]
theorem top_bf16 : Ideal.ofBits .bf16 0x7F80#16 = (⊤ : EReal) := by simp [Ideal.ofBits, Ideal.ieee]
theorem bot_f32 : Ideal.ofBits .f32 0xFF800000#32 = (⊥ : EReal) := by simp [Ideal.ofBits, Ideal.ieee]
theorem top_f32 : Ideal.ofBits .f32 0x7F800000#32 = (⊤ : EReal) := by simp [Ideal.ofBits, Ideal.ieee]

theorem between {x a b : EReal} (h : IntOp.andi (BitVec.ofBool (decide (a < x))) (BitVec.ofBool (decide (x < b))) = 1#1) : a < x ∧ x < b := by
  by_cases hp : a < x <;> by_cases hq : x < b <;> simp [hp, hq, IntOp.andi] at h ⊢

variable [hPre : Facts] (x0 : FVec Ideal S4096x1536 .bf16) (x1 : FVec Ideal S4096x512 .bf16) (x2 : FVec Ideal S4096x512 .f32)

theorem real0 (h : (fn (F := Ideal) x0 x1 x2).1 = fun _ => 1#1) (i : Fin 4096) (j : Fin 1536) : x0 (ix2 i j) = ((entry x0 i.val j.val : ℝ) : EReal) := by
  refine entry_eq x0 (fun i j => ?_) i j
  have e := congrFun h (ix2 i j)
  unfold fn at e
  dsimp only at e
  pointwise at e
  have e := between e
  rwa [bot_bf16, top_bf16] at e

theorem real1 (h : (fn (F := Ideal) x0 x1 x2).2.1 = fun _ => 1#1) (i : Fin 4096) (j : Fin 512) : x1 (ix2 i j) = ((entry x1 i.val j.val : ℝ) : EReal) := by
  refine entry_eq x1 (fun i j => ?_) i j
  have e := congrFun h (ix2 i j)
  unfold fn at e
  dsimp only at e
  pointwise at e
  have e := between e
  rwa [bot_bf16, top_bf16] at e

theorem real2 (h : (fn (F := Ideal) x0 x1 x2).2.2 = fun _ => 1#1) (i : Fin 4096) (j : Fin 512) : x2 (ix2 i j) = ((entry x2 i.val j.val : ℝ) : EReal) := by
  refine entry_eq x2 (fun i j => ?_) i j
  have e := congrFun h (ix2 i j)
  unfold fn at e
  dsimp only at e
  pointwise at e
  have e := between e
  rwa [bot_f32, top_f32] at e

end Cert.Pre_finite

end
-- ==== Proof.Join.lean ====
/- The kernel and the reference leave the same array, whatever real numbers the arguments hold. -/
module

public import proofs.«01_k».proof.Proof.Array
public import proofs.«01_k».proof.Proof.RefBwd
public import proofs.«01_k».proof.Proof.Finite
public import proofs.«01_k».proof.Proof.Gen.ReferenceIdeal.Run

@[expose] public section

set_option maxRecDepth 16384

noncomputable section

namespace Cert.Join

open Idealize.ShloMosaic Idealize.ShloMosaic.TcCoe Idealize.SL.Sem Cert.Math

/-- The gradients at arguments `x0`, `x1`, `x2`, over the reals. -/
def grads (x0 : FVec Ideal Cert.Pre_finite.S4096x1536 .bf16) (x1 : FVec Ideal Cert.Pre_finite.S4096x512 .bf16) (x2 : FVec Ideal Cert.Pre_finite.S4096x512 .f32) :
    Cert.KernelIdeal.S1024x6144.Idx → EReal :=
  fun idx => ((out (Pre_finite.entry x0) (Pre_finite.entry x1) (Pre_finite.entry x2) (idx 0).val (idx 1).val : ℝ) : EReal)

/-- The reference's frame: it runs, keeps its arguments and leaves every semaphore at zero. -/
theorem frameR (m : (ℓ : Loc ReferenceIdeal.nD ReferenceIdeal.τ ReferenceIdeal.sig) → Buf (Elt Ideal) ℓ) (ρ : Dev ReferenceIdeal.nD → PrngReg) :
    θ_run (ReferenceIdeal.defs (F := Ideal)) (onTc (τ := ReferenceIdeal.τ) (ReferenceIdeal.main (F := Ideal))) ⟨m, fun _ => 0, ρ⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2))
      ∧ r.2.sem = fun _ => 0) :=
  (θ_run ReferenceIdeal.defs _ _).mono (fun r h => ⟨fun c => (h c).2, sem_eq_zero_of_no_sems (by decide) r.2⟩) (ReferenceIdeal.Value.run (F := Ideal) m ρ)

theorem reference_eq (x0 : FVec Ideal Cert.Pre_finite.S4096x1536 .bf16) (x1 : FVec Ideal Cert.Pre_finite.S4096x512 .bf16) (x2 : FVec Ideal Cert.Pre_finite.S4096x512 .f32)
    (h0 : ∀ (i : Fin 4096) (j : Fin 1536), x0 (ix2 i j) = ((Pre_finite.entry x0 i.val j.val : ℝ) : EReal))
    (h1 : ∀ (i : Fin 4096) (j : Fin 512), x1 (ix2 i j) = ((Pre_finite.entry x1 i.val j.val : ℝ) : EReal))
    (h2 : ∀ (i : Fin 4096) (j : Fin 512), x2 (ix2 i j) = ((Pre_finite.entry x2 i.val j.val : ℝ) : EReal)) :
    ReferenceIdeal.Read.val_main_v158 (F := Ideal) x0 x1 x2 = grads x0 x1 x2 := by
  funext idx
  have e : idx = ix2 (idx 0 : Fin 1024) (idx 1 : Fin 6144) := by funext a; fin_cases a <;> rfl
  have h := ReferenceIdeal.Grad.v158 h0 h1 h2 (idx 0 : Fin 1024) (idx 1 : Fin 6144)
  exact (congrArg (ReferenceIdeal.Read.val_main_v158 (F := Ideal) x0 x1 x2) e).trans h

/-- Both run, with equal results and their arguments kept. -/
theorem algebraic : @Cert.algebraic_KernelIdeal_ReferenceIdeal_pre_finite Cert.KernelIdeal.Gen.facts Cert.ReferenceIdeal.Gen.facts Cert.Pre_finite.facts := by
  intro m g m' g' hpre hargs
  have h0 := fun c => Pre_finite.real0 (hPre := Pre_finite.facts) _ _ _ (hpre c).1
  have h1 := fun c => Pre_finite.real1 (hPre := Pre_finite.facts) _ _ _ (hpre c).2.1
  have h2 := fun c => Pre_finite.real2 (hPre := Pre_finite.facts) _ _ _ (hpre c).2.2
  refine ⟨fun c => grads (KernelIdeal.Host.X0 m c) (KernelIdeal.Host.X1 m c) (KernelIdeal.Host.X2 m c), ?_, ?_⟩
  · refine (θ_run KernelIdeal.defs _ _).mono (fun r h c => ⟨(h c).1.trans ?_, (h c).2⟩) (KernelIdeal.Value.run_blocks m g)
    exact KernelIdeal.Array.array m c (h0 c) (h1 c) (h2 c)
  · refine (θ_run ReferenceIdeal.defs _ _).mono (fun r h c => ⟨(h c).1.trans ?_, (h c).2⟩) (ReferenceIdeal.Value.run (F := Ideal) m' g')
    refine (ReferenceIdeal.Read.val_main_v158_eq (F := Ideal) (StableHlo.launchContents m' c)).trans ?_
    have e0 : StableHlo.launchContents m' c (Proc.devRef .tc ReferenceIdeal.main_arg0) = KernelIdeal.Host.X0 m c := (hargs c).1
    have e1 : StableHlo.launchContents m' c (Proc.devRef .tc ReferenceIdeal.main_arg1) = KernelIdeal.Host.X1 m c := (hargs c).2.1
    have e2 : StableHlo.launchContents m' c (Proc.devRef .tc ReferenceIdeal.main_arg2) = KernelIdeal.Host.X2 m c := (hargs c).2.2
    rw [e0, e1, e2]
    exact reference_eq _ _ _ (h0 c) (h1 c) (h2 c)

end Cert.Join

end
-- ==== Proof.Entries.lean ====
/- Arrays read at natural numbers, and sums over an axis cut into blocks of equal length. -/
module

public import proofs.«01_k».proof.Defs
public import Mathlib.Algebra.BigOperators.Fin
public import Idealize.ShloMosaic.Lib.Pointwise

@[expose] public section

noncomputable section

namespace Cert.Entries

open Idealize.ShloMosaic

/-- The entry of a matrix at two numbers; zero outside. -/
def ent2 {a b : ℕ} {φ : FTy} (x : FVec Ideal ⟨2, ![a, b]⟩ φ) (i j : ℕ) : EReal :=
  if h : i < a ∧ j < b then x (ix2 ⟨i, h.1⟩ ⟨j, h.2⟩) else 0
/-- The entry of an array of three axes at three numbers; zero outside. -/
def ent3 {a b c : ℕ} {φ : FTy} (x : FVec Ideal ⟨3, ![a, b, c]⟩ φ) (i j k : ℕ) : EReal :=
  if h : i < a ∧ j < b ∧ k < c then x (ix3 ⟨i, h.1⟩ ⟨j, h.2.1⟩ ⟨k, h.2.2⟩) else 0
/-- The entry of an array of four axes at four numbers; zero outside. -/
def ent4 {a b c d : ℕ} {φ : FTy} (x : FVec Ideal ⟨4, ![a, b, c, d]⟩ φ) (i j k l : ℕ) : EReal :=
  if h : i < a ∧ j < b ∧ k < c ∧ l < d then x (ix4 ⟨i, h.1⟩ ⟨j, h.2.1⟩ ⟨k, h.2.2.1⟩ ⟨l, h.2.2.2⟩) else 0

theorem ent2_eq {a b : ℕ} {φ : FTy} (x : FVec Ideal ⟨2, ![a, b]⟩ φ) (i : Fin a) (j : Fin b) : x (ix2 i j) = ent2 x i.val j.val := by
  rw [ent2, dif_pos ⟨i.isLt, j.isLt⟩]
theorem ent3_eq {a b c : ℕ} {φ : FTy} (x : FVec Ideal ⟨3, ![a, b, c]⟩ φ) (i : Fin a) (j : Fin b) (k : Fin c) :
    x (ix3 i j k) = ent3 x i.val j.val k.val := by
  rw [ent3, dif_pos ⟨i.isLt, j.isLt, k.isLt⟩]
theorem ent4_eq {a b c d : ℕ} {φ : FTy} (x : FVec Ideal ⟨4, ![a, b, c, d]⟩ φ) (i : Fin a) (j : Fin b) (k : Fin c) (l : Fin d) :
    x (ix4 i j k l) = ent4 x i.val j.val k.val l.val := by
  rw [ent4, dif_pos ⟨i.isLt, j.isLt, k.isLt, l.isLt⟩]

/-- The sum of the first `a` blocks of `b` terms is the sum of the first `a * b` terms. -/
theorem sum_blocks {M : Type} [AddCommMonoid M] (b : ℕ) (f : ℕ → M) (a : ℕ) :
    ∑ k ∈ Finset.range a, ∑ r : Fin b, f (b * k + r.val) = ∑ s : Fin (a * b), f s.val := by
  rw [← Finset.sum_range f]
  induction a with
  | zero => simp
  | succ a ih =>
    rw [Finset.sum_range_succ, ih, Nat.succ_mul, Finset.sum_range_add, Finset.sum_range (fun x => f (a * b + x)), Nat.mul_comm b a]

end Cert.Entries

end
-- ==== Proof.DwoutValue.lean ====
/- The weight gradient of the feed-forward output projection: what the kernel's array holds, entry by entry. -/
module

public import proofs.«01_k».proof.Proof.Entries
public import proofs.«01_k».proof.Proof.Gen.DwoutIdeal.Value
public import proofs.«01_k».proof.Proof.Gen.RefDwoutIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DwoutIdeal.Entry

open Cert.DwoutIdeal Cert.DwoutIdeal.Gen Cert.Entries
open Idealize.ShloMosaic Idealize.ShloMosaic.TcCoe Idealize.ShloMosaic.StableHlo Idealize.SL.Sem

variable (m : (ℓ : Loc nD τ sig) → Buf (Elt Ideal) ℓ) (c : Dev nD)

/-- The arguments. -/
abbrev X0 : FVec Ideal S4096x2816 .bf16 := m ((c.tc : Thread nD τ).loc main_arg0)
abbrev X1 : FVec Ideal S4096x2816 .bf16 := m ((c.tc : Thread nD τ).loc main_arg1)
abbrev X2 : FVec Ideal S4096x1024 .f32 := m ((c.tc : Thread nD τ).loc main_arg2)

/-- The gated activation the host prepares: the reference's, rounded. -/
def act : FVec Ideal S4096x2816 .bf16 := truncf .bf16 (RefDwoutIdeal.Read.val_main_v4 (F := Ideal) (X0 m c) (X1 m c)) bitsLt_bf16_f32

/-- The rows of the scaled cotangent: the reference's. -/
def ct : FVec Ideal S4096x1024 .f32 := RefDwoutIdeal.Read.val_main_v9 (F := Ideal) (X2 m c)

theorem V10 : V m c main_v10 = act m c := by
  show after hostOps0 _ (Proc.devRef .tc main_v10) = _
  simp only [hostOps0]
  after_results_simp
  rfl

/-- The product of one block of 512 rows, at a grid point. -/
def part (t : Fin cfg0.N) : FVec Ideal S2816x1024 .f32 := k0_pay1 (iblk m c 0 t) (iblk m c 1 t)

theorem points : ∀ t : Fin cfg0.N, t.val < 8 := by decide +kernel

theorem acc_A (t : Fin cfg0.N) (h0 : t.val % 8 = 0) (h1 : ¬1 ≤ t.val) (h2 : ¬t.val % 8 = 7) :
    (outsAt0 m c t.val t.isLt).2 = part m c t := by
  rw [outsAt0_A m c t h0 h1 h2]
  dsimp only
  frame_open
  frame_out
  exact shapeCast_id ..

theorem acc_B (t : Fin cfg0.N) (h0 : ¬t.val % 8 = 0) (h1 : 1 ≤ t.val) (h2 : ¬t.val % 8 = 7) :
    (outsAt0 m c t.val t.isLt).2 = addf (outsAt0 m c (t.val - 1) (Nat.lt_of_le_of_lt (Nat.sub_le _ _) t.isLt)).2 (part m c t) := by
  rw [outsAt0_B m c t h0 h1 h2]
  dsimp only
  frame_open
  frame_out
  rw [read_unread_whole]
  exact shapeCast_id ..

theorem acc_C (t : Fin cfg0.N) (h0 : ¬t.val % 8 = 0) (h1 : 1 ≤ t.val) (h2 : t.val % 8 = 7) :
    (outsAt0 m c t.val t.isLt).2 = addf (outsAt0 m c (t.val - 1) (Nat.lt_of_le_of_lt (Nat.sub_le _ _) t.isLt)).2 (part m c t) := by
  rw [outsAt0_C m c t h0 h1 h2]
  dsimp only
  frame_open
  frame_out
  rw [read_unread_whole]
  exact shapeCast_id ..

/-- The last point writes what was accumulated. -/
theorem out_C (t : Fin cfg0.N) (h2 : t.val % 8 = 7) : (outsAt0 m c t.val t.isLt).1 = k0_pay4 (outsAt0 m c t.val t.isLt).2 := by
  rw [acc_C m c t (by omega) (by omega) h2, outsAt0_C m c t (by omega) (by omega) h2]
  dsimp only
  frame_open
  frame_out
  rw [read_unread_whole]
  exact congrArg k0_pay4 (shapeCast_id ..)

/-! ## The blocks a point reads -/

theorem index0 : ∀ t : Fin cfg0.N, (cfg0.win 0).index t (0 : Fin 2) = t.val % 8 ∧ (cfg0.win 0).index t (1 : Fin 2) = 0 := by decide +kernel
theorem index1 : ∀ t : Fin cfg0.N, (cfg0.win 1).index t (0 : Fin 2) = t.val % 8 ∧ (cfg0.win 1).index t (1 : Fin 2) = 0 := by decide +kernel
theorem index2 : ∀ t : Fin cfg0.N, (cfg0.win 2).index t (0 : Fin 2) = 0 ∧ (cfg0.win 2).index t (1 : Fin 2) = 0 := by decide +kernel
theorem flush2 : ∀ t : Fin cfg0.N, (cfg0.win 2).flush t = decide (t.val % 8 = 7) := by decide +kernel

theorem at0 (W : (b : Ref sig Kind.tc) → Buf (Elt Ideal) ((c : Thread nD τ).loc b)) (t : Fin cfg0.N) (r : Fin 512) (k : Fin 2816) :
    View.read (Elt Ideal) ((cfg0.win 0).blk t).view (W (Pipeline.arrRef spec0 0)) (ix2 r k) =
      (W main_v10 : FVec Ideal S4096x2816 .bf16) (ix2 (⟨t.val % 8 * 512 + r.val, by omega⟩ : Fin 4096) k) := by
  blk_ext [(index0 t).1, (index0 t).2]

theorem at1 (W : (b : Ref sig Kind.tc) → Buf (Elt Ideal) ((c : Thread nD τ).loc b)) (t : Fin cfg0.N) (r : Fin 512) (n : Fin 1024) :
    View.read (Elt Ideal) ((cfg0.win 1).blk t).view (W (Pipeline.arrRef spec0 1)) (ix2 r n) =
      (W main_arg2 : FVec Ideal S4096x1024 .f32) (ix2 (⟨t.val % 8 * 512 + r.val, by omega⟩ : Fin 4096) n) := by
  blk_ext [(index1 t).1, (index1 t).2]

theorem blk0 (t : Fin cfg0.N) (r : Fin 512) (k : Fin 2816) :
    (iblk m c 0 t : FVec Ideal S512x2816 .bf16) (ix2 r k) = ent2 (act m c) (512 * (t.val % 8) + r.val) k.val := by
  refine (at0 c (V m c) t r k).trans ?_
  rw [V10, Nat.mul_comm 512]
  exact ent2_eq (act m c) _ _

theorem blk1 (t : Fin cfg0.N) (r : Fin 512) (n : Fin 1024) :
    (iblk m c 1 t : FVec Ideal S512x1024 .f32) (ix2 r n) = X2 m c (ix2 (⟨t.val % 8 * 512 + r.val, by omega⟩ : Fin 4096) n) := by
  refine (at1 c (V m c) t r n).trans ?_
  rw [V_main_arg2]

/-- The scaled cotangent at an entry. -/
theorem ct_apply (s : Fin 4096) (n : Fin 1024) : ct m c (ix2 s n) = FloatOps.mulf (FloatOps.ofBits (F := Ideal) .f32 0x3F000000#32) (X2 m c (ix2 s n)) := by
  unfold ct RefDwoutIdeal.Read.val_main_v9 RefDwoutIdeal.Read.val_main_v8 RefDwoutIdeal.Read.val_main_cst_1
  pointwise

/-- One row's term of the gradient. -/
def term (k n s : ℕ) : EReal := ent2 (act m c) s k * ent2 (ct m c) s n

theorem part_apply (t : Fin cfg0.N) (k : Fin 2816) (n : Fin 1024) :
    part m c t (ix2 k n) = ∑ r : Fin 512, term m c k.val n.val (512 * (t.val % 8) + r.val) := by
  have h0 := blk0 m c t
  have h1 := blk1 m c t
  have hc := ct_apply m c
  unfold part k0_pay1
  generalize iblk m c 0 t = x at h0
  generalize iblk m c 1 t = y at h1
  pointwise
  refine Finset.sum_congr rfl fun r _ => ?_
  rw [h0, h1]
  refine congrArg _ ?_
  refine (hc _ n).symm.trans ?_
  rw [ent2_eq (ct m c) _ _, Nat.mul_comm 512]

/-- The accumulator after a point. -/
theorem acc (t : Fin cfg0.N) (k : Fin 2816) (n : Fin 1024) : (outsAt0 m c t.val t.isLt).2 (ix2 k n) =
    ∑ b ∈ Finset.range (t.val % 8 + 1), ∑ r : Fin 512, term m c k.val n.val (512 * b + r.val) := by
  have e := Pipeline.eq_sum_of_reset_step_apply_divmod (fun n h => (outsAt0 m c n h).2) 8 (fun _ => (0 : EReal))
    (fun _ b (i : S2816x1024.Idx) => ∑ r : Fin 512, term m c (i 0).val (i 1).val (512 * b + r.val))
    (fun t h i => by
      have ei : i = ix2 (i 0 : Fin 2816) (i 1 : Fin 1024) := by funext a; fin_cases a <;> rfl
      have hp := points t
      have h := congrFun (acc_A m c t h (by omega) (by omega)) i
      rw [zero_add]
      exact h.trans ((congrArg _ ei).trans (part_apply m c t (i 0 : Fin 2816) (i 1 : Fin 1024))))
    (fun t h i => by
      have ei : i = ix2 (i 0 : Fin 2816) (i 1 : Fin 1024) := by funext a; fin_cases a <;> rfl
      have e : (outsAt0 m c t.val t.isLt).2 = addf (outsAt0 m c (t.val - 1) (Nat.lt_of_le_of_lt (Nat.sub_le _ _) t.isLt)).2 (part m c t) := by
        by_cases h3 : t.val % 8 = 7
        · exact acc_C m c t h (by omega) h3
        · exact acc_B m c t h (by omega) h3
      refine (congrFun e i).trans ?_
      exact congrArg _ ((congrArg (part m c t) ei).trans (part_apply m c t (i 0 : Fin 2816) (i 1 : Fin 1024))))
    t (ix2 k n)
  rw [zero_add] at e
  exact e

/-- The gradient, entry by entry. -/
def grad (a : FVec Ideal S4096x2816 .bf16) (d : FVec Ideal S4096x1024 .f32) : FVec Ideal S2816x1024 .bf16 := fun i =>
  ∑ s : Fin 4096, ent2 a s.val (i 0).val * ent2 d s.val (i 1).val

theorem out_apply (t : Fin cfg0.N) (ht : t.val % 8 = 7) (k : Fin 2816) (n : Fin 1024) :
    (outsAt0 m c t.val t.isLt).1 (ix2 k n) = ∑ s : Fin 4096, term m c k.val n.val s.val := by
  have h := acc m c t k n
  rw [out_C m c t ht]
  generalize (outsAt0 m c t.val t.isLt).2 = y at h
  unfold k0_pay4
  pointwise
  refine h.trans ?_
  rw [ht]
  exact sum_blocks 512 _ 8

/-- The array after the run. -/
theorem array : (dats m 0 c).arrAt 2 cfg0.N = grad (act m c) (ct m c) := by
  refine (dats m 0 c).arrAt_eq_of_covers 2 _ (by decide +kernel) fun t hf y => ?_
  rw [flush2] at hf
  have ht : t.val % 8 = 7 := by simpa using hf
  have e := out_apply m c t ht
  have ey : y = (ix2 (y 0 : Fin 2816) (y 1 : Fin 1024) : S2816x1024.Idx) := by funext a; fin_cases a <;> rfl
  blk_simp [after0_2, (index2 t).1, (index2 t).2]
  refine (congrArg (outsAt0 m c t.val t.isLt).1 ey).trans ((e (y 0 : Fin 2816) (y 1 : Fin 1024)).trans ?_)
  unfold grad
  refine Finset.sum_congr rfl fun s _ => ?_
  have e0 : (((cfg0.win 2).blk t).view.emb y (0 : Fin 2)).val = (y 0).val := by
    blk_simp [(index2 t).1]
  have e1 : (((cfg0.win 2).blk t).view.emb y (1 : Fin 2)).val = (y 1).val := by
    blk_simp [(index2 t).2]
  unfold term
  rw [e0, e1]

end Cert.DwoutIdeal.Entry

namespace Cert.RefDwoutIdeal.Grad

open Idealize.ShloMosaic Idealize.ShloMosaic.TcCoe Idealize.SL.Sem Cert.Entries Read Facts₀

variable (x0 x1 : FVec Ideal S4096x2816 .bf16) (x2 : FVec Ideal S4096x1024 .f32)

theorem v12 (k : Fin 2816) (n : Fin 1024) : val_main_v12 (F := Ideal) x0 x1 x2 (ix2 k n) =
    ∑ s : Fin 4096, ent2 (φ := .bf16) (truncf .bf16 (val_main_v4 (F := Ideal) x0 x1) bitsLt_bf16_f32) s.val k.val
      * ent2 (φ := .f32) (val_main_v9 (F := Ideal) x2) s.val n.val := by
  unfold val_main_v12 val_main_v11 val_main_v10
  generalize val_main_v4 (F := Ideal) x0 x1 = a
  generalize val_main_v9 (F := Ideal) x2 = d
  pointwise
  refine Finset.sum_congr rfl fun s _ => ?_
  rw [mul_comm, ← ent2_eq (φ := .bf16) (truncf .bf16 a bitsLt_bf16_f32) s k, ← ent2_eq (φ := .f32) d s n]
  rfl

theorem result : val_main_v12 (F := Ideal) x0 x1 x2 =
    DwoutIdeal.Entry.grad (truncf .bf16 (val_main_v4 (F := Ideal) x0 x1) bitsLt_bf16_f32) (val_main_v9 (F := Ideal) x2) := by
  funext i
  have e : i = ix2 (i 0 : Fin 2816) (i 1 : Fin 1024) := by funext a; fin_cases a <;> rfl
  exact (congrArg (val_main_v12 (F := Ideal) x0 x1 x2) e).trans (v12 x0 x1 x2 (i 0 : Fin 2816) (i 1 : Fin 1024))

end Cert.RefDwoutIdeal.Grad

end
-- ==== Proof.DwoutJoin.lean ====
/- The gradient of `w_out`: the kernel and the reference leave the same array. -/
module

public import proofs.«01_k».proof.Proof.DwoutValue
public import proofs.«01_k».proof.Proof.Gen.RefDwoutIdeal.Run

@[expose] public section

set_option maxRecDepth 16384

noncomputable section

namespace Cert.DwoutJoin

open Idealize.ShloMosaic Idealize.ShloMosaic.TcCoe Idealize.SL.Sem Cert.Entries

/-- Both run, with equal results and their arguments kept. -/
theorem algebraic : @Cert.algebraic_DwoutIdeal_RefDwoutIdeal Cert.DwoutIdeal.Gen.facts Cert.RefDwoutIdeal.Gen.facts := by
  intro m g m' g' _ hargs
  refine ⟨fun c => DwoutIdeal.Entry.grad (DwoutIdeal.Entry.act m c) (DwoutIdeal.Entry.ct m c), ?_, ?_⟩
  · refine (θ_run DwoutIdeal.defs _ _).mono (fun r h c => ⟨(h c).1.trans ?_, (h c).2⟩) (DwoutIdeal.Value.run_blocks m g)
    exact DwoutIdeal.Entry.array m c
  · refine (θ_run RefDwoutIdeal.defs _ _).mono (fun r h c => ⟨(h c).1.trans ?_, (h c).2⟩) (RefDwoutIdeal.Value.run (F := Ideal) m' g')
    refine (RefDwoutIdeal.Read.val_main_v12_eq (F := Ideal) (StableHlo.launchContents m' c (Proc.devRef .tc RefDwoutIdeal.main_arg0)) (StableHlo.launchContents m' c (Proc.devRef .tc RefDwoutIdeal.main_arg1)) (StableHlo.launchContents m' c (Proc.devRef .tc RefDwoutIdeal.main_arg2))).trans ?_
    have e0 : StableHlo.launchContents m' c (Proc.devRef .tc RefDwoutIdeal.main_arg0) = DwoutIdeal.Entry.X0 m c := (hargs c).1
    have e1 : StableHlo.launchContents m' c (Proc.devRef .tc RefDwoutIdeal.main_arg1) = DwoutIdeal.Entry.X1 m c := (hargs c).2.1
    have e2 : StableHlo.launchContents m' c (Proc.devRef .tc RefDwoutIdeal.main_arg2) = DwoutIdeal.Entry.X2 m c := (hargs c).2.2
    rw [e0, e1, e2]
    exact RefDwoutIdeal.Grad.result _ _ _

/-- The reference's frame: it runs, keeps its arguments and leaves every semaphore at zero. -/
theorem frameR (m : (ℓ : Loc RefDwoutIdeal.nD RefDwoutIdeal.τ RefDwoutIdeal.sig) → Buf (Elt Ideal) ℓ) (ρ : Dev RefDwoutIdeal.nD → PrngReg) :
    θ_run (RefDwoutIdeal.defs (F := Ideal)) (onTc (τ := RefDwoutIdeal.τ) (RefDwoutIdeal.main (F := Ideal))) ⟨m, fun _ => 0, ρ⟩ (fun r => (∀ c : Dev RefDwoutIdeal.nD,
      r.2.mem ((c.tc : Thread RefDwoutIdeal.nD RefDwoutIdeal.τ).loc RefDwoutIdeal.main_arg0) = m ((c.tc : Thread RefDwoutIdeal.nD RefDwoutIdeal.τ).loc RefDwoutIdeal.main_arg0)
      ∧ r.2.mem ((c.tc : Thread RefDwoutIdeal.nD RefDwoutIdeal.τ).loc RefDwoutIdeal.main_arg1) = m ((c.tc : Thread RefDwoutIdeal.nD RefDwoutIdeal.τ).loc RefDwoutIdeal.main_arg1)
      ∧ r.2.mem ((c.tc : Thread RefDwoutIdeal.nD RefDwoutIdeal.τ).loc RefDwoutIdeal.main_arg2) = m ((c.tc : Thread RefDwoutIdeal.nD RefDwoutIdeal.τ).loc RefDwoutIdeal.main_arg2))
      ∧ r.2.sem = fun _ => 0) :=
  (θ_run RefDwoutIdeal.defs _ _).mono (fun r h => ⟨fun c => (h c).2, sem_eq_zero_of_no_sems (by decide) r.2⟩) (RefDwoutIdeal.Value.run (F := Ideal) m ρ)

end Cert.DwoutJoin

end
-- ==== Proof.DwinValue.lean ====
/- The weight gradient of the feed-forward input projection: what the kernel's array holds, entry by entry. -/
module

public import proofs.«01_k».proof.Proof.Entries
public import proofs.«01_k».proof.Proof.Gen.DwinIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DwinIdeal.Entry

open Cert.DwinIdeal Cert.DwinIdeal.Gen Cert.Entries
open Idealize.ShloMosaic Idealize.ShloMosaic.TcCoe Idealize.SL.Sem

variable (m : (ℓ : Loc nD τ sig) → Buf (Elt Ideal) ℓ) (c : Dev nD)

/-- The arguments. -/
abbrev X0 : FVec Ideal S4096x1024 .bf16 := m ((c.tc : Thread nD τ).loc main_arg0)
abbrev X1 : FVec Ideal S2x4096x2816 .bf16 := m ((c.tc : Thread nD τ).loc main_arg1)

/-- The product of one block of 1024 rows, at a grid point. -/
def part (t : Fin cfg0.N) : FVec Ideal S1024x1408 .f32 := k0_pay1 (iblk m c 0 t) (iblk m c 1 t)

theorem acc_A (t : Fin cfg0.N) (h0 : t.val % 4 = 0) (h1 : ¬1 ≤ t.val % 4) (h2 : ¬t.val % 4 = 3) :
    (outsAt0 m c t.val t.isLt).2 = part m c t := by
  rw [outsAt0_A m c t h0 h1 h2]
  dsimp only
  frame_open
  frame_out
  exact shapeCast_id ..

theorem acc_B (t : Fin cfg0.N) (h0 : ¬t.val % 4 = 0) (h1 : 1 ≤ t.val % 4) (h2 : ¬t.val % 4 = 3) :
    (outsAt0 m c t.val t.isLt).2 = addf (outsAt0 m c (t.val - 1) (Nat.lt_of_le_of_lt (Nat.sub_le _ _) t.isLt)).2 (part m c t) := by
  rw [outsAt0_B m c t h0 h1 h2]
  dsimp only
  frame_open
  frame_out
  rw [read_unread_whole]
  exact shapeCast_id ..

theorem acc_C (t : Fin cfg0.N) (h0 : ¬t.val % 4 = 0) (h1 : 1 ≤ t.val % 4) (h2 : t.val % 4 = 3) :
    (outsAt0 m c t.val t.isLt).2 = addf (outsAt0 m c (t.val - 1) (Nat.lt_of_le_of_lt (Nat.sub_le _ _) t.isLt)).2 (part m c t) := by
  rw [outsAt0_C m c t h0 h1 h2]
  dsimp only
  frame_open
  frame_out
  rw [read_unread_whole]
  exact shapeCast_id ..

/-- The point that closes a stretch of four writes what it accumulated. -/
theorem out_C (t : Fin cfg0.N) (h2 : t.val % 4 = 3) : (outsAt0 m c t.val t.isLt).1 = k0_pay4 (outsAt0 m c t.val t.isLt).2 := by
  rw [acc_C m c t (by omega) (by omega) h2, outsAt0_C m c t (by omega) (by omega) h2]
  dsimp only
  frame_open
  frame_out
  rw [read_unread_whole]
  exact congrArg k0_pay4 (shapeCast_id ..)

/-! ## The blocks a point reads -/

theorem index0 : ∀ t : Fin cfg0.N, (cfg0.win 0).index t (0 : Fin 2) = t.val % 4 ∧ (cfg0.win 0).index t (1 : Fin 2) = 0 := by decide +kernel
theorem index1 : ∀ t : Fin cfg0.N, (cfg0.win 1).index t (0 : Fin 3) = t.val / 4 / 2 ∧ (cfg0.win 1).index t (1 : Fin 3) = t.val % 4
    ∧ (cfg0.win 1).index t (2 : Fin 3) = t.val / 4 % 2 := by decide +kernel
theorem index2 : ∀ t : Fin cfg0.N, (cfg0.win 2).index t (0 : Fin 3) = t.val / 4 ∧ (cfg0.win 2).index t (1 : Fin 3) = 0
    ∧ (cfg0.win 2).index t (2 : Fin 3) = 0 := by decide +kernel
theorem flush2 : ∀ t : Fin cfg0.N, (cfg0.win 2).flush t = decide (t.val % 4 = 3) := by decide +kernel
theorem points : ∀ t : Fin cfg0.N, t.val < 16 := by decide +kernel

theorem at0 (W : (b : Ref sig Kind.tc) → Buf (Elt Ideal) ((c : Thread nD τ).loc b)) (t : Fin cfg0.N) (r : Fin 1024) (d : Fin 1024) :
    View.read (Elt Ideal) ((cfg0.win 0).blk t).view (W (Pipeline.arrRef spec0 0)) (ix2 r d) =
      (W main_arg0 : FVec Ideal S4096x1024 .bf16) (ix2 (⟨t.val % 4 * 1024 + r.val, by omega⟩ : Fin 4096) d) := by
  blk_ext [(index0 t).1, (index0 t).2]

theorem at1 (W : (b : Ref sig Kind.tc) → Buf (Elt Ideal) ((c : Thread nD τ).loc b)) (t : Fin cfg0.N) (r : Fin 1024) (n : Fin 1408) :
    View.read (Elt Ideal) ((cfg0.win 1).blk t).view (W (Pipeline.arrRef spec0 1)) (ix3 0 r n) =
      (W main_arg1 : FVec Ideal S2x4096x2816 .bf16) (ix3 (⟨t.val / 4 / 2, by have := points t; omega⟩ : Fin 2) (⟨t.val % 4 * 1024 + r.val, by omega⟩ : Fin 4096)
        (⟨t.val / 4 % 2 * 1408 + n.val, by omega⟩ : Fin 2816)) := by
  blk_ext [(index1 t).1, (index1 t).2.1, (index1 t).2.2]

theorem blk0 (t : Fin cfg0.N) (r : Fin 1024) (d : Fin 1024) :
    (iblk m c 0 t : FVec Ideal S1024x1024 .bf16) (ix2 r d) = ent2 (X0 m c) (1024 * (t.val % 4) + r.val) d.val := by
  refine (at0 c (V m c) t r d).trans ?_
  rw [V_main_arg0, Nat.mul_comm 1024]
  exact ent2_eq (X0 m c) _ _

theorem blk1 (t : Fin cfg0.N) (r : Fin 1024) (n : Fin 1408) :
    (iblk m c 1 t : FVec Ideal S1x1024x1408 .bf16) (ix3 0 r n) =
      ent3 (X1 m c) (t.val / 4 / 2) (1024 * (t.val % 4) + r.val) (t.val / 4 % 2 * 1408 + n.val) := by
  refine (at1 c (V m c) t r n).trans ?_
  rw [V_main_arg1, Nat.mul_comm 1024]
  exact ent3_eq (X1 m c) _ _ _

/-- One row's term of the gradient. -/
def term (j d n s : ℕ) : EReal := ent2 (X0 m c) s d * ent3 (X1 m c) (j / 2) s (j % 2 * 1408 + n)

theorem part_apply (t : Fin cfg0.N) (d : Fin 1024) (n : Fin 1408) :
    part m c t (ix2 d n) = ∑ r : Fin 1024, term m c (t.val / 4) d.val n.val (1024 * (t.val % 4) + r.val) := by
  have h0 := blk0 m c t
  have h1 := blk1 m c t
  unfold part k0_pay1
  generalize iblk m c 0 t = x at h0
  generalize iblk m c 1 t = y at h1
  pointwise
  simp only [h0, h1, term]

/-- The accumulator after a point. -/
theorem acc (t : Fin cfg0.N) (d : Fin 1024) (n : Fin 1408) : (outsAt0 m c t.val t.isLt).2 (ix2 d n) =
    ∑ k ∈ Finset.range (t.val % 4 + 1), ∑ r : Fin 1024, term m c (t.val / 4) d.val n.val (1024 * k + r.val) := by
  have e := Pipeline.eq_sum_of_reset_step_apply_divmod (fun n h => (outsAt0 m c n h).2) 4 (fun _ => (0 : EReal))
    (fun j k (i : S1024x1408.Idx) => ∑ r : Fin 1024, term m c j (i 0).val (i 1).val (1024 * k + r.val))
    (fun t h i => by
      have ei : i = ix2 (i 0 : Fin 1024) (i 1 : Fin 1408) := by funext a; fin_cases a <;> rfl
      have h := congrFun (acc_A m c t h (by omega) (by omega)) i
      rw [zero_add]
      exact h.trans ((congrArg _ ei).trans (part_apply m c t (i 0 : Fin 1024) (i 1 : Fin 1408))))
    (fun t h i => by
      have ei : i = ix2 (i 0 : Fin 1024) (i 1 : Fin 1408) := by funext a; fin_cases a <;> rfl
      have e : (outsAt0 m c t.val t.isLt).2 = addf (outsAt0 m c (t.val - 1) (Nat.lt_of_le_of_lt (Nat.sub_le _ _) t.isLt)).2 (part m c t) := by
        by_cases h3 : t.val % 4 = 3
        · exact acc_C m c t h (by omega) h3
        · exact acc_B m c t h (by omega) h3
      refine (congrFun e i).trans ?_
      exact congrArg _ ((congrArg (part m c t) ei).trans (part_apply m c t (i 0 : Fin 1024) (i 1 : Fin 1408))))
    t (ix2 d n)
  rw [zero_add] at e
  exact e

/-- The gradient, entry by entry. -/
def grad (x0 : FVec Ideal S4096x1024 .bf16) (x1 : FVec Ideal S2x4096x2816 .bf16) : FVec Ideal S4x1024x1408 .bf16 := fun i =>
  ∑ s : Fin 4096, ent2 x0 s.val (i 1).val * ent3 x1 ((i 0).val / 2) s.val ((i 0).val % 2 * 1408 + (i 2).val)

theorem out_apply (t : Fin cfg0.N) (ht : t.val % 4 = 3) (d : Fin 1024) (n : Fin 1408) :
    (outsAt0 m c t.val t.isLt).1 (ix3 0 d n) = ∑ s : Fin 4096, term m c (t.val / 4) d.val n.val s.val := by
  have h := acc m c t d n
  rw [out_C m c t ht]
  generalize (outsAt0 m c t.val t.isLt).2 = y at h
  unfold k0_pay4
  pointwise
  refine h.trans ?_
  rw [ht]
  exact sum_blocks 1024 _ 4

/-- The array after the run. -/
theorem array : (dats m 0 c).arrAt 2 cfg0.N = grad (X0 m c) (X1 m c) := by
  refine (dats m 0 c).arrAt_eq_of_covers 2 _ (by decide +kernel) fun t hf y => ?_
  rw [flush2] at hf
  have ht : t.val % 4 = 3 := by simpa using hf
  have e := out_apply m c t ht
  have hy0 : (y 0).val < 1 := (y 0).isLt
  have hy1 : (y 1).val < 1024 := (y 1).isLt
  have hy2 : (y 2).val < 1408 := (y 2).isLt
  have ey : y = (ix3 (0 : Fin 1) (⟨(y 1).val, hy1⟩ : Fin 1024) (⟨(y 2).val, hy2⟩ : Fin 1408) : S1x1024x1408.Idx) := by
    funext a
    fin_cases a
    · apply Fin.ext
      show (y 0).val = 0
      omega
    · rfl
    · rfl
  blk_simp [after0_2, (index2 t).1, (index2 t).2.1, (index2 t).2.2]
  refine (congrArg (outsAt0 m c t.val t.isLt).1 ey).trans ((e _ _).trans ?_)
  unfold grad
  refine Finset.sum_congr rfl fun s _ => ?_
  have e0 : (((cfg0.win 2).blk t).view.emb y (0 : Fin 3)).val = t.val / 4 := by
    blk_simp [(index2 t).1]
  have e1 : (((cfg0.win 2).blk t).view.emb y (1 : Fin 3)).val = (y 1).val := by
    blk_simp [(index2 t).2.1]
  have e2 : (((cfg0.win 2).blk t).view.emb y (2 : Fin 3)).val = (y 2).val := by
    blk_simp [(index2 t).2.2]
  unfold term
  rw [← e0, ← e1, ← e2]

end Cert.DwinIdeal.Entry

end
-- ==== Proof.DwinJoin.lean ====
/- The gradient of `w_in`: the kernel and the reference leave the same array. -/
module

public import proofs.«01_k».proof.Proof.DwinValue
public import proofs.«01_k».proof.Proof.Gen.RefDwinIdeal.Run
public import proofs.«01_k».proof.Proof.Gen.RefDwinIdeal.Read
public import Idealize.ShloMosaic.Lib.Pointwise
public import Idealize.ShloMosaic.Lib.ValueIdx

@[expose] public section

set_option maxRecDepth 16384

noncomputable section

namespace Cert.RefDwinIdeal.Grad

open Idealize.ShloMosaic Idealize.ShloMosaic.TcCoe Idealize.SL.Sem Cert.Entries Read

variable (x0 : FVec Ideal S4096x1024 .bf16) (x1 : FVec Ideal S2x4096x2816 .bf16)

theorem v2 (s : Fin 4096) (n : Fin 2816) : val_main_v2 (F := Ideal) x1 (ix2 s n) = ent3 x1 0 s.val n.val := by
  unfold val_main_v2 val_main_v1 val_main_v0
  pointwise
  exact ent3_eq x1 _ _ _

theorem v5 (s : Fin 4096) (n : Fin 2816) : val_main_v5 (F := Ideal) x1 (ix2 s n) = ent3 x1 1 s.val n.val := by
  unfold val_main_v5 val_main_v4 val_main_v3
  pointwise
  exact ent3_eq x1 _ _ _

theorem v11 (s : Fin 4096) (n : Fin 5632) : val_main_v11 (F := Ideal) x1 (ix2 s n) = ent3 x1 (n.val / 2816) s.val (n.val % 2816) := by
  have h2 := v2 x1
  have h5 := v5 x1
  unfold val_main_v11
  generalize val_main_v2 (F := Ideal) x1 = a at h2
  generalize val_main_v5 (F := Ideal) x1 = b at h5
  pointwise
  by_cases h : n.val < 2816
  · rw [Nat.div_eq_of_lt h, Nat.mod_eq_of_lt h]
    simp only [h, dite_true, h2]
  · have e1 : n.val / 2816 = 1 := by omega
    have e2 : n.val % 2816 = n.val - 2816 := by omega
    rw [e1, e2]
    simp only [h, dite_false, h5]

theorem v12 (n : Fin 5632) (d : Fin 1024) : val_main_v12 (F := Ideal) x0 x1 (ix2 n d) =
    ∑ s : Fin 4096, ent2 x0 s.val d.val * ent3 x1 (n.val / 2816) s.val (n.val % 2816) := by
  have h11 := v11 x1
  unfold val_main_v12 val_main_v7
  generalize val_main_v11 (F := Ideal) x1 = a at h11
  pointwise
  refine Finset.sum_congr rfl fun s _ => ?_
  rw [h11, ent2_eq x0 _ _, mul_comm]

theorem v16 (j : Fin 4) (d : Fin 1024) (n : Fin 1408) : val_main_v16 (F := Ideal) x0 x1 (ix3 j d n) =
    ∑ s : Fin 4096, ent2 x0 s.val d.val * ent3 x1 (j.val / 2) s.val (j.val % 2 * 1408 + n.val) := by
  have h12 := v12 x0 x1
  unfold val_main_v16 val_main_v15 val_main_v14 val_main_v13
  generalize val_main_v12 (F := Ideal) x0 x1 = a at h12
  pointwise
  refine (h12 _ d).trans (Finset.sum_congr rfl fun s _ => ?_)
  have e1 : (j.val * 1408 + n.val) / 2816 = j.val / 2 := by omega
  have e2 : (j.val * 1408 + n.val) % 2816 = j.val % 2 * 1408 + n.val := by omega
  dsimp only
  rw [e1, e2]

theorem result : val_main_v16 (F := Ideal) x0 x1 = DwinIdeal.Entry.grad x0 x1 := by
  funext i
  have e : i = ix3 (i 0 : Fin 4) (i 1 : Fin 1024) (i 2 : Fin 1408) := by funext a; fin_cases a <;> rfl
  exact (congrArg (val_main_v16 (F := Ideal) x0 x1) e).trans (v16 x0 x1 (i 0 : Fin 4) (i 1 : Fin 1024) (i 2 : Fin 1408))

end Cert.RefDwinIdeal.Grad

namespace Cert.DwinJoin

open Idealize.ShloMosaic Idealize.ShloMosaic.TcCoe Idealize.SL.Sem Cert.Entries

/-- Both run, with equal results and their arguments kept. -/
theorem algebraic : @Cert.algebraic_DwinIdeal_RefDwinIdeal Cert.DwinIdeal.Gen.facts Cert.RefDwinIdeal.Gen.facts := by
  intro m g m' g' _ hargs
  refine ⟨fun c => DwinIdeal.Entry.grad (DwinIdeal.Entry.X0 m c) (DwinIdeal.Entry.X1 m c), ?_, ?_⟩
  · refine (θ_run DwinIdeal.defs _ _).mono (fun r h c => ⟨(h c).1.trans ?_, (h c).2⟩) (DwinIdeal.Value.run_blocks m g)
    exact DwinIdeal.Entry.array m c
  · refine (θ_run RefDwinIdeal.defs _ _).mono (fun r h c => ⟨(h c).1.trans ?_, (h c).2⟩) (RefDwinIdeal.Value.run (F := Ideal) m' g')
    refine (RefDwinIdeal.Read.val_main_v16_eq (F := Ideal) (StableHlo.launchContents m' c (Proc.devRef .tc RefDwinIdeal.main_arg0)) (StableHlo.launchContents m' c (Proc.devRef .tc RefDwinIdeal.main_arg1))).trans ?_
    have e0 : StableHlo.launchContents m' c (Proc.devRef .tc RefDwinIdeal.main_arg0) = DwinIdeal.Entry.X0 m c := (hargs c).1
    have e1 : StableHlo.launchContents m' c (Proc.devRef .tc RefDwinIdeal.main_arg1) = DwinIdeal.Entry.X1 m c := (hargs c).2
    rw [e0, e1]
    exact RefDwinIdeal.Grad.result _ _

/-- The reference's frame: it runs, keeps its arguments and leaves every semaphore at zero. -/
theorem frameR (m : (ℓ : Loc RefDwinIdeal.nD RefDwinIdeal.τ RefDwinIdeal.sig) → Buf (Elt Ideal) ℓ) (ρ : Dev RefDwinIdeal.nD → PrngReg) :
    θ_run (RefDwinIdeal.defs (F := Ideal)) (onTc (τ := RefDwinIdeal.τ) (RefDwinIdeal.main (F := Ideal))) ⟨m, fun _ => 0, ρ⟩ (fun r => (∀ c : Dev RefDwinIdeal.nD,
      r.2.mem ((c.tc : Thread RefDwinIdeal.nD RefDwinIdeal.τ).loc RefDwinIdeal.main_arg0) = m ((c.tc : Thread RefDwinIdeal.nD RefDwinIdeal.τ).loc RefDwinIdeal.main_arg0)
      ∧ r.2.mem ((c.tc : Thread RefDwinIdeal.nD RefDwinIdeal.τ).loc RefDwinIdeal.main_arg1) = m ((c.tc : Thread RefDwinIdeal.nD RefDwinIdeal.τ).loc RefDwinIdeal.main_arg1))
      ∧ r.2.sem = fun _ => 0) :=
  (θ_run RefDwinIdeal.defs _ _).mono (fun r h => ⟨fun c => (h c).2, sem_eq_zero_of_no_sems (by decide) r.2⟩) (RefDwinIdeal.Value.run (F := Ideal) m ρ)

end Cert.DwinJoin

end
-- ==== Proof.Gate.lean ====
/- The gate's algebra: the derivative of the sigmoid-weighted unit in the two ways the kernel and the reference write it. -/
module

public import proofs.«01_k».proof.Defs
public import Idealize.ShloMosaic.Lib.Claim
public import Idealize.ShloMosaic.Lib.Pointwise

@[expose] public section

noncomputable section

namespace Cert.Gate

open Idealize.ShloMosaic

theorem logistic_eq (g : EReal) : Ideal.logistic g = Ideal.div 1 (1 + Ideal.exp (-g)) := rfl

/-- The logistic function of a real number is a real number. -/
theorem logistic_coe (g : ℝ) : Ideal.logistic (g : EReal) = ((1 / (1 + Real.exp (-g)) : ℝ) : EReal) := by
  have h : (1 + Real.exp (-g)) ≠ 0 := by positivity
  rw [logistic_eq, ← EReal.coe_neg]
  show Ideal.div 1 (1 + ((Real.exp (-g) : ℝ) : EReal)) = _
  rw [← EReal.coe_one, ← EReal.coe_add, Ideal.div_coe h, one_div]
  simp

theorem logistic_top : Ideal.logistic ⊤ = 1 := by
  rw [logistic_eq, EReal.neg_top]
  show Ideal.div 1 (1 + 0) = 1
  rw [add_zero, ← EReal.coe_one, Ideal.div_coe one_ne_zero]
  simp

theorem logistic_bot : Ideal.logistic ⊥ = 0 := by
  rw [logistic_eq, EReal.neg_bot]
  show Ideal.div 1 (1 + ⊤) = 0
  rw [← EReal.coe_one, EReal.coe_add_top]
  simp [Ideal.div]

/-- At a real cotangent `v` the two ways to write the gate's gradient agree, whatever the gate holds. -/
theorem gate_eq (v : ℝ) (g : EReal) :
    (v : EReal) * (Ideal.logistic g * (1 + g * (1 - Ideal.logistic g))) =
      (v : EReal) * Ideal.logistic g + g * (v : EReal) * (Ideal.logistic g * (1 - Ideal.logistic g)) := by
  induction g using EReal.rec with
  | bot => simp [logistic_bot]
  | top =>
    have h : (1 : EReal) - 1 = 0 := by rw [← EReal.coe_one, ← EReal.coe_sub, sub_self, EReal.coe_zero]
    simp [logistic_top, h]
  | coe g =>
    rw [logistic_coe]
    generalize 1 / (1 + Real.exp (-g)) = s
    rw [← EReal.coe_one]
    norm_cast
    ring

/-- The factor one half. -/
theorem half : ∃ a : ℝ, FloatOps.ofBits (F := Ideal) .f32 0x3F000000#32 = (a : EReal) := by
  refine ⟨1 / 2, ?_⟩
  show Ideal.ofBits .f32 0x3F000000#32 = _
  simp [Ideal.ofBits, Ideal.ieee, -EReal.coe_mul]
  norm_num

/-- A sum of real numbers is a real number. -/
theorem real_sum (n : ℕ) (f : Fin n → EReal) (h : ∀ i, ∃ a : ℝ, f i = (a : EReal)) : ∃ a : ℝ, ∑ i : Fin n, f i = (a : EReal) := by
  choose g hg using h
  refine ⟨∑ i : Fin n, g i, ?_⟩
  rw [Finset.sum_congr rfl fun i _ => hg i]
  exact (map_sum (⟨⟨fun x : ℝ => (x : EReal), EReal.coe_zero⟩, EReal.coe_add⟩ : ℝ →+ EReal) g Finset.univ).symm

end Cert.Gate

end
-- ==== Proof.DactValue.lean ====
/- The gradient before the gate of the feed-forward layer: what the kernel's array and the reference's hold, entry by entry. -/
module

public import proofs.«01_k».proof.Proof.Gate
public import proofs.«01_k».proof.Proof.Finite
public import proofs.«01_k».proof.Proof.Gen.DactIdeal.Value
public import proofs.«01_k».proof.Proof.Gen.RefDactIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DactIdeal.Entry

open Cert.DactIdeal Cert.DactIdeal.Gen
open Idealize.ShloMosaic Idealize.ShloMosaic.TcCoe Idealize.SL.Sem

variable (m : (ℓ : Loc nD τ sig) → Buf (Elt Ideal) ℓ) (c : Dev nD)

/-- The arguments. -/
abbrev X0 : FVec Ideal S4096x1024 .f32 := m ((c.tc : Thread nD τ).loc main_arg0)
abbrev X1 : FVec Ideal S4x2816x1024 .bf16 := m ((c.tc : Thread nD τ).loc main_arg1)
abbrev X2 : FVec Ideal S4096x2816 .bf16 := m ((c.tc : Thread nD τ).loc main_arg2)
abbrev X3 : FVec Ideal S4096x2816 .bf16 := m ((c.tc : Thread nD τ).loc main_arg3)

/-- A load of a whole block reads the block. -/
theorem ld0 (x : FVec Ideal S256x1024 .f32) : View.ld (Val := Elt Ideal) (e' := .f32) x r0_0 = x :=
  View.ld_unit_lit (Val := Elt Ideal) (e := .f32) (S := S256x1024) inb_S256x1024_S256x1024_0_0 x (by decide)
theorem ld1 (x : FVec Ideal S1x2816x1024 .bf16) : View.ld (Val := Elt Ideal) (e' := .bf16) x r0_1 = x :=
  View.ld_unit_lit (Val := Elt Ideal) (e := .bf16) (S := S1x2816x1024) inb_S1x2816x1024_S1x2816x1024_0_0_0 x (by decide)
theorem ld2 (x : FVec Ideal S256x2816 .bf16) : View.ld (Val := Elt Ideal) (e' := .bf16) x r0_2 = x :=
  View.ld_unit_lit (Val := Elt Ideal) (e := .bf16) (S := S256x2816) inb_S256x2816_S256x2816_0_0 x (by decide)

/-! ## What a point writes: two stores, one after the other along the first axis -/

theorem out_zero (x0 : FVec Ideal S256x1024 .f32) (x1 : FVec Ideal S1x2816x1024 .bf16) (x2 x3 : FVec Ideal S256x2816 .bf16) (r : Fin 256) (n : Fin 2816) :
    out0_4 (F := Ideal) x0 x1 x2 x3 (ix3 0 r n) = k0_pay4 (F := Ideal) x0 x1 x2 x3 (ix3 0 r n) := by
  unfold out0_4
  refine View.canon_eq_of_allAt _ _ _ (cover0_4 _ _ _) ?_
  refine View.allAt_cons_unit _ _ _ _ _ (fun x hx => ?_) (View.allAt_cons_unit _ _ _ _ _ (fun x hx => ?_) (View.allAt_nil _ _))
  · have h := hx 0
    have h : 0 = 1 + (x 0).val := h
    omega
  · have h1 : r.val = 0 + (x 1).val := hx 1
    have h2 : n.val = 0 + (x 2).val := hx 2
    have h0 : (x 0).val < 1 := (x 0).isLt
    have ex : x = (ix3 (0 : Fin 1) r n : S1x256x2816.Idx) := by
      funext a
      apply Fin.ext
      fin_cases a
      · show (x 0).val = 0
        omega
      · show (x 1).val = r.val
        omega
      · show (x 2).val = n.val
        omega
    rw [ld0, ld1, ld2, ld2]
    exact congrArg _ ex

theorem out_one (x0 : FVec Ideal S256x1024 .f32) (x1 : FVec Ideal S1x2816x1024 .bf16) (x2 x3 : FVec Ideal S256x2816 .bf16) (r : Fin 256) (n : Fin 2816) :
    out0_4 (F := Ideal) x0 x1 x2 x3 (ix3 1 r n) = k0_pay5 (F := Ideal) x0 x1 x2 (ix3 0 r n) := by
  unfold out0_4
  refine View.canon_eq_of_allAt _ _ _ (cover0_4 _ _ _) ?_
  refine View.allAt_cons_unit _ _ _ _ _ (fun x hx => ?_) (View.allAt_cons_unit _ _ _ _ _ (fun x hx => ?_) (View.allAt_nil _ _))
  · have h1 : r.val = 0 + (x 1).val := hx 1
    have h2 : n.val = 0 + (x 2).val := hx 2
    have h0 : (x 0).val < 1 := (x 0).isLt
    have ex : x = (ix3 (0 : Fin 1) r n : S1x256x2816.Idx) := by
      funext a
      apply Fin.ext
      fin_cases a
      · show (x 0).val = 0
        omega
      · show (x 1).val = r.val
        omega
      · show (x 2).val = n.val
        omega
    rw [ld0, ld1, ld2]
    exact congrArg _ ex
  · have h : 1 = 0 + (x 0).val := hx 0
    have h0 : (x 0).val < 1 := (x 0).isLt
    omega

/-! ## The blocks a point reads -/

theorem points : ∀ t : Fin cfg0.N, t.val < 16 := by decide +kernel
theorem index0 : ∀ t : Fin cfg0.N, (cfg0.win 0).index t (0 : Fin 2) = t.val ∧ (cfg0.win 0).index t (1 : Fin 2) = 0 := by decide +kernel
theorem index1 : ∀ t : Fin cfg0.N, (cfg0.win 1).index t (0 : Fin 3) = 3 ∧ (cfg0.win 1).index t (1 : Fin 3) = 0 ∧ (cfg0.win 1).index t (2 : Fin 3) = 0 := by decide +kernel
theorem index2 : ∀ t : Fin cfg0.N, (cfg0.win 2).index t (0 : Fin 2) = t.val ∧ (cfg0.win 2).index t (1 : Fin 2) = 0 := by decide +kernel
theorem index3 : ∀ t : Fin cfg0.N, (cfg0.win 3).index t (0 : Fin 2) = t.val ∧ (cfg0.win 3).index t (1 : Fin 2) = 0 := by decide +kernel
theorem index4 : ∀ t : Fin cfg0.N, (cfg0.win 4).index t (0 : Fin 3) = 0 ∧ (cfg0.win 4).index t (1 : Fin 3) = t.val ∧ (cfg0.win 4).index t (2 : Fin 3) = 0 := by decide +kernel

/-- The row of the array that a block's row is. -/
def row (t : Fin cfg0.N) (r : Fin 256) : Fin 4096 := ⟨t.val * 256 + r.val, by have := points t; omega⟩

theorem at0 (W : (b : Ref sig Kind.tc) → Buf (Elt Ideal) ((c : Thread nD τ).loc b)) (t : Fin cfg0.N) (r : Fin 256) (l : Fin 1024) :
    View.read (Elt Ideal) ((cfg0.win 0).blk t).view (W (Pipeline.arrRef spec0 0)) (ix2 r l) = (W main_arg0 : FVec Ideal S4096x1024 .f32) (ix2 (row t r) l) := by
  blk_ext [row, (index0 t).1, (index0 t).2]

theorem at1 (W : (b : Ref sig Kind.tc) → Buf (Elt Ideal) ((c : Thread nD τ).loc b)) (t : Fin cfg0.N) (n : Fin 2816) (l : Fin 1024) :
    View.read (Elt Ideal) ((cfg0.win 1).blk t).view (W (Pipeline.arrRef spec0 1)) (ix3 0 n l) = (W main_arg1 : FVec Ideal S4x2816x1024 .bf16) (ix3 3 n l) := by
  blk_ext [(index1 t).1, (index1 t).2.1, (index1 t).2.2]

theorem at2 (W : (b : Ref sig Kind.tc) → Buf (Elt Ideal) ((c : Thread nD τ).loc b)) (t : Fin cfg0.N) (r : Fin 256) (n : Fin 2816) :
    View.read (Elt Ideal) ((cfg0.win 2).blk t).view (W (Pipeline.arrRef spec0 2)) (ix2 r n) = (W main_arg2 : FVec Ideal S4096x2816 .bf16) (ix2 (row t r) n) := by
  blk_ext [row, (index2 t).1, (index2 t).2]

theorem at3 (W : (b : Ref sig Kind.tc) → Buf (Elt Ideal) ((c : Thread nD τ).loc b)) (t : Fin cfg0.N) (r : Fin 256) (n : Fin 2816) :
    View.read (Elt Ideal) ((cfg0.win 3).blk t).view (W (Pipeline.arrRef spec0 3)) (ix2 r n) = (W main_arg3 : FVec Ideal S4096x2816 .bf16) (ix2 (row t r) n) := by
  blk_ext [row, (index3 t).1, (index3 t).2]

theorem blk0 (t : Fin cfg0.N) (r : Fin 256) (l : Fin 1024) : (iblk m c 0 t : FVec Ideal S256x1024 .f32) (ix2 r l) = X0 m c (ix2 (row t r) l) := by
  refine (at0 c (V m c) t r l).trans ?_
  rw [V_main_arg0]
theorem blk1 (t : Fin cfg0.N) (n : Fin 2816) (l : Fin 1024) : (iblk m c 1 t : FVec Ideal S1x2816x1024 .bf16) (ix3 0 n l) = X1 m c (ix3 3 n l) := by
  refine (at1 c (V m c) t n l).trans ?_
  rw [V_main_arg1]
theorem blk2 (t : Fin cfg0.N) (r : Fin 256) (n : Fin 2816) : (iblk m c 2 t : FVec Ideal S256x2816 .bf16) (ix2 r n) = X2 m c (ix2 (row t r) n) := by
  refine (at2 c (V m c) t r n).trans ?_
  rw [V_main_arg2]
theorem blk3 (t : Fin cfg0.N) (r : Fin 256) (n : Fin 2816) : (iblk m c 3 t : FVec Ideal S256x2816 .bf16) (ix2 r n) = X3 m c (ix2 (row t r) n) := by
  refine (at3 c (V m c) t r n).trans ?_
  rw [V_main_arg3]

/-- The cotangent of the activation: the scaled cotangent times the transposed weights. -/
def da (x0 : FVec Ideal S4096x1024 .f32) (x1 : FVec Ideal S4x2816x1024 .bf16) (s : Fin 4096) (n : Fin 2816) : EReal :=
  ∑ l : Fin 1024, FloatOps.ofBits (F := Ideal) .f32 0x3F000000#32 * x0 (ix2 s l) * x1 (ix3 3 n l)

theorem pay1_apply (t : Fin cfg0.N) (r : Fin 256) (n : Fin 2816) :
    k0_pay1 (F := Ideal) (iblk m c 0 t) (iblk m c 1 t) (ix2 r n) = da (X0 m c) (X1 m c) (row t r) n := by
  have h0 := blk0 m c t
  have h1 := blk1 m c t
  unfold k0_pay1 da
  generalize iblk m c 0 t = x at h0
  generalize iblk m c 1 t = y at h1
  pointwise
  refine Finset.sum_congr rfl fun l _ => ?_
  rw [h0, h1]

/-- The gradient of the gate's two inputs as the kernel writes it. -/
def gateK (x0 : FVec Ideal S4096x1024 .f32) (x1 : FVec Ideal S4x2816x1024 .bf16) (x2 x3 : FVec Ideal S4096x2816 .bf16) (s : Fin 4096) (n : Fin 2816) : EReal :=
  da x0 x1 s n * x3 (ix2 s n) * (Ideal.logistic (x2 (ix2 s n)) * (1 + x2 (ix2 s n) * (1 - Ideal.logistic (x2 (ix2 s n)))))
def upK (x0 : FVec Ideal S4096x1024 .f32) (x1 : FVec Ideal S4x2816x1024 .bf16) (x2 : FVec Ideal S4096x2816 .bf16) (s : Fin 4096) (n : Fin 2816) : EReal :=
  da x0 x1 s n * x2 (ix2 s n) * Ideal.logistic (x2 (ix2 s n))

theorem gate_apply (t : Fin cfg0.N) (r : Fin 256) (n : Fin 2816) :
    out0_4 (F := Ideal) (iblk m c 0 t) (iblk m c 1 t) (iblk m c 2 t) (iblk m c 3 t) (ix3 0 r n) = gateK (X0 m c) (X1 m c) (X2 m c) (X3 m c) (row t r) n := by
  rw [out_zero]
  have h1 := pay1_apply m c t
  have h2 := blk2 m c t
  have h3 := blk3 m c t
  unfold k0_pay4 k0_pay3 k0_pay2 gateK
  generalize k0_pay1 (F := Ideal) (iblk m c 0 t) (iblk m c 1 t) = p at h1
  generalize iblk m c 2 t = x at h2
  generalize iblk m c 3 t = y at h3
  pointwise
  rw [h1, h2, h3]

theorem up_apply (t : Fin cfg0.N) (r : Fin 256) (n : Fin 2816) :
    out0_4 (F := Ideal) (iblk m c 0 t) (iblk m c 1 t) (iblk m c 2 t) (iblk m c 3 t) (ix3 1 r n) = upK (X0 m c) (X1 m c) (X2 m c) (row t r) n := by
  rw [out_one]
  have h1 := pay1_apply m c t
  have h2 := blk2 m c t
  unfold k0_pay5 k0_pay3 k0_pay2 upK
  generalize k0_pay1 (F := Ideal) (iblk m c 0 t) (iblk m c 1 t) = p at h1
  generalize iblk m c 2 t = x at h2
  pointwise
  rw [h1, h2]

/-- The array after the run is any array that has the two gradients as its halves. -/
theorem array (G : FVec Ideal S2x4096x2816 .bf16)
    (hg : ∀ (s : Fin 4096) (n : Fin 2816), G (ix3 0 s n) = gateK (X0 m c) (X1 m c) (X2 m c) (X3 m c) s n)
    (hu : ∀ (s : Fin 4096) (n : Fin 2816), G (ix3 1 s n) = upK (X0 m c) (X1 m c) (X2 m c) s n) :
    (dats m 0 c).arrAt 4 cfg0.N = G := by
  refine (dats m 0 c).arrAt_eq_of_covers 4 _ (by decide +kernel) fun t hf y => ?_
  have eg := gate_apply m c t
  have eu := up_apply m c t
  have hy0 : (y 0).val < 2 := (y 0).isLt
  have hy1 : (y 1).val < 256 := (y 1).isLt
  have hy2 : (y 2).val < 2816 := (y 2).isLt
  blk_simp [after0_4, (index4 t).1, (index4 t).2.1, (index4 t).2.2]
  generalize out0_4 (F := Ideal) (iblk m c 0 t) (iblk m c 1 t) (iblk m c 2 t) (iblk m c 3 t) = o at eg eu
  have e0 : (((cfg0.win 4).blk t).view.emb y (0 : Fin 3)).val = (y 0).val := by
    blk_simp [(index4 t).1]
  have e1 : (((cfg0.win 4).blk t).view.emb y (1 : Fin 3)).val = t.val * 256 + (y 1).val := by
    blk_simp [(index4 t).2.1]
  have e2 : (((cfg0.win 4).blk t).view.emb y (2 : Fin 3)).val = (y 2).val := by
    blk_simp [(index4 t).2.2]
  rcases (by omega : (y 0).val = 0 ∨ (y 0).val = 1) with hz | hz
  · have ey : y = (ix3 (0 : Fin 2) (⟨(y 1).val, hy1⟩ : Fin 256) (⟨(y 2).val, hy2⟩ : Fin 2816) : S2x256x2816.Idx) := by
      funext a
      fin_cases a
      · exact Fin.ext hz
      · rfl
      · rfl
    have ez : ((cfg0.win 4).blk t).view.emb y = (ix3 (0 : Fin 2) (row t ⟨(y 1).val, hy1⟩) (⟨(y 2).val, hy2⟩ : Fin 2816) : S2x4096x2816.Idx) := by
      funext a
      fin_cases a
      · exact Fin.ext (e0.trans hz)
      · exact Fin.ext e1
      · exact Fin.ext e2
    exact (congrArg o ey).trans ((eg _ _).trans ((hg _ _).symm.trans (congrArg G ez.symm)))
  · have ey : y = (ix3 (1 : Fin 2) (⟨(y 1).val, hy1⟩ : Fin 256) (⟨(y 2).val, hy2⟩ : Fin 2816) : S2x256x2816.Idx) := by
      funext a
      fin_cases a
      · exact Fin.ext hz
      · rfl
      · rfl
    have ez : ((cfg0.win 4).blk t).view.emb y = (ix3 (1 : Fin 2) (row t ⟨(y 1).val, hy1⟩) (⟨(y 2).val, hy2⟩ : Fin 2816) : S2x4096x2816.Idx) := by
      funext a
      fin_cases a
      · exact Fin.ext (e0.trans hz)
      · exact Fin.ext e1
      · exact Fin.ext e2
    exact (congrArg o ey).trans ((eu _ _).trans ((hu _ _).symm.trans (congrArg G ez.symm)))

end Cert.DactIdeal.Entry

namespace Cert.RefDactIdeal.Grad

open Idealize.ShloMosaic Idealize.ShloMosaic.TcCoe Idealize.SL.Sem Read DactIdeal.Entry

variable (x0 : FVec Ideal S4096x1024 .f32) (x1 : FVec Ideal S4x2816x1024 .bf16) (x2 x3 : FVec Ideal S4096x2816 .bf16)

theorem v12 (s : Fin 4096) (n : Fin 2816) : val_main_v12 (F := Ideal) x0 x1 (ix2 s n) = da x0 x1 s n := by
  unfold val_main_v12 val_main_v11 val_main_v10 val_main_cst_0 val_main_v6 val_main_v5 val_main_v4 da
  pointwise

/-- Where the cotangent, the weights and the up projection are real, the reference's gradient of the gate is the kernel's. -/
theorem v19_zero (h0 : ∀ (s : Fin 4096) (l : Fin 1024), ∃ a : ℝ, x0 (ix2 s l) = (a : EReal))
    (h1 : ∀ (n : Fin 2816) (l : Fin 1024), ∃ a : ℝ, x1 (ix3 3 n l) = (a : EReal))
    (h3 : ∀ (s : Fin 4096) (n : Fin 2816), ∃ a : ℝ, x3 (ix2 s n) = (a : EReal)) (s : Fin 4096) (n : Fin 2816) :
    val_main_v19 (F := Ideal) x0 x1 x2 x3 (ix3 0 s n) = gateK x0 x1 x2 x3 s n := by
  have h := v12 x0 x1 s n
  unfold val_main_v19 val_main_v18 val_main_v16 val_main_v17 val_main_v15 val_main_call1_v2 val_main_call1_v1 val_main_call1_v0 val_main_v14 val_main_v13
    val_main_v2_0 val_main_v2_1 val_main_call0_v7 val_main_v2_2 val_main_call0_v6 val_main_call0_v4 val_main_call0_v3 val_main_call0_v2 val_main_call0_v1
    val_main_call0_v0 val_main_call0_cst val_main_call0_cst_0 val_main_call0_cst_1 val_main_v1 val_main_v0
  generalize val_main_v12 (F := Ideal) x0 x1 = p at h
  pointwise
  rw [h]
  have hd : ∃ a : ℝ, da x0 x1 s n = (a : EReal) := by
    refine Gate.real_sum _ _ fun l => ?_
    obtain ⟨a, ha⟩ := h0 s l
    obtain ⟨b, hb⟩ := h1 n l
    obtain ⟨q, hq⟩ := Gate.half
    exact ⟨q * a * b, by rw [ha, hb, hq, ← EReal.coe_mul, ← EReal.coe_mul]⟩
  obtain ⟨a, ha⟩ := hd
  obtain ⟨b, hb⟩ := h3 s n
  unfold gateK
  rw [ha, hb, ← EReal.coe_mul]
  exact (Gate.gate_eq (a * b) (x2 (ix2 s n))).symm

theorem v19_one (s : Fin 4096) (n : Fin 2816) : val_main_v19 (F := Ideal) x0 x1 x2 x3 (ix3 1 s n) = upK x0 x1 x2 s n := by
  have h := v12 x0 x1 s n
  unfold val_main_v19 val_main_v18 val_main_v16 val_main_v17 val_main_v15 val_main_call1_v2 val_main_call1_v1 val_main_call1_v0 val_main_v14 val_main_v13
    val_main_v2_0 val_main_v2_1 val_main_call0_v7 val_main_v2_2 val_main_call0_v6 val_main_call0_v4 val_main_call0_v3 val_main_call0_v2 val_main_call0_v1
    val_main_call0_v0 val_main_call0_cst val_main_call0_cst_0 val_main_call0_cst_1 val_main_v1 val_main_v0
  generalize val_main_v12 (F := Ideal) x0 x1 = p at h
  pointwise
  rw [h, mul_comm, ← mul_assoc]
  rfl

end Cert.RefDactIdeal.Grad

end
-- ==== Proof.DactJoin.lean ====
/- The gradient before the gate: the kernel and the reference leave the same array where the cotangent, the weights and the up projection are finite. -/
module

public import proofs.«01_k».proof.Proof.DactValue
public import proofs.«01_k».proof.Proof.Gen.RefDactIdeal.Run
public import Idealize.ShloMosaic.Lib.ValueIdx

@[expose] public section

set_option maxRecDepth 16384

noncomputable section

namespace Cert.Pre_finite_dact

open Idealize.ShloMosaic

/-- The side conditions the precondition's own operations state. -/
theorem facts : Facts where
  bcast_S_S4096x1024 := by decide
  bcast_S_S4x2816x1024 := by decide
  bcast_S_S4096x2816 := by decide

/-- A number between the two infinities is real. -/
theorem real {x : EReal} (h : (⊥ : EReal) < x ∧ x < (⊤ : EReal)) : ∃ a : ℝ, x = (a : EReal) := ⟨x.toReal, (EReal.coe_toReal h.2.ne h.1.ne').symm⟩

variable [hPre : Facts] (x0 : FVec Ideal S4096x1024 .f32) (x1 : FVec Ideal S4x2816x1024 .bf16) (x2 x3 : FVec Ideal S4096x2816 .bf16)

theorem real0 (h : (fn (F := Ideal) x0 x1 x2 x3).1 = fun _ => 1#1) (s : Fin 4096) (l : Fin 1024) : ∃ a : ℝ, x0 (ix2 s l) = (a : EReal) := by
  have e := congrFun h (ix2 s l)
  unfold fn at e
  dsimp only at e
  pointwise at e
  have e := Pre_finite.between e
  rw [Pre_finite.bot_f32, Pre_finite.top_f32] at e
  exact real e

theorem real1 (h : (fn (F := Ideal) x0 x1 x2 x3).2.1 = fun _ => 1#1) (k : Fin 4) (n : Fin 2816) (l : Fin 1024) : ∃ a : ℝ, x1 (ix3 k n l) = (a : EReal) := by
  have e := congrFun h (ix3 k n l)
  unfold fn at e
  dsimp only at e
  pointwise at e
  have e := Pre_finite.between e
  rw [Pre_finite.bot_bf16, Pre_finite.top_bf16] at e
  exact real e

theorem real3 (h : (fn (F := Ideal) x0 x1 x2 x3).2.2 = fun _ => 1#1) (s : Fin 4096) (n : Fin 2816) : ∃ a : ℝ, x3 (ix2 s n) = (a : EReal) := by
  have e := congrFun h (ix2 s n)
  unfold fn at e
  dsimp only at e
  pointwise at e
  have e := Pre_finite.between e
  rw [Pre_finite.bot_bf16, Pre_finite.top_bf16] at e
  exact real e

end Cert.Pre_finite_dact

namespace Cert.DactJoin

open Idealize.ShloMosaic Idealize.ShloMosaic.TcCoe Idealize.SL.Sem

/-- Both run, with equal results and their arguments kept. -/
theorem algebraic : @Cert.algebraic_DactIdeal_RefDactIdeal_pre_finite_dact Cert.DactIdeal.Gen.facts Cert.RefDactIdeal.Gen.facts Cert.Pre_finite_dact.facts := by
  intro m g m' g' hpre hargs
  refine ⟨fun c => RefDactIdeal.Read.val_main_v19 (F := Ideal) (DactIdeal.Entry.X0 m c) (DactIdeal.Entry.X1 m c) (DactIdeal.Entry.X2 m c) (DactIdeal.Entry.X3 m c), ?_, ?_⟩
  · refine (θ_run DactIdeal.defs _ _).mono (fun r h c => ⟨(h c).1.trans ?_, (h c).2⟩) (DactIdeal.Value.run_blocks m g)
    exact DactIdeal.Entry.array m c _
      (RefDactIdeal.Grad.v19_zero _ _ _ _ (Pre_finite_dact.real0 (hPre := Pre_finite_dact.facts) _ _ _ _ (hpre c).1)
        (Pre_finite_dact.real1 (hPre := Pre_finite_dact.facts) _ _ _ _ (hpre c).2.1 3)
        (Pre_finite_dact.real3 (hPre := Pre_finite_dact.facts) _ _ _ _ (hpre c).2.2))
      (RefDactIdeal.Grad.v19_one _ _ _ _)
  · refine (θ_run RefDactIdeal.defs _ _).mono (fun r h c => ⟨(h c).1.trans ?_, (h c).2⟩) (RefDactIdeal.Value.run (F := Ideal) m' g')
    refine (RefDactIdeal.Read.val_main_v19_eq (F := Ideal) (StableHlo.launchContents m' c (Proc.devRef .tc RefDactIdeal.main_arg0)) (StableHlo.launchContents m' c (Proc.devRef .tc RefDactIdeal.main_arg1)) (StableHlo.launchContents m' c (Proc.devRef .tc RefDactIdeal.main_arg2)) (StableHlo.launchContents m' c (Proc.devRef .tc RefDactIdeal.main_arg3))).trans ?_
    have e0 : StableHlo.launchContents m' c (Proc.devRef .tc RefDactIdeal.main_arg0) = DactIdeal.Entry.X0 m c := (hargs c).1
    have e1 : StableHlo.launchContents m' c (Proc.devRef .tc RefDactIdeal.main_arg1) = DactIdeal.Entry.X1 m c := (hargs c).2.1
    have e2 : StableHlo.launchContents m' c (Proc.devRef .tc RefDactIdeal.main_arg2) = DactIdeal.Entry.X2 m c := (hargs c).2.2.1
    have e3 : StableHlo.launchContents m' c (Proc.devRef .tc RefDactIdeal.main_arg3) = DactIdeal.Entry.X3 m c := (hargs c).2.2.2
    rw [e0, e1, e2, e3]

/-- The reference's frame: it runs, keeps its arguments and leaves every semaphore at zero. -/
theorem frameR (m : (ℓ : Loc RefDactIdeal.nD RefDactIdeal.τ RefDactIdeal.sig) → Buf (Elt Ideal) ℓ) (ρ : Dev RefDactIdeal.nD → PrngReg) :
    θ_run (RefDactIdeal.defs (F := Ideal)) (onTc (τ := RefDactIdeal.τ) (RefDactIdeal.main (F := Ideal))) ⟨m, fun _ => 0, ρ⟩ (fun r => (∀ c : Dev RefDactIdeal.nD,
      r.2.mem ((c.tc : Thread RefDactIdeal.nD RefDactIdeal.τ).loc RefDactIdeal.main_arg0) = m ((c.tc : Thread RefDactIdeal.nD RefDactIdeal.τ).loc RefDactIdeal.main_arg0)
      ∧ r.2.mem ((c.tc : Thread RefDactIdeal.nD RefDactIdeal.τ).loc RefDactIdeal.main_arg1) = m ((c.tc : Thread RefDactIdeal.nD RefDactIdeal.τ).loc RefDactIdeal.main_arg1)
      ∧ r.2.mem ((c.tc : Thread RefDactIdeal.nD RefDactIdeal.τ).loc RefDactIdeal.main_arg2) = m ((c.tc : Thread RefDactIdeal.nD RefDactIdeal.τ).loc RefDactIdeal.main_arg2)
      ∧ r.2.mem ((c.tc : Thread RefDactIdeal.nD RefDactIdeal.τ).loc RefDactIdeal.main_arg3) = m ((c.tc : Thread RefDactIdeal.nD RefDactIdeal.τ).loc RefDactIdeal.main_arg3))
      ∧ r.2.sem = fun _ => 0) :=
  (θ_run RefDactIdeal.defs _ _).mono (fun r h => ⟨fun c => (h c).2, sem_eq_zero_of_no_sems (by decide) r.2⟩) (RefDactIdeal.Value.run (F := Ideal) m ρ)

end Cert.DactJoin

end
-- ==== Proof.Norm.lean ====
/- The factor by which the root-mean-square norm scales a row, and the norm's gradient. -/
module

public import Idealize.ShloMosaic.Lib.Pointwise

@[expose] public section

noncomputable section

namespace Cert.Norm

open Idealize.ShloMosaic

/-- A row's mean square plus the norm's small constant. -/
def msq (h : Fin 1024 → EReal) : EReal := Ideal.div (∑ d, h d * h d) (Ideal.ofBits FTy.f32 1149239296#32) + Ideal.ofBits FTy.f32 897988541#32
/-- The reciprocal of its root. -/
def inv (h : Fin 1024 → EReal) : EReal := Ideal.rsqrt (msq h)

/-- The part of the norm's gradient that goes through the mean square. -/
def corr (h x γ : Fin 1024 → EReal) : EReal := ∑ _u : Fin 1, Ideal.div ((∑ d, h d * (x d * γ d)) *
  (Ideal.ofBits FTy.f32 3204448256#32 * Ideal.div (inv h) (msq h))) (Ideal.ofBits FTy.f32 1149239296#32)
/-- The norm's gradient. -/
def ngrad (h x γ : Fin 1024 → EReal) (d : Fin 1024) : EReal := x d * γ d * inv h + h d * corr h x γ + corr h x γ * h d

end Cert.Norm

end
-- ==== Proof.DxnValue.lean ====
/- The gradient before the norm: what the kernel's arrays hold, entry by entry. -/
module

public import proofs.«01_k».proof.Proof.Entries
public import proofs.«01_k».proof.Proof.Norm
public import proofs.«01_k».proof.Proof.Gen.DxnIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DxnIdeal.Entry

open Cert.DxnIdeal Cert.DxnIdeal.Gen Cert.Entries Cert.Norm
open Idealize.ShloMosaic Idealize.ShloMosaic.TcCoe Idealize.SL.Sem

variable (m : (ℓ : Loc nD τ sig) → Buf (Elt Ideal) ℓ) (c : Dev nD)

/-- The arguments. -/
abbrev X0 : FVec Ideal S2x4096x2816 .bf16 := m ((c.tc : Thread nD τ).loc main_arg0)
abbrev X1 : FVec Ideal S4x4x1024x1408 .bf16 := m ((c.tc : Thread nD τ).loc main_arg1)
abbrev X2 : FVec Ideal S4096x1024 .f32 := m ((c.tc : Thread nD τ).loc main_arg2)
abbrev X3 : FVec Ideal S1x1024 .f32 := m ((c.tc : Thread nD τ).loc main_arg3)
abbrev X4 : FVec Ideal S4096x1024 .f32 := m ((c.tc : Thread nD τ).loc main_arg4)

/-- The product over one part of 1408 columns, at a grid point. -/
def part (t : Fin cfg0.N) : FVec Ideal S1024x1024 .f32 := k0_pay1 (iblk m c 0 t) (iblk m c 1 t)

theorem acc_A (t : Fin cfg0.N) (h0 : t.val % 4 = 0) (h1 : ¬1 ≤ t.val % 4) (h2 : ¬t.val % 4 = 3) :
    (outsAt0 m c t.val t.isLt).2.2 = part m c t := by
  rw [outsAt0_A m c t h0 h1 h2]
  dsimp only
  frame_open
  frame_out
  exact shapeCast_id ..

theorem acc_B (t : Fin cfg0.N) (h0 : ¬t.val % 4 = 0) (h1 : 1 ≤ t.val % 4) (h2 : ¬t.val % 4 = 3) :
    (outsAt0 m c t.val t.isLt).2.2 = addf (outsAt0 m c (t.val - 1) (Nat.lt_of_le_of_lt (Nat.sub_le _ _) t.isLt)).2.2 (part m c t) := by
  rw [outsAt0_B m c t h0 h1 h2]
  dsimp only
  frame_open
  frame_out
  rw [read_unread_whole]
  exact shapeCast_id ..

theorem acc_C (t : Fin cfg0.N) (h0 : ¬t.val % 4 = 0) (h1 : 1 ≤ t.val % 4) (h2 : t.val % 4 = 3) :
    (outsAt0 m c t.val t.isLt).2.2 = addf (outsAt0 m c (t.val - 1) (Nat.lt_of_le_of_lt (Nat.sub_le _ _) t.isLt)).2.2 (part m c t) := by
  by_cases h3 : t.val < 4
  · rw [outsAt0_C m c t h0 h1 h2 h3]
    dsimp only
    frame_open
    frame_out
    rw [read_unread_whole]
    exact shapeCast_id ..
  · rw [outsAt0_D m c t h0 h1 h2 h3]
    dsimp only
    frame_open
    frame_out
    rw [read_unread_whole]
    exact shapeCast_id ..

/-- The point that closes a row block writes the block of the first result. -/
theorem out_C (t : Fin cfg0.N) (h2 : t.val % 4 = 3) :
    (outsAt0 m c t.val t.isLt).1 = k0_pay8 (outsAt0 m c t.val t.isLt).2.2 (iblk m c 2 t) (iblk m c 3 t) (iblk m c 4 t) := by
  rw [acc_C m c t (by omega) (by omega) h2]
  by_cases h3 : t.val < 4
  · rw [outsAt0_C m c t (by omega) (by omega) h2 h3]
    dsimp only
    frame_open
    frame_out
    rw [read_unread_whole]
    exact congrArg (k0_pay8 · _ _ _) (shapeCast_id ..)
  · rw [outsAt0_D m c t (by omega) (by omega) h2 h3]
    dsimp only
    frame_open
    frame_out
    rw [read_unread_whole]
    exact congrArg (k0_pay8 · _ _ _) (shapeCast_id ..)

/-- It adds the block's part to the second result, which the first row block starts at zero. -/
theorem sum_first (t : Fin cfg0.N) (h2 : t.val % 4 = 3) (h3 : t.val < 4) :
    (outsAt0 m c t.val t.isLt).2.1 = k0_pay4 (k0_pay7 (outsAt0 m c t.val t.isLt).2.2 (iblk m c 2 t)) (k0_pay9 (F := Ideal)) := by
  rw [acc_C m c t (by omega) (by omega) h2]
  rw [outsAt0_C m c t (by omega) (by omega) h2 h3]
  dsimp only
  frame_open
  frame_out
  rw [read_unread_whole]
  exact congrArg (fun x => k0_pay4 (k0_pay7 x _) _) (shapeCast_id ..)

theorem sum_next (t : Fin cfg0.N) (h2 : t.val % 4 = 3) (h3 : ¬t.val < 4) :
    (outsAt0 m c t.val t.isLt).2.1 = k0_pay4 (k0_pay7 (outsAt0 m c t.val t.isLt).2.2 (iblk m c 2 t))
      (outsAt0 m c (t.val - 1) (Nat.lt_of_le_of_lt (Nat.sub_le _ _) t.isLt)).2.1 := by
  rw [acc_C m c t (by omega) (by omega) h2]
  rw [outsAt0_D m c t (by omega) (by omega) h2 h3]
  dsimp only
  frame_open
  frame_out
  rw [read_unread_whole]
  exact congrArg (fun x => k0_pay4 (k0_pay7 x _) _) (shapeCast_id ..)

/-- The other points leave the second result as it is. -/
theorem sum_keep (t : Fin cfg0.N) (h2 : ¬t.val % 4 = 3) :
    (outsAt0 m c t.val t.isLt).2.1 = (outsAt0 m c (t.val - 1) (Nat.lt_of_le_of_lt (Nat.sub_le _ _) t.isLt)).2.1 := by
  by_cases h0 : t.val % 4 = 0
  · rw [outsAt0_A m c t h0 (by omega) h2]
    rfl
  · rw [outsAt0_B m c t h0 (by omega) h2]
    rfl

/-! ## The blocks a point reads -/

theorem index0 : ∀ t : Fin cfg0.N, (cfg0.win 0).index t (0 : Fin 3) = t.val % 4 / 2 ∧ (cfg0.win 0).index t (1 : Fin 3) = t.val / 4
    ∧ (cfg0.win 0).index t (2 : Fin 3) = t.val % 4 % 2 := by decide +kernel
theorem index1 : ∀ t : Fin cfg0.N, (cfg0.win 1).index t (0 : Fin 4) = 0 ∧ (cfg0.win 1).index t (1 : Fin 4) = t.val % 4
    ∧ (cfg0.win 1).index t (2 : Fin 4) = 0 ∧ (cfg0.win 1).index t (3 : Fin 4) = 0 := by decide +kernel
theorem index2 : ∀ t : Fin cfg0.N, (cfg0.win 2).index t (0 : Fin 2) = t.val / 4 ∧ (cfg0.win 2).index t (1 : Fin 2) = 0 := by decide +kernel
theorem index3 : ∀ t : Fin cfg0.N, (cfg0.win 3).index t (0 : Fin 2) = t.val / 4 ∧ (cfg0.win 3).index t (1 : Fin 2) = 0 := by decide +kernel
theorem index4 : ∀ t : Fin cfg0.N, (cfg0.win 4).index t (0 : Fin 2) = 0 ∧ (cfg0.win 4).index t (1 : Fin 2) = 0 := by decide +kernel
theorem index5 : ∀ t : Fin cfg0.N, (cfg0.win 5).index t (0 : Fin 2) = t.val / 4 ∧ (cfg0.win 5).index t (1 : Fin 2) = 0 := by decide +kernel
theorem index6 : ∀ t : Fin cfg0.N, (cfg0.win 6).index t (0 : Fin 2) = 0 ∧ (cfg0.win 6).index t (1 : Fin 2) = 0 := by decide +kernel
theorem flush5 : ∀ t : Fin cfg0.N, (cfg0.win 5).flush t = decide (t.val % 4 = 3) := by decide +kernel
theorem flush6 : ∀ t : Fin cfg0.N, (cfg0.win 6).flush t = decide (t.val = 15) := by decide +kernel
theorem points : ∀ t : Fin cfg0.N, t.val < 16 := by decide +kernel

/-- The row of the array that row `r` of the point's block is. -/
def row (t : Fin cfg0.N) (r : Fin 1024) : Fin 4096 := ⟨t.val / 4 * 1024 + r.val, by have := points t; omega⟩

theorem at0 (W : (b : Ref sig Kind.tc) → Buf (Elt Ideal) ((c : Thread nD τ).loc b)) (t : Fin cfg0.N) (r : Fin 1024) (n : Fin 1408) :
    View.read (Elt Ideal) ((cfg0.win 0).blk t).view (W (Pipeline.arrRef spec0 0)) (ix3 0 r n) =
      (W main_arg0 : FVec Ideal S2x4096x2816 .bf16) (ix3 (⟨t.val % 4 / 2, by omega⟩ : Fin 2) (row t r) (⟨t.val % 4 % 2 * 1408 + n.val, by omega⟩ : Fin 2816)) := by
  blk_ext [row, (index0 t).1, (index0 t).2.1, (index0 t).2.2]

theorem at1 (W : (b : Ref sig Kind.tc) → Buf (Elt Ideal) ((c : Thread nD τ).loc b)) (t : Fin cfg0.N) (d : Fin 1024) (n : Fin 1408) :
    View.read (Elt Ideal) ((cfg0.win 1).blk t).view (W (Pipeline.arrRef spec0 1)) (ix4 0 0 d n) =
      (W main_arg1 : FVec Ideal S4x4x1024x1408 .bf16) (ix4 (0 : Fin 4) (⟨t.val % 4, by omega⟩ : Fin 4) d n) := by
  blk_ext [(index1 t).1, (index1 t).2.1, (index1 t).2.2.1, (index1 t).2.2.2]

theorem at2 (W : (b : Ref sig Kind.tc) → Buf (Elt Ideal) ((c : Thread nD τ).loc b)) (t : Fin cfg0.N) (r : Fin 1024) (d : Fin 1024) :
    View.read (Elt Ideal) ((cfg0.win 2).blk t).view (W (Pipeline.arrRef spec0 2)) (ix2 r d) = (W main_arg2 : FVec Ideal S4096x1024 .f32) (ix2 (row t r) d) := by
  blk_ext [row, (index2 t).1, (index2 t).2]

theorem at3 (W : (b : Ref sig Kind.tc) → Buf (Elt Ideal) ((c : Thread nD τ).loc b)) (t : Fin cfg0.N) (r : Fin 1024) (d : Fin 1024) :
    View.read (Elt Ideal) ((cfg0.win 3).blk t).view (W (Pipeline.arrRef spec0 3)) (ix2 r d) = (W main_arg4 : FVec Ideal S4096x1024 .f32) (ix2 (row t r) d) := by
  blk_ext [row, (index3 t).1, (index3 t).2]

theorem at4 (W : (b : Ref sig Kind.tc) → Buf (Elt Ideal) ((c : Thread nD τ).loc b)) (t : Fin cfg0.N) (d : Fin 1024) :
    View.read (Elt Ideal) ((cfg0.win 4).blk t).view (W (Pipeline.arrRef spec0 4)) (ix2 0 d) = (W main_arg3 : FVec Ideal S1x1024 .f32) (ix2 0 d) := by
  blk_ext [(index4 t).1, (index4 t).2]

theorem blk0 (t : Fin cfg0.N) (r : Fin 1024) (n : Fin 1408) :
    (iblk m c 0 t : FVec Ideal S1x1024x1408 .bf16) (ix3 0 r n) = ent3 (X0 m c) (t.val % 4 / 2) (row t r).val (t.val % 4 % 2 * 1408 + n.val) := by
  refine (at0 c (V m c) t r n).trans ?_
  rw [V_main_arg0]
  exact ent3_eq (X0 m c) _ _ _

theorem blk1 (t : Fin cfg0.N) (d : Fin 1024) (n : Fin 1408) :
    (iblk m c 1 t : FVec Ideal S1x1x1024x1408 .bf16) (ix4 0 0 d n) = ent4 (X1 m c) 0 (t.val % 4) d.val n.val := by
  refine (at1 c (V m c) t d n).trans ?_
  rw [V_main_arg1]
  exact ent4_eq (X1 m c) _ _ _ _

theorem blk2 (t : Fin cfg0.N) (r : Fin 1024) (d : Fin 1024) : (iblk m c 2 t : FVec Ideal S1024x1024 .f32) (ix2 r d) = X2 m c (ix2 (row t r) d) := by
  refine (at2 c (V m c) t r d).trans ?_
  rw [V_main_arg2]

theorem blk3 (t : Fin cfg0.N) (r : Fin 1024) (d : Fin 1024) : (iblk m c 3 t : FVec Ideal S1024x1024 .f32) (ix2 r d) = X4 m c (ix2 (row t r) d) := by
  refine (at3 c (V m c) t r d).trans ?_
  rw [V_main_arg4]

theorem blk4 (t : Fin cfg0.N) (d : Fin 1024) : (iblk m c 4 t : FVec Ideal S1x1024 .f32) (ix2 0 d) = X3 m c (ix2 0 d) := by
  refine (at4 c (V m c) t d).trans ?_
  rw [V_main_arg3]

/-- One column's term of the gradient before the norm. -/
def term (x0 : FVec Ideal S2x4096x2816 .bf16) (x1 : FVec Ideal S4x4x1024x1408 .bf16) (s d k : ℕ) : EReal :=
  ent3 x0 (k / 2816) s (k % 2816) * ent4 x1 0 (k / 1408) d (k % 1408)
/-- The gradient before the norm. -/
def dxn (x0 : FVec Ideal S2x4096x2816 .bf16) (x1 : FVec Ideal S4x4x1024x1408 .bf16) (s d : ℕ) : EReal := ∑ k : Fin 5632, term x0 x1 s d k.val

theorem part_apply (t : Fin cfg0.N) (r d : Fin 1024) :
    part m c t (ix2 r d) = ∑ n : Fin 1408, term (X0 m c) (X1 m c) (t.val / 4 * 1024 + r.val) d.val (1408 * (t.val % 4) + n.val) := by
  have h0 := blk0 m c t
  have h1 := blk1 m c t
  unfold part k0_pay1
  generalize iblk m c 0 t = x at h0
  generalize iblk m c 1 t = y at h1
  pointwise
  refine Finset.sum_congr rfl fun n _ => ?_
  rw [h0, h1, term]
  have e1 : (1408 * (t.val % 4) + n.val) / 2816 = t.val % 4 / 2 := by omega
  have e2 : (1408 * (t.val % 4) + n.val) % 2816 = t.val % 4 % 2 * 1408 + n.val := by omega
  have e3 : (1408 * (t.val % 4) + n.val) / 1408 = t.val % 4 := by omega
  have e4 : (1408 * (t.val % 4) + n.val) % 1408 = n.val := by omega
  rw [e1, e2, e3, e4]
  rfl

/-- The accumulator after a point. -/
theorem acc (t : Fin cfg0.N) (r d : Fin 1024) : (outsAt0 m c t.val t.isLt).2.2 (ix2 r d) =
    ∑ k ∈ Finset.range (t.val % 4 + 1), ∑ n : Fin 1408, term (X0 m c) (X1 m c) (t.val / 4 * 1024 + r.val) d.val (1408 * k + n.val) := by
  have e := Pipeline.eq_sum_of_reset_step_apply_divmod (fun n h => (outsAt0 m c n h).2.2) 4 (fun _ => (0 : EReal))
    (fun j k (i : S1024x1024.Idx) => ∑ n : Fin 1408, term (X0 m c) (X1 m c) (j * 1024 + (i 0).val) (i 1).val (1408 * k + n.val))
    (fun t h i => by
      have ei : i = ix2 (i 0 : Fin 1024) (i 1 : Fin 1024) := by funext a; fin_cases a <;> rfl
      have h := congrFun (acc_A m c t h (by omega) (by omega)) i
      rw [zero_add]
      exact h.trans ((congrArg _ ei).trans (part_apply m c t (i 0 : Fin 1024) (i 1 : Fin 1024))))
    (fun t h i => by
      have ei : i = ix2 (i 0 : Fin 1024) (i 1 : Fin 1024) := by funext a; fin_cases a <;> rfl
      have e : (outsAt0 m c t.val t.isLt).2.2 = addf (outsAt0 m c (t.val - 1) (Nat.lt_of_le_of_lt (Nat.sub_le _ _) t.isLt)).2.2 (part m c t) := by
        by_cases h3 : t.val % 4 = 3
        · exact acc_C m c t h (by omega) h3
        · exact acc_B m c t h (by omega) h3
      refine (congrFun e i).trans ?_
      exact congrArg _ ((congrArg (part m c t) ei).trans (part_apply m c t (i 0 : Fin 1024) (i 1 : Fin 1024))))
    t (ix2 r d)
  rw [zero_add] at e
  exact e

theorem acc_full (t : Fin cfg0.N) (h : t.val % 4 = 3) (r d : Fin 1024) :
    (outsAt0 m c t.val t.isLt).2.2 (ix2 r d) = dxn (X0 m c) (X1 m c) (row t r).val d.val := by
  rw [acc, h]
  exact sum_blocks 1408 _ 4

theorem pay5 (x : FVec Ideal S1024x1024 .f32) (r : Fin 1024) (u : Fin 1) : k0_pay5 (F := Ideal) x (ix2 r u) = msq fun d => x (ix2 r d) := by
  unfold k0_pay5
  pointwise
  rfl

theorem pay6 (x : FVec Ideal S1024x1024 .f32) (r : Fin 1024) (u : Fin 1) : k0_pay6 (F := Ideal) x (ix2 r u) = inv fun d => x (ix2 r d) := by
  have h := pay5 x
  unfold k0_pay6
  generalize k0_pay5 (F := Ideal) x = p at h
  pointwise
  rw [h]
  rfl

theorem pay7 (a x : FVec Ideal S1024x1024 .f32) (d : Fin 1024) : k0_pay7 (F := Ideal) a x (ix2 0 d) =
    ∑ r : Fin 1024, x (ix2 r d) * inv (fun e => x (ix2 r e)) * a (ix2 r d) := by
  have h := pay6 x
  unfold k0_pay7
  generalize k0_pay6 (F := Ideal) x = p at h
  pointwise
  exact Finset.sum_congr rfl fun r _ => by rw [h]

theorem pay8 (a x y : FVec Ideal S1024x1024 .f32) (g : FVec Ideal S1x1024 .f32) (r d : Fin 1024) : k0_pay8 (F := Ideal) a x y g (ix2 r d) =
    y (ix2 r d) + ngrad (fun e => x (ix2 r e)) (fun e => a (ix2 r e)) (fun e => g (ix2 0 e)) d := by
  have h5 := pay5 x
  have h6 := pay6 x
  unfold k0_pay8
  generalize k0_pay5 (F := Ideal) x = q at h5
  generalize k0_pay6 (F := Ideal) x = p at h6
  pointwise
  simp only [h5, h6]
  rfl

theorem pay4 (a b : FVec Ideal S1x1024 .f32) (d : Fin 1024) : k0_pay4 (F := Ideal) a b (ix2 0 d) = b (ix2 0 d) + a (ix2 0 d) := by
  unfold k0_pay4
  pointwise

theorem pay9 (d : Fin 1024) : k0_pay9 (F := Ideal) (ix2 0 d) = 0 := by
  unfold k0_pay9
  pointwise

/-! ## The two results -/

/-- An entry of the first result: the gradient on its way back plus the norm's gradient. -/
def first (x0 : FVec Ideal S2x4096x2816 .bf16) (x1 : FVec Ideal S4x4x1024x1408 .bf16) (x2 : FVec Ideal S4096x1024 .f32) (x3 : FVec Ideal S1x1024 .f32)
    (x4 : FVec Ideal S4096x1024 .f32) (s : Fin 4096) (d : Fin 1024) : EReal :=
  x4 (ix2 s d) + ngrad (fun e => x2 (ix2 s e)) (fun e => dxn x0 x1 s.val e.val) (fun e => x3 (ix2 0 e)) d

/-- One row's term of the second result. -/
def gterm (x0 : FVec Ideal S2x4096x2816 .bf16) (x1 : FVec Ideal S4x4x1024x1408 .bf16) (x2 : FVec Ideal S4096x1024 .f32) (d : Fin 1024) (s : ℕ) : EReal :=
  ent2 x2 s d.val * inv (fun e : Fin 1024 => ent2 x2 s e.val) * dxn x0 x1 s d.val

/-- An entry of the second result: the gradient of the norm's weights. -/
def second (x0 : FVec Ideal S2x4096x2816 .bf16) (x1 : FVec Ideal S4x4x1024x1408 .bf16) (x2 : FVec Ideal S4096x1024 .f32) (d : Fin 1024) : EReal :=
  ∑ s : Fin 4096, gterm x0 x1 x2 d s.val

theorem out_apply (t : Fin cfg0.N) (h : t.val % 4 = 3) (r d : Fin 1024) :
    (outsAt0 m c t.val t.isLt).1 (ix2 r d) = first (X0 m c) (X1 m c) (X2 m c) (X3 m c) (X4 m c) (row t r) d := by
  have ha := acc_full m c t h
  have h2 := blk2 m c t
  have h3 := blk3 m c t
  have h4 := blk4 m c t
  rw [out_C m c t h]
  generalize (outsAt0 m c t.val t.isLt).2.2 = a at ha
  generalize iblk m c 2 t = x at h2
  generalize iblk m c 3 t = y at h3
  generalize iblk m c 4 t = z at h4
  refine (pay8 _ _ _ _ r d).trans ?_
  simp only [ha, h2, h3, h4]
  rfl

/-- What a row block's last point adds to the second result. -/
theorem add_apply (t : Fin cfg0.N) (h : t.val % 4 = 3) (d : Fin 1024) :
    k0_pay7 (F := Ideal) (outsAt0 m c t.val t.isLt).2.2 (iblk m c 2 t) (ix2 0 d) =
      ∑ r : Fin 1024, gterm (X0 m c) (X1 m c) (X2 m c) d (1024 * (t.val / 4) + r.val) := by
  have ha := acc_full m c t h
  have h2 := blk2 m c t
  generalize (outsAt0 m c t.val t.isLt).2.2 = a at ha
  generalize iblk m c 2 t = x at h2
  refine (pay7 _ _ d).trans (Finset.sum_congr rfl fun r _ => ?_)
  have e : 1024 * (t.val / 4) + r.val = (row t r).val := by
    show _ = t.val / 4 * 1024 + r.val
    omega
  simp only [ha, h2, e, gterm, ent2_eq (X2 m c)]

/-- The second result after a point from the first row block's last one on. -/
theorem sum_apply (n : ℕ) (hn : n + 3 < cfg0.N) (d : Fin 1024) : (outsAt0 m c (n + 3) hn).2.1 (ix2 0 d) =
    ∑ k ∈ Finset.range ((n + 4) / 4), ∑ r : Fin 1024, gterm (X0 m c) (X1 m c) (X2 m c) d (1024 * k + r.val) := by
  induction n with
  | zero =>
    have e := congrFun (sum_first m c ⟨3, hn⟩ rfl (by simp)) (ix2 0 d)
    refine (e.trans (pay4 _ _ d)).trans ?_
    rw [pay9, zero_add]
    refine (add_apply m c ⟨3, hn⟩ rfl d).trans ?_
    have e1 : (0 + 4) / 4 = 1 := rfl
    have e2 : 3 / 4 = 0 := rfl
    rw [e1]
    dsimp only
    rw [e2]
    exact (Finset.sum_range_one fun k => ∑ r : Fin 1024, gterm (X0 m c) (X1 m c) (X2 m c) d (1024 * k + r.val)).symm
  | succ n ih =>
    have ih := ih (Nat.lt_of_succ_lt hn)
    by_cases h : (n + 4) % 4 = 3
    · have e := congrFun (sum_next m c ⟨n + 4, hn⟩ h (by simp)) (ix2 0 d)
      refine (e.trans (pay4 _ _ d)).trans ?_
      have e1 : (n + 1 + 4) / 4 = (n + 4) / 4 + 1 := by omega
      rw [e1, Finset.sum_range_succ, ← ih]
      exact congrArg _ (add_apply m c ⟨n + 4, hn⟩ h d)
    · have e := congrFun (sum_keep m c ⟨n + 4, hn⟩ h) (ix2 0 d)
      have e1 : (n + 1 + 4) / 4 = (n + 4) / 4 := by omega
      rw [e1, ← ih]
      exact e

theorem sum_last (t : Fin cfg0.N) (h : t.val = 15) (d : Fin 1024) : (outsAt0 m c t.val t.isLt).2.1 (ix2 0 d) = second (X0 m c) (X1 m c) (X2 m c) d := by
  obtain ⟨n, hn⟩ := t
  obtain rfl : n = 15 := h
  exact (sum_apply m c 12 hn d).trans (sum_blocks 1024 _ 4)

/-- The first array after the run is any array with these entries. -/
theorem array5 (G : FVec Ideal S4096x1024 .f32)
    (hg : ∀ (s : Fin 4096) (d : Fin 1024), G (ix2 s d) = first (X0 m c) (X1 m c) (X2 m c) (X3 m c) (X4 m c) s d) :
    (dats m 0 c).arrAt 5 cfg0.N = G := by
  refine (dats m 0 c).arrAt_eq_of_covers 5 _ (by decide +kernel) fun t hf y => ?_
  rw [flush5] at hf
  have ht : t.val % 4 = 3 := by simpa using hf
  have eg := out_apply m c t ht
  have hy0 : (y 0).val < 1024 := (y 0).isLt
  have hy1 : (y 1).val < 1024 := (y 1).isLt
  blk_simp [after0_5, (index5 t).1, (index5 t).2]
  generalize (outsAt0 m c t.val t.isLt).1 = o at eg
  have e0 : (((cfg0.win 5).blk t).view.emb y (0 : Fin 2)).val = t.val / 4 * 1024 + (y 0).val := by
    blk_simp [(index5 t).1]
  have e1 : (((cfg0.win 5).blk t).view.emb y (1 : Fin 2)).val = (y 1).val := by
    blk_simp [(index5 t).2]
  have ey : y = (ix2 (⟨(y 0).val, hy0⟩ : Fin 1024) (⟨(y 1).val, hy1⟩ : Fin 1024) : S1024x1024.Idx) := by
    funext a
    fin_cases a <;> rfl
  have ez : ((cfg0.win 5).blk t).view.emb y = (ix2 (row t ⟨(y 0).val, hy0⟩) (⟨(y 1).val, hy1⟩ : Fin 1024) : S4096x1024.Idx) := by
    funext a
    fin_cases a
    · exact Fin.ext e0
    · exact Fin.ext e1
  exact (congrArg o ey).trans ((eg _ _).trans ((hg _ _).symm.trans (congrArg G ez.symm)))

/-- The second array after the run is any array with these entries. -/
theorem array6 (G : FVec Ideal S1x1024 .f32) (hg : ∀ d : Fin 1024, G (ix2 0 d) = second (X0 m c) (X1 m c) (X2 m c) d) :
    (dats m 0 c).arrAt 6 cfg0.N = G := by
  refine (dats m 0 c).arrAt_eq_of_covers 6 _ (by decide +kernel) fun t hf y => ?_
  rw [flush6] at hf
  have ht : t.val = 15 := by simpa using hf
  have eg := sum_last m c t ht
  have hy0 : (y 0).val < 1 := (y 0).isLt
  have hy1 : (y 1).val < 1024 := (y 1).isLt
  blk_simp [after0_6, (index6 t).1, (index6 t).2]
  generalize (outsAt0 m c t.val t.isLt).2.1 = o at eg
  have e0 : (((cfg0.win 6).blk t).view.emb y (0 : Fin 2)).val = (y 0).val := by
    blk_simp [(index6 t).1]
  have e1 : (((cfg0.win 6).blk t).view.emb y (1 : Fin 2)).val = (y 1).val := by
    blk_simp [(index6 t).2]
  have ey : y = (ix2 (0 : Fin 1) (⟨(y 1).val, hy1⟩ : Fin 1024) : S1x1024.Idx) := by
    funext a
    fin_cases a
    · exact Fin.ext (Nat.lt_one_iff.mp hy0)
    · rfl
  have ez : ((cfg0.win 6).blk t).view.emb y = (ix2 (0 : Fin 1) (⟨(y 1).val, hy1⟩ : Fin 1024) : S1x1024.Idx) := by
    funext a
    fin_cases a
    · exact Fin.ext (e0.trans (Nat.lt_one_iff.mp hy0))
    · exact Fin.ext e1
  exact (congrArg o ey).trans ((eg _).trans ((hg _).symm.trans (congrArg G ez.symm)))

end Cert.DxnIdeal.Entry

end
-- ==== Proof.DxnJoin.lean ====
/- The gradient through the second norm: the kernel and the reference leave the same two arrays. -/
module

public import proofs.«01_k».proof.Proof.DxnValue
public import proofs.«01_k».proof.Proof.Gen.RefDxnIdeal.Run
public import proofs.«01_k».proof.Proof.Gen.RefDxnIdeal.Read
public import Idealize.ShloMosaic.Lib.Pointwise
public import Idealize.ShloMosaic.Lib.ValueIdx

@[expose] public section

set_option maxRecDepth 16384

noncomputable section

namespace Cert.RefDxnIdeal.Grad

open Idealize.ShloMosaic Idealize.ShloMosaic.TcCoe Idealize.SL.Sem Cert.Entries Cert.Norm Read DxnIdeal.Entry

variable (x0 : FVec Ideal S2x4096x2816 .bf16) (x1 : FVec Ideal S4x4x1024x1408 .bf16) (x2 x4 : FVec Ideal S4096x1024 .f32) (x3 : FVec Ideal S1x1024 .f32)

theorem v4 (d : Fin 1024) (k : Fin 5632) : val_main_v4 (F := Ideal) x1 (ix2 d k) = ent4 x1 0 (k.val / 1408) d.val (k.val % 1408) := by
  unfold val_main_v4 val_main_v3 val_main_v2 val_main_v1 val_main_v0
  pointwise
  exact ent4_eq x1 _ _ _ _

theorem v7 (s : Fin 4096) (n : Fin 2816) : val_main_v7 (F := Ideal) x0 (ix2 s n) = ent3 x0 0 s.val n.val := by
  unfold val_main_v7 val_main_v6 val_main_v5
  pointwise
  exact ent3_eq x0 _ _ _

theorem v10 (s : Fin 4096) (n : Fin 2816) : val_main_v10 (F := Ideal) x0 (ix2 s n) = ent3 x0 1 s.val n.val := by
  unfold val_main_v10 val_main_v9 val_main_v8
  pointwise
  exact ent3_eq x0 _ _ _

theorem v29 (s : Fin 4096) (n : Fin 5632) : val_main_v29 (F := Ideal) x0 (ix2 s n) = ent3 x0 (n.val / 2816) s.val (n.val % 2816) := by
  have h2 := v7 x0
  have h5 := v10 x0
  unfold val_main_v29
  generalize val_main_v7 (F := Ideal) x0 = a at h2
  generalize val_main_v10 (F := Ideal) x0 = b at h5
  pointwise
  by_cases h : n.val < 2816
  · rw [Nat.div_eq_of_lt h, Nat.mod_eq_of_lt h]
    simp only [h, dite_true, h2]
  · have e1 : n.val / 2816 = 1 := by omega
    have e2 : n.val % 2816 = n.val - 2816 := by omega
    rw [e1, e2]
    simp only [h, dite_false, h5]

theorem v30 (s : Fin 4096) (d : Fin 1024) : val_main_v30 (F := Ideal) x0 x1 (ix2 s d) = dxn x0 x1 s.val d.val := by
  have h29 := v29 x0
  have h4 := v4 x1
  unfold val_main_v30
  generalize val_main_v29 (F := Ideal) x0 = a at h29
  generalize val_main_v4 (F := Ideal) x1 = b at h4
  pointwise
  refine Finset.sum_congr rfl fun k _ => ?_
  rw [h29, h4]
  rfl

theorem v17 (s : Fin 4096) (u : Fin 1) : val_main_v17 (F := Ideal) x2 (ix2 s u) = msq fun e => x2 (ix2 s e) := by
  unfold val_main_v17 val_main_v16 val_main_v15 val_main_v14 val_main_v13 val_main_v12 val_main_v11 val_main_cst val_main_cst_0 val_main_cst_1
  pointwise
  rfl

theorem v18 (s : Fin 4096) (u : Fin 1) : val_main_v18 (F := Ideal) x2 (ix2 s u) = inv fun e => x2 (ix2 s e) := by
  have h := v17 x2
  unfold val_main_v18
  generalize val_main_v17 (F := Ideal) x2 = p at h
  pointwise
  rw [h]
  rfl

/-- The second result's entries. -/
theorem v33 (d : Fin 1024) : val_main_v33 (F := Ideal) x0 x1 x2 (ix2 0 d) = second x0 x1 x2 d := by
  have h18 := v18 x2
  have h30 := v30 x0 x1
  unfold val_main_v33 val_main_v32 val_main_v31 val_main_v23 val_main_v22 val_main_cst_3
  generalize val_main_v18 (F := Ideal) x2 = p at h18
  generalize val_main_v30 (F := Ideal) x0 x1 = q at h30
  pointwise
  refine Finset.sum_congr rfl fun s _ => ?_
  simp only [h18, h30, gterm, ent2_eq x2]

/-- The first result's entries. -/
theorem v50 (s : Fin 4096) (d : Fin 1024) : val_main_v50 (F := Ideal) x0 x1 x2 x3 x4 (ix2 s d) = first x0 x1 x2 x3 x4 s d := by
  have h17 := v17 x2
  have h18 := v18 x2
  have h30 := v30 x0 x1
  unfold val_main_v50 val_main_v49 val_main_v48 val_main_v47 val_main_v46 val_main_v45 val_main_v44 val_main_v43 val_main_v42 val_main_v41 val_main_v40 val_main_v39
    val_main_v38 val_main_v37 val_main_v36 val_main_v35 val_main_v34 val_main_v21 val_main_v20 val_main_v19 val_main_cst_2 val_main_cst_4 val_main_cst_5 val_main_cst_6
  generalize val_main_v18 (F := Ideal) x2 = p at h18
  generalize val_main_v17 (F := Ideal) x2 = r at h17
  generalize val_main_v30 (F := Ideal) x0 x1 = q at h30
  pointwise
  simp only [h17, h18, h30]
  unfold first ngrad
  rw [← add_assoc, ← add_assoc]
  rfl

end Cert.RefDxnIdeal.Grad

namespace Cert.DxnJoin

open Idealize.ShloMosaic Idealize.ShloMosaic.TcCoe Idealize.SL.Sem

/-- Both run, with equal results and their arguments kept. -/
theorem algebraic : @Cert.algebraic_DxnIdeal_RefDxnIdeal Cert.DxnIdeal.Gen.facts Cert.RefDxnIdeal.Gen.facts := by
  intro m g m' g' _ hargs
  refine ⟨fun c => RefDxnIdeal.Read.val_main_v50 (F := Ideal) (DxnIdeal.Entry.X0 m c) (DxnIdeal.Entry.X1 m c) (DxnIdeal.Entry.X2 m c) (DxnIdeal.Entry.X3 m c) (DxnIdeal.Entry.X4 m c),
    fun c => RefDxnIdeal.Read.val_main_v33 (F := Ideal) (DxnIdeal.Entry.X0 m c) (DxnIdeal.Entry.X1 m c) (DxnIdeal.Entry.X2 m c), ?_, ?_⟩
  · refine (θ_run DxnIdeal.defs _ _).mono (fun r h c => ⟨(h c).1.trans ?_, (h c).2.1.trans ?_, (h c).2.2⟩) (DxnIdeal.Value.run_blocks m g)
    · exact DxnIdeal.Entry.array5 m c _ (RefDxnIdeal.Grad.v50 _ _ _ _ _)
    · exact DxnIdeal.Entry.array6 m c _ (RefDxnIdeal.Grad.v33 _ _ _)
  · have e0 : ∀ c, StableHlo.launchContents m' c (Proc.devRef .tc RefDxnIdeal.main_arg0) = DxnIdeal.Entry.X0 m c := fun c => (hargs c).1
    have e1 : ∀ c, StableHlo.launchContents m' c (Proc.devRef .tc RefDxnIdeal.main_arg1) = DxnIdeal.Entry.X1 m c := fun c => (hargs c).2.1
    have e2 : ∀ c, StableHlo.launchContents m' c (Proc.devRef .tc RefDxnIdeal.main_arg2) = DxnIdeal.Entry.X2 m c := fun c => (hargs c).2.2.1
    have e3 : ∀ c, StableHlo.launchContents m' c (Proc.devRef .tc RefDxnIdeal.main_arg3) = DxnIdeal.Entry.X3 m c := fun c => (hargs c).2.2.2.1
    have e4 : ∀ c, StableHlo.launchContents m' c (Proc.devRef .tc RefDxnIdeal.main_arg4) = DxnIdeal.Entry.X4 m c := fun c => (hargs c).2.2.2.2
    refine (θ_run RefDxnIdeal.defs _ _).mono (fun r h c => ⟨(h c).1.trans ?_, (h c).2.1.trans ?_, (h c).2.2⟩) (RefDxnIdeal.Value.run (F := Ideal) m' g')
    · refine (RefDxnIdeal.Read.val_main_v50_eq (F := Ideal) m' c).trans ?_
      have k0 := e0 c
      have k1 := e1 c
      have k2 := e2 c
      have k3 := e3 c
      have k4 := e4 c
      unfold StableHlo.launchContents at k0 k1 k2 k3 k4
      rw [k0, k1, k2, k3, k4]
    · refine (RefDxnIdeal.Read.val_main_v33_eq (F := Ideal) (StableHlo.launchContents m' c (Proc.devRef .tc RefDxnIdeal.main_arg0)) (StableHlo.launchContents m' c (Proc.devRef .tc RefDxnIdeal.main_arg1)) (StableHlo.launchContents m' c (Proc.devRef .tc RefDxnIdeal.main_arg2))).trans ?_
      rw [e0, e1, e2]

/-- The reference's frame: it runs, keeps its arguments and leaves every semaphore at zero. -/
theorem frameR (m : (ℓ : Loc RefDxnIdeal.nD RefDxnIdeal.τ RefDxnIdeal.sig) → Buf (Elt Ideal) ℓ) (ρ : Dev RefDxnIdeal.nD → PrngReg) :
    θ_run (RefDxnIdeal.defs (F := Ideal)) (onTc (τ := RefDxnIdeal.τ) (RefDxnIdeal.main (F := Ideal))) ⟨m, fun _ => 0, ρ⟩ (fun r => (∀ c : Dev RefDxnIdeal.nD,
      r.2.mem ((c.tc : Thread RefDxnIdeal.nD RefDxnIdeal.τ).loc RefDxnIdeal.main_arg0) = m ((c.tc : Thread RefDxnIdeal.nD RefDxnIdeal.τ).loc RefDxnIdeal.main_arg0)
      ∧ r.2.mem ((c.tc : Thread RefDxnIdeal.nD RefDxnIdeal.τ).loc RefDxnIdeal.main_arg1) = m ((c.tc : Thread RefDxnIdeal.nD RefDxnIdeal.τ).loc RefDxnIdeal.main_arg1)
      ∧ r.2.mem ((c.tc : Thread RefDxnIdeal.nD RefDxnIdeal.τ).loc RefDxnIdeal.main_arg2) = m ((c.tc : Thread RefDxnIdeal.nD RefDxnIdeal.τ).loc RefDxnIdeal.main_arg2)
      ∧ r.2.mem ((c.tc : Thread RefDxnIdeal.nD RefDxnIdeal.τ).loc RefDxnIdeal.main_arg3) = m ((c.tc : Thread RefDxnIdeal.nD RefDxnIdeal.τ).loc RefDxnIdeal.main_arg3)
      ∧ r.2.mem ((c.tc : Thread RefDxnIdeal.nD RefDxnIdeal.τ).loc RefDxnIdeal.main_arg4) = m ((c.tc : Thread RefDxnIdeal.nD RefDxnIdeal.τ).loc RefDxnIdeal.main_arg4))
      ∧ r.2.sem = fun _ => 0) :=
  (θ_run RefDxnIdeal.defs _ _).mono (fun r h => ⟨fun c => (h c).2.2, sem_eq_zero_of_no_sems (by decide) r.2⟩) (RefDxnIdeal.Value.run (F := Ideal) m ρ)

end Cert.DxnJoin

end
-- ==== Proof.UpJoin.lean ====
/- The gate and the up projection of the feed-forward layer: what the kernel's arrays and the reference's hold, entry by entry, and that they are equal. -/
module

public import proofs.«01_k».proof.Proof.Entries
public import proofs.«01_k».proof.Proof.Norm
public import proofs.«01_k».proof.Proof.Gate
public import proofs.«01_k».proof.Proof.Gen.UpIdeal.Value
public import proofs.«01_k».proof.Proof.Gen.RefUpIdeal.Run
public import proofs.«01_k».proof.Proof.Gen.RefUpIdeal.Read
public import Idealize.ShloMosaic.Lib.Pointwise
public import Idealize.ShloMosaic.Lib.ValueIdx
public import Idealize.ShloMosaic.Lib.Pipeline.ValueKit
public import Idealize.ShloMosaic.Lib.Pipeline.ReadBack

@[expose] public section

set_option maxRecDepth 16384

noncomputable section

namespace Cert.UpIdeal.Entry

open Cert.UpIdeal Cert.UpIdeal.Gen
open Idealize.ShloMosaic Idealize.ShloMosaic.TcCoe Idealize.SL.Sem Cert.Entries Cert.Norm

variable (m : (ℓ : Loc nD τ sig) → Buf (Elt Ideal) ℓ) (c : Dev nD)

/-- The arguments. -/
abbrev X0 : FVec Ideal S4096x1024 .f32 := m ((c.tc : Thread nD τ).loc main_arg0)
abbrev X1 : FVec Ideal S1x1024 .f32 := m ((c.tc : Thread nD τ).loc main_arg1)
abbrev X2 : FVec Ideal S4x4x1024x1408 .bf16 := m ((c.tc : Thread nD τ).loc main_arg2)

/-! ## The entries of the four results -/

/-- The normalised rows. -/
def normed (x0 : FVec Ideal S4096x1024 .f32) (x1 : FVec Ideal S1x1024 .f32) (s : Fin 4096) (d : Fin 1024) : EReal :=
  x0 (ix2 s d) * inv (fun e => x0 (ix2 s e)) * x1 (ix2 0 d)
/-- A row times a column of the weights, the four parts' columns counted on. -/
def proj (x0 : FVec Ideal S4096x1024 .f32) (x1 : FVec Ideal S1x1024 .f32) (x2 : FVec Ideal S4x4x1024x1408 .bf16) (s : Fin 4096) (k : ℕ) : EReal :=
  ∑ d : Fin 1024, normed x0 x1 s d * ent4 x2 3 (k / 1408) d.val (k % 1408)
/-- The activation. -/
def act (x0 : FVec Ideal S4096x1024 .f32) (x1 : FVec Ideal S1x1024 .f32) (x2 : FVec Ideal S4x4x1024x1408 .bf16) (s : Fin 4096) (k : ℕ) : EReal :=
  proj x0 x1 x2 s k * Ideal.logistic (proj x0 x1 x2 s k) * proj x0 x1 x2 s (2816 + k)

/-! ## The blocks a point reads -/

theorem index0 : ∀ t : Fin cfg0.N, (cfg0.win 0).index t (0 : Fin 2) = t.val ∧ (cfg0.win 0).index t (1 : Fin 2) = 0 := by decide +kernel
theorem index1 : ∀ t : Fin cfg0.N, (cfg0.win 1).index t (0 : Fin 2) = 0 ∧ (cfg0.win 1).index t (1 : Fin 2) = 0 := by decide +kernel
theorem index2 : ∀ t : Fin cfg0.N, (cfg0.win 2).index t (0 : Fin 4) = 3 ∧ (cfg0.win 2).index t (1 : Fin 4) = 0
    ∧ (cfg0.win 2).index t (2 : Fin 4) = 0 ∧ (cfg0.win 2).index t (3 : Fin 4) = 0 := by decide +kernel
theorem index3 : ∀ t : Fin cfg0.N, (cfg0.win 3).index t (0 : Fin 2) = t.val ∧ (cfg0.win 3).index t (1 : Fin 2) = 0 := by decide +kernel
theorem index4 : ∀ t : Fin cfg0.N, (cfg0.win 4).index t (0 : Fin 2) = t.val ∧ (cfg0.win 4).index t (1 : Fin 2) = 0 := by decide +kernel
theorem index5 : ∀ t : Fin cfg0.N, (cfg0.win 5).index t (0 : Fin 2) = t.val ∧ (cfg0.win 5).index t (1 : Fin 2) = 0 := by decide +kernel
theorem index6 : ∀ t : Fin cfg0.N, (cfg0.win 6).index t (0 : Fin 2) = t.val ∧ (cfg0.win 6).index t (1 : Fin 2) = 0 := by decide +kernel
theorem points : ∀ t : Fin cfg0.N, t.val < 8 := by decide +kernel

/-- The row of the array that row `r` of the point's block is. -/
def row (t : Fin cfg0.N) (r : Fin 512) : Fin 4096 := ⟨t.val * 512 + r.val, by have := points t; omega⟩

theorem at0 (W : (b : Ref sig Kind.tc) → Buf (Elt Ideal) ((c : Thread nD τ).loc b)) (t : Fin cfg0.N) (r : Fin 512) (d : Fin 1024) :
    View.read (Elt Ideal) ((cfg0.win 0).blk t).view (W (Pipeline.arrRef spec0 0)) (ix2 r d) = (W main_arg0 : FVec Ideal S4096x1024 .f32) (ix2 (row t r) d) := by
  blk_ext [row, (index0 t).1, (index0 t).2]

theorem at1 (W : (b : Ref sig Kind.tc) → Buf (Elt Ideal) ((c : Thread nD τ).loc b)) (t : Fin cfg0.N) (d : Fin 1024) :
    View.read (Elt Ideal) ((cfg0.win 1).blk t).view (W (Pipeline.arrRef spec0 1)) (ix2 0 d) = (W main_arg1 : FVec Ideal S1x1024 .f32) (ix2 0 d) := by
  blk_ext [(index1 t).1, (index1 t).2]

theorem at2 (W : (b : Ref sig Kind.tc) → Buf (Elt Ideal) ((c : Thread nD τ).loc b)) (t : Fin cfg0.N) (j : Fin 4) (d : Fin 1024) (n : Fin 1408) :
    View.read (Elt Ideal) ((cfg0.win 2).blk t).view (W (Pipeline.arrRef spec0 2)) (ix4 0 j d n) = (W main_arg2 : FVec Ideal S4x4x1024x1408 .bf16) (ix4 (3 : Fin 4) j d n) := by
  blk_ext [(index2 t).1, (index2 t).2.1, (index2 t).2.2.1, (index2 t).2.2.2]

theorem blk0 (t : Fin cfg0.N) (r : Fin 512) (d : Fin 1024) : (iblk m c 0 t : FVec Ideal S512x1024 .f32) (ix2 r d) = X0 m c (ix2 (row t r) d) := by
  refine (at0 c (V m c) t r d).trans ?_
  rw [V_main_arg0]

theorem blk1 (t : Fin cfg0.N) (d : Fin 1024) : (iblk m c 1 t : FVec Ideal S1x1024 .f32) (ix2 0 d) = X1 m c (ix2 0 d) := by
  refine (at1 c (V m c) t d).trans ?_
  rw [V_main_arg1]

theorem blk2 (t : Fin cfg0.N) (j : Fin 4) (d : Fin 1024) (n : Fin 1408) :
    (iblk m c 2 t : FVec Ideal S1x4x1024x1408 .bf16) (ix4 0 j d n) = ent4 (X2 m c) 3 j.val d.val n.val := by
  refine (at2 c (V m c) t j d n).trans ?_
  rw [V_main_arg2]
  exact ent4_eq (X2 m c) _ _ _ _

/-! ## What a point computes -/

/-- A load of a whole block reads the block. -/
theorem ld0 (x : FVec Ideal S512x1024 .f32) : View.ld (Val := Elt Ideal) (e' := .f32) x r0_0 = x :=
  View.ld_unit_lit (Val := Elt Ideal) (e := .f32) (S := S512x1024) inb_S512x1024_S512x1024_0_0 x (by decide)
theorem ld1 (x : FVec Ideal S1x1024 .f32) : View.ld (Val := Elt Ideal) (e' := .f32) x r0_1 = x :=
  View.ld_unit_lit (Val := Elt Ideal) (e := .f32) (S := S1x1024) inb_S1x1024_S1x1024_0_0 x (by decide)

/-- A load of one of the weights' four parts. -/
theorem part0 (x : FVec Ideal S1x4x1024x1408 .bf16) (d : Fin 1024) (n : Fin 1408) : View.ld (Val := Elt Ideal) (e' := .bf16) x r0_2 (ix4 0 0 d n) = x (ix4 0 0 d n) :=
  View.ld_unit_apply_of (Val := Elt Ideal) (e := .bf16) x _ _ inb_S1x4x1024x1408_S1x1x1024x1408_0_0_0_0 (ix4 0 0 d n) (ix4 0 0 d n) (fun a => by fin_cases a <;> simp)
theorem part1 (x : FVec Ideal S1x4x1024x1408 .bf16) (d : Fin 1024) (n : Fin 1408) : View.ld (Val := Elt Ideal) (e' := .bf16) x r0_5 (ix4 0 0 d n) = x (ix4 0 1 d n) :=
  View.ld_unit_apply_of (Val := Elt Ideal) (e := .bf16) x _ _ inb_S1x4x1024x1408_S1x1x1024x1408_0_1_0_0 (ix4 0 0 d n) (ix4 0 1 d n) (fun a => by fin_cases a <;> simp)
theorem part2 (x : FVec Ideal S1x4x1024x1408 .bf16) (d : Fin 1024) (n : Fin 1408) : View.ld (Val := Elt Ideal) (e' := .bf16) x r0_3 (ix4 0 0 d n) = x (ix4 0 2 d n) :=
  View.ld_unit_apply_of (Val := Elt Ideal) (e := .bf16) x _ _ inb_S1x4x1024x1408_S1x1x1024x1408_0_2_0_0 (ix4 0 0 d n) (ix4 0 2 d n) (fun a => by fin_cases a <;> simp)
theorem part3 (x : FVec Ideal S1x4x1024x1408 .bf16) (d : Fin 1024) (n : Fin 1408) : View.ld (Val := Elt Ideal) (e' := .bf16) x r0_6 (ix4 0 0 d n) = x (ix4 0 3 d n) :=
  View.ld_unit_apply_of (Val := Elt Ideal) (e := .bf16) x _ _ inb_S1x4x1024x1408_S1x1x1024x1408_0_3_0_0 (ix4 0 0 d n) (ix4 0 3 d n) (fun a => by fin_cases a <;> simp)

theorem pay6 (x : FVec Ideal S512x1024 .f32) (y : FVec Ideal S1x1024 .f32) (r : Fin 512) (d : Fin 1024) :
    k0_pay6 (F := Ideal) x y (ix2 r d) = x (ix2 r d) * inv (fun e => x (ix2 r e)) * y (ix2 0 d) := by
  unfold k0_pay6
  pointwise
  rfl

/-- A row times a column of one part of the weights. -/
def dot (v : FVec Ideal S512x1024 .bf16) (w : FVec Ideal S1x1x1024x1408 .bf16) (r : Fin 512) (n : Fin 1408) : EReal :=
  ∑ d : Fin 1024, v (ix2 r d) * w (ix4 0 0 d n)

theorem pay1 (v : FVec Ideal S512x1024 .bf16) (w : FVec Ideal S1x1x1024x1408 .bf16) (r : Fin 512) (n : Fin 1408) : k0_pay1 (F := Ideal) v w (ix2 r n) = dot v w r n := by
  unfold k0_pay1 dot
  pointwise
theorem pay2 (v : FVec Ideal S512x1024 .bf16) (w : FVec Ideal S1x1x1024x1408 .bf16) (r : Fin 512) (n : Fin 1408) : k0_pay2 (F := Ideal) v w (ix2 r n) = dot v w r n := by
  unfold k0_pay2 dot
  pointwise
theorem pay7 (x : FVec Ideal S512x1024 .f32) (y : FVec Ideal S1x1024 .f32) (w : FVec Ideal S1x1x1024x1408 .bf16) (r : Fin 512) (n : Fin 1408) :
    k0_pay7 (F := Ideal) x y w (ix2 r n) = dot (k0_pay6 (F := Ideal) x y) w r n := by
  unfold k0_pay7 dot
  generalize k0_pay6 (F := Ideal) x y = v
  pointwise
theorem pay8 (x : FVec Ideal S512x1024 .f32) (y : FVec Ideal S1x1024 .f32) (w : FVec Ideal S1x1x1024x1408 .bf16) (r : Fin 512) (n : Fin 1408) :
    k0_pay8 (F := Ideal) x y w (ix2 r n) = dot (k0_pay6 (F := Ideal) x y) w r n := by
  unfold k0_pay8 dot
  generalize k0_pay6 (F := Ideal) x y = v
  pointwise

theorem pay3 (v : FVec Ideal S512x1024 .bf16) (w : FVec Ideal S1x1x1024x1408 .bf16) (r : Fin 512) (n : Fin 1408) : k0_pay3 (F := Ideal) v w (ix2 r n) = dot v w r n := by
  rw [← pay1]
  unfold k0_pay3
  generalize k0_pay1 (F := Ideal) v w = p
  pointwise
theorem pay4 (v : FVec Ideal S512x1024 .bf16) (w : FVec Ideal S1x1x1024x1408 .bf16) (r : Fin 512) (n : Fin 1408) : k0_pay4 (F := Ideal) v w (ix2 r n) = dot v w r n := by
  rw [← pay2]
  unfold k0_pay4
  generalize k0_pay2 (F := Ideal) v w = p
  pointwise
theorem pay9 (x : FVec Ideal S512x1024 .f32) (y : FVec Ideal S1x1024 .f32) (w : FVec Ideal S1x1x1024x1408 .bf16) (r : Fin 512) (n : Fin 1408) :
    k0_pay9 (F := Ideal) x y w (ix2 r n) = dot (k0_pay6 (F := Ideal) x y) w r n := by
  rw [← pay7]
  unfold k0_pay9
  generalize k0_pay7 (F := Ideal) x y w = p
  pointwise
theorem pay10 (x : FVec Ideal S512x1024 .f32) (y : FVec Ideal S1x1024 .f32) (w : FVec Ideal S1x1x1024x1408 .bf16) (r : Fin 512) (n : Fin 1408) :
    k0_pay10 (F := Ideal) x y w (ix2 r n) = dot (k0_pay6 (F := Ideal) x y) w r n := by
  rw [← pay8]
  unfold k0_pay10
  generalize k0_pay8 (F := Ideal) x y w = p
  pointwise

theorem pay5 (v : FVec Ideal S512x1024 .bf16) (w z : FVec Ideal S1x1x1024x1408 .bf16) (r : Fin 512) (n : Fin 1408) :
    k0_pay5 (F := Ideal) v w z (ix2 r n) = dot v w r n * Ideal.logistic (dot v w r n) * dot v z r n := by
  rw [← pay1, ← pay2]
  unfold k0_pay5
  generalize k0_pay1 (F := Ideal) v w = p
  generalize k0_pay2 (F := Ideal) v z = q
  pointwise
theorem pay11 (x : FVec Ideal S512x1024 .f32) (y : FVec Ideal S1x1024 .f32) (w z : FVec Ideal S1x1x1024x1408 .bf16) (r : Fin 512) (n : Fin 1408) :
    k0_pay11 (F := Ideal) x y w z (ix2 r n) = dot (k0_pay6 (F := Ideal) x y) w r n * Ideal.logistic (dot (k0_pay6 (F := Ideal) x y) w r n)
      * dot (k0_pay6 (F := Ideal) x y) z r n := by
  rw [← pay7, ← pay8]
  unfold k0_pay11
  generalize k0_pay7 (F := Ideal) x y w = p
  generalize k0_pay8 (F := Ideal) x y z = q
  pointwise

/-- A block's normalised rows are the array's. -/
theorem normed_apply (t : Fin cfg0.N) (r : Fin 512) (d : Fin 1024) :
    k0_pay6 (F := Ideal) (iblk m c 0 t) (iblk m c 1 t) (ix2 r d) = normed (X0 m c) (X1 m c) (row t r) d := by
  have h0 := blk0 m c t
  have h1 := blk1 m c t
  generalize iblk m c 0 t = x at h0
  generalize iblk m c 1 t = y at h1
  refine (pay6 _ _ r d).trans ?_
  simp only [h0, h1]
  rfl

/-- The product with one part is that part's stretch of the columns. -/
theorem dot_apply (t : Fin cfg0.N) (j : Fin 4) (w : FVec Ideal S1x1x1024x1408 .bf16)
    (hw : ∀ (d : Fin 1024) (n : Fin 1408), w (ix4 0 0 d n) = (iblk m c 2 t : FVec Ideal S1x4x1024x1408 .bf16) (ix4 0 j d n)) (r : Fin 512) (n : Fin 1408) :
    dot (k0_pay6 (F := Ideal) (iblk m c 0 t) (iblk m c 1 t)) w r n = proj (X0 m c) (X1 m c) (X2 m c) (row t r) (1408 * j.val + n.val) := by
  unfold dot proj
  refine Finset.sum_congr rfl fun d _ => ?_
  have e1 : (1408 * j.val + n.val) / 1408 = j.val := by omega
  have e2 : (1408 * j.val + n.val) % 1408 = n.val := by omega
  rw [normed_apply, hw, blk2, e1, e2]

/-- Two stores side by side leave a block that reads on from one to the other. -/
theorem halves (p q : FVec Ideal S512x1408 .bf16) (r : Fin 512) (f : ℕ → EReal) (hp : ∀ n : Fin 1408, p (ix2 r n) = f n.val)
    (hq : ∀ n : Fin 1408, q (ix2 r n) = f (1408 + n.val)) (n : Fin 2816) :
    View.canon (Val := Elt Ideal) (e := .bf16) [⟨r0_7, q⟩, ⟨r0_4, p⟩] (ix2 r n) = f n.val := by
  refine View.canon_eq_of_allAt _ _ _ (cover0_4 _ _ _) ?_
  refine View.allAt_cons_unit _ _ _ _ _ (fun x hx => ?_) (View.allAt_cons_unit _ _ _ _ _ (fun x hx => ?_) (View.allAt_nil _ _))
  · have h0 : r.val = 0 + (x 0).val := hx 0
    have h1 : n.val = 1408 + (x 1).val := hx 1
    have hx1 : (x 1).val < 1408 := (x 1).isLt
    have ex : x = (ix2 r ⟨(x 1).val, hx1⟩ : S512x1408.Idx) := by
      funext a
      apply Fin.ext
      fin_cases a
      · show (x 0).val = r.val
        omega
      · rfl
    rw [h1]
    exact (congrArg q ex).trans (hq _)
  · have h0 : r.val = 0 + (x 0).val := hx 0
    have h1 : n.val = 0 + (x 1).val := hx 1
    have hx1 : (x 1).val < 1408 := (x 1).isLt
    have ex : x = (ix2 r ⟨(x 1).val, hx1⟩ : S512x1408.Idx) := by
      funext a
      apply Fin.ext
      fin_cases a
      · show (x 0).val = r.val
        omega
      · rfl
    rw [h1, zero_add]
    exact (congrArg p ex).trans (hp _)

theorem norm_out (t : Fin cfg0.N) (r : Fin 512) (d : Fin 1024) :
    out0_3 (F := Ideal) (iblk m c 0 t) (iblk m c 1 t) (iblk m c 2 t) (ix2 r d) = normed (X0 m c) (X1 m c) (row t r) d := by
  have z : (![0, 0] : Fin S512x1024.rank → ℕ) = fun _ => 0 := funext fun a => by fin_cases a <;> rfl
  unfold out0_3
  rw [View.canon_unit_zero z, ld0, ld1]
  exact normed_apply m c t r d

theorem gate_out (t : Fin cfg0.N) (r : Fin 512) (n : Fin 2816) :
    out0_4 (F := Ideal) (iblk m c 0 t) (iblk m c 1 t) (iblk m c 2 t) (ix2 r n) = proj (X0 m c) (X1 m c) (X2 m c) (row t r) n.val := by
  unfold out0_4 k0_pay12
  rw [ld0, ld1]
  refine halves _ _ r (fun k => proj (X0 m c) (X1 m c) (X2 m c) (row t r) k) (fun n => ?_) (fun n => ?_) n
  · refine ((pay9 _ _ _ r n).trans (dot_apply m c t 0 _ (part0 _) r n)).trans ?_
    exact congrArg _ (zero_add _)
  · exact (pay3 _ _ r n).trans (dot_apply m c t 1 _ (part1 _) r n)

theorem up_out (t : Fin cfg0.N) (r : Fin 512) (n : Fin 2816) :
    out0_5 (F := Ideal) (iblk m c 0 t) (iblk m c 1 t) (iblk m c 2 t) (ix2 r n) = proj (X0 m c) (X1 m c) (X2 m c) (row t r) (2816 + n.val) := by
  unfold out0_5 k0_pay12
  rw [ld0, ld1]
  refine halves _ _ r (fun k => proj (X0 m c) (X1 m c) (X2 m c) (row t r) (2816 + k)) (fun n => ?_) (fun n => ?_) n
  · exact (pay10 _ _ _ r n).trans (dot_apply m c t 2 _ (part2 _) r n)
  · refine ((pay4 _ _ r n).trans (dot_apply m c t 3 _ (part3 _) r n)).trans ?_
    exact congrArg _ (Nat.add_assoc 2816 1408 n.val)

theorem act_out (t : Fin cfg0.N) (r : Fin 512) (n : Fin 2816) :
    out0_6 (F := Ideal) (iblk m c 0 t) (iblk m c 1 t) (iblk m c 2 t) (ix2 r n) = act (X0 m c) (X1 m c) (X2 m c) (row t r) n.val := by
  unfold out0_6 k0_pay12
  rw [ld0, ld1]
  refine halves _ _ r (fun k => act (X0 m c) (X1 m c) (X2 m c) (row t r) k) (fun n => ?_) (fun n => ?_) n
  · refine (pay11 _ _ _ _ r n).trans ?_
    rw [dot_apply m c t 0 _ (part0 _) r n, dot_apply m c t 2 _ (part2 _) r n]
    have e : 1408 * (0 : Fin 4).val + n.val = n.val := zero_add _
    rw [e]
    rfl
  · refine (pay5 _ _ _ r n).trans ?_
    rw [dot_apply m c t 1 _ (part1 _) r n, dot_apply m c t 3 _ (part3 _) r n]
    have e : 1408 * (3 : Fin 4).val + n.val = 2816 + (1408 + n.val) := Nat.add_assoc 2816 1408 n.val
    rw [e]
    rfl

/-! ## The four arrays: each is any array with its entries -/

theorem array3 (G : FVec Ideal S4096x1024 .bf16) (hg : ∀ (s : Fin 4096) (n : Fin 1024), G (ix2 s n) = normed (X0 m c) (X1 m c) s n) :
    (dats m 0 c).arrAt 3 cfg0.N = G := by
  refine (dats m 0 c).arrAt_eq_of_covers 3 _ (by decide +kernel) fun t hf y => ?_
  have eg := norm_out m c t
  have hy0 : (y 0).val < 512 := (y 0).isLt
  have hy1 : (y 1).val < 1024 := (y 1).isLt
  blk_simp [after0_3, (index3 t).1, (index3 t).2]
  generalize out0_3 (F := Ideal) (iblk m c 0 t) (iblk m c 1 t) (iblk m c 2 t) = o at eg
  have e0 : (((cfg0.win 3).blk t).view.emb y (0 : Fin 2)).val = t.val * 512 + (y 0).val := by
    blk_simp [(index3 t).1]
  have e1 : (((cfg0.win 3).blk t).view.emb y (1 : Fin 2)).val = (y 1).val := by
    blk_simp [(index3 t).2]
  have ey : y = (ix2 (⟨(y 0).val, hy0⟩ : Fin 512) (⟨(y 1).val, hy1⟩ : Fin 1024) : S512x1024.Idx) := by
    funext a
    fin_cases a <;> rfl
  have ez : ((cfg0.win 3).blk t).view.emb y = (ix2 (row t ⟨(y 0).val, hy0⟩) (⟨(y 1).val, hy1⟩ : Fin 1024) : S4096x1024.Idx) := by
    funext a
    fin_cases a
    · exact Fin.ext e0
    · exact Fin.ext e1
  exact (congrArg o ey).trans ((eg _ _).trans ((hg _ _).symm.trans (congrArg G ez.symm)))

theorem array4 (G : FVec Ideal S4096x2816 .bf16) (hg : ∀ (s : Fin 4096) (n : Fin 2816), G (ix2 s n) = proj (X0 m c) (X1 m c) (X2 m c) s n.val) :
    (dats m 0 c).arrAt 4 cfg0.N = G := by
  refine (dats m 0 c).arrAt_eq_of_covers 4 _ (by decide +kernel) fun t hf y => ?_
  have eg := gate_out m c t
  have hy0 : (y 0).val < 512 := (y 0).isLt
  have hy1 : (y 1).val < 2816 := (y 1).isLt
  blk_simp [after0_4, (index4 t).1, (index4 t).2]
  generalize out0_4 (F := Ideal) (iblk m c 0 t) (iblk m c 1 t) (iblk m c 2 t) = o at eg
  have e0 : (((cfg0.win 4).blk t).view.emb y (0 : Fin 2)).val = t.val * 512 + (y 0).val := by
    blk_simp [(index4 t).1]
  have e1 : (((cfg0.win 4).blk t).view.emb y (1 : Fin 2)).val = (y 1).val := by
    blk_simp [(index4 t).2]
  have ey : y = (ix2 (⟨(y 0).val, hy0⟩ : Fin 512) (⟨(y 1).val, hy1⟩ : Fin 2816) : S512x2816.Idx) := by
    funext a
    fin_cases a <;> rfl
  have ez : ((cfg0.win 4).blk t).view.emb y = (ix2 (row t ⟨(y 0).val, hy0⟩) (⟨(y 1).val, hy1⟩ : Fin 2816) : S4096x2816.Idx) := by
    funext a
    fin_cases a
    · exact Fin.ext e0
    · exact Fin.ext e1
  exact (congrArg o ey).trans ((eg _ _).trans ((hg _ _).symm.trans (congrArg G ez.symm)))

theorem array5 (G : FVec Ideal S4096x2816 .bf16) (hg : ∀ (s : Fin 4096) (n : Fin 2816), G (ix2 s n) = proj (X0 m c) (X1 m c) (X2 m c) s (2816 + n.val)) :
    (dats m 0 c).arrAt 5 cfg0.N = G := by
  refine (dats m 0 c).arrAt_eq_of_covers 5 _ (by decide +kernel) fun t hf y => ?_
  have eg := up_out m c t
  have hy0 : (y 0).val < 512 := (y 0).isLt
  have hy1 : (y 1).val < 2816 := (y 1).isLt
  blk_simp [after0_5, (index5 t).1, (index5 t).2]
  generalize out0_5 (F := Ideal) (iblk m c 0 t) (iblk m c 1 t) (iblk m c 2 t) = o at eg
  have e0 : (((cfg0.win 5).blk t).view.emb y (0 : Fin 2)).val = t.val * 512 + (y 0).val := by
    blk_simp [(index5 t).1]
  have e1 : (((cfg0.win 5).blk t).view.emb y (1 : Fin 2)).val = (y 1).val := by
    blk_simp [(index5 t).2]
  have ey : y = (ix2 (⟨(y 0).val, hy0⟩ : Fin 512) (⟨(y 1).val, hy1⟩ : Fin 2816) : S512x2816.Idx) := by
    funext a
    fin_cases a <;> rfl
  have ez : ((cfg0.win 5).blk t).view.emb y = (ix2 (row t ⟨(y 0).val, hy0⟩) (⟨(y 1).val, hy1⟩ : Fin 2816) : S4096x2816.Idx) := by
    funext a
    fin_cases a
    · exact Fin.ext e0
    · exact Fin.ext e1
  exact (congrArg o ey).trans ((eg _ _).trans ((hg _ _).symm.trans (congrArg G ez.symm)))

theorem array6 (G : FVec Ideal S4096x2816 .bf16) (hg : ∀ (s : Fin 4096) (n : Fin 2816), G (ix2 s n) = act (X0 m c) (X1 m c) (X2 m c) s n.val) :
    (dats m 0 c).arrAt 6 cfg0.N = G := by
  refine (dats m 0 c).arrAt_eq_of_covers 6 _ (by decide +kernel) fun t hf y => ?_
  have eg := act_out m c t
  have hy0 : (y 0).val < 512 := (y 0).isLt
  have hy1 : (y 1).val < 2816 := (y 1).isLt
  blk_simp [after0_6, (index6 t).1, (index6 t).2]
  generalize out0_6 (F := Ideal) (iblk m c 0 t) (iblk m c 1 t) (iblk m c 2 t) = o at eg
  have e0 : (((cfg0.win 6).blk t).view.emb y (0 : Fin 2)).val = t.val * 512 + (y 0).val := by
    blk_simp [(index6 t).1]
  have e1 : (((cfg0.win 6).blk t).view.emb y (1 : Fin 2)).val = (y 1).val := by
    blk_simp [(index6 t).2]
  have ey : y = (ix2 (⟨(y 0).val, hy0⟩ : Fin 512) (⟨(y 1).val, hy1⟩ : Fin 2816) : S512x2816.Idx) := by
    funext a
    fin_cases a <;> rfl
  have ez : ((cfg0.win 6).blk t).view.emb y = (ix2 (row t ⟨(y 0).val, hy0⟩) (⟨(y 1).val, hy1⟩ : Fin 2816) : S4096x2816.Idx) := by
    funext a
    fin_cases a
    · exact Fin.ext e0
    · exact Fin.ext e1
  exact (congrArg o ey).trans ((eg _ _).trans ((hg _ _).symm.trans (congrArg G ez.symm)))

end Cert.UpIdeal.Entry

namespace Cert.RefUpIdeal.Value

open Idealize.ShloMosaic Idealize.ShloMosaic.TcCoe Idealize.SL.Sem Cert.Entries Cert.Norm Read UpIdeal.Entry

variable (x0 : FVec Ideal S4096x1024 .f32) (x1 : FVec Ideal S1x1024 .f32) (x2 : FVec Ideal S4x4x1024x1408 .bf16)

theorem v4 (d : Fin 1024) (k : Fin 5632) : val_main_v4 (F := Ideal) x2 (ix2 d k) = ent4 x2 3 (k.val / 1408) d.val (k.val % 1408) := by
  unfold val_main_v4 val_main_v3 val_main_v2 val_main_v1 val_main_v0
  pointwise
  exact ent4_eq x2 _ _ _ _

theorem v12 (s : Fin 4096) (u : Fin 1) : val_main_v12 (F := Ideal) x0 (ix2 s u) = inv fun e => x0 (ix2 s e) := by
  unfold val_main_v12 val_main_v11 val_main_v10 val_main_v9 val_main_v8 val_main_v7 val_main_v6 val_main_v5 val_main_cst val_main_cst_0 val_main_cst_1
  pointwise
  rfl

theorem v16 (s : Fin 4096) (d : Fin 1024) : val_main_v16 (F := Ideal) x0 x1 (ix2 s d) = normed x0 x1 s d := by
  have h := v12 x0
  unfold val_main_v16 val_main_v15 val_main_v14 val_main_v13
  generalize val_main_v12 (F := Ideal) x0 = p at h
  pointwise
  rw [h]
  rfl

theorem v17 (s : Fin 4096) (k : Fin 5632) : val_main_v17 (F := Ideal) x0 x1 x2 (ix2 s k) = proj x0 x1 x2 s k.val := by
  have h4 := v4 x2
  have h16 := v16 x0 x1
  unfold val_main_v17
  generalize val_main_v4 (F := Ideal) x2 = p at h4
  generalize val_main_v16 (F := Ideal) x0 x1 = q at h16
  pointwise
  exact Finset.sum_congr rfl fun d _ => by rw [h4, h16]

theorem v18 (s : Fin 4096) (n : Fin 2816) : val_main_v18 (F := Ideal) x0 x1 x2 (ix2 s n) = proj x0 x1 x2 s n.val := by
  have h := v17 x0 x1 x2
  unfold val_main_v18
  generalize val_main_v17 (F := Ideal) x0 x1 x2 = p at h
  pointwise
  exact h _ _

theorem v19 (s : Fin 4096) (n : Fin 2816) : val_main_v19 (F := Ideal) x0 x1 x2 (ix2 s n) = proj x0 x1 x2 s (2816 + n.val) := by
  have h := v17 x0 x1 x2
  unfold val_main_v19
  generalize val_main_v17 (F := Ideal) x0 x1 x2 = p at h
  pointwise
  exact h _ _

theorem v22 (s : Fin 4096) (d : Fin 1024) : val_main_v22 (F := Ideal) x0 x1 (ix2 s d) = normed x0 x1 s d := by
  have h := v16 x0 x1
  unfold val_main_v22
  generalize val_main_v16 (F := Ideal) x0 x1 = p at h
  pointwise
  exact h _ _

theorem v23 (s : Fin 4096) (n : Fin 2816) : val_main_v23 (F := Ideal) x0 x1 x2 (ix2 s n) = proj x0 x1 x2 s n.val := by
  have h := v18 x0 x1 x2
  unfold val_main_v23
  generalize val_main_v18 (F := Ideal) x0 x1 x2 = p at h
  pointwise
  exact h _ _

theorem v24 (s : Fin 4096) (n : Fin 2816) : val_main_v24 (F := Ideal) x0 x1 x2 (ix2 s n) = proj x0 x1 x2 s (2816 + n.val) := by
  have h := v19 x0 x1 x2
  unfold val_main_v24
  generalize val_main_v19 (F := Ideal) x0 x1 x2 = p at h
  pointwise
  exact h _ _

theorem v25 (s : Fin 4096) (n : Fin 2816) : val_main_v25 (F := Ideal) x0 x1 x2 (ix2 s n) = act x0 x1 x2 s n.val := by
  have h8 := v18 x0 x1 x2
  have h9 := v19 x0 x1 x2
  unfold val_main_v25 val_main_v21 val_main_v20 val_main_call0_v5 val_main_call0_v4 val_main_call0_v3 val_main_call0_v2 val_main_call0_v1 val_main_call0_v0
    val_main_call0_cst val_main_call0_cst_0
  generalize val_main_v18 (F := Ideal) x0 x1 x2 = p at h8
  generalize val_main_v19 (F := Ideal) x0 x1 x2 = q at h9
  pointwise
  simp only [h8, h9, act, Gate.logistic_eq]

end Cert.RefUpIdeal.Value

namespace Cert.UpJoin

open Idealize.ShloMosaic Idealize.ShloMosaic.TcCoe Idealize.SL.Sem

/-- Both run, with equal results and their arguments kept. -/
theorem algebraic : @Cert.algebraic_UpIdeal_RefUpIdeal Cert.UpIdeal.Gen.facts Cert.RefUpIdeal.Gen.facts := by
  intro m g m' g' _ hargs
  refine ⟨fun c => RefUpIdeal.Read.val_main_v22 (F := Ideal) (UpIdeal.Entry.X0 m c) (UpIdeal.Entry.X1 m c),
    fun c => RefUpIdeal.Read.val_main_v23 (F := Ideal) (UpIdeal.Entry.X0 m c) (UpIdeal.Entry.X1 m c) (UpIdeal.Entry.X2 m c),
    fun c => RefUpIdeal.Read.val_main_v24 (F := Ideal) (UpIdeal.Entry.X0 m c) (UpIdeal.Entry.X1 m c) (UpIdeal.Entry.X2 m c),
    fun c => RefUpIdeal.Read.val_main_v25 (F := Ideal) (UpIdeal.Entry.X0 m c) (UpIdeal.Entry.X1 m c) (UpIdeal.Entry.X2 m c), ?_, ?_⟩
  · refine (θ_run UpIdeal.defs _ _).mono (fun r h c => ⟨(h c).1.trans ?_, (h c).2.1.trans ?_, (h c).2.2.1.trans ?_, (h c).2.2.2.1.trans ?_, (h c).2.2.2.2⟩)
      (UpIdeal.Value.run_blocks m g)
    · exact UpIdeal.Entry.array3 m c _ (RefUpIdeal.Value.v22 _ _)
    · exact UpIdeal.Entry.array4 m c _ (RefUpIdeal.Value.v23 _ _ _)
    · exact UpIdeal.Entry.array5 m c _ (RefUpIdeal.Value.v24 _ _ _)
    · exact UpIdeal.Entry.array6 m c _ (RefUpIdeal.Value.v25 _ _ _)
  · have e0 : ∀ c : Dev RefUpIdeal.nD, m' ((c.tc : Thread RefUpIdeal.nD RefUpIdeal.τ).loc RefUpIdeal.main_arg0) = UpIdeal.Entry.X0 m c := fun c => (hargs c).1
    have e1 : ∀ c : Dev RefUpIdeal.nD, m' ((c.tc : Thread RefUpIdeal.nD RefUpIdeal.τ).loc RefUpIdeal.main_arg1) = UpIdeal.Entry.X1 m c := fun c => (hargs c).2.1
    have e2 : ∀ c : Dev RefUpIdeal.nD, m' ((c.tc : Thread RefUpIdeal.nD RefUpIdeal.τ).loc RefUpIdeal.main_arg2) = UpIdeal.Entry.X2 m c := fun c => (hargs c).2.2
    refine (θ_run RefUpIdeal.defs _ _).mono (fun r h c => ⟨(h c).1.trans ?_, (h c).2.1.trans ?_, (h c).2.2.1.trans ?_, (h c).2.2.2.1.trans ?_, (h c).2.2.2.2⟩)
      (RefUpIdeal.Value.run (F := Ideal) m' g')
    · refine (RefUpIdeal.Read.val_main_v22_eq (F := Ideal) (m' ((c.tc : Thread RefUpIdeal.nD RefUpIdeal.τ).loc RefUpIdeal.main_arg0)) (m' ((c.tc : Thread RefUpIdeal.nD RefUpIdeal.τ).loc RefUpIdeal.main_arg1))).trans ?_
      rw [e0, e1]
    · refine (RefUpIdeal.Read.val_main_v23_eq (F := Ideal) (m' ((c.tc : Thread RefUpIdeal.nD RefUpIdeal.τ).loc RefUpIdeal.main_arg0)) (m' ((c.tc : Thread RefUpIdeal.nD RefUpIdeal.τ).loc RefUpIdeal.main_arg1)) (m' ((c.tc : Thread RefUpIdeal.nD RefUpIdeal.τ).loc RefUpIdeal.main_arg2))).trans ?_
      rw [e0, e1, e2]
    · refine (RefUpIdeal.Read.val_main_v24_eq (F := Ideal) (m' ((c.tc : Thread RefUpIdeal.nD RefUpIdeal.τ).loc RefUpIdeal.main_arg0)) (m' ((c.tc : Thread RefUpIdeal.nD RefUpIdeal.τ).loc RefUpIdeal.main_arg1)) (m' ((c.tc : Thread RefUpIdeal.nD RefUpIdeal.τ).loc RefUpIdeal.main_arg2))).trans ?_
      rw [e0, e1, e2]
    · refine (RefUpIdeal.Read.val_main_v25_eq (F := Ideal) (m' ((c.tc : Thread RefUpIdeal.nD RefUpIdeal.τ).loc RefUpIdeal.main_arg0)) (m' ((c.tc : Thread RefUpIdeal.nD RefUpIdeal.τ).loc RefUpIdeal.main_arg1)) (m' ((c.tc : Thread RefUpIdeal.nD RefUpIdeal.τ).loc RefUpIdeal.main_arg2))).trans ?_
      rw [e0, e1, e2]

/-- The reference's frame: it runs, keeps its arguments and leaves every semaphore at zero. -/
theorem frameR (m : (ℓ : Loc RefUpIdeal.nD RefUpIdeal.τ RefUpIdeal.sig) → Buf (Elt Ideal) ℓ) (ρ : Dev RefUpIdeal.nD → PrngReg) :
    θ_run (RefUpIdeal.defs (F := Ideal)) (onTc (τ := RefUpIdeal.τ) (RefUpIdeal.main (F := Ideal))) ⟨m, fun _ => 0, ρ⟩ (fun r => (∀ c : Dev RefUpIdeal.nD,
      r.2.mem ((c.tc : Thread RefUpIdeal.nD RefUpIdeal.τ).loc RefUpIdeal.main_arg0) = m ((c.tc : Thread RefUpIdeal.nD RefUpIdeal.τ).loc RefUpIdeal.main_arg0)
      ∧ r.2.mem ((c.tc : Thread RefUpIdeal.nD RefUpIdeal.τ).loc RefUpIdeal.main_arg1) = m ((c.tc : Thread RefUpIdeal.nD RefUpIdeal.τ).loc RefUpIdeal.main_arg1)
      ∧ r.2.mem ((c.tc : Thread RefUpIdeal.nD RefUpIdeal.τ).loc RefUpIdeal.main_arg2) = m ((c.tc : Thread RefUpIdeal.nD RefUpIdeal.τ).loc RefUpIdeal.main_arg2))
      ∧ r.2.sem = fun _ => 0) :=
  (θ_run RefUpIdeal.defs _ _).mono (fun r h => ⟨fun c => (h c).2.2.2.2, sem_eq_zero_of_no_sems (by decide) r.2⟩) (RefUpIdeal.Value.run (F := Ideal) m ρ)

end Cert.UpJoin

end
-- ==== Proof.DownJoin.lean ====
/- The output projection of the feed-forward layer with the residual: what the kernel's array and the reference's hold, entry by entry, and that they are equal. -/
module

public import proofs.«01_k».proof.Defs
public import proofs.«01_k».proof.Proof.Gen.DownIdeal.Value
public import proofs.«01_k».proof.Proof.Gen.RefDownIdeal.Run
public import proofs.«01_k».proof.Proof.Gen.RefDownIdeal.Read
public import Idealize.ShloMosaic.Lib.Pointwise
public import Idealize.ShloMosaic.Lib.ValueIdx
public import Idealize.ShloMosaic.Lib.Pipeline.ValueKit
public import Idealize.ShloMosaic.Lib.Pipeline.ReadBack

@[expose] public section

set_option maxRecDepth 16384

noncomputable section

namespace Cert.DownIdeal.Entry

open Cert.DownIdeal Cert.DownIdeal.Gen
open Idealize.ShloMosaic Idealize.ShloMosaic.TcCoe Idealize.SL.Sem

variable (m : (ℓ : Loc nD τ sig) → Buf (Elt Ideal) ℓ) (c : Dev nD)

/-- The arguments. -/
abbrev X0 : FVec Ideal S4096x2816 .bf16 := m ((c.tc : Thread nD τ).loc main_arg0)
abbrev X1 : FVec Ideal S4x2816x1024 .bf16 := m ((c.tc : Thread nD τ).loc main_arg1)
abbrev X2 : FVec Ideal S4096x1024 .f32 := m ((c.tc : Thread nD τ).loc main_arg2)

/-- A point writes its block whole. -/
theorem out_eq (x0 : FVec Ideal S512x2816 .bf16) (x1 : FVec Ideal S1x2816x1024 .bf16) (x2 : FVec Ideal S512x1024 .f32) :
    out0_3 (F := Ideal) x0 x1 x2 = k0_pay1 (F := Ideal) x0 x1 x2 := by
  have z0 : (![0, 0] : Fin S512x2816.rank → ℕ) = fun _ => 0 := funext fun a => by fin_cases a <;> rfl
  have z1 : (![0, 0, 0] : Fin S1x2816x1024.rank → ℕ) = fun _ => 0 := funext fun a => by fin_cases a <;> rfl
  have z2 : (![0, 0] : Fin S512x1024.rank → ℕ) = fun _ => 0 := funext fun a => by fin_cases a <;> rfl
  unfold out0_3
  rw [View.canon_unit_zero z2, View.ld_unit_zero z0, View.ld_unit_zero z1, View.ld_unit_zero z2]

theorem index0 : ∀ t : Fin cfg0.N, (cfg0.win 0).index t (0 : Fin 2) = t.val ∧ (cfg0.win 0).index t (1 : Fin 2) = 0 := by decide +kernel
theorem index1 : ∀ t : Fin cfg0.N, (cfg0.win 1).index t (0 : Fin 3) = 3 ∧ (cfg0.win 1).index t (1 : Fin 3) = 0 ∧ (cfg0.win 1).index t (2 : Fin 3) = 0 := by
  decide +kernel
theorem index2 : ∀ t : Fin cfg0.N, (cfg0.win 2).index t (0 : Fin 2) = t.val ∧ (cfg0.win 2).index t (1 : Fin 2) = 0 := by decide +kernel
theorem index3 : ∀ t : Fin cfg0.N, (cfg0.win 3).index t (0 : Fin 2) = t.val ∧ (cfg0.win 3).index t (1 : Fin 2) = 0 := by decide +kernel
theorem points : ∀ t : Fin cfg0.N, t.val < 8 := by decide +kernel

/-- The row of the array that row `r` of the point's block is. -/
def row (t : Fin cfg0.N) (r : Fin 512) : Fin 4096 := ⟨t.val * 512 + r.val, by have := points t; omega⟩

theorem at0 (W : (b : Ref sig Kind.tc) → Buf (Elt Ideal) ((c : Thread nD τ).loc b)) (t : Fin cfg0.N) (r : Fin 512) (n : Fin 2816) :
    View.read (Elt Ideal) ((cfg0.win 0).blk t).view (W (Pipeline.arrRef spec0 0)) (ix2 r n) = (W main_arg0 : FVec Ideal S4096x2816 .bf16) (ix2 (row t r) n) := by
  blk_ext [row, (index0 t).1, (index0 t).2]

theorem at1 (W : (b : Ref sig Kind.tc) → Buf (Elt Ideal) ((c : Thread nD τ).loc b)) (t : Fin cfg0.N) (n : Fin 2816) (d : Fin 1024) :
    View.read (Elt Ideal) ((cfg0.win 1).blk t).view (W (Pipeline.arrRef spec0 1)) (ix3 0 n d) = (W main_arg1 : FVec Ideal S4x2816x1024 .bf16) (ix3 3 n d) := by
  blk_ext [(index1 t).1, (index1 t).2.1, (index1 t).2.2]

theorem at2 (W : (b : Ref sig Kind.tc) → Buf (Elt Ideal) ((c : Thread nD τ).loc b)) (t : Fin cfg0.N) (r : Fin 512) (d : Fin 1024) :
    View.read (Elt Ideal) ((cfg0.win 2).blk t).view (W (Pipeline.arrRef spec0 2)) (ix2 r d) = (W main_arg2 : FVec Ideal S4096x1024 .f32) (ix2 (row t r) d) := by
  blk_ext [row, (index2 t).1, (index2 t).2]

theorem blk0 (t : Fin cfg0.N) (r : Fin 512) (n : Fin 2816) : (iblk m c 0 t : FVec Ideal S512x2816 .bf16) (ix2 r n) = X0 m c (ix2 (row t r) n) := by
  refine (at0 c (V m c) t r n).trans ?_
  rw [V_main_arg0]
theorem blk1 (t : Fin cfg0.N) (n : Fin 2816) (d : Fin 1024) : (iblk m c 1 t : FVec Ideal S1x2816x1024 .bf16) (ix3 0 n d) = X1 m c (ix3 3 n d) := by
  refine (at1 c (V m c) t n d).trans ?_
  rw [V_main_arg1]
theorem blk2 (t : Fin cfg0.N) (r : Fin 512) (d : Fin 1024) : (iblk m c 2 t : FVec Ideal S512x1024 .f32) (ix2 r d) = X2 m c (ix2 (row t r) d) := by
  refine (at2 c (V m c) t r d).trans ?_
  rw [V_main_arg2]

/-- An entry of the result. -/
def entry (x0 : FVec Ideal S4096x2816 .bf16) (x1 : FVec Ideal S4x2816x1024 .bf16) (x2 : FVec Ideal S4096x1024 .f32) (s : Fin 4096) (d : Fin 1024) : EReal :=
  x2 (ix2 s d) + Ideal.ofBits FTy.f32 1056964608#32 * ∑ n : Fin 2816, x0 (ix2 s n) * x1 (ix3 3 n d)

theorem out_apply (t : Fin cfg0.N) (r : Fin 512) (d : Fin 1024) :
    out0_3 (F := Ideal) (iblk m c 0 t) (iblk m c 1 t) (iblk m c 2 t) (ix2 r d) = entry (X0 m c) (X1 m c) (X2 m c) (row t r) d := by
  rw [out_eq]
  have h0 := blk0 m c t
  have h1 := blk1 m c t
  have h2 := blk2 m c t
  unfold k0_pay1 entry
  generalize iblk m c 0 t = x at h0
  generalize iblk m c 1 t = y at h1
  generalize iblk m c 2 t = z at h2
  pointwise
  simp only [h0, h1, h2]

/-- The array after the run is any array with these entries. -/
theorem array (G : FVec Ideal S4096x1024 .f32) (hg : ∀ (s : Fin 4096) (d : Fin 1024), G (ix2 s d) = entry (X0 m c) (X1 m c) (X2 m c) s d) :
    (dats m 0 c).arrAt 3 cfg0.N = G := by
  refine (dats m 0 c).arrAt_eq_of_covers 3 _ (by decide +kernel) fun t hf y => ?_
  have eg := out_apply m c t
  have hy0 : (y 0).val < 512 := (y 0).isLt
  have hy1 : (y 1).val < 1024 := (y 1).isLt
  blk_simp [after0_3, (index3 t).1, (index3 t).2]
  generalize out0_3 (F := Ideal) (iblk m c 0 t) (iblk m c 1 t) (iblk m c 2 t) = o at eg
  have e0 : (((cfg0.win 3).blk t).view.emb y (0 : Fin 2)).val = t.val * 512 + (y 0).val := by
    blk_simp [(index3 t).1]
  have e1 : (((cfg0.win 3).blk t).view.emb y (1 : Fin 2)).val = (y 1).val := by
    blk_simp [(index3 t).2]
  have ey : y = (ix2 (⟨(y 0).val, hy0⟩ : Fin 512) (⟨(y 1).val, hy1⟩ : Fin 1024) : S512x1024.Idx) := by
    funext a
    fin_cases a <;> rfl
  have ez : ((cfg0.win 3).blk t).view.emb y = (ix2 (row t ⟨(y 0).val, hy0⟩) (⟨(y 1).val, hy1⟩ : Fin 1024) : S4096x1024.Idx) := by
    funext a
    fin_cases a
    · exact Fin.ext e0
    · exact Fin.ext e1
  exact (congrArg o ey).trans ((eg _ _).trans ((hg _ _).symm.trans (congrArg G ez.symm)))

end Cert.DownIdeal.Entry

namespace Cert.RefDownIdeal.Value

open Idealize.ShloMosaic Idealize.ShloMosaic.TcCoe Idealize.SL.Sem Read

/-- The reference's entries. -/
theorem entries (x0 : FVec Ideal S4096x2816 .bf16) (x1 : FVec Ideal S4x2816x1024 .bf16) (x2 : FVec Ideal S4096x1024 .f32) (s : Fin 4096) (d : Fin 1024) :
    val_main_v7 (F := Ideal) x0 x1 x2 (ix2 s d) = DownIdeal.Entry.entry x0 x1 x2 s d := by
  unfold val_main_v7 val_main_v6 val_main_v5 val_main_v4 val_main_v3 val_main_v2 val_main_v1 val_main_v0 val_main_cst DownIdeal.Entry.entry
  pointwise

end Cert.RefDownIdeal.Value

namespace Cert.DownJoin

open Idealize.ShloMosaic Idealize.ShloMosaic.TcCoe Idealize.SL.Sem

/-- Both run, with equal results and their arguments kept. -/
theorem algebraic : @Cert.algebraic_DownIdeal_RefDownIdeal Cert.DownIdeal.Gen.facts Cert.RefDownIdeal.Gen.facts := by
  intro m g m' g' _ hargs
  refine ⟨fun c => RefDownIdeal.Read.val_main_v7 (F := Ideal) (DownIdeal.Entry.X0 m c) (DownIdeal.Entry.X1 m c) (DownIdeal.Entry.X2 m c), ?_, ?_⟩
  · refine (θ_run DownIdeal.defs _ _).mono (fun r h c => ⟨(h c).1.trans ?_, (h c).2⟩) (DownIdeal.Value.run_blocks m g)
    exact DownIdeal.Entry.array m c _ (RefDownIdeal.Value.entries _ _ _)
  · refine (θ_run RefDownIdeal.defs _ _).mono (fun r h c => ⟨(h c).1.trans ?_, (h c).2⟩) (RefDownIdeal.Value.run (F := Ideal) m' g')
    have e0 : m' ((c.tc : Thread RefDownIdeal.nD RefDownIdeal.τ).loc RefDownIdeal.main_arg0) = DownIdeal.Entry.X0 m c := (hargs c).1
    have e1 : m' ((c.tc : Thread RefDownIdeal.nD RefDownIdeal.τ).loc RefDownIdeal.main_arg1) = DownIdeal.Entry.X1 m c := (hargs c).2.1
    have e2 : m' ((c.tc : Thread RefDownIdeal.nD RefDownIdeal.τ).loc RefDownIdeal.main_arg2) = DownIdeal.Entry.X2 m c := (hargs c).2.2
    refine (RefDownIdeal.Read.val_main_v7_eq (F := Ideal) (m' ((c.tc : Thread RefDownIdeal.nD RefDownIdeal.τ).loc RefDownIdeal.main_arg0)) (m' ((c.tc : Thread RefDownIdeal.nD RefDownIdeal.τ).loc RefDownIdeal.main_arg1)) (m' ((c.tc : Thread RefDownIdeal.nD RefDownIdeal.τ).loc RefDownIdeal.main_arg2))).trans ?_
    rw [e0, e1, e2]

/-- The reference's frame: it runs, keeps its arguments and leaves every semaphore at zero. -/
theorem frameR (m : (ℓ : Loc RefDownIdeal.nD RefDownIdeal.τ RefDownIdeal.sig) → Buf (Elt Ideal) ℓ) (ρ : Dev RefDownIdeal.nD → PrngReg) :
    θ_run (RefDownIdeal.defs (F := Ideal)) (onTc (τ := RefDownIdeal.τ) (RefDownIdeal.main (F := Ideal))) ⟨m, fun _ => 0, ρ⟩ (fun r => (∀ c : Dev RefDownIdeal.nD,
      r.2.mem ((c.tc : Thread RefDownIdeal.nD RefDownIdeal.τ).loc RefDownIdeal.main_arg0) = m ((c.tc : Thread RefDownIdeal.nD RefDownIdeal.τ).loc RefDownIdeal.main_arg0)
      ∧ r.2.mem ((c.tc : Thread RefDownIdeal.nD RefDownIdeal.τ).loc RefDownIdeal.main_arg1) = m ((c.tc : Thread RefDownIdeal.nD RefDownIdeal.τ).loc RefDownIdeal.main_arg1)
      ∧ r.2.mem ((c.tc : Thread RefDownIdeal.nD RefDownIdeal.τ).loc RefDownIdeal.main_arg2) = m ((c.tc : Thread RefDownIdeal.nD RefDownIdeal.τ).loc RefDownIdeal.main_arg2))
      ∧ r.2.sem = fun _ => 0) :=
  (θ_run RefDownIdeal.defs _ _).mono (fun r h => ⟨fun c => (h c).2, sem_eq_zero_of_no_sems (by decide) r.2⟩) (RefDownIdeal.Value.run (F := Ideal) m ρ)

end Cert.DownJoin

end
-- ==== Proof.HybInJoin.lean ====
/- The input projection of the hybrid layers: what the kernel's array and the reference's hold, entry by entry, and that they are equal. -/
module

public import proofs.«01_k».proof.Proof.Entries
public import proofs.«01_k».proof.Proof.Gen.HybInIdeal.Value
public import proofs.«01_k».proof.Proof.Gen.RefHybInIdeal.Run
public import proofs.«01_k».proof.Proof.Gen.RefHybInIdeal.Read
public import Idealize.ShloMosaic.Lib.Pointwise
public import Idealize.ShloMosaic.Lib.ValueIdx
public import Idealize.ShloMosaic.Lib.Pipeline.ValueKit
public import Idealize.ShloMosaic.Lib.Pipeline.ReadBack

@[expose] public section

set_option maxRecDepth 16384

noncomputable section

namespace Cert.HybInIdeal.Entry

open Cert.HybInIdeal Cert.HybInIdeal.Gen
open Idealize.ShloMosaic Idealize.ShloMosaic.TcCoe Idealize.SL.Sem Cert.Entries

variable (m : (ℓ : Loc nD τ sig) → Buf (Elt Ideal) ℓ) (c : Dev nD)

/-- The arguments. -/
abbrev X0 : FVec Ideal S4096x1024 .bf16 := m ((c.tc : Thread nD τ).loc main_arg0)
abbrev X1 : FVec Ideal S2x4x1024x640 .bf16 := m ((c.tc : Thread nD τ).loc main_arg1)

/-- A point writes its block whole. -/
theorem out_eq (x0 : FVec Ideal S512x1024 .bf16) (x1 : FVec Ideal S1x1x1024x640 .bf16) : out0_2 (F := Ideal) x0 x1 = k0_pay1 (F := Ideal) x0 x1 := by
  have z0 : (![0, 0] : Fin S512x1024.rank → ℕ) = fun _ => 0 := funext fun a => by fin_cases a <;> rfl
  have z1 : (![0, 0, 0, 0] : Fin S1x1x1024x640.rank → ℕ) = fun _ => 0 := funext fun a => by fin_cases a <;> rfl
  have z2 : (![0, 0] : Fin S512x640.rank → ℕ) = fun _ => 0 := funext fun a => by fin_cases a <;> rfl
  unfold out0_2
  rw [View.canon_unit_zero z2, View.ld_unit_zero z0, View.ld_unit_zero z1]

theorem index0 : ∀ t : Fin cfg0.N, (cfg0.win 0).index t (0 : Fin 2) = t.val % 8 ∧ (cfg0.win 0).index t (1 : Fin 2) = 0 := by decide +kernel
theorem index1 : ∀ t : Fin cfg0.N, (cfg0.win 1).index t (0 : Fin 4) = 1 ∧ (cfg0.win 1).index t (1 : Fin 4) = t.val / 8
    ∧ (cfg0.win 1).index t (2 : Fin 4) = 0 ∧ (cfg0.win 1).index t (3 : Fin 4) = 0 := by decide +kernel
theorem index2 : ∀ t : Fin cfg0.N, (cfg0.win 2).index t (0 : Fin 2) = t.val % 8 ∧ (cfg0.win 2).index t (1 : Fin 2) = t.val / 8 := by decide +kernel
theorem points : ∀ t : Fin cfg0.N, t.val / 8 < 4 := by decide +kernel

/-- The row and the column of the array that a row and a column of the point's block are. -/
def row (t : Fin cfg0.N) (r : Fin 512) : Fin 4096 := ⟨t.val % 8 * 512 + r.val, by omega⟩
def col (t : Fin cfg0.N) (n : Fin 640) : Fin 2560 := ⟨t.val / 8 * 640 + n.val, by have := points t; omega⟩

theorem at0 (W : (b : Ref sig Kind.tc) → Buf (Elt Ideal) ((c : Thread nD τ).loc b)) (t : Fin cfg0.N) (r : Fin 512) (d : Fin 1024) :
    View.read (Elt Ideal) ((cfg0.win 0).blk t).view (W (Pipeline.arrRef spec0 0)) (ix2 r d) = (W main_arg0 : FVec Ideal S4096x1024 .bf16) (ix2 (row t r) d) := by
  blk_ext [row, (index0 t).1, (index0 t).2]

theorem at1 (W : (b : Ref sig Kind.tc) → Buf (Elt Ideal) ((c : Thread nD τ).loc b)) (t : Fin cfg0.N) (d : Fin 1024) (n : Fin 640) :
    View.read (Elt Ideal) ((cfg0.win 1).blk t).view (W (Pipeline.arrRef spec0 1)) (ix4 0 0 d n) = (W main_arg1 : FVec Ideal S2x4x1024x640 .bf16) (ix4 (1 : Fin 2) (⟨t.val / 8, points t⟩ : Fin 4) d n) := by
  blk_ext [(index1 t).1, (index1 t).2.1, (index1 t).2.2.1, (index1 t).2.2.2]

theorem blk0 (t : Fin cfg0.N) (r : Fin 512) (d : Fin 1024) : (iblk m c 0 t : FVec Ideal S512x1024 .bf16) (ix2 r d) = X0 m c (ix2 (row t r) d) := by
  refine (at0 c (V m c) t r d).trans ?_
  rw [V_main_arg0]
theorem blk1 (t : Fin cfg0.N) (d : Fin 1024) (n : Fin 640) : (iblk m c 1 t : FVec Ideal S1x1x1024x640 .bf16) (ix4 0 0 d n) = X1 m c (ix4 (1 : Fin 2) (⟨t.val / 8, points t⟩ : Fin 4) d n) := by
  refine (at1 c (V m c) t d n).trans ?_
  rw [V_main_arg1]

/-- An entry of the result. -/
def entry (x0 : FVec Ideal S4096x1024 .bf16) (x1 : FVec Ideal S2x4x1024x640 .bf16) (s : Fin 4096) (k : Fin 2560) : EReal :=
  ∑ d : Fin 1024, x0 (ix2 s d) * ent4 x1 1 (k.val / 640) d.val (k.val % 640)

theorem out_apply (t : Fin cfg0.N) (r : Fin 512) (n : Fin 640) :
    out0_2 (F := Ideal) (iblk m c 0 t) (iblk m c 1 t) (ix2 r n) = entry (X0 m c) (X1 m c) (row t r) (col t n) := by
  rw [out_eq]
  have h0 := blk0 m c t
  have h1 := blk1 m c t
  unfold k0_pay1 entry
  generalize iblk m c 0 t = x at h0
  generalize iblk m c 1 t = y at h1
  pointwise
  refine Finset.sum_congr rfl fun d _ => ?_
  rw [h0, h1]
  have e1 : (col t n).val / 640 = t.val / 8 := by
    show (t.val / 8 * 640 + n.val) / 640 = _
    omega
  have e2 : (col t n).val % 640 = n.val := by
    show (t.val / 8 * 640 + n.val) % 640 = _
    omega
  rw [e1, e2]
  exact congrArg _ (ent4_eq (X1 m c) _ _ _ _)

/-- The array after the run is any array with these entries. -/
theorem array (G : FVec Ideal S4096x2560 .f32) (hg : ∀ (s : Fin 4096) (k : Fin 2560), G (ix2 s k) = entry (X0 m c) (X1 m c) s k) :
    (dats m 0 c).arrAt 2 cfg0.N = G := by
  refine (dats m 0 c).arrAt_eq_of_covers 2 _ (by decide +kernel) fun t hf y => ?_
  have eg := out_apply m c t
  have hy0 : (y 0).val < 512 := (y 0).isLt
  have hy1 : (y 1).val < 640 := (y 1).isLt
  blk_simp [after0_2, (index2 t).1, (index2 t).2]
  generalize out0_2 (F := Ideal) (iblk m c 0 t) (iblk m c 1 t) = o at eg
  have e0 : (((cfg0.win 2).blk t).view.emb y (0 : Fin 2)).val = t.val % 8 * 512 + (y 0).val := by
    blk_simp [(index2 t).1]
  have e1 : (((cfg0.win 2).blk t).view.emb y (1 : Fin 2)).val = t.val / 8 * 640 + (y 1).val := by
    blk_simp [(index2 t).2]
  have ey : y = (ix2 (⟨(y 0).val, hy0⟩ : Fin 512) (⟨(y 1).val, hy1⟩ : Fin 640) : S512x640.Idx) := by
    funext a
    fin_cases a <;> rfl
  have ez : ((cfg0.win 2).blk t).view.emb y = (ix2 (row t ⟨(y 0).val, hy0⟩) (col t ⟨(y 1).val, hy1⟩) : S4096x2560.Idx) := by
    funext a
    fin_cases a
    · exact Fin.ext e0
    · exact Fin.ext e1
  exact (congrArg o ey).trans ((eg _ _).trans ((hg _ _).symm.trans (congrArg G ez.symm)))

end Cert.HybInIdeal.Entry

namespace Cert.RefHybInIdeal.Value

open Idealize.ShloMosaic Idealize.ShloMosaic.TcCoe Idealize.SL.Sem Cert.Entries Read

/-- The reference's entries. -/
theorem entries (x0 : FVec Ideal S4096x1024 .bf16) (x1 : FVec Ideal S2x4x1024x640 .bf16) (s : Fin 4096) (k : Fin 2560) :
    val_main_v6 (F := Ideal) x0 x1 (ix2 s k) = HybInIdeal.Entry.entry x0 x1 s k := by
  unfold val_main_v6 val_main_v5 val_main_v4 val_main_v3 val_main_v2 val_main_v1 val_main_v0 HybInIdeal.Entry.entry
  pointwise
  exact Finset.sum_congr rfl fun d _ => congrArg _ (ent4_eq x1 _ _ _ _)

end Cert.RefHybInIdeal.Value

namespace Cert.HybInJoin

open Idealize.ShloMosaic Idealize.ShloMosaic.TcCoe Idealize.SL.Sem

/-- Both run, with equal results and their arguments kept. -/
theorem algebraic : @Cert.algebraic_HybInIdeal_RefHybInIdeal Cert.HybInIdeal.Gen.facts Cert.RefHybInIdeal.Gen.facts := by
  intro m g m' g' _ hargs
  refine ⟨fun c => RefHybInIdeal.Read.val_main_v6 (F := Ideal) (HybInIdeal.Entry.X0 m c) (HybInIdeal.Entry.X1 m c), ?_, ?_⟩
  · refine (θ_run HybInIdeal.defs _ _).mono (fun r h c => ⟨(h c).1.trans ?_, (h c).2⟩) (HybInIdeal.Value.run_blocks m g)
    exact HybInIdeal.Entry.array m c _ (RefHybInIdeal.Value.entries _ _)
  · refine (θ_run RefHybInIdeal.defs _ _).mono (fun r h c => ⟨(h c).1.trans ?_, (h c).2⟩) (RefHybInIdeal.Value.run (F := Ideal) m' g')
    have e0 : m' ((c.tc : Thread RefHybInIdeal.nD RefHybInIdeal.τ).loc RefHybInIdeal.main_arg0) = HybInIdeal.Entry.X0 m c := (hargs c).1
    have e1 : m' ((c.tc : Thread RefHybInIdeal.nD RefHybInIdeal.τ).loc RefHybInIdeal.main_arg1) = HybInIdeal.Entry.X1 m c := (hargs c).2
    refine (RefHybInIdeal.Read.val_main_v6_eq (F := Ideal) (m' ((c.tc : Thread RefHybInIdeal.nD RefHybInIdeal.τ).loc RefHybInIdeal.main_arg0)) (m' ((c.tc : Thread RefHybInIdeal.nD RefHybInIdeal.τ).loc RefHybInIdeal.main_arg1))).trans ?_
    rw [e0, e1]

/-- The reference's frame: it runs, keeps its arguments and leaves every semaphore at zero. -/
theorem frameR (m : (ℓ : Loc RefHybInIdeal.nD RefHybInIdeal.τ RefHybInIdeal.sig) → Buf (Elt Ideal) ℓ) (ρ : Dev RefHybInIdeal.nD → PrngReg) :
    θ_run (RefHybInIdeal.defs (F := Ideal)) (onTc (τ := RefHybInIdeal.τ) (RefHybInIdeal.main (F := Ideal))) ⟨m, fun _ => 0, ρ⟩ (fun r => (∀ c : Dev RefHybInIdeal.nD,
      r.2.mem ((c.tc : Thread RefHybInIdeal.nD RefHybInIdeal.τ).loc RefHybInIdeal.main_arg0) = m ((c.tc : Thread RefHybInIdeal.nD RefHybInIdeal.τ).loc RefHybInIdeal.main_arg0)
      ∧ r.2.mem ((c.tc : Thread RefHybInIdeal.nD RefHybInIdeal.τ).loc RefHybInIdeal.main_arg1) = m ((c.tc : Thread RefHybInIdeal.nD RefHybInIdeal.τ).loc RefHybInIdeal.main_arg1))
      ∧ r.2.sem = fun _ => 0) :=
  (θ_run RefHybInIdeal.defs _ _).mono (fun r h => ⟨fun c => (h c).2, sem_eq_zero_of_no_sems (by decide) r.2⟩) (RefHybInIdeal.Value.run (F := Ideal) m ρ)

end Cert.HybInJoin

end
-- ==== Proof.HybDwinJoin.lean ====
/- The weight gradient of the hybrid layers' input projection: what the kernel's array and the reference's hold, entry by entry, and that they are equal. -/
module

public import proofs.«01_k».proof.Proof.Entries
public import proofs.«01_k».proof.Proof.Gen.HybDwinIdeal.Value
public import proofs.«01_k».proof.Proof.Gen.RefHybDwinIdeal.Run
public import proofs.«01_k».proof.Proof.Gen.RefHybDwinIdeal.Read
public import Idealize.ShloMosaic.Lib.Pointwise
public import Idealize.ShloMosaic.Lib.ValueIdx
public import Idealize.ShloMosaic.Lib.Pipeline.ValueKit
public import Idealize.ShloMosaic.Lib.Pipeline.ReadBack

@[expose] public section

set_option maxRecDepth 16384

noncomputable section

namespace Cert.HybDwinIdeal.Entry

open Cert.HybDwinIdeal Cert.HybDwinIdeal.Gen
open Idealize.ShloMosaic Idealize.ShloMosaic.TcCoe Idealize.SL.Sem Cert.Entries

variable (m : (ℓ : Loc nD τ sig) → Buf (Elt Ideal) ℓ) (c : Dev nD)

/-- The arguments. -/
abbrev X0 : FVec Ideal S4096x1024 .bf16 := m ((c.tc : Thread nD τ).loc main_arg0)
abbrev X1 : FVec Ideal S4096x2560 .bf16 := m ((c.tc : Thread nD τ).loc main_arg1)

/-- The product of one block of 512 rows, at a grid point. -/
def part (t : Fin cfg0.N) : FVec Ideal S1024x640 .f32 := k0_pay1 (iblk m c 0 t) (iblk m c 1 t)

theorem points : ∀ t : Fin cfg0.N, t.val / 8 < 4 := by decide +kernel

theorem acc_A (t : Fin cfg0.N) (h0 : t.val % 8 = 0) (h1 : ¬1 ≤ t.val % 8) (h2 : ¬t.val % 8 = 7) :
    (outsAt0 m c t.val t.isLt).2 = part m c t := by
  rw [outsAt0_A m c t h0 h1 h2]
  dsimp only
  frame_open
  frame_out
  exact shapeCast_id ..

theorem acc_B (t : Fin cfg0.N) (h0 : ¬t.val % 8 = 0) (h1 : 1 ≤ t.val % 8) (h2 : ¬t.val % 8 = 7) :
    (outsAt0 m c t.val t.isLt).2 = addf (outsAt0 m c (t.val - 1) (Nat.lt_of_le_of_lt (Nat.sub_le _ _) t.isLt)).2 (part m c t) := by
  rw [outsAt0_B m c t h0 h1 h2]
  dsimp only
  frame_open
  frame_out
  rw [read_unread_whole]
  exact shapeCast_id ..

theorem acc_C (t : Fin cfg0.N) (h0 : ¬t.val % 8 = 0) (h1 : 1 ≤ t.val % 8) (h2 : t.val % 8 = 7) :
    (outsAt0 m c t.val t.isLt).2 = addf (outsAt0 m c (t.val - 1) (Nat.lt_of_le_of_lt (Nat.sub_le _ _) t.isLt)).2 (part m c t) := by
  rw [outsAt0_C m c t h0 h1 h2]
  dsimp only
  frame_open
  frame_out
  rw [read_unread_whole]
  exact shapeCast_id ..

/-- The point that closes a stretch of eight writes what it accumulated. -/
theorem out_C (t : Fin cfg0.N) (h2 : t.val % 8 = 7) : (outsAt0 m c t.val t.isLt).1 = k0_pay4 (outsAt0 m c t.val t.isLt).2 := by
  rw [acc_C m c t (by omega) (by omega) h2, outsAt0_C m c t (by omega) (by omega) h2]
  dsimp only
  frame_open
  frame_out
  rw [read_unread_whole]
  exact congrArg k0_pay4 (shapeCast_id ..)

/-! ## The blocks a point reads -/

theorem index0 : ∀ t : Fin cfg0.N, (cfg0.win 0).index t (0 : Fin 2) = t.val % 8 ∧ (cfg0.win 0).index t (1 : Fin 2) = 0 := by decide +kernel
theorem index1 : ∀ t : Fin cfg0.N, (cfg0.win 1).index t (0 : Fin 2) = t.val % 8 ∧ (cfg0.win 1).index t (1 : Fin 2) = t.val / 8 := by decide +kernel
theorem index2 : ∀ t : Fin cfg0.N, (cfg0.win 2).index t (0 : Fin 3) = t.val / 8 ∧ (cfg0.win 2).index t (1 : Fin 3) = 0
    ∧ (cfg0.win 2).index t (2 : Fin 3) = 0 := by decide +kernel
theorem flush2 : ∀ t : Fin cfg0.N, (cfg0.win 2).flush t = decide (t.val % 8 = 7) := by decide +kernel

theorem at0 (W : (b : Ref sig Kind.tc) → Buf (Elt Ideal) ((c : Thread nD τ).loc b)) (t : Fin cfg0.N) (r : Fin 512) (d : Fin 1024) :
    View.read (Elt Ideal) ((cfg0.win 0).blk t).view (W (Pipeline.arrRef spec0 0)) (ix2 r d) =
      (W main_arg0 : FVec Ideal S4096x1024 .bf16) (ix2 (⟨t.val % 8 * 512 + r.val, by omega⟩ : Fin 4096) d) := by
  blk_ext [(index0 t).1, (index0 t).2]

theorem at1 (W : (b : Ref sig Kind.tc) → Buf (Elt Ideal) ((c : Thread nD τ).loc b)) (t : Fin cfg0.N) (r : Fin 512) (n : Fin 640) :
    View.read (Elt Ideal) ((cfg0.win 1).blk t).view (W (Pipeline.arrRef spec0 1)) (ix2 r n) =
      (W main_arg1 : FVec Ideal S4096x2560 .bf16) (ix2 (⟨t.val % 8 * 512 + r.val, by omega⟩ : Fin 4096) (⟨t.val / 8 * 640 + n.val, by have := points t; omega⟩ : Fin 2560)) := by
  blk_ext [(index1 t).1, (index1 t).2]

theorem blk0 (t : Fin cfg0.N) (r : Fin 512) (d : Fin 1024) :
    (iblk m c 0 t : FVec Ideal S512x1024 .bf16) (ix2 r d) = ent2 (X0 m c) (512 * (t.val % 8) + r.val) d.val := by
  refine (at0 c (V m c) t r d).trans ?_
  rw [V_main_arg0, Nat.mul_comm 512]
  exact ent2_eq (X0 m c) _ _

theorem blk1 (t : Fin cfg0.N) (r : Fin 512) (n : Fin 640) :
    (iblk m c 1 t : FVec Ideal S512x640 .bf16) (ix2 r n) = ent2 (X1 m c) (512 * (t.val % 8) + r.val) (t.val / 8 * 640 + n.val) := by
  refine (at1 c (V m c) t r n).trans ?_
  rw [V_main_arg1, Nat.mul_comm 512]
  exact ent2_eq (X1 m c) _ _

/-- One row's term of the gradient. -/
def term (x0 : FVec Ideal S4096x1024 .bf16) (x1 : FVec Ideal S4096x2560 .bf16) (d k s : ℕ) : EReal := ent2 x0 s d * ent2 x1 s k
/-- An entry of the gradient. -/
def grad (x0 : FVec Ideal S4096x1024 .bf16) (x1 : FVec Ideal S4096x2560 .bf16) (d k : ℕ) : EReal := ∑ s : Fin 4096, term x0 x1 d k s.val

theorem part_apply (t : Fin cfg0.N) (d : Fin 1024) (n : Fin 640) :
    part m c t (ix2 d n) = ∑ r : Fin 512, term (X0 m c) (X1 m c) d.val (t.val / 8 * 640 + n.val) (512 * (t.val % 8) + r.val) := by
  have h0 := blk0 m c t
  have h1 := blk1 m c t
  unfold part k0_pay1
  generalize iblk m c 0 t = x at h0
  generalize iblk m c 1 t = y at h1
  pointwise
  simp only [h0, h1, term]

/-- The accumulator after a point. -/
theorem acc (t : Fin cfg0.N) (d : Fin 1024) (n : Fin 640) : (outsAt0 m c t.val t.isLt).2 (ix2 d n) =
    ∑ k ∈ Finset.range (t.val % 8 + 1), ∑ r : Fin 512, term (X0 m c) (X1 m c) d.val (t.val / 8 * 640 + n.val) (512 * k + r.val) := by
  have e := Pipeline.eq_sum_of_reset_step_apply_divmod (fun n h => (outsAt0 m c n h).2) 8 (fun _ => (0 : EReal))
    (fun j k (i : S1024x640.Idx) => ∑ r : Fin 512, term (X0 m c) (X1 m c) (i 0).val (j * 640 + (i 1).val) (512 * k + r.val))
    (fun t h i => by
      have := points t
      have ei : i = ix2 (i 0 : Fin 1024) (i 1 : Fin 640) := by funext a; fin_cases a <;> rfl
      have h := congrFun (acc_A m c t h (by omega) (by omega)) i
      rw [zero_add]
      exact h.trans ((congrArg _ ei).trans (part_apply m c t (i 0 : Fin 1024) (i 1 : Fin 640))))
    (fun t h i => by
      have ei : i = ix2 (i 0 : Fin 1024) (i 1 : Fin 640) := by funext a; fin_cases a <;> rfl
      have e : (outsAt0 m c t.val t.isLt).2 = addf (outsAt0 m c (t.val - 1) (Nat.lt_of_le_of_lt (Nat.sub_le _ _) t.isLt)).2 (part m c t) := by
        by_cases h3 : t.val % 8 = 7
        · exact acc_C m c t h (by omega) h3
        · exact acc_B m c t h (by omega) h3
      refine (congrFun e i).trans ?_
      exact congrArg _ ((congrArg (part m c t) ei).trans (part_apply m c t (i 0 : Fin 1024) (i 1 : Fin 640))))
    t (ix2 d n)
  rw [zero_add] at e
  exact e

theorem out_apply (t : Fin cfg0.N) (ht : t.val % 8 = 7) (d : Fin 1024) (n : Fin 640) :
    (outsAt0 m c t.val t.isLt).1 (ix3 0 d n) = grad (X0 m c) (X1 m c) d.val (t.val / 8 * 640 + n.val) := by
  have h := acc m c t d n
  rw [out_C m c t ht]
  generalize (outsAt0 m c t.val t.isLt).2 = y at h
  unfold k0_pay4
  pointwise
  refine h.trans ?_
  rw [ht]
  exact sum_blocks 512 _ 8

/-- The array after the run is any array with these entries. -/
theorem array (G : FVec Ideal S4x1024x640 .bf16)
    (hg : ∀ (j : Fin 4) (d : Fin 1024) (n : Fin 640), G (ix3 j d n) = grad (X0 m c) (X1 m c) d.val (j.val * 640 + n.val)) :
    (dats m 0 c).arrAt 2 cfg0.N = G := by
  refine (dats m 0 c).arrAt_eq_of_covers 2 _ (by decide +kernel) fun t hf y => ?_
  rw [flush2] at hf
  have ht : t.val % 8 = 7 := by simpa using hf
  have e := out_apply m c t ht
  have hy0 : (y 0).val < 1 := (y 0).isLt
  have hy1 : (y 1).val < 1024 := (y 1).isLt
  have hy2 : (y 2).val < 640 := (y 2).isLt
  blk_simp [after0_2, (index2 t).1, (index2 t).2.1, (index2 t).2.2]
  generalize (outsAt0 m c t.val t.isLt).1 = o at e
  have e0 : (((cfg0.win 2).blk t).view.emb y (0 : Fin 3)).val = t.val / 8 := by
    blk_simp [(index2 t).1]
  have e1 : (((cfg0.win 2).blk t).view.emb y (1 : Fin 3)).val = (y 1).val := by
    blk_simp [(index2 t).2.1]
  have e2 : (((cfg0.win 2).blk t).view.emb y (2 : Fin 3)).val = (y 2).val := by
    blk_simp [(index2 t).2.2]
  have ey : y = (ix3 (0 : Fin 1) (⟨(y 1).val, hy1⟩ : Fin 1024) (⟨(y 2).val, hy2⟩ : Fin 640) : S1x1024x640.Idx) := by
    funext a
    fin_cases a
    · exact Fin.ext (Nat.lt_one_iff.mp hy0)
    · rfl
    · rfl
  have ez : ((cfg0.win 2).blk t).view.emb y =
      (ix3 (⟨t.val / 8, points t⟩ : Fin 4) (⟨(y 1).val, hy1⟩ : Fin 1024) (⟨(y 2).val, hy2⟩ : Fin 640) : S4x1024x640.Idx) := by
    funext a
    fin_cases a
    · exact Fin.ext e0
    · exact Fin.ext e1
    · exact Fin.ext e2
  have hG := hg (⟨t.val / 8, points t⟩ : Fin 4) (⟨(y 1).val, hy1⟩ : Fin 1024) (⟨(y 2).val, hy2⟩ : Fin 640)
  exact (congrArg o ey).trans ((e _ _).trans (hG.symm.trans (congrArg G ez.symm)))

end Cert.HybDwinIdeal.Entry

namespace Cert.RefHybDwinIdeal.Value

open Idealize.ShloMosaic Idealize.ShloMosaic.TcCoe Idealize.SL.Sem Cert.Entries Read

/-- The reference's entries. -/
theorem entries (x0 : FVec Ideal S4096x1024 .bf16) (x1 : FVec Ideal S4096x2560 .bf16) (j : Fin 4) (d : Fin 1024) (n : Fin 640) :
    val_main_v8 (F := Ideal) x0 x1 (ix3 j d n) = HybDwinIdeal.Entry.grad x0 x1 d.val (j.val * 640 + n.val) := by
  unfold val_main_v8 val_main_v7 val_main_v6 val_main_v5 val_main_v4 val_main_v3 val_main_v1 HybDwinIdeal.Entry.grad HybDwinIdeal.Entry.term
  pointwise
  refine Finset.sum_congr rfl fun s _ => ?_
  rw [ent2_eq x0, mul_comm]
  exact congrArg _ (ent2_eq x1 _ _)

end Cert.RefHybDwinIdeal.Value

namespace Cert.HybDwinJoin

open Idealize.ShloMosaic Idealize.ShloMosaic.TcCoe Idealize.SL.Sem

/-- Both run, with equal results and their arguments kept. -/
theorem algebraic : @Cert.algebraic_HybDwinIdeal_RefHybDwinIdeal Cert.HybDwinIdeal.Gen.facts Cert.RefHybDwinIdeal.Gen.facts := by
  intro m g m' g' _ hargs
  refine ⟨fun c => RefHybDwinIdeal.Read.val_main_v8 (F := Ideal) (HybDwinIdeal.Entry.X0 m c) (HybDwinIdeal.Entry.X1 m c), ?_, ?_⟩
  · refine (θ_run HybDwinIdeal.defs _ _).mono (fun r h c => ⟨(h c).1.trans ?_, (h c).2⟩) (HybDwinIdeal.Value.run_blocks m g)
    exact HybDwinIdeal.Entry.array m c _ (RefHybDwinIdeal.Value.entries _ _)
  · refine (θ_run RefHybDwinIdeal.defs _ _).mono (fun r h c => ⟨(h c).1.trans ?_, (h c).2⟩) (RefHybDwinIdeal.Value.run (F := Ideal) m' g')
    have e0 : m' ((c.tc : Thread RefHybDwinIdeal.nD RefHybDwinIdeal.τ).loc RefHybDwinIdeal.main_arg0) = HybDwinIdeal.Entry.X0 m c := (hargs c).1
    have e1 : m' ((c.tc : Thread RefHybDwinIdeal.nD RefHybDwinIdeal.τ).loc RefHybDwinIdeal.main_arg1) = HybDwinIdeal.Entry.X1 m c := (hargs c).2
    refine (RefHybDwinIdeal.Read.val_main_v8_eq (F := Ideal) (m' ((c.tc : Thread RefHybDwinIdeal.nD RefHybDwinIdeal.τ).loc RefHybDwinIdeal.main_arg0)) (m' ((c.tc : Thread RefHybDwinIdeal.nD RefHybDwinIdeal.τ).loc RefHybDwinIdeal.main_arg1))).trans ?_
    rw [e0, e1]

/-- The reference's frame: it runs, keeps its arguments and leaves every semaphore at zero. -/
theorem frameR (m : (ℓ : Loc RefHybDwinIdeal.nD RefHybDwinIdeal.τ RefHybDwinIdeal.sig) → Buf (Elt Ideal) ℓ) (ρ : Dev RefHybDwinIdeal.nD → PrngReg) :
    θ_run (RefHybDwinIdeal.defs (F := Ideal)) (onTc (τ := RefHybDwinIdeal.τ) (RefHybDwinIdeal.main (F := Ideal))) ⟨m, fun _ => 0, ρ⟩ (fun r => (∀ c : Dev RefHybDwinIdeal.nD,
      r.2.mem ((c.tc : Thread RefHybDwinIdeal.nD RefHybDwinIdeal.τ).loc RefHybDwinIdeal.main_arg0) = m ((c.tc : Thread RefHybDwinIdeal.nD RefHybDwinIdeal.τ).loc RefHybDwinIdeal.main_arg0)
      ∧ r.2.mem ((c.tc : Thread RefHybDwinIdeal.nD RefHybDwinIdeal.τ).loc RefHybDwinIdeal.main_arg1) = m ((c.tc : Thread RefHybDwinIdeal.nD RefHybDwinIdeal.τ).loc RefHybDwinIdeal.main_arg1))
      ∧ r.2.sem = fun _ => 0) :=
  (θ_run RefHybDwinIdeal.defs _ _).mono (fun r h => ⟨fun c => (h c).2, sem_eq_zero_of_no_sems (by decide) r.2⟩) (RefHybDwinIdeal.Value.run (F := Ideal) m ρ)

end Cert.HybDwinJoin

end
-- ==== Proof.HybDhnJoin.lean ====
/- The gradient through the hybrid layers' first norm: what the kernel's array and the reference's hold, entry by entry, and that they are equal. -/
module

public import proofs.«01_k».proof.Proof.Entries
public import proofs.«01_k».proof.Proof.Norm
public import proofs.«01_k».proof.Proof.Gen.HybDhnIdeal.Value
public import proofs.«01_k».proof.Proof.Gen.RefHybDhnIdeal.Run
public import proofs.«01_k».proof.Proof.Gen.RefHybDhnIdeal.Read
public import Idealize.ShloMosaic.Lib.Pointwise
public import Idealize.ShloMosaic.Lib.ValueIdx
public import Idealize.ShloMosaic.Lib.Pipeline.ValueKit
public import Idealize.ShloMosaic.Lib.Pipeline.ReadBack

@[expose] public section

set_option maxRecDepth 16384

noncomputable section

namespace Cert.HybDhnIdeal.Entry

open Cert.HybDhnIdeal Cert.HybDhnIdeal.Gen Cert.Norm
open Idealize.ShloMosaic Idealize.ShloMosaic.TcCoe Idealize.SL.Sem Cert.Entries

variable (m : (ℓ : Loc nD τ sig) → Buf (Elt Ideal) ℓ) (c : Dev nD)

/-- The arguments. -/
abbrev X0 : FVec Ideal S4096x2560 .bf16 := m ((c.tc : Thread nD τ).loc main_arg0)
abbrev X1 : FVec Ideal S2x4x1024x640 .bf16 := m ((c.tc : Thread nD τ).loc main_arg1)
abbrev X2 : FVec Ideal S4096x1024 .f32 := m ((c.tc : Thread nD τ).loc main_arg2)
abbrev X3 : FVec Ideal S1x1024 .f32 := m ((c.tc : Thread nD τ).loc main_arg3)
abbrev X4 : FVec Ideal S4096x1024 .f32 := m ((c.tc : Thread nD τ).loc main_arg4)

/-- The product over one part of the columns, at a grid point. -/
def part (t : Fin cfg0.N) : FVec Ideal S512x1024 .f32 := k0_pay1 (iblk m c 0 t) (iblk m c 1 t)

theorem acc_A (t : Fin cfg0.N) (h0 : t.val % 4 = 0) (h1 : ¬1 ≤ t.val % 4) (h2 : ¬t.val % 4 = 3) :
    (outsAt0 m c t.val t.isLt).2.2 = part m c t := by
  rw [outsAt0_A m c t h0 h1 h2]
  dsimp only
  frame_open
  frame_out
  exact shapeCast_id ..

theorem acc_B (t : Fin cfg0.N) (h0 : ¬t.val % 4 = 0) (h1 : 1 ≤ t.val % 4) (h2 : ¬t.val % 4 = 3) :
    (outsAt0 m c t.val t.isLt).2.2 = addf (outsAt0 m c (t.val - 1) (Nat.lt_of_le_of_lt (Nat.sub_le _ _) t.isLt)).2.2 (part m c t) := by
  rw [outsAt0_B m c t h0 h1 h2]
  dsimp only
  frame_open
  frame_out
  rw [read_unread_whole]
  exact shapeCast_id ..

theorem acc_C (t : Fin cfg0.N) (h0 : ¬t.val % 4 = 0) (h1 : 1 ≤ t.val % 4) (h2 : t.val % 4 = 3) :
    (outsAt0 m c t.val t.isLt).2.2 = addf (outsAt0 m c (t.val - 1) (Nat.lt_of_le_of_lt (Nat.sub_le _ _) t.isLt)).2.2 (part m c t) := by
  by_cases h3 : t.val < 4
  · rw [outsAt0_C m c t h0 h1 h2 h3]
    dsimp only
    frame_open
    frame_out
    rw [read_unread_whole]
    exact shapeCast_id ..
  · rw [outsAt0_D m c t h0 h1 h2 h3]
    dsimp only
    frame_open
    frame_out
    rw [read_unread_whole]
    exact shapeCast_id ..

/-- The point that closes a row block writes the block of the first result. -/
theorem out_C (t : Fin cfg0.N) (h2 : t.val % 4 = 3) :
    (outsAt0 m c t.val t.isLt).1 = k0_pay8 (outsAt0 m c t.val t.isLt).2.2 (iblk m c 2 t) (iblk m c 3 t) (iblk m c 4 t) := by
  rw [acc_C m c t (by omega) (by omega) h2]
  by_cases h3 : t.val < 4
  · rw [outsAt0_C m c t (by omega) (by omega) h2 h3]
    dsimp only
    frame_open
    frame_out
    rw [read_unread_whole]
    exact congrArg (k0_pay8 · _ _ _) (shapeCast_id ..)
  · rw [outsAt0_D m c t (by omega) (by omega) h2 h3]
    dsimp only
    frame_open
    frame_out
    rw [read_unread_whole]
    exact congrArg (k0_pay8 · _ _ _) (shapeCast_id ..)

/-- It adds the block's part to the second result, which the first row block starts at zero. -/
theorem sum_first (t : Fin cfg0.N) (h2 : t.val % 4 = 3) (h3 : t.val < 4) :
    (outsAt0 m c t.val t.isLt).2.1 = k0_pay4 (k0_pay7 (outsAt0 m c t.val t.isLt).2.2 (iblk m c 2 t)) (k0_pay9 (F := Ideal)) := by
  rw [acc_C m c t (by omega) (by omega) h2]
  rw [outsAt0_C m c t (by omega) (by omega) h2 h3]
  dsimp only
  frame_open
  frame_out
  rw [read_unread_whole]
  exact congrArg (fun x => k0_pay4 (k0_pay7 x _) _) (shapeCast_id ..)

theorem sum_next (t : Fin cfg0.N) (h2 : t.val % 4 = 3) (h3 : ¬t.val < 4) :
    (outsAt0 m c t.val t.isLt).2.1 = k0_pay4 (k0_pay7 (outsAt0 m c t.val t.isLt).2.2 (iblk m c 2 t))
      (outsAt0 m c (t.val - 1) (Nat.lt_of_le_of_lt (Nat.sub_le _ _) t.isLt)).2.1 := by
  rw [acc_C m c t (by omega) (by omega) h2]
  rw [outsAt0_D m c t (by omega) (by omega) h2 h3]
  dsimp only
  frame_open
  frame_out
  rw [read_unread_whole]
  exact congrArg (fun x => k0_pay4 (k0_pay7 x _) _) (shapeCast_id ..)

/-- The other points leave the second result as it is. -/
theorem sum_keep (t : Fin cfg0.N) (h2 : ¬t.val % 4 = 3) :
    (outsAt0 m c t.val t.isLt).2.1 = (outsAt0 m c (t.val - 1) (Nat.lt_of_le_of_lt (Nat.sub_le _ _) t.isLt)).2.1 := by
  by_cases h0 : t.val % 4 = 0
  · rw [outsAt0_A m c t h0 (by omega) h2]
    rfl
  · rw [outsAt0_B m c t h0 (by omega) h2]
    rfl

/-! ## The blocks a point reads -/

theorem index0 : ∀ t : Fin cfg0.N, (cfg0.win 0).index t (0 : Fin 2) = t.val / 4 ∧ (cfg0.win 0).index t (1 : Fin 2) = t.val % 4 := by decide +kernel
theorem index1 : ∀ t : Fin cfg0.N, (cfg0.win 1).index t (0 : Fin 4) = 1 ∧ (cfg0.win 1).index t (1 : Fin 4) = t.val % 4
    ∧ (cfg0.win 1).index t (2 : Fin 4) = 0 ∧ (cfg0.win 1).index t (3 : Fin 4) = 0 := by decide +kernel
theorem index2 : ∀ t : Fin cfg0.N, (cfg0.win 2).index t (0 : Fin 2) = t.val / 4 ∧ (cfg0.win 2).index t (1 : Fin 2) = 0 := by decide +kernel
theorem index3 : ∀ t : Fin cfg0.N, (cfg0.win 3).index t (0 : Fin 2) = t.val / 4 ∧ (cfg0.win 3).index t (1 : Fin 2) = 0 := by decide +kernel
theorem index4 : ∀ t : Fin cfg0.N, (cfg0.win 4).index t (0 : Fin 2) = 0 ∧ (cfg0.win 4).index t (1 : Fin 2) = 0 := by decide +kernel
theorem index5 : ∀ t : Fin cfg0.N, (cfg0.win 5).index t (0 : Fin 2) = t.val / 4 ∧ (cfg0.win 5).index t (1 : Fin 2) = 0 := by decide +kernel
theorem index6 : ∀ t : Fin cfg0.N, (cfg0.win 6).index t (0 : Fin 2) = 0 ∧ (cfg0.win 6).index t (1 : Fin 2) = 0 := by decide +kernel
theorem flush5 : ∀ t : Fin cfg0.N, (cfg0.win 5).flush t = decide (t.val % 4 = 3) := by decide +kernel
theorem flush6 : ∀ t : Fin cfg0.N, (cfg0.win 6).flush t = decide (t.val = 31) := by decide +kernel
theorem points : ∀ t : Fin cfg0.N, t.val < 32 := by decide +kernel

/-- The row of the array that row `r` of the point's block is. -/
def row (t : Fin cfg0.N) (r : Fin 512) : Fin 4096 := ⟨t.val / 4 * 512 + r.val, by have := points t; omega⟩

theorem at0 (W : (b : Ref sig Kind.tc) → Buf (Elt Ideal) ((c : Thread nD τ).loc b)) (t : Fin cfg0.N) (r : Fin 512) (n : Fin 640) :
    View.read (Elt Ideal) ((cfg0.win 0).blk t).view (W (Pipeline.arrRef spec0 0)) (ix2 r n) =
      (W main_arg0 : FVec Ideal S4096x2560 .bf16) (ix2 (row t r) (⟨t.val % 4 * 640 + n.val, by omega⟩ : Fin 2560)) := by
  blk_ext [row, (index0 t).1, (index0 t).2]

theorem at1 (W : (b : Ref sig Kind.tc) → Buf (Elt Ideal) ((c : Thread nD τ).loc b)) (t : Fin cfg0.N) (d : Fin 1024) (n : Fin 640) :
    View.read (Elt Ideal) ((cfg0.win 1).blk t).view (W (Pipeline.arrRef spec0 1)) (ix4 0 0 d n) = (W main_arg1 : FVec Ideal S2x4x1024x640 .bf16) (ix4 (1 : Fin 2) (⟨t.val % 4, by omega⟩ : Fin 4) d n) := by
  blk_ext [(index1 t).1, (index1 t).2.1, (index1 t).2.2.1, (index1 t).2.2.2]

theorem at2 (W : (b : Ref sig Kind.tc) → Buf (Elt Ideal) ((c : Thread nD τ).loc b)) (t : Fin cfg0.N) (r : Fin 512) (d : Fin 1024) :
    View.read (Elt Ideal) ((cfg0.win 2).blk t).view (W (Pipeline.arrRef spec0 2)) (ix2 r d) = (W main_arg2 : FVec Ideal S4096x1024 .f32) (ix2 (row t r) d) := by
  blk_ext [row, (index2 t).1, (index2 t).2]

theorem at3 (W : (b : Ref sig Kind.tc) → Buf (Elt Ideal) ((c : Thread nD τ).loc b)) (t : Fin cfg0.N) (r : Fin 512) (d : Fin 1024) :
    View.read (Elt Ideal) ((cfg0.win 3).blk t).view (W (Pipeline.arrRef spec0 3)) (ix2 r d) = (W main_arg4 : FVec Ideal S4096x1024 .f32) (ix2 (row t r) d) := by
  blk_ext [row, (index3 t).1, (index3 t).2]

theorem at4 (W : (b : Ref sig Kind.tc) → Buf (Elt Ideal) ((c : Thread nD τ).loc b)) (t : Fin cfg0.N) (d : Fin 1024) :
    View.read (Elt Ideal) ((cfg0.win 4).blk t).view (W (Pipeline.arrRef spec0 4)) (ix2 0 d) = (W main_arg3 : FVec Ideal S1x1024 .f32) (ix2 0 d) := by
  blk_ext [(index4 t).1, (index4 t).2]

theorem blk0 (t : Fin cfg0.N) (r : Fin 512) (n : Fin 640) :
    (iblk m c 0 t : FVec Ideal S512x640 .bf16) (ix2 r n) = ent2 (X0 m c) (row t r).val (t.val % 4 * 640 + n.val) := by
  refine (at0 c (V m c) t r n).trans ?_
  rw [V_main_arg0]
  exact ent2_eq (X0 m c) _ _

theorem blk1 (t : Fin cfg0.N) (d : Fin 1024) (n : Fin 640) :
    (iblk m c 1 t : FVec Ideal S1x1x1024x640 .bf16) (ix4 0 0 d n) = ent4 (X1 m c) 1 (t.val % 4) d.val n.val := by
  refine (at1 c (V m c) t d n).trans ?_
  rw [V_main_arg1]
  exact ent4_eq (X1 m c) _ _ _ _

theorem blk2 (t : Fin cfg0.N) (r : Fin 512) (d : Fin 1024) : (iblk m c 2 t : FVec Ideal S512x1024 .f32) (ix2 r d) = X2 m c (ix2 (row t r) d) := by
  refine (at2 c (V m c) t r d).trans ?_
  rw [V_main_arg2]

theorem blk3 (t : Fin cfg0.N) (r : Fin 512) (d : Fin 1024) : (iblk m c 3 t : FVec Ideal S512x1024 .f32) (ix2 r d) = X4 m c (ix2 (row t r) d) := by
  refine (at3 c (V m c) t r d).trans ?_
  rw [V_main_arg4]

theorem blk4 (t : Fin cfg0.N) (d : Fin 1024) : (iblk m c 4 t : FVec Ideal S1x1024 .f32) (ix2 0 d) = X3 m c (ix2 0 d) := by
  refine (at4 c (V m c) t d).trans ?_
  rw [V_main_arg3]

/-- One column's term of the product. -/
def term (x0 : FVec Ideal S4096x2560 .bf16) (x1 : FVec Ideal S2x4x1024x640 .bf16) (s d k : ℕ) : EReal := ent2 x0 s k * ent4 x1 1 (k / 640) d (k % 640)
/-- An entry of the product. -/
def prod (x0 : FVec Ideal S4096x2560 .bf16) (x1 : FVec Ideal S2x4x1024x640 .bf16) (s d : ℕ) : EReal := ∑ k : Fin 2560, term x0 x1 s d k.val
/-- The gradient before the norm. -/
def dxn (x0 : FVec Ideal S4096x2560 .bf16) (x1 : FVec Ideal S2x4x1024x640 .bf16) (s d : ℕ) : EReal := prod x0 x1 s d

theorem part_apply (t : Fin cfg0.N) (r : Fin 512) (d : Fin 1024) :
    part m c t (ix2 r d) = ∑ n : Fin 640, term (X0 m c) (X1 m c) (t.val / 4 * 512 + r.val) d.val (640 * (t.val % 4) + n.val) := by
  have h0 := blk0 m c t
  have h1 := blk1 m c t
  unfold part k0_pay1
  generalize iblk m c 0 t = x at h0
  generalize iblk m c 1 t = y at h1
  pointwise
  refine Finset.sum_congr rfl fun n _ => ?_
  rw [h0, h1, term, Nat.mul_comm 640]
  have e3 : (t.val % 4 * 640 + n.val) / 640 = t.val % 4 := by omega
  have e4 : (t.val % 4 * 640 + n.val) % 640 = n.val := by omega
  rw [e3, e4]
  rfl

/-- The accumulator after a point. -/
theorem acc (t : Fin cfg0.N) (r : Fin 512) (d : Fin 1024) : (outsAt0 m c t.val t.isLt).2.2 (ix2 r d) =
    ∑ k ∈ Finset.range (t.val % 4 + 1), ∑ n : Fin 640, term (X0 m c) (X1 m c) (t.val / 4 * 512 + r.val) d.val (640 * k + n.val) := by
  have e := Pipeline.eq_sum_of_reset_step_apply_divmod (fun n h => (outsAt0 m c n h).2.2) 4 (fun _ => (0 : EReal))
    (fun j k (i : S512x1024.Idx) => ∑ n : Fin 640, term (X0 m c) (X1 m c) (j * 512 + (i 0).val) (i 1).val (640 * k + n.val))
    (fun t h i => by
      have ei : i = ix2 (i 0 : Fin 512) (i 1 : Fin 1024) := by funext a; fin_cases a <;> rfl
      have h := congrFun (acc_A m c t h (by omega) (by omega)) i
      rw [zero_add]
      exact h.trans ((congrArg _ ei).trans (part_apply m c t (i 0 : Fin 512) (i 1 : Fin 1024))))
    (fun t h i => by
      have ei : i = ix2 (i 0 : Fin 512) (i 1 : Fin 1024) := by funext a; fin_cases a <;> rfl
      have e : (outsAt0 m c t.val t.isLt).2.2 = addf (outsAt0 m c (t.val - 1) (Nat.lt_of_le_of_lt (Nat.sub_le _ _) t.isLt)).2.2 (part m c t) := by
        by_cases h3 : t.val % 4 = 3
        · exact acc_C m c t h (by omega) h3
        · exact acc_B m c t h (by omega) h3
      refine (congrFun e i).trans ?_
      exact congrArg _ ((congrArg (part m c t) ei).trans (part_apply m c t (i 0 : Fin 512) (i 1 : Fin 1024))))
    t (ix2 r d)
  rw [zero_add] at e
  exact e

theorem acc_full (t : Fin cfg0.N) (h : t.val % 4 = 3) (r : Fin 512) (d : Fin 1024) :
    (outsAt0 m c t.val t.isLt).2.2 (ix2 r d) = prod (X0 m c) (X1 m c) (row t r).val d.val := by
  rw [acc, h]
  exact sum_blocks 640 _ 4

theorem pay_msq (x : FVec Ideal S512x1024 .f32) (r : Fin 512) (u : Fin 1) : k0_pay5 (F := Ideal) x (ix2 r u) = msq fun d => x (ix2 r d) := by
  unfold k0_pay5
  pointwise
  rfl

theorem pay_inv (x : FVec Ideal S512x1024 .f32) (r : Fin 512) (u : Fin 1) : k0_pay6 (F := Ideal) x (ix2 r u) = inv fun d => x (ix2 r d) := by
  have h := pay_msq x
  unfold k0_pay6
  generalize k0_pay5 (F := Ideal) x = p at h
  pointwise
  rw [h]
  rfl

theorem pay_sum (a x : FVec Ideal S512x1024 .f32) (d : Fin 1024) : k0_pay7 (F := Ideal) a x (ix2 0 d) =
    ∑ r : Fin 512, x (ix2 r d) * inv (fun e => x (ix2 r e)) * a (ix2 r d) := by
  have h := pay_inv x
  unfold k0_pay7
  generalize k0_pay6 (F := Ideal) x = p at h
  pointwise
  exact Finset.sum_congr rfl fun r _ => by rw [h]

theorem pay_first (a x y : FVec Ideal S512x1024 .f32) (g : FVec Ideal S1x1024 .f32) (r : Fin 512) (d : Fin 1024) :
    k0_pay8 (F := Ideal) a x y g (ix2 r d) =
      y (ix2 r d) + ngrad (fun e => x (ix2 r e)) (fun e => a (ix2 r e)) (fun e => g (ix2 0 e)) d := by
  have h5 := pay_msq x
  have h6 := pay_inv x
  unfold k0_pay8
  generalize k0_pay5 (F := Ideal) x = q at h5
  generalize k0_pay6 (F := Ideal) x = p at h6
  pointwise
  simp only [h5, h6]
  rfl

theorem pay_add (a b : FVec Ideal S1x1024 .f32) (d : Fin 1024) : k0_pay4 (F := Ideal) a b (ix2 0 d) = b (ix2 0 d) + a (ix2 0 d) := by
  unfold k0_pay4
  pointwise

theorem pay_zero (d : Fin 1024) : k0_pay9 (F := Ideal) (ix2 0 d) = 0 := by
  unfold k0_pay9
  pointwise

/-! ## The two results -/

/-- An entry of the first result: the gradient on its way back plus the norm's gradient. -/
def first (x0 : FVec Ideal S4096x2560 .bf16) (x1 : FVec Ideal S2x4x1024x640 .bf16) (h : FVec Ideal S4096x1024 .f32) (g : FVec Ideal S1x1024 .f32) (dh : FVec Ideal S4096x1024 .f32) (s : Fin 4096) (d : Fin 1024) : EReal :=
  dh (ix2 s d) + ngrad (fun e => h (ix2 s e)) (fun e => dxn x0 x1 s.val e.val) (fun e => g (ix2 0 e)) d

/-- One row's term of the second result. -/
def gterm (x0 : FVec Ideal S4096x2560 .bf16) (x1 : FVec Ideal S2x4x1024x640 .bf16) (h : FVec Ideal S4096x1024 .f32) (d : Fin 1024) (s : ℕ) : EReal :=
  ent2 h s d.val * inv (fun e : Fin 1024 => ent2 h s e.val) * dxn x0 x1 s d.val

/-- An entry of the second result: the gradient of the norm's weights. -/
def second (x0 : FVec Ideal S4096x2560 .bf16) (x1 : FVec Ideal S2x4x1024x640 .bf16) (h : FVec Ideal S4096x1024 .f32) (d : Fin 1024) : EReal :=
  ∑ s : Fin 4096, gterm x0 x1 h d s.val

theorem out_apply (t : Fin cfg0.N) (h : t.val % 4 = 3) (r : Fin 512) (d : Fin 1024) :
    (outsAt0 m c t.val t.isLt).1 (ix2 r d) = first (X0 m c) (X1 m c) (X2 m c) (X3 m c) (X4 m c) (row t r) d := by
  have ha := acc_full m c t h
  have h2 := blk2 m c t
  have h3 := blk3 m c t
  have h4 := blk4 m c t
  rw [out_C m c t h]
  generalize (outsAt0 m c t.val t.isLt).2.2 = a at ha
  generalize iblk m c 2 t = x at h2
  generalize iblk m c 3 t = y at h3
  generalize iblk m c 4 t = z at h4
  refine (pay_first _ _ _ _ r d).trans ?_
  simp only [ha, h2, h3, h4]
  rfl

/-- What a row block's last point adds to the second result. -/
theorem add_apply (t : Fin cfg0.N) (h : t.val % 4 = 3) (d : Fin 1024) :
    k0_pay7 (F := Ideal) (outsAt0 m c t.val t.isLt).2.2 (iblk m c 2 t) (ix2 0 d) =
      ∑ r : Fin 512, gterm (X0 m c) (X1 m c) (X2 m c) d (512 * (t.val / 4) + r.val) := by
  have ha := acc_full m c t h
  have h2 := blk2 m c t
  generalize (outsAt0 m c t.val t.isLt).2.2 = a at ha
  generalize iblk m c 2 t = x at h2
  refine (pay_sum _ _ d).trans (Finset.sum_congr rfl fun r _ => ?_)
  have e : 512 * (t.val / 4) + r.val = (row t r).val := by
    show _ = t.val / 4 * 512 + r.val
    omega
  simp only [ha, h2, e, gterm, dxn, ent2_eq (X2 m c)]

/-- The second result after a point from the first row block's last one on. -/
theorem sum_apply (n : ℕ) (hn : n + 3 < cfg0.N) (d : Fin 1024) : (outsAt0 m c (n + 3) hn).2.1 (ix2 0 d) =
    ∑ k ∈ Finset.range ((n + 4) / 4), ∑ r : Fin 512, gterm (X0 m c) (X1 m c) (X2 m c) d (512 * k + r.val) := by
  induction n with
  | zero =>
    have e := congrFun (sum_first m c ⟨3, hn⟩ rfl (by simp)) (ix2 0 d)
    refine (e.trans (pay_add _ _ d)).trans ?_
    rw [pay_zero, zero_add]
    refine (add_apply m c ⟨3, hn⟩ rfl d).trans ?_
    have e1 : (0 + 4) / 4 = 1 := rfl
    have e2 : 3 / 4 = 0 := rfl
    rw [e1]
    dsimp only
    rw [e2]
    exact (Finset.sum_range_one fun k => ∑ r : Fin 512, gterm (X0 m c) (X1 m c) (X2 m c) d (512 * k + r.val)).symm
  | succ n ih =>
    have ih := ih (Nat.lt_of_succ_lt hn)
    by_cases h : (n + 4) % 4 = 3
    · have e := congrFun (sum_next m c ⟨n + 4, hn⟩ h (by simp)) (ix2 0 d)
      refine (e.trans (pay_add _ _ d)).trans ?_
      have e1 : (n + 1 + 4) / 4 = (n + 4) / 4 + 1 := by omega
      rw [e1, Finset.sum_range_succ, ← ih]
      exact congrArg _ (add_apply m c ⟨n + 4, hn⟩ h d)
    · have e := congrFun (sum_keep m c ⟨n + 4, hn⟩ h) (ix2 0 d)
      have e1 : (n + 1 + 4) / 4 = (n + 4) / 4 := by omega
      rw [e1, ← ih]
      exact e

theorem sum_last (t : Fin cfg0.N) (h : t.val = 31) (d : Fin 1024) : (outsAt0 m c t.val t.isLt).2.1 (ix2 0 d) = second (X0 m c) (X1 m c) (X2 m c) d := by
  obtain ⟨n, hn⟩ := t
  obtain rfl : n = 31 := h
  exact (sum_apply m c 28 hn d).trans (sum_blocks 512 _ 8)

/-- The first array after the run is any array with these entries. -/
theorem array5 (G : FVec Ideal S4096x1024 .f32)
    (hg : ∀ (s : Fin 4096) (d : Fin 1024), G (ix2 s d) = first (X0 m c) (X1 m c) (X2 m c) (X3 m c) (X4 m c) s d) :
    (dats m 0 c).arrAt 5 cfg0.N = G := by
  refine (dats m 0 c).arrAt_eq_of_covers 5 _ (by decide +kernel) fun t hf y => ?_
  rw [flush5] at hf
  have ht : t.val % 4 = 3 := by simpa using hf
  have eg := out_apply m c t ht
  have hy0 : (y 0).val < 512 := (y 0).isLt
  have hy1 : (y 1).val < 1024 := (y 1).isLt
  blk_simp [after0_5, (index5 t).1, (index5 t).2]
  generalize (outsAt0 m c t.val t.isLt).1 = o at eg
  have e0 : (((cfg0.win 5).blk t).view.emb y (0 : Fin 2)).val = t.val / 4 * 512 + (y 0).val := by
    blk_simp [(index5 t).1]
  have e1 : (((cfg0.win 5).blk t).view.emb y (1 : Fin 2)).val = (y 1).val := by
    blk_simp [(index5 t).2]
  have ey : y = (ix2 (⟨(y 0).val, hy0⟩ : Fin 512) (⟨(y 1).val, hy1⟩ : Fin 1024) : S512x1024.Idx) := by
    funext a
    fin_cases a <;> rfl
  have ez : ((cfg0.win 5).blk t).view.emb y = (ix2 (row t ⟨(y 0).val, hy0⟩) (⟨(y 1).val, hy1⟩ : Fin 1024) : S4096x1024.Idx) := by
    funext a
    fin_cases a
    · exact Fin.ext e0
    · exact Fin.ext e1
  exact (congrArg o ey).trans ((eg _ _).trans ((hg _ _).symm.trans (congrArg G ez.symm)))

/-- The second array after the run is any array with these entries. -/
theorem array6 (G : FVec Ideal S1x1024 .f32) (hg : ∀ d : Fin 1024, G (ix2 0 d) = second (X0 m c) (X1 m c) (X2 m c) d) :
    (dats m 0 c).arrAt 6 cfg0.N = G := by
  refine (dats m 0 c).arrAt_eq_of_covers 6 _ (by decide +kernel) fun t hf y => ?_
  rw [flush6] at hf
  have ht : t.val = 31 := by simpa using hf
  have eg := sum_last m c t ht
  have hy0 : (y 0).val < 1 := (y 0).isLt
  have hy1 : (y 1).val < 1024 := (y 1).isLt
  blk_simp [after0_6, (index6 t).1, (index6 t).2]
  generalize (outsAt0 m c t.val t.isLt).2.1 = o at eg
  have e0 : (((cfg0.win 6).blk t).view.emb y (0 : Fin 2)).val = (y 0).val := by
    blk_simp [(index6 t).1]
  have e1 : (((cfg0.win 6).blk t).view.emb y (1 : Fin 2)).val = (y 1).val := by
    blk_simp [(index6 t).2]
  have ey : y = (ix2 (0 : Fin 1) (⟨(y 1).val, hy1⟩ : Fin 1024) : S1x1024.Idx) := by
    funext a
    fin_cases a
    · exact Fin.ext (Nat.lt_one_iff.mp hy0)
    · rfl
  have ez : ((cfg0.win 6).blk t).view.emb y = (ix2 (0 : Fin 1) (⟨(y 1).val, hy1⟩ : Fin 1024) : S1x1024.Idx) := by
    funext a
    fin_cases a
    · exact Fin.ext (e0.trans (Nat.lt_one_iff.mp hy0))
    · exact Fin.ext e1
  exact (congrArg o ey).trans ((eg _).trans ((hg _).symm.trans (congrArg G ez.symm)))

end Cert.HybDhnIdeal.Entry

namespace Cert.RefHybDhnIdeal.Grad

open Idealize.ShloMosaic Idealize.ShloMosaic.TcCoe Idealize.SL.Sem Cert.Entries Cert.Norm Read HybDhnIdeal.Entry

variable (x0 : FVec Ideal S4096x2560 .bf16) (x1 : FVec Ideal S2x4x1024x640 .bf16) (x2 x4 : FVec Ideal S4096x1024 .f32) (x3 : FVec Ideal S1x1024 .f32)

theorem weights (d : Fin 1024) (k : Fin 2560) : val_main_v19 (F := Ideal) x1 (ix2 d k) = ent4 x1 1 (k.val / 640) d.val (k.val % 640) := by
  unfold val_main_v19 val_main_v18 val_main_v17 val_main_v16 val_main_v15
  pointwise
  exact ent4_eq x1 _ _ _ _

theorem product (s : Fin 4096) (d : Fin 1024) : val_main_v22 (F := Ideal) x0 x1 (ix2 s d) = prod x0 x1 s.val d.val := by
  have h4 := weights x1
  unfold val_main_v22 val_main_v21
  generalize val_main_v19 (F := Ideal) x1 = b at h4
  pointwise
  refine Finset.sum_congr rfl fun k _ => ?_
  rw [h4, ent2_eq x0]
  rfl

theorem square (s : Fin 4096) (u : Fin 1) : val_main_v6 (F := Ideal) x2 (ix2 s u) = msq fun e => x2 (ix2 s e) := by
  unfold val_main_v6 val_main_v5 val_main_v4 val_main_v3 val_main_v2 val_main_v1 val_main_v0 val_main_cst val_main_cst_0 val_main_cst_1
  pointwise
  rfl

theorem root (s : Fin 4096) (u : Fin 1) : val_main_v7 (F := Ideal) x2 (ix2 s u) = inv fun e => x2 (ix2 s e) := by
  have h := square x2
  unfold val_main_v7
  generalize val_main_v6 (F := Ideal) x2 = p at h
  pointwise
  rw [h]
  rfl

/-- The second result's entries. -/
theorem second_eq (d : Fin 1024) : val_main_v25 (F := Ideal) x0 x1 x2 (ix2 0 d) = second x0 x1 x2 d := by
  have h18 := root x2
  have h30 := product x0 x1
  unfold val_main_v25 val_main_v24 val_main_v23 val_main_v12 val_main_v11 val_main_cst_3
  generalize val_main_v7 (F := Ideal) x2 = p at h18
  generalize val_main_v22 (F := Ideal) x0 x1 = q at h30
  pointwise
  refine Finset.sum_congr rfl fun s _ => ?_
  simp only [h18, h30, gterm, dxn, ent2_eq x2]

/-- The first result's entries. -/
theorem first_eq (s : Fin 4096) (d : Fin 1024) : val_main_v42 (F := Ideal) x0 x1 x2 x3 x4 (ix2 s d) = first x0 x1 x2 x3 x4 s d := by
  have h17 := square x2
  have h18 := root x2
  have h30 := product x0 x1
  unfold val_main_v42 val_main_v41 val_main_v40 val_main_v39 val_main_v38 val_main_v37 val_main_v36 val_main_v35 val_main_v34 val_main_v33 val_main_v32 val_main_v31 val_main_v30 val_main_v29 val_main_v28 val_main_v27 val_main_v26 val_main_v10 val_main_v9 val_main_v8 val_main_cst_2 val_main_cst_4 val_main_cst_5 val_main_cst_6
  generalize val_main_v7 (F := Ideal) x2 = p at h18
  generalize val_main_v6 (F := Ideal) x2 = r at h17
  generalize val_main_v22 (F := Ideal) x0 x1 = q at h30
  pointwise
  simp only [h17, h18, h30]
  unfold first ngrad
  rw [← add_assoc, ← add_assoc]
  rfl

end Cert.RefHybDhnIdeal.Grad

namespace Cert.HybDhnJoin

open Idealize.ShloMosaic Idealize.ShloMosaic.TcCoe Idealize.SL.Sem

/-- Both run, with equal results and their arguments kept. -/
theorem algebraic : @Cert.algebraic_HybDhnIdeal_RefHybDhnIdeal Cert.HybDhnIdeal.Gen.facts Cert.RefHybDhnIdeal.Gen.facts := by
  intro m g m' g' _ hargs
  refine ⟨fun c => RefHybDhnIdeal.Read.val_main_v42 (F := Ideal) (HybDhnIdeal.Entry.X0 m c) (HybDhnIdeal.Entry.X1 m c) (HybDhnIdeal.Entry.X2 m c) (HybDhnIdeal.Entry.X3 m c) (HybDhnIdeal.Entry.X4 m c),
    fun c => RefHybDhnIdeal.Read.val_main_v25 (F := Ideal) (HybDhnIdeal.Entry.X0 m c) (HybDhnIdeal.Entry.X1 m c) (HybDhnIdeal.Entry.X2 m c), ?_, ?_⟩
  · refine (θ_run HybDhnIdeal.defs _ _).mono (fun r h c => ⟨(h c).1.trans ?_, (h c).2.1.trans ?_, (h c).2.2⟩) (HybDhnIdeal.Value.run_blocks m g)
    · exact HybDhnIdeal.Entry.array5 m c _ (RefHybDhnIdeal.Grad.first_eq _ _ _ _ _)
    · exact HybDhnIdeal.Entry.array6 m c _ (RefHybDhnIdeal.Grad.second_eq _ _ _)
  · have e0 : ∀ c : Dev RefHybDhnIdeal.nD, m' ((c.tc : Thread RefHybDhnIdeal.nD RefHybDhnIdeal.τ).loc RefHybDhnIdeal.main_arg0) = HybDhnIdeal.Entry.X0 m c := fun c => (hargs c).1
    have e1 : ∀ c : Dev RefHybDhnIdeal.nD, m' ((c.tc : Thread RefHybDhnIdeal.nD RefHybDhnIdeal.τ).loc RefHybDhnIdeal.main_arg1) = HybDhnIdeal.Entry.X1 m c := fun c => (hargs c).2.1
    have e2 : ∀ c : Dev RefHybDhnIdeal.nD, m' ((c.tc : Thread RefHybDhnIdeal.nD RefHybDhnIdeal.τ).loc RefHybDhnIdeal.main_arg2) = HybDhnIdeal.Entry.X2 m c := fun c => (hargs c).2.2.1
    have e3 : ∀ c : Dev RefHybDhnIdeal.nD, m' ((c.tc : Thread RefHybDhnIdeal.nD RefHybDhnIdeal.τ).loc RefHybDhnIdeal.main_arg3) = HybDhnIdeal.Entry.X3 m c := fun c => (hargs c).2.2.2.1
    have e4 : ∀ c : Dev RefHybDhnIdeal.nD, m' ((c.tc : Thread RefHybDhnIdeal.nD RefHybDhnIdeal.τ).loc RefHybDhnIdeal.main_arg4) = HybDhnIdeal.Entry.X4 m c := fun c => (hargs c).2.2.2.2
    refine (θ_run RefHybDhnIdeal.defs _ _).mono (fun r h c => ⟨(h c).1.trans ?_, (h c).2.1.trans ?_, (h c).2.2⟩) (RefHybDhnIdeal.Value.run (F := Ideal) m' g')
    · refine (RefHybDhnIdeal.Read.val_main_v42_eq (F := Ideal) m' c).trans ?_
      rw [e0, e1, e2, e3, e4]
    · refine (RefHybDhnIdeal.Read.val_main_v25_eq (F := Ideal) (m' ((c.tc : Thread RefHybDhnIdeal.nD RefHybDhnIdeal.τ).loc RefHybDhnIdeal.main_arg0)) (m' ((c.tc : Thread RefHybDhnIdeal.nD RefHybDhnIdeal.τ).loc RefHybDhnIdeal.main_arg1)) (m' ((c.tc : Thread RefHybDhnIdeal.nD RefHybDhnIdeal.τ).loc RefHybDhnIdeal.main_arg2))).trans ?_
      rw [e0, e1, e2]

/-- The reference's frame: it runs, keeps its arguments and leaves every semaphore at zero. -/
theorem frameR (m : (ℓ : Loc RefHybDhnIdeal.nD RefHybDhnIdeal.τ RefHybDhnIdeal.sig) → Buf (Elt Ideal) ℓ) (ρ : Dev RefHybDhnIdeal.nD → PrngReg) :
    θ_run (RefHybDhnIdeal.defs (F := Ideal)) (onTc (τ := RefHybDhnIdeal.τ) (RefHybDhnIdeal.main (F := Ideal))) ⟨m, fun _ => 0, ρ⟩ (fun r => (∀ c : Dev RefHybDhnIdeal.nD,
      r.2.mem ((c.tc : Thread RefHybDhnIdeal.nD RefHybDhnIdeal.τ).loc RefHybDhnIdeal.main_arg0) = m ((c.tc : Thread RefHybDhnIdeal.nD RefHybDhnIdeal.τ).loc RefHybDhnIdeal.main_arg0)
      ∧ r.2.mem ((c.tc : Thread RefHybDhnIdeal.nD RefHybDhnIdeal.τ).loc RefHybDhnIdeal.main_arg1) = m ((c.tc : Thread RefHybDhnIdeal.nD RefHybDhnIdeal.τ).loc RefHybDhnIdeal.main_arg1)
      ∧ r.2.mem ((c.tc : Thread RefHybDhnIdeal.nD RefHybDhnIdeal.τ).loc RefHybDhnIdeal.main_arg2) = m ((c.tc : Thread RefHybDhnIdeal.nD RefHybDhnIdeal.τ).loc RefHybDhnIdeal.main_arg2)
      ∧ r.2.mem ((c.tc : Thread RefHybDhnIdeal.nD RefHybDhnIdeal.τ).loc RefHybDhnIdeal.main_arg3) = m ((c.tc : Thread RefHybDhnIdeal.nD RefHybDhnIdeal.τ).loc RefHybDhnIdeal.main_arg3)
      ∧ r.2.mem ((c.tc : Thread RefHybDhnIdeal.nD RefHybDhnIdeal.τ).loc RefHybDhnIdeal.main_arg4) = m ((c.tc : Thread RefHybDhnIdeal.nD RefHybDhnIdeal.τ).loc RefHybDhnIdeal.main_arg4))
      ∧ r.2.sem = fun _ => 0) :=
  (θ_run RefHybDhnIdeal.defs _ _).mono (fun r h => ⟨fun c => (h c).2.2, sem_eq_zero_of_no_sems (by decide) r.2⟩) (RefHybDhnIdeal.Value.run (F := Ideal) m ρ)

end Cert.HybDhnJoin

end
-- ==== Proof.GdnInJoin.lean ====
/- The input projection of the delta-rule layers: what the kernel's array and the reference's hold, entry by entry, and that they are equal. -/
module

public import proofs.«01_k».proof.Proof.Entries
public import proofs.«01_k».proof.Proof.Gen.GdnInIdeal.Value
public import proofs.«01_k».proof.Proof.Gen.RefGdnInIdeal.Run
public import proofs.«01_k».proof.Proof.Gen.RefGdnInIdeal.Read
public import Idealize.ShloMosaic.Lib.Pointwise
public import Idealize.ShloMosaic.Lib.ValueIdx
public import Idealize.ShloMosaic.Lib.Pipeline.ValueKit
public import Idealize.ShloMosaic.Lib.Pipeline.ReadBack

@[expose] public section

set_option maxRecDepth 16384

noncomputable section

namespace Cert.GdnInIdeal.Entry

open Cert.GdnInIdeal Cert.GdnInIdeal.Gen
open Idealize.ShloMosaic Idealize.ShloMosaic.TcCoe Idealize.SL.Sem Cert.Entries

variable (m : (ℓ : Loc nD τ sig) → Buf (Elt Ideal) ℓ) (c : Dev nD)

/-- The arguments. -/
abbrev X0 : FVec Ideal S4096x1024 .bf16 := m ((c.tc : Thread nD τ).loc main_arg0)
abbrev X1 : FVec Ideal S2x1024x4096 .bf16 := m ((c.tc : Thread nD τ).loc main_arg1)

/-- A point writes its block whole. -/
theorem out_eq (x0 : FVec Ideal S512x1024 .bf16) (x1 : FVec Ideal S1x1024x1024 .bf16) : out0_2 (F := Ideal) x0 x1 = k0_pay1 (F := Ideal) x0 x1 := by
  have z0 : (![0, 0] : Fin S512x1024.rank → ℕ) = fun _ => 0 := funext fun a => by fin_cases a <;> rfl
  have z1 : (![0, 0, 0] : Fin S1x1024x1024.rank → ℕ) = fun _ => 0 := funext fun a => by fin_cases a <;> rfl
  have z2 : (![0, 0] : Fin S512x1024.rank → ℕ) = fun _ => 0 := funext fun a => by fin_cases a <;> rfl
  unfold out0_2
  rw [View.canon_unit_zero z2, View.ld_unit_zero z0, View.ld_unit_zero z1]

theorem index0 : ∀ t : Fin cfg0.N, (cfg0.win 0).index t (0 : Fin 2) = t.val % 8 ∧ (cfg0.win 0).index t (1 : Fin 2) = 0 := by decide +kernel
theorem index1 : ∀ t : Fin cfg0.N, (cfg0.win 1).index t (0 : Fin 3) = 1 ∧ (cfg0.win 1).index t (1 : Fin 3) = 0 ∧ (cfg0.win 1).index t (2 : Fin 3) = t.val / 8 := by decide +kernel
theorem index2 : ∀ t : Fin cfg0.N, (cfg0.win 2).index t (0 : Fin 2) = t.val % 8 ∧ (cfg0.win 2).index t (1 : Fin 2) = t.val / 8 := by decide +kernel
theorem points : ∀ t : Fin cfg0.N, t.val / 8 < 4 := by decide +kernel

/-- The row and the column of the array that a row and a column of the point's block are. -/
def row (t : Fin cfg0.N) (r : Fin 512) : Fin 4096 := ⟨t.val % 8 * 512 + r.val, by omega⟩
def col (t : Fin cfg0.N) (n : Fin 1024) : Fin 4096 := ⟨t.val / 8 * 1024 + n.val, by have := points t; omega⟩

theorem at0 (W : (b : Ref sig Kind.tc) → Buf (Elt Ideal) ((c : Thread nD τ).loc b)) (t : Fin cfg0.N) (r : Fin 512) (d : Fin 1024) :
    View.read (Elt Ideal) ((cfg0.win 0).blk t).view (W (Pipeline.arrRef spec0 0)) (ix2 r d) = (W main_arg0 : FVec Ideal S4096x1024 .bf16) (ix2 (row t r) d) := by
  blk_ext [row, (index0 t).1, (index0 t).2]

theorem at1 (W : (b : Ref sig Kind.tc) → Buf (Elt Ideal) ((c : Thread nD τ).loc b)) (t : Fin cfg0.N) (d : Fin 1024) (n : Fin 1024) :
    View.read (Elt Ideal) ((cfg0.win 1).blk t).view (W (Pipeline.arrRef spec0 1)) (ix3 0 d n) = (W main_arg1 : FVec Ideal S2x1024x4096 .bf16) (ix3 (1 : Fin 2) d (col t n)) := by
  blk_ext [col, (index1 t).1, (index1 t).2.1, (index1 t).2.2]

theorem blk0 (t : Fin cfg0.N) (r : Fin 512) (d : Fin 1024) : (iblk m c 0 t : FVec Ideal S512x1024 .bf16) (ix2 r d) = X0 m c (ix2 (row t r) d) := by
  refine (at0 c (V m c) t r d).trans ?_
  rw [V_main_arg0]
theorem blk1 (t : Fin cfg0.N) (d : Fin 1024) (n : Fin 1024) : (iblk m c 1 t : FVec Ideal S1x1024x1024 .bf16) (ix3 0 d n) = X1 m c (ix3 (1 : Fin 2) d (col t n)) := by
  refine (at1 c (V m c) t d n).trans ?_
  rw [V_main_arg1]

/-- An entry of the result. -/
def entry (x0 : FVec Ideal S4096x1024 .bf16) (x1 : FVec Ideal S2x1024x4096 .bf16) (s : Fin 4096) (k : Fin 4096) : EReal :=
  ∑ d : Fin 1024, x0 (ix2 s d) * x1 (ix3 1 d k)

theorem out_apply (t : Fin cfg0.N) (r : Fin 512) (n : Fin 1024) :
    out0_2 (F := Ideal) (iblk m c 0 t) (iblk m c 1 t) (ix2 r n) = entry (X0 m c) (X1 m c) (row t r) (col t n) := by
  rw [out_eq]
  have h0 := blk0 m c t
  have h1 := blk1 m c t
  unfold k0_pay1 entry
  generalize iblk m c 0 t = x at h0
  generalize iblk m c 1 t = y at h1
  pointwise
  refine Finset.sum_congr rfl fun d _ => ?_
  rw [h0, h1]

/-- The array after the run is any array with these entries. -/
theorem array (G : FVec Ideal S4096x4096 .f32) (hg : ∀ (s : Fin 4096) (k : Fin 4096), G (ix2 s k) = entry (X0 m c) (X1 m c) s k) :
    (dats m 0 c).arrAt 2 cfg0.N = G := by
  refine (dats m 0 c).arrAt_eq_of_covers 2 _ (by decide +kernel) fun t hf y => ?_
  have eg := out_apply m c t
  have hy0 : (y 0).val < 512 := (y 0).isLt
  have hy1 : (y 1).val < 1024 := (y 1).isLt
  blk_simp [after0_2, (index2 t).1, (index2 t).2]
  generalize out0_2 (F := Ideal) (iblk m c 0 t) (iblk m c 1 t) = o at eg
  have e0 : (((cfg0.win 2).blk t).view.emb y (0 : Fin 2)).val = t.val % 8 * 512 + (y 0).val := by
    blk_simp [(index2 t).1]
  have e1 : (((cfg0.win 2).blk t).view.emb y (1 : Fin 2)).val = t.val / 8 * 1024 + (y 1).val := by
    blk_simp [(index2 t).2]
  have ey : y = (ix2 (⟨(y 0).val, hy0⟩ : Fin 512) (⟨(y 1).val, hy1⟩ : Fin 1024) : S512x1024.Idx) := by
    funext a
    fin_cases a <;> rfl
  have ez : ((cfg0.win 2).blk t).view.emb y = (ix2 (row t ⟨(y 0).val, hy0⟩) (col t ⟨(y 1).val, hy1⟩) : S4096x4096.Idx) := by
    funext a
    fin_cases a
    · exact Fin.ext e0
    · exact Fin.ext e1
  exact (congrArg o ey).trans ((eg _ _).trans ((hg _ _).symm.trans (congrArg G ez.symm)))

end Cert.GdnInIdeal.Entry

namespace Cert.RefGdnInIdeal.Value

open Idealize.ShloMosaic Idealize.ShloMosaic.TcCoe Idealize.SL.Sem Cert.Entries Read

/-- The reference's entries. -/
theorem entries (x0 : FVec Ideal S4096x1024 .bf16) (x1 : FVec Ideal S2x1024x4096 .bf16) (s : Fin 4096) (k : Fin 4096) :
    val_main_v4 (F := Ideal) x0 x1 (ix2 s k) = GdnInIdeal.Entry.entry x0 x1 s k := by
  unfold val_main_v4 val_main_v3 val_main_v2 val_main_v1 val_main_v0 GdnInIdeal.Entry.entry
  pointwise

end Cert.RefGdnInIdeal.Value

namespace Cert.GdnInJoin

open Idealize.ShloMosaic Idealize.ShloMosaic.TcCoe Idealize.SL.Sem

/-- Both run, with equal results and their arguments kept. -/
theorem algebraic : @Cert.algebraic_GdnInIdeal_RefGdnInIdeal Cert.GdnInIdeal.Gen.facts Cert.RefGdnInIdeal.Gen.facts := by
  intro m g m' g' _ hargs
  refine ⟨fun c => RefGdnInIdeal.Read.val_main_v4 (F := Ideal) (GdnInIdeal.Entry.X0 m c) (GdnInIdeal.Entry.X1 m c), ?_, ?_⟩
  · refine (θ_run GdnInIdeal.defs _ _).mono (fun r h c => ⟨(h c).1.trans ?_, (h c).2⟩) (GdnInIdeal.Value.run_blocks m g)
    exact GdnInIdeal.Entry.array m c _ (RefGdnInIdeal.Value.entries _ _)
  · refine (θ_run RefGdnInIdeal.defs _ _).mono (fun r h c => ⟨(h c).1.trans ?_, (h c).2⟩) (RefGdnInIdeal.Value.run (F := Ideal) m' g')
    have e0 : m' ((c.tc : Thread RefGdnInIdeal.nD RefGdnInIdeal.τ).loc RefGdnInIdeal.main_arg0) = GdnInIdeal.Entry.X0 m c := (hargs c).1
    have e1 : m' ((c.tc : Thread RefGdnInIdeal.nD RefGdnInIdeal.τ).loc RefGdnInIdeal.main_arg1) = GdnInIdeal.Entry.X1 m c := (hargs c).2
    refine (RefGdnInIdeal.Read.val_main_v4_eq (F := Ideal) (m' ((c.tc : Thread RefGdnInIdeal.nD RefGdnInIdeal.τ).loc RefGdnInIdeal.main_arg0)) (m' ((c.tc : Thread RefGdnInIdeal.nD RefGdnInIdeal.τ).loc RefGdnInIdeal.main_arg1))).trans ?_
    rw [e0, e1]

/-- The reference's frame: it runs, keeps its arguments and leaves every semaphore at zero. -/
theorem frameR (m : (ℓ : Loc RefGdnInIdeal.nD RefGdnInIdeal.τ RefGdnInIdeal.sig) → Buf (Elt Ideal) ℓ) (ρ : Dev RefGdnInIdeal.nD → PrngReg) :
    θ_run (RefGdnInIdeal.defs (F := Ideal)) (onTc (τ := RefGdnInIdeal.τ) (RefGdnInIdeal.main (F := Ideal))) ⟨m, fun _ => 0, ρ⟩ (fun r => (∀ c : Dev RefGdnInIdeal.nD,
      r.2.mem ((c.tc : Thread RefGdnInIdeal.nD RefGdnInIdeal.τ).loc RefGdnInIdeal.main_arg0) = m ((c.tc : Thread RefGdnInIdeal.nD RefGdnInIdeal.τ).loc RefGdnInIdeal.main_arg0)
      ∧ r.2.mem ((c.tc : Thread RefGdnInIdeal.nD RefGdnInIdeal.τ).loc RefGdnInIdeal.main_arg1) = m ((c.tc : Thread RefGdnInIdeal.nD RefGdnInIdeal.τ).loc RefGdnInIdeal.main_arg1))
      ∧ r.2.sem = fun _ => 0) :=
  (θ_run RefGdnInIdeal.defs _ _).mono (fun r h => ⟨fun c => (h c).2, sem_eq_zero_of_no_sems (by decide) r.2⟩) (RefGdnInIdeal.Value.run (F := Ideal) m ρ)

end Cert.GdnInJoin

end
-- ==== Proof.GdnDwinJoin.lean ====
/- The weight gradient of the delta-rule layers' input projection: what the kernel's array and the reference's hold, entry by entry, and that they are equal. -/
module

public import proofs.«01_k».proof.Proof.Entries
public import proofs.«01_k».proof.Proof.Gen.GdnDwinIdeal.Value
public import proofs.«01_k».proof.Proof.Gen.RefGdnDwinIdeal.Run
public import proofs.«01_k».proof.Proof.Gen.RefGdnDwinIdeal.Read
public import Idealize.ShloMosaic.Lib.Pointwise
public import Idealize.ShloMosaic.Lib.ValueIdx
public import Idealize.ShloMosaic.Lib.Pipeline.ValueKit
public import Idealize.ShloMosaic.Lib.Pipeline.ReadBack

@[expose] public section

set_option maxRecDepth 16384

noncomputable section

namespace Cert.GdnDwinIdeal.Entry

open Cert.GdnDwinIdeal Cert.GdnDwinIdeal.Gen
open Idealize.ShloMosaic Idealize.ShloMosaic.TcCoe Idealize.SL.Sem Cert.Entries

variable (m : (ℓ : Loc nD τ sig) → Buf (Elt Ideal) ℓ) (c : Dev nD)

/-- The arguments. -/
abbrev X0 : FVec Ideal S4096x1024 .bf16 := m ((c.tc : Thread nD τ).loc main_arg0)
abbrev X1 : FVec Ideal S4096x4096 .bf16 := m ((c.tc : Thread nD τ).loc main_arg1)

/-- The product of one block of 512 rows, at a grid point. -/
def part (t : Fin cfg0.N) : FVec Ideal S1024x1024 .f32 := k0_pay1 (iblk m c 0 t) (iblk m c 1 t)

theorem points : ∀ t : Fin cfg0.N, t.val / 8 < 4 := by decide +kernel

theorem acc_A (t : Fin cfg0.N) (h0 : t.val % 8 = 0) (h1 : ¬1 ≤ t.val % 8) (h2 : ¬t.val % 8 = 7) :
    (outsAt0 m c t.val t.isLt).2 = part m c t := by
  rw [outsAt0_A m c t h0 h1 h2]
  dsimp only
  frame_open
  frame_out
  exact shapeCast_id ..

theorem acc_B (t : Fin cfg0.N) (h0 : ¬t.val % 8 = 0) (h1 : 1 ≤ t.val % 8) (h2 : ¬t.val % 8 = 7) :
    (outsAt0 m c t.val t.isLt).2 = addf (outsAt0 m c (t.val - 1) (Nat.lt_of_le_of_lt (Nat.sub_le _ _) t.isLt)).2 (part m c t) := by
  rw [outsAt0_B m c t h0 h1 h2]
  dsimp only
  frame_open
  frame_out
  rw [read_unread_whole]
  exact shapeCast_id ..

theorem acc_C (t : Fin cfg0.N) (h0 : ¬t.val % 8 = 0) (h1 : 1 ≤ t.val % 8) (h2 : t.val % 8 = 7) :
    (outsAt0 m c t.val t.isLt).2 = addf (outsAt0 m c (t.val - 1) (Nat.lt_of_le_of_lt (Nat.sub_le _ _) t.isLt)).2 (part m c t) := by
  rw [outsAt0_C m c t h0 h1 h2]
  dsimp only
  frame_open
  frame_out
  rw [read_unread_whole]
  exact shapeCast_id ..

/-- The point that closes a stretch of eight writes what it accumulated. -/
theorem out_C (t : Fin cfg0.N) (h2 : t.val % 8 = 7) : (outsAt0 m c t.val t.isLt).1 = k0_pay4 (outsAt0 m c t.val t.isLt).2 := by
  rw [acc_C m c t (by omega) (by omega) h2, outsAt0_C m c t (by omega) (by omega) h2]
  dsimp only
  frame_open
  frame_out
  rw [read_unread_whole]
  exact congrArg k0_pay4 (shapeCast_id ..)

/-! ## The blocks a point reads -/

theorem index0 : ∀ t : Fin cfg0.N, (cfg0.win 0).index t (0 : Fin 2) = t.val % 8 ∧ (cfg0.win 0).index t (1 : Fin 2) = 0 := by decide +kernel
theorem index1 : ∀ t : Fin cfg0.N, (cfg0.win 1).index t (0 : Fin 2) = t.val % 8 ∧ (cfg0.win 1).index t (1 : Fin 2) = t.val / 8 := by decide +kernel
theorem index2 : ∀ t : Fin cfg0.N, (cfg0.win 2).index t (0 : Fin 2) = 0 ∧ (cfg0.win 2).index t (1 : Fin 2) = t.val / 8 := by decide +kernel
theorem flush2 : ∀ t : Fin cfg0.N, (cfg0.win 2).flush t = decide (t.val % 8 = 7) := by decide +kernel

theorem at0 (W : (b : Ref sig Kind.tc) → Buf (Elt Ideal) ((c : Thread nD τ).loc b)) (t : Fin cfg0.N) (r : Fin 512) (d : Fin 1024) :
    View.read (Elt Ideal) ((cfg0.win 0).blk t).view (W (Pipeline.arrRef spec0 0)) (ix2 r d) =
      (W main_arg0 : FVec Ideal S4096x1024 .bf16) (ix2 (⟨t.val % 8 * 512 + r.val, by omega⟩ : Fin 4096) d) := by
  blk_ext [(index0 t).1, (index0 t).2]

theorem at1 (W : (b : Ref sig Kind.tc) → Buf (Elt Ideal) ((c : Thread nD τ).loc b)) (t : Fin cfg0.N) (r : Fin 512) (n : Fin 1024) :
    View.read (Elt Ideal) ((cfg0.win 1).blk t).view (W (Pipeline.arrRef spec0 1)) (ix2 r n) =
      (W main_arg1 : FVec Ideal S4096x4096 .bf16) (ix2 (⟨t.val % 8 * 512 + r.val, by omega⟩ : Fin 4096) (⟨t.val / 8 * 1024 + n.val, by have := points t; omega⟩ : Fin 4096)) := by
  blk_ext [(index1 t).1, (index1 t).2]

theorem blk0 (t : Fin cfg0.N) (r : Fin 512) (d : Fin 1024) :
    (iblk m c 0 t : FVec Ideal S512x1024 .bf16) (ix2 r d) = ent2 (X0 m c) (512 * (t.val % 8) + r.val) d.val := by
  refine (at0 c (V m c) t r d).trans ?_
  rw [V_main_arg0, Nat.mul_comm 512]
  exact ent2_eq (X0 m c) _ _

theorem blk1 (t : Fin cfg0.N) (r : Fin 512) (n : Fin 1024) :
    (iblk m c 1 t : FVec Ideal S512x1024 .bf16) (ix2 r n) = ent2 (X1 m c) (512 * (t.val % 8) + r.val) (t.val / 8 * 1024 + n.val) := by
  refine (at1 c (V m c) t r n).trans ?_
  rw [V_main_arg1, Nat.mul_comm 512]
  exact ent2_eq (X1 m c) _ _

/-- One row's term of the gradient. -/
def term (x0 : FVec Ideal S4096x1024 .bf16) (x1 : FVec Ideal S4096x4096 .bf16) (d k s : ℕ) : EReal := ent2 x0 s d * ent2 x1 s k
/-- An entry of the gradient. -/
def grad (x0 : FVec Ideal S4096x1024 .bf16) (x1 : FVec Ideal S4096x4096 .bf16) (d k : ℕ) : EReal := ∑ s : Fin 4096, term x0 x1 d k s.val

theorem part_apply (t : Fin cfg0.N) (d : Fin 1024) (n : Fin 1024) :
    part m c t (ix2 d n) = ∑ r : Fin 512, term (X0 m c) (X1 m c) d.val (t.val / 8 * 1024 + n.val) (512 * (t.val % 8) + r.val) := by
  have h0 := blk0 m c t
  have h1 := blk1 m c t
  unfold part k0_pay1
  generalize iblk m c 0 t = x at h0
  generalize iblk m c 1 t = y at h1
  pointwise
  simp only [h0, h1, term]

/-- The accumulator after a point. -/
theorem acc (t : Fin cfg0.N) (d : Fin 1024) (n : Fin 1024) : (outsAt0 m c t.val t.isLt).2 (ix2 d n) =
    ∑ k ∈ Finset.range (t.val % 8 + 1), ∑ r : Fin 512, term (X0 m c) (X1 m c) d.val (t.val / 8 * 1024 + n.val) (512 * k + r.val) := by
  have e := Pipeline.eq_sum_of_reset_step_apply_divmod (fun n h => (outsAt0 m c n h).2) 8 (fun _ => (0 : EReal))
    (fun j k (i : S1024x1024.Idx) => ∑ r : Fin 512, term (X0 m c) (X1 m c) (i 0).val (j * 1024 + (i 1).val) (512 * k + r.val))
    (fun t h i => by
      have := points t
      have ei : i = ix2 (i 0 : Fin 1024) (i 1 : Fin 1024) := by funext a; fin_cases a <;> rfl
      have h := congrFun (acc_A m c t h (by omega) (by omega)) i
      rw [zero_add]
      exact h.trans ((congrArg _ ei).trans (part_apply m c t (i 0 : Fin 1024) (i 1 : Fin 1024))))
    (fun t h i => by
      have ei : i = ix2 (i 0 : Fin 1024) (i 1 : Fin 1024) := by funext a; fin_cases a <;> rfl
      have e : (outsAt0 m c t.val t.isLt).2 = addf (outsAt0 m c (t.val - 1) (Nat.lt_of_le_of_lt (Nat.sub_le _ _) t.isLt)).2 (part m c t) := by
        by_cases h3 : t.val % 8 = 7
        · exact acc_C m c t h (by omega) h3
        · exact acc_B m c t h (by omega) h3
      refine (congrFun e i).trans ?_
      exact congrArg _ ((congrArg (part m c t) ei).trans (part_apply m c t (i 0 : Fin 1024) (i 1 : Fin 1024))))
    t (ix2 d n)
  rw [zero_add] at e
  exact e

theorem out_apply (t : Fin cfg0.N) (ht : t.val % 8 = 7) (d : Fin 1024) (n : Fin 1024) :
    (outsAt0 m c t.val t.isLt).1 (ix2 d n) = grad (X0 m c) (X1 m c) d.val (t.val / 8 * 1024 + n.val) := by
  have h := acc m c t d n
  rw [out_C m c t ht]
  generalize (outsAt0 m c t.val t.isLt).2 = y at h
  unfold k0_pay4
  pointwise
  refine h.trans ?_
  rw [ht]
  exact sum_blocks 512 _ 8

/-- The array after the run is any array with these entries. -/
theorem array (G : FVec Ideal S1024x4096 .bf16) (hg : ∀ (d : Fin 1024) (k : Fin 4096), G (ix2 d k) = grad (X0 m c) (X1 m c) d.val k.val) :
    (dats m 0 c).arrAt 2 cfg0.N = G := by
  refine (dats m 0 c).arrAt_eq_of_covers 2 _ (by decide +kernel) fun t hf y => ?_
  rw [flush2] at hf
  have ht : t.val % 8 = 7 := by simpa using hf
  have e := out_apply m c t ht
  have hp := points t
  have hy0 : (y 0).val < 1024 := (y 0).isLt
  have hy1 : (y 1).val < 1024 := (y 1).isLt
  blk_simp [after0_2, (index2 t).1, (index2 t).2]
  generalize (outsAt0 m c t.val t.isLt).1 = o at e
  have e0 : (((cfg0.win 2).blk t).view.emb y (0 : Fin 2)).val = (y 0).val := by
    blk_simp [(index2 t).1]
  have e1 : (((cfg0.win 2).blk t).view.emb y (1 : Fin 2)).val = t.val / 8 * 1024 + (y 1).val := by
    blk_simp [(index2 t).2]
  have ey : y = (ix2 (⟨(y 0).val, hy0⟩ : Fin 1024) (⟨(y 1).val, hy1⟩ : Fin 1024) : S1024x1024.Idx) := by
    funext a
    fin_cases a <;> rfl
  have ez : ((cfg0.win 2).blk t).view.emb y = (ix2 (⟨(y 0).val, hy0⟩ : Fin 1024) (⟨t.val / 8 * 1024 + (y 1).val, by omega⟩ : Fin 4096) : S1024x4096.Idx) := by
    funext a
    fin_cases a
    · exact Fin.ext e0
    · exact Fin.ext e1
  exact (congrArg o ey).trans ((e _ _).trans ((hg _ _).symm.trans (congrArg G ez.symm)))

end Cert.GdnDwinIdeal.Entry

namespace Cert.RefGdnDwinIdeal.Value

open Idealize.ShloMosaic Idealize.ShloMosaic.TcCoe Idealize.SL.Sem Cert.Entries Read

/-- The reference's entries. -/
theorem entries (x0 : FVec Ideal S4096x1024 .bf16) (x1 : FVec Ideal S4096x4096 .bf16) (d : Fin 1024) (k : Fin 4096) :
    val_main_v6 (F := Ideal) x0 x1 (ix2 d k) = GdnDwinIdeal.Entry.grad x0 x1 d.val k.val := by
  unfold val_main_v6 val_main_v5 val_main_v4 val_main_v3 val_main_v1 GdnDwinIdeal.Entry.grad GdnDwinIdeal.Entry.term
  pointwise
  refine Finset.sum_congr rfl fun s _ => ?_
  rw [ent2_eq x0, ent2_eq x1, mul_comm]

end Cert.RefGdnDwinIdeal.Value

namespace Cert.GdnDwinJoin

open Idealize.ShloMosaic Idealize.ShloMosaic.TcCoe Idealize.SL.Sem

/-- Both run, with equal results and their arguments kept. -/
theorem algebraic : @Cert.algebraic_GdnDwinIdeal_RefGdnDwinIdeal Cert.GdnDwinIdeal.Gen.facts Cert.RefGdnDwinIdeal.Gen.facts := by
  intro m g m' g' _ hargs
  refine ⟨fun c => RefGdnDwinIdeal.Read.val_main_v6 (F := Ideal) (GdnDwinIdeal.Entry.X0 m c) (GdnDwinIdeal.Entry.X1 m c), ?_, ?_⟩
  · refine (θ_run GdnDwinIdeal.defs _ _).mono (fun r h c => ⟨(h c).1.trans ?_, (h c).2⟩) (GdnDwinIdeal.Value.run_blocks m g)
    exact GdnDwinIdeal.Entry.array m c _ (RefGdnDwinIdeal.Value.entries _ _)
  · refine (θ_run RefGdnDwinIdeal.defs _ _).mono (fun r h c => ⟨(h c).1.trans ?_, (h c).2⟩) (RefGdnDwinIdeal.Value.run (F := Ideal) m' g')
    have e0 : m' ((c.tc : Thread RefGdnDwinIdeal.nD RefGdnDwinIdeal.τ).loc RefGdnDwinIdeal.main_arg0) = GdnDwinIdeal.Entry.X0 m c := (hargs c).1
    have e1 : m' ((c.tc : Thread RefGdnDwinIdeal.nD RefGdnDwinIdeal.τ).loc RefGdnDwinIdeal.main_arg1) = GdnDwinIdeal.Entry.X1 m c := (hargs c).2
    refine (RefGdnDwinIdeal.Read.val_main_v6_eq (F := Ideal) (m' ((c.tc : Thread RefGdnDwinIdeal.nD RefGdnDwinIdeal.τ).loc RefGdnDwinIdeal.main_arg0)) (m' ((c.tc : Thread RefGdnDwinIdeal.nD RefGdnDwinIdeal.τ).loc RefGdnDwinIdeal.main_arg1))).trans ?_
    rw [e0, e1]

/-- The reference's frame: it runs, keeps its arguments and leaves every semaphore at zero. -/
theorem frameR (m : (ℓ : Loc RefGdnDwinIdeal.nD RefGdnDwinIdeal.τ RefGdnDwinIdeal.sig) → Buf (Elt Ideal) ℓ) (ρ : Dev RefGdnDwinIdeal.nD → PrngReg) :
    θ_run (RefGdnDwinIdeal.defs (F := Ideal)) (onTc (τ := RefGdnDwinIdeal.τ) (RefGdnDwinIdeal.main (F := Ideal))) ⟨m, fun _ => 0, ρ⟩ (fun r => (∀ c : Dev RefGdnDwinIdeal.nD,
      r.2.mem ((c.tc : Thread RefGdnDwinIdeal.nD RefGdnDwinIdeal.τ).loc RefGdnDwinIdeal.main_arg0) = m ((c.tc : Thread RefGdnDwinIdeal.nD RefGdnDwinIdeal.τ).loc RefGdnDwinIdeal.main_arg0)
      ∧ r.2.mem ((c.tc : Thread RefGdnDwinIdeal.nD RefGdnDwinIdeal.τ).loc RefGdnDwinIdeal.main_arg1) = m ((c.tc : Thread RefGdnDwinIdeal.nD RefGdnDwinIdeal.τ).loc RefGdnDwinIdeal.main_arg1))
      ∧ r.2.sem = fun _ => 0) :=
  (θ_run RefGdnDwinIdeal.defs _ _).mono (fun r h => ⟨fun c => (h c).2, sem_eq_zero_of_no_sems (by decide) r.2⟩) (RefGdnDwinIdeal.Value.run (F := Ideal) m ρ)

end Cert.GdnDwinJoin

end
-- ==== Proof.GdnDhnJoin.lean ====
/- The gradient through the delta-rule layers' first norm: what the kernel's array and the reference's hold, entry by entry, and that they are equal. -/
module

public import proofs.«01_k».proof.Proof.Entries
public import proofs.«01_k».proof.Proof.Norm
public import proofs.«01_k».proof.Proof.Gen.GdnDhnIdeal.Value
public import proofs.«01_k».proof.Proof.Gen.RefGdnDhnIdeal.Run
public import proofs.«01_k».proof.Proof.Gen.RefGdnDhnIdeal.Read
public import Idealize.ShloMosaic.Lib.Pointwise
public import Idealize.ShloMosaic.Lib.ValueIdx
public import Idealize.ShloMosaic.Lib.Pipeline.ValueKit
public import Idealize.ShloMosaic.Lib.Pipeline.ReadBack

@[expose] public section

set_option maxRecDepth 16384

noncomputable section

namespace Cert.GdnDhnIdeal.Entry

open Cert.GdnDhnIdeal Cert.GdnDhnIdeal.Gen Cert.Norm
open Idealize.ShloMosaic Idealize.ShloMosaic.TcCoe Idealize.SL.Sem Cert.Entries

variable (m : (ℓ : Loc nD τ sig) → Buf (Elt Ideal) ℓ) (c : Dev nD)

/-- The arguments. -/
abbrev X0 : FVec Ideal S4096x4096 .bf16 := m ((c.tc : Thread nD τ).loc main_arg0)
abbrev X1 : FVec Ideal S2x1024x4096 .bf16 := m ((c.tc : Thread nD τ).loc main_arg1)
abbrev X2 : FVec Ideal S4096x1024 .f32 := m ((c.tc : Thread nD τ).loc main_arg2)
abbrev X3 : FVec Ideal S4096x1024 .f32 := m ((c.tc : Thread nD τ).loc main_arg3)
abbrev X4 : FVec Ideal S1x1024 .f32 := m ((c.tc : Thread nD τ).loc main_arg4)
abbrev X5 : FVec Ideal S4096x1024 .f32 := m ((c.tc : Thread nD τ).loc main_arg5)

/-- The product over one part of the columns, at a grid point. -/
def part (t : Fin cfg0.N) : FVec Ideal S512x1024 .f32 := k0_pay1 (iblk m c 0 t) (iblk m c 1 t)

theorem acc_A (t : Fin cfg0.N) (h0 : t.val % 4 = 0) (h1 : ¬1 ≤ t.val % 4) (h2 : ¬t.val % 4 = 3) :
    (outsAt0 m c t.val t.isLt).2.2 = part m c t := by
  rw [outsAt0_A m c t h0 h1 h2]
  dsimp only
  frame_open
  frame_out
  exact shapeCast_id ..

theorem acc_B (t : Fin cfg0.N) (h0 : ¬t.val % 4 = 0) (h1 : 1 ≤ t.val % 4) (h2 : ¬t.val % 4 = 3) :
    (outsAt0 m c t.val t.isLt).2.2 = addf (outsAt0 m c (t.val - 1) (Nat.lt_of_le_of_lt (Nat.sub_le _ _) t.isLt)).2.2 (part m c t) := by
  rw [outsAt0_B m c t h0 h1 h2]
  dsimp only
  frame_open
  frame_out
  rw [read_unread_whole]
  exact shapeCast_id ..

theorem acc_C (t : Fin cfg0.N) (h0 : ¬t.val % 4 = 0) (h1 : 1 ≤ t.val % 4) (h2 : t.val % 4 = 3) :
    (outsAt0 m c t.val t.isLt).2.2 = addf (outsAt0 m c (t.val - 1) (Nat.lt_of_le_of_lt (Nat.sub_le _ _) t.isLt)).2.2 (part m c t) := by
  by_cases h3 : t.val < 4
  · rw [outsAt0_C m c t h0 h1 h2 h3]
    dsimp only
    frame_open
    frame_out
    rw [read_unread_whole]
    exact shapeCast_id ..
  · rw [outsAt0_D m c t h0 h1 h2 h3]
    dsimp only
    frame_open
    frame_out
    rw [read_unread_whole]
    exact shapeCast_id ..

/-- The point that closes a row block writes the block of the first result. -/
theorem out_C (t : Fin cfg0.N) (h2 : t.val % 4 = 3) :
    (outsAt0 m c t.val t.isLt).1 = k0_pay10 (outsAt0 m c t.val t.isLt).2.2 (iblk m c 2 t) (iblk m c 3 t) (iblk m c 4 t) (iblk m c 5 t) := by
  rw [acc_C m c t (by omega) (by omega) h2]
  by_cases h3 : t.val < 4
  · rw [outsAt0_C m c t (by omega) (by omega) h2 h3]
    dsimp only
    frame_open
    frame_out
    rw [read_unread_whole]
    exact congrArg (k0_pay10 · _ _ _ _) (shapeCast_id ..)
  · rw [outsAt0_D m c t (by omega) (by omega) h2 h3]
    dsimp only
    frame_open
    frame_out
    rw [read_unread_whole]
    exact congrArg (k0_pay10 · _ _ _ _) (shapeCast_id ..)

/-- It adds the block's part to the second result, which the first row block starts at zero. -/
theorem sum_first (t : Fin cfg0.N) (h2 : t.val % 4 = 3) (h3 : t.val < 4) :
    (outsAt0 m c t.val t.isLt).2.1 = k0_pay5 (k0_pay9 (outsAt0 m c t.val t.isLt).2.2 (iblk m c 2 t) (iblk m c 3 t)) (k0_pay4 (F := Ideal)) := by
  rw [acc_C m c t (by omega) (by omega) h2]
  rw [outsAt0_C m c t (by omega) (by omega) h2 h3]
  dsimp only
  frame_open
  frame_out
  rw [read_unread_whole]
  exact congrArg (fun x => k0_pay5 (k0_pay9 x _ _) _) (shapeCast_id ..)

theorem sum_next (t : Fin cfg0.N) (h2 : t.val % 4 = 3) (h3 : ¬t.val < 4) :
    (outsAt0 m c t.val t.isLt).2.1 = k0_pay5 (k0_pay9 (outsAt0 m c t.val t.isLt).2.2 (iblk m c 2 t) (iblk m c 3 t))
      (outsAt0 m c (t.val - 1) (Nat.lt_of_le_of_lt (Nat.sub_le _ _) t.isLt)).2.1 := by
  rw [acc_C m c t (by omega) (by omega) h2]
  rw [outsAt0_D m c t (by omega) (by omega) h2 h3]
  dsimp only
  frame_open
  frame_out
  rw [read_unread_whole]
  exact congrArg (fun x => k0_pay5 (k0_pay9 x _ _) _) (shapeCast_id ..)

/-- The other points leave the second result as it is. -/
theorem sum_keep (t : Fin cfg0.N) (h2 : ¬t.val % 4 = 3) :
    (outsAt0 m c t.val t.isLt).2.1 = (outsAt0 m c (t.val - 1) (Nat.lt_of_le_of_lt (Nat.sub_le _ _) t.isLt)).2.1 := by
  by_cases h0 : t.val % 4 = 0
  · rw [outsAt0_A m c t h0 (by omega) h2]
    rfl
  · rw [outsAt0_B m c t h0 (by omega) h2]
    rfl

/-! ## The blocks a point reads -/

theorem index0 : ∀ t : Fin cfg0.N, (cfg0.win 0).index t (0 : Fin 2) = t.val / 4 ∧ (cfg0.win 0).index t (1 : Fin 2) = t.val % 4 := by decide +kernel
theorem index1 : ∀ t : Fin cfg0.N, (cfg0.win 1).index t (0 : Fin 3) = 1 ∧ (cfg0.win 1).index t (1 : Fin 3) = 0 ∧ (cfg0.win 1).index t (2 : Fin 3) = t.val % 4 := by decide +kernel
theorem index2 : ∀ t : Fin cfg0.N, (cfg0.win 2).index t (0 : Fin 2) = t.val / 4 ∧ (cfg0.win 2).index t (1 : Fin 2) = 0 := by decide +kernel
theorem index3 : ∀ t : Fin cfg0.N, (cfg0.win 3).index t (0 : Fin 2) = t.val / 4 ∧ (cfg0.win 3).index t (1 : Fin 2) = 0 := by decide +kernel
theorem index4 : ∀ t : Fin cfg0.N, (cfg0.win 4).index t (0 : Fin 2) = t.val / 4 ∧ (cfg0.win 4).index t (1 : Fin 2) = 0 := by decide +kernel
theorem index5 : ∀ t : Fin cfg0.N, (cfg0.win 5).index t (0 : Fin 2) = 0 ∧ (cfg0.win 5).index t (1 : Fin 2) = 0 := by decide +kernel
theorem index6 : ∀ t : Fin cfg0.N, (cfg0.win 6).index t (0 : Fin 2) = t.val / 4 ∧ (cfg0.win 6).index t (1 : Fin 2) = 0 := by decide +kernel
theorem index7 : ∀ t : Fin cfg0.N, (cfg0.win 7).index t (0 : Fin 2) = 0 ∧ (cfg0.win 7).index t (1 : Fin 2) = 0 := by decide +kernel
theorem flush6 : ∀ t : Fin cfg0.N, (cfg0.win 6).flush t = decide (t.val % 4 = 3) := by decide +kernel
theorem flush7 : ∀ t : Fin cfg0.N, (cfg0.win 7).flush t = decide (t.val = 31) := by decide +kernel
theorem points : ∀ t : Fin cfg0.N, t.val < 32 := by decide +kernel

/-- The row of the array that row `r` of the point's block is. -/
def row (t : Fin cfg0.N) (r : Fin 512) : Fin 4096 := ⟨t.val / 4 * 512 + r.val, by have := points t; omega⟩

theorem at0 (W : (b : Ref sig Kind.tc) → Buf (Elt Ideal) ((c : Thread nD τ).loc b)) (t : Fin cfg0.N) (r : Fin 512) (n : Fin 1024) :
    View.read (Elt Ideal) ((cfg0.win 0).blk t).view (W (Pipeline.arrRef spec0 0)) (ix2 r n) =
      (W main_arg0 : FVec Ideal S4096x4096 .bf16) (ix2 (row t r) (⟨t.val % 4 * 1024 + n.val, by omega⟩ : Fin 4096)) := by
  blk_ext [row, (index0 t).1, (index0 t).2]

theorem at1 (W : (b : Ref sig Kind.tc) → Buf (Elt Ideal) ((c : Thread nD τ).loc b)) (t : Fin cfg0.N) (d : Fin 1024) (n : Fin 1024) :
    View.read (Elt Ideal) ((cfg0.win 1).blk t).view (W (Pipeline.arrRef spec0 1)) (ix3 0 d n) = (W main_arg1 : FVec Ideal S2x1024x4096 .bf16) (ix3 (1 : Fin 2) d (⟨t.val % 4 * 1024 + n.val, by omega⟩ : Fin 4096)) := by
  blk_ext [(index1 t).1, (index1 t).2.1, (index1 t).2.2]

theorem at2 (W : (b : Ref sig Kind.tc) → Buf (Elt Ideal) ((c : Thread nD τ).loc b)) (t : Fin cfg0.N) (r : Fin 512) (d : Fin 1024) :
    View.read (Elt Ideal) ((cfg0.win 2).blk t).view (W (Pipeline.arrRef spec0 2)) (ix2 r d) = (W main_arg2 : FVec Ideal S4096x1024 .f32) (ix2 (row t r) d) := by
  blk_ext [row, (index2 t).1, (index2 t).2]

theorem at3 (W : (b : Ref sig Kind.tc) → Buf (Elt Ideal) ((c : Thread nD τ).loc b)) (t : Fin cfg0.N) (r : Fin 512) (d : Fin 1024) :
    View.read (Elt Ideal) ((cfg0.win 3).blk t).view (W (Pipeline.arrRef spec0 3)) (ix2 r d) = (W main_arg3 : FVec Ideal S4096x1024 .f32) (ix2 (row t r) d) := by
  blk_ext [row, (index3 t).1, (index3 t).2]

theorem at4 (W : (b : Ref sig Kind.tc) → Buf (Elt Ideal) ((c : Thread nD τ).loc b)) (t : Fin cfg0.N) (r : Fin 512) (d : Fin 1024) :
    View.read (Elt Ideal) ((cfg0.win 4).blk t).view (W (Pipeline.arrRef spec0 4)) (ix2 r d) = (W main_arg5 : FVec Ideal S4096x1024 .f32) (ix2 (row t r) d) := by
  blk_ext [row, (index4 t).1, (index4 t).2]

theorem at5 (W : (b : Ref sig Kind.tc) → Buf (Elt Ideal) ((c : Thread nD τ).loc b)) (t : Fin cfg0.N) (d : Fin 1024) :
    View.read (Elt Ideal) ((cfg0.win 5).blk t).view (W (Pipeline.arrRef spec0 5)) (ix2 0 d) = (W main_arg4 : FVec Ideal S1x1024 .f32) (ix2 0 d) := by
  blk_ext [(index5 t).1, (index5 t).2]

theorem blk0 (t : Fin cfg0.N) (r : Fin 512) (n : Fin 1024) :
    (iblk m c 0 t : FVec Ideal S512x1024 .bf16) (ix2 r n) = ent2 (X0 m c) (row t r).val (t.val % 4 * 1024 + n.val) := by
  refine (at0 c (V m c) t r n).trans ?_
  rw [V_main_arg0]
  exact ent2_eq (X0 m c) _ _

theorem blk1 (t : Fin cfg0.N) (d : Fin 1024) (n : Fin 1024) :
    (iblk m c 1 t : FVec Ideal S1x1024x1024 .bf16) (ix3 0 d n) = ent3 (X1 m c) 1 d.val (t.val % 4 * 1024 + n.val) := by
  refine (at1 c (V m c) t d n).trans ?_
  rw [V_main_arg1]
  exact ent3_eq (X1 m c) _ _ _

theorem blk2 (t : Fin cfg0.N) (r : Fin 512) (d : Fin 1024) : (iblk m c 2 t : FVec Ideal S512x1024 .f32) (ix2 r d) = ent2 (X2 m c) (row t r).val d.val := by
  refine (at2 c (V m c) t r d).trans ?_
  rw [V_main_arg2]
  exact ent2_eq (X2 m c) _ _

theorem blk3 (t : Fin cfg0.N) (r : Fin 512) (d : Fin 1024) : (iblk m c 3 t : FVec Ideal S512x1024 .f32) (ix2 r d) = X3 m c (ix2 (row t r) d) := by
  refine (at3 c (V m c) t r d).trans ?_
  rw [V_main_arg3]

theorem blk4 (t : Fin cfg0.N) (r : Fin 512) (d : Fin 1024) : (iblk m c 4 t : FVec Ideal S512x1024 .f32) (ix2 r d) = X5 m c (ix2 (row t r) d) := by
  refine (at4 c (V m c) t r d).trans ?_
  rw [V_main_arg5]

theorem blk5 (t : Fin cfg0.N) (d : Fin 1024) : (iblk m c 5 t : FVec Ideal S1x1024 .f32) (ix2 0 d) = X4 m c (ix2 0 d) := by
  refine (at5 c (V m c) t d).trans ?_
  rw [V_main_arg4]

/-- One column's term of the product. -/
def term (x0 : FVec Ideal S4096x4096 .bf16) (x1 : FVec Ideal S2x1024x4096 .bf16) (s d k : ℕ) : EReal := ent2 x0 s k * ent3 x1 1 d k
/-- An entry of the product. -/
def prod (x0 : FVec Ideal S4096x4096 .bf16) (x1 : FVec Ideal S2x1024x4096 .bf16) (s d : ℕ) : EReal := ∑ k : Fin 4096, term x0 x1 s d k.val
/-- The gradient before the norm. -/
def dxn (x0 : FVec Ideal S4096x4096 .bf16) (x1 : FVec Ideal S2x1024x4096 .bf16) (x2 : FVec Ideal S4096x1024 .f32) (s d : ℕ) : EReal := prod x0 x1 s d + ent2 x2 s d

theorem part_apply (t : Fin cfg0.N) (r : Fin 512) (d : Fin 1024) :
    part m c t (ix2 r d) = ∑ n : Fin 1024, term (X0 m c) (X1 m c) (t.val / 4 * 512 + r.val) d.val (1024 * (t.val % 4) + n.val) := by
  have h0 := blk0 m c t
  have h1 := blk1 m c t
  unfold part k0_pay1
  generalize iblk m c 0 t = x at h0
  generalize iblk m c 1 t = y at h1
  pointwise
  refine Finset.sum_congr rfl fun n _ => ?_
  rw [h0, h1, term, Nat.mul_comm 1024]
  rfl

/-- The accumulator after a point. -/
theorem acc (t : Fin cfg0.N) (r : Fin 512) (d : Fin 1024) : (outsAt0 m c t.val t.isLt).2.2 (ix2 r d) =
    ∑ k ∈ Finset.range (t.val % 4 + 1), ∑ n : Fin 1024, term (X0 m c) (X1 m c) (t.val / 4 * 512 + r.val) d.val (1024 * k + n.val) := by
  have e := Pipeline.eq_sum_of_reset_step_apply_divmod (fun n h => (outsAt0 m c n h).2.2) 4 (fun _ => (0 : EReal))
    (fun j k (i : S512x1024.Idx) => ∑ n : Fin 1024, term (X0 m c) (X1 m c) (j * 512 + (i 0).val) (i 1).val (1024 * k + n.val))
    (fun t h i => by
      have ei : i = ix2 (i 0 : Fin 512) (i 1 : Fin 1024) := by funext a; fin_cases a <;> rfl
      have h := congrFun (acc_A m c t h (by omega) (by omega)) i
      rw [zero_add]
      exact h.trans ((congrArg _ ei).trans (part_apply m c t (i 0 : Fin 512) (i 1 : Fin 1024))))
    (fun t h i => by
      have ei : i = ix2 (i 0 : Fin 512) (i 1 : Fin 1024) := by funext a; fin_cases a <;> rfl
      have e : (outsAt0 m c t.val t.isLt).2.2 = addf (outsAt0 m c (t.val - 1) (Nat.lt_of_le_of_lt (Nat.sub_le _ _) t.isLt)).2.2 (part m c t) := by
        by_cases h3 : t.val % 4 = 3
        · exact acc_C m c t h (by omega) h3
        · exact acc_B m c t h (by omega) h3
      refine (congrFun e i).trans ?_
      exact congrArg _ ((congrArg (part m c t) ei).trans (part_apply m c t (i 0 : Fin 512) (i 1 : Fin 1024))))
    t (ix2 r d)
  rw [zero_add] at e
  exact e

theorem acc_full (t : Fin cfg0.N) (h : t.val % 4 = 3) (r : Fin 512) (d : Fin 1024) :
    (outsAt0 m c t.val t.isLt).2.2 (ix2 r d) = prod (X0 m c) (X1 m c) (row t r).val d.val := by
  rw [acc, h]
  exact sum_blocks 1024 _ 4

theorem pay_msq (x : FVec Ideal S512x1024 .f32) (r : Fin 512) (u : Fin 1) : k0_pay7 (F := Ideal) x (ix2 r u) = msq fun d => x (ix2 r d) := by
  unfold k0_pay7
  pointwise
  rfl

theorem pay_inv (x : FVec Ideal S512x1024 .f32) (r : Fin 512) (u : Fin 1) : k0_pay8 (F := Ideal) x (ix2 r u) = inv fun d => x (ix2 r d) := by
  have h := pay_msq x
  unfold k0_pay8
  generalize k0_pay7 (F := Ideal) x = p at h
  pointwise
  rw [h]
  rfl

theorem pay_sum (a w x : FVec Ideal S512x1024 .f32) (d : Fin 1024) : k0_pay9 (F := Ideal) a w x (ix2 0 d) =
    ∑ r : Fin 512, x (ix2 r d) * inv (fun e => x (ix2 r e)) * (a (ix2 r d) + w (ix2 r d)) := by
  have h := pay_inv x
  unfold k0_pay9 k0_pay6
  generalize k0_pay8 (F := Ideal) x = p at h
  pointwise
  exact Finset.sum_congr rfl fun r _ => by rw [h]

theorem pay_first (a w x y : FVec Ideal S512x1024 .f32) (g : FVec Ideal S1x1024 .f32) (r : Fin 512) (d : Fin 1024) :
    k0_pay10 (F := Ideal) a w x y g (ix2 r d) =
      y (ix2 r d) + ngrad (fun e => x (ix2 r e)) (fun e => a (ix2 r e) + w (ix2 r e)) (fun e => g (ix2 0 e)) d := by
  have h5 := pay_msq x
  have h6 := pay_inv x
  unfold k0_pay10 k0_pay6
  generalize k0_pay7 (F := Ideal) x = q at h5
  generalize k0_pay8 (F := Ideal) x = p at h6
  pointwise
  simp only [h5, h6]
  rfl

theorem pay_add (a b : FVec Ideal S1x1024 .f32) (d : Fin 1024) : k0_pay5 (F := Ideal) a b (ix2 0 d) = b (ix2 0 d) + a (ix2 0 d) := by
  unfold k0_pay5
  pointwise

theorem pay_zero (d : Fin 1024) : k0_pay4 (F := Ideal) (ix2 0 d) = 0 := by
  unfold k0_pay4
  pointwise

/-! ## The two results -/

/-- An entry of the first result: the gradient on its way back plus the norm's gradient. -/
def first (x0 : FVec Ideal S4096x4096 .bf16) (x1 : FVec Ideal S2x1024x4096 .bf16) (x2 : FVec Ideal S4096x1024 .f32) (h : FVec Ideal S4096x1024 .f32) (g : FVec Ideal S1x1024 .f32) (dh : FVec Ideal S4096x1024 .f32) (s : Fin 4096) (d : Fin 1024) : EReal :=
  dh (ix2 s d) + ngrad (fun e => h (ix2 s e)) (fun e => dxn x0 x1 x2 s.val e.val) (fun e => g (ix2 0 e)) d

/-- One row's term of the second result. -/
def gterm (x0 : FVec Ideal S4096x4096 .bf16) (x1 : FVec Ideal S2x1024x4096 .bf16) (x2 : FVec Ideal S4096x1024 .f32) (h : FVec Ideal S4096x1024 .f32) (d : Fin 1024) (s : ℕ) : EReal :=
  ent2 h s d.val * inv (fun e : Fin 1024 => ent2 h s e.val) * dxn x0 x1 x2 s d.val

/-- An entry of the second result: the gradient of the norm's weights. -/
def second (x0 : FVec Ideal S4096x4096 .bf16) (x1 : FVec Ideal S2x1024x4096 .bf16) (x2 : FVec Ideal S4096x1024 .f32) (h : FVec Ideal S4096x1024 .f32) (d : Fin 1024) : EReal :=
  ∑ s : Fin 4096, gterm x0 x1 x2 h d s.val

theorem out_apply (t : Fin cfg0.N) (h : t.val % 4 = 3) (r : Fin 512) (d : Fin 1024) :
    (outsAt0 m c t.val t.isLt).1 (ix2 r d) = first (X0 m c) (X1 m c) (X2 m c) (X3 m c) (X4 m c) (X5 m c) (row t r) d := by
  have ha := acc_full m c t h
  have h1 := blk2 m c t
  have h2 := blk3 m c t
  have h3 := blk4 m c t
  have h4 := blk5 m c t
  rw [out_C m c t h]
  generalize (outsAt0 m c t.val t.isLt).2.2 = a at ha
  generalize iblk m c 2 t = e at h1
  generalize iblk m c 3 t = x at h2
  generalize iblk m c 4 t = y at h3
  generalize iblk m c 5 t = z at h4
  refine (pay_first _ _ _ _ _ r d).trans ?_
  simp only [ha, h2, h3, h4, h1]
  rfl

/-- What a row block's last point adds to the second result. -/
theorem add_apply (t : Fin cfg0.N) (h : t.val % 4 = 3) (d : Fin 1024) :
    k0_pay9 (F := Ideal) (outsAt0 m c t.val t.isLt).2.2 (iblk m c 2 t) (iblk m c 3 t) (ix2 0 d) =
      ∑ r : Fin 512, gterm (X0 m c) (X1 m c) (X2 m c) (X3 m c) d (512 * (t.val / 4) + r.val) := by
  have ha := acc_full m c t h
  have h1 := blk2 m c t
  have h2 := blk3 m c t
  generalize (outsAt0 m c t.val t.isLt).2.2 = a at ha
  generalize iblk m c 2 t = e at h1
  generalize iblk m c 3 t = x at h2
  refine (pay_sum _ _ _ d).trans (Finset.sum_congr rfl fun r _ => ?_)
  have e : 512 * (t.val / 4) + r.val = (row t r).val := by
    show _ = t.val / 4 * 512 + r.val
    omega
  simp only [ha, h2, h1, e, gterm, dxn, ent2_eq (X3 m c)]

/-- The second result after a point from the first row block's last one on. -/
theorem sum_apply (n : ℕ) (hn : n + 3 < cfg0.N) (d : Fin 1024) : (outsAt0 m c (n + 3) hn).2.1 (ix2 0 d) =
    ∑ k ∈ Finset.range ((n + 4) / 4), ∑ r : Fin 512, gterm (X0 m c) (X1 m c) (X2 m c) (X3 m c) d (512 * k + r.val) := by
  induction n with
  | zero =>
    have e := congrFun (sum_first m c ⟨3, hn⟩ rfl (by simp)) (ix2 0 d)
    refine (e.trans (pay_add _ _ d)).trans ?_
    rw [pay_zero, zero_add]
    refine (add_apply m c ⟨3, hn⟩ rfl d).trans ?_
    have e1 : (0 + 4) / 4 = 1 := rfl
    have e2 : 3 / 4 = 0 := rfl
    rw [e1]
    dsimp only
    rw [e2]
    exact (Finset.sum_range_one fun k => ∑ r : Fin 512, gterm (X0 m c) (X1 m c) (X2 m c) (X3 m c) d (512 * k + r.val)).symm
  | succ n ih =>
    have ih := ih (Nat.lt_of_succ_lt hn)
    by_cases h : (n + 4) % 4 = 3
    · have e := congrFun (sum_next m c ⟨n + 4, hn⟩ h (by simp)) (ix2 0 d)
      refine (e.trans (pay_add _ _ d)).trans ?_
      have e1 : (n + 1 + 4) / 4 = (n + 4) / 4 + 1 := by omega
      rw [e1, Finset.sum_range_succ, ← ih]
      exact congrArg _ (add_apply m c ⟨n + 4, hn⟩ h d)
    · have e := congrFun (sum_keep m c ⟨n + 4, hn⟩ h) (ix2 0 d)
      have e1 : (n + 1 + 4) / 4 = (n + 4) / 4 := by omega
      rw [e1, ← ih]
      exact e

theorem sum_last (t : Fin cfg0.N) (h : t.val = 31) (d : Fin 1024) : (outsAt0 m c t.val t.isLt).2.1 (ix2 0 d) = second (X0 m c) (X1 m c) (X2 m c) (X3 m c) d := by
  obtain ⟨n, hn⟩ := t
  obtain rfl : n = 31 := h
  exact (sum_apply m c 28 hn d).trans (sum_blocks 512 _ 8)

/-- The first array after the run is any array with these entries. -/
theorem array6 (G : FVec Ideal S4096x1024 .f32)
    (hg : ∀ (s : Fin 4096) (d : Fin 1024), G (ix2 s d) = first (X0 m c) (X1 m c) (X2 m c) (X3 m c) (X4 m c) (X5 m c) s d) :
    (dats m 0 c).arrAt 6 cfg0.N = G := by
  refine (dats m 0 c).arrAt_eq_of_covers 6 _ (by decide +kernel) fun t hf y => ?_
  rw [flush6] at hf
  have ht : t.val % 4 = 3 := by simpa using hf
  have eg := out_apply m c t ht
  have hy0 : (y 0).val < 512 := (y 0).isLt
  have hy1 : (y 1).val < 1024 := (y 1).isLt
  blk_simp [after0_6, (index6 t).1, (index6 t).2]
  generalize (outsAt0 m c t.val t.isLt).1 = o at eg
  have e0 : (((cfg0.win 6).blk t).view.emb y (0 : Fin 2)).val = t.val / 4 * 512 + (y 0).val := by
    blk_simp [(index6 t).1]
  have e1 : (((cfg0.win 6).blk t).view.emb y (1 : Fin 2)).val = (y 1).val := by
    blk_simp [(index6 t).2]
  have ey : y = (ix2 (⟨(y 0).val, hy0⟩ : Fin 512) (⟨(y 1).val, hy1⟩ : Fin 1024) : S512x1024.Idx) := by
    funext a
    fin_cases a <;> rfl
  have ez : ((cfg0.win 6).blk t).view.emb y = (ix2 (row t ⟨(y 0).val, hy0⟩) (⟨(y 1).val, hy1⟩ : Fin 1024) : S4096x1024.Idx) := by
    funext a
    fin_cases a
    · exact Fin.ext e0
    · exact Fin.ext e1
  exact (congrArg o ey).trans ((eg _ _).trans ((hg _ _).symm.trans (congrArg G ez.symm)))

/-- The second array after the run is any array with these entries. -/
theorem array7 (G : FVec Ideal S1x1024 .f32) (hg : ∀ d : Fin 1024, G (ix2 0 d) = second (X0 m c) (X1 m c) (X2 m c) (X3 m c) d) :
    (dats m 0 c).arrAt 7 cfg0.N = G := by
  refine (dats m 0 c).arrAt_eq_of_covers 7 _ (by decide +kernel) fun t hf y => ?_
  rw [flush7] at hf
  have ht : t.val = 31 := by simpa using hf
  have eg := sum_last m c t ht
  have hy0 : (y 0).val < 1 := (y 0).isLt
  have hy1 : (y 1).val < 1024 := (y 1).isLt
  blk_simp [after0_7, (index7 t).1, (index7 t).2]
  generalize (outsAt0 m c t.val t.isLt).2.1 = o at eg
  have e0 : (((cfg0.win 7).blk t).view.emb y (0 : Fin 2)).val = (y 0).val := by
    blk_simp [(index7 t).1]
  have e1 : (((cfg0.win 7).blk t).view.emb y (1 : Fin 2)).val = (y 1).val := by
    blk_simp [(index7 t).2]
  have ey : y = (ix2 (0 : Fin 1) (⟨(y 1).val, hy1⟩ : Fin 1024) : S1x1024.Idx) := by
    funext a
    fin_cases a
    · exact Fin.ext (Nat.lt_one_iff.mp hy0)
    · rfl
  have ez : ((cfg0.win 7).blk t).view.emb y = (ix2 (0 : Fin 1) (⟨(y 1).val, hy1⟩ : Fin 1024) : S1x1024.Idx) := by
    funext a
    fin_cases a
    · exact Fin.ext (e0.trans (Nat.lt_one_iff.mp hy0))
    · exact Fin.ext e1
  exact (congrArg o ey).trans ((eg _).trans ((hg _).symm.trans (congrArg G ez.symm)))

end Cert.GdnDhnIdeal.Entry

namespace Cert.RefGdnDhnIdeal.Grad

open Idealize.ShloMosaic Idealize.ShloMosaic.TcCoe Idealize.SL.Sem Cert.Entries Cert.Norm Read GdnDhnIdeal.Entry

variable (x0 : FVec Ideal S4096x4096 .bf16) (x1 : FVec Ideal S2x1024x4096 .bf16) (x2 x3 x5 : FVec Ideal S4096x1024 .f32) (x4 : FVec Ideal S1x1024 .f32)

theorem weights (d : Fin 1024) (k : Fin 4096) : val_main_v17 (F := Ideal) x1 (ix2 d k) = ent3 x1 1 d.val k.val := by
  unfold val_main_v17 val_main_v16 val_main_v15
  pointwise
  exact ent3_eq x1 _ _ _

theorem product (s : Fin 4096) (d : Fin 1024) : val_main_v20 (F := Ideal) x0 x1 (ix2 s d) = prod x0 x1 s.val d.val := by
  have h4 := weights x1
  unfold val_main_v20 val_main_v19
  generalize val_main_v17 (F := Ideal) x1 = b at h4
  pointwise
  refine Finset.sum_congr rfl fun k _ => ?_
  rw [h4, ent2_eq x0]
  rfl

theorem square (s : Fin 4096) (u : Fin 1) : val_main_v6 (F := Ideal) x3 (ix2 s u) = msq fun e => x3 (ix2 s e) := by
  unfold val_main_v6 val_main_v5 val_main_v4 val_main_v3 val_main_v2 val_main_v1 val_main_v0 val_main_cst val_main_cst_0 val_main_cst_1
  pointwise
  rfl

theorem root (s : Fin 4096) (u : Fin 1) : val_main_v7 (F := Ideal) x3 (ix2 s u) = inv fun e => x3 (ix2 s e) := by
  have h := square x3
  unfold val_main_v7
  generalize val_main_v6 (F := Ideal) x3 = p at h
  pointwise
  rw [h]
  rfl

theorem total (s : Fin 4096) (d : Fin 1024) : val_main_v21 (F := Ideal) x0 x1 x2 (ix2 s d) = dxn x0 x1 x2 s.val d.val := by
  have h := product x0 x1
  unfold val_main_v21
  generalize val_main_v20 (F := Ideal) x0 x1 = q at h
  pointwise
  rw [h, ent2_eq x2, add_comm]
  rfl

/-- The second result's entries. -/
theorem second_eq (d : Fin 1024) : val_main_v24 (F := Ideal) x0 x1 x2 x3 (ix2 0 d) = second x0 x1 x2 x3 d := by
  have h18 := root x3
  have h30 := total x0 x1 x2
  unfold val_main_v24 val_main_v23 val_main_v22 val_main_v12 val_main_v11 val_main_cst_3
  generalize val_main_v7 (F := Ideal) x3 = p at h18
  generalize val_main_v21 (F := Ideal) x0 x1 x2 = q at h30
  pointwise
  refine Finset.sum_congr rfl fun s _ => ?_
  simp only [h18, h30, gterm, dxn, ent2_eq x3]

/-- The first result's entries. -/
theorem first_eq (s : Fin 4096) (d : Fin 1024) : val_main_v41 (F := Ideal) x0 x1 x2 x3 x4 x5 (ix2 s d) = first x0 x1 x2 x3 x4 x5 s d := by
  have h17 := square x3
  have h18 := root x3
  have h30 := total x0 x1 x2
  unfold val_main_v41 val_main_v40 val_main_v39 val_main_v38 val_main_v37 val_main_v36 val_main_v35 val_main_v34 val_main_v33 val_main_v32 val_main_v31 val_main_v30 val_main_v29 val_main_v28 val_main_v27 val_main_v26 val_main_v25 val_main_v10 val_main_v9 val_main_v8 val_main_cst_2 val_main_cst_4 val_main_cst_5 val_main_cst_6
  generalize val_main_v7 (F := Ideal) x3 = p at h18
  generalize val_main_v6 (F := Ideal) x3 = r at h17
  generalize val_main_v21 (F := Ideal) x0 x1 x2 = q at h30
  pointwise
  simp only [h17, h18, h30]
  unfold first ngrad
  rw [← add_assoc, ← add_assoc]
  rfl

end Cert.RefGdnDhnIdeal.Grad

namespace Cert.GdnDhnJoin

open Idealize.ShloMosaic Idealize.ShloMosaic.TcCoe Idealize.SL.Sem

/-- Both run, with equal results and their arguments kept. -/
theorem algebraic : @Cert.algebraic_GdnDhnIdeal_RefGdnDhnIdeal Cert.GdnDhnIdeal.Gen.facts Cert.RefGdnDhnIdeal.Gen.facts := by
  intro m g m' g' _ hargs
  refine ⟨fun c => RefGdnDhnIdeal.Read.val_main_v41 (F := Ideal) (GdnDhnIdeal.Entry.X0 m c) (GdnDhnIdeal.Entry.X1 m c) (GdnDhnIdeal.Entry.X2 m c) (GdnDhnIdeal.Entry.X3 m c) (GdnDhnIdeal.Entry.X4 m c) (GdnDhnIdeal.Entry.X5 m c),
    fun c => RefGdnDhnIdeal.Read.val_main_v24 (F := Ideal) (GdnDhnIdeal.Entry.X0 m c) (GdnDhnIdeal.Entry.X1 m c) (GdnDhnIdeal.Entry.X2 m c) (GdnDhnIdeal.Entry.X3 m c), ?_, ?_⟩
  · refine (θ_run GdnDhnIdeal.defs _ _).mono (fun r h c => ⟨(h c).1.trans ?_, (h c).2.1.trans ?_, (h c).2.2⟩) (GdnDhnIdeal.Value.run_blocks m g)
    · exact GdnDhnIdeal.Entry.array6 m c _ (RefGdnDhnIdeal.Grad.first_eq _ _ _ _ _ _)
    · exact GdnDhnIdeal.Entry.array7 m c _ (RefGdnDhnIdeal.Grad.second_eq _ _ _ _)
  · have e0 : ∀ c : Dev RefGdnDhnIdeal.nD, m' ((c.tc : Thread RefGdnDhnIdeal.nD RefGdnDhnIdeal.τ).loc RefGdnDhnIdeal.main_arg0) = GdnDhnIdeal.Entry.X0 m c := fun c => (hargs c).1
    have e1 : ∀ c : Dev RefGdnDhnIdeal.nD, m' ((c.tc : Thread RefGdnDhnIdeal.nD RefGdnDhnIdeal.τ).loc RefGdnDhnIdeal.main_arg1) = GdnDhnIdeal.Entry.X1 m c := fun c => (hargs c).2.1
    have e2 : ∀ c : Dev RefGdnDhnIdeal.nD, m' ((c.tc : Thread RefGdnDhnIdeal.nD RefGdnDhnIdeal.τ).loc RefGdnDhnIdeal.main_arg2) = GdnDhnIdeal.Entry.X2 m c := fun c => (hargs c).2.2.1
    have e3 : ∀ c : Dev RefGdnDhnIdeal.nD, m' ((c.tc : Thread RefGdnDhnIdeal.nD RefGdnDhnIdeal.τ).loc RefGdnDhnIdeal.main_arg3) = GdnDhnIdeal.Entry.X3 m c := fun c => (hargs c).2.2.2.1
    have e4 : ∀ c : Dev RefGdnDhnIdeal.nD, m' ((c.tc : Thread RefGdnDhnIdeal.nD RefGdnDhnIdeal.τ).loc RefGdnDhnIdeal.main_arg4) = GdnDhnIdeal.Entry.X4 m c := fun c => (hargs c).2.2.2.2.1
    have e5 : ∀ c : Dev RefGdnDhnIdeal.nD, m' ((c.tc : Thread RefGdnDhnIdeal.nD RefGdnDhnIdeal.τ).loc RefGdnDhnIdeal.main_arg5) = GdnDhnIdeal.Entry.X5 m c := fun c => (hargs c).2.2.2.2.2
    refine (θ_run RefGdnDhnIdeal.defs _ _).mono (fun r h c => ⟨(h c).1.trans ?_, (h c).2.1.trans ?_, (h c).2.2⟩) (RefGdnDhnIdeal.Value.run (F := Ideal) m' g')
    · refine (RefGdnDhnIdeal.Read.val_main_v41_eq (F := Ideal) m' c).trans ?_
      rw [e0, e1, e2, e3, e4, e5]
    · refine (RefGdnDhnIdeal.Read.val_main_v24_eq (F := Ideal) (m' ((c.tc : Thread RefGdnDhnIdeal.nD RefGdnDhnIdeal.τ).loc RefGdnDhnIdeal.main_arg0)) (m' ((c.tc : Thread RefGdnDhnIdeal.nD RefGdnDhnIdeal.τ).loc RefGdnDhnIdeal.main_arg1)) (m' ((c.tc : Thread RefGdnDhnIdeal.nD RefGdnDhnIdeal.τ).loc RefGdnDhnIdeal.main_arg2)) (m' ((c.tc : Thread RefGdnDhnIdeal.nD RefGdnDhnIdeal.τ).loc RefGdnDhnIdeal.main_arg3))).trans ?_
      rw [e0, e1, e2, e3]

/-- The reference's frame: it runs, keeps its arguments and leaves every semaphore at zero. -/
theorem frameR (m : (ℓ : Loc RefGdnDhnIdeal.nD RefGdnDhnIdeal.τ RefGdnDhnIdeal.sig) → Buf (Elt Ideal) ℓ) (ρ : Dev RefGdnDhnIdeal.nD → PrngReg) :
    θ_run (RefGdnDhnIdeal.defs (F := Ideal)) (onTc (τ := RefGdnDhnIdeal.τ) (RefGdnDhnIdeal.main (F := Ideal))) ⟨m, fun _ => 0, ρ⟩ (fun r => (∀ c : Dev RefGdnDhnIdeal.nD,
      r.2.mem ((c.tc : Thread RefGdnDhnIdeal.nD RefGdnDhnIdeal.τ).loc RefGdnDhnIdeal.main_arg0) = m ((c.tc : Thread RefGdnDhnIdeal.nD RefGdnDhnIdeal.τ).loc RefGdnDhnIdeal.main_arg0)
      ∧ r.2.mem ((c.tc : Thread RefGdnDhnIdeal.nD RefGdnDhnIdeal.τ).loc RefGdnDhnIdeal.main_arg1) = m ((c.tc : Thread RefGdnDhnIdeal.nD RefGdnDhnIdeal.τ).loc RefGdnDhnIdeal.main_arg1)
      ∧ r.2.mem ((c.tc : Thread RefGdnDhnIdeal.nD RefGdnDhnIdeal.τ).loc RefGdnDhnIdeal.main_arg2) = m ((c.tc : Thread RefGdnDhnIdeal.nD RefGdnDhnIdeal.τ).loc RefGdnDhnIdeal.main_arg2)
      ∧ r.2.mem ((c.tc : Thread RefGdnDhnIdeal.nD RefGdnDhnIdeal.τ).loc RefGdnDhnIdeal.main_arg3) = m ((c.tc : Thread RefGdnDhnIdeal.nD RefGdnDhnIdeal.τ).loc RefGdnDhnIdeal.main_arg3)
      ∧ r.2.mem ((c.tc : Thread RefGdnDhnIdeal.nD RefGdnDhnIdeal.τ).loc RefGdnDhnIdeal.main_arg4) = m ((c.tc : Thread RefGdnDhnIdeal.nD RefGdnDhnIdeal.τ).loc RefGdnDhnIdeal.main_arg4)
      ∧ r.2.mem ((c.tc : Thread RefGdnDhnIdeal.nD RefGdnDhnIdeal.τ).loc RefGdnDhnIdeal.main_arg5) = m ((c.tc : Thread RefGdnDhnIdeal.nD RefGdnDhnIdeal.τ).loc RefGdnDhnIdeal.main_arg5))
      ∧ r.2.sem = fun _ => 0) :=
  (θ_run RefGdnDhnIdeal.defs _ _).mono (fun r h => ⟨fun c => (h c).2.2, sem_eq_zero_of_no_sems (by decide) r.2⟩) (RefGdnDhnIdeal.Value.run (F := Ideal) m ρ)

end Cert.GdnDhnJoin

end
-- ==== Proof.MixOutJoin.lean ====
/- The output projection of a mixer with the residual: what the kernel's array and the reference's hold, entry by entry, and that they are equal. -/
module

public import proofs.«01_k».proof.Defs
public import proofs.«01_k».proof.Proof.Gen.MixOutIdeal.Value
public import proofs.«01_k».proof.Proof.Gen.RefMixOutIdeal.Run
public import proofs.«01_k».proof.Proof.Gen.RefMixOutIdeal.Read
public import Idealize.ShloMosaic.Lib.Pointwise
public import Idealize.ShloMosaic.Lib.ValueIdx
public import Idealize.ShloMosaic.Lib.Pipeline.ValueKit
public import Idealize.ShloMosaic.Lib.Pipeline.ReadBack

@[expose] public section

set_option maxRecDepth 16384

noncomputable section

namespace Cert.MixOutIdeal.Entry

open Cert.MixOutIdeal Cert.MixOutIdeal.Gen
open Idealize.ShloMosaic Idealize.ShloMosaic.TcCoe Idealize.SL.Sem

variable (m : (ℓ : Loc nD τ sig) → Buf (Elt Ideal) ℓ) (c : Dev nD)

/-- The arguments. -/
abbrev X0 : FVec Ideal S4096x1024 .bf16 := m ((c.tc : Thread nD τ).loc main_arg0)
abbrev X1 : FVec Ideal S2x1024x1024 .bf16 := m ((c.tc : Thread nD τ).loc main_arg1)
abbrev X2 : FVec Ideal S4096x1024 .f32 := m ((c.tc : Thread nD τ).loc main_arg2)

/-- A point writes its block whole. -/
theorem out_eq (x0 : FVec Ideal S512x1024 .bf16) (x1 : FVec Ideal S1x1024x1024 .bf16) (x2 : FVec Ideal S512x1024 .f32) :
    out0_3 (F := Ideal) x0 x1 x2 = k0_pay1 (F := Ideal) x0 x1 x2 := by
  have z0 : (![0, 0] : Fin S512x1024.rank → ℕ) = fun _ => 0 := funext fun a => by fin_cases a <;> rfl
  have z1 : (![0, 0, 0] : Fin S1x1024x1024.rank → ℕ) = fun _ => 0 := funext fun a => by fin_cases a <;> rfl
  have z2 : (![0, 0] : Fin S512x1024.rank → ℕ) = fun _ => 0 := funext fun a => by fin_cases a <;> rfl
  unfold out0_3
  rw [View.canon_unit_zero z2, View.ld_unit_zero z0, View.ld_unit_zero z1, View.ld_unit_zero z2]

theorem index0 : ∀ t : Fin cfg0.N, (cfg0.win 0).index t (0 : Fin 2) = t.val ∧ (cfg0.win 0).index t (1 : Fin 2) = 0 := by decide +kernel
theorem index1 : ∀ t : Fin cfg0.N, (cfg0.win 1).index t (0 : Fin 3) = 1 ∧ (cfg0.win 1).index t (1 : Fin 3) = 0 ∧ (cfg0.win 1).index t (2 : Fin 3) = 0 := by
  decide +kernel
theorem index2 : ∀ t : Fin cfg0.N, (cfg0.win 2).index t (0 : Fin 2) = t.val ∧ (cfg0.win 2).index t (1 : Fin 2) = 0 := by decide +kernel
theorem index3 : ∀ t : Fin cfg0.N, (cfg0.win 3).index t (0 : Fin 2) = t.val ∧ (cfg0.win 3).index t (1 : Fin 2) = 0 := by decide +kernel
theorem points : ∀ t : Fin cfg0.N, t.val < 8 := by decide +kernel

/-- The row of the array that row `r` of the point's block is. -/
def row (t : Fin cfg0.N) (r : Fin 512) : Fin 4096 := ⟨t.val * 512 + r.val, by have := points t; omega⟩

theorem at0 (W : (b : Ref sig Kind.tc) → Buf (Elt Ideal) ((c : Thread nD τ).loc b)) (t : Fin cfg0.N) (r : Fin 512) (n : Fin 1024) :
    View.read (Elt Ideal) ((cfg0.win 0).blk t).view (W (Pipeline.arrRef spec0 0)) (ix2 r n) = (W main_arg0 : FVec Ideal S4096x1024 .bf16) (ix2 (row t r) n) := by
  blk_ext [row, (index0 t).1, (index0 t).2]

theorem at1 (W : (b : Ref sig Kind.tc) → Buf (Elt Ideal) ((c : Thread nD τ).loc b)) (t : Fin cfg0.N) (n : Fin 1024) (d : Fin 1024) :
    View.read (Elt Ideal) ((cfg0.win 1).blk t).view (W (Pipeline.arrRef spec0 1)) (ix3 0 n d) = (W main_arg1 : FVec Ideal S2x1024x1024 .bf16) (ix3 1 n d) := by
  blk_ext [(index1 t).1, (index1 t).2.1, (index1 t).2.2]

theorem at2 (W : (b : Ref sig Kind.tc) → Buf (Elt Ideal) ((c : Thread nD τ).loc b)) (t : Fin cfg0.N) (r : Fin 512) (d : Fin 1024) :
    View.read (Elt Ideal) ((cfg0.win 2).blk t).view (W (Pipeline.arrRef spec0 2)) (ix2 r d) = (W main_arg2 : FVec Ideal S4096x1024 .f32) (ix2 (row t r) d) := by
  blk_ext [row, (index2 t).1, (index2 t).2]

theorem blk0 (t : Fin cfg0.N) (r : Fin 512) (n : Fin 1024) : (iblk m c 0 t : FVec Ideal S512x1024 .bf16) (ix2 r n) = X0 m c (ix2 (row t r) n) := by
  refine (at0 c (V m c) t r n).trans ?_
  rw [V_main_arg0]
theorem blk1 (t : Fin cfg0.N) (n : Fin 1024) (d : Fin 1024) : (iblk m c 1 t : FVec Ideal S1x1024x1024 .bf16) (ix3 0 n d) = X1 m c (ix3 1 n d) := by
  refine (at1 c (V m c) t n d).trans ?_
  rw [V_main_arg1]
theorem blk2 (t : Fin cfg0.N) (r : Fin 512) (d : Fin 1024) : (iblk m c 2 t : FVec Ideal S512x1024 .f32) (ix2 r d) = X2 m c (ix2 (row t r) d) := by
  refine (at2 c (V m c) t r d).trans ?_
  rw [V_main_arg2]

/-- An entry of the result. -/
def entry (x0 : FVec Ideal S4096x1024 .bf16) (x1 : FVec Ideal S2x1024x1024 .bf16) (x2 : FVec Ideal S4096x1024 .f32) (s : Fin 4096) (d : Fin 1024) : EReal :=
  x2 (ix2 s d) + ∑ n : Fin 1024, x0 (ix2 s n) * x1 (ix3 1 n d)

theorem out_apply (t : Fin cfg0.N) (r : Fin 512) (d : Fin 1024) :
    out0_3 (F := Ideal) (iblk m c 0 t) (iblk m c 1 t) (iblk m c 2 t) (ix2 r d) = entry (X0 m c) (X1 m c) (X2 m c) (row t r) d := by
  rw [out_eq]
  have h0 := blk0 m c t
  have h1 := blk1 m c t
  have h2 := blk2 m c t
  unfold k0_pay1 entry
  generalize iblk m c 0 t = x at h0
  generalize iblk m c 1 t = y at h1
  generalize iblk m c 2 t = z at h2
  pointwise
  simp only [h0, h1, h2]

/-- The array after the run is any array with these entries. -/
theorem array (G : FVec Ideal S4096x1024 .f32) (hg : ∀ (s : Fin 4096) (d : Fin 1024), G (ix2 s d) = entry (X0 m c) (X1 m c) (X2 m c) s d) :
    (dats m 0 c).arrAt 3 cfg0.N = G := by
  refine (dats m 0 c).arrAt_eq_of_covers 3 _ (by decide +kernel) fun t hf y => ?_
  have eg := out_apply m c t
  have hy0 : (y 0).val < 512 := (y 0).isLt
  have hy1 : (y 1).val < 1024 := (y 1).isLt
  blk_simp [after0_3, (index3 t).1, (index3 t).2]
  generalize out0_3 (F := Ideal) (iblk m c 0 t) (iblk m c 1 t) (iblk m c 2 t) = o at eg
  have e0 : (((cfg0.win 3).blk t).view.emb y (0 : Fin 2)).val = t.val * 512 + (y 0).val := by
    blk_simp [(index3 t).1]
  have e1 : (((cfg0.win 3).blk t).view.emb y (1 : Fin 2)).val = (y 1).val := by
    blk_simp [(index3 t).2]
  have ey : y = (ix2 (⟨(y 0).val, hy0⟩ : Fin 512) (⟨(y 1).val, hy1⟩ : Fin 1024) : S512x1024.Idx) := by
    funext a
    fin_cases a <;> rfl
  have ez : ((cfg0.win 3).blk t).view.emb y = (ix2 (row t ⟨(y 0).val, hy0⟩) (⟨(y 1).val, hy1⟩ : Fin 1024) : S4096x1024.Idx) := by
    funext a
    fin_cases a
    · exact Fin.ext e0
    · exact Fin.ext e1
  exact (congrArg o ey).trans ((eg _ _).trans ((hg _ _).symm.trans (congrArg G ez.symm)))

end Cert.MixOutIdeal.Entry

namespace Cert.RefMixOutIdeal.Value

open Idealize.ShloMosaic Idealize.ShloMosaic.TcCoe Idealize.SL.Sem Read

/-- The reference's entries. -/
theorem entries (x0 : FVec Ideal S4096x1024 .bf16) (x1 : FVec Ideal S2x1024x1024 .bf16) (x2 : FVec Ideal S4096x1024 .f32) (s : Fin 4096) (d : Fin 1024) :
    val_main_v5 (F := Ideal) x0 x1 x2 (ix2 s d) = MixOutIdeal.Entry.entry x0 x1 x2 s d := by
  unfold val_main_v5 val_main_v4 val_main_v3 val_main_v2 val_main_v1 val_main_v0 MixOutIdeal.Entry.entry
  pointwise

end Cert.RefMixOutIdeal.Value

namespace Cert.MixOutJoin

open Idealize.ShloMosaic Idealize.ShloMosaic.TcCoe Idealize.SL.Sem

/-- Both run, with equal results and their arguments kept. -/
theorem algebraic : @Cert.algebraic_MixOutIdeal_RefMixOutIdeal Cert.MixOutIdeal.Gen.facts Cert.RefMixOutIdeal.Gen.facts := by
  intro m g m' g' _ hargs
  refine ⟨fun c => RefMixOutIdeal.Read.val_main_v5 (F := Ideal) (MixOutIdeal.Entry.X0 m c) (MixOutIdeal.Entry.X1 m c) (MixOutIdeal.Entry.X2 m c), ?_, ?_⟩
  · refine (θ_run MixOutIdeal.defs _ _).mono (fun r h c => ⟨(h c).1.trans ?_, (h c).2⟩) (MixOutIdeal.Value.run_blocks m g)
    exact MixOutIdeal.Entry.array m c _ (RefMixOutIdeal.Value.entries _ _ _)
  · refine (θ_run RefMixOutIdeal.defs _ _).mono (fun r h c => ⟨(h c).1.trans ?_, (h c).2⟩) (RefMixOutIdeal.Value.run (F := Ideal) m' g')
    have e0 : m' ((c.tc : Thread RefMixOutIdeal.nD RefMixOutIdeal.τ).loc RefMixOutIdeal.main_arg0) = MixOutIdeal.Entry.X0 m c := (hargs c).1
    have e1 : m' ((c.tc : Thread RefMixOutIdeal.nD RefMixOutIdeal.τ).loc RefMixOutIdeal.main_arg1) = MixOutIdeal.Entry.X1 m c := (hargs c).2.1
    have e2 : m' ((c.tc : Thread RefMixOutIdeal.nD RefMixOutIdeal.τ).loc RefMixOutIdeal.main_arg2) = MixOutIdeal.Entry.X2 m c := (hargs c).2.2
    refine (RefMixOutIdeal.Read.val_main_v5_eq (F := Ideal) (m' ((c.tc : Thread RefMixOutIdeal.nD RefMixOutIdeal.τ).loc RefMixOutIdeal.main_arg0)) (m' ((c.tc : Thread RefMixOutIdeal.nD RefMixOutIdeal.τ).loc RefMixOutIdeal.main_arg1)) (m' ((c.tc : Thread RefMixOutIdeal.nD RefMixOutIdeal.τ).loc RefMixOutIdeal.main_arg2))).trans ?_
    rw [e0, e1, e2]

/-- The reference's frame: it runs, keeps its arguments and leaves every semaphore at zero. -/
theorem frameR (m : (ℓ : Loc RefMixOutIdeal.nD RefMixOutIdeal.τ RefMixOutIdeal.sig) → Buf (Elt Ideal) ℓ) (ρ : Dev RefMixOutIdeal.nD → PrngReg) :
    θ_run (RefMixOutIdeal.defs (F := Ideal)) (onTc (τ := RefMixOutIdeal.τ) (RefMixOutIdeal.main (F := Ideal))) ⟨m, fun _ => 0, ρ⟩ (fun r => (∀ c : Dev RefMixOutIdeal.nD,
      r.2.mem ((c.tc : Thread RefMixOutIdeal.nD RefMixOutIdeal.τ).loc RefMixOutIdeal.main_arg0) = m ((c.tc : Thread RefMixOutIdeal.nD RefMixOutIdeal.τ).loc RefMixOutIdeal.main_arg0)
      ∧ r.2.mem ((c.tc : Thread RefMixOutIdeal.nD RefMixOutIdeal.τ).loc RefMixOutIdeal.main_arg1) = m ((c.tc : Thread RefMixOutIdeal.nD RefMixOutIdeal.τ).loc RefMixOutIdeal.main_arg1)
      ∧ r.2.mem ((c.tc : Thread RefMixOutIdeal.nD RefMixOutIdeal.τ).loc RefMixOutIdeal.main_arg2) = m ((c.tc : Thread RefMixOutIdeal.nD RefMixOutIdeal.τ).loc RefMixOutIdeal.main_arg2))
      ∧ r.2.sem = fun _ => 0) :=
  (θ_run RefMixOutIdeal.defs _ _).mono (fun r h => ⟨fun c => (h c).2, sem_eq_zero_of_no_sems (by decide) r.2⟩) (RefMixOutIdeal.Value.run (F := Ideal) m ρ)

end Cert.MixOutJoin

end
-- ==== Proof.MixDyJoin.lean ====
/- The gradient of a mixer's output before its projection: what the kernel's array and the reference's hold, entry by entry, and that they are equal. -/
module

public import proofs.«01_k».proof.Proof.Entries
public import proofs.«01_k».proof.Proof.Gen.MixDyIdeal.Value
public import proofs.«01_k».proof.Proof.Gen.RefMixDyIdeal.Run
public import proofs.«01_k».proof.Proof.Gen.RefMixDyIdeal.Read
public import Idealize.ShloMosaic.Lib.Pointwise
public import Idealize.ShloMosaic.Lib.ValueIdx
public import Idealize.ShloMosaic.Lib.Pipeline.ValueKit
public import Idealize.ShloMosaic.Lib.Pipeline.ReadBack

@[expose] public section

set_option maxRecDepth 16384

noncomputable section

namespace Cert.MixDyIdeal.Entry

open Cert.MixDyIdeal Cert.MixDyIdeal.Gen
open Idealize.ShloMosaic Idealize.ShloMosaic.TcCoe Idealize.SL.Sem Cert.Entries

variable (m : (ℓ : Loc nD τ sig) → Buf (Elt Ideal) ℓ) (c : Dev nD)

/-- The arguments. -/
abbrev X0 : FVec Ideal S4096x1024 .f32 := m ((c.tc : Thread nD τ).loc main_arg0)
abbrev X1 : FVec Ideal S2x1024x1024 .bf16 := m ((c.tc : Thread nD τ).loc main_arg1)

/-- A point writes its block whole. -/
theorem out_eq (x0 : FVec Ideal S512x1024 .f32) (x1 : FVec Ideal S1x1024x1024 .bf16) : out0_2 (F := Ideal) x0 x1 = k0_pay1 (F := Ideal) x0 x1 := by
  have z0 : (![0, 0] : Fin S512x1024.rank → ℕ) = fun _ => 0 := funext fun a => by fin_cases a <;> rfl
  have z1 : (![0, 0, 0] : Fin S1x1024x1024.rank → ℕ) = fun _ => 0 := funext fun a => by fin_cases a <;> rfl
  have z2 : (![0, 0] : Fin S512x1024.rank → ℕ) = fun _ => 0 := funext fun a => by fin_cases a <;> rfl
  unfold out0_2
  rw [View.canon_unit_zero z2, View.ld_unit_zero z0, View.ld_unit_zero z1]

theorem index0 : ∀ t : Fin cfg0.N, (cfg0.win 0).index t (0 : Fin 2) = t.val % 8 ∧ (cfg0.win 0).index t (1 : Fin 2) = 0 := by decide +kernel
theorem index1 : ∀ t : Fin cfg0.N, (cfg0.win 1).index t (0 : Fin 3) = 1 ∧ (cfg0.win 1).index t (1 : Fin 3) = t.val / 8 ∧ (cfg0.win 1).index t (2 : Fin 3) = 0 := by decide +kernel
theorem index2 : ∀ t : Fin cfg0.N, (cfg0.win 2).index t (0 : Fin 2) = t.val % 8 ∧ (cfg0.win 2).index t (1 : Fin 2) = t.val / 8 := by decide +kernel
theorem points : ∀ t : Fin cfg0.N, t.val / 8 < 1 := by decide +kernel

/-- The row and the column of the array that a row and a column of the point's block are. -/
def row (t : Fin cfg0.N) (r : Fin 512) : Fin 4096 := ⟨t.val % 8 * 512 + r.val, by omega⟩
def col (t : Fin cfg0.N) (n : Fin 1024) : Fin 1024 := ⟨t.val / 8 * 1024 + n.val, by have := points t; omega⟩

theorem at0 (W : (b : Ref sig Kind.tc) → Buf (Elt Ideal) ((c : Thread nD τ).loc b)) (t : Fin cfg0.N) (r : Fin 512) (d : Fin 1024) :
    View.read (Elt Ideal) ((cfg0.win 0).blk t).view (W (Pipeline.arrRef spec0 0)) (ix2 r d) = (W main_arg0 : FVec Ideal S4096x1024 .f32) (ix2 (row t r) d) := by
  blk_ext [row, (index0 t).1, (index0 t).2]

theorem at1 (W : (b : Ref sig Kind.tc) → Buf (Elt Ideal) ((c : Thread nD τ).loc b)) (t : Fin cfg0.N) (d : Fin 1024) (n : Fin 1024) :
    View.read (Elt Ideal) ((cfg0.win 1).blk t).view (W (Pipeline.arrRef spec0 1)) (ix3 0 n d) = (W main_arg1 : FVec Ideal S2x1024x1024 .bf16) (ix3 (1 : Fin 2) (col t n) d) := by
  blk_ext [col, (index1 t).1, (index1 t).2.1, (index1 t).2.2]

theorem blk0 (t : Fin cfg0.N) (r : Fin 512) (d : Fin 1024) : (iblk m c 0 t : FVec Ideal S512x1024 .f32) (ix2 r d) = X0 m c (ix2 (row t r) d) := by
  refine (at0 c (V m c) t r d).trans ?_
  rw [V_main_arg0]
theorem blk1 (t : Fin cfg0.N) (d : Fin 1024) (n : Fin 1024) : (iblk m c 1 t : FVec Ideal S1x1024x1024 .bf16) (ix3 0 n d) = X1 m c (ix3 (1 : Fin 2) (col t n) d) := by
  refine (at1 c (V m c) t d n).trans ?_
  rw [V_main_arg1]

/-- An entry of the result. -/
def entry (x0 : FVec Ideal S4096x1024 .f32) (x1 : FVec Ideal S2x1024x1024 .bf16) (s : Fin 4096) (k : Fin 1024) : EReal :=
  ∑ d : Fin 1024, x0 (ix2 s d) * x1 (ix3 1 k d)

theorem out_apply (t : Fin cfg0.N) (r : Fin 512) (n : Fin 1024) :
    out0_2 (F := Ideal) (iblk m c 0 t) (iblk m c 1 t) (ix2 r n) = entry (X0 m c) (X1 m c) (row t r) (col t n) := by
  rw [out_eq]
  have h0 := blk0 m c t
  have h1 := blk1 m c t
  unfold k0_pay1 entry
  generalize iblk m c 0 t = x at h0
  generalize iblk m c 1 t = y at h1
  pointwise
  refine Finset.sum_congr rfl fun d _ => ?_
  rw [h0, h1]

/-- The array after the run is any array with these entries. -/
theorem array (G : FVec Ideal S4096x1024 .f32) (hg : ∀ (s : Fin 4096) (k : Fin 1024), G (ix2 s k) = entry (X0 m c) (X1 m c) s k) :
    (dats m 0 c).arrAt 2 cfg0.N = G := by
  refine (dats m 0 c).arrAt_eq_of_covers 2 _ (by decide +kernel) fun t hf y => ?_
  have eg := out_apply m c t
  have hy0 : (y 0).val < 512 := (y 0).isLt
  have hy1 : (y 1).val < 1024 := (y 1).isLt
  blk_simp [after0_2, (index2 t).1, (index2 t).2]
  generalize out0_2 (F := Ideal) (iblk m c 0 t) (iblk m c 1 t) = o at eg
  have e0 : (((cfg0.win 2).blk t).view.emb y (0 : Fin 2)).val = t.val % 8 * 512 + (y 0).val := by
    blk_simp [(index2 t).1]
  have e1 : (((cfg0.win 2).blk t).view.emb y (1 : Fin 2)).val = t.val / 8 * 1024 + (y 1).val := by
    blk_simp [(index2 t).2]
  have ey : y = (ix2 (⟨(y 0).val, hy0⟩ : Fin 512) (⟨(y 1).val, hy1⟩ : Fin 1024) : S512x1024.Idx) := by
    funext a
    fin_cases a <;> rfl
  have ez : ((cfg0.win 2).blk t).view.emb y = (ix2 (row t ⟨(y 0).val, hy0⟩) (col t ⟨(y 1).val, hy1⟩) : S4096x1024.Idx) := by
    funext a
    fin_cases a
    · exact Fin.ext e0
    · exact Fin.ext e1
  exact (congrArg o ey).trans ((eg _ _).trans ((hg _ _).symm.trans (congrArg G ez.symm)))

end Cert.MixDyIdeal.Entry

namespace Cert.RefMixDyIdeal.Value

open Idealize.ShloMosaic Idealize.ShloMosaic.TcCoe Idealize.SL.Sem Cert.Entries Read

/-- The reference's entries. -/
theorem entries (x0 : FVec Ideal S4096x1024 .f32) (x1 : FVec Ideal S2x1024x1024 .bf16) (s : Fin 4096) (k : Fin 1024) :
    val_main_v5 (F := Ideal) x0 x1 (ix2 s k) = MixDyIdeal.Entry.entry x0 x1 s k := by
  unfold val_main_v5 val_main_v3 val_main_v2 val_main_v1 MixDyIdeal.Entry.entry
  pointwise

end Cert.RefMixDyIdeal.Value

namespace Cert.MixDyJoin

open Idealize.ShloMosaic Idealize.ShloMosaic.TcCoe Idealize.SL.Sem

/-- Both run, with equal results and their arguments kept. -/
theorem algebraic : @Cert.algebraic_MixDyIdeal_RefMixDyIdeal Cert.MixDyIdeal.Gen.facts Cert.RefMixDyIdeal.Gen.facts := by
  intro m g m' g' _ hargs
  refine ⟨fun c => RefMixDyIdeal.Read.val_main_v5 (F := Ideal) (MixDyIdeal.Entry.X0 m c) (MixDyIdeal.Entry.X1 m c), ?_, ?_⟩
  · refine (θ_run MixDyIdeal.defs _ _).mono (fun r h c => ⟨(h c).1.trans ?_, (h c).2⟩) (MixDyIdeal.Value.run_blocks m g)
    exact MixDyIdeal.Entry.array m c _ (RefMixDyIdeal.Value.entries _ _)
  · refine (θ_run RefMixDyIdeal.defs _ _).mono (fun r h c => ⟨(h c).1.trans ?_, (h c).2⟩) (RefMixDyIdeal.Value.run (F := Ideal) m' g')
    have e0 : m' ((c.tc : Thread RefMixDyIdeal.nD RefMixDyIdeal.τ).loc RefMixDyIdeal.main_arg0) = MixDyIdeal.Entry.X0 m c := (hargs c).1
    have e1 : m' ((c.tc : Thread RefMixDyIdeal.nD RefMixDyIdeal.τ).loc RefMixDyIdeal.main_arg1) = MixDyIdeal.Entry.X1 m c := (hargs c).2
    refine (RefMixDyIdeal.Read.val_main_v5_eq (F := Ideal) (m' ((c.tc : Thread RefMixDyIdeal.nD RefMixDyIdeal.τ).loc RefMixDyIdeal.main_arg0)) (m' ((c.tc : Thread RefMixDyIdeal.nD RefMixDyIdeal.τ).loc RefMixDyIdeal.main_arg1))).trans ?_
    rw [e0, e1]

/-- The reference's frame: it runs, keeps its arguments and leaves every semaphore at zero. -/
theorem frameR (m : (ℓ : Loc RefMixDyIdeal.nD RefMixDyIdeal.τ RefMixDyIdeal.sig) → Buf (Elt Ideal) ℓ) (ρ : Dev RefMixDyIdeal.nD → PrngReg) :
    θ_run (RefMixDyIdeal.defs (F := Ideal)) (onTc (τ := RefMixDyIdeal.τ) (RefMixDyIdeal.main (F := Ideal))) ⟨m, fun _ => 0, ρ⟩ (fun r => (∀ c : Dev RefMixDyIdeal.nD,
      r.2.mem ((c.tc : Thread RefMixDyIdeal.nD RefMixDyIdeal.τ).loc RefMixDyIdeal.main_arg0) = m ((c.tc : Thread RefMixDyIdeal.nD RefMixDyIdeal.τ).loc RefMixDyIdeal.main_arg0)
      ∧ r.2.mem ((c.tc : Thread RefMixDyIdeal.nD RefMixDyIdeal.τ).loc RefMixDyIdeal.main_arg1) = m ((c.tc : Thread RefMixDyIdeal.nD RefMixDyIdeal.τ).loc RefMixDyIdeal.main_arg1))
      ∧ r.2.sem = fun _ => 0) :=
  (θ_run RefMixDyIdeal.defs _ _).mono (fun r h => ⟨fun c => (h c).2, sem_eq_zero_of_no_sems (by decide) r.2⟩) (RefMixDyIdeal.Value.run (F := Ideal) m ρ)

end Cert.MixDyJoin

end
-- ==== Proof.MixDwoutJoin.lean ====
/- The weight gradient of a mixer's output projection: what the kernel's array and the reference's hold, entry by entry, and that they are equal. -/
module

public import proofs.«01_k».proof.Proof.Entries
public import proofs.«01_k».proof.Proof.Gen.MixDwoutIdeal.Value
public import proofs.«01_k».proof.Proof.Gen.RefMixDwoutIdeal.Run
public import proofs.«01_k».proof.Proof.Gen.RefMixDwoutIdeal.Read
public import Idealize.ShloMosaic.Lib.Pointwise
public import Idealize.ShloMosaic.Lib.ValueIdx
public import Idealize.ShloMosaic.Lib.Pipeline.ValueKit
public import Idealize.ShloMosaic.Lib.Pipeline.ReadBack

@[expose] public section

set_option maxRecDepth 16384

noncomputable section

namespace Cert.MixDwoutIdeal.Entry

open Cert.MixDwoutIdeal Cert.MixDwoutIdeal.Gen
open Idealize.ShloMosaic Idealize.ShloMosaic.TcCoe Idealize.SL.Sem Cert.Entries

variable (m : (ℓ : Loc nD τ sig) → Buf (Elt Ideal) ℓ) (c : Dev nD)

/-- The arguments. -/
abbrev X0 : FVec Ideal S4096x1024 .bf16 := m ((c.tc : Thread nD τ).loc main_arg0)
abbrev X1 : FVec Ideal S4096x1024 .f32 := m ((c.tc : Thread nD τ).loc main_arg1)

/-- The product of one block of 512 rows, at a grid point. -/
def part (t : Fin cfg0.N) : FVec Ideal S1024x1024 .f32 := k0_pay1 (iblk m c 0 t) (iblk m c 1 t)

theorem points : ∀ t : Fin cfg0.N, t.val / 8 < 1 := by decide +kernel

theorem acc_A (t : Fin cfg0.N) (h0 : t.val % 8 = 0) (h1 : ¬1 ≤ t.val) (h2 : ¬t.val % 8 = 7) :
    (outsAt0 m c t.val t.isLt).2 = part m c t := by
  rw [outsAt0_A m c t h0 h1 h2]
  dsimp only
  frame_open
  frame_out
  exact shapeCast_id ..

theorem acc_B (t : Fin cfg0.N) (h0 : ¬t.val % 8 = 0) (h1 : 1 ≤ t.val) (h2 : ¬t.val % 8 = 7) :
    (outsAt0 m c t.val t.isLt).2 = addf (outsAt0 m c (t.val - 1) (Nat.lt_of_le_of_lt (Nat.sub_le _ _) t.isLt)).2 (part m c t) := by
  rw [outsAt0_B m c t h0 h1 h2]
  dsimp only
  frame_open
  frame_out
  rw [read_unread_whole]
  exact shapeCast_id ..

theorem acc_C (t : Fin cfg0.N) (h0 : ¬t.val % 8 = 0) (h1 : 1 ≤ t.val) (h2 : t.val % 8 = 7) :
    (outsAt0 m c t.val t.isLt).2 = addf (outsAt0 m c (t.val - 1) (Nat.lt_of_le_of_lt (Nat.sub_le _ _) t.isLt)).2 (part m c t) := by
  rw [outsAt0_C m c t h0 h1 h2]
  dsimp only
  frame_open
  frame_out
  rw [read_unread_whole]
  exact shapeCast_id ..

/-- The point that closes a stretch of eight writes what it accumulated. -/
theorem out_C (t : Fin cfg0.N) (h2 : t.val % 8 = 7) : (outsAt0 m c t.val t.isLt).1 = k0_pay4 (outsAt0 m c t.val t.isLt).2 := by
  rw [acc_C m c t (by omega) (by omega) h2, outsAt0_C m c t (by omega) (by omega) h2]
  dsimp only
  frame_open
  frame_out
  rw [read_unread_whole]
  exact congrArg k0_pay4 (shapeCast_id ..)

/-! ## The blocks a point reads -/

theorem index0 : ∀ t : Fin cfg0.N, (cfg0.win 0).index t (0 : Fin 2) = t.val % 8 ∧ (cfg0.win 0).index t (1 : Fin 2) = 0 := by decide +kernel
theorem index1 : ∀ t : Fin cfg0.N, (cfg0.win 1).index t (0 : Fin 2) = t.val % 8 ∧ (cfg0.win 1).index t (1 : Fin 2) = t.val / 8 := by decide +kernel
theorem index2 : ∀ t : Fin cfg0.N, (cfg0.win 2).index t (0 : Fin 2) = 0 ∧ (cfg0.win 2).index t (1 : Fin 2) = t.val / 8 := by decide +kernel
theorem flush2 : ∀ t : Fin cfg0.N, (cfg0.win 2).flush t = decide (t.val % 8 = 7) := by decide +kernel

theorem at0 (W : (b : Ref sig Kind.tc) → Buf (Elt Ideal) ((c : Thread nD τ).loc b)) (t : Fin cfg0.N) (r : Fin 512) (d : Fin 1024) :
    View.read (Elt Ideal) ((cfg0.win 0).blk t).view (W (Pipeline.arrRef spec0 0)) (ix2 r d) =
      (W main_arg0 : FVec Ideal S4096x1024 .bf16) (ix2 (⟨t.val % 8 * 512 + r.val, by omega⟩ : Fin 4096) d) := by
  blk_ext [(index0 t).1, (index0 t).2]

theorem at1 (W : (b : Ref sig Kind.tc) → Buf (Elt Ideal) ((c : Thread nD τ).loc b)) (t : Fin cfg0.N) (r : Fin 512) (n : Fin 1024) :
    View.read (Elt Ideal) ((cfg0.win 1).blk t).view (W (Pipeline.arrRef spec0 1)) (ix2 r n) =
      (W main_arg1 : FVec Ideal S4096x1024 .f32) (ix2 (⟨t.val % 8 * 512 + r.val, by omega⟩ : Fin 4096) (⟨t.val / 8 * 1024 + n.val, by have := points t; omega⟩ : Fin 1024)) := by
  blk_ext [(index1 t).1, (index1 t).2]

theorem blk0 (t : Fin cfg0.N) (r : Fin 512) (d : Fin 1024) :
    (iblk m c 0 t : FVec Ideal S512x1024 .bf16) (ix2 r d) = ent2 (X0 m c) (512 * (t.val % 8) + r.val) d.val := by
  refine (at0 c (V m c) t r d).trans ?_
  rw [V_main_arg0, Nat.mul_comm 512]
  exact ent2_eq (X0 m c) _ _

theorem blk1 (t : Fin cfg0.N) (r : Fin 512) (n : Fin 1024) :
    (iblk m c 1 t : FVec Ideal S512x1024 .f32) (ix2 r n) = ent2 (X1 m c) (512 * (t.val % 8) + r.val) (t.val / 8 * 1024 + n.val) := by
  refine (at1 c (V m c) t r n).trans ?_
  rw [V_main_arg1, Nat.mul_comm 512]
  exact ent2_eq (X1 m c) _ _

/-- One row's term of the gradient. -/
def term (x0 : FVec Ideal S4096x1024 .bf16) (x1 : FVec Ideal S4096x1024 .f32) (d k s : ℕ) : EReal := ent2 x0 s d * ent2 x1 s k
/-- An entry of the gradient. -/
def grad (x0 : FVec Ideal S4096x1024 .bf16) (x1 : FVec Ideal S4096x1024 .f32) (d k : ℕ) : EReal := ∑ s : Fin 4096, term x0 x1 d k s.val

theorem part_apply (t : Fin cfg0.N) (d : Fin 1024) (n : Fin 1024) :
    part m c t (ix2 d n) = ∑ r : Fin 512, term (X0 m c) (X1 m c) d.val (t.val / 8 * 1024 + n.val) (512 * (t.val % 8) + r.val) := by
  have h0 := blk0 m c t
  have h1 := blk1 m c t
  unfold part k0_pay1
  generalize iblk m c 0 t = x at h0
  generalize iblk m c 1 t = y at h1
  pointwise
  simp only [h0, h1, term]

/-- The accumulator after a point. -/
theorem acc (t : Fin cfg0.N) (d : Fin 1024) (n : Fin 1024) : (outsAt0 m c t.val t.isLt).2 (ix2 d n) =
    ∑ k ∈ Finset.range (t.val % 8 + 1), ∑ r : Fin 512, term (X0 m c) (X1 m c) d.val (t.val / 8 * 1024 + n.val) (512 * k + r.val) := by
  have e := Pipeline.eq_sum_of_reset_step_apply_divmod (fun n h => (outsAt0 m c n h).2) 8 (fun _ => (0 : EReal))
    (fun j k (i : S1024x1024.Idx) => ∑ r : Fin 512, term (X0 m c) (X1 m c) (i 0).val (j * 1024 + (i 1).val) (512 * k + r.val))
    (fun t h i => by
      have := points t
      have ei : i = ix2 (i 0 : Fin 1024) (i 1 : Fin 1024) := by funext a; fin_cases a <;> rfl
      have h := congrFun (acc_A m c t h (by omega) (by omega)) i
      rw [zero_add]
      exact h.trans ((congrArg _ ei).trans (part_apply m c t (i 0 : Fin 1024) (i 1 : Fin 1024))))
    (fun t h i => by
      have ei : i = ix2 (i 0 : Fin 1024) (i 1 : Fin 1024) := by funext a; fin_cases a <;> rfl
      have e : (outsAt0 m c t.val t.isLt).2 = addf (outsAt0 m c (t.val - 1) (Nat.lt_of_le_of_lt (Nat.sub_le _ _) t.isLt)).2 (part m c t) := by
        by_cases h3 : t.val % 8 = 7
        · exact acc_C m c t h (by omega) h3
        · exact acc_B m c t h (by omega) h3
      refine (congrFun e i).trans ?_
      exact congrArg _ ((congrArg (part m c t) ei).trans (part_apply m c t (i 0 : Fin 1024) (i 1 : Fin 1024))))
    t (ix2 d n)
  rw [zero_add] at e
  exact e

theorem out_apply (t : Fin cfg0.N) (ht : t.val % 8 = 7) (d : Fin 1024) (n : Fin 1024) :
    (outsAt0 m c t.val t.isLt).1 (ix2 d n) = grad (X0 m c) (X1 m c) d.val (t.val / 8 * 1024 + n.val) := by
  have h := acc m c t d n
  rw [out_C m c t ht]
  generalize (outsAt0 m c t.val t.isLt).2 = y at h
  unfold k0_pay4
  pointwise
  refine h.trans ?_
  rw [ht]
  exact sum_blocks 512 _ 8

/-- The array after the run is any array with these entries. -/
theorem array (G : FVec Ideal S1024x1024 .bf16) (hg : ∀ (d : Fin 1024) (k : Fin 1024), G (ix2 d k) = grad (X0 m c) (X1 m c) d.val k.val) :
    (dats m 0 c).arrAt 2 cfg0.N = G := by
  refine (dats m 0 c).arrAt_eq_of_covers 2 _ (by decide +kernel) fun t hf y => ?_
  rw [flush2] at hf
  have ht : t.val % 8 = 7 := by simpa using hf
  have e := out_apply m c t ht
  have hp := points t
  have hy0 : (y 0).val < 1024 := (y 0).isLt
  have hy1 : (y 1).val < 1024 := (y 1).isLt
  blk_simp [after0_2, (index2 t).1, (index2 t).2]
  generalize (outsAt0 m c t.val t.isLt).1 = o at e
  have e0 : (((cfg0.win 2).blk t).view.emb y (0 : Fin 2)).val = (y 0).val := by
    blk_simp [(index2 t).1]
  have e1 : (((cfg0.win 2).blk t).view.emb y (1 : Fin 2)).val = t.val / 8 * 1024 + (y 1).val := by
    blk_simp [(index2 t).2]
  have ey : y = (ix2 (⟨(y 0).val, hy0⟩ : Fin 1024) (⟨(y 1).val, hy1⟩ : Fin 1024) : S1024x1024.Idx) := by
    funext a
    fin_cases a <;> rfl
  have ez : ((cfg0.win 2).blk t).view.emb y = (ix2 (⟨(y 0).val, hy0⟩ : Fin 1024) (⟨t.val / 8 * 1024 + (y 1).val, by omega⟩ : Fin 1024) : S1024x1024.Idx) := by
    funext a
    fin_cases a
    · exact Fin.ext e0
    · exact Fin.ext e1
  exact (congrArg o ey).trans ((e _ _).trans ((hg _ _).symm.trans (congrArg G ez.symm)))

end Cert.MixDwoutIdeal.Entry

namespace Cert.RefMixDwoutIdeal.Value

open Idealize.ShloMosaic Idealize.ShloMosaic.TcCoe Idealize.SL.Sem Cert.Entries Read

/-- The reference's entries. -/
theorem entries (x0 : FVec Ideal S4096x1024 .bf16) (x1 : FVec Ideal S4096x1024 .f32) (d : Fin 1024) (k : Fin 1024) :
    val_main_v5 (F := Ideal) x0 x1 (ix2 d k) = MixDwoutIdeal.Entry.grad x0 x1 d.val k.val := by
  unfold val_main_v5 val_main_v4 val_main_v3 val_main_v1 MixDwoutIdeal.Entry.grad MixDwoutIdeal.Entry.term
  pointwise
  refine Finset.sum_congr rfl fun s _ => ?_
  rw [ent2_eq x0, ent2_eq x1, mul_comm]

end Cert.RefMixDwoutIdeal.Value

namespace Cert.MixDwoutJoin

open Idealize.ShloMosaic Idealize.ShloMosaic.TcCoe Idealize.SL.Sem

/-- Both run, with equal results and their arguments kept. -/
theorem algebraic : @Cert.algebraic_MixDwoutIdeal_RefMixDwoutIdeal Cert.MixDwoutIdeal.Gen.facts Cert.RefMixDwoutIdeal.Gen.facts := by
  intro m g m' g' _ hargs
  refine ⟨fun c => RefMixDwoutIdeal.Read.val_main_v5 (F := Ideal) (MixDwoutIdeal.Entry.X0 m c) (MixDwoutIdeal.Entry.X1 m c), ?_, ?_⟩
  · refine (θ_run MixDwoutIdeal.defs _ _).mono (fun r h c => ⟨(h c).1.trans ?_, (h c).2⟩) (MixDwoutIdeal.Value.run_blocks m g)
    exact MixDwoutIdeal.Entry.array m c _ (RefMixDwoutIdeal.Value.entries _ _)
  · refine (θ_run RefMixDwoutIdeal.defs _ _).mono (fun r h c => ⟨(h c).1.trans ?_, (h c).2⟩) (RefMixDwoutIdeal.Value.run (F := Ideal) m' g')
    have e0 : m' ((c.tc : Thread RefMixDwoutIdeal.nD RefMixDwoutIdeal.τ).loc RefMixDwoutIdeal.main_arg0) = MixDwoutIdeal.Entry.X0 m c := (hargs c).1
    have e1 : m' ((c.tc : Thread RefMixDwoutIdeal.nD RefMixDwoutIdeal.τ).loc RefMixDwoutIdeal.main_arg1) = MixDwoutIdeal.Entry.X1 m c := (hargs c).2
    refine (RefMixDwoutIdeal.Read.val_main_v5_eq (F := Ideal) (m' ((c.tc : Thread RefMixDwoutIdeal.nD RefMixDwoutIdeal.τ).loc RefMixDwoutIdeal.main_arg0)) (m' ((c.tc : Thread RefMixDwoutIdeal.nD RefMixDwoutIdeal.τ).loc RefMixDwoutIdeal.main_arg1))).trans ?_
    rw [e0, e1]

/-- The reference's frame: it runs, keeps its arguments and leaves every semaphore at zero. -/
theorem frameR (m : (ℓ : Loc RefMixDwoutIdeal.nD RefMixDwoutIdeal.τ RefMixDwoutIdeal.sig) → Buf (Elt Ideal) ℓ) (ρ : Dev RefMixDwoutIdeal.nD → PrngReg) :
    θ_run (RefMixDwoutIdeal.defs (F := Ideal)) (onTc (τ := RefMixDwoutIdeal.τ) (RefMixDwoutIdeal.main (F := Ideal))) ⟨m, fun _ => 0, ρ⟩ (fun r => (∀ c : Dev RefMixDwoutIdeal.nD,
      r.2.mem ((c.tc : Thread RefMixDwoutIdeal.nD RefMixDwoutIdeal.τ).loc RefMixDwoutIdeal.main_arg0) = m ((c.tc : Thread RefMixDwoutIdeal.nD RefMixDwoutIdeal.τ).loc RefMixDwoutIdeal.main_arg0)
      ∧ r.2.mem ((c.tc : Thread RefMixDwoutIdeal.nD RefMixDwoutIdeal.τ).loc RefMixDwoutIdeal.main_arg1) = m ((c.tc : Thread RefMixDwoutIdeal.nD RefMixDwoutIdeal.τ).loc RefMixDwoutIdeal.main_arg1))
      ∧ r.2.sem = fun _ => 0) :=
  (θ_run RefMixDwoutIdeal.defs _ _).mono (fun r h => ⟨fun c => (h c).2, sem_eq_zero_of_no_sems (by decide) r.2⟩) (RefMixDwoutIdeal.Value.run (F := Ideal) m ρ)

end Cert.MixDwoutJoin

end
-- ==== Proof.Adam.lean ====
/- The optimiser's step on one entry of a weight, of its gradient and of the two moments. -/
module

public import proofs.«01_k».proof.Defs
public import Idealize.ShloMosaic.Lib.Pointwise

@[expose] public section

noncomputable section

namespace Cert.Adam

open Idealize.ShloMosaic

/-- A constant of the step. -/
abbrev lit (b : BitVec 32) : EReal := FloatOps.ofBits (F := Ideal) .f32 b

/-- The new first moment. -/
def mean (g m : EReal) : EReal := lit 0x3F666666#32 * m + lit 0x3DCCCCCD#32 * g
/-- The new second moment. -/
def square (g v : EReal) : EReal := lit 0x3F7FBE77#32 * v + lit 0x3A83126F#32 * (g * g)
/-- The change of the weight. -/
def delta (w g m v : EReal) : EReal :=
  lit 0xBA83126F#32 * (Ideal.div (Ideal.div (mean g m) (lit 0x3F26BD02#32))
    (Ideal.sqrt (Ideal.div (square g v) (lit 0x3C231ACC#32)) + lit 0x322BCC77#32) + lit 0x3C23D70A#32 * w)

/-- The three results of the step on arrays. -/
def means {S : Shape} (g m : FVec Ideal S .f32) : FVec Ideal S .f32 := fun i => mean (g i) (m i)
def squares {S : Shape} (g v : FVec Ideal S .f32) : FVec Ideal S .f32 := fun i => square (g i) (v i)
def deltas {S : Shape} (w g m v : FVec Ideal S .f32) : FVec Ideal S .f32 := fun i => delta (w i) (g i) (m i) (v i)

end Cert.Adam

end
-- ==== Proof.AdamInJoin.lean ====
/- The optimiser on the two delta-rule layers' input projections: what the kernel's arrays and the reference's hold, and that they are equal. -/
module

public import proofs.«01_k».proof.Proof.Adam
public import proofs.«01_k».proof.Proof.Gen.AdamInIdeal.Value
public import proofs.«01_k».proof.Proof.Gen.RefAdamInIdeal.Run
public import proofs.«01_k».proof.Proof.Gen.RefAdamInIdeal.Read
public import Idealize.ShloMosaic.Lib.Pointwise
public import Idealize.ShloMosaic.Lib.Pipeline.ValueKit
public import Idealize.ShloMosaic.Lib.Claim

@[expose] public section

set_option maxRecDepth 16384

noncomputable section

namespace Cert.AdamInIdeal.Entry

open Cert.AdamInIdeal Cert.AdamInIdeal.Gen
open Idealize.ShloMosaic Idealize.ShloMosaic.TcCoe Idealize.SL.Sem Cert.Adam

variable (m : (ℓ : Loc nD τ sig) → Buf (Elt Ideal) ℓ) (c : Dev nD)

/-- The arguments: the weight, its gradient and the two moments. -/
abbrev X0 : FVec Ideal S2x1024x1028 .f32 := m ((c.tc : Thread nD τ).loc main_arg0)
abbrev X1 : FVec Ideal S2x1024x1028 .f32 := m ((c.tc : Thread nD τ).loc main_arg1)
abbrev X2 : FVec Ideal S2x1024x1028 .f32 := m ((c.tc : Thread nD τ).loc main_arg2)
abbrev X3 : FVec Ideal S2x1024x1028 .f32 := m ((c.tc : Thread nD τ).loc main_arg3)

/-- What the region finds in the arrays of its four inputs. -/
abbrev Y0 : FVec Ideal S2048x1028 .f32 := shapeCast S2048x1028 (X0 m c) shapeCasts_S2x1024x1028_S2048x1028
abbrev Y1 : FVec Ideal S2048x1028 .f32 := shapeCast S2048x1028 (X1 m c) shapeCasts_S2x1024x1028_S2048x1028
abbrev Y2 : FVec Ideal S2048x1028 .f32 := shapeCast S2048x1028 (X2 m c) shapeCasts_S2x1024x1028_S2048x1028
abbrev Y3 : FVec Ideal S2048x1028 .f32 := shapeCast S2048x1028 (X3 m c) shapeCasts_S2x1024x1028_S2048x1028
theorem entry0 : V m c main_v0 = Y0 m c := by
  simp only [V, hostOps0]
  after_results_simp
  rfl
theorem entry1 : V m c main_v1 = Y1 m c := by
  simp only [V, hostOps0]
  after_results_simp
  rfl
theorem entry2 : V m c main_v2 = Y2 m c := by
  simp only [V, hostOps0]
  after_results_simp
  rfl
theorem entry3 : V m c main_v3 = Y3 m c := by
  simp only [V, hostOps0]
  after_results_simp
  rfl

/-! ## What a point writes -/

theorem ld (x : FVec Ideal S256x1028 .f32) : View.ld (Val := Elt Ideal) (e' := .f32) x r0_0 = x :=
  View.ld_unit_lit (Val := Elt Ideal) (e := .f32) (S := S256x1028) inb_S256x1028_S256x1028_0_0 x (by decide)
theorem zero : (![0, 0] : Fin S256x1028.rank → ℕ) = fun _ => 0 := funext fun a => by fin_cases a <;> rfl

theorem out4 (w g x y : FVec Ideal S256x1028 .f32) : out0_4 (F := Ideal) w g x y = deltas w g x y := by
  unfold out0_4
  rw [View.canon_unit_zero zero, ld, ld, ld, ld]
  unfold k0_pay4 k0_pay3 k0_pay2 k0_pay1
  simp only [shapeCast_id]
  rfl
theorem out5 (w g x y : FVec Ideal S256x1028 .f32) : out0_5 (F := Ideal) w g x y = means g x := by
  unfold out0_5
  rw [View.canon_unit_zero zero, ld, ld]
  unfold k0_pay2 k0_pay1
  simp only [shapeCast_id]
  rfl
theorem out6 (w g x y : FVec Ideal S256x1028 .f32) : out0_6 (F := Ideal) w g x y = squares g y := by
  unfold out0_6
  rw [View.canon_unit_zero zero, ld, ld]
  unfold k0_pay3 k0_pay1
  simp only [shapeCast_id]
  rfl

/-! ## The blocks that a point reads lie where the block that it writes lies -/

theorem blk0 (t : Fin cfg0.N) (y : S256x1028.Idx) : (iblk m c 0 t : FVec Ideal S256x1028 .f32) y = Y0 m c (((cfg0.win 4).blk t).view.emb y) :=
  congrFun (entry0 m c) _
theorem blk1 (t : Fin cfg0.N) (y : S256x1028.Idx) : (iblk m c 1 t : FVec Ideal S256x1028 .f32) y = Y1 m c (((cfg0.win 4).blk t).view.emb y) :=
  congrFun (entry1 m c) _
theorem blk2 (t : Fin cfg0.N) (y : S256x1028.Idx) : (iblk m c 2 t : FVec Ideal S256x1028 .f32) y = Y2 m c (((cfg0.win 4).blk t).view.emb y) :=
  congrFun (entry2 m c) _
theorem blk3 (t : Fin cfg0.N) (y : S256x1028.Idx) : (iblk m c 3 t : FVec Ideal S256x1028 .f32) y = Y3 m c (((cfg0.win 4).blk t).view.emb y) :=
  congrFun (entry3 m c) _

/-! ## The three arrays after the run -/

theorem array4 : (dats m 0 c).arrAt 4 cfg0.N = deltas (Y0 m c) (Y1 m c) (Y2 m c) (Y3 m c) := by
  refine (dats m 0 c).arrAt_eq_of_covers 4 _ (by decide +kernel) fun t hf y => ?_
  blk_simp [after0_4]
  rw [out4]
  show delta ((iblk m c 0 t : FVec Ideal S256x1028 .f32) y) ((iblk m c 1 t : FVec Ideal S256x1028 .f32) y) ((iblk m c 2 t : FVec Ideal S256x1028 .f32) y) ((iblk m c 3 t : FVec Ideal S256x1028 .f32) y) = _
  rw [blk0, blk1, blk2, blk3]
  rfl
theorem array5 : (dats m 0 c).arrAt 5 cfg0.N = means (Y1 m c) (Y2 m c) := by
  refine (dats m 0 c).arrAt_eq_of_covers 5 _ (by decide +kernel) fun t hf y => ?_
  blk_simp [after0_5]
  rw [out5]
  show mean ((iblk m c 1 t : FVec Ideal S256x1028 .f32) y) ((iblk m c 2 t : FVec Ideal S256x1028 .f32) y) = _
  rw [blk1, blk2]
  rfl
theorem array6 : (dats m 0 c).arrAt 6 cfg0.N = squares (Y1 m c) (Y3 m c) := by
  refine (dats m 0 c).arrAt_eq_of_covers 6 _ (by decide +kernel) fun t hf y => ?_
  blk_simp [after0_6]
  rw [out6]
  show square ((iblk m c 1 t : FVec Ideal S256x1028 .f32) y) ((iblk m c 3 t : FVec Ideal S256x1028 .f32) y) = _
  rw [blk1, blk3]
  rfl

end Cert.AdamInIdeal.Entry

namespace Cert.RefAdamInIdeal.Value

open Idealize.ShloMosaic Idealize.ShloMosaic.TcCoe Idealize.SL.Sem Cert.Adam Read

variable (w g x y : FVec Ideal S2x1024x1028 .f32)

theorem new_mean : val_main_v4 (F := Ideal) g x = means g x := by
  funext i
  rw [val_main_v4_apply, val_main_v1_apply, val_main_v3_apply, val_main_v0_apply, val_main_v2_apply]
  rfl
theorem new_square : val_main_v10 (F := Ideal) g y = squares g y := by
  funext i
  rw [val_main_v10_apply, val_main_v6_apply, val_main_v9_apply, val_main_v5_apply, val_main_v8_apply, val_main_v7_apply]
  rfl
theorem change : val_main_v23 (F := Ideal) w g x y = deltas w g x y := by
  funext i
  rw [val_main_v23_apply, val_main_v21_apply, val_main_v18_apply, val_main_v17_apply, val_main_v15_apply, val_main_v14_apply, val_main_v12_apply,
    val_main_v20_apply, val_main_v22_apply, val_main_v19_apply, val_main_v16_apply, val_main_v13_apply, val_main_v11_apply, new_mean, new_square]
  rfl

end Cert.RefAdamInIdeal.Value

namespace Cert.AdamInJoin

open Idealize.ShloMosaic Idealize.ShloMosaic.TcCoe Idealize.SL.Sem

/-- Both run, with equal results and their arguments kept. -/
theorem algebraic : @Cert.algebraic_AdamInIdeal_RefAdamInIdeal Cert.AdamInIdeal.Gen.facts Cert.RefAdamInIdeal.Gen.facts := by
  intro m g m' g' _ hargs
  refine ⟨fun c => RefAdamInIdeal.Read.val_main_v24 (F := Ideal) (AdamInIdeal.Entry.X0 m c) (AdamInIdeal.Entry.X1 m c) (AdamInIdeal.Entry.X2 m c) (AdamInIdeal.Entry.X3 m c),
    fun c => RefAdamInIdeal.Read.val_main_v25 (F := Ideal) (AdamInIdeal.Entry.X1 m c) (AdamInIdeal.Entry.X2 m c),
    fun c => RefAdamInIdeal.Read.val_main_v26 (F := Ideal) (AdamInIdeal.Entry.X1 m c) (AdamInIdeal.Entry.X3 m c), ?_, ?_⟩
  · refine (θ_run AdamInIdeal.defs _ _).mono (fun r h c => ⟨(h c).1.trans ?_, (h c).2.1.trans ?_, (h c).2.2.1.trans ?_, (h c).2.2.2⟩)
      (AdamInIdeal.Value.run_blocks m g)
    · beta_reduce
      unfold RefAdamInIdeal.Read.val_main_v24
      rw [RefAdamInIdeal.Value.change]
      exact AdamInIdeal.Entry.array4 m c
    · beta_reduce
      unfold RefAdamInIdeal.Read.val_main_v25
      rw [RefAdamInIdeal.Value.new_mean]
      exact AdamInIdeal.Entry.array5 m c
    · beta_reduce
      unfold RefAdamInIdeal.Read.val_main_v26
      rw [RefAdamInIdeal.Value.new_square]
      exact AdamInIdeal.Entry.array6 m c
  · have e0 : ∀ c : Dev RefAdamInIdeal.nD, m' ((c.tc : Thread RefAdamInIdeal.nD RefAdamInIdeal.τ).loc RefAdamInIdeal.main_arg0) = AdamInIdeal.Entry.X0 m c := fun c => (hargs c).1
    have e1 : ∀ c : Dev RefAdamInIdeal.nD, m' ((c.tc : Thread RefAdamInIdeal.nD RefAdamInIdeal.τ).loc RefAdamInIdeal.main_arg1) = AdamInIdeal.Entry.X1 m c := fun c => (hargs c).2.1
    have e2 : ∀ c : Dev RefAdamInIdeal.nD, m' ((c.tc : Thread RefAdamInIdeal.nD RefAdamInIdeal.τ).loc RefAdamInIdeal.main_arg2) = AdamInIdeal.Entry.X2 m c := fun c => (hargs c).2.2.1
    have e3 : ∀ c : Dev RefAdamInIdeal.nD, m' ((c.tc : Thread RefAdamInIdeal.nD RefAdamInIdeal.τ).loc RefAdamInIdeal.main_arg3) = AdamInIdeal.Entry.X3 m c := fun c => (hargs c).2.2.2
    refine (θ_run RefAdamInIdeal.defs _ _).mono (fun r h c => ⟨(h c).1.trans ?_, (h c).2.1.trans ?_, (h c).2.2.1.trans ?_, (h c).2.2.2⟩)
      (RefAdamInIdeal.Value.run (F := Ideal) m' g')
    · refine (RefAdamInIdeal.Read.val_main_v24_eq (F := Ideal) (m' ((c.tc : Thread RefAdamInIdeal.nD RefAdamInIdeal.τ).loc RefAdamInIdeal.main_arg0)) (m' ((c.tc : Thread RefAdamInIdeal.nD RefAdamInIdeal.τ).loc RefAdamInIdeal.main_arg1)) (m' ((c.tc : Thread RefAdamInIdeal.nD RefAdamInIdeal.τ).loc RefAdamInIdeal.main_arg2)) (m' ((c.tc : Thread RefAdamInIdeal.nD RefAdamInIdeal.τ).loc RefAdamInIdeal.main_arg3))).trans ?_
      rw [e0, e1, e2, e3]
    · refine (RefAdamInIdeal.Read.val_main_v25_eq (F := Ideal) (m' ((c.tc : Thread RefAdamInIdeal.nD RefAdamInIdeal.τ).loc RefAdamInIdeal.main_arg1)) (m' ((c.tc : Thread RefAdamInIdeal.nD RefAdamInIdeal.τ).loc RefAdamInIdeal.main_arg2))).trans ?_
      rw [e1, e2]
    · refine (RefAdamInIdeal.Read.val_main_v26_eq (F := Ideal) (m' ((c.tc : Thread RefAdamInIdeal.nD RefAdamInIdeal.τ).loc RefAdamInIdeal.main_arg1)) (m' ((c.tc : Thread RefAdamInIdeal.nD RefAdamInIdeal.τ).loc RefAdamInIdeal.main_arg3))).trans ?_
      rw [e1, e3]

/-- The reference's frame: it runs, keeps its arguments and leaves every semaphore at zero. -/
theorem frameR (m : (ℓ : Loc RefAdamInIdeal.nD RefAdamInIdeal.τ RefAdamInIdeal.sig) → Buf (Elt Ideal) ℓ) (ρ : Dev RefAdamInIdeal.nD → PrngReg) :
    θ_run (RefAdamInIdeal.defs (F := Ideal)) (onTc (τ := RefAdamInIdeal.τ) (RefAdamInIdeal.main (F := Ideal))) ⟨m, fun _ => 0, ρ⟩ (fun r => (∀ c : Dev RefAdamInIdeal.nD,
      r.2.mem ((c.tc : Thread RefAdamInIdeal.nD RefAdamInIdeal.τ).loc RefAdamInIdeal.main_arg0) = m ((c.tc : Thread RefAdamInIdeal.nD RefAdamInIdeal.τ).loc RefAdamInIdeal.main_arg0)
      ∧ r.2.mem ((c.tc : Thread RefAdamInIdeal.nD RefAdamInIdeal.τ).loc RefAdamInIdeal.main_arg1) = m ((c.tc : Thread RefAdamInIdeal.nD RefAdamInIdeal.τ).loc RefAdamInIdeal.main_arg1)
      ∧ r.2.mem ((c.tc : Thread RefAdamInIdeal.nD RefAdamInIdeal.τ).loc RefAdamInIdeal.main_arg2) = m ((c.tc : Thread RefAdamInIdeal.nD RefAdamInIdeal.τ).loc RefAdamInIdeal.main_arg2)
      ∧ r.2.mem ((c.tc : Thread RefAdamInIdeal.nD RefAdamInIdeal.τ).loc RefAdamInIdeal.main_arg3) = m ((c.tc : Thread RefAdamInIdeal.nD RefAdamInIdeal.τ).loc RefAdamInIdeal.main_arg3))
      ∧ r.2.sem = fun _ => 0) :=
  (θ_run RefAdamInIdeal.defs _ _).mono (fun r h => ⟨fun c => (h c).2.2.2, sem_eq_zero_of_no_sems (by decide) r.2⟩) (RefAdamInIdeal.Value.run (F := Ideal) m ρ)

end Cert.AdamInJoin

end
-- ==== Proof.AdamOutJoin.lean ====
/- The optimiser on the two delta-rule layers' output projections: what the kernel's arrays and the reference's hold, and that they are equal. -/
module

public import proofs.«01_k».proof.Proof.Adam
public import proofs.«01_k».proof.Proof.Gen.AdamOutIdeal.Value
public import proofs.«01_k».proof.Proof.Gen.RefAdamOutIdeal.Run
public import proofs.«01_k».proof.Proof.Gen.RefAdamOutIdeal.Read
public import Idealize.ShloMosaic.Lib.Pointwise
public import Idealize.ShloMosaic.Lib.Pipeline.ValueKit
public import Idealize.ShloMosaic.Lib.Claim

@[expose] public section

set_option maxRecDepth 16384

noncomputable section

namespace Cert.AdamOutIdeal.Entry

open Cert.AdamOutIdeal Cert.AdamOutIdeal.Gen
open Idealize.ShloMosaic Idealize.ShloMosaic.TcCoe Idealize.SL.Sem Cert.Adam

variable (m : (ℓ : Loc nD τ sig) → Buf (Elt Ideal) ℓ) (c : Dev nD)

/-- The arguments: the weight, its gradient and the two moments. -/
abbrev X0 : FVec Ideal S2x256x1024 .f32 := m ((c.tc : Thread nD τ).loc main_arg0)
abbrev X1 : FVec Ideal S2x256x1024 .f32 := m ((c.tc : Thread nD τ).loc main_arg1)
abbrev X2 : FVec Ideal S2x256x1024 .f32 := m ((c.tc : Thread nD τ).loc main_arg2)
abbrev X3 : FVec Ideal S2x256x1024 .f32 := m ((c.tc : Thread nD τ).loc main_arg3)

/-- What the region finds in the arrays of its four inputs. -/
abbrev Y0 : FVec Ideal S512x1024 .f32 := shapeCast S512x1024 (X0 m c) shapeCasts_S2x256x1024_S512x1024
abbrev Y1 : FVec Ideal S512x1024 .f32 := shapeCast S512x1024 (X1 m c) shapeCasts_S2x256x1024_S512x1024
abbrev Y2 : FVec Ideal S512x1024 .f32 := shapeCast S512x1024 (X2 m c) shapeCasts_S2x256x1024_S512x1024
abbrev Y3 : FVec Ideal S512x1024 .f32 := shapeCast S512x1024 (X3 m c) shapeCasts_S2x256x1024_S512x1024
theorem entry0 : V m c main_v0 = Y0 m c := by
  simp only [V, hostOps0]
  after_results_simp
  rfl
theorem entry1 : V m c main_v1 = Y1 m c := by
  simp only [V, hostOps0]
  after_results_simp
  rfl
theorem entry2 : V m c main_v2 = Y2 m c := by
  simp only [V, hostOps0]
  after_results_simp
  rfl
theorem entry3 : V m c main_v3 = Y3 m c := by
  simp only [V, hostOps0]
  after_results_simp
  rfl

/-! ## What a point writes -/

theorem ld (x : FVec Ideal S256x1024 .f32) : View.ld (Val := Elt Ideal) (e' := .f32) x r0_0 = x :=
  View.ld_unit_lit (Val := Elt Ideal) (e := .f32) (S := S256x1024) inb_S256x1024_S256x1024_0_0 x (by decide)
theorem zero : (![0, 0] : Fin S256x1024.rank → ℕ) = fun _ => 0 := funext fun a => by fin_cases a <;> rfl

theorem out4 (w g x y : FVec Ideal S256x1024 .f32) : out0_4 (F := Ideal) w g x y = deltas w g x y := by
  unfold out0_4
  rw [View.canon_unit_zero zero, ld, ld, ld, ld]
  unfold k0_pay4 k0_pay3 k0_pay2 k0_pay1
  simp only [shapeCast_id]
  rfl
theorem out5 (w g x y : FVec Ideal S256x1024 .f32) : out0_5 (F := Ideal) w g x y = means g x := by
  unfold out0_5
  rw [View.canon_unit_zero zero, ld, ld]
  unfold k0_pay2 k0_pay1
  simp only [shapeCast_id]
  rfl
theorem out6 (w g x y : FVec Ideal S256x1024 .f32) : out0_6 (F := Ideal) w g x y = squares g y := by
  unfold out0_6
  rw [View.canon_unit_zero zero, ld, ld]
  unfold k0_pay3 k0_pay1
  simp only [shapeCast_id]
  rfl

/-! ## The blocks that a point reads lie where the block that it writes lies -/

theorem blk0 (t : Fin cfg0.N) (y : S256x1024.Idx) : (iblk m c 0 t : FVec Ideal S256x1024 .f32) y = Y0 m c (((cfg0.win 4).blk t).view.emb y) :=
  congrFun (entry0 m c) _
theorem blk1 (t : Fin cfg0.N) (y : S256x1024.Idx) : (iblk m c 1 t : FVec Ideal S256x1024 .f32) y = Y1 m c (((cfg0.win 4).blk t).view.emb y) :=
  congrFun (entry1 m c) _
theorem blk2 (t : Fin cfg0.N) (y : S256x1024.Idx) : (iblk m c 2 t : FVec Ideal S256x1024 .f32) y = Y2 m c (((cfg0.win 4).blk t).view.emb y) :=
  congrFun (entry2 m c) _
theorem blk3 (t : Fin cfg0.N) (y : S256x1024.Idx) : (iblk m c 3 t : FVec Ideal S256x1024 .f32) y = Y3 m c (((cfg0.win 4).blk t).view.emb y) :=
  congrFun (entry3 m c) _

/-! ## The three arrays after the run -/

theorem array4 : (dats m 0 c).arrAt 4 cfg0.N = deltas (Y0 m c) (Y1 m c) (Y2 m c) (Y3 m c) := by
  refine (dats m 0 c).arrAt_eq_of_covers 4 _ (by decide +kernel) fun t hf y => ?_
  blk_simp [after0_4]
  rw [out4]
  show delta ((iblk m c 0 t : FVec Ideal S256x1024 .f32) y) ((iblk m c 1 t : FVec Ideal S256x1024 .f32) y) ((iblk m c 2 t : FVec Ideal S256x1024 .f32) y) ((iblk m c 3 t : FVec Ideal S256x1024 .f32) y) = _
  rw [blk0, blk1, blk2, blk3]
  rfl
theorem array5 : (dats m 0 c).arrAt 5 cfg0.N = means (Y1 m c) (Y2 m c) := by
  refine (dats m 0 c).arrAt_eq_of_covers 5 _ (by decide +kernel) fun t hf y => ?_
  blk_simp [after0_5]
  rw [out5]
  show mean ((iblk m c 1 t : FVec Ideal S256x1024 .f32) y) ((iblk m c 2 t : FVec Ideal S256x1024 .f32) y) = _
  rw [blk1, blk2]
  rfl
theorem array6 : (dats m 0 c).arrAt 6 cfg0.N = squares (Y1 m c) (Y3 m c) := by
  refine (dats m 0 c).arrAt_eq_of_covers 6 _ (by decide +kernel) fun t hf y => ?_
  blk_simp [after0_6]
  rw [out6]
  show square ((iblk m c 1 t : FVec Ideal S256x1024 .f32) y) ((iblk m c 3 t : FVec Ideal S256x1024 .f32) y) = _
  rw [blk1, blk3]
  rfl

end Cert.AdamOutIdeal.Entry

namespace Cert.RefAdamOutIdeal.Value

open Idealize.ShloMosaic Idealize.ShloMosaic.TcCoe Idealize.SL.Sem Cert.Adam Read

variable (w g x y : FVec Ideal S2x256x1024 .f32)

theorem new_mean : val_main_v4 (F := Ideal) g x = means g x := by
  funext i
  rw [val_main_v4_apply, val_main_v1_apply, val_main_v3_apply, val_main_v0_apply, val_main_v2_apply]
  rfl
theorem new_square : val_main_v10 (F := Ideal) g y = squares g y := by
  funext i
  rw [val_main_v10_apply, val_main_v6_apply, val_main_v9_apply, val_main_v5_apply, val_main_v8_apply, val_main_v7_apply]
  rfl
theorem change : val_main_v23 (F := Ideal) w g x y = deltas w g x y := by
  funext i
  rw [val_main_v23_apply, val_main_v21_apply, val_main_v18_apply, val_main_v17_apply, val_main_v15_apply, val_main_v14_apply, val_main_v12_apply,
    val_main_v20_apply, val_main_v22_apply, val_main_v19_apply, val_main_v16_apply, val_main_v13_apply, val_main_v11_apply, new_mean, new_square]
  rfl

end Cert.RefAdamOutIdeal.Value

namespace Cert.AdamOutJoin

open Idealize.ShloMosaic Idealize.ShloMosaic.TcCoe Idealize.SL.Sem

/-- Both run, with equal results and their arguments kept. -/
theorem algebraic : @Cert.algebraic_AdamOutIdeal_RefAdamOutIdeal Cert.AdamOutIdeal.Gen.facts Cert.RefAdamOutIdeal.Gen.facts := by
  intro m g m' g' _ hargs
  refine ⟨fun c => RefAdamOutIdeal.Read.val_main_v24 (F := Ideal) (AdamOutIdeal.Entry.X0 m c) (AdamOutIdeal.Entry.X1 m c) (AdamOutIdeal.Entry.X2 m c) (AdamOutIdeal.Entry.X3 m c),
    fun c => RefAdamOutIdeal.Read.val_main_v25 (F := Ideal) (AdamOutIdeal.Entry.X1 m c) (AdamOutIdeal.Entry.X2 m c),
    fun c => RefAdamOutIdeal.Read.val_main_v26 (F := Ideal) (AdamOutIdeal.Entry.X1 m c) (AdamOutIdeal.Entry.X3 m c), ?_, ?_⟩
  · refine (θ_run AdamOutIdeal.defs _ _).mono (fun r h c => ⟨(h c).1.trans ?_, (h c).2.1.trans ?_, (h c).2.2.1.trans ?_, (h c).2.2.2⟩)
      (AdamOutIdeal.Value.run_blocks m g)
    · beta_reduce
      unfold RefAdamOutIdeal.Read.val_main_v24
      rw [RefAdamOutIdeal.Value.change]
      exact AdamOutIdeal.Entry.array4 m c
    · beta_reduce
      unfold RefAdamOutIdeal.Read.val_main_v25
      rw [RefAdamOutIdeal.Value.new_mean]
      exact AdamOutIdeal.Entry.array5 m c
    · beta_reduce
      unfold RefAdamOutIdeal.Read.val_main_v26
      rw [RefAdamOutIdeal.Value.new_square]
      exact AdamOutIdeal.Entry.array6 m c
  · have e0 : ∀ c : Dev RefAdamOutIdeal.nD, m' ((c.tc : Thread RefAdamOutIdeal.nD RefAdamOutIdeal.τ).loc RefAdamOutIdeal.main_arg0) = AdamOutIdeal.Entry.X0 m c := fun c => (hargs c).1
    have e1 : ∀ c : Dev RefAdamOutIdeal.nD, m' ((c.tc : Thread RefAdamOutIdeal.nD RefAdamOutIdeal.τ).loc RefAdamOutIdeal.main_arg1) = AdamOutIdeal.Entry.X1 m c := fun c => (hargs c).2.1
    have e2 : ∀ c : Dev RefAdamOutIdeal.nD, m' ((c.tc : Thread RefAdamOutIdeal.nD RefAdamOutIdeal.τ).loc RefAdamOutIdeal.main_arg2) = AdamOutIdeal.Entry.X2 m c := fun c => (hargs c).2.2.1
    have e3 : ∀ c : Dev RefAdamOutIdeal.nD, m' ((c.tc : Thread RefAdamOutIdeal.nD RefAdamOutIdeal.τ).loc RefAdamOutIdeal.main_arg3) = AdamOutIdeal.Entry.X3 m c := fun c => (hargs c).2.2.2
    refine (θ_run RefAdamOutIdeal.defs _ _).mono (fun r h c => ⟨(h c).1.trans ?_, (h c).2.1.trans ?_, (h c).2.2.1.trans ?_, (h c).2.2.2⟩)
      (RefAdamOutIdeal.Value.run (F := Ideal) m' g')
    · refine (RefAdamOutIdeal.Read.val_main_v24_eq (F := Ideal) (m' ((c.tc : Thread RefAdamOutIdeal.nD RefAdamOutIdeal.τ).loc RefAdamOutIdeal.main_arg0)) (m' ((c.tc : Thread RefAdamOutIdeal.nD RefAdamOutIdeal.τ).loc RefAdamOutIdeal.main_arg1)) (m' ((c.tc : Thread RefAdamOutIdeal.nD RefAdamOutIdeal.τ).loc RefAdamOutIdeal.main_arg2)) (m' ((c.tc : Thread RefAdamOutIdeal.nD RefAdamOutIdeal.τ).loc RefAdamOutIdeal.main_arg3))).trans ?_
      rw [e0, e1, e2, e3]
    · refine (RefAdamOutIdeal.Read.val_main_v25_eq (F := Ideal) (m' ((c.tc : Thread RefAdamOutIdeal.nD RefAdamOutIdeal.τ).loc RefAdamOutIdeal.main_arg1)) (m' ((c.tc : Thread RefAdamOutIdeal.nD RefAdamOutIdeal.τ).loc RefAdamOutIdeal.main_arg2))).trans ?_
      rw [e1, e2]
    · refine (RefAdamOutIdeal.Read.val_main_v26_eq (F := Ideal) (m' ((c.tc : Thread RefAdamOutIdeal.nD RefAdamOutIdeal.τ).loc RefAdamOutIdeal.main_arg1)) (m' ((c.tc : Thread RefAdamOutIdeal.nD RefAdamOutIdeal.τ).loc RefAdamOutIdeal.main_arg3))).trans ?_
      rw [e1, e3]

/-- The reference's frame: it runs, keeps its arguments and leaves every semaphore at zero. -/
theorem frameR (m : (ℓ : Loc RefAdamOutIdeal.nD RefAdamOutIdeal.τ RefAdamOutIdeal.sig) → Buf (Elt Ideal) ℓ) (ρ : Dev RefAdamOutIdeal.nD → PrngReg) :
    θ_run (RefAdamOutIdeal.defs (F := Ideal)) (onTc (τ := RefAdamOutIdeal.τ) (RefAdamOutIdeal.main (F := Ideal))) ⟨m, fun _ => 0, ρ⟩ (fun r => (∀ c : Dev RefAdamOutIdeal.nD,
      r.2.mem ((c.tc : Thread RefAdamOutIdeal.nD RefAdamOutIdeal.τ).loc RefAdamOutIdeal.main_arg0) = m ((c.tc : Thread RefAdamOutIdeal.nD RefAdamOutIdeal.τ).loc RefAdamOutIdeal.main_arg0)
      ∧ r.2.mem ((c.tc : Thread RefAdamOutIdeal.nD RefAdamOutIdeal.τ).loc RefAdamOutIdeal.main_arg1) = m ((c.tc : Thread RefAdamOutIdeal.nD RefAdamOutIdeal.τ).loc RefAdamOutIdeal.main_arg1)
      ∧ r.2.mem ((c.tc : Thread RefAdamOutIdeal.nD RefAdamOutIdeal.τ).loc RefAdamOutIdeal.main_arg2) = m ((c.tc : Thread RefAdamOutIdeal.nD RefAdamOutIdeal.τ).loc RefAdamOutIdeal.main_arg2)
      ∧ r.2.mem ((c.tc : Thread RefAdamOutIdeal.nD RefAdamOutIdeal.τ).loc RefAdamOutIdeal.main_arg3) = m ((c.tc : Thread RefAdamOutIdeal.nD RefAdamOutIdeal.τ).loc RefAdamOutIdeal.main_arg3))
      ∧ r.2.sem = fun _ => 0) :=
  (θ_run RefAdamOutIdeal.defs _ _).mono (fun r h => ⟨fun c => (h c).2.2.2, sem_eq_zero_of_no_sems (by decide) r.2⟩) (RefAdamOutIdeal.Value.run (F := Ideal) m ρ)

end Cert.AdamOutJoin

end
-- ==== Proof.AdamPackJoin.lean ====
/- The optimiser on the pack of the small weights: what the kernel's arrays and the reference's hold, and that they are equal. -/
module

public import proofs.«01_k».proof.Proof.Adam
public import proofs.«01_k».proof.Proof.Gen.AdamPackIdeal.Value
public import proofs.«01_k».proof.Proof.Gen.RefAdamPackIdeal.Run
public import proofs.«01_k».proof.Proof.Gen.RefAdamPackIdeal.Read
public import Idealize.ShloMosaic.Lib.Pointwise
public import Idealize.ShloMosaic.Lib.Pipeline.ValueKit
public import Idealize.ShloMosaic.Lib.Claim

@[expose] public section

set_option maxRecDepth 16384

noncomputable section

namespace Cert.AdamPackIdeal.Entry

open Cert.AdamPackIdeal Cert.AdamPackIdeal.Gen
open Idealize.ShloMosaic Idealize.ShloMosaic.TcCoe Idealize.SL.Sem Cert.Adam

variable (m : (ℓ : Loc nD τ sig) → Buf (Elt Ideal) ℓ) (c : Dev nD)

/-- The arguments: the weight, its gradient and the two moments. -/
abbrev X0 : FVec Ideal S96x1024 .f32 := m ((c.tc : Thread nD τ).loc main_arg0)
abbrev X1 : FVec Ideal S96x1024 .f32 := m ((c.tc : Thread nD τ).loc main_arg1)
abbrev X2 : FVec Ideal S96x1024 .f32 := m ((c.tc : Thread nD τ).loc main_arg2)
abbrev X3 : FVec Ideal S96x1024 .f32 := m ((c.tc : Thread nD τ).loc main_arg3)

/-! ## What a point writes -/

theorem ld (x : FVec Ideal S96x1024 .f32) : View.ld (Val := Elt Ideal) (e' := .f32) x r0_0 = x :=
  View.ld_unit_lit (Val := Elt Ideal) (e := .f32) (S := S96x1024) inb_S96x1024_S96x1024_0_0 x (by decide)
theorem zero : (![0, 0] : Fin S96x1024.rank → ℕ) = fun _ => 0 := funext fun a => by fin_cases a <;> rfl

theorem out4 (w g x y : FVec Ideal S96x1024 .f32) : out0_4 (F := Ideal) w g x y = deltas w g x y := by
  unfold out0_4
  rw [View.canon_unit_zero zero, ld, ld, ld, ld]
  unfold k0_pay3 k0_pay2 k0_pay1
  simp only [shapeCast_id]
  rfl
theorem out5 (w g x y : FVec Ideal S96x1024 .f32) : out0_5 (F := Ideal) w g x y = means g x := by
  unfold out0_5
  rw [View.canon_unit_zero zero, ld, ld]
  unfold k0_pay1
  simp only [shapeCast_id]
  rfl
theorem out6 (w g x y : FVec Ideal S96x1024 .f32) : out0_6 (F := Ideal) w g x y = squares g y := by
  unfold out0_6
  rw [View.canon_unit_zero zero, ld, ld]
  unfold k0_pay2
  simp only [shapeCast_id]
  rfl

/-! ## The blocks that a point reads lie where the block that it writes lies -/

theorem blk0 (t : Fin cfg0.N) (y : S96x1024.Idx) : (iblk m c 0 t : FVec Ideal S96x1024 .f32) y = X0 m c (((cfg0.win 4).blk t).view.emb y) :=
  congrFun (V_main_arg0 m c) _
theorem blk1 (t : Fin cfg0.N) (y : S96x1024.Idx) : (iblk m c 1 t : FVec Ideal S96x1024 .f32) y = X1 m c (((cfg0.win 4).blk t).view.emb y) :=
  congrFun (V_main_arg1 m c) _
theorem blk2 (t : Fin cfg0.N) (y : S96x1024.Idx) : (iblk m c 2 t : FVec Ideal S96x1024 .f32) y = X2 m c (((cfg0.win 4).blk t).view.emb y) :=
  congrFun (V_main_arg2 m c) _
theorem blk3 (t : Fin cfg0.N) (y : S96x1024.Idx) : (iblk m c 3 t : FVec Ideal S96x1024 .f32) y = X3 m c (((cfg0.win 4).blk t).view.emb y) :=
  congrFun (V_main_arg3 m c) _

/-! ## The three arrays after the run -/

theorem array4 : (dats m 0 c).arrAt 4 cfg0.N = deltas (X0 m c) (X1 m c) (X2 m c) (X3 m c) := by
  refine (dats m 0 c).arrAt_eq_of_covers 4 _ (by decide +kernel) fun t hf y => ?_
  blk_simp [after0_4]
  rw [out4]
  show delta ((iblk m c 0 t : FVec Ideal S96x1024 .f32) y) ((iblk m c 1 t : FVec Ideal S96x1024 .f32) y) ((iblk m c 2 t : FVec Ideal S96x1024 .f32) y) ((iblk m c 3 t : FVec Ideal S96x1024 .f32) y) = _
  rw [blk0, blk1, blk2, blk3]
  rfl
theorem array5 : (dats m 0 c).arrAt 5 cfg0.N = means (X1 m c) (X2 m c) := by
  refine (dats m 0 c).arrAt_eq_of_covers 5 _ (by decide +kernel) fun t hf y => ?_
  blk_simp [after0_5]
  rw [out5]
  show mean ((iblk m c 1 t : FVec Ideal S96x1024 .f32) y) ((iblk m c 2 t : FVec Ideal S96x1024 .f32) y) = _
  rw [blk1, blk2]
  rfl
theorem array6 : (dats m 0 c).arrAt 6 cfg0.N = squares (X1 m c) (X3 m c) := by
  refine (dats m 0 c).arrAt_eq_of_covers 6 _ (by decide +kernel) fun t hf y => ?_
  blk_simp [after0_6]
  rw [out6]
  show square ((iblk m c 1 t : FVec Ideal S96x1024 .f32) y) ((iblk m c 3 t : FVec Ideal S96x1024 .f32) y) = _
  rw [blk1, blk3]
  rfl

end Cert.AdamPackIdeal.Entry

namespace Cert.RefAdamPackIdeal.Value

open Idealize.ShloMosaic Idealize.ShloMosaic.TcCoe Idealize.SL.Sem Cert.Adam Read

variable (w g x y : FVec Ideal S96x1024 .f32)

theorem new_mean : val_main_v4 (F := Ideal) g x = means g x := by
  funext i
  rw [val_main_v4_apply, val_main_v1_apply, val_main_v3_apply, val_main_v0_apply, val_main_v2_apply]
  rfl
theorem new_square : val_main_v10 (F := Ideal) g y = squares g y := by
  funext i
  rw [val_main_v10_apply, val_main_v6_apply, val_main_v9_apply, val_main_v5_apply, val_main_v8_apply, val_main_v7_apply]
  rfl
theorem change : val_main_v23 (F := Ideal) w g x y = deltas w g x y := by
  funext i
  rw [val_main_v23_apply, val_main_v21_apply, val_main_v18_apply, val_main_v17_apply, val_main_v15_apply, val_main_v14_apply, val_main_v12_apply,
    val_main_v20_apply, val_main_v22_apply, val_main_v19_apply, val_main_v16_apply, val_main_v13_apply, val_main_v11_apply, new_mean, new_square]
  rfl

end Cert.RefAdamPackIdeal.Value

namespace Cert.AdamPackJoin

open Idealize.ShloMosaic Idealize.ShloMosaic.TcCoe Idealize.SL.Sem

/-- Both run, with equal results and their arguments kept. -/
theorem algebraic : @Cert.algebraic_AdamPackIdeal_RefAdamPackIdeal Cert.AdamPackIdeal.Gen.facts Cert.RefAdamPackIdeal.Gen.facts := by
  intro m g m' g' _ hargs
  refine ⟨fun c => RefAdamPackIdeal.Read.val_main_v23 (F := Ideal) (AdamPackIdeal.Entry.X0 m c) (AdamPackIdeal.Entry.X1 m c) (AdamPackIdeal.Entry.X2 m c) (AdamPackIdeal.Entry.X3 m c),
    fun c => RefAdamPackIdeal.Read.val_main_v4 (F := Ideal) (AdamPackIdeal.Entry.X1 m c) (AdamPackIdeal.Entry.X2 m c),
    fun c => RefAdamPackIdeal.Read.val_main_v10 (F := Ideal) (AdamPackIdeal.Entry.X1 m c) (AdamPackIdeal.Entry.X3 m c), ?_, ?_⟩
  · refine (θ_run AdamPackIdeal.defs _ _).mono (fun r h c => ⟨(h c).1.trans ?_, (h c).2.1.trans ?_, (h c).2.2.1.trans ?_, (h c).2.2.2⟩)
      (AdamPackIdeal.Value.run_blocks m g)
    · beta_reduce
      rw [RefAdamPackIdeal.Value.change]
      exact AdamPackIdeal.Entry.array4 m c
    · beta_reduce
      rw [RefAdamPackIdeal.Value.new_mean]
      exact AdamPackIdeal.Entry.array5 m c
    · beta_reduce
      rw [RefAdamPackIdeal.Value.new_square]
      exact AdamPackIdeal.Entry.array6 m c
  · have e0 : ∀ c : Dev RefAdamPackIdeal.nD, m' ((c.tc : Thread RefAdamPackIdeal.nD RefAdamPackIdeal.τ).loc RefAdamPackIdeal.main_arg0) = AdamPackIdeal.Entry.X0 m c := fun c => (hargs c).1
    have e1 : ∀ c : Dev RefAdamPackIdeal.nD, m' ((c.tc : Thread RefAdamPackIdeal.nD RefAdamPackIdeal.τ).loc RefAdamPackIdeal.main_arg1) = AdamPackIdeal.Entry.X1 m c := fun c => (hargs c).2.1
    have e2 : ∀ c : Dev RefAdamPackIdeal.nD, m' ((c.tc : Thread RefAdamPackIdeal.nD RefAdamPackIdeal.τ).loc RefAdamPackIdeal.main_arg2) = AdamPackIdeal.Entry.X2 m c := fun c => (hargs c).2.2.1
    have e3 : ∀ c : Dev RefAdamPackIdeal.nD, m' ((c.tc : Thread RefAdamPackIdeal.nD RefAdamPackIdeal.τ).loc RefAdamPackIdeal.main_arg3) = AdamPackIdeal.Entry.X3 m c := fun c => (hargs c).2.2.2
    refine (θ_run RefAdamPackIdeal.defs _ _).mono (fun r h c => ⟨(h c).1.trans ?_, (h c).2.1.trans ?_, (h c).2.2.1.trans ?_, (h c).2.2.2⟩)
      (RefAdamPackIdeal.Value.run (F := Ideal) m' g')
    · refine (RefAdamPackIdeal.Read.val_main_v23_eq (F := Ideal) (m' ((c.tc : Thread RefAdamPackIdeal.nD RefAdamPackIdeal.τ).loc RefAdamPackIdeal.main_arg0)) (m' ((c.tc : Thread RefAdamPackIdeal.nD RefAdamPackIdeal.τ).loc RefAdamPackIdeal.main_arg1)) (m' ((c.tc : Thread RefAdamPackIdeal.nD RefAdamPackIdeal.τ).loc RefAdamPackIdeal.main_arg2)) (m' ((c.tc : Thread RefAdamPackIdeal.nD RefAdamPackIdeal.τ).loc RefAdamPackIdeal.main_arg3))).trans ?_
      rw [e0, e1, e2, e3]
    · refine (RefAdamPackIdeal.Read.val_main_v4_eq (F := Ideal) (m' ((c.tc : Thread RefAdamPackIdeal.nD RefAdamPackIdeal.τ).loc RefAdamPackIdeal.main_arg1)) (m' ((c.tc : Thread RefAdamPackIdeal.nD RefAdamPackIdeal.τ).loc RefAdamPackIdeal.main_arg2))).trans ?_
      rw [e1, e2]
    · refine (RefAdamPackIdeal.Read.val_main_v10_eq (F := Ideal) (m' ((c.tc : Thread RefAdamPackIdeal.nD RefAdamPackIdeal.τ).loc RefAdamPackIdeal.main_arg1)) (m' ((c.tc : Thread RefAdamPackIdeal.nD RefAdamPackIdeal.τ).loc RefAdamPackIdeal.main_arg3))).trans ?_
      rw [e1, e3]

/-- The reference's frame: it runs, keeps its arguments and leaves every semaphore at zero. -/
theorem frameR (m : (ℓ : Loc RefAdamPackIdeal.nD RefAdamPackIdeal.τ RefAdamPackIdeal.sig) → Buf (Elt Ideal) ℓ) (ρ : Dev RefAdamPackIdeal.nD → PrngReg) :
    θ_run (RefAdamPackIdeal.defs (F := Ideal)) (onTc (τ := RefAdamPackIdeal.τ) (RefAdamPackIdeal.main (F := Ideal))) ⟨m, fun _ => 0, ρ⟩ (fun r => (∀ c : Dev RefAdamPackIdeal.nD,
      r.2.mem ((c.tc : Thread RefAdamPackIdeal.nD RefAdamPackIdeal.τ).loc RefAdamPackIdeal.main_arg0) = m ((c.tc : Thread RefAdamPackIdeal.nD RefAdamPackIdeal.τ).loc RefAdamPackIdeal.main_arg0)
      ∧ r.2.mem ((c.tc : Thread RefAdamPackIdeal.nD RefAdamPackIdeal.τ).loc RefAdamPackIdeal.main_arg1) = m ((c.tc : Thread RefAdamPackIdeal.nD RefAdamPackIdeal.τ).loc RefAdamPackIdeal.main_arg1)
      ∧ r.2.mem ((c.tc : Thread RefAdamPackIdeal.nD RefAdamPackIdeal.τ).loc RefAdamPackIdeal.main_arg2) = m ((c.tc : Thread RefAdamPackIdeal.nD RefAdamPackIdeal.τ).loc RefAdamPackIdeal.main_arg2)
      ∧ r.2.mem ((c.tc : Thread RefAdamPackIdeal.nD RefAdamPackIdeal.τ).loc RefAdamPackIdeal.main_arg3) = m ((c.tc : Thread RefAdamPackIdeal.nD RefAdamPackIdeal.τ).loc RefAdamPackIdeal.main_arg3))
      ∧ r.2.sem = fun _ => 0) :=
  (θ_run RefAdamPackIdeal.defs _ _).mono (fun r h => ⟨fun c => (h c).2.2.2, sem_eq_zero_of_no_sems (by decide) r.2⟩) (RefAdamPackIdeal.Value.run (F := Ideal) m ρ)

end Cert.AdamPackJoin

end
-- ==== Proof.AdamFfnInJoin.lean ====
/- The optimiser on the four layers' input projections of a feed-forward half-step, in its two calls: what the kernel's arrays and the reference's hold, and that they are equal. -/
module

public import proofs.«01_k».proof.Proof.Adam
public import proofs.«01_k».proof.Proof.Gen.AdamFfnInIdeal.Frame
public import proofs.«01_k».proof.Proof.Gen.RefAdamFfnInIdeal.Run
public import proofs.«01_k».proof.Proof.Gen.RefAdamFfnInIdeal.Read
public import Idealize.ShloMosaic.Lib.Pointwise
public import Idealize.ShloMosaic.Lib.Pipeline.ValueKit
public import Idealize.ShloMosaic.Lib.Claim

@[expose] public section

set_option maxRecDepth 16384

noncomputable section

namespace Cert.AdamFfnInIdeal.Entry

open Cert.AdamFfnInIdeal Cert.AdamFfnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Adam

variable (m : (ℓ : Loc nD τ sig) → Buf (Elt Ideal) ℓ) (ρ : Dev nD → PrngReg) (c : Dev nD)

/-- The arguments: the weight, its gradient as the first call takes it, its gradient as the second takes it, and the two moments. -/
abbrev X0 : FVec Ideal S4x1024x1408 .f32 := m ((c.tc : Thread nD τ).loc main_arg0)
abbrev X1 : FVec Ideal S4x1024x1408 .f32 := m ((c.tc : Thread nD τ).loc main_arg1)
abbrev X2 : FVec Ideal S4x1024x1408 .f32 := m ((c.tc : Thread nD τ).loc main_arg2)
abbrev X3 : FVec Ideal S4x1024x1408 .f32 := m ((c.tc : Thread nD τ).loc main_arg3)
abbrev X4 : FVec Ideal S4x1024x1408 .f32 := m ((c.tc : Thread nD τ).loc main_arg4)

/-- The arguments as the calls find them: the layers' rows under one another. -/
abbrev Y0 : FVec Ideal S4096x1408 .f32 := shapeCast S4096x1408 (X0 m c) shapeCasts_S4x1024x1408_S4096x1408
abbrev Y1 : FVec Ideal S4096x1408 .f32 := shapeCast S4096x1408 (X1 m c) shapeCasts_S4x1024x1408_S4096x1408
abbrev Y2 : FVec Ideal S4096x1408 .f32 := shapeCast S4096x1408 (X2 m c) shapeCasts_S4x1024x1408_S4096x1408
abbrev Y3 : FVec Ideal S4096x1408 .f32 := shapeCast S4096x1408 (X3 m c) shapeCasts_S4x1024x1408_S4096x1408
abbrev Y4 : FVec Ideal S4096x1408 .f32 := shapeCast S4096x1408 (X4 m c) shapeCasts_S4x1024x1408_S4096x1408
/-- The gradient that an entry's change is made of: the first call's from the second layer on, the second call's in the first layer. -/
def G : FVec Ideal S4096x1408 .f32 := fun i => if 4 ≤ (i 0 : ℕ) / 256 then Y1 m c i else Y2 m c i
theorem early_in0 : V1 m ρ c main_v0 = Y0 m c := by
  simp only [V1, W1, hostOps0]
  after_results_simp
  rfl
theorem early_in1 : V1 m ρ c main_v1 = Y1 m c := by
  simp only [V1, W1, hostOps0]
  after_results_simp
  rfl
theorem early_in2 : V1 m ρ c main_v2 = Y3 m c := by
  simp only [V1, W1, hostOps0]
  after_results_simp
  rfl
theorem early_in3 : V1 m ρ c main_v3 = Y4 m c := by
  simp only [V1, W1, hostOps0]
  after_results_simp
  rfl
theorem late_in0 : V3 m ρ c main_v5 = Y0 m c := by
  have h := W2_args m ρ c main_arg0 (by decide)
  simp only [V3, W3, hostOps1]
  after_results_simp
  rw [h]
  rfl
theorem late_in1 : V3 m ρ c main_v6 = Y2 m c := by
  have h := W2_args m ρ c main_arg2 (by decide)
  simp only [V3, W3, hostOps1]
  after_results_simp
  rw [h]
  rfl
theorem late_in2 : V3 m ρ c main_v7 = Y3 m c := by
  have h := W2_args m ρ c main_arg3 (by decide)
  simp only [V3, W3, hostOps1]
  after_results_simp
  rw [h]
  rfl
theorem late_in3 : V3 m ρ c main_v8 = Y4 m c := by
  have h := W2_args m ρ c main_arg4 (by decide)
  simp only [V3, W3, hostOps1]
  after_results_simp
  rw [h]
  rfl

/-- The second call starts from the first one's results. -/
theorem late_out4 : V3 m ρ c main_v9_0 = (dat0 (V1 m ρ) c).arrAt 4 cfg0.N := by
  have h := W2_arr m ρ c 4
  simp only [V3, W3, hostOps1]
  after_results_simp
  exact h
theorem late_out5 : V3 m ρ c main_v9_1 = (dat0 (V1 m ρ) c).arrAt 5 cfg0.N := by
  have h := W2_arr m ρ c 5
  simp only [V3, W3, hostOps1]
  after_results_simp
  exact h
theorem late_out6 : V3 m ρ c main_v9_2 = (dat0 (V1 m ρ) c).arrAt 6 cfg0.N := by
  have h := W2_arr m ρ c 6
  simp only [V3, W3, hostOps1]
  after_results_simp
  exact h

/-! ## What a point writes, in either call -/

theorem ld (x : FVec Ideal S256x1408 .f32) : View.ld (Val := Elt Ideal) (e' := .f32) x r0_0 = x :=
  View.ld_unit_lit (Val := Elt Ideal) (e := .f32) (S := S256x1408) inb_S256x1408_S256x1408_0_0 x (by decide)
theorem zero : (![0, 0] : Fin S256x1408.rank → ℕ) = fun _ => 0 := funext fun a => by fin_cases a <;> rfl

theorem out4 (w g x y : FVec Ideal S256x1408 .f32) : out0_4 (F := Ideal) w g x y = deltas w g x y := by
  unfold out0_4
  rw [View.canon_unit_zero zero, ld, ld, ld, ld]
  unfold k0_pay4 k0_pay3 k0_pay2 k0_pay1
  simp only [shapeCast_id]
  rfl
theorem out5 (w g x y : FVec Ideal S256x1408 .f32) : out0_5 (F := Ideal) w g x y = means g x := by
  unfold out0_5
  rw [View.canon_unit_zero zero, ld, ld]
  unfold k0_pay2 k0_pay1
  simp only [shapeCast_id]
  rfl
theorem out6 (w g x y : FVec Ideal S256x1408 .f32) : out0_6 (F := Ideal) w g x y = squares g y := by
  unfold out0_6
  rw [View.canon_unit_zero zero, ld, ld]
  unfold k0_pay3 k0_pay1
  simp only [shapeCast_id]
  rfl

abbrev B (w : Fin cfg1.W) (t : Fin cfg1.N) := iblk1 (V3 m ρ) c w t

theorem late4 (t : Fin cfg1.N) : (outsAt1 (V3 m ρ) c t).1 = deltas (B m ρ c 0 t) (B m ρ c 1 t) (B m ρ c 2 t) (B m ρ c 3 t) := by
  unfold outsAt1
  dsimp only
  frame_open
  frame_out
  unfold k1_pay4 k1_pay3 k1_pay2 k1_pay1
  simp only [shapeCast_id]
  rfl
theorem late5 (t : Fin cfg1.N) : (outsAt1 (V3 m ρ) c t).2.1 = means (B m ρ c 1 t) (B m ρ c 2 t) := by
  unfold outsAt1
  dsimp only
  frame_open
  frame_out
  unfold k1_pay2 k1_pay1
  simp only [shapeCast_id]
  rfl
theorem late6 (t : Fin cfg1.N) : (outsAt1 (V3 m ρ) c t).2.2 = squares (B m ρ c 1 t) (B m ρ c 3 t) := by
  unfold outsAt1
  dsimp only
  frame_open
  frame_out
  unfold k1_pay3 k1_pay1
  simp only [shapeCast_id]
  rfl

/-! ## The blocks that a point reads lie where the block that it writes lies -/

theorem blk0 (t : Fin cfg0.N) (y : S256x1408.Idx) : (iblk0 (V1 m ρ) c 0 t : FVec Ideal S256x1408 .f32) y = Y0 m c (((cfg0.win 4).blk t).view.emb y) :=
  congrFun (early_in0 m ρ c) _
theorem blk1 (t : Fin cfg0.N) (y : S256x1408.Idx) : (iblk0 (V1 m ρ) c 1 t : FVec Ideal S256x1408 .f32) y = Y1 m c (((cfg0.win 4).blk t).view.emb y) :=
  congrFun (early_in1 m ρ c) _
theorem blk2 (t : Fin cfg0.N) (y : S256x1408.Idx) : (iblk0 (V1 m ρ) c 2 t : FVec Ideal S256x1408 .f32) y = Y3 m c (((cfg0.win 4).blk t).view.emb y) :=
  congrFun (early_in2 m ρ c) _
theorem blk3 (t : Fin cfg0.N) (y : S256x1408.Idx) : (iblk0 (V1 m ρ) c 3 t : FVec Ideal S256x1408 .f32) y = Y4 m c (((cfg0.win 4).blk t).view.emb y) :=
  congrFun (early_in3 m ρ c) _
theorem late_blk0 (t : Fin cfg1.N) (y : S256x1408.Idx) : (B m ρ c 0 t : FVec Ideal S256x1408 .f32) y = Y0 m c (((cfg1.win 4).blk t).view.emb y) :=
  congrFun (late_in0 m ρ c) _
theorem late_blk1 (t : Fin cfg1.N) (y : S256x1408.Idx) : (B m ρ c 1 t : FVec Ideal S256x1408 .f32) y = Y2 m c (((cfg1.win 4).blk t).view.emb y) :=
  congrFun (late_in1 m ρ c) _
theorem late_blk2 (t : Fin cfg1.N) (y : S256x1408.Idx) : (B m ρ c 2 t : FVec Ideal S256x1408 .f32) y = Y3 m c (((cfg1.win 4).blk t).view.emb y) :=
  congrFun (late_in2 m ρ c) _
theorem late_blk3 (t : Fin cfg1.N) (y : S256x1408.Idx) : (B m ρ c 3 t : FVec Ideal S256x1408 .f32) y = Y4 m c (((cfg1.win 4).blk t).view.emb y) :=
  congrFun (late_in3 m ρ c) _

/-! ## The three arrays: the first call writes the rows of the layers after the first, the second those of the first -/

theorem early_array4 (i : S4096x1408.Idx) (h : 4 ≤ (i 0 : ℕ) / 256) :
    ((dat0 (V1 m ρ) c).arrAt 4 cfg0.N : FVec Ideal S4096x1408 .f32) i = deltas (Y0 m c) (Y1 m c) (Y3 m c) (Y4 m c) i := by
  refine ((dat0 (V1 m ρ) c).arrAt_apply_of_coversWhere 4 (deltas (Y0 m c) (Y1 m c) (Y3 m c) (Y4 m c)) (P := fun i => 4 ≤ (i 0 : ℕ) / 256) (fun β => 4 ≤ β (0 : Fin 2))
    (by decide +kernel) (fun t hf y => ?_) (fun j => Iff.rfl) i).trans (if_pos h)
  blk_simp [after0_4]
  rw [out4]
  show delta ((iblk0 (V1 m ρ) c 0 t : FVec Ideal S256x1408 .f32) y) ((iblk0 (V1 m ρ) c 1 t : FVec Ideal S256x1408 .f32) y) ((iblk0 (V1 m ρ) c 2 t : FVec Ideal S256x1408 .f32) y) ((iblk0 (V1 m ρ) c 3 t : FVec Ideal S256x1408 .f32) y) = _
  rw [blk0, blk1, blk2, blk3]
  rfl
theorem array4 : (dat1 (V3 m ρ) c).arrAt 4 cfg1.N = deltas (Y0 m c) (G m c) (Y3 m c) (Y4 m c) := by
  refine ((dat1 (V3 m ρ) c).arrAt_eq_of_coversWhere 4 (deltas (Y0 m c) (Y2 m c) (Y3 m c) (Y4 m c)) (P := fun i => ¬4 ≤ (i 0 : ℕ) / 256) (fun β => ¬4 ≤ β (0 : Fin 2))
    (by decide +kernel) (fun t hf y => ?_) (fun j => Iff.rfl)).trans (funext fun i => ?_)
  · blk_simp [after1_4]
    rw [late4]
    show delta ((B m ρ c 0 t : FVec Ideal S256x1408 .f32) y) ((B m ρ c 1 t : FVec Ideal S256x1408 .f32) y) ((B m ρ c 2 t : FVec Ideal S256x1408 .f32) y) ((B m ρ c 3 t : FVec Ideal S256x1408 .f32) y) = _
    rw [late_blk0, late_blk1, late_blk2, late_blk3]
    rfl
  · by_cases h : 4 ≤ (i 0 : ℕ) / 256
    · refine (if_neg (not_not_intro h)).trans ((congrFun (late_out4 m ρ c) i).trans ((early_array4 m ρ c i h).trans ?_))
      exact congrArg (fun z => delta (Y0 m c i) z (Y3 m c i) (Y4 m c i)) (if_pos h).symm
    · exact (if_pos h).trans (congrArg (fun z => delta (Y0 m c i) z (Y3 m c i) (Y4 m c i)) (if_neg h).symm)
theorem early_array5 (i : S4096x1408.Idx) (h : 4 ≤ (i 0 : ℕ) / 256) :
    ((dat0 (V1 m ρ) c).arrAt 5 cfg0.N : FVec Ideal S4096x1408 .f32) i = means (Y1 m c) (Y3 m c) i := by
  refine ((dat0 (V1 m ρ) c).arrAt_apply_of_coversWhere 5 (means (Y1 m c) (Y3 m c)) (P := fun i => 4 ≤ (i 0 : ℕ) / 256) (fun β => 4 ≤ β (0 : Fin 2))
    (by decide +kernel) (fun t hf y => ?_) (fun j => Iff.rfl) i).trans (if_pos h)
  blk_simp [after0_5]
  rw [out5]
  show mean ((iblk0 (V1 m ρ) c 1 t : FVec Ideal S256x1408 .f32) y) ((iblk0 (V1 m ρ) c 2 t : FVec Ideal S256x1408 .f32) y) = _
  rw [blk1, blk2]
  rfl
theorem array5 : (dat1 (V3 m ρ) c).arrAt 5 cfg1.N = means (G m c) (Y3 m c) := by
  refine ((dat1 (V3 m ρ) c).arrAt_eq_of_coversWhere 5 (means (Y2 m c) (Y3 m c)) (P := fun i => ¬4 ≤ (i 0 : ℕ) / 256) (fun β => ¬4 ≤ β (0 : Fin 2))
    (by decide +kernel) (fun t hf y => ?_) (fun j => Iff.rfl)).trans (funext fun i => ?_)
  · blk_simp [after1_5]
    rw [late5]
    show mean ((B m ρ c 1 t : FVec Ideal S256x1408 .f32) y) ((B m ρ c 2 t : FVec Ideal S256x1408 .f32) y) = _
    rw [late_blk1, late_blk2]
    rfl
  · by_cases h : 4 ≤ (i 0 : ℕ) / 256
    · refine (if_neg (not_not_intro h)).trans ((congrFun (late_out5 m ρ c) i).trans ((early_array5 m ρ c i h).trans ?_))
      exact congrArg (fun z => mean z (Y3 m c i)) (if_pos h).symm
    · exact (if_pos h).trans (congrArg (fun z => mean z (Y3 m c i)) (if_neg h).symm)
theorem early_array6 (i : S4096x1408.Idx) (h : 4 ≤ (i 0 : ℕ) / 256) :
    ((dat0 (V1 m ρ) c).arrAt 6 cfg0.N : FVec Ideal S4096x1408 .f32) i = squares (Y1 m c) (Y4 m c) i := by
  refine ((dat0 (V1 m ρ) c).arrAt_apply_of_coversWhere 6 (squares (Y1 m c) (Y4 m c)) (P := fun i => 4 ≤ (i 0 : ℕ) / 256) (fun β => 4 ≤ β (0 : Fin 2))
    (by decide +kernel) (fun t hf y => ?_) (fun j => Iff.rfl) i).trans (if_pos h)
  blk_simp [after0_6]
  rw [out6]
  show square ((iblk0 (V1 m ρ) c 1 t : FVec Ideal S256x1408 .f32) y) ((iblk0 (V1 m ρ) c 3 t : FVec Ideal S256x1408 .f32) y) = _
  rw [blk1, blk3]
  rfl
theorem array6 : (dat1 (V3 m ρ) c).arrAt 6 cfg1.N = squares (G m c) (Y4 m c) := by
  refine ((dat1 (V3 m ρ) c).arrAt_eq_of_coversWhere 6 (squares (Y2 m c) (Y4 m c)) (P := fun i => ¬4 ≤ (i 0 : ℕ) / 256) (fun β => ¬4 ≤ β (0 : Fin 2))
    (by decide +kernel) (fun t hf y => ?_) (fun j => Iff.rfl)).trans (funext fun i => ?_)
  · blk_simp [after1_6]
    rw [late6]
    show square ((B m ρ c 1 t : FVec Ideal S256x1408 .f32) y) ((B m ρ c 3 t : FVec Ideal S256x1408 .f32) y) = _
    rw [late_blk1, late_blk3]
    rfl
  · by_cases h : 4 ≤ (i 0 : ℕ) / 256
    · refine (if_neg (not_not_intro h)).trans ((congrFun (late_out6 m ρ c) i).trans ((early_array6 m ρ c i h).trans ?_))
      exact congrArg (fun z => square z (Y4 m c i)) (if_pos h).symm
    · exact (if_pos h).trans (congrArg (fun z => square z (Y4 m c i)) (if_neg h).symm)

/-! ## The launch -/

/-- The resources that the launch's assertions speak of. -/
abbrev Res := MT nD τ sig Unit (Elt Ideal) ℕ (UR sig nD τ) ℕ

-- the launch lemma's implicit arguments are found by unifying its conclusion with this one
set_option backward.isDefEq.respectTransparency.types false in
/-- The program ends with the three arrays as above and its arguments kept. -/
theorem ends : θ_run defs (onTc (τ := τ) (main (F := Ideal))) ⟨m, fun _ => 0, ρ⟩ fun r => ∀ c : Dev nD,
      r.2.mem ((c.tc : Thread nD τ).loc main_v9_0) = deltas (Y0 m c) (G m c) (Y3 m c) (Y4 m c)
      ∧ r.2.mem ((c.tc : Thread nD τ).loc main_v9_1) = means (G m c) (Y3 m c)
      ∧ r.2.mem ((c.tc : Thread nD τ).loc main_v9_2) = squares (G m c) (Y4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨((h c _ (mem_uc main_v9_0 (by decide))).trans (W4_arr m ρ c 4)).trans (array4 m ρ c),
       ((h c _ (mem_uc main_v9_1 (by decide))).trans (W4_arr m ρ c 5)).trans (array5 m ρ c),
       ((h c _ (mem_uc main_v9_2 (by decide))).trans (W4_arr m ρ c 6)).trans (array6 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.AdamFfnInIdeal.Entry

namespace Cert.RefAdamFfnInIdeal.Value

open Idealize.ShloMosaic Idealize.ShloMosaic.TcCoe Idealize.SL.Sem Cert.Adam Read

variable (w g₀ g x y : FVec Ideal S4x1024x1408 .f32)

/-- The gradient that the reference puts together, its layers' rows under one another. -/
theorem joined (h : S4x1024x1408.ShapeCasts S4096x1408) : shapeCast S4096x1408 (val_main_v2 (F := Ideal) g₀ g) h =
    fun i => if 4 ≤ (i 0 : ℕ) / 256 then shapeCast S4096x1408 g₀ h i else shapeCast S4096x1408 g h i := by
  funext i
  unfold val_main_v2 val_main_v1 val_main_v0
  obtain ⟨r, d, rfl⟩ : ∃ (r : Fin 4096) (d : Fin 1408), i = ix2 r d := ⟨i 0, i 1, funext fun a => by fin_cases a <;> rfl⟩
  pointwise
  by_cases hr : (r : ℕ) / 1024 < 1
  · exact (dif_pos hr).trans (if_neg (by omega)).symm
  · refine (dif_neg hr).trans (Eq.trans (congrArg g₀ (funext fun a => ?_)) (if_pos (by omega)).symm)
    fin_cases a
    · exact Fin.ext (show 1 + ((r : ℕ) / 1024 - 1) = (r : ℕ) / 1024 by omega)
    · rfl
    · rfl

theorem new_mean : val_main_v7 (F := Ideal) g₀ g x = means (val_main_v2 (F := Ideal) g₀ g) x := by
  funext i
  rw [val_main_v7_apply, val_main_v4_apply, val_main_v6_apply, val_main_v3_apply, val_main_v5_apply]
  rfl
theorem new_square : val_main_v13 (F := Ideal) g₀ g y = squares (val_main_v2 (F := Ideal) g₀ g) y := by
  funext i
  rw [val_main_v13_apply, val_main_v9_apply, val_main_v12_apply, val_main_v8_apply, val_main_v11_apply, val_main_v10_apply]
  rfl
theorem change : val_main_v26 (F := Ideal) w g₀ g x y = deltas w (val_main_v2 (F := Ideal) g₀ g) x y := by
  funext i
  rw [val_main_v26_apply, val_main_v24_apply, val_main_v21_apply, val_main_v20_apply, val_main_v18_apply, val_main_v17_apply, val_main_v15_apply,
    val_main_v23_apply, val_main_v25_apply, val_main_v22_apply, val_main_v19_apply, val_main_v16_apply, val_main_v14_apply, new_mean, new_square]
  rfl

end Cert.RefAdamFfnInIdeal.Value

namespace Cert.AdamFfnInJoin

open Idealize.ShloMosaic Idealize.ShloMosaic.TcCoe Idealize.SL.Sem Cert.Adam

/-- Both run, with equal results and their arguments kept. -/
theorem algebraic : @Cert.algebraic_AdamFfnInIdeal_RefAdamFfnInIdeal Cert.AdamFfnInIdeal.Gen.facts Cert.RefAdamFfnInIdeal.Gen.facts := by
  intro m g m' g' _ hargs
  refine ⟨fun c => RefAdamFfnInIdeal.Read.val_main_v27 (F := Ideal) (AdamFfnInIdeal.Entry.X0 m c) (AdamFfnInIdeal.Entry.X1 m c) (AdamFfnInIdeal.Entry.X2 m c) (AdamFfnInIdeal.Entry.X3 m c) (AdamFfnInIdeal.Entry.X4 m c),
    fun c => RefAdamFfnInIdeal.Read.val_main_v28 (F := Ideal) (AdamFfnInIdeal.Entry.X1 m c) (AdamFfnInIdeal.Entry.X2 m c) (AdamFfnInIdeal.Entry.X3 m c),
    fun c => RefAdamFfnInIdeal.Read.val_main_v29 (F := Ideal) (AdamFfnInIdeal.Entry.X1 m c) (AdamFfnInIdeal.Entry.X2 m c) (AdamFfnInIdeal.Entry.X4 m c), ?_, ?_⟩
  · refine (θ_run AdamFfnInIdeal.defs _ _).mono (fun r h c => ⟨(h c).1.trans ?_, (h c).2.1.trans ?_, (h c).2.2.1.trans ?_, (h c).2.2.2⟩)
      (AdamFfnInIdeal.Entry.ends m g)
    · beta_reduce
      unfold RefAdamFfnInIdeal.Read.val_main_v27
      rw [RefAdamFfnInIdeal.Value.change]
      exact congrArg (fun G => deltas (AdamFfnInIdeal.Entry.Y0 m c) G (AdamFfnInIdeal.Entry.Y3 m c) (AdamFfnInIdeal.Entry.Y4 m c)) (RefAdamFfnInIdeal.Value.joined _ _ _).symm
    · beta_reduce
      unfold RefAdamFfnInIdeal.Read.val_main_v28
      rw [RefAdamFfnInIdeal.Value.new_mean]
      exact congrArg (fun G => means G (AdamFfnInIdeal.Entry.Y3 m c)) (RefAdamFfnInIdeal.Value.joined _ _ _).symm
    · beta_reduce
      unfold RefAdamFfnInIdeal.Read.val_main_v29
      rw [RefAdamFfnInIdeal.Value.new_square]
      exact congrArg (fun G => squares G (AdamFfnInIdeal.Entry.Y4 m c)) (RefAdamFfnInIdeal.Value.joined _ _ _).symm
  · have e0 : ∀ c : Dev RefAdamFfnInIdeal.nD, m' ((c.tc : Thread RefAdamFfnInIdeal.nD RefAdamFfnInIdeal.τ).loc RefAdamFfnInIdeal.main_arg0) = AdamFfnInIdeal.Entry.X0 m c := fun c => (hargs c).1
    have e1 : ∀ c : Dev RefAdamFfnInIdeal.nD, m' ((c.tc : Thread RefAdamFfnInIdeal.nD RefAdamFfnInIdeal.τ).loc RefAdamFfnInIdeal.main_arg1) = AdamFfnInIdeal.Entry.X1 m c := fun c => (hargs c).2.1
    have e2 : ∀ c : Dev RefAdamFfnInIdeal.nD, m' ((c.tc : Thread RefAdamFfnInIdeal.nD RefAdamFfnInIdeal.τ).loc RefAdamFfnInIdeal.main_arg2) = AdamFfnInIdeal.Entry.X2 m c := fun c => (hargs c).2.2.1
    have e3 : ∀ c : Dev RefAdamFfnInIdeal.nD, m' ((c.tc : Thread RefAdamFfnInIdeal.nD RefAdamFfnInIdeal.τ).loc RefAdamFfnInIdeal.main_arg3) = AdamFfnInIdeal.Entry.X3 m c := fun c => (hargs c).2.2.2.1
    have e4 : ∀ c : Dev RefAdamFfnInIdeal.nD, m' ((c.tc : Thread RefAdamFfnInIdeal.nD RefAdamFfnInIdeal.τ).loc RefAdamFfnInIdeal.main_arg4) = AdamFfnInIdeal.Entry.X4 m c := fun c => (hargs c).2.2.2.2
    refine (θ_run RefAdamFfnInIdeal.defs _ _).mono (fun r h c => ⟨(h c).1.trans ?_, (h c).2.1.trans ?_, (h c).2.2.1.trans ?_, (h c).2.2.2⟩)
      (RefAdamFfnInIdeal.Value.run (F := Ideal) m' g')
    · refine (RefAdamFfnInIdeal.Read.val_main_v27_eq (F := Ideal) (m' ((c.tc : Thread RefAdamFfnInIdeal.nD RefAdamFfnInIdeal.τ).loc RefAdamFfnInIdeal.main_arg0)) (m' ((c.tc : Thread RefAdamFfnInIdeal.nD RefAdamFfnInIdeal.τ).loc RefAdamFfnInIdeal.main_arg1)) (m' ((c.tc : Thread RefAdamFfnInIdeal.nD RefAdamFfnInIdeal.τ).loc RefAdamFfnInIdeal.main_arg2)) (m' ((c.tc : Thread RefAdamFfnInIdeal.nD RefAdamFfnInIdeal.τ).loc RefAdamFfnInIdeal.main_arg3)) (m' ((c.tc : Thread RefAdamFfnInIdeal.nD RefAdamFfnInIdeal.τ).loc RefAdamFfnInIdeal.main_arg4))).trans ?_
      rw [e0, e1, e2, e3, e4]
    · refine (RefAdamFfnInIdeal.Read.val_main_v28_eq (F := Ideal) (m' ((c.tc : Thread RefAdamFfnInIdeal.nD RefAdamFfnInIdeal.τ).loc RefAdamFfnInIdeal.main_arg1)) (m' ((c.tc : Thread RefAdamFfnInIdeal.nD RefAdamFfnInIdeal.τ).loc RefAdamFfnInIdeal.main_arg2)) (m' ((c.tc : Thread RefAdamFfnInIdeal.nD RefAdamFfnInIdeal.τ).loc RefAdamFfnInIdeal.main_arg3))).trans ?_
      rw [e1, e2, e3]
    · refine (RefAdamFfnInIdeal.Read.val_main_v29_eq (F := Ideal) (m' ((c.tc : Thread RefAdamFfnInIdeal.nD RefAdamFfnInIdeal.τ).loc RefAdamFfnInIdeal.main_arg1)) (m' ((c.tc : Thread RefAdamFfnInIdeal.nD RefAdamFfnInIdeal.τ).loc RefAdamFfnInIdeal.main_arg2)) (m' ((c.tc : Thread RefAdamFfnInIdeal.nD RefAdamFfnInIdeal.τ).loc RefAdamFfnInIdeal.main_arg4))).trans ?_
      rw [e1, e2, e4]

/-- The reference's frame: it runs, keeps its arguments and leaves every semaphore at zero. -/
theorem frameR (m : (ℓ : Loc RefAdamFfnInIdeal.nD RefAdamFfnInIdeal.τ RefAdamFfnInIdeal.sig) → Buf (Elt Ideal) ℓ) (ρ : Dev RefAdamFfnInIdeal.nD → PrngReg) :
    θ_run (RefAdamFfnInIdeal.defs (F := Ideal)) (onTc (τ := RefAdamFfnInIdeal.τ) (RefAdamFfnInIdeal.main (F := Ideal))) ⟨m, fun _ => 0, ρ⟩ (fun r => (∀ c : Dev RefAdamFfnInIdeal.nD,
      r.2.mem ((c.tc : Thread RefAdamFfnInIdeal.nD RefAdamFfnInIdeal.τ).loc RefAdamFfnInIdeal.main_arg0) = m ((c.tc : Thread RefAdamFfnInIdeal.nD RefAdamFfnInIdeal.τ).loc RefAdamFfnInIdeal.main_arg0)
      ∧ r.2.mem ((c.tc : Thread RefAdamFfnInIdeal.nD RefAdamFfnInIdeal.τ).loc RefAdamFfnInIdeal.main_arg1) = m ((c.tc : Thread RefAdamFfnInIdeal.nD RefAdamFfnInIdeal.τ).loc RefAdamFfnInIdeal.main_arg1)
      ∧ r.2.mem ((c.tc : Thread RefAdamFfnInIdeal.nD RefAdamFfnInIdeal.τ).loc RefAdamFfnInIdeal.main_arg2) = m ((c.tc : Thread RefAdamFfnInIdeal.nD RefAdamFfnInIdeal.τ).loc RefAdamFfnInIdeal.main_arg2)
      ∧ r.2.mem ((c.tc : Thread RefAdamFfnInIdeal.nD RefAdamFfnInIdeal.τ).loc RefAdamFfnInIdeal.main_arg3) = m ((c.tc : Thread RefAdamFfnInIdeal.nD RefAdamFfnInIdeal.τ).loc RefAdamFfnInIdeal.main_arg3)
      ∧ r.2.mem ((c.tc : Thread RefAdamFfnInIdeal.nD RefAdamFfnInIdeal.τ).loc RefAdamFfnInIdeal.main_arg4) = m ((c.tc : Thread RefAdamFfnInIdeal.nD RefAdamFfnInIdeal.τ).loc RefAdamFfnInIdeal.main_arg4))
      ∧ r.2.sem = fun _ => 0) :=
  (θ_run RefAdamFfnInIdeal.defs _ _).mono (fun r h => ⟨fun c => (h c).2.2.2, sem_eq_zero_of_no_sems (by decide) r.2⟩) (RefAdamFfnInIdeal.Value.run (F := Ideal) m ρ)

end Cert.AdamFfnInJoin

end
-- ==== Proof.AdamFfnOutJoin.lean ====
/- The optimiser on the four layers' output projections of a feed-forward half-step, in its two calls: what the kernel's arrays and the reference's hold, and that they are equal. -/
module

public import proofs.«01_k».proof.Proof.Adam
public import proofs.«01_k».proof.Proof.Gen.AdamFfnOutIdeal.Frame
public import proofs.«01_k».proof.Proof.Gen.RefAdamFfnOutIdeal.Run
public import proofs.«01_k».proof.Proof.Gen.RefAdamFfnOutIdeal.Read
public import Idealize.ShloMosaic.Lib.Pointwise
public import Idealize.ShloMosaic.Lib.Pipeline.ValueKit
public import Idealize.ShloMosaic.Lib.Claim

@[expose] public section

set_option maxRecDepth 16384

noncomputable section

namespace Cert.AdamFfnOutIdeal.Entry

open Cert.AdamFfnOutIdeal Cert.AdamFfnOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Adam

variable (m : (ℓ : Loc nD τ sig) → Buf (Elt Ideal) ℓ) (ρ : Dev nD → PrngReg) (c : Dev nD)

/-- The arguments: the weight, its gradient as the first call takes it, its gradient as the second takes it, and the two moments. -/
abbrev X0 : FVec Ideal S4x704x1024 .f32 := m ((c.tc : Thread nD τ).loc main_arg0)
abbrev X1 : FVec Ideal S4x704x1024 .f32 := m ((c.tc : Thread nD τ).loc main_arg1)
abbrev X2 : FVec Ideal S4x704x1024 .f32 := m ((c.tc : Thread nD τ).loc main_arg2)
abbrev X3 : FVec Ideal S4x704x1024 .f32 := m ((c.tc : Thread nD τ).loc main_arg3)
abbrev X4 : FVec Ideal S4x704x1024 .f32 := m ((c.tc : Thread nD τ).loc main_arg4)

/-- The arguments as the calls find them: the layers' rows under one another. -/
abbrev Y0 : FVec Ideal S2816x1024 .f32 := shapeCast S2816x1024 (X0 m c) shapeCasts_S4x704x1024_S2816x1024
abbrev Y1 : FVec Ideal S2816x1024 .f32 := shapeCast S2816x1024 (X1 m c) shapeCasts_S4x704x1024_S2816x1024
abbrev Y2 : FVec Ideal S2816x1024 .f32 := shapeCast S2816x1024 (X2 m c) shapeCasts_S4x704x1024_S2816x1024
abbrev Y3 : FVec Ideal S2816x1024 .f32 := shapeCast S2816x1024 (X3 m c) shapeCasts_S4x704x1024_S2816x1024
abbrev Y4 : FVec Ideal S2816x1024 .f32 := shapeCast S2816x1024 (X4 m c) shapeCasts_S4x704x1024_S2816x1024
/-- The gradient that an entry's change is made of: the first call's from the second layer on, the second call's in the first layer. -/
def G : FVec Ideal S2816x1024 .f32 := fun i => if 2 ≤ (i 0 : ℕ) / 352 then Y1 m c i else Y2 m c i
theorem early_in0 : V1 m ρ c main_v0 = Y0 m c := by
  simp only [V1, W1, hostOps0]
  after_results_simp
  rfl
theorem early_in1 : V1 m ρ c main_v1 = Y1 m c := by
  simp only [V1, W1, hostOps0]
  after_results_simp
  rfl
theorem early_in2 : V1 m ρ c main_v2 = Y3 m c := by
  simp only [V1, W1, hostOps0]
  after_results_simp
  rfl
theorem early_in3 : V1 m ρ c main_v3 = Y4 m c := by
  simp only [V1, W1, hostOps0]
  after_results_simp
  rfl
theorem late_in0 : V3 m ρ c main_v5 = Y0 m c := by
  have h := W2_args m ρ c main_arg0 (by decide)
  simp only [V3, W3, hostOps1]
  after_results_simp
  rw [h]
  rfl
theorem late_in1 : V3 m ρ c main_v6 = Y2 m c := by
  have h := W2_args m ρ c main_arg2 (by decide)
  simp only [V3, W3, hostOps1]
  after_results_simp
  rw [h]
  rfl
theorem late_in2 : V3 m ρ c main_v7 = Y3 m c := by
  have h := W2_args m ρ c main_arg3 (by decide)
  simp only [V3, W3, hostOps1]
  after_results_simp
  rw [h]
  rfl
theorem late_in3 : V3 m ρ c main_v8 = Y4 m c := by
  have h := W2_args m ρ c main_arg4 (by decide)
  simp only [V3, W3, hostOps1]
  after_results_simp
  rw [h]
  rfl

/-- The second call starts from the first one's results. -/
theorem late_out4 : V3 m ρ c main_v9_0 = (dat0 (V1 m ρ) c).arrAt 4 cfg0.N := by
  have h := W2_arr m ρ c 4
  simp only [V3, W3, hostOps1]
  after_results_simp
  exact h
theorem late_out5 : V3 m ρ c main_v9_1 = (dat0 (V1 m ρ) c).arrAt 5 cfg0.N := by
  have h := W2_arr m ρ c 5
  simp only [V3, W3, hostOps1]
  after_results_simp
  exact h
theorem late_out6 : V3 m ρ c main_v9_2 = (dat0 (V1 m ρ) c).arrAt 6 cfg0.N := by
  have h := W2_arr m ρ c 6
  simp only [V3, W3, hostOps1]
  after_results_simp
  exact h

/-! ## What a point writes, in either call -/

theorem ld (x : FVec Ideal S352x1024 .f32) : View.ld (Val := Elt Ideal) (e' := .f32) x r0_0 = x :=
  View.ld_unit_lit (Val := Elt Ideal) (e := .f32) (S := S352x1024) inb_S352x1024_S352x1024_0_0 x (by decide)
theorem zero : (![0, 0] : Fin S352x1024.rank → ℕ) = fun _ => 0 := funext fun a => by fin_cases a <;> rfl

theorem out4 (w g x y : FVec Ideal S352x1024 .f32) : out0_4 (F := Ideal) w g x y = deltas w g x y := by
  unfold out0_4
  rw [View.canon_unit_zero zero, ld, ld, ld, ld]
  unfold k0_pay4 k0_pay3 k0_pay2 k0_pay1
  simp only [shapeCast_id]
  rfl
theorem out5 (w g x y : FVec Ideal S352x1024 .f32) : out0_5 (F := Ideal) w g x y = means g x := by
  unfold out0_5
  rw [View.canon_unit_zero zero, ld, ld]
  unfold k0_pay2 k0_pay1
  simp only [shapeCast_id]
  rfl
theorem out6 (w g x y : FVec Ideal S352x1024 .f32) : out0_6 (F := Ideal) w g x y = squares g y := by
  unfold out0_6
  rw [View.canon_unit_zero zero, ld, ld]
  unfold k0_pay3 k0_pay1
  simp only [shapeCast_id]
  rfl

abbrev B (w : Fin cfg1.W) (t : Fin cfg1.N) := iblk1 (V3 m ρ) c w t

theorem late4 (t : Fin cfg1.N) : (outsAt1 (V3 m ρ) c t).1 = deltas (B m ρ c 0 t) (B m ρ c 1 t) (B m ρ c 2 t) (B m ρ c 3 t) := by
  unfold outsAt1
  dsimp only
  frame_open
  frame_out
  unfold k1_pay4 k1_pay3 k1_pay2 k1_pay1
  simp only [shapeCast_id]
  rfl
theorem late5 (t : Fin cfg1.N) : (outsAt1 (V3 m ρ) c t).2.1 = means (B m ρ c 1 t) (B m ρ c 2 t) := by
  unfold outsAt1
  dsimp only
  frame_open
  frame_out
  unfold k1_pay2 k1_pay1
  simp only [shapeCast_id]
  rfl
theorem late6 (t : Fin cfg1.N) : (outsAt1 (V3 m ρ) c t).2.2 = squares (B m ρ c 1 t) (B m ρ c 3 t) := by
  unfold outsAt1
  dsimp only
  frame_open
  frame_out
  unfold k1_pay3 k1_pay1
  simp only [shapeCast_id]
  rfl

/-! ## The blocks that a point reads lie where the block that it writes lies -/

theorem blk0 (t : Fin cfg0.N) (y : S352x1024.Idx) : (iblk0 (V1 m ρ) c 0 t : FVec Ideal S352x1024 .f32) y = Y0 m c (((cfg0.win 4).blk t).view.emb y) :=
  congrFun (early_in0 m ρ c) _
theorem blk1 (t : Fin cfg0.N) (y : S352x1024.Idx) : (iblk0 (V1 m ρ) c 1 t : FVec Ideal S352x1024 .f32) y = Y1 m c (((cfg0.win 4).blk t).view.emb y) :=
  congrFun (early_in1 m ρ c) _
theorem blk2 (t : Fin cfg0.N) (y : S352x1024.Idx) : (iblk0 (V1 m ρ) c 2 t : FVec Ideal S352x1024 .f32) y = Y3 m c (((cfg0.win 4).blk t).view.emb y) :=
  congrFun (early_in2 m ρ c) _
theorem blk3 (t : Fin cfg0.N) (y : S352x1024.Idx) : (iblk0 (V1 m ρ) c 3 t : FVec Ideal S352x1024 .f32) y = Y4 m c (((cfg0.win 4).blk t).view.emb y) :=
  congrFun (early_in3 m ρ c) _
theorem late_blk0 (t : Fin cfg1.N) (y : S352x1024.Idx) : (B m ρ c 0 t : FVec Ideal S352x1024 .f32) y = Y0 m c (((cfg1.win 4).blk t).view.emb y) :=
  congrFun (late_in0 m ρ c) _
theorem late_blk1 (t : Fin cfg1.N) (y : S352x1024.Idx) : (B m ρ c 1 t : FVec Ideal S352x1024 .f32) y = Y2 m c (((cfg1.win 4).blk t).view.emb y) :=
  congrFun (late_in1 m ρ c) _
theorem late_blk2 (t : Fin cfg1.N) (y : S352x1024.Idx) : (B m ρ c 2 t : FVec Ideal S352x1024 .f32) y = Y3 m c (((cfg1.win 4).blk t).view.emb y) :=
  congrFun (late_in2 m ρ c) _
theorem late_blk3 (t : Fin cfg1.N) (y : S352x1024.Idx) : (B m ρ c 3 t : FVec Ideal S352x1024 .f32) y = Y4 m c (((cfg1.win 4).blk t).view.emb y) :=
  congrFun (late_in3 m ρ c) _

/-! ## The three arrays: the first call writes the rows of the layers after the first, the second those of the first -/

theorem early_array4 (i : S2816x1024.Idx) (h : 2 ≤ (i 0 : ℕ) / 352) :
    ((dat0 (V1 m ρ) c).arrAt 4 cfg0.N : FVec Ideal S2816x1024 .f32) i = deltas (Y0 m c) (Y1 m c) (Y3 m c) (Y4 m c) i := by
  refine ((dat0 (V1 m ρ) c).arrAt_apply_of_coversWhere 4 (deltas (Y0 m c) (Y1 m c) (Y3 m c) (Y4 m c)) (P := fun i => 2 ≤ (i 0 : ℕ) / 352) (fun β => 2 ≤ β (0 : Fin 2))
    (by decide +kernel) (fun t hf y => ?_) (fun j => Iff.rfl) i).trans (if_pos h)
  blk_simp [after0_4]
  rw [out4]
  show delta ((iblk0 (V1 m ρ) c 0 t : FVec Ideal S352x1024 .f32) y) ((iblk0 (V1 m ρ) c 1 t : FVec Ideal S352x1024 .f32) y) ((iblk0 (V1 m ρ) c 2 t : FVec Ideal S352x1024 .f32) y) ((iblk0 (V1 m ρ) c 3 t : FVec Ideal S352x1024 .f32) y) = _
  rw [blk0, blk1, blk2, blk3]
  rfl
theorem array4 : (dat1 (V3 m ρ) c).arrAt 4 cfg1.N = deltas (Y0 m c) (G m c) (Y3 m c) (Y4 m c) := by
  refine ((dat1 (V3 m ρ) c).arrAt_eq_of_coversWhere 4 (deltas (Y0 m c) (Y2 m c) (Y3 m c) (Y4 m c)) (P := fun i => ¬2 ≤ (i 0 : ℕ) / 352) (fun β => ¬2 ≤ β (0 : Fin 2))
    (by decide +kernel) (fun t hf y => ?_) (fun j => Iff.rfl)).trans (funext fun i => ?_)
  · blk_simp [after1_4]
    rw [late4]
    show delta ((B m ρ c 0 t : FVec Ideal S352x1024 .f32) y) ((B m ρ c 1 t : FVec Ideal S352x1024 .f32) y) ((B m ρ c 2 t : FVec Ideal S352x1024 .f32) y) ((B m ρ c 3 t : FVec Ideal S352x1024 .f32) y) = _
    rw [late_blk0, late_blk1, late_blk2, late_blk3]
    rfl
  · by_cases h : 2 ≤ (i 0 : ℕ) / 352
    · refine (if_neg (not_not_intro h)).trans ((congrFun (late_out4 m ρ c) i).trans ((early_array4 m ρ c i h).trans ?_))
      exact congrArg (fun z => delta (Y0 m c i) z (Y3 m c i) (Y4 m c i)) (if_pos h).symm
    · exact (if_pos h).trans (congrArg (fun z => delta (Y0 m c i) z (Y3 m c i) (Y4 m c i)) (if_neg h).symm)
theorem early_array5 (i : S2816x1024.Idx) (h : 2 ≤ (i 0 : ℕ) / 352) :
    ((dat0 (V1 m ρ) c).arrAt 5 cfg0.N : FVec Ideal S2816x1024 .f32) i = means (Y1 m c) (Y3 m c) i := by
  refine ((dat0 (V1 m ρ) c).arrAt_apply_of_coversWhere 5 (means (Y1 m c) (Y3 m c)) (P := fun i => 2 ≤ (i 0 : ℕ) / 352) (fun β => 2 ≤ β (0 : Fin 2))
    (by decide +kernel) (fun t hf y => ?_) (fun j => Iff.rfl) i).trans (if_pos h)
  blk_simp [after0_5]
  rw [out5]
  show mean ((iblk0 (V1 m ρ) c 1 t : FVec Ideal S352x1024 .f32) y) ((iblk0 (V1 m ρ) c 2 t : FVec Ideal S352x1024 .f32) y) = _
  rw [blk1, blk2]
  rfl
theorem array5 : (dat1 (V3 m ρ) c).arrAt 5 cfg1.N = means (G m c) (Y3 m c) := by
  refine ((dat1 (V3 m ρ) c).arrAt_eq_of_coversWhere 5 (means (Y2 m c) (Y3 m c)) (P := fun i => ¬2 ≤ (i 0 : ℕ) / 352) (fun β => ¬2 ≤ β (0 : Fin 2))
    (by decide +kernel) (fun t hf y => ?_) (fun j => Iff.rfl)).trans (funext fun i => ?_)
  · blk_simp [after1_5]
    rw [late5]
    show mean ((B m ρ c 1 t : FVec Ideal S352x1024 .f32) y) ((B m ρ c 2 t : FVec Ideal S352x1024 .f32) y) = _
    rw [late_blk1, late_blk2]
    rfl
  · by_cases h : 2 ≤ (i 0 : ℕ) / 352
    · refine (if_neg (not_not_intro h)).trans ((congrFun (late_out5 m ρ c) i).trans ((early_array5 m ρ c i h).trans ?_))
      exact congrArg (fun z => mean z (Y3 m c i)) (if_pos h).symm
    · exact (if_pos h).trans (congrArg (fun z => mean z (Y3 m c i)) (if_neg h).symm)
theorem early_array6 (i : S2816x1024.Idx) (h : 2 ≤ (i 0 : ℕ) / 352) :
    ((dat0 (V1 m ρ) c).arrAt 6 cfg0.N : FVec Ideal S2816x1024 .f32) i = squares (Y1 m c) (Y4 m c) i := by
  refine ((dat0 (V1 m ρ) c).arrAt_apply_of_coversWhere 6 (squares (Y1 m c) (Y4 m c)) (P := fun i => 2 ≤ (i 0 : ℕ) / 352) (fun β => 2 ≤ β (0 : Fin 2))
    (by decide +kernel) (fun t hf y => ?_) (fun j => Iff.rfl) i).trans (if_pos h)
  blk_simp [after0_6]
  rw [out6]
  show square ((iblk0 (V1 m ρ) c 1 t : FVec Ideal S352x1024 .f32) y) ((iblk0 (V1 m ρ) c 3 t : FVec Ideal S352x1024 .f32) y) = _
  rw [blk1, blk3]
  rfl
theorem array6 : (dat1 (V3 m ρ) c).arrAt 6 cfg1.N = squares (G m c) (Y4 m c) := by
  refine ((dat1 (V3 m ρ) c).arrAt_eq_of_coversWhere 6 (squares (Y2 m c) (Y4 m c)) (P := fun i => ¬2 ≤ (i 0 : ℕ) / 352) (fun β => ¬2 ≤ β (0 : Fin 2))
    (by decide +kernel) (fun t hf y => ?_) (fun j => Iff.rfl)).trans (funext fun i => ?_)
  · blk_simp [after1_6]
    rw [late6]
    show square ((B m ρ c 1 t : FVec Ideal S352x1024 .f32) y) ((B m ρ c 3 t : FVec Ideal S352x1024 .f32) y) = _
    rw [late_blk1, late_blk3]
    rfl
  · by_cases h : 2 ≤ (i 0 : ℕ) / 352
    · refine (if_neg (not_not_intro h)).trans ((congrFun (late_out6 m ρ c) i).trans ((early_array6 m ρ c i h).trans ?_))
      exact congrArg (fun z => square z (Y4 m c i)) (if_pos h).symm
    · exact (if_pos h).trans (congrArg (fun z => square z (Y4 m c i)) (if_neg h).symm)

/-! ## The launch -/

/-- The resources that the launch's assertions speak of. -/
abbrev Res := MT nD τ sig Unit (Elt Ideal) ℕ (UR sig nD τ) ℕ

-- the launch lemma's implicit arguments are found by unifying its conclusion with this one
set_option backward.isDefEq.respectTransparency.types false in
/-- The program ends with the three arrays as above and its arguments kept. -/
theorem ends : θ_run defs (onTc (τ := τ) (main (F := Ideal))) ⟨m, fun _ => 0, ρ⟩ fun r => ∀ c : Dev nD,
      r.2.mem ((c.tc : Thread nD τ).loc main_v9_0) = deltas (Y0 m c) (G m c) (Y3 m c) (Y4 m c)
      ∧ r.2.mem ((c.tc : Thread nD τ).loc main_v9_1) = means (G m c) (Y3 m c)
      ∧ r.2.mem ((c.tc : Thread nD τ).loc main_v9_2) = squares (G m c) (Y4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨((h c _ (mem_uc main_v9_0 (by decide))).trans (W4_arr m ρ c 4)).trans (array4 m ρ c),
       ((h c _ (mem_uc main_v9_1 (by decide))).trans (W4_arr m ρ c 5)).trans (array5 m ρ c),
       ((h c _ (mem_uc main_v9_2 (by decide))).trans (W4_arr m ρ c 6)).trans (array6 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.AdamFfnOutIdeal.Entry

namespace Cert.RefAdamFfnOutIdeal.Value

open Idealize.ShloMosaic Idealize.ShloMosaic.TcCoe Idealize.SL.Sem Cert.Adam Read

variable (w g₀ g x y : FVec Ideal S4x704x1024 .f32)

/-- The gradient that the reference puts together, its layers' rows under one another. -/
theorem joined (h : S4x704x1024.ShapeCasts S2816x1024) : shapeCast S2816x1024 (val_main_v2 (F := Ideal) g₀ g) h =
    fun i => if 2 ≤ (i 0 : ℕ) / 352 then shapeCast S2816x1024 g₀ h i else shapeCast S2816x1024 g h i := by
  funext i
  unfold val_main_v2 val_main_v1 val_main_v0
  obtain ⟨r, d, rfl⟩ : ∃ (r : Fin 2816) (d : Fin 1024), i = ix2 r d := ⟨i 0, i 1, funext fun a => by fin_cases a <;> rfl⟩
  pointwise
  by_cases hr : (r : ℕ) / 704 < 1
  · exact (dif_pos hr).trans (if_neg (by omega)).symm
  · refine (dif_neg hr).trans (Eq.trans (congrArg g₀ (funext fun a => ?_)) (if_pos (by omega)).symm)
    fin_cases a
    · exact Fin.ext (show 1 + ((r : ℕ) / 704 - 1) = (r : ℕ) / 704 by omega)
    · rfl
    · rfl

theorem new_mean : val_main_v7 (F := Ideal) g₀ g x = means (val_main_v2 (F := Ideal) g₀ g) x := by
  funext i
  rw [val_main_v7_apply, val_main_v4_apply, val_main_v6_apply, val_main_v3_apply, val_main_v5_apply]
  rfl
theorem new_square : val_main_v13 (F := Ideal) g₀ g y = squares (val_main_v2 (F := Ideal) g₀ g) y := by
  funext i
  rw [val_main_v13_apply, val_main_v9_apply, val_main_v12_apply, val_main_v8_apply, val_main_v11_apply, val_main_v10_apply]
  rfl
theorem change : val_main_v26 (F := Ideal) w g₀ g x y = deltas w (val_main_v2 (F := Ideal) g₀ g) x y := by
  funext i
  rw [val_main_v26_apply, val_main_v24_apply, val_main_v21_apply, val_main_v20_apply, val_main_v18_apply, val_main_v17_apply, val_main_v15_apply,
    val_main_v23_apply, val_main_v25_apply, val_main_v22_apply, val_main_v19_apply, val_main_v16_apply, val_main_v14_apply, new_mean, new_square]
  rfl

end Cert.RefAdamFfnOutIdeal.Value

namespace Cert.AdamFfnOutJoin

open Idealize.ShloMosaic Idealize.ShloMosaic.TcCoe Idealize.SL.Sem Cert.Adam

/-- Both run, with equal results and their arguments kept. -/
theorem algebraic : @Cert.algebraic_AdamFfnOutIdeal_RefAdamFfnOutIdeal Cert.AdamFfnOutIdeal.Gen.facts Cert.RefAdamFfnOutIdeal.Gen.facts := by
  intro m g m' g' _ hargs
  refine ⟨fun c => RefAdamFfnOutIdeal.Read.val_main_v27 (F := Ideal) (AdamFfnOutIdeal.Entry.X0 m c) (AdamFfnOutIdeal.Entry.X1 m c) (AdamFfnOutIdeal.Entry.X2 m c) (AdamFfnOutIdeal.Entry.X3 m c) (AdamFfnOutIdeal.Entry.X4 m c),
    fun c => RefAdamFfnOutIdeal.Read.val_main_v28 (F := Ideal) (AdamFfnOutIdeal.Entry.X1 m c) (AdamFfnOutIdeal.Entry.X2 m c) (AdamFfnOutIdeal.Entry.X3 m c),
    fun c => RefAdamFfnOutIdeal.Read.val_main_v29 (F := Ideal) (AdamFfnOutIdeal.Entry.X1 m c) (AdamFfnOutIdeal.Entry.X2 m c) (AdamFfnOutIdeal.Entry.X4 m c), ?_, ?_⟩
  · refine (θ_run AdamFfnOutIdeal.defs _ _).mono (fun r h c => ⟨(h c).1.trans ?_, (h c).2.1.trans ?_, (h c).2.2.1.trans ?_, (h c).2.2.2⟩)
      (AdamFfnOutIdeal.Entry.ends m g)
    · beta_reduce
      unfold RefAdamFfnOutIdeal.Read.val_main_v27
      rw [RefAdamFfnOutIdeal.Value.change]
      exact congrArg (fun G => deltas (AdamFfnOutIdeal.Entry.Y0 m c) G (AdamFfnOutIdeal.Entry.Y3 m c) (AdamFfnOutIdeal.Entry.Y4 m c)) (RefAdamFfnOutIdeal.Value.joined _ _ _).symm
    · beta_reduce
      unfold RefAdamFfnOutIdeal.Read.val_main_v28
      rw [RefAdamFfnOutIdeal.Value.new_mean]
      exact congrArg (fun G => means G (AdamFfnOutIdeal.Entry.Y3 m c)) (RefAdamFfnOutIdeal.Value.joined _ _ _).symm
    · beta_reduce
      unfold RefAdamFfnOutIdeal.Read.val_main_v29
      rw [RefAdamFfnOutIdeal.Value.new_square]
      exact congrArg (fun G => squares G (AdamFfnOutIdeal.Entry.Y4 m c)) (RefAdamFfnOutIdeal.Value.joined _ _ _).symm
  · have e0 : ∀ c : Dev RefAdamFfnOutIdeal.nD, m' ((c.tc : Thread RefAdamFfnOutIdeal.nD RefAdamFfnOutIdeal.τ).loc RefAdamFfnOutIdeal.main_arg0) = AdamFfnOutIdeal.Entry.X0 m c := fun c => (hargs c).1
    have e1 : ∀ c : Dev RefAdamFfnOutIdeal.nD, m' ((c.tc : Thread RefAdamFfnOutIdeal.nD RefAdamFfnOutIdeal.τ).loc RefAdamFfnOutIdeal.main_arg1) = AdamFfnOutIdeal.Entry.X1 m c := fun c => (hargs c).2.1
    have e2 : ∀ c : Dev RefAdamFfnOutIdeal.nD, m' ((c.tc : Thread RefAdamFfnOutIdeal.nD RefAdamFfnOutIdeal.τ).loc RefAdamFfnOutIdeal.main_arg2) = AdamFfnOutIdeal.Entry.X2 m c := fun c => (hargs c).2.2.1
    have e3 : ∀ c : Dev RefAdamFfnOutIdeal.nD, m' ((c.tc : Thread RefAdamFfnOutIdeal.nD RefAdamFfnOutIdeal.τ).loc RefAdamFfnOutIdeal.main_arg3) = AdamFfnOutIdeal.Entry.X3 m c := fun c => (hargs c).2.2.2.1
    have e4 : ∀ c : Dev RefAdamFfnOutIdeal.nD, m' ((c.tc : Thread RefAdamFfnOutIdeal.nD RefAdamFfnOutIdeal.τ).loc RefAdamFfnOutIdeal.main_arg4) = AdamFfnOutIdeal.Entry.X4 m c := fun c => (hargs c).2.2.2.2
    refine (θ_run RefAdamFfnOutIdeal.defs _ _).mono (fun r h c => ⟨(h c).1.trans ?_, (h c).2.1.trans ?_, (h c).2.2.1.trans ?_, (h c).2.2.2⟩)
      (RefAdamFfnOutIdeal.Value.run (F := Ideal) m' g')
    · refine (RefAdamFfnOutIdeal.Read.val_main_v27_eq (F := Ideal) (m' ((c.tc : Thread RefAdamFfnOutIdeal.nD RefAdamFfnOutIdeal.τ).loc RefAdamFfnOutIdeal.main_arg0)) (m' ((c.tc : Thread RefAdamFfnOutIdeal.nD RefAdamFfnOutIdeal.τ).loc RefAdamFfnOutIdeal.main_arg1)) (m' ((c.tc : Thread RefAdamFfnOutIdeal.nD RefAdamFfnOutIdeal.τ).loc RefAdamFfnOutIdeal.main_arg2)) (m' ((c.tc : Thread RefAdamFfnOutIdeal.nD RefAdamFfnOutIdeal.τ).loc RefAdamFfnOutIdeal.main_arg3)) (m' ((c.tc : Thread RefAdamFfnOutIdeal.nD RefAdamFfnOutIdeal.τ).loc RefAdamFfnOutIdeal.main_arg4))).trans ?_
      rw [e0, e1, e2, e3, e4]
    · refine (RefAdamFfnOutIdeal.Read.val_main_v28_eq (F := Ideal) (m' ((c.tc : Thread RefAdamFfnOutIdeal.nD RefAdamFfnOutIdeal.τ).loc RefAdamFfnOutIdeal.main_arg1)) (m' ((c.tc : Thread RefAdamFfnOutIdeal.nD RefAdamFfnOutIdeal.τ).loc RefAdamFfnOutIdeal.main_arg2)) (m' ((c.tc : Thread RefAdamFfnOutIdeal.nD RefAdamFfnOutIdeal.τ).loc RefAdamFfnOutIdeal.main_arg3))).trans ?_
      rw [e1, e2, e3]
    · refine (RefAdamFfnOutIdeal.Read.val_main_v29_eq (F := Ideal) (m' ((c.tc : Thread RefAdamFfnOutIdeal.nD RefAdamFfnOutIdeal.τ).loc RefAdamFfnOutIdeal.main_arg1)) (m' ((c.tc : Thread RefAdamFfnOutIdeal.nD RefAdamFfnOutIdeal.τ).loc RefAdamFfnOutIdeal.main_arg2)) (m' ((c.tc : Thread RefAdamFfnOutIdeal.nD RefAdamFfnOutIdeal.τ).loc RefAdamFfnOutIdeal.main_arg4))).trans ?_
      rw [e1, e2, e4]

/-- The reference's frame: it runs, keeps its arguments and leaves every semaphore at zero. -/
theorem frameR (m : (ℓ : Loc RefAdamFfnOutIdeal.nD RefAdamFfnOutIdeal.τ RefAdamFfnOutIdeal.sig) → Buf (Elt Ideal) ℓ) (ρ : Dev RefAdamFfnOutIdeal.nD → PrngReg) :
    θ_run (RefAdamFfnOutIdeal.defs (F := Ideal)) (onTc (τ := RefAdamFfnOutIdeal.τ) (RefAdamFfnOutIdeal.main (F := Ideal))) ⟨m, fun _ => 0, ρ⟩ (fun r => (∀ c : Dev RefAdamFfnOutIdeal.nD,
      r.2.mem ((c.tc : Thread RefAdamFfnOutIdeal.nD RefAdamFfnOutIdeal.τ).loc RefAdamFfnOutIdeal.main_arg0) = m ((c.tc : Thread RefAdamFfnOutIdeal.nD RefAdamFfnOutIdeal.τ).loc RefAdamFfnOutIdeal.main_arg0)
      ∧ r.2.mem ((c.tc : Thread RefAdamFfnOutIdeal.nD RefAdamFfnOutIdeal.τ).loc RefAdamFfnOutIdeal.main_arg1) = m ((c.tc : Thread RefAdamFfnOutIdeal.nD RefAdamFfnOutIdeal.τ).loc RefAdamFfnOutIdeal.main_arg1)
      ∧ r.2.mem ((c.tc : Thread RefAdamFfnOutIdeal.nD RefAdamFfnOutIdeal.τ).loc RefAdamFfnOutIdeal.main_arg2) = m ((c.tc : Thread RefAdamFfnOutIdeal.nD RefAdamFfnOutIdeal.τ).loc RefAdamFfnOutIdeal.main_arg2)
      ∧ r.2.mem ((c.tc : Thread RefAdamFfnOutIdeal.nD RefAdamFfnOutIdeal.τ).loc RefAdamFfnOutIdeal.main_arg3) = m ((c.tc : Thread RefAdamFfnOutIdeal.nD RefAdamFfnOutIdeal.τ).loc RefAdamFfnOutIdeal.main_arg3)
      ∧ r.2.mem ((c.tc : Thread RefAdamFfnOutIdeal.nD RefAdamFfnOutIdeal.τ).loc RefAdamFfnOutIdeal.main_arg4) = m ((c.tc : Thread RefAdamFfnOutIdeal.nD RefAdamFfnOutIdeal.τ).loc RefAdamFfnOutIdeal.main_arg4))
      ∧ r.2.sem = fun _ => 0) :=
  (θ_run RefAdamFfnOutIdeal.defs _ _).mono (fun r h => ⟨fun c => (h c).2.2.2, sem_eq_zero_of_no_sems (by decide) r.2⟩) (RefAdamFfnOutIdeal.Value.run (F := Ideal) m ρ)

end Cert.AdamFfnOutJoin

end
-- ==== Proof.AdamHybInJoin.lean ====
/- The optimiser on the two hybrid layers' input projections, in its two calls: what the kernel's arrays and the reference's hold, and that they are equal. -/
module

public import proofs.«01_k».proof.Proof.Adam
public import proofs.«01_k».proof.Proof.Gen.AdamHybInIdeal.Frame
public import proofs.«01_k».proof.Proof.Gen.RefAdamHybInIdeal.Run
public import proofs.«01_k».proof.Proof.Gen.RefAdamHybInIdeal.Read
public import Idealize.ShloMosaic.Lib.Pointwise
public import Idealize.ShloMosaic.Lib.Pipeline.ValueKit
public import Idealize.ShloMosaic.Lib.Claim

@[expose] public section

set_option maxRecDepth 16384

noncomputable section

namespace Cert.AdamHybInIdeal.Entry

open Cert.AdamHybInIdeal Cert.AdamHybInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Adam

variable (m : (ℓ : Loc nD τ sig) → Buf (Elt Ideal) ℓ) (ρ : Dev nD → PrngReg) (c : Dev nD)

/-- The arguments: the weight, its gradient as the first call takes it, its gradient as the second takes it, and the two moments. -/
abbrev X0 : FVec Ideal S2x1024x640 .f32 := m ((c.tc : Thread nD τ).loc main_arg0)
abbrev X1 : FVec Ideal S2x1024x640 .f32 := m ((c.tc : Thread nD τ).loc main_arg1)
abbrev X2 : FVec Ideal S2x1024x640 .f32 := m ((c.tc : Thread nD τ).loc main_arg2)
abbrev X3 : FVec Ideal S2x1024x640 .f32 := m ((c.tc : Thread nD τ).loc main_arg3)
abbrev X4 : FVec Ideal S2x1024x640 .f32 := m ((c.tc : Thread nD τ).loc main_arg4)

/-- The arguments as the calls find them: the layers' rows under one another. -/
abbrev Y0 : FVec Ideal S2048x640 .f32 := shapeCast S2048x640 (X0 m c) shapeCasts_S2x1024x640_S2048x640
abbrev Y1 : FVec Ideal S2048x640 .f32 := shapeCast S2048x640 (X1 m c) shapeCasts_S2x1024x640_S2048x640
abbrev Y2 : FVec Ideal S2048x640 .f32 := shapeCast S2048x640 (X2 m c) shapeCasts_S2x1024x640_S2048x640
abbrev Y3 : FVec Ideal S2048x640 .f32 := shapeCast S2048x640 (X3 m c) shapeCasts_S2x1024x640_S2048x640
abbrev Y4 : FVec Ideal S2048x640 .f32 := shapeCast S2048x640 (X4 m c) shapeCasts_S2x1024x640_S2048x640
/-- The gradient that an entry's change is made of: the first call's from the second layer on, the second call's in the first layer. -/
def G : FVec Ideal S2048x640 .f32 := fun i => if 4 ≤ (i 0 : ℕ) / 256 then Y1 m c i else Y2 m c i
theorem early_in0 : V1 m ρ c main_v0 = Y0 m c := by
  simp only [V1, W1, hostOps0]
  after_results_simp
  rfl
theorem early_in1 : V1 m ρ c main_v1 = Y1 m c := by
  simp only [V1, W1, hostOps0]
  after_results_simp
  rfl
theorem early_in2 : V1 m ρ c main_v2 = Y3 m c := by
  simp only [V1, W1, hostOps0]
  after_results_simp
  rfl
theorem early_in3 : V1 m ρ c main_v3 = Y4 m c := by
  simp only [V1, W1, hostOps0]
  after_results_simp
  rfl
theorem late_in0 : V3 m ρ c main_v5 = Y0 m c := by
  have h := W2_args m ρ c main_arg0 (by decide)
  simp only [V3, W3, hostOps1]
  after_results_simp
  rw [h]
  rfl
theorem late_in1 : V3 m ρ c main_v6 = Y2 m c := by
  have h := W2_args m ρ c main_arg2 (by decide)
  simp only [V3, W3, hostOps1]
  after_results_simp
  rw [h]
  rfl
theorem late_in2 : V3 m ρ c main_v7 = Y3 m c := by
  have h := W2_args m ρ c main_arg3 (by decide)
  simp only [V3, W3, hostOps1]
  after_results_simp
  rw [h]
  rfl
theorem late_in3 : V3 m ρ c main_v8 = Y4 m c := by
  have h := W2_args m ρ c main_arg4 (by decide)
  simp only [V3, W3, hostOps1]
  after_results_simp
  rw [h]
  rfl

/-- The second call starts from the first one's results. -/
theorem late_out4 : V3 m ρ c main_v9_0 = (dat0 (V1 m ρ) c).arrAt 4 cfg0.N := by
  have h := W2_arr m ρ c 4
  simp only [V3, W3, hostOps1]
  after_results_simp
  exact h
theorem late_out5 : V3 m ρ c main_v9_1 = (dat0 (V1 m ρ) c).arrAt 5 cfg0.N := by
  have h := W2_arr m ρ c 5
  simp only [V3, W3, hostOps1]
  after_results_simp
  exact h
theorem late_out6 : V3 m ρ c main_v9_2 = (dat0 (V1 m ρ) c).arrAt 6 cfg0.N := by
  have h := W2_arr m ρ c 6
  simp only [V3, W3, hostOps1]
  after_results_simp
  exact h

/-! ## What a point writes, in either call -/

theorem ld (x : FVec Ideal S256x640 .f32) : View.ld (Val := Elt Ideal) (e' := .f32) x r0_0 = x :=
  View.ld_unit_lit (Val := Elt Ideal) (e := .f32) (S := S256x640) inb_S256x640_S256x640_0_0 x (by decide)
theorem zero : (![0, 0] : Fin S256x640.rank → ℕ) = fun _ => 0 := funext fun a => by fin_cases a <;> rfl

theorem out4 (w g x y : FVec Ideal S256x640 .f32) : out0_4 (F := Ideal) w g x y = deltas w g x y := by
  unfold out0_4
  rw [View.canon_unit_zero zero, ld, ld, ld, ld]
  unfold k0_pay4 k0_pay3 k0_pay2 k0_pay1
  simp only [shapeCast_id]
  rfl
theorem out5 (w g x y : FVec Ideal S256x640 .f32) : out0_5 (F := Ideal) w g x y = means g x := by
  unfold out0_5
  rw [View.canon_unit_zero zero, ld, ld]
  unfold k0_pay2 k0_pay1
  simp only [shapeCast_id]
  rfl
theorem out6 (w g x y : FVec Ideal S256x640 .f32) : out0_6 (F := Ideal) w g x y = squares g y := by
  unfold out0_6
  rw [View.canon_unit_zero zero, ld, ld]
  unfold k0_pay3 k0_pay1
  simp only [shapeCast_id]
  rfl

abbrev B (w : Fin cfg1.W) (t : Fin cfg1.N) := iblk1 (V3 m ρ) c w t

theorem late4 (t : Fin cfg1.N) : (outsAt1 (V3 m ρ) c t).1 = deltas (B m ρ c 0 t) (B m ρ c 1 t) (B m ρ c 2 t) (B m ρ c 3 t) := by
  unfold outsAt1
  dsimp only
  frame_open
  frame_out
  unfold k1_pay4 k1_pay3 k1_pay2 k1_pay1
  simp only [shapeCast_id]
  rfl
theorem late5 (t : Fin cfg1.N) : (outsAt1 (V3 m ρ) c t).2.1 = means (B m ρ c 1 t) (B m ρ c 2 t) := by
  unfold outsAt1
  dsimp only
  frame_open
  frame_out
  unfold k1_pay2 k1_pay1
  simp only [shapeCast_id]
  rfl
theorem late6 (t : Fin cfg1.N) : (outsAt1 (V3 m ρ) c t).2.2 = squares (B m ρ c 1 t) (B m ρ c 3 t) := by
  unfold outsAt1
  dsimp only
  frame_open
  frame_out
  unfold k1_pay3 k1_pay1
  simp only [shapeCast_id]
  rfl

/-! ## The blocks that a point reads lie where the block that it writes lies -/

theorem blk0 (t : Fin cfg0.N) (y : S256x640.Idx) : (iblk0 (V1 m ρ) c 0 t : FVec Ideal S256x640 .f32) y = Y0 m c (((cfg0.win 4).blk t).view.emb y) :=
  congrFun (early_in0 m ρ c) _
theorem blk1 (t : Fin cfg0.N) (y : S256x640.Idx) : (iblk0 (V1 m ρ) c 1 t : FVec Ideal S256x640 .f32) y = Y1 m c (((cfg0.win 4).blk t).view.emb y) :=
  congrFun (early_in1 m ρ c) _
theorem blk2 (t : Fin cfg0.N) (y : S256x640.Idx) : (iblk0 (V1 m ρ) c 2 t : FVec Ideal S256x640 .f32) y = Y3 m c (((cfg0.win 4).blk t).view.emb y) :=
  congrFun (early_in2 m ρ c) _
theorem blk3 (t : Fin cfg0.N) (y : S256x640.Idx) : (iblk0 (V1 m ρ) c 3 t : FVec Ideal S256x640 .f32) y = Y4 m c (((cfg0.win 4).blk t).view.emb y) :=
  congrFun (early_in3 m ρ c) _
theorem late_blk0 (t : Fin cfg1.N) (y : S256x640.Idx) : (B m ρ c 0 t : FVec Ideal S256x640 .f32) y = Y0 m c (((cfg1.win 4).blk t).view.emb y) :=
  congrFun (late_in0 m ρ c) _
theorem late_blk1 (t : Fin cfg1.N) (y : S256x640.Idx) : (B m ρ c 1 t : FVec Ideal S256x640 .f32) y = Y2 m c (((cfg1.win 4).blk t).view.emb y) :=
  congrFun (late_in1 m ρ c) _
theorem late_blk2 (t : Fin cfg1.N) (y : S256x640.Idx) : (B m ρ c 2 t : FVec Ideal S256x640 .f32) y = Y3 m c (((cfg1.win 4).blk t).view.emb y) :=
  congrFun (late_in2 m ρ c) _
theorem late_blk3 (t : Fin cfg1.N) (y : S256x640.Idx) : (B m ρ c 3 t : FVec Ideal S256x640 .f32) y = Y4 m c (((cfg1.win 4).blk t).view.emb y) :=
  congrFun (late_in3 m ρ c) _

/-! ## The three arrays: the first call writes the rows of the layers after the first, the second those of the first -/

theorem early_array4 (i : S2048x640.Idx) (h : 4 ≤ (i 0 : ℕ) / 256) :
    ((dat0 (V1 m ρ) c).arrAt 4 cfg0.N : FVec Ideal S2048x640 .f32) i = deltas (Y0 m c) (Y1 m c) (Y3 m c) (Y4 m c) i := by
  refine ((dat0 (V1 m ρ) c).arrAt_apply_of_coversWhere 4 (deltas (Y0 m c) (Y1 m c) (Y3 m c) (Y4 m c)) (P := fun i => 4 ≤ (i 0 : ℕ) / 256) (fun β => 4 ≤ β (0 : Fin 2))
    (by decide +kernel) (fun t hf y => ?_) (fun j => Iff.rfl) i).trans (if_pos h)
  blk_simp [after0_4]
  rw [out4]
  show delta ((iblk0 (V1 m ρ) c 0 t : FVec Ideal S256x640 .f32) y) ((iblk0 (V1 m ρ) c 1 t : FVec Ideal S256x640 .f32) y) ((iblk0 (V1 m ρ) c 2 t : FVec Ideal S256x640 .f32) y) ((iblk0 (V1 m ρ) c 3 t : FVec Ideal S256x640 .f32) y) = _
  rw [blk0, blk1, blk2, blk3]
  rfl
theorem array4 : (dat1 (V3 m ρ) c).arrAt 4 cfg1.N = deltas (Y0 m c) (G m c) (Y3 m c) (Y4 m c) := by
  refine ((dat1 (V3 m ρ) c).arrAt_eq_of_coversWhere 4 (deltas (Y0 m c) (Y2 m c) (Y3 m c) (Y4 m c)) (P := fun i => ¬4 ≤ (i 0 : ℕ) / 256) (fun β => ¬4 ≤ β (0 : Fin 2))
    (by decide +kernel) (fun t hf y => ?_) (fun j => Iff.rfl)).trans (funext fun i => ?_)
  · blk_simp [after1_4]
    rw [late4]
    show delta ((B m ρ c 0 t : FVec Ideal S256x640 .f32) y) ((B m ρ c 1 t : FVec Ideal S256x640 .f32) y) ((B m ρ c 2 t : FVec Ideal S256x640 .f32) y) ((B m ρ c 3 t : FVec Ideal S256x640 .f32) y) = _
    rw [late_blk0, late_blk1, late_blk2, late_blk3]
    rfl
  · by_cases h : 4 ≤ (i 0 : ℕ) / 256
    · refine (if_neg (not_not_intro h)).trans ((congrFun (late_out4 m ρ c) i).trans ((early_array4 m ρ c i h).trans ?_))
      exact congrArg (fun z => delta (Y0 m c i) z (Y3 m c i) (Y4 m c i)) (if_pos h).symm
    · exact (if_pos h).trans (congrArg (fun z => delta (Y0 m c i) z (Y3 m c i) (Y4 m c i)) (if_neg h).symm)
theorem early_array5 (i : S2048x640.Idx) (h : 4 ≤ (i 0 : ℕ) / 256) :
    ((dat0 (V1 m ρ) c).arrAt 5 cfg0.N : FVec Ideal S2048x640 .f32) i = means (Y1 m c) (Y3 m c) i := by
  refine ((dat0 (V1 m ρ) c).arrAt_apply_of_coversWhere 5 (means (Y1 m c) (Y3 m c)) (P := fun i => 4 ≤ (i 0 : ℕ) / 256) (fun β => 4 ≤ β (0 : Fin 2))
    (by decide +kernel) (fun t hf y => ?_) (fun j => Iff.rfl) i).trans (if_pos h)
  blk_simp [after0_5]
  rw [out5]
  show mean ((iblk0 (V1 m ρ) c 1 t : FVec Ideal S256x640 .f32) y) ((iblk0 (V1 m ρ) c 2 t : FVec Ideal S256x640 .f32) y) = _
  rw [blk1, blk2]
  rfl
theorem array5 : (dat1 (V3 m ρ) c).arrAt 5 cfg1.N = means (G m c) (Y3 m c) := by
  refine ((dat1 (V3 m ρ) c).arrAt_eq_of_coversWhere 5 (means (Y2 m c) (Y3 m c)) (P := fun i => ¬4 ≤ (i 0 : ℕ) / 256) (fun β => ¬4 ≤ β (0 : Fin 2))
    (by decide +kernel) (fun t hf y => ?_) (fun j => Iff.rfl)).trans (funext fun i => ?_)
  · blk_simp [after1_5]
    rw [late5]
    show mean ((B m ρ c 1 t : FVec Ideal S256x640 .f32) y) ((B m ρ c 2 t : FVec Ideal S256x640 .f32) y) = _
    rw [late_blk1, late_blk2]
    rfl
  · by_cases h : 4 ≤ (i 0 : ℕ) / 256
    · refine (if_neg (not_not_intro h)).trans ((congrFun (late_out5 m ρ c) i).trans ((early_array5 m ρ c i h).trans ?_))
      exact congrArg (fun z => mean z (Y3 m c i)) (if_pos h).symm
    · exact (if_pos h).trans (congrArg (fun z => mean z (Y3 m c i)) (if_neg h).symm)
theorem early_array6 (i : S2048x640.Idx) (h : 4 ≤ (i 0 : ℕ) / 256) :
    ((dat0 (V1 m ρ) c).arrAt 6 cfg0.N : FVec Ideal S2048x640 .f32) i = squares (Y1 m c) (Y4 m c) i := by
  refine ((dat0 (V1 m ρ) c).arrAt_apply_of_coversWhere 6 (squares (Y1 m c) (Y4 m c)) (P := fun i => 4 ≤ (i 0 : ℕ) / 256) (fun β => 4 ≤ β (0 : Fin 2))
    (by decide +kernel) (fun t hf y => ?_) (fun j => Iff.rfl) i).trans (if_pos h)
  blk_simp [after0_6]
  rw [out6]
  show square ((iblk0 (V1 m ρ) c 1 t : FVec Ideal S256x640 .f32) y) ((iblk0 (V1 m ρ) c 3 t : FVec Ideal S256x640 .f32) y) = _
  rw [blk1, blk3]
  rfl
theorem array6 : (dat1 (V3 m ρ) c).arrAt 6 cfg1.N = squares (G m c) (Y4 m c) := by
  refine ((dat1 (V3 m ρ) c).arrAt_eq_of_coversWhere 6 (squares (Y2 m c) (Y4 m c)) (P := fun i => ¬4 ≤ (i 0 : ℕ) / 256) (fun β => ¬4 ≤ β (0 : Fin 2))
    (by decide +kernel) (fun t hf y => ?_) (fun j => Iff.rfl)).trans (funext fun i => ?_)
  · blk_simp [after1_6]
    rw [late6]
    show square ((B m ρ c 1 t : FVec Ideal S256x640 .f32) y) ((B m ρ c 3 t : FVec Ideal S256x640 .f32) y) = _
    rw [late_blk1, late_blk3]
    rfl
  · by_cases h : 4 ≤ (i 0 : ℕ) / 256
    · refine (if_neg (not_not_intro h)).trans ((congrFun (late_out6 m ρ c) i).trans ((early_array6 m ρ c i h).trans ?_))
      exact congrArg (fun z => square z (Y4 m c i)) (if_pos h).symm
    · exact (if_pos h).trans (congrArg (fun z => square z (Y4 m c i)) (if_neg h).symm)

/-! ## The launch -/

/-- The resources that the launch's assertions speak of. -/
abbrev Res := MT nD τ sig Unit (Elt Ideal) ℕ (UR sig nD τ) ℕ

-- the launch lemma's implicit arguments are found by unifying its conclusion with this one
set_option backward.isDefEq.respectTransparency.types false in
/-- The program ends with the three arrays as above and its arguments kept. -/
theorem ends : θ_run defs (onTc (τ := τ) (main (F := Ideal))) ⟨m, fun _ => 0, ρ⟩ fun r => ∀ c : Dev nD,
      r.2.mem ((c.tc : Thread nD τ).loc main_v9_0) = deltas (Y0 m c) (G m c) (Y3 m c) (Y4 m c)
      ∧ r.2.mem ((c.tc : Thread nD τ).loc main_v9_1) = means (G m c) (Y3 m c)
      ∧ r.2.mem ((c.tc : Thread nD τ).loc main_v9_2) = squares (G m c) (Y4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨((h c _ (mem_uc main_v9_0 (by decide))).trans (W4_arr m ρ c 4)).trans (array4 m ρ c),
       ((h c _ (mem_uc main_v9_1 (by decide))).trans (W4_arr m ρ c 5)).trans (array5 m ρ c),
       ((h c _ (mem_uc main_v9_2 (by decide))).trans (W4_arr m ρ c 6)).trans (array6 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.AdamHybInIdeal.Entry

namespace Cert.RefAdamHybInIdeal.Value

open Idealize.ShloMosaic Idealize.ShloMosaic.TcCoe Idealize.SL.Sem Cert.Adam Read

variable (w g₀ g x y : FVec Ideal S2x1024x640 .f32)

/-- The gradient that the reference puts together, its layers' rows under one another. -/
theorem joined (h : S2x1024x640.ShapeCasts S2048x640) : shapeCast S2048x640 (val_main_v2 (F := Ideal) g₀ g) h =
    fun i => if 4 ≤ (i 0 : ℕ) / 256 then shapeCast S2048x640 g₀ h i else shapeCast S2048x640 g h i := by
  funext i
  unfold val_main_v2 val_main_v1 val_main_v0
  obtain ⟨r, d, rfl⟩ : ∃ (r : Fin 2048) (d : Fin 640), i = ix2 r d := ⟨i 0, i 1, funext fun a => by fin_cases a <;> rfl⟩
  pointwise
  by_cases hr : (r : ℕ) / 1024 < 1
  · exact (dif_pos hr).trans (if_neg (by omega)).symm
  · refine (dif_neg hr).trans (Eq.trans (congrArg g₀ (funext fun a => ?_)) (if_pos (by omega)).symm)
    fin_cases a
    · exact Fin.ext (show 1 + ((r : ℕ) / 1024 - 1) = (r : ℕ) / 1024 by omega)
    · rfl
    · rfl

theorem new_mean : val_main_v7 (F := Ideal) g₀ g x = means (val_main_v2 (F := Ideal) g₀ g) x := by
  funext i
  rw [val_main_v7_apply, val_main_v4_apply, val_main_v6_apply, val_main_v3_apply, val_main_v5_apply]
  rfl
theorem new_square : val_main_v13 (F := Ideal) g₀ g y = squares (val_main_v2 (F := Ideal) g₀ g) y := by
  funext i
  rw [val_main_v13_apply, val_main_v9_apply, val_main_v12_apply, val_main_v8_apply, val_main_v11_apply, val_main_v10_apply]
  rfl
theorem change : val_main_v26 (F := Ideal) w g₀ g x y = deltas w (val_main_v2 (F := Ideal) g₀ g) x y := by
  funext i
  rw [val_main_v26_apply, val_main_v24_apply, val_main_v21_apply, val_main_v20_apply, val_main_v18_apply, val_main_v17_apply, val_main_v15_apply,
    val_main_v23_apply, val_main_v25_apply, val_main_v22_apply, val_main_v19_apply, val_main_v16_apply, val_main_v14_apply, new_mean, new_square]
  rfl

end Cert.RefAdamHybInIdeal.Value

namespace Cert.AdamHybInJoin

open Idealize.ShloMosaic Idealize.ShloMosaic.TcCoe Idealize.SL.Sem Cert.Adam

/-- Both run, with equal results and their arguments kept. -/
theorem algebraic : @Cert.algebraic_AdamHybInIdeal_RefAdamHybInIdeal Cert.AdamHybInIdeal.Gen.facts Cert.RefAdamHybInIdeal.Gen.facts := by
  intro m g m' g' _ hargs
  refine ⟨fun c => RefAdamHybInIdeal.Read.val_main_v27 (F := Ideal) (AdamHybInIdeal.Entry.X0 m c) (AdamHybInIdeal.Entry.X1 m c) (AdamHybInIdeal.Entry.X2 m c) (AdamHybInIdeal.Entry.X3 m c) (AdamHybInIdeal.Entry.X4 m c),
    fun c => RefAdamHybInIdeal.Read.val_main_v28 (F := Ideal) (AdamHybInIdeal.Entry.X1 m c) (AdamHybInIdeal.Entry.X2 m c) (AdamHybInIdeal.Entry.X3 m c),
    fun c => RefAdamHybInIdeal.Read.val_main_v29 (F := Ideal) (AdamHybInIdeal.Entry.X1 m c) (AdamHybInIdeal.Entry.X2 m c) (AdamHybInIdeal.Entry.X4 m c), ?_, ?_⟩
  · refine (θ_run AdamHybInIdeal.defs _ _).mono (fun r h c => ⟨(h c).1.trans ?_, (h c).2.1.trans ?_, (h c).2.2.1.trans ?_, (h c).2.2.2⟩)
      (AdamHybInIdeal.Entry.ends m g)
    · beta_reduce
      unfold RefAdamHybInIdeal.Read.val_main_v27
      rw [RefAdamHybInIdeal.Value.change]
      exact congrArg (fun G => deltas (AdamHybInIdeal.Entry.Y0 m c) G (AdamHybInIdeal.Entry.Y3 m c) (AdamHybInIdeal.Entry.Y4 m c)) (RefAdamHybInIdeal.Value.joined _ _ _).symm
    · beta_reduce
      unfold RefAdamHybInIdeal.Read.val_main_v28
      rw [RefAdamHybInIdeal.Value.new_mean]
      exact congrArg (fun G => means G (AdamHybInIdeal.Entry.Y3 m c)) (RefAdamHybInIdeal.Value.joined _ _ _).symm
    · beta_reduce
      unfold RefAdamHybInIdeal.Read.val_main_v29
      rw [RefAdamHybInIdeal.Value.new_square]
      exact congrArg (fun G => squares G (AdamHybInIdeal.Entry.Y4 m c)) (RefAdamHybInIdeal.Value.joined _ _ _).symm
  · have e0 : ∀ c : Dev RefAdamHybInIdeal.nD, m' ((c.tc : Thread RefAdamHybInIdeal.nD RefAdamHybInIdeal.τ).loc RefAdamHybInIdeal.main_arg0) = AdamHybInIdeal.Entry.X0 m c := fun c => (hargs c).1
    have e1 : ∀ c : Dev RefAdamHybInIdeal.nD, m' ((c.tc : Thread RefAdamHybInIdeal.nD RefAdamHybInIdeal.τ).loc RefAdamHybInIdeal.main_arg1) = AdamHybInIdeal.Entry.X1 m c := fun c => (hargs c).2.1
    have e2 : ∀ c : Dev RefAdamHybInIdeal.nD, m' ((c.tc : Thread RefAdamHybInIdeal.nD RefAdamHybInIdeal.τ).loc RefAdamHybInIdeal.main_arg2) = AdamHybInIdeal.Entry.X2 m c := fun c => (hargs c).2.2.1
    have e3 : ∀ c : Dev RefAdamHybInIdeal.nD, m' ((c.tc : Thread RefAdamHybInIdeal.nD RefAdamHybInIdeal.τ).loc RefAdamHybInIdeal.main_arg3) = AdamHybInIdeal.Entry.X3 m c := fun c => (hargs c).2.2.2.1
    have e4 : ∀ c : Dev RefAdamHybInIdeal.nD, m' ((c.tc : Thread RefAdamHybInIdeal.nD RefAdamHybInIdeal.τ).loc RefAdamHybInIdeal.main_arg4) = AdamHybInIdeal.Entry.X4 m c := fun c => (hargs c).2.2.2.2
    refine (θ_run RefAdamHybInIdeal.defs _ _).mono (fun r h c => ⟨(h c).1.trans ?_, (h c).2.1.trans ?_, (h c).2.2.1.trans ?_, (h c).2.2.2⟩)
      (RefAdamHybInIdeal.Value.run (F := Ideal) m' g')
    · refine (RefAdamHybInIdeal.Read.val_main_v27_eq (F := Ideal) (m' ((c.tc : Thread RefAdamHybInIdeal.nD RefAdamHybInIdeal.τ).loc RefAdamHybInIdeal.main_arg0)) (m' ((c.tc : Thread RefAdamHybInIdeal.nD RefAdamHybInIdeal.τ).loc RefAdamHybInIdeal.main_arg1)) (m' ((c.tc : Thread RefAdamHybInIdeal.nD RefAdamHybInIdeal.τ).loc RefAdamHybInIdeal.main_arg2)) (m' ((c.tc : Thread RefAdamHybInIdeal.nD RefAdamHybInIdeal.τ).loc RefAdamHybInIdeal.main_arg3)) (m' ((c.tc : Thread RefAdamHybInIdeal.nD RefAdamHybInIdeal.τ).loc RefAdamHybInIdeal.main_arg4))).trans ?_
      rw [e0, e1, e2, e3, e4]
    · refine (RefAdamHybInIdeal.Read.val_main_v28_eq (F := Ideal) (m' ((c.tc : Thread RefAdamHybInIdeal.nD RefAdamHybInIdeal.τ).loc RefAdamHybInIdeal.main_arg1)) (m' ((c.tc : Thread RefAdamHybInIdeal.nD RefAdamHybInIdeal.τ).loc RefAdamHybInIdeal.main_arg2)) (m' ((c.tc : Thread RefAdamHybInIdeal.nD RefAdamHybInIdeal.τ).loc RefAdamHybInIdeal.main_arg3))).trans ?_
      rw [e1, e2, e3]
    · refine (RefAdamHybInIdeal.Read.val_main_v29_eq (F := Ideal) (m' ((c.tc : Thread RefAdamHybInIdeal.nD RefAdamHybInIdeal.τ).loc RefAdamHybInIdeal.main_arg1)) (m' ((c.tc : Thread RefAdamHybInIdeal.nD RefAdamHybInIdeal.τ).loc RefAdamHybInIdeal.main_arg2)) (m' ((c.tc : Thread RefAdamHybInIdeal.nD RefAdamHybInIdeal.τ).loc RefAdamHybInIdeal.main_arg4))).trans ?_
      rw [e1, e2, e4]

/-- The reference's frame: it runs, keeps its arguments and leaves every semaphore at zero. -/
theorem frameR (m : (ℓ : Loc RefAdamHybInIdeal.nD RefAdamHybInIdeal.τ RefAdamHybInIdeal.sig) → Buf (Elt Ideal) ℓ) (ρ : Dev RefAdamHybInIdeal.nD → PrngReg) :
    θ_run (RefAdamHybInIdeal.defs (F := Ideal)) (onTc (τ := RefAdamHybInIdeal.τ) (RefAdamHybInIdeal.main (F := Ideal))) ⟨m, fun _ => 0, ρ⟩ (fun r => (∀ c : Dev RefAdamHybInIdeal.nD,
      r.2.mem ((c.tc : Thread RefAdamHybInIdeal.nD RefAdamHybInIdeal.τ).loc RefAdamHybInIdeal.main_arg0) = m ((c.tc : Thread RefAdamHybInIdeal.nD RefAdamHybInIdeal.τ).loc RefAdamHybInIdeal.main_arg0)
      ∧ r.2.mem ((c.tc : Thread RefAdamHybInIdeal.nD RefAdamHybInIdeal.τ).loc RefAdamHybInIdeal.main_arg1) = m ((c.tc : Thread RefAdamHybInIdeal.nD RefAdamHybInIdeal.τ).loc RefAdamHybInIdeal.main_arg1)
      ∧ r.2.mem ((c.tc : Thread RefAdamHybInIdeal.nD RefAdamHybInIdeal.τ).loc RefAdamHybInIdeal.main_arg2) = m ((c.tc : Thread RefAdamHybInIdeal.nD RefAdamHybInIdeal.τ).loc RefAdamHybInIdeal.main_arg2)
      ∧ r.2.mem ((c.tc : Thread RefAdamHybInIdeal.nD RefAdamHybInIdeal.τ).loc RefAdamHybInIdeal.main_arg3) = m ((c.tc : Thread RefAdamHybInIdeal.nD RefAdamHybInIdeal.τ).loc RefAdamHybInIdeal.main_arg3)
      ∧ r.2.mem ((c.tc : Thread RefAdamHybInIdeal.nD RefAdamHybInIdeal.τ).loc RefAdamHybInIdeal.main_arg4) = m ((c.tc : Thread RefAdamHybInIdeal.nD RefAdamHybInIdeal.τ).loc RefAdamHybInIdeal.main_arg4))
      ∧ r.2.sem = fun _ => 0) :=
  (θ_run RefAdamHybInIdeal.defs _ _).mono (fun r h => ⟨fun c => (h c).2.2.2, sem_eq_zero_of_no_sems (by decide) r.2⟩) (RefAdamHybInIdeal.Value.run (F := Ideal) m ρ)

end Cert.AdamHybInJoin

end
-- ==== Proof.AdamHybOutJoin.lean ====
/- The optimiser on the two hybrid layers' output projections, in its two calls: what the kernel's arrays and the reference's hold, and that they are equal. -/
module

public import proofs.«01_k».proof.Proof.Adam
public import proofs.«01_k».proof.Proof.Gen.AdamHybOutIdeal.Frame
public import proofs.«01_k».proof.Proof.Gen.RefAdamHybOutIdeal.Run
public import proofs.«01_k».proof.Proof.Gen.RefAdamHybOutIdeal.Read
public import Idealize.ShloMosaic.Lib.Pointwise
public import Idealize.ShloMosaic.Lib.Pipeline.ValueKit
public import Idealize.ShloMosaic.Lib.Claim

@[expose] public section

set_option maxRecDepth 16384

noncomputable section

namespace Cert.AdamHybOutIdeal.Entry

open Cert.AdamHybOutIdeal Cert.AdamHybOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Adam

variable (m : (ℓ : Loc nD τ sig) → Buf (Elt Ideal) ℓ) (ρ : Dev nD → PrngReg) (c : Dev nD)

/-- The arguments: the weight, its gradient as the first call takes it, its gradient as the second takes it, and the two moments. -/
abbrev X0 : FVec Ideal S2x256x1024 .f32 := m ((c.tc : Thread nD τ).loc main_arg0)
abbrev X1 : FVec Ideal S2x256x1024 .f32 := m ((c.tc : Thread nD τ).loc main_arg1)
abbrev X2 : FVec Ideal S2x256x1024 .f32 := m ((c.tc : Thread nD τ).loc main_arg2)
abbrev X3 : FVec Ideal S2x256x1024 .f32 := m ((c.tc : Thread nD τ).loc main_arg3)
abbrev X4 : FVec Ideal S2x256x1024 .f32 := m ((c.tc : Thread nD τ).loc main_arg4)

/-- The arguments as the calls find them: the layers' rows under one another. -/
abbrev Y0 : FVec Ideal S512x1024 .f32 := shapeCast S512x1024 (X0 m c) shapeCasts_S2x256x1024_S512x1024
abbrev Y1 : FVec Ideal S512x1024 .f32 := shapeCast S512x1024 (X1 m c) shapeCasts_S2x256x1024_S512x1024
abbrev Y2 : FVec Ideal S512x1024 .f32 := shapeCast S512x1024 (X2 m c) shapeCasts_S2x256x1024_S512x1024
abbrev Y3 : FVec Ideal S512x1024 .f32 := shapeCast S512x1024 (X3 m c) shapeCasts_S2x256x1024_S512x1024
abbrev Y4 : FVec Ideal S512x1024 .f32 := shapeCast S512x1024 (X4 m c) shapeCasts_S2x256x1024_S512x1024
/-- The gradient that an entry's change is made of: the first call's from the second layer on, the second call's in the first layer. -/
def G : FVec Ideal S512x1024 .f32 := fun i => if 1 ≤ (i 0 : ℕ) / 256 then Y1 m c i else Y2 m c i
theorem early_in0 : V1 m ρ c main_v0 = Y0 m c := by
  simp only [V1, W1, hostOps0]
  after_results_simp
  rfl
theorem early_in1 : V1 m ρ c main_v1 = Y1 m c := by
  simp only [V1, W1, hostOps0]
  after_results_simp
  rfl
theorem early_in2 : V1 m ρ c main_v2 = Y3 m c := by
  simp only [V1, W1, hostOps0]
  after_results_simp
  rfl
theorem early_in3 : V1 m ρ c main_v3 = Y4 m c := by
  simp only [V1, W1, hostOps0]
  after_results_simp
  rfl
theorem late_in0 : V3 m ρ c main_v5 = Y0 m c := by
  have h := W2_args m ρ c main_arg0 (by decide)
  simp only [V3, W3, hostOps1]
  after_results_simp
  rw [h]
  rfl
theorem late_in1 : V3 m ρ c main_v6 = Y2 m c := by
  have h := W2_args m ρ c main_arg2 (by decide)
  simp only [V3, W3, hostOps1]
  after_results_simp
  rw [h]
  rfl
theorem late_in2 : V3 m ρ c main_v7 = Y3 m c := by
  have h := W2_args m ρ c main_arg3 (by decide)
  simp only [V3, W3, hostOps1]
  after_results_simp
  rw [h]
  rfl
theorem late_in3 : V3 m ρ c main_v8 = Y4 m c := by
  have h := W2_args m ρ c main_arg4 (by decide)
  simp only [V3, W3, hostOps1]
  after_results_simp
  rw [h]
  rfl

/-- The second call starts from the first one's results. -/
theorem late_out4 : V3 m ρ c main_v9_0 = (dat0 (V1 m ρ) c).arrAt 4 cfg0.N := by
  have h := W2_arr m ρ c 4
  simp only [V3, W3, hostOps1]
  after_results_simp
  exact h
theorem late_out5 : V3 m ρ c main_v9_1 = (dat0 (V1 m ρ) c).arrAt 5 cfg0.N := by
  have h := W2_arr m ρ c 5
  simp only [V3, W3, hostOps1]
  after_results_simp
  exact h
theorem late_out6 : V3 m ρ c main_v9_2 = (dat0 (V1 m ρ) c).arrAt 6 cfg0.N := by
  have h := W2_arr m ρ c 6
  simp only [V3, W3, hostOps1]
  after_results_simp
  exact h

/-! ## What a point writes, in either call -/

theorem ld (x : FVec Ideal S256x1024 .f32) : View.ld (Val := Elt Ideal) (e' := .f32) x r0_0 = x :=
  View.ld_unit_lit (Val := Elt Ideal) (e := .f32) (S := S256x1024) inb_S256x1024_S256x1024_0_0 x (by decide)
theorem zero : (![0, 0] : Fin S256x1024.rank → ℕ) = fun _ => 0 := funext fun a => by fin_cases a <;> rfl

theorem out4 (w g x y : FVec Ideal S256x1024 .f32) : out0_4 (F := Ideal) w g x y = deltas w g x y := by
  unfold out0_4
  rw [View.canon_unit_zero zero, ld, ld, ld, ld]
  unfold k0_pay4 k0_pay3 k0_pay2 k0_pay1
  simp only [shapeCast_id]
  rfl
theorem out5 (w g x y : FVec Ideal S256x1024 .f32) : out0_5 (F := Ideal) w g x y = means g x := by
  unfold out0_5
  rw [View.canon_unit_zero zero, ld, ld]
  unfold k0_pay2 k0_pay1
  simp only [shapeCast_id]
  rfl
theorem out6 (w g x y : FVec Ideal S256x1024 .f32) : out0_6 (F := Ideal) w g x y = squares g y := by
  unfold out0_6
  rw [View.canon_unit_zero zero, ld, ld]
  unfold k0_pay3 k0_pay1
  simp only [shapeCast_id]
  rfl

abbrev B (w : Fin cfg1.W) (t : Fin cfg1.N) := iblk1 (V3 m ρ) c w t

theorem late4 (t : Fin cfg1.N) : (outsAt1 (V3 m ρ) c t).1 = deltas (B m ρ c 0 t) (B m ρ c 1 t) (B m ρ c 2 t) (B m ρ c 3 t) := by
  unfold outsAt1
  dsimp only
  frame_open
  frame_out
  unfold k1_pay4 k1_pay3 k1_pay2 k1_pay1
  simp only [shapeCast_id]
  rfl
theorem late5 (t : Fin cfg1.N) : (outsAt1 (V3 m ρ) c t).2.1 = means (B m ρ c 1 t) (B m ρ c 2 t) := by
  unfold outsAt1
  dsimp only
  frame_open
  frame_out
  unfold k1_pay2 k1_pay1
  simp only [shapeCast_id]
  rfl
theorem late6 (t : Fin cfg1.N) : (outsAt1 (V3 m ρ) c t).2.2 = squares (B m ρ c 1 t) (B m ρ c 3 t) := by
  unfold outsAt1
  dsimp only
  frame_open
  frame_out
  unfold k1_pay3 k1_pay1
  simp only [shapeCast_id]
  rfl

/-! ## The blocks that a point reads lie where the block that it writes lies -/

theorem blk0 (t : Fin cfg0.N) (y : S256x1024.Idx) : (iblk0 (V1 m ρ) c 0 t : FVec Ideal S256x1024 .f32) y = Y0 m c (((cfg0.win 4).blk t).view.emb y) :=
  congrFun (early_in0 m ρ c) _
theorem blk1 (t : Fin cfg0.N) (y : S256x1024.Idx) : (iblk0 (V1 m ρ) c 1 t : FVec Ideal S256x1024 .f32) y = Y1 m c (((cfg0.win 4).blk t).view.emb y) :=
  congrFun (early_in1 m ρ c) _
theorem blk2 (t : Fin cfg0.N) (y : S256x1024.Idx) : (iblk0 (V1 m ρ) c 2 t : FVec Ideal S256x1024 .f32) y = Y3 m c (((cfg0.win 4).blk t).view.emb y) :=
  congrFun (early_in2 m ρ c) _
theorem blk3 (t : Fin cfg0.N) (y : S256x1024.Idx) : (iblk0 (V1 m ρ) c 3 t : FVec Ideal S256x1024 .f32) y = Y4 m c (((cfg0.win 4).blk t).view.emb y) :=
  congrFun (early_in3 m ρ c) _
theorem late_blk0 (t : Fin cfg1.N) (y : S256x1024.Idx) : (B m ρ c 0 t : FVec Ideal S256x1024 .f32) y = Y0 m c (((cfg1.win 4).blk t).view.emb y) :=
  congrFun (late_in0 m ρ c) _
theorem late_blk1 (t : Fin cfg1.N) (y : S256x1024.Idx) : (B m ρ c 1 t : FVec Ideal S256x1024 .f32) y = Y2 m c (((cfg1.win 4).blk t).view.emb y) :=
  congrFun (late_in1 m ρ c) _
theorem late_blk2 (t : Fin cfg1.N) (y : S256x1024.Idx) : (B m ρ c 2 t : FVec Ideal S256x1024 .f32) y = Y3 m c (((cfg1.win 4).blk t).view.emb y) :=
  congrFun (late_in2 m ρ c) _
theorem late_blk3 (t : Fin cfg1.N) (y : S256x1024.Idx) : (B m ρ c 3 t : FVec Ideal S256x1024 .f32) y = Y4 m c (((cfg1.win 4).blk t).view.emb y) :=
  congrFun (late_in3 m ρ c) _

/-! ## The three arrays: the first call writes the rows of the layers after the first, the second those of the first -/

theorem early_array4 (i : S512x1024.Idx) (h : 1 ≤ (i 0 : ℕ) / 256) :
    ((dat0 (V1 m ρ) c).arrAt 4 cfg0.N : FVec Ideal S512x1024 .f32) i = deltas (Y0 m c) (Y1 m c) (Y3 m c) (Y4 m c) i := by
  refine ((dat0 (V1 m ρ) c).arrAt_apply_of_coversWhere 4 (deltas (Y0 m c) (Y1 m c) (Y3 m c) (Y4 m c)) (P := fun i => 1 ≤ (i 0 : ℕ) / 256) (fun β => 1 ≤ β (0 : Fin 2))
    (by decide +kernel) (fun t hf y => ?_) (fun j => Iff.rfl) i).trans (if_pos h)
  blk_simp [after0_4]
  rw [out4]
  show delta ((iblk0 (V1 m ρ) c 0 t : FVec Ideal S256x1024 .f32) y) ((iblk0 (V1 m ρ) c 1 t : FVec Ideal S256x1024 .f32) y) ((iblk0 (V1 m ρ) c 2 t : FVec Ideal S256x1024 .f32) y) ((iblk0 (V1 m ρ) c 3 t : FVec Ideal S256x1024 .f32) y) = _
  rw [blk0, blk1, blk2, blk3]
  rfl
theorem array4 : (dat1 (V3 m ρ) c).arrAt 4 cfg1.N = deltas (Y0 m c) (G m c) (Y3 m c) (Y4 m c) := by
  refine ((dat1 (V3 m ρ) c).arrAt_eq_of_coversWhere 4 (deltas (Y0 m c) (Y2 m c) (Y3 m c) (Y4 m c)) (P := fun i => ¬1 ≤ (i 0 : ℕ) / 256) (fun β => ¬1 ≤ β (0 : Fin 2))
    (by decide +kernel) (fun t hf y => ?_) (fun j => Iff.rfl)).trans (funext fun i => ?_)
  · blk_simp [after1_4]
    rw [late4]
    show delta ((B m ρ c 0 t : FVec Ideal S256x1024 .f32) y) ((B m ρ c 1 t : FVec Ideal S256x1024 .f32) y) ((B m ρ c 2 t : FVec Ideal S256x1024 .f32) y) ((B m ρ c 3 t : FVec Ideal S256x1024 .f32) y) = _
    rw [late_blk0, late_blk1, late_blk2, late_blk3]
    rfl
  · by_cases h : 1 ≤ (i 0 : ℕ) / 256
    · refine (if_neg (not_not_intro h)).trans ((congrFun (late_out4 m ρ c) i).trans ((early_array4 m ρ c i h).trans ?_))
      exact congrArg (fun z => delta (Y0 m c i) z (Y3 m c i) (Y4 m c i)) (if_pos h).symm
    · exact (if_pos h).trans (congrArg (fun z => delta (Y0 m c i) z (Y3 m c i) (Y4 m c i)) (if_neg h).symm)
theorem early_array5 (i : S512x1024.Idx) (h : 1 ≤ (i 0 : ℕ) / 256) :
    ((dat0 (V1 m ρ) c).arrAt 5 cfg0.N : FVec Ideal S512x1024 .f32) i = means (Y1 m c) (Y3 m c) i := by
  refine ((dat0 (V1 m ρ) c).arrAt_apply_of_coversWhere 5 (means (Y1 m c) (Y3 m c)) (P := fun i => 1 ≤ (i 0 : ℕ) / 256) (fun β => 1 ≤ β (0 : Fin 2))
    (by decide +kernel) (fun t hf y => ?_) (fun j => Iff.rfl) i).trans (if_pos h)
  blk_simp [after0_5]
  rw [out5]
  show mean ((iblk0 (V1 m ρ) c 1 t : FVec Ideal S256x1024 .f32) y) ((iblk0 (V1 m ρ) c 2 t : FVec Ideal S256x1024 .f32) y) = _
  rw [blk1, blk2]
  rfl
theorem array5 : (dat1 (V3 m ρ) c).arrAt 5 cfg1.N = means (G m c) (Y3 m c) := by
  refine ((dat1 (V3 m ρ) c).arrAt_eq_of_coversWhere 5 (means (Y2 m c) (Y3 m c)) (P := fun i => ¬1 ≤ (i 0 : ℕ) / 256) (fun β => ¬1 ≤ β (0 : Fin 2))
    (by decide +kernel) (fun t hf y => ?_) (fun j => Iff.rfl)).trans (funext fun i => ?_)
  · blk_simp [after1_5]
    rw [late5]
    show mean ((B m ρ c 1 t : FVec Ideal S256x1024 .f32) y) ((B m ρ c 2 t : FVec Ideal S256x1024 .f32) y) = _
    rw [late_blk1, late_blk2]
    rfl
  · by_cases h : 1 ≤ (i 0 : ℕ) / 256
    · refine (if_neg (not_not_intro h)).trans ((congrFun (late_out5 m ρ c) i).trans ((early_array5 m ρ c i h).trans ?_))
      exact congrArg (fun z => mean z (Y3 m c i)) (if_pos h).symm
    · exact (if_pos h).trans (congrArg (fun z => mean z (Y3 m c i)) (if_neg h).symm)
theorem early_array6 (i : S512x1024.Idx) (h : 1 ≤ (i 0 : ℕ) / 256) :
    ((dat0 (V1 m ρ) c).arrAt 6 cfg0.N : FVec Ideal S512x1024 .f32) i = squares (Y1 m c) (Y4 m c) i := by
  refine ((dat0 (V1 m ρ) c).arrAt_apply_of_coversWhere 6 (squares (Y1 m c) (Y4 m c)) (P := fun i => 1 ≤ (i 0 : ℕ) / 256) (fun β => 1 ≤ β (0 : Fin 2))
    (by decide +kernel) (fun t hf y => ?_) (fun j => Iff.rfl) i).trans (if_pos h)
  blk_simp [after0_6]
  rw [out6]
  show square ((iblk0 (V1 m ρ) c 1 t : FVec Ideal S256x1024 .f32) y) ((iblk0 (V1 m ρ) c 3 t : FVec Ideal S256x1024 .f32) y) = _
  rw [blk1, blk3]
  rfl
theorem array6 : (dat1 (V3 m ρ) c).arrAt 6 cfg1.N = squares (G m c) (Y4 m c) := by
  refine ((dat1 (V3 m ρ) c).arrAt_eq_of_coversWhere 6 (squares (Y2 m c) (Y4 m c)) (P := fun i => ¬1 ≤ (i 0 : ℕ) / 256) (fun β => ¬1 ≤ β (0 : Fin 2))
    (by decide +kernel) (fun t hf y => ?_) (fun j => Iff.rfl)).trans (funext fun i => ?_)
  · blk_simp [after1_6]
    rw [late6]
    show square ((B m ρ c 1 t : FVec Ideal S256x1024 .f32) y) ((B m ρ c 3 t : FVec Ideal S256x1024 .f32) y) = _
    rw [late_blk1, late_blk3]
    rfl
  · by_cases h : 1 ≤ (i 0 : ℕ) / 256
    · refine (if_neg (not_not_intro h)).trans ((congrFun (late_out6 m ρ c) i).trans ((early_array6 m ρ c i h).trans ?_))
      exact congrArg (fun z => square z (Y4 m c i)) (if_pos h).symm
    · exact (if_pos h).trans (congrArg (fun z => square z (Y4 m c i)) (if_neg h).symm)

/-! ## The launch -/

/-- The resources that the launch's assertions speak of. -/
abbrev Res := MT nD τ sig Unit (Elt Ideal) ℕ (UR sig nD τ) ℕ

-- the launch lemma's implicit arguments are found by unifying its conclusion with this one
set_option backward.isDefEq.respectTransparency.types false in
/-- The program ends with the three arrays as above and its arguments kept. -/
theorem ends : θ_run defs (onTc (τ := τ) (main (F := Ideal))) ⟨m, fun _ => 0, ρ⟩ fun r => ∀ c : Dev nD,
      r.2.mem ((c.tc : Thread nD τ).loc main_v9_0) = deltas (Y0 m c) (G m c) (Y3 m c) (Y4 m c)
      ∧ r.2.mem ((c.tc : Thread nD τ).loc main_v9_1) = means (G m c) (Y3 m c)
      ∧ r.2.mem ((c.tc : Thread nD τ).loc main_v9_2) = squares (G m c) (Y4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨((h c _ (mem_uc main_v9_0 (by decide))).trans (W4_arr m ρ c 4)).trans (array4 m ρ c),
       ((h c _ (mem_uc main_v9_1 (by decide))).trans (W4_arr m ρ c 5)).trans (array5 m ρ c),
       ((h c _ (mem_uc main_v9_2 (by decide))).trans (W4_arr m ρ c 6)).trans (array6 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.AdamHybOutIdeal.Entry

namespace Cert.RefAdamHybOutIdeal.Value

open Idealize.ShloMosaic Idealize.ShloMosaic.TcCoe Idealize.SL.Sem Cert.Adam Read

variable (w g₀ g x y : FVec Ideal S2x256x1024 .f32)

/-- The gradient that the reference puts together, its layers' rows under one another. -/
theorem joined (h : S2x256x1024.ShapeCasts S512x1024) : shapeCast S512x1024 (val_main_v2 (F := Ideal) g₀ g) h =
    fun i => if 1 ≤ (i 0 : ℕ) / 256 then shapeCast S512x1024 g₀ h i else shapeCast S512x1024 g h i := by
  funext i
  unfold val_main_v2 val_main_v1 val_main_v0
  obtain ⟨r, d, rfl⟩ : ∃ (r : Fin 512) (d : Fin 1024), i = ix2 r d := ⟨i 0, i 1, funext fun a => by fin_cases a <;> rfl⟩
  pointwise
  by_cases hr : (r : ℕ) / 256 < 1
  · exact (dif_pos hr).trans (if_neg (by omega)).symm
  · refine (dif_neg hr).trans (Eq.trans (congrArg g₀ (funext fun a => ?_)) (if_pos (by omega)).symm)
    fin_cases a
    · exact Fin.ext (show 1 + ((r : ℕ) / 256 - 1) = (r : ℕ) / 256 by omega)
    · rfl
    · rfl

theorem new_mean : val_main_v7 (F := Ideal) g₀ g x = means (val_main_v2 (F := Ideal) g₀ g) x := by
  funext i
  rw [val_main_v7_apply, val_main_v4_apply, val_main_v6_apply, val_main_v3_apply, val_main_v5_apply]
  rfl
theorem new_square : val_main_v13 (F := Ideal) g₀ g y = squares (val_main_v2 (F := Ideal) g₀ g) y := by
  funext i
  rw [val_main_v13_apply, val_main_v9_apply, val_main_v12_apply, val_main_v8_apply, val_main_v11_apply, val_main_v10_apply]
  rfl
theorem change : val_main_v26 (F := Ideal) w g₀ g x y = deltas w (val_main_v2 (F := Ideal) g₀ g) x y := by
  funext i
  rw [val_main_v26_apply, val_main_v24_apply, val_main_v21_apply, val_main_v20_apply, val_main_v18_apply, val_main_v17_apply, val_main_v15_apply,
    val_main_v23_apply, val_main_v25_apply, val_main_v22_apply, val_main_v19_apply, val_main_v16_apply, val_main_v14_apply, new_mean, new_square]
  rfl

end Cert.RefAdamHybOutIdeal.Value

namespace Cert.AdamHybOutJoin

open Idealize.ShloMosaic Idealize.ShloMosaic.TcCoe Idealize.SL.Sem Cert.Adam

/-- Both run, with equal results and their arguments kept. -/
theorem algebraic : @Cert.algebraic_AdamHybOutIdeal_RefAdamHybOutIdeal Cert.AdamHybOutIdeal.Gen.facts Cert.RefAdamHybOutIdeal.Gen.facts := by
  intro m g m' g' _ hargs
  refine ⟨fun c => RefAdamHybOutIdeal.Read.val_main_v27 (F := Ideal) (AdamHybOutIdeal.Entry.X0 m c) (AdamHybOutIdeal.Entry.X1 m c) (AdamHybOutIdeal.Entry.X2 m c) (AdamHybOutIdeal.Entry.X3 m c) (AdamHybOutIdeal.Entry.X4 m c),
    fun c => RefAdamHybOutIdeal.Read.val_main_v28 (F := Ideal) (AdamHybOutIdeal.Entry.X1 m c) (AdamHybOutIdeal.Entry.X2 m c) (AdamHybOutIdeal.Entry.X3 m c),
    fun c => RefAdamHybOutIdeal.Read.val_main_v29 (F := Ideal) (AdamHybOutIdeal.Entry.X1 m c) (AdamHybOutIdeal.Entry.X2 m c) (AdamHybOutIdeal.Entry.X4 m c), ?_, ?_⟩
  · refine (θ_run AdamHybOutIdeal.defs _ _).mono (fun r h c => ⟨(h c).1.trans ?_, (h c).2.1.trans ?_, (h c).2.2.1.trans ?_, (h c).2.2.2⟩)
      (AdamHybOutIdeal.Entry.ends m g)
    · beta_reduce
      unfold RefAdamHybOutIdeal.Read.val_main_v27
      rw [RefAdamHybOutIdeal.Value.change]
      exact congrArg (fun G => deltas (AdamHybOutIdeal.Entry.Y0 m c) G (AdamHybOutIdeal.Entry.Y3 m c) (AdamHybOutIdeal.Entry.Y4 m c)) (RefAdamHybOutIdeal.Value.joined _ _ _).symm
    · beta_reduce
      unfold RefAdamHybOutIdeal.Read.val_main_v28
      rw [RefAdamHybOutIdeal.Value.new_mean]
      exact congrArg (fun G => means G (AdamHybOutIdeal.Entry.Y3 m c)) (RefAdamHybOutIdeal.Value.joined _ _ _).symm
    · beta_reduce
      unfold RefAdamHybOutIdeal.Read.val_main_v29
      rw [RefAdamHybOutIdeal.Value.new_square]
      exact congrArg (fun G => squares G (AdamHybOutIdeal.Entry.Y4 m c)) (RefAdamHybOutIdeal.Value.joined _ _ _).symm
  · have e0 : ∀ c : Dev RefAdamHybOutIdeal.nD, m' ((c.tc : Thread RefAdamHybOutIdeal.nD RefAdamHybOutIdeal.τ).loc RefAdamHybOutIdeal.main_arg0) = AdamHybOutIdeal.Entry.X0 m c := fun c => (hargs c).1
    have e1 : ∀ c : Dev RefAdamHybOutIdeal.nD, m' ((c.tc : Thread RefAdamHybOutIdeal.nD RefAdamHybOutIdeal.τ).loc RefAdamHybOutIdeal.main_arg1) = AdamHybOutIdeal.Entry.X1 m c := fun c => (hargs c).2.1
    have e2 : ∀ c : Dev RefAdamHybOutIdeal.nD, m' ((c.tc : Thread RefAdamHybOutIdeal.nD RefAdamHybOutIdeal.τ).loc RefAdamHybOutIdeal.main_arg2) = AdamHybOutIdeal.Entry.X2 m c := fun c => (hargs c).2.2.1
    have e3 : ∀ c : Dev RefAdamHybOutIdeal.nD, m' ((c.tc : Thread RefAdamHybOutIdeal.nD RefAdamHybOutIdeal.τ).loc RefAdamHybOutIdeal.main_arg3) = AdamHybOutIdeal.Entry.X3 m c := fun c => (hargs c).2.2.2.1
    have e4 : ∀ c : Dev RefAdamHybOutIdeal.nD, m' ((c.tc : Thread RefAdamHybOutIdeal.nD RefAdamHybOutIdeal.τ).loc RefAdamHybOutIdeal.main_arg4) = AdamHybOutIdeal.Entry.X4 m c := fun c => (hargs c).2.2.2.2
    refine (θ_run RefAdamHybOutIdeal.defs _ _).mono (fun r h c => ⟨(h c).1.trans ?_, (h c).2.1.trans ?_, (h c).2.2.1.trans ?_, (h c).2.2.2⟩)
      (RefAdamHybOutIdeal.Value.run (F := Ideal) m' g')
    · refine (RefAdamHybOutIdeal.Read.val_main_v27_eq (F := Ideal) (m' ((c.tc : Thread RefAdamHybOutIdeal.nD RefAdamHybOutIdeal.τ).loc RefAdamHybOutIdeal.main_arg0)) (m' ((c.tc : Thread RefAdamHybOutIdeal.nD RefAdamHybOutIdeal.τ).loc RefAdamHybOutIdeal.main_arg1)) (m' ((c.tc : Thread RefAdamHybOutIdeal.nD RefAdamHybOutIdeal.τ).loc RefAdamHybOutIdeal.main_arg2)) (m' ((c.tc : Thread RefAdamHybOutIdeal.nD RefAdamHybOutIdeal.τ).loc RefAdamHybOutIdeal.main_arg3)) (m' ((c.tc : Thread RefAdamHybOutIdeal.nD RefAdamHybOutIdeal.τ).loc RefAdamHybOutIdeal.main_arg4))).trans ?_
      rw [e0, e1, e2, e3, e4]
    · refine (RefAdamHybOutIdeal.Read.val_main_v28_eq (F := Ideal) (m' ((c.tc : Thread RefAdamHybOutIdeal.nD RefAdamHybOutIdeal.τ).loc RefAdamHybOutIdeal.main_arg1)) (m' ((c.tc : Thread RefAdamHybOutIdeal.nD RefAdamHybOutIdeal.τ).loc RefAdamHybOutIdeal.main_arg2)) (m' ((c.tc : Thread RefAdamHybOutIdeal.nD RefAdamHybOutIdeal.τ).loc RefAdamHybOutIdeal.main_arg3))).trans ?_
      rw [e1, e2, e3]
    · refine (RefAdamHybOutIdeal.Read.val_main_v29_eq (F := Ideal) (m' ((c.tc : Thread RefAdamHybOutIdeal.nD RefAdamHybOutIdeal.τ).loc RefAdamHybOutIdeal.main_arg1)) (m' ((c.tc : Thread RefAdamHybOutIdeal.nD RefAdamHybOutIdeal.τ).loc RefAdamHybOutIdeal.main_arg2)) (m' ((c.tc : Thread RefAdamHybOutIdeal.nD RefAdamHybOutIdeal.τ).loc RefAdamHybOutIdeal.main_arg4))).trans ?_
      rw [e1, e2, e4]

/-- The reference's frame: it runs, keeps its arguments and leaves every semaphore at zero. -/
theorem frameR (m : (ℓ : Loc RefAdamHybOutIdeal.nD RefAdamHybOutIdeal.τ RefAdamHybOutIdeal.sig) → Buf (Elt Ideal) ℓ) (ρ : Dev RefAdamHybOutIdeal.nD → PrngReg) :
    θ_run (RefAdamHybOutIdeal.defs (F := Ideal)) (onTc (τ := RefAdamHybOutIdeal.τ) (RefAdamHybOutIdeal.main (F := Ideal))) ⟨m, fun _ => 0, ρ⟩ (fun r => (∀ c : Dev RefAdamHybOutIdeal.nD,
      r.2.mem ((c.tc : Thread RefAdamHybOutIdeal.nD RefAdamHybOutIdeal.τ).loc RefAdamHybOutIdeal.main_arg0) = m ((c.tc : Thread RefAdamHybOutIdeal.nD RefAdamHybOutIdeal.τ).loc RefAdamHybOutIdeal.main_arg0)
      ∧ r.2.mem ((c.tc : Thread RefAdamHybOutIdeal.nD RefAdamHybOutIdeal.τ).loc RefAdamHybOutIdeal.main_arg1) = m ((c.tc : Thread RefAdamHybOutIdeal.nD RefAdamHybOutIdeal.τ).loc RefAdamHybOutIdeal.main_arg1)
      ∧ r.2.mem ((c.tc : Thread RefAdamHybOutIdeal.nD RefAdamHybOutIdeal.τ).loc RefAdamHybOutIdeal.main_arg2) = m ((c.tc : Thread RefAdamHybOutIdeal.nD RefAdamHybOutIdeal.τ).loc RefAdamHybOutIdeal.main_arg2)
      ∧ r.2.mem ((c.tc : Thread RefAdamHybOutIdeal.nD RefAdamHybOutIdeal.τ).loc RefAdamHybOutIdeal.main_arg3) = m ((c.tc : Thread RefAdamHybOutIdeal.nD RefAdamHybOutIdeal.τ).loc RefAdamHybOutIdeal.main_arg3)
      ∧ r.2.mem ((c.tc : Thread RefAdamHybOutIdeal.nD RefAdamHybOutIdeal.τ).loc RefAdamHybOutIdeal.main_arg4) = m ((c.tc : Thread RefAdamHybOutIdeal.nD RefAdamHybOutIdeal.τ).loc RefAdamHybOutIdeal.main_arg4))
      ∧ r.2.sem = fun _ => 0) :=
  (θ_run RefAdamHybOutIdeal.defs _ _).mono (fun r h => ⟨fun c => (h c).2.2.2, sem_eq_zero_of_no_sems (by decide) r.2⟩) (RefAdamHybOutIdeal.Value.run (F := Ideal) m ρ)

end Cert.AdamHybOutJoin

end
-- ==== Proof.lean ====
/- The claim: the frames of the kernel, of its idealization and of the reference, the idealization, and the equality of the results over the reals. -/
module

public import proofs.«01_k».proof.Proof.Join
public import proofs.«01_k».proof.Proof.DwoutJoin
public import proofs.«01_k».proof.Proof.DwinJoin
public import proofs.«01_k».proof.Proof.DactJoin
public import proofs.«01_k».proof.Proof.DxnJoin
public import proofs.«01_k».proof.Proof.UpJoin
public import proofs.«01_k».proof.Proof.DownJoin
public import proofs.«01_k».proof.Proof.HybInJoin
public import proofs.«01_k».proof.Proof.HybDwinJoin
public import proofs.«01_k».proof.Proof.HybDhnJoin
public import proofs.«01_k».proof.Proof.GdnInJoin
public import proofs.«01_k».proof.Proof.GdnDwinJoin
public import proofs.«01_k».proof.Proof.GdnDhnJoin
public import proofs.«01_k».proof.Proof.MixOutJoin
public import proofs.«01_k».proof.Proof.MixDyJoin
public import proofs.«01_k».proof.Proof.MixDwoutJoin
public import proofs.«01_k».proof.Proof.AdamInJoin
public import proofs.«01_k».proof.Proof.AdamOutJoin
public import proofs.«01_k».proof.Proof.AdamPackJoin
public import proofs.«01_k».proof.Proof.AdamFfnInJoin
public import proofs.«01_k».proof.Proof.AdamFfnOutJoin
public import proofs.«01_k».proof.Proof.AdamHybInJoin
public import proofs.«01_k».proof.Proof.AdamHybOutJoin
public import proofs.«01_k».proof.Proof.Gen.Kernel.Frame
public import proofs.«01_k».proof.Proof.Gen.Dwout.Frame
public import proofs.«01_k».proof.Proof.Gen.Dwin.Frame
public import proofs.«01_k».proof.Proof.Gen.Dact.Frame
public import proofs.«01_k».proof.Proof.Gen.Dxn.Frame
public import proofs.«01_k».proof.Proof.Gen.Up.Frame
public import proofs.«01_k».proof.Proof.Gen.Down.Frame
public import proofs.«01_k».proof.Proof.Gen.HybIn.Frame
public import proofs.«01_k».proof.Proof.Gen.HybDwin.Frame
public import proofs.«01_k».proof.Proof.Gen.HybDhn.Frame
public import proofs.«01_k».proof.Proof.Gen.GdnIn.Frame
public import proofs.«01_k».proof.Proof.Gen.GdnDwin.Frame
public import proofs.«01_k».proof.Proof.Gen.GdnDhn.Frame
public import proofs.«01_k».proof.Proof.Gen.MixOut.Frame
public import proofs.«01_k».proof.Proof.Gen.MixDy.Frame
public import proofs.«01_k».proof.Proof.Gen.MixDwout.Frame
public import proofs.«01_k».proof.Proof.Gen.AdamIn.Frame
public import proofs.«01_k».proof.Proof.Gen.AdamOut.Frame
public import proofs.«01_k».proof.Proof.Gen.AdamPack.Frame
public import proofs.«01_k».proof.Proof.Gen.AdamFfnIn.Frame
public import proofs.«01_k».proof.Proof.Gen.AdamFfnOut.Frame
public import proofs.«01_k».proof.Proof.Gen.AdamHybIn.Frame
public import proofs.«01_k».proof.Proof.Gen.AdamHybOut.Frame
public import Idealize.ShloMosaic.Adequacy
public import Idealize.ShloMosaic.Init

@[expose] public section

noncomputable section

namespace Cert.Proof

open Idealize.ShloMosaic Idealize.SL.Sem

/-- Everything the statement certifies. -/
theorem claim : Cert.Claim :=
  ⟨Cert.Kernel.Gen.facts, Cert.KernelIdeal.Gen.facts, Cert.ReferenceIdeal.Gen.facts,
    Cert.Dwout.Gen.facts, Cert.DwoutIdeal.Gen.facts, Cert.RefDwoutIdeal.Gen.facts,
    Cert.Dwin.Gen.facts, Cert.DwinIdeal.Gen.facts, Cert.RefDwinIdeal.Gen.facts,
    Cert.Dact.Gen.facts, Cert.DactIdeal.Gen.facts, Cert.RefDactIdeal.Gen.facts,
    Cert.Dxn.Gen.facts, Cert.DxnIdeal.Gen.facts, Cert.RefDxnIdeal.Gen.facts,
    Cert.Up.Gen.facts, Cert.UpIdeal.Gen.facts, Cert.RefUpIdeal.Gen.facts,
    Cert.Down.Gen.facts, Cert.DownIdeal.Gen.facts, Cert.RefDownIdeal.Gen.facts,
    Cert.HybIn.Gen.facts, Cert.HybInIdeal.Gen.facts, Cert.RefHybInIdeal.Gen.facts,
    Cert.HybDwin.Gen.facts, Cert.HybDwinIdeal.Gen.facts, Cert.RefHybDwinIdeal.Gen.facts,
    Cert.HybDhn.Gen.facts, Cert.HybDhnIdeal.Gen.facts, Cert.RefHybDhnIdeal.Gen.facts,
    Cert.GdnIn.Gen.facts, Cert.GdnInIdeal.Gen.facts, Cert.RefGdnInIdeal.Gen.facts,
    Cert.GdnDwin.Gen.facts, Cert.GdnDwinIdeal.Gen.facts, Cert.RefGdnDwinIdeal.Gen.facts,
    Cert.GdnDhn.Gen.facts, Cert.GdnDhnIdeal.Gen.facts, Cert.RefGdnDhnIdeal.Gen.facts,
    Cert.MixOut.Gen.facts, Cert.MixOutIdeal.Gen.facts, Cert.RefMixOutIdeal.Gen.facts,
    Cert.MixDy.Gen.facts, Cert.MixDyIdeal.Gen.facts, Cert.RefMixDyIdeal.Gen.facts,
    Cert.MixDwout.Gen.facts, Cert.MixDwoutIdeal.Gen.facts, Cert.RefMixDwoutIdeal.Gen.facts,
    Cert.AdamIn.Gen.facts, Cert.AdamInIdeal.Gen.facts, Cert.RefAdamInIdeal.Gen.facts,
    Cert.AdamOut.Gen.facts, Cert.AdamOutIdeal.Gen.facts, Cert.RefAdamOutIdeal.Gen.facts,
    Cert.AdamPack.Gen.facts, Cert.AdamPackIdeal.Gen.facts, Cert.RefAdamPackIdeal.Gen.facts,
    Cert.AdamFfnIn.Gen.facts, Cert.AdamFfnInIdeal.Gen.facts, Cert.RefAdamFfnInIdeal.Gen.facts,
    Cert.AdamFfnOut.Gen.facts, Cert.AdamFfnOutIdeal.Gen.facts, Cert.RefAdamFfnOutIdeal.Gen.facts,
    Cert.AdamHybIn.Gen.facts, Cert.AdamHybInIdeal.Gen.facts, Cert.RefAdamHybInIdeal.Gen.facts,
    Cert.AdamHybOut.Gen.facts, Cert.AdamHybOutIdeal.Gen.facts, Cert.RefAdamHybOutIdeal.Gen.facts,
    Cert.Pre_finite.facts, Cert.Pre_finite_dact.facts,
    fun m ρ _ => Cert.Kernel.Gen.frame m ρ,
    fun m ρ _ => Cert.KernelIdeal.Gen.frame m ρ,
    fun m ρ _ => Cert.KernelIdeal.Gen.frame m ρ,
    fun m ρ _ => Cert.Join.frameR m ρ,
    fun m ρ _ => Cert.Join.frameR m ρ,
    fun m ρ _ => Cert.Dwout.Gen.frame m ρ,
    fun m ρ _ => Cert.DwoutIdeal.Gen.frame m ρ,
    fun m ρ _ => Cert.DwoutJoin.frameR m ρ,
    fun m ρ _ => Cert.Dwin.Gen.frame m ρ,
    fun m ρ _ => Cert.DwinIdeal.Gen.frame m ρ,
    fun m ρ _ => Cert.DwinJoin.frameR m ρ,
    fun m ρ _ => Cert.Dact.Gen.frame m ρ,
    fun m ρ _ => Cert.DactIdeal.Gen.frame m ρ,
    fun m ρ _ => Cert.DactIdeal.Gen.frame m ρ,
    fun m ρ _ => Cert.DactJoin.frameR m ρ,
    fun m ρ _ => Cert.DactJoin.frameR m ρ,
    fun m ρ _ => Cert.Dxn.Gen.frame m ρ,
    fun m ρ _ => Cert.DxnIdeal.Gen.frame m ρ,
    fun m ρ _ => Cert.DxnJoin.frameR m ρ,
    fun m ρ _ => Cert.Up.Gen.frame m ρ,
    fun m ρ _ => Cert.UpIdeal.Gen.frame m ρ,
    fun m ρ _ => Cert.UpJoin.frameR m ρ,
    fun m ρ _ => Cert.Down.Gen.frame m ρ,
    fun m ρ _ => Cert.DownIdeal.Gen.frame m ρ,
    fun m ρ _ => Cert.DownJoin.frameR m ρ,
    fun m ρ _ => Cert.HybIn.Gen.frame m ρ,
    fun m ρ _ => Cert.HybInIdeal.Gen.frame m ρ,
    fun m ρ _ => Cert.HybInJoin.frameR m ρ,
    fun m ρ _ => Cert.HybDwin.Gen.frame m ρ,
    fun m ρ _ => Cert.HybDwinIdeal.Gen.frame m ρ,
    fun m ρ _ => Cert.HybDwinJoin.frameR m ρ,
    fun m ρ _ => Cert.HybDhn.Gen.frame m ρ,
    fun m ρ _ => Cert.HybDhnIdeal.Gen.frame m ρ,
    fun m ρ _ => Cert.HybDhnJoin.frameR m ρ,
    fun m ρ _ => Cert.GdnIn.Gen.frame m ρ,
    fun m ρ _ => Cert.GdnInIdeal.Gen.frame m ρ,
    fun m ρ _ => Cert.GdnInJoin.frameR m ρ,
    fun m ρ _ => Cert.GdnDwin.Gen.frame m ρ,
    fun m ρ _ => Cert.GdnDwinIdeal.Gen.frame m ρ,
    fun m ρ _ => Cert.GdnDwinJoin.frameR m ρ,
    fun m ρ _ => Cert.GdnDhn.Gen.frame m ρ,
    fun m ρ _ => Cert.GdnDhnIdeal.Gen.frame m ρ,
    fun m ρ _ => Cert.GdnDhnJoin.frameR m ρ,
    fun m ρ _ => Cert.MixOut.Gen.frame m ρ,
    fun m ρ _ => Cert.MixOutIdeal.Gen.frame m ρ,
    fun m ρ _ => Cert.MixOutJoin.frameR m ρ,
    fun m ρ _ => Cert.MixDy.Gen.frame m ρ,
    fun m ρ _ => Cert.MixDyIdeal.Gen.frame m ρ,
    fun m ρ _ => Cert.MixDyJoin.frameR m ρ,
    fun m ρ _ => Cert.MixDwout.Gen.frame m ρ,
    fun m ρ _ => Cert.MixDwoutIdeal.Gen.frame m ρ,
    fun m ρ _ => Cert.MixDwoutJoin.frameR m ρ,
    fun m ρ _ => Cert.AdamIn.Gen.frame m ρ,
    fun m ρ _ => Cert.AdamInIdeal.Gen.frame m ρ,
    fun m ρ _ => Cert.AdamInJoin.frameR m ρ,
    fun m ρ _ => Cert.AdamOut.Gen.frame m ρ,
    fun m ρ _ => Cert.AdamOutIdeal.Gen.frame m ρ,
    fun m ρ _ => Cert.AdamOutJoin.frameR m ρ,
    fun m ρ _ => Cert.AdamPack.Gen.frame m ρ,
    fun m ρ _ => Cert.AdamPackIdeal.Gen.frame m ρ,
    fun m ρ _ => Cert.AdamPackJoin.frameR m ρ,
    fun m ρ _ => Cert.AdamFfnIn.Gen.frame m ρ,
    fun m ρ _ => Cert.AdamFfnInIdeal.Gen.frame m ρ,
    fun m ρ _ => Cert.AdamFfnInJoin.frameR m ρ,
    fun m ρ _ => Cert.AdamFfnOut.Gen.frame m ρ,
    fun m ρ _ => Cert.AdamFfnOutIdeal.Gen.frame m ρ,
    fun m ρ _ => Cert.AdamFfnOutJoin.frameR m ρ,
    fun m ρ _ => Cert.AdamHybIn.Gen.frame m ρ,
    fun m ρ _ => Cert.AdamHybInIdeal.Gen.frame m ρ,
    fun m ρ _ => Cert.AdamHybInJoin.frameR m ρ,
    fun m ρ _ => Cert.AdamHybOut.Gen.frame m ρ,
    fun m ρ _ => Cert.AdamHybOutIdeal.Gen.frame m ρ,
    fun m ρ _ => Cert.AdamHybOutJoin.frameR m ρ,
    IdealRules.named_const.statement Cert.KernelIdeal.κ "mask" .f32 0xF149F2CA#32 ⊥ rfl,
    Cert.Join.algebraic,
    trivial, Cert.DwoutJoin.algebraic,
    trivial, Cert.DwinJoin.algebraic,
    trivial, Cert.DactJoin.algebraic,
    trivial, Cert.DxnJoin.algebraic,
    trivial, Cert.UpJoin.algebraic,
    trivial, Cert.DownJoin.algebraic,
    trivial, Cert.HybInJoin.algebraic,
    trivial, Cert.HybDwinJoin.algebraic,
    trivial, Cert.HybDhnJoin.algebraic,
    trivial, Cert.GdnInJoin.algebraic,
    trivial, Cert.GdnDwinJoin.algebraic,
    trivial, Cert.GdnDhnJoin.algebraic,
    trivial, Cert.MixOutJoin.algebraic,
    trivial, Cert.MixDyJoin.algebraic,
    trivial, Cert.MixDwoutJoin.algebraic,
    trivial, Cert.AdamInJoin.algebraic,
    trivial, Cert.AdamOutJoin.algebraic,
    trivial, Cert.AdamPackJoin.algebraic,
    trivial, Cert.AdamFfnInJoin.algebraic,
    trivial, Cert.AdamFfnOutJoin.algebraic,
    trivial, Cert.AdamHybInJoin.algebraic,
    trivial, Cert.AdamHybOutJoin.algebraic⟩

end Cert.Proof

end
